-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_LnSwap (m : (ℓ : Loc Cert.LnSwap.nD Cert.LnSwap.τ Cert.LnSwap.sig) → Buf (Elt Bits) ℓ) : Prop :=
  True

def Pre_LnSwapIdeal (m : (ℓ : Loc Cert.LnSwapIdeal.nD Cert.LnSwapIdeal.τ Cert.LnSwapIdeal.sig) → Buf (Elt Ideal) ℓ) : Prop :=
  True

def Pre_LnReferenceIdeal (m : (ℓ : Loc Cert.LnReferenceIdeal.nD Cert.LnReferenceIdeal.τ Cert.LnReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapReferenceIdeal (m : (ℓ : Loc Cert.SwapReferenceIdeal.nD Cert.SwapReferenceIdeal.τ Cert.SwapReferenceIdeal.sig) → Buf (Elt Ideal) ℓ) : Prop :=
  True

def Pre_SwapReference (m : (ℓ : Loc Cert.SwapReference.nD Cert.SwapReference.τ Cert.SwapReference.sig) → Buf (Elt Bits) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInReferenceIdeal (m : (ℓ : Loc Cert.StepInReferenceIdeal.nD Cert.StepInReferenceIdeal.τ Cert.StepInReferenceIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallReferenceIdeal (m : (ℓ : Loc Cert.StepSmallReferenceIdeal.nD Cert.StepSmallReferenceIdeal.τ Cert.StepSmallReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsReferenceIdeal (m : (ℓ : Loc Cert.SumsReferenceIdeal.nD Cert.SumsReferenceIdeal.τ Cert.SumsReferenceIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_WGate (m : (ℓ : Loc Cert.WGate.nD Cert.WGate.τ Cert.WGate.sig) → Buf (Elt Bits) ℓ) : Prop :=
  True

def Pre_WGateIdeal (m : (ℓ : Loc Cert.WGateIdeal.nD Cert.WGateIdeal.τ Cert.WGateIdeal.sig) → Buf (Elt Ideal) ℓ) : Prop :=
  True

def Pre_WGateReferenceIdeal (m : (ℓ : Loc Cert.WGateReferenceIdeal.nD Cert.WGateReferenceIdeal.τ Cert.WGateReferenceIdeal.sig) → Buf (Elt Ideal) ℓ) : Prop :=
  True

def Pre_WMain (m : (ℓ : Loc Cert.WMain.nD Cert.WMain.τ Cert.WMain.sig) → Buf (Elt Bits) ℓ) : Prop :=
  True

def Pre_WMainIdeal (m : (ℓ : Loc Cert.WMainIdeal.nD Cert.WMainIdeal.τ Cert.WMainIdeal.sig) → Buf (Elt Ideal) ℓ) : Prop :=
  True

def Pre_WMainReferenceIdeal (m : (ℓ : Loc Cert.WMainReferenceIdeal.nD Cert.WMainReferenceIdeal.τ Cert.WMainReferenceIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnReferenceIdeal (m : (ℓ : Loc Cert.OutLnReferenceIdeal.nD Cert.OutLnReferenceIdeal.τ Cert.OutLnReferenceIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateReferenceIdeal (m : (ℓ : Loc Cert.ProjGateReferenceIdeal.nD Cert.ProjGateReferenceIdeal.τ Cert.ProjGateReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_ProjLast (m : (ℓ : Loc Cert.ProjLast.nD Cert.ProjLast.τ Cert.ProjLast.sig) → Buf (Elt Bits) ℓ) : Prop :=
  True

def Pre_ProjLastIdeal (m : (ℓ : Loc Cert.ProjLastIdeal.nD Cert.ProjLastIdeal.τ Cert.ProjLastIdeal.sig) → Buf (Elt Ideal) ℓ) : Prop :=
  True

def Pre_ProjLastReferenceIdeal (m : (ℓ : Loc Cert.ProjLastReferenceIdeal.nD Cert.ProjLastReferenceIdeal.τ Cert.ProjLastReferenceIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_LnSwap [hLnSwap : Cert.LnSwap.Facts] : Prop :=
  ∀ (m : (ℓ : Loc Cert.LnSwap.nD Cert.LnSwap.τ Cert.LnSwap.sig) → Buf (Elt Bits) ℓ) (g : Dev Cert.LnSwap.nD → PrngReg), Pre_LnSwap m →
    θ_run (Cert.LnSwap.defs (F := Bits)) (onTc (τ := Cert.LnSwap.τ) (Cert.LnSwap.main (F := Bits))) ⟨m, fun _ => 0, g⟩ (fun r => (∀ c : Dev Cert.LnSwap.nD,
      r.2.mem ((c.tc : Thread Cert.LnSwap.nD Cert.LnSwap.τ).loc Cert.LnSwap.main_arg0) = m ((c.tc : Thread Cert.LnSwap.nD Cert.LnSwap.τ).loc Cert.LnSwap.main_arg0)
      ∧ r.2.mem ((c.tc : Thread Cert.LnSwap.nD Cert.LnSwap.τ).loc Cert.LnSwap.main_arg1) = m ((c.tc : Thread Cert.LnSwap.nD Cert.LnSwap.τ).loc Cert.LnSwap.main_arg1)
      ∧ r.2.mem ((c.tc : Thread Cert.LnSwap.nD Cert.LnSwap.τ).loc Cert.LnSwap.main_arg2) = m ((c.tc : Thread Cert.LnSwap.nD Cert.LnSwap.τ).loc Cert.LnSwap.main_arg2)
      ∧ r.2.mem ((c.tc : Thread Cert.LnSwap.nD Cert.LnSwap.τ).loc Cert.LnSwap.main_arg3) = m ((c.tc : Thread Cert.LnSwap.nD Cert.LnSwap.τ).loc Cert.LnSwap.main_arg3))
      ∧ r.2.sem = fun _ => 0)

def quiescent_LnSwapIdeal [hLnSwapIdeal : Cert.LnSwapIdeal.Facts] : Prop :=
  ∀ (m : (ℓ : Loc Cert.LnSwapIdeal.nD Cert.LnSwapIdeal.τ Cert.LnSwapIdeal.sig) → Buf (Elt Ideal) ℓ) (g : Dev Cert.LnSwapIdeal.nD → PrngReg), Pre_LnSwapIdeal m →
    θ_run (Cert.LnSwapIdeal.defs (F := Ideal)) (onTc (τ := Cert.LnSwapIdeal.τ) (Cert.LnSwapIdeal.main (F := Ideal))) ⟨m, fun _ => 0, g⟩ (fun r => (∀ c : Dev Cert.LnSwapIdeal.nD,
      r.2.mem ((c.tc : Thread Cert.LnSwapIdeal.nD Cert.LnSwapIdeal.τ).loc Cert.LnSwapIdeal.main_arg0) = m ((c.tc : Thread Cert.LnSwapIdeal.nD Cert.LnSwapIdeal.τ).loc Cert.LnSwapIdeal.main_arg0)
      ∧ r.2.mem ((c.tc : Thread Cert.LnSwapIdeal.nD Cert.LnSwapIdeal.τ).loc Cert.LnSwapIdeal.main_arg1) = m ((c.tc : Thread Cert.LnSwapIdeal.nD Cert.LnSwapIdeal.τ).loc Cert.LnSwapIdeal.main_arg1)
      ∧ r.2.mem ((c.tc : Thread Cert.LnSwapIdeal.nD Cert.LnSwapIdeal.τ).loc Cert.LnSwapIdeal.main_arg2) = m ((c.tc : Thread Cert.LnSwapIdeal.nD Cert.LnSwapIdeal.τ).loc Cert.LnSwapIdeal.main_arg2)
      ∧ r.2.mem ((c.tc : Thread Cert.LnSwapIdeal.nD Cert.LnSwapIdeal.τ).loc Cert.LnSwapIdeal.main_arg3) = m ((c.tc : Thread Cert.LnSwapIdeal.nD Cert.LnSwapIdeal.τ).loc Cert.LnSwapIdeal.main_arg3))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapReferenceIdeal [hSwapReferenceIdeal : Cert.SwapReferenceIdeal.Facts] : Prop :=
  ∀ (m : (ℓ : Loc Cert.SwapReferenceIdeal.nD Cert.SwapReferenceIdeal.τ Cert.SwapReferenceIdeal.sig) → Buf (Elt Ideal) ℓ) (g : Dev Cert.SwapReferenceIdeal.nD → PrngReg), Pre_SwapReferenceIdeal m →
    θ_run (Cert.SwapReferenceIdeal.defs (F := Ideal)) (onTc (τ := Cert.SwapReferenceIdeal.τ) (Cert.SwapReferenceIdeal.main (F := Ideal))) ⟨m, fun _ => 0, g⟩ (fun r => (∀ c : Dev Cert.SwapReferenceIdeal.nD,
      r.2.mem ((c.tc : Thread Cert.SwapReferenceIdeal.nD Cert.SwapReferenceIdeal.τ).loc Cert.SwapReferenceIdeal.main_arg0) = m ((c.tc : Thread Cert.SwapReferenceIdeal.nD Cert.SwapReferenceIdeal.τ).loc Cert.SwapReferenceIdeal.main_arg0))
      ∧ r.2.sem = fun _ => 0)

def quiescent_SwapReference [hSwapReference : Cert.SwapReference.Facts] : Prop :=
  ∀ (m : (ℓ : Loc Cert.SwapReference.nD Cert.SwapReference.τ Cert.SwapReference.sig) → Buf (Elt Bits) ℓ) (g : Dev Cert.SwapReference.nD → PrngReg), Pre_SwapReference m →
    θ_run (Cert.SwapReference.defs (F := Bits)) (onTc (τ := Cert.SwapReference.τ) (Cert.SwapReference.main (F := Bits))) ⟨m, fun _ => 0, g⟩ (fun r => (∀ c : Dev Cert.SwapReference.nD,
      r.2.mem ((c.tc : Thread Cert.SwapReference.nD Cert.SwapReference.τ).loc Cert.SwapReference.main_arg0) = m ((c.tc : Thread Cert.SwapReference.nD Cert.SwapReference.τ).loc Cert.SwapReference.main_arg0))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInReferenceIdeal [hStepInReferenceIdeal : Cert.StepInReferenceIdeal.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallReferenceIdeal [hStepSmallReferenceIdeal : Cert.StepSmallReferenceIdeal.Facts] : Prop :=
  ∀ (m : (ℓ : Loc Cert.StepSmallReferenceIdeal.nD Cert.StepSmallReferenceIdeal.τ Cert.StepSmallReferenceIdeal.sig) → Buf (Elt Ideal) ℓ) (g : Dev Cert.StepSmallReferenceIdeal.nD → PrngReg), Pre_StepSmallReferenceIdeal m →
    θ_run (Cert.StepSmallReferenceIdeal.defs (F := Ideal)) (onTc (τ := Cert.StepSmallReferenceIdeal.τ) (Cert.StepSmallReferenceIdeal.main (F := Ideal))) ⟨m, fun _ => 0, g⟩ (fun r => (∀ c : Dev Cert.StepSmallReferenceIdeal.nD,
      r.2.mem ((c.tc : Thread Cert.StepSmallReferenceIdeal.nD Cert.StepSmallReferenceIdeal.τ).loc Cert.StepSmallReferenceIdeal.main_arg0) = m ((c.tc : Thread Cert.StepSmallReferenceIdeal.nD Cert.StepSmallReferenceIdeal.τ).loc Cert.StepSmallReferenceIdeal.main_arg0)
      ∧ r.2.mem ((c.tc : Thread Cert.StepSmallReferenceIdeal.nD Cert.StepSmallReferenceIdeal.τ).loc Cert.StepSmallReferenceIdeal.main_arg1) = m ((c.tc : Thread Cert.StepSmallReferenceIdeal.nD Cert.StepSmallReferenceIdeal.τ).loc Cert.StepSmallReferenceIdeal.main_arg1)
      ∧ r.2.mem ((c.tc : Thread Cert.StepSmallReferenceIdeal.nD Cert.StepSmallReferenceIdeal.τ).loc Cert.StepSmallReferenceIdeal.main_arg2) = m ((c.tc : Thread Cert.StepSmallReferenceIdeal.nD Cert.StepSmallReferenceIdeal.τ).loc Cert.StepSmallReferenceIdeal.main_arg2)
      ∧ r.2.mem ((c.tc : Thread Cert.StepSmallReferenceIdeal.nD Cert.StepSmallReferenceIdeal.τ).loc Cert.StepSmallReferenceIdeal.main_arg3) = m ((c.tc : Thread Cert.StepSmallReferenceIdeal.nD Cert.StepSmallReferenceIdeal.τ).loc Cert.StepSmallReferenceIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsReferenceIdeal [hSumsReferenceIdeal : Cert.SumsReferenceIdeal.Facts] : Prop :=
  ∀ (m : (ℓ : Loc Cert.SumsReferenceIdeal.nD Cert.SumsReferenceIdeal.τ Cert.SumsReferenceIdeal.sig) → Buf (Elt Ideal) ℓ) (g : Dev Cert.SumsReferenceIdeal.nD → PrngReg), Pre_SumsReferenceIdeal m →
    θ_run (Cert.SumsReferenceIdeal.defs (F := Ideal)) (onTc (τ := Cert.SumsReferenceIdeal.τ) (Cert.SumsReferenceIdeal.main (F := Ideal))) ⟨m, fun _ => 0, g⟩ (fun r => (∀ c : Dev Cert.SumsReferenceIdeal.nD,
      r.2.mem ((c.tc : Thread Cert.SumsReferenceIdeal.nD Cert.SumsReferenceIdeal.τ).loc Cert.SumsReferenceIdeal.main_arg0) = m ((c.tc : Thread Cert.SumsReferenceIdeal.nD Cert.SumsReferenceIdeal.τ).loc Cert.SumsReferenceIdeal.main_arg0))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1))
      ∧ r.2.sem = fun _ => 0)

def quiescent_WGate [hWGate : Cert.WGate.Facts] : Prop :=
  ∀ (m : (ℓ : Loc Cert.WGate.nD Cert.WGate.τ Cert.WGate.sig) → Buf (Elt Bits) ℓ) (g : Dev Cert.WGate.nD → PrngReg), Pre_WGate m →
    θ_run (Cert.WGate.defs (F := Bits)) (onTc (τ := Cert.WGate.τ) (Cert.WGate.main (F := Bits))) ⟨m, fun _ => 0, g⟩ (fun r => (∀ c : Dev Cert.WGate.nD,
      r.2.mem ((c.tc : Thread Cert.WGate.nD Cert.WGate.τ).loc Cert.WGate.main_arg0) = m ((c.tc : Thread Cert.WGate.nD Cert.WGate.τ).loc Cert.WGate.main_arg0)
      ∧ r.2.mem ((c.tc : Thread Cert.WGate.nD Cert.WGate.τ).loc Cert.WGate.main_arg1) = m ((c.tc : Thread Cert.WGate.nD Cert.WGate.τ).loc Cert.WGate.main_arg1))
      ∧ r.2.sem = fun _ => 0)

def quiescent_WGateIdeal [hWGateIdeal : Cert.WGateIdeal.Facts] : Prop :=
  ∀ (m : (ℓ : Loc Cert.WGateIdeal.nD Cert.WGateIdeal.τ Cert.WGateIdeal.sig) → Buf (Elt Ideal) ℓ) (g : Dev Cert.WGateIdeal.nD → PrngReg), Pre_WGateIdeal m →
    θ_run (Cert.WGateIdeal.defs (F := Ideal)) (onTc (τ := Cert.WGateIdeal.τ) (Cert.WGateIdeal.main (F := Ideal))) ⟨m, fun _ => 0, g⟩ (fun r => (∀ c : Dev Cert.WGateIdeal.nD,
      r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
      ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ r.2.sem = fun _ => 0)

def quiescent_WGateReferenceIdeal [hWGateReferenceIdeal : Cert.WGateReferenceIdeal.Facts] : Prop :=
  ∀ (m : (ℓ : Loc Cert.WGateReferenceIdeal.nD Cert.WGateReferenceIdeal.τ Cert.WGateReferenceIdeal.sig) → Buf (Elt Ideal) ℓ) (g : Dev Cert.WGateReferenceIdeal.nD → PrngReg), Pre_WGateReferenceIdeal m →
    θ_run (Cert.WGateReferenceIdeal.defs (F := Ideal)) (onTc (τ := Cert.WGateReferenceIdeal.τ) (Cert.WGateReferenceIdeal.main (F := Ideal))) ⟨m, fun _ => 0, g⟩ (fun r => (∀ c : Dev Cert.WGateReferenceIdeal.nD,
      r.2.mem ((c.tc : Thread Cert.WGateReferenceIdeal.nD Cert.WGateReferenceIdeal.τ).loc Cert.WGateReferenceIdeal.main_arg0) = m ((c.tc : Thread Cert.WGateReferenceIdeal.nD Cert.WGateReferenceIdeal.τ).loc Cert.WGateReferenceIdeal.main_arg0)
      ∧ r.2.mem ((c.tc : Thread Cert.WGateReferenceIdeal.nD Cert.WGateReferenceIdeal.τ).loc Cert.WGateReferenceIdeal.main_arg1) = m ((c.tc : Thread Cert.WGateReferenceIdeal.nD Cert.WGateReferenceIdeal.τ).loc Cert.WGateReferenceIdeal.main_arg1))
      ∧ r.2.sem = fun _ => 0)

def quiescent_WMain [hWMain : Cert.WMain.Facts] : Prop :=
  ∀ (m : (ℓ : Loc Cert.WMain.nD Cert.WMain.τ Cert.WMain.sig) → Buf (Elt Bits) ℓ) (g : Dev Cert.WMain.nD → PrngReg), Pre_WMain m →
    θ_run (Cert.WMain.defs (F := Bits)) (onTc (τ := Cert.WMain.τ) (Cert.WMain.main (F := Bits))) ⟨m, fun _ => 0, g⟩ (fun r => (∀ c : Dev Cert.WMain.nD,
      r.2.mem ((c.tc : Thread Cert.WMain.nD Cert.WMain.τ).loc Cert.WMain.main_arg0) = m ((c.tc : Thread Cert.WMain.nD Cert.WMain.τ).loc Cert.WMain.main_arg0)
      ∧ r.2.mem ((c.tc : Thread Cert.WMain.nD Cert.WMain.τ).loc Cert.WMain.main_arg1) = m ((c.tc : Thread Cert.WMain.nD Cert.WMain.τ).loc Cert.WMain.main_arg1))
      ∧ r.2.sem = fun _ => 0)

def quiescent_WMainIdeal [hWMainIdeal : Cert.WMainIdeal.Facts] : Prop :=
  ∀ (m : (ℓ : Loc Cert.WMainIdeal.nD Cert.WMainIdeal.τ Cert.WMainIdeal.sig) → Buf (Elt Ideal) ℓ) (g : Dev Cert.WMainIdeal.nD → PrngReg), Pre_WMainIdeal m →
    θ_run (Cert.WMainIdeal.defs (F := Ideal)) (onTc (τ := Cert.WMainIdeal.τ) (Cert.WMainIdeal.main (F := Ideal))) ⟨m, fun _ => 0, g⟩ (fun r => (∀ c : Dev Cert.WMainIdeal.nD,
      r.2.mem ((c.tc : Thread Cert.WMainIdeal.nD Cert.WMainIdeal.τ).loc Cert.WMainIdeal.main_arg0) = m ((c.tc : Thread Cert.WMainIdeal.nD Cert.WMainIdeal.τ).loc Cert.WMainIdeal.main_arg0)
      ∧ r.2.mem ((c.tc : Thread Cert.WMainIdeal.nD Cert.WMainIdeal.τ).loc Cert.WMainIdeal.main_arg1) = m ((c.tc : Thread Cert.WMainIdeal.nD Cert.WMainIdeal.τ).loc Cert.WMainIdeal.main_arg1))
      ∧ r.2.sem = fun _ => 0)

def quiescent_WMainReferenceIdeal [hWMainReferenceIdeal : Cert.WMainReferenceIdeal.Facts] : Prop :=
  ∀ (m : (ℓ : Loc Cert.WMainReferenceIdeal.nD Cert.WMainReferenceIdeal.τ Cert.WMainReferenceIdeal.sig) → Buf (Elt Ideal) ℓ) (g : Dev Cert.WMainReferenceIdeal.nD → PrngReg), Pre_WMainReferenceIdeal m →
    θ_run (Cert.WMainReferenceIdeal.defs (F := Ideal)) (onTc (τ := Cert.WMainReferenceIdeal.τ) (Cert.WMainReferenceIdeal.main (F := Ideal))) ⟨m, fun _ => 0, g⟩ (fun r => (∀ c : Dev Cert.WMainReferenceIdeal.nD,
      r.2.mem ((c.tc : Thread Cert.WMainReferenceIdeal.nD Cert.WMainReferenceIdeal.τ).loc Cert.WMainReferenceIdeal.main_arg0) = m ((c.tc : Thread Cert.WMainReferenceIdeal.nD Cert.WMainReferenceIdeal.τ).loc Cert.WMainReferenceIdeal.main_arg0)
      ∧ r.2.mem ((c.tc : Thread Cert.WMainReferenceIdeal.nD Cert.WMainReferenceIdeal.τ).loc Cert.WMainReferenceIdeal.main_arg1) = m ((c.tc : Thread Cert.WMainReferenceIdeal.nD Cert.WMainReferenceIdeal.τ).loc Cert.WMainReferenceIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnReferenceIdeal [hOutLnReferenceIdeal : Cert.OutLnReferenceIdeal.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateReferenceIdeal [hProjGateReferenceIdeal : Cert.ProjGateReferenceIdeal.Facts] : Prop :=
  ∀ (m : (ℓ : Loc Cert.ProjGateReferenceIdeal.nD Cert.ProjGateReferenceIdeal.τ Cert.ProjGateReferenceIdeal.sig) → Buf (Elt Ideal) ℓ) (g : Dev Cert.ProjGateReferenceIdeal.nD → PrngReg), Pre_ProjGateReferenceIdeal m →
    θ_run (Cert.ProjGateReferenceIdeal.defs (F := Ideal)) (onTc (τ := Cert.ProjGateReferenceIdeal.τ) (Cert.ProjGateReferenceIdeal.main (F := Ideal))) ⟨m, fun _ => 0, g⟩ (fun r => (∀ c : Dev Cert.ProjGateReferenceIdeal.nD,
      r.2.mem ((c.tc : Thread Cert.ProjGateReferenceIdeal.nD Cert.ProjGateReferenceIdeal.τ).loc Cert.ProjGateReferenceIdeal.main_arg0) = m ((c.tc : Thread Cert.ProjGateReferenceIdeal.nD Cert.ProjGateReferenceIdeal.τ).loc Cert.ProjGateReferenceIdeal.main_arg0)
      ∧ r.2.mem ((c.tc : Thread Cert.ProjGateReferenceIdeal.nD Cert.ProjGateReferenceIdeal.τ).loc Cert.ProjGateReferenceIdeal.main_arg1) = m ((c.tc : Thread Cert.ProjGateReferenceIdeal.nD Cert.ProjGateReferenceIdeal.τ).loc Cert.ProjGateReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_ProjLast [hProjLast : Cert.ProjLast.Facts] : Prop :=
  ∀ (m : (ℓ : Loc Cert.ProjLast.nD Cert.ProjLast.τ Cert.ProjLast.sig) → Buf (Elt Bits) ℓ) (g : Dev Cert.ProjLast.nD → PrngReg), Pre_ProjLast m →
    θ_run (Cert.ProjLast.defs (F := Bits)) (onTc (τ := Cert.ProjLast.τ) (Cert.ProjLast.main (F := Bits))) ⟨m, fun _ => 0, g⟩ (fun r => (∀ c : Dev Cert.ProjLast.nD,
      r.2.mem ((c.tc : Thread Cert.ProjLast.nD Cert.ProjLast.τ).loc Cert.ProjLast.main_arg0) = m ((c.tc : Thread Cert.ProjLast.nD Cert.ProjLast.τ).loc Cert.ProjLast.main_arg0)
      ∧ r.2.mem ((c.tc : Thread Cert.ProjLast.nD Cert.ProjLast.τ).loc Cert.ProjLast.main_arg1) = m ((c.tc : Thread Cert.ProjLast.nD Cert.ProjLast.τ).loc Cert.ProjLast.main_arg1))
      ∧ r.2.sem = fun _ => 0)

def quiescent_ProjLastIdeal [hProjLastIdeal : Cert.ProjLastIdeal.Facts] : Prop :=
  ∀ (m : (ℓ : Loc Cert.ProjLastIdeal.nD Cert.ProjLastIdeal.τ Cert.ProjLastIdeal.sig) → Buf (Elt Ideal) ℓ) (g : Dev Cert.ProjLastIdeal.nD → PrngReg), Pre_ProjLastIdeal m →
    θ_run (Cert.ProjLastIdeal.defs (F := Ideal)) (onTc (τ := Cert.ProjLastIdeal.τ) (Cert.ProjLastIdeal.main (F := Ideal))) ⟨m, fun _ => 0, g⟩ (fun r => (∀ c : Dev Cert.ProjLastIdeal.nD,
      r.2.mem ((c.tc : Thread Cert.ProjLastIdeal.nD Cert.ProjLastIdeal.τ).loc Cert.ProjLastIdeal.main_arg0) = m ((c.tc : Thread Cert.ProjLastIdeal.nD Cert.ProjLastIdeal.τ).loc Cert.ProjLastIdeal.main_arg0)
      ∧ r.2.mem ((c.tc : Thread Cert.ProjLastIdeal.nD Cert.ProjLastIdeal.τ).loc Cert.ProjLastIdeal.main_arg1) = m ((c.tc : Thread Cert.ProjLastIdeal.nD Cert.ProjLastIdeal.τ).loc Cert.ProjLastIdeal.main_arg1))
      ∧ r.2.sem = fun _ => 0)

def quiescent_ProjLastReferenceIdeal [hProjLastReferenceIdeal : Cert.ProjLastReferenceIdeal.Facts] : Prop :=
  ∀ (m : (ℓ : Loc Cert.ProjLastReferenceIdeal.nD Cert.ProjLastReferenceIdeal.τ Cert.ProjLastReferenceIdeal.sig) → Buf (Elt Ideal) ℓ) (g : Dev Cert.ProjLastReferenceIdeal.nD → PrngReg), Pre_ProjLastReferenceIdeal m →
    θ_run (Cert.ProjLastReferenceIdeal.defs (F := Ideal)) (onTc (τ := Cert.ProjLastReferenceIdeal.τ) (Cert.ProjLastReferenceIdeal.main (F := Ideal))) ⟨m, fun _ => 0, g⟩ (fun r => (∀ c : Dev Cert.ProjLastReferenceIdeal.nD,
      r.2.mem ((c.tc : Thread Cert.ProjLastReferenceIdeal.nD Cert.ProjLastReferenceIdeal.τ).loc Cert.ProjLastReferenceIdeal.main_arg0) = m ((c.tc : Thread Cert.ProjLastReferenceIdeal.nD Cert.ProjLastReferenceIdeal.τ).loc Cert.ProjLastReferenceIdeal.main_arg0)
      ∧ r.2.mem ((c.tc : Thread Cert.ProjLastReferenceIdeal.nD Cert.ProjLastReferenceIdeal.τ).loc Cert.ProjLastReferenceIdeal.main_arg1) = m ((c.tc : Thread Cert.ProjLastReferenceIdeal.nD Cert.ProjLastReferenceIdeal.τ).loc Cert.ProjLastReferenceIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1)
      ∧ r.2.mem ((c.tc : Thread Cert.InGradReferenceIdeal.nD Cert.InGradReferenceIdeal.τ).loc Cert.InGradReferenceIdeal.main_arg2) = m ((c.tc : Thread Cert.InGradReferenceIdeal.nD Cert.InGradReferenceIdeal.τ).loc Cert.InGradReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 7296]⟩ ⟨2, ![32768, 7296]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨4, ![4, 1, 1168, 2048]⟩ ⟨4, ![16, 2, 1168, 2048]⟩ (Layout.meshBlock [2, 2, 2] ![[0, 1], [2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v3)) (v1 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 2048]⟩ ⟨2, ![32768, 2048]⟩ 0 8 c v0
          ∧ r.2.mem ((c.tc : Thread Cert.KernelIdeal.nD Cert.KernelIdeal.τ).loc Cert.KernelIdeal.main_v1_1) = Layout.blockN ⟨4, ![3, 1, 1168, 2048]⟩ ⟨4, ![12, 2, 1168, 2048]⟩ (Layout.meshBlock [2, 2, 2] ![[0, 1], [2], [], []] c) v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_v16) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_LnSwap_LnSwapIdeal : Prop :=
  True

def algebraic_LnSwapIdeal_LnReferenceIdeal [hLnSwapIdeal : Cert.LnSwapIdeal.Facts] [hLnReferenceIdeal : Cert.LnReferenceIdeal.Facts] : Prop :=
  ∀ (m : (ℓ : Loc Cert.LnSwapIdeal.nD Cert.LnSwapIdeal.τ Cert.LnSwapIdeal.sig) → Buf (Elt Ideal) ℓ) (g : Dev Cert.LnSwapIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnSwapIdeal m →
    (∀ c : Dev Cert.LnSwapIdeal.nD,
      m ((c.tc : Thread Cert.LnSwapIdeal.nD Cert.LnSwapIdeal.τ).loc Cert.LnSwapIdeal.main_arg0) = Layout.block ⟨2, ![4096, 2048]⟩ ⟨2, ![32768, 2048]⟩ 0 8 c (m' (((0 : Dev Cert.LnReferenceIdeal.nD).tc : Thread Cert.LnReferenceIdeal.nD Cert.LnReferenceIdeal.τ).loc Cert.LnReferenceIdeal.main_arg0))
      ∧ m ((c.tc : Thread Cert.LnSwapIdeal.nD Cert.LnSwapIdeal.τ).loc Cert.LnSwapIdeal.main_arg1) = Layout.block ⟨2, ![4096, 2048]⟩ ⟨2, ![32768, 2048]⟩ 0 8 c (m' (((0 : Dev Cert.LnReferenceIdeal.nD).tc : Thread Cert.LnReferenceIdeal.nD Cert.LnReferenceIdeal.τ).loc Cert.LnReferenceIdeal.main_arg1))
      ∧ m ((c.tc : Thread Cert.LnSwapIdeal.nD Cert.LnSwapIdeal.τ).loc Cert.LnSwapIdeal.main_arg2) = m' (((0 : Dev Cert.LnReferenceIdeal.nD).tc : Thread Cert.LnReferenceIdeal.nD Cert.LnReferenceIdeal.τ).loc Cert.LnReferenceIdeal.main_arg2)
      ∧ m ((c.tc : Thread Cert.LnSwapIdeal.nD Cert.LnSwapIdeal.τ).loc Cert.LnSwapIdeal.main_arg3) = Layout.block ⟨4, ![4, 2, 1168, 2048]⟩ ⟨4, ![32, 2, 1168, 2048]⟩ 0 8 c (m' (((0 : Dev Cert.LnReferenceIdeal.nD).tc : Thread Cert.LnReferenceIdeal.nD Cert.LnReferenceIdeal.τ).loc Cert.LnReferenceIdeal.main_arg3))) →
    ∃ (v0 : Buf (Elt Ideal) (((0 : Dev Cert.LnReferenceIdeal.nD).tc : Thread Cert.LnReferenceIdeal.nD Cert.LnReferenceIdeal.τ).loc Cert.LnReferenceIdeal.main_v33)) (v1 : Buf (Elt Ideal) (((0 : Dev Cert.LnReferenceIdeal.nD).tc : Thread Cert.LnReferenceIdeal.nD Cert.LnReferenceIdeal.τ).loc Cert.LnReferenceIdeal.main_v44)) (v2 : Buf (Elt Ideal) (((0 : Dev Cert.LnReferenceIdeal.nD).tc : Thread Cert.LnReferenceIdeal.nD Cert.LnReferenceIdeal.τ).loc Cert.LnReferenceIdeal.main_v43)) (v3 : Buf (Elt Ideal) (((0 : Dev Cert.LnReferenceIdeal.nD).tc : Thread Cert.LnReferenceIdeal.nD Cert.LnReferenceIdeal.τ).loc Cert.LnReferenceIdeal.main_v53)),
      θ_run (Cert.LnSwapIdeal.defs (F := Ideal)) (onTc (τ := Cert.LnSwapIdeal.τ) (Cert.LnSwapIdeal.main (F := Ideal))) ⟨m, fun _ => 0, g⟩ (fun r => ∀ c : Dev Cert.LnSwapIdeal.nD,
          r.2.mem ((c.tc : Thread Cert.LnSwapIdeal.nD Cert.LnSwapIdeal.τ).loc Cert.LnSwapIdeal.main_v1_0) = Layout.block ⟨2, ![4096, 2048]⟩ ⟨2, ![32768, 2048]⟩ 0 8 c v0
          ∧ r.2.mem ((c.tc : Thread Cert.LnSwapIdeal.nD Cert.LnSwapIdeal.τ).loc Cert.LnSwapIdeal.main_v1_1) = Layout.block ⟨2, ![4096, 2048]⟩ ⟨2, ![32768, 2048]⟩ 0 8 c v1
          ∧ r.2.mem ((c.tc : Thread Cert.LnSwapIdeal.nD Cert.LnSwapIdeal.τ).loc Cert.LnSwapIdeal.main_v1_2) = Layout.block ⟨2, ![8, 2048]⟩ ⟨2, ![64, 2048]⟩ 0 8 c v2
          ∧ r.2.mem ((c.tc : Thread Cert.LnSwapIdeal.nD Cert.LnSwapIdeal.τ).loc Cert.LnSwapIdeal.main_v1_3) = Layout.block ⟨4, ![4, 1, 1168, 2048]⟩ ⟨4, ![32, 1, 1168, 2048]⟩ 0 8 c v3
          ∧ r.2.mem ((c.tc : Thread Cert.LnSwapIdeal.nD Cert.LnSwapIdeal.τ).loc Cert.LnSwapIdeal.main_arg0) = m ((c.tc : Thread Cert.LnSwapIdeal.nD Cert.LnSwapIdeal.τ).loc Cert.LnSwapIdeal.main_arg0)
          ∧ r.2.mem ((c.tc : Thread Cert.LnSwapIdeal.nD Cert.LnSwapIdeal.τ).loc Cert.LnSwapIdeal.main_arg1) = m ((c.tc : Thread Cert.LnSwapIdeal.nD Cert.LnSwapIdeal.τ).loc Cert.LnSwapIdeal.main_arg1)
          ∧ r.2.mem ((c.tc : Thread Cert.LnSwapIdeal.nD Cert.LnSwapIdeal.τ).loc Cert.LnSwapIdeal.main_arg2) = m ((c.tc : Thread Cert.LnSwapIdeal.nD Cert.LnSwapIdeal.τ).loc Cert.LnSwapIdeal.main_arg2)
          ∧ r.2.mem ((c.tc : Thread Cert.LnSwapIdeal.nD Cert.LnSwapIdeal.τ).loc Cert.LnSwapIdeal.main_arg3) = m ((c.tc : Thread Cert.LnSwapIdeal.nD Cert.LnSwapIdeal.τ).loc Cert.LnSwapIdeal.main_arg3))
      ∧ θ_run (Cert.LnReferenceIdeal.defs (F := Ideal)) (onTc (τ := Cert.LnReferenceIdeal.τ) (Cert.LnReferenceIdeal.main (F := Ideal))) ⟨m', fun _ => 0, g'⟩ (fun r =>
          r.2.mem (((0 : Dev Cert.LnReferenceIdeal.nD).tc : Thread Cert.LnReferenceIdeal.nD Cert.LnReferenceIdeal.τ).loc Cert.LnReferenceIdeal.main_v33) = v0
          ∧ r.2.mem (((0 : Dev Cert.LnReferenceIdeal.nD).tc : Thread Cert.LnReferenceIdeal.nD Cert.LnReferenceIdeal.τ).loc Cert.LnReferenceIdeal.main_v44) = v1
          ∧ r.2.mem (((0 : Dev Cert.LnReferenceIdeal.nD).tc : Thread Cert.LnReferenceIdeal.nD Cert.LnReferenceIdeal.τ).loc Cert.LnReferenceIdeal.main_v43) = v2
          ∧ r.2.mem (((0 : Dev Cert.LnReferenceIdeal.nD).tc : Thread Cert.LnReferenceIdeal.nD Cert.LnReferenceIdeal.τ).loc Cert.LnReferenceIdeal.main_v53) = v3
          ∧ r.2.mem (((0 : Dev Cert.LnReferenceIdeal.nD).tc : Thread Cert.LnReferenceIdeal.nD Cert.LnReferenceIdeal.τ).loc Cert.LnReferenceIdeal.main_arg0) = m' (((0 : Dev Cert.LnReferenceIdeal.nD).tc : Thread Cert.LnReferenceIdeal.nD Cert.LnReferenceIdeal.τ).loc Cert.LnReferenceIdeal.main_arg0)
          ∧ r.2.mem (((0 : Dev Cert.LnReferenceIdeal.nD).tc : Thread Cert.LnReferenceIdeal.nD Cert.LnReferenceIdeal.τ).loc Cert.LnReferenceIdeal.main_arg1) = m' (((0 : Dev Cert.LnReferenceIdeal.nD).tc : Thread Cert.LnReferenceIdeal.nD Cert.LnReferenceIdeal.τ).loc Cert.LnReferenceIdeal.main_arg1)
          ∧ r.2.mem (((0 : Dev Cert.LnReferenceIdeal.nD).tc : Thread Cert.LnReferenceIdeal.nD Cert.LnReferenceIdeal.τ).loc Cert.LnReferenceIdeal.main_arg2) = m' (((0 : Dev Cert.LnReferenceIdeal.nD).tc : Thread Cert.LnReferenceIdeal.nD Cert.LnReferenceIdeal.τ).loc Cert.LnReferenceIdeal.main_arg2)
          ∧ r.2.mem (((0 : Dev Cert.LnReferenceIdeal.nD).tc : Thread Cert.LnReferenceIdeal.nD Cert.LnReferenceIdeal.τ).loc Cert.LnReferenceIdeal.main_arg3) = m' (((0 : Dev Cert.LnReferenceIdeal.nD).tc : Thread Cert.LnReferenceIdeal.nD Cert.LnReferenceIdeal.τ).loc Cert.LnReferenceIdeal.main_arg3))

def preserves_Attn_AttnIdeal : Prop :=
  True

def algebraic_AttnIdeal_AttnReferenceIdeal [hAttnIdeal : Cert.AttnIdeal.Facts] [hAttnReferenceIdeal : Cert.AttnReferenceIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal m →
    (∀ c : Dev Cert.AttnIdeal.nD,
      m ((c.tc : Thread Cert.AttnIdeal.nD Cert.AttnIdeal.τ).loc Cert.AttnIdeal.main_arg0) = Layout.block ⟨2, ![4096, 7168]⟩ ⟨2, ![32768, 7168]⟩ 0 8 c (m' (((0 : Dev Cert.AttnReferenceIdeal.nD).tc : Thread Cert.AttnReferenceIdeal.nD Cert.AttnReferenceIdeal.τ).loc Cert.AttnReferenceIdeal.main_arg0))
      ∧ m ((c.tc : Thread Cert.AttnIdeal.nD Cert.AttnIdeal.τ).loc Cert.AttnIdeal.main_arg1) = Layout.block ⟨2, ![4096, 1024]⟩ ⟨2, ![32768, 1024]⟩ 0 8 c (m' (((0 : Dev Cert.AttnReferenceIdeal.nD).tc : Thread Cert.AttnReferenceIdeal.nD Cert.AttnReferenceIdeal.τ).loc Cert.AttnReferenceIdeal.main_arg1))
      ∧ m ((c.tc : Thread Cert.AttnIdeal.nD Cert.AttnIdeal.τ).loc Cert.AttnIdeal.main_arg2) = Layout.block ⟨2, ![4096, 1024]⟩ ⟨2, ![32768, 1024]⟩ 0 8 c (m' (((0 : Dev Cert.AttnReferenceIdeal.nD).tc : Thread Cert.AttnReferenceIdeal.nD Cert.AttnReferenceIdeal.τ).loc Cert.AttnReferenceIdeal.main_arg2))
      ∧ m ((c.tc : Thread Cert.AttnIdeal.nD Cert.AttnIdeal.τ).loc Cert.AttnIdeal.main_arg3) = Layout.block ⟨2, ![4096, 1024]⟩ ⟨2, ![32768, 1024]⟩ 0 8 c (m' (((0 : Dev Cert.AttnReferenceIdeal.nD).tc : Thread Cert.AttnReferenceIdeal.nD Cert.AttnReferenceIdeal.τ).loc Cert.AttnReferenceIdeal.main_arg3))
      ∧ m ((c.tc : Thread Cert.AttnIdeal.nD Cert.AttnIdeal.τ).loc Cert.AttnIdeal.main_arg4) = Layout.block ⟨4, ![8, 8, 1, 512]⟩ ⟨4, ![64, 8, 1, 512]⟩ 0 8 c (m' (((0 : Dev Cert.AttnReferenceIdeal.nD).tc : Thread Cert.AttnReferenceIdeal.nD Cert.AttnReferenceIdeal.τ).loc Cert.AttnReferenceIdeal.main_arg4))
      ∧ m ((c.tc : Thread Cert.AttnIdeal.nD Cert.AttnIdeal.τ).loc Cert.AttnIdeal.main_arg5) = Layout.blockN ⟨4, ![4, 1, 1168, 2048]⟩ ⟨4, ![16, 2, 1168, 2048]⟩ (Layout.meshBlock [2, 2, 2] ![[0, 1], [2], [], []] c) (m' (((0 : Dev Cert.AttnReferenceIdeal.nD).tc : Thread Cert.AttnReferenceIdeal.nD Cert.AttnReferenceIdeal.τ).loc Cert.AttnReferenceIdeal.main_arg5))) →
    ∃ (v0 : Buf (Elt Ideal) (((0 : Dev Cert.AttnReferenceIdeal.nD).tc : Thread Cert.AttnReferenceIdeal.nD Cert.AttnReferenceIdeal.τ).loc Cert.AttnReferenceIdeal.main_v56)) (v1 : Buf (Elt Ideal) (((0 : Dev Cert.AttnReferenceIdeal.nD).tc : Thread Cert.AttnReferenceIdeal.nD Cert.AttnReferenceIdeal.τ).loc Cert.AttnReferenceIdeal.main_v58)) (v2 : Buf (Elt Ideal) (((0 : Dev Cert.AttnReferenceIdeal.nD).tc : Thread Cert.AttnReferenceIdeal.nD Cert.AttnReferenceIdeal.τ).loc Cert.AttnReferenceIdeal.main_v60)) (v3 : Buf (Elt Ideal) (((0 : Dev Cert.AttnReferenceIdeal.nD).tc : Thread Cert.AttnReferenceIdeal.nD Cert.AttnReferenceIdeal.τ).loc Cert.AttnReferenceIdeal.main_v63)) (v4 : Buf (Elt Ideal) (((0 : Dev Cert.AttnReferenceIdeal.nD).tc : Thread Cert.AttnReferenceIdeal.nD Cert.AttnReferenceIdeal.τ).loc Cert.AttnReferenceIdeal.main_v66)) (v5 : Buf (Elt Ideal) (((0 : Dev Cert.AttnReferenceIdeal.nD).tc : Thread Cert.AttnReferenceIdeal.nD Cert.AttnReferenceIdeal.τ).loc Cert.AttnReferenceIdeal.main_v79)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_0) = Layout.block ⟨2, ![4096, 1024]⟩ ⟨2, ![32768, 1024]⟩ 0 8 c v0
          ∧ r.2.mem ((c.tc : Thread Cert.AttnIdeal.nD Cert.AttnIdeal.τ).loc Cert.AttnIdeal.main_v1_1) = Layout.block ⟨2, ![4096, 1024]⟩ ⟨2, ![32768, 1024]⟩ 0 8 c v1
          ∧ r.2.mem ((c.tc : Thread Cert.AttnIdeal.nD Cert.AttnIdeal.τ).loc Cert.AttnIdeal.main_v1_2) = Layout.block ⟨2, ![4096, 1024]⟩ ⟨2, ![32768, 1024]⟩ 0 8 c v2
          ∧ r.2.mem ((c.tc : Thread Cert.AttnIdeal.nD Cert.AttnIdeal.τ).loc Cert.AttnIdeal.main_v1_3) = Layout.block ⟨3, ![8, 8, 4096]⟩ ⟨3, ![64, 8, 4096]⟩ 0 8 c v3
          ∧ r.2.mem ((c.tc : Thread Cert.AttnIdeal.nD Cert.AttnIdeal.τ).loc Cert.AttnIdeal.main_v1_4) = Layout.block ⟨3, ![8, 8, 4096]⟩ ⟨3, ![64, 8, 4096]⟩ 0 8 c v4
          ∧ r.2.mem ((c.tc : Thread Cert.AttnIdeal.nD Cert.AttnIdeal.τ).loc Cert.AttnIdeal.main_v1_5) = Layout.blockN ⟨4, ![3, 1, 1168, 2048]⟩ ⟨4, ![12, 2, 1168, 2048]⟩ (Layout.meshBlock [2, 2, 2] ![[0, 1], [2], [], []] c) v5
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r =>
          r.2.mem (((0 : Dev Cert.AttnReferenceIdeal.nD).tc : Thread Cert.AttnReferenceIdeal.nD Cert.AttnReferenceIdeal.τ).loc Cert.AttnReferenceIdeal.main_v56) = v0
          ∧ r.2.mem (((0 : Dev Cert.AttnReferenceIdeal.nD).tc : Thread Cert.AttnReferenceIdeal.nD Cert.AttnReferenceIdeal.τ).loc Cert.AttnReferenceIdeal.main_v58) = v1
          ∧ r.2.mem (((0 : Dev Cert.AttnReferenceIdeal.nD).tc : Thread Cert.AttnReferenceIdeal.nD Cert.AttnReferenceIdeal.τ).loc Cert.AttnReferenceIdeal.main_v60) = v2
          ∧ r.2.mem (((0 : Dev Cert.AttnReferenceIdeal.nD).tc : Thread Cert.AttnReferenceIdeal.nD Cert.AttnReferenceIdeal.τ).loc Cert.AttnReferenceIdeal.main_v63) = v3
          ∧ r.2.mem (((0 : Dev Cert.AttnReferenceIdeal.nD).tc : Thread Cert.AttnReferenceIdeal.nD Cert.AttnReferenceIdeal.τ).loc Cert.AttnReferenceIdeal.main_v66) = v4
          ∧ r.2.mem (((0 : Dev Cert.AttnReferenceIdeal.nD).tc : Thread Cert.AttnReferenceIdeal.nD Cert.AttnReferenceIdeal.τ).loc Cert.AttnReferenceIdeal.main_v79) = v5
          ∧ r.2.mem (((0 : Dev Cert.AttnReferenceIdeal.nD).tc : Thread Cert.AttnReferenceIdeal.nD Cert.AttnReferenceIdeal.τ).loc Cert.AttnReferenceIdeal.main_arg0) = m' (((0 : Dev Cert.AttnReferenceIdeal.nD).tc : Thread Cert.AttnReferenceIdeal.nD Cert.AttnReferenceIdeal.τ).loc Cert.AttnReferenceIdeal.main_arg0)
          ∧ r.2.mem (((0 : Dev Cert.AttnReferenceIdeal.nD).tc : Thread Cert.AttnReferenceIdeal.nD Cert.AttnReferenceIdeal.τ).loc Cert.AttnReferenceIdeal.main_arg1) = m' (((0 : Dev Cert.AttnReferenceIdeal.nD).tc : Thread Cert.AttnReferenceIdeal.nD Cert.AttnReferenceIdeal.τ).loc Cert.AttnReferenceIdeal.main_arg1)
          ∧ r.2.mem (((0 : Dev Cert.AttnReferenceIdeal.nD).tc : Thread Cert.AttnReferenceIdeal.nD Cert.AttnReferenceIdeal.τ).loc Cert.AttnReferenceIdeal.main_arg2) = m' (((0 : Dev Cert.AttnReferenceIdeal.nD).tc : Thread Cert.AttnReferenceIdeal.nD Cert.AttnReferenceIdeal.τ).loc Cert.AttnReferenceIdeal.main_arg2)
          ∧ r.2.mem (((0 : Dev Cert.AttnReferenceIdeal.nD).tc : Thread Cert.AttnReferenceIdeal.nD Cert.AttnReferenceIdeal.τ).loc Cert.AttnReferenceIdeal.main_arg3) = m' (((0 : Dev Cert.AttnReferenceIdeal.nD).tc : Thread Cert.AttnReferenceIdeal.nD Cert.AttnReferenceIdeal.τ).loc Cert.AttnReferenceIdeal.main_arg3)
          ∧ r.2.mem (((0 : Dev Cert.AttnReferenceIdeal.nD).tc : Thread Cert.AttnReferenceIdeal.nD Cert.AttnReferenceIdeal.τ).loc Cert.AttnReferenceIdeal.main_arg4) = m' (((0 : Dev Cert.AttnReferenceIdeal.nD).tc : Thread Cert.AttnReferenceIdeal.nD Cert.AttnReferenceIdeal.τ).loc Cert.AttnReferenceIdeal.main_arg4)
          ∧ r.2.mem (((0 : Dev Cert.AttnReferenceIdeal.nD).tc : Thread Cert.AttnReferenceIdeal.nD Cert.AttnReferenceIdeal.τ).loc Cert.AttnReferenceIdeal.main_arg5) = m' (((0 : Dev Cert.AttnReferenceIdeal.nD).tc : Thread Cert.AttnReferenceIdeal.nD Cert.AttnReferenceIdeal.τ).loc Cert.AttnReferenceIdeal.main_arg5))

def preserves_Swap_SwapIdeal : Prop :=
  True

def algebraic_SwapIdeal_SwapReferenceIdeal [hSwapIdeal : Cert.SwapIdeal.Facts] [hSwapReferenceIdeal : Cert.SwapReferenceIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapReferenceIdeal.nD Cert.SwapReferenceIdeal.τ Cert.SwapReferenceIdeal.sig) → Buf (Elt Ideal) ℓ) (g' : Dev Cert.SwapReferenceIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![4, 2, 1168, 2048]⟩ ⟨4, ![32, 2, 1168, 2048]⟩ 0 8 c (m' (((0 : Dev Cert.SwapReferenceIdeal.nD).tc : Thread Cert.SwapReferenceIdeal.nD Cert.SwapReferenceIdeal.τ).loc Cert.SwapReferenceIdeal.main_arg0))) →
    ∃ (v0 : Buf (Elt Ideal) (((0 : Dev Cert.SwapReferenceIdeal.nD).tc : Thread Cert.SwapReferenceIdeal.nD Cert.SwapReferenceIdeal.τ).loc Cert.SwapReferenceIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨4, ![4, 1, 1168, 2048]⟩ ⟨4, ![32, 1, 1168, 2048]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapReferenceIdeal.defs (F := Ideal)) (onTc (τ := Cert.SwapReferenceIdeal.τ) (Cert.SwapReferenceIdeal.main (F := Ideal))) ⟨m', fun _ => 0, g'⟩ (fun r =>
          r.2.mem (((0 : Dev Cert.SwapReferenceIdeal.nD).tc : Thread Cert.SwapReferenceIdeal.nD Cert.SwapReferenceIdeal.τ).loc Cert.SwapReferenceIdeal.main_v8) = v0
          ∧ r.2.mem (((0 : Dev Cert.SwapReferenceIdeal.nD).tc : Thread Cert.SwapReferenceIdeal.nD Cert.SwapReferenceIdeal.τ).loc Cert.SwapReferenceIdeal.main_arg0) = m' (((0 : Dev Cert.SwapReferenceIdeal.nD).tc : Thread Cert.SwapReferenceIdeal.nD Cert.SwapReferenceIdeal.τ).loc Cert.SwapReferenceIdeal.main_arg0))

def bitexact_Swap_SwapReference [hSwap : Cert.Swap.Facts] [hSwapReference : Cert.SwapReference.Facts] : Prop :=
  ∀ (m : (ℓ : Loc Cert.Swap.nD Cert.Swap.τ Cert.Swap.sig) → Buf (Elt Bits) ℓ) (g : Dev Cert.Swap.nD → PrngReg)
    (m' : (ℓ : Loc Cert.SwapReference.nD Cert.SwapReference.τ Cert.SwapReference.sig) → Buf (Elt Bits) ℓ) (g' : Dev Cert.SwapReference.nD → PrngReg), Pre_Swap m →
    (∀ c : Dev Cert.Swap.nD,
      m ((c.tc : Thread Cert.Swap.nD Cert.Swap.τ).loc Cert.Swap.main_arg0) = Layout.block ⟨4, ![4, 2, 1168, 2048]⟩ ⟨4, ![32, 2, 1168, 2048]⟩ 0 8 c (m' (((0 : Dev Cert.SwapReference.nD).tc : Thread Cert.SwapReference.nD Cert.SwapReference.τ).loc Cert.SwapReference.main_arg0))) →
    ∃ (v0 : Buf (Elt Bits) (((0 : Dev Cert.SwapReference.nD).tc : Thread Cert.SwapReference.nD Cert.SwapReference.τ).loc Cert.SwapReference.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨4, ![4, 1, 1168, 2048]⟩ ⟨4, ![32, 1, 1168, 2048]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapReference.defs (F := Bits)) (onTc (τ := Cert.SwapReference.τ) (Cert.SwapReference.main (F := Bits))) ⟨m', fun _ => 0, g'⟩ (fun r =>
          r.2.mem (((0 : Dev Cert.SwapReference.nD).tc : Thread Cert.SwapReference.nD Cert.SwapReference.τ).loc Cert.SwapReference.main_v8) = v0
          ∧ r.2.mem (((0 : Dev Cert.SwapReference.nD).tc : Thread Cert.SwapReference.nD Cert.SwapReference.τ).loc Cert.SwapReference.main_arg0) = m' (((0 : Dev Cert.SwapReference.nD).tc : Thread Cert.SwapReference.nD Cert.SwapReference.τ).loc Cert.SwapReference.main_arg0))

def preserves_StepIn_StepInIdeal : Prop :=
  True

def algebraic_StepInIdeal_StepInReferenceIdeal [hStepInIdeal : Cert.StepInIdeal.Facts] [hStepInReferenceIdeal : Cert.StepInReferenceIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInReferenceIdeal.nD Cert.StepInReferenceIdeal.τ Cert.StepInReferenceIdeal.sig) → Buf (Elt Ideal) ℓ) (g' : Dev Cert.StepInReferenceIdeal.nD → PrngReg), Pre_StepInIdeal m →
    (∀ c : Dev Cert.StepInIdeal.nD,
      m' ((c.tc : Thread Cert.StepInReferenceIdeal.nD Cert.StepInReferenceIdeal.τ).loc Cert.StepInReferenceIdeal.main_arg0) = m ((c.tc : Thread Cert.StepInIdeal.nD Cert.StepInIdeal.τ).loc Cert.StepInIdeal.main_arg0)
      ∧ m' ((c.tc : Thread Cert.StepInReferenceIdeal.nD Cert.StepInReferenceIdeal.τ).loc Cert.StepInReferenceIdeal.main_arg1) = m ((c.tc : Thread Cert.StepInIdeal.nD Cert.StepInIdeal.τ).loc Cert.StepInIdeal.main_arg1)
      ∧ m' ((c.tc : Thread Cert.StepInReferenceIdeal.nD Cert.StepInReferenceIdeal.τ).loc Cert.StepInReferenceIdeal.main_arg2) = m ((c.tc : Thread Cert.StepInIdeal.nD Cert.StepInIdeal.τ).loc Cert.StepInIdeal.main_arg2)
      ∧ m' ((c.tc : Thread Cert.StepInReferenceIdeal.nD Cert.StepInReferenceIdeal.τ).loc Cert.StepInReferenceIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInReferenceIdeal.defs (F := Ideal)) (onTc (τ := Cert.StepInReferenceIdeal.τ) (Cert.StepInReferenceIdeal.main (F := Ideal))) ⟨m', fun _ => 0, g'⟩ (fun r => ∀ c : Dev Cert.StepInReferenceIdeal.nD,
          r.2.mem ((c.tc : Thread Cert.StepInReferenceIdeal.nD Cert.StepInReferenceIdeal.τ).loc Cert.StepInReferenceIdeal.main_v23) = v0 c
          ∧ r.2.mem ((c.tc : Thread Cert.StepInReferenceIdeal.nD Cert.StepInReferenceIdeal.τ).loc Cert.StepInReferenceIdeal.main_v4) = v1 c
          ∧ r.2.mem ((c.tc : Thread Cert.StepInReferenceIdeal.nD Cert.StepInReferenceIdeal.τ).loc Cert.StepInReferenceIdeal.main_v10) = v2 c
          ∧ r.2.mem ((c.tc : Thread Cert.StepInReferenceIdeal.nD Cert.StepInReferenceIdeal.τ).loc Cert.StepInReferenceIdeal.main_arg1) = v3 c
          ∧ r.2.mem ((c.tc : Thread Cert.StepInReferenceIdeal.nD Cert.StepInReferenceIdeal.τ).loc Cert.StepInReferenceIdeal.main_arg0) = m' ((c.tc : Thread Cert.StepInReferenceIdeal.nD Cert.StepInReferenceIdeal.τ).loc Cert.StepInReferenceIdeal.main_arg0)
          ∧ r.2.mem ((c.tc : Thread Cert.StepInReferenceIdeal.nD Cert.StepInReferenceIdeal.τ).loc Cert.StepInReferenceIdeal.main_arg1) = m' ((c.tc : Thread Cert.StepInReferenceIdeal.nD Cert.StepInReferenceIdeal.τ).loc Cert.StepInReferenceIdeal.main_arg1)
          ∧ r.2.mem ((c.tc : Thread Cert.StepInReferenceIdeal.nD Cert.StepInReferenceIdeal.τ).loc Cert.StepInReferenceIdeal.main_arg2) = m' ((c.tc : Thread Cert.StepInReferenceIdeal.nD Cert.StepInReferenceIdeal.τ).loc Cert.StepInReferenceIdeal.main_arg2)
          ∧ r.2.mem ((c.tc : Thread Cert.StepInReferenceIdeal.nD Cert.StepInReferenceIdeal.τ).loc Cert.StepInReferenceIdeal.main_arg3) = m' ((c.tc : Thread Cert.StepInReferenceIdeal.nD Cert.StepInReferenceIdeal.τ).loc Cert.StepInReferenceIdeal.main_arg3))

def preserves_StepOut_StepOutIdeal : Prop :=
  True

def algebraic_StepOutIdeal_StepOutReferenceIdeal [hStepOutIdeal : Cert.StepOutIdeal.Facts] [hStepOutReferenceIdeal : Cert.StepOutReferenceIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v23) = v0 c
          ∧ r.2.mem ((c.tc : Thread Cert.StepOutReferenceIdeal.nD Cert.StepOutReferenceIdeal.τ).loc Cert.StepOutReferenceIdeal.main_v4) = v1 c
          ∧ r.2.mem ((c.tc : Thread Cert.StepOutReferenceIdeal.nD Cert.StepOutReferenceIdeal.τ).loc Cert.StepOutReferenceIdeal.main_v10) = v2 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3))

def preserves_StepSmall_StepSmallIdeal : Prop :=
  True

def algebraic_StepSmallIdeal_StepSmallReferenceIdeal [hStepSmallIdeal : Cert.StepSmallIdeal.Facts] [hStepSmallReferenceIdeal : Cert.StepSmallReferenceIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallReferenceIdeal.nD Cert.StepSmallReferenceIdeal.τ Cert.StepSmallReferenceIdeal.sig) → Buf (Elt Ideal) ℓ) (g' : Dev Cert.StepSmallReferenceIdeal.nD → PrngReg), Pre_StepSmallIdeal m →
    (∀ c : Dev Cert.StepSmallIdeal.nD,
      m' ((c.tc : Thread Cert.StepSmallReferenceIdeal.nD Cert.StepSmallReferenceIdeal.τ).loc Cert.StepSmallReferenceIdeal.main_arg0) = m ((c.tc : Thread Cert.StepSmallIdeal.nD Cert.StepSmallIdeal.τ).loc Cert.StepSmallIdeal.main_arg0)
      ∧ m' ((c.tc : Thread Cert.StepSmallReferenceIdeal.nD Cert.StepSmallReferenceIdeal.τ).loc Cert.StepSmallReferenceIdeal.main_arg1) = m ((c.tc : Thread Cert.StepSmallIdeal.nD Cert.StepSmallIdeal.τ).loc Cert.StepSmallIdeal.main_arg1)
      ∧ m' ((c.tc : Thread Cert.StepSmallReferenceIdeal.nD Cert.StepSmallReferenceIdeal.τ).loc Cert.StepSmallReferenceIdeal.main_arg2) = m ((c.tc : Thread Cert.StepSmallIdeal.nD Cert.StepSmallIdeal.τ).loc Cert.StepSmallIdeal.main_arg2)
      ∧ m' ((c.tc : Thread Cert.StepSmallReferenceIdeal.nD Cert.StepSmallReferenceIdeal.τ).loc Cert.StepSmallReferenceIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallReferenceIdeal.defs (F := Ideal)) (onTc (τ := Cert.StepSmallReferenceIdeal.τ) (Cert.StepSmallReferenceIdeal.main (F := Ideal))) ⟨m', fun _ => 0, g'⟩ (fun r => ∀ c : Dev Cert.StepSmallReferenceIdeal.nD,
          r.2.mem ((c.tc : Thread Cert.StepSmallReferenceIdeal.nD Cert.StepSmallReferenceIdeal.τ).loc Cert.StepSmallReferenceIdeal.main_v23) = v0 c
          ∧ r.2.mem ((c.tc : Thread Cert.StepSmallReferenceIdeal.nD Cert.StepSmallReferenceIdeal.τ).loc Cert.StepSmallReferenceIdeal.main_v4) = v1 c
          ∧ r.2.mem ((c.tc : Thread Cert.StepSmallReferenceIdeal.nD Cert.StepSmallReferenceIdeal.τ).loc Cert.StepSmallReferenceIdeal.main_v10) = v2 c
          ∧ r.2.mem ((c.tc : Thread Cert.StepSmallReferenceIdeal.nD Cert.StepSmallReferenceIdeal.τ).loc Cert.StepSmallReferenceIdeal.main_arg0) = m' ((c.tc : Thread Cert.StepSmallReferenceIdeal.nD Cert.StepSmallReferenceIdeal.τ).loc Cert.StepSmallReferenceIdeal.main_arg0)
          ∧ r.2.mem ((c.tc : Thread Cert.StepSmallReferenceIdeal.nD Cert.StepSmallReferenceIdeal.τ).loc Cert.StepSmallReferenceIdeal.main_arg1) = m' ((c.tc : Thread Cert.StepSmallReferenceIdeal.nD Cert.StepSmallReferenceIdeal.τ).loc Cert.StepSmallReferenceIdeal.main_arg1)
          ∧ r.2.mem ((c.tc : Thread Cert.StepSmallReferenceIdeal.nD Cert.StepSmallReferenceIdeal.τ).loc Cert.StepSmallReferenceIdeal.main_arg2) = m' ((c.tc : Thread Cert.StepSmallReferenceIdeal.nD Cert.StepSmallReferenceIdeal.τ).loc Cert.StepSmallReferenceIdeal.main_arg2)
          ∧ r.2.mem ((c.tc : Thread Cert.StepSmallReferenceIdeal.nD Cert.StepSmallReferenceIdeal.τ).loc Cert.StepSmallReferenceIdeal.main_arg3) = m' ((c.tc : Thread Cert.StepSmallReferenceIdeal.nD Cert.StepSmallReferenceIdeal.τ).loc Cert.StepSmallReferenceIdeal.main_arg3))

def preserves_Gather_GatherIdeal : Prop :=
  True

def algebraic_GatherIdeal_GatherReferenceIdeal_on_from_others [hGatherIdeal : Cert.GatherIdeal.Facts] [hGatherReferenceIdeal : Cert.GatherReferenceIdeal.Facts] [hOn_from_others : Cert.On_from_others.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨4, ![1, 2, 1168, 2048]⟩ ⟨4, ![4, 2, 1168, 2048]⟩ (Layout.meshBlock [2, 2, 2] ![[0, 1], [], [], []] c) (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          (∀ i : (⟨4, ![4, 2, 1168, 2048]⟩ : Shape).Idx, (Layout.block ⟨4, ![4, 2, 1168, 2048]⟩ ⟨4, ![32, 2, 1168, 2048]⟩ 0 8 c ((Cert.On_from_others.fn (F := Ideal) (m' (((0 : Dev Cert.GatherReferenceIdeal.nD).tc : Thread Cert.GatherReferenceIdeal.nD Cert.GatherReferenceIdeal.τ).loc Cert.GatherReferenceIdeal.main_arg0)))) : (⟨4, ![4, 2, 1168, 2048]⟩ : Shape).Idx → _) i = 1#1 → r.2.mem ((c.tc : Thread Cert.GatherIdeal.nD Cert.GatherIdeal.τ).loc Cert.GatherIdeal.main_v1) i = (Layout.block ⟨4, ![4, 2, 1168, 2048]⟩ ⟨4, ![32, 2, 1168, 2048]⟩ 0 8 c v0 : (⟨4, ![4, 2, 1168, 2048]⟩ : Shape).Idx → _) i)
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          (∀ i : (⟨4, ![32, 2, 1168, 2048]⟩ : Shape).Idx, (Cert.On_from_others.fn (F := Ideal) (m' (((0 : Dev Cert.GatherReferenceIdeal.nD).tc : Thread Cert.GatherReferenceIdeal.nD Cert.GatherReferenceIdeal.τ).loc Cert.GatherReferenceIdeal.main_arg0))) i = 1#1 → r.2.mem (((0 : Dev Cert.GatherReferenceIdeal.nD).tc : Thread Cert.GatherReferenceIdeal.nD Cert.GatherReferenceIdeal.τ).loc Cert.GatherReferenceIdeal.main_v0) i = v0 i)
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference_on_from_others [hGather : Cert.Gather.Facts] [hGatherReference : Cert.GatherReference.Facts] [hOn_from_others : Cert.On_from_others.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨4, ![1, 2, 1168, 2048]⟩ ⟨4, ![4, 2, 1168, 2048]⟩ (Layout.meshBlock [2, 2, 2] ![[0, 1], [], [], []] c) (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          (∀ i : (⟨4, ![4, 2, 1168, 2048]⟩ : Shape).Idx, (Layout.block ⟨4, ![4, 2, 1168, 2048]⟩ ⟨4, ![32, 2, 1168, 2048]⟩ 0 8 c ((Cert.On_from_others.fn (F := Bits) (m' (((0 : Dev Cert.GatherReference.nD).tc : Thread Cert.GatherReference.nD Cert.GatherReference.τ).loc Cert.GatherReference.main_arg0)))) : (⟨4, ![4, 2, 1168, 2048]⟩ : Shape).Idx → _) i = 1#1 → r.2.mem ((c.tc : Thread Cert.Gather.nD Cert.Gather.τ).loc Cert.Gather.main_v1) i = (Layout.block ⟨4, ![4, 2, 1168, 2048]⟩ ⟨4, ![32, 2, 1168, 2048]⟩ 0 8 c v0 : (⟨4, ![4, 2, 1168, 2048]⟩ : Shape).Idx → _) i)
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          (∀ i : (⟨4, ![32, 2, 1168, 2048]⟩ : Shape).Idx, (Cert.On_from_others.fn (F := Bits) (m' (((0 : Dev Cert.GatherReference.nD).tc : Thread Cert.GatherReference.nD Cert.GatherReference.τ).loc Cert.GatherReference.main_arg0))) i = 1#1 → r.2.mem (((0 : Dev Cert.GatherReference.nD).tc : Thread Cert.GatherReference.nD Cert.GatherReference.τ).loc Cert.GatherReference.main_v0) i = v0 i)
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Proj_ProjIdeal : Prop :=
  True

def algebraic_ProjIdeal_ProjReferenceIdeal_on_up_to_split [hProjIdeal : Cert.ProjIdeal.Facts] [hProjReferenceIdeal : Cert.ProjReferenceIdeal.Facts] [hOn_up_to_split : Cert.On_up_to_split.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m ((c.tc : Thread Cert.ProjIdeal.nD Cert.ProjIdeal.τ).loc Cert.ProjIdeal.main_arg0) = Layout.block ⟨2, ![4096, 2048]⟩ ⟨2, ![32768, 2048]⟩ 0 8 c (m' (((0 : Dev Cert.ProjReferenceIdeal.nD).tc : Thread Cert.ProjReferenceIdeal.nD Cert.ProjReferenceIdeal.τ).loc Cert.ProjReferenceIdeal.main_arg0))
      ∧ m ((c.tc : Thread Cert.ProjIdeal.nD Cert.ProjIdeal.τ).loc Cert.ProjIdeal.main_arg1) = m' (((0 : Dev Cert.ProjReferenceIdeal.nD).tc : Thread Cert.ProjReferenceIdeal.nD Cert.ProjReferenceIdeal.τ).loc Cert.ProjReferenceIdeal.main_arg1)
      ∧ m ((c.tc : Thread Cert.ProjIdeal.nD Cert.ProjIdeal.τ).loc Cert.ProjIdeal.main_arg2) = Layout.blockN ⟨4, ![1, 2, 1168, 2048]⟩ ⟨4, ![4, 2, 1168, 2048]⟩ (Layout.meshBlock [2, 2, 2] ![[0, 1], [], [], []] c) (m' (((0 : Dev Cert.ProjReferenceIdeal.nD).tc : Thread Cert.ProjReferenceIdeal.nD Cert.ProjReferenceIdeal.τ).loc Cert.ProjReferenceIdeal.main_arg2))) →
    ∃ (v0 : Buf (Elt Ideal) (((0 : Dev Cert.ProjReferenceIdeal.nD).tc : Thread Cert.ProjReferenceIdeal.nD Cert.ProjReferenceIdeal.τ).loc Cert.ProjReferenceIdeal.main_v3)) (v1 : Buf (Elt Ideal) (((0 : Dev Cert.ProjReferenceIdeal.nD).tc : Thread Cert.ProjReferenceIdeal.nD Cert.ProjReferenceIdeal.τ).loc Cert.ProjReferenceIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          (∀ i : (⟨2, ![4096, 7168]⟩ : Shape).Idx, (Layout.block ⟨2, ![4096, 7168]⟩ ⟨2, ![32768, 7168]⟩ 0 8 c ((Cert.On_up_to_split.fn (F := Ideal) (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg1)) (m' (((0 : Dev Cert.ProjReferenceIdeal.nD).tc : Thread Cert.ProjReferenceIdeal.nD Cert.ProjReferenceIdeal.τ).loc Cert.ProjReferenceIdeal.main_arg2))).1) : (⟨2, ![4096, 7168]⟩ : Shape).Idx → _) i = 1#1 → r.2.mem ((c.tc : Thread Cert.ProjIdeal.nD Cert.ProjIdeal.τ).loc Cert.ProjIdeal.main_v1_0) i = (Layout.block ⟨2, ![4096, 7168]⟩ ⟨2, ![32768, 7168]⟩ 0 8 c v0 : (⟨2, ![4096, 7168]⟩ : Shape).Idx → _) i)
          ∧ (∀ i : (⟨4, ![4, 2, 1168, 2048]⟩ : Shape).Idx, (Layout.block ⟨4, ![4, 2, 1168, 2048]⟩ ⟨4, ![32, 2, 1168, 2048]⟩ 0 8 c ((Cert.On_up_to_split.fn (F := Ideal) (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg1)) (m' (((0 : Dev Cert.ProjReferenceIdeal.nD).tc : Thread Cert.ProjReferenceIdeal.nD Cert.ProjReferenceIdeal.τ).loc Cert.ProjReferenceIdeal.main_arg2))).2) : (⟨4, ![4, 2, 1168, 2048]⟩ : Shape).Idx → _) i = 1#1 → r.2.mem ((c.tc : Thread Cert.ProjIdeal.nD Cert.ProjIdeal.τ).loc Cert.ProjIdeal.main_v1_1) i = (Layout.block ⟨4, ![4, 2, 1168, 2048]⟩ ⟨4, ![32, 2, 1168, 2048]⟩ 0 8 c v1 : (⟨4, ![4, 2, 1168, 2048]⟩ : Shape).Idx → _) i)
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r =>
          (∀ i : (⟨2, ![32768, 7168]⟩ : Shape).Idx, (Cert.On_up_to_split.fn (F := Ideal) (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg1)) (m' (((0 : Dev Cert.ProjReferenceIdeal.nD).tc : Thread Cert.ProjReferenceIdeal.nD Cert.ProjReferenceIdeal.τ).loc Cert.ProjReferenceIdeal.main_arg2))).1 i = 1#1 → r.2.mem (((0 : Dev Cert.ProjReferenceIdeal.nD).tc : Thread Cert.ProjReferenceIdeal.nD Cert.ProjReferenceIdeal.τ).loc Cert.ProjReferenceIdeal.main_v3) i = v0 i)
          ∧ (∀ i : (⟨4, ![32, 2, 1168, 2048]⟩ : Shape).Idx, (Cert.On_up_to_split.fn (F := Ideal) (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg1)) (m' (((0 : Dev Cert.ProjReferenceIdeal.nD).tc : Thread Cert.ProjReferenceIdeal.nD Cert.ProjReferenceIdeal.τ).loc Cert.ProjReferenceIdeal.main_arg2))).2 i = 1#1 → r.2.mem (((0 : Dev Cert.ProjReferenceIdeal.nD).tc : Thread Cert.ProjReferenceIdeal.nD Cert.ProjReferenceIdeal.τ).loc Cert.ProjReferenceIdeal.main_v4) i = v1 i)
          ∧ r.2.mem (((0 : Dev Cert.ProjReferenceIdeal.nD).tc : Thread Cert.ProjReferenceIdeal.nD Cert.ProjReferenceIdeal.τ).loc Cert.ProjReferenceIdeal.main_arg0) = m' (((0 : Dev Cert.ProjReferenceIdeal.nD).tc : Thread Cert.ProjReferenceIdeal.nD Cert.ProjReferenceIdeal.τ).loc Cert.ProjReferenceIdeal.main_arg0)
          ∧ r.2.mem (((0 : Dev Cert.ProjReferenceIdeal.nD).tc : Thread Cert.ProjReferenceIdeal.nD Cert.ProjReferenceIdeal.τ).loc Cert.ProjReferenceIdeal.main_arg1) = m' (((0 : Dev Cert.ProjReferenceIdeal.nD).tc : Thread Cert.ProjReferenceIdeal.nD Cert.ProjReferenceIdeal.τ).loc Cert.ProjReferenceIdeal.main_arg1)
          ∧ r.2.mem (((0 : Dev Cert.ProjReferenceIdeal.nD).tc : Thread Cert.ProjReferenceIdeal.nD Cert.ProjReferenceIdeal.τ).loc Cert.ProjReferenceIdeal.main_arg2) = m' (((0 : Dev Cert.ProjReferenceIdeal.nD).tc : Thread Cert.ProjReferenceIdeal.nD Cert.ProjReferenceIdeal.τ).loc Cert.ProjReferenceIdeal.main_arg2))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v9) = v0 c
          ∧ r.2.mem ((c.tc : Thread Cert.LossReferenceIdeal.nD Cert.LossReferenceIdeal.τ).loc Cert.LossReferenceIdeal.main_v10) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Sums_SumsIdeal : Prop :=
  True

def algebraic_SumsIdeal_SumsReferenceIdeal [hSumsIdeal : Cert.SumsIdeal.Facts] [hSumsReferenceIdeal : Cert.SumsReferenceIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsReferenceIdeal.nD Cert.SumsReferenceIdeal.τ Cert.SumsReferenceIdeal.sig) → Buf (Elt Ideal) ℓ) (g' : Dev Cert.SumsReferenceIdeal.nD → PrngReg), Pre_SumsIdeal m →
    (∀ c : Dev Cert.SumsIdeal.nD,
      m' ((c.tc : Thread Cert.SumsReferenceIdeal.nD Cert.SumsReferenceIdeal.τ).loc Cert.SumsReferenceIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v0)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsReferenceIdeal.defs (F := Ideal)) (onTc (τ := Cert.SumsReferenceIdeal.τ) (Cert.SumsReferenceIdeal.main (F := Ideal))) ⟨m', fun _ => 0, g'⟩ (fun r => ∀ c : Dev Cert.SumsReferenceIdeal.nD,
          r.2.mem ((c.tc : Thread Cert.SumsReferenceIdeal.nD Cert.SumsReferenceIdeal.τ).loc Cert.SumsReferenceIdeal.main_v1) = v0 c
          ∧ r.2.mem ((c.tc : Thread Cert.SumsReferenceIdeal.nD Cert.SumsReferenceIdeal.τ).loc Cert.SumsReferenceIdeal.main_arg0) = m' ((c.tc : Thread Cert.SumsReferenceIdeal.nD Cert.SumsReferenceIdeal.τ).loc Cert.SumsReferenceIdeal.main_arg0))

def preserves_WOut_WOutIdeal : Prop :=
  True

def algebraic_WOutIdeal_WOutReferenceIdeal [hWOutIdeal : Cert.WOutIdeal.Facts] [hWOutReferenceIdeal : Cert.WOutReferenceIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutIdeal m →
    (∀ c : Dev Cert.WOutIdeal.nD,
      m' ((c.tc : Thread Cert.WOutReferenceIdeal.nD Cert.WOutReferenceIdeal.τ).loc Cert.WOutReferenceIdeal.main_arg0) = m ((c.tc : Thread Cert.WOutIdeal.nD Cert.WOutIdeal.τ).loc Cert.WOutIdeal.main_arg0)
      ∧ m' ((c.tc : Thread Cert.WOutReferenceIdeal.nD Cert.WOutReferenceIdeal.τ).loc Cert.WOutReferenceIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v2) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1))

def preserves_WGate_WGateIdeal : Prop :=
  True

def algebraic_WGateIdeal_WGateReferenceIdeal [hWGateIdeal : Cert.WGateIdeal.Facts] [hWGateReferenceIdeal : Cert.WGateReferenceIdeal.Facts] : Prop :=
  ∀ (m : (ℓ : Loc Cert.WGateIdeal.nD Cert.WGateIdeal.τ Cert.WGateIdeal.sig) → Buf (Elt Ideal) ℓ) (g : Dev Cert.WGateIdeal.nD → PrngReg)
    (m' : (ℓ : Loc Cert.WGateReferenceIdeal.nD Cert.WGateReferenceIdeal.τ Cert.WGateReferenceIdeal.sig) → Buf (Elt Ideal) ℓ) (g' : Dev Cert.WGateReferenceIdeal.nD → PrngReg), Pre_WGateIdeal m →
    (∀ c : Dev Cert.WGateIdeal.nD,
      m' ((c.tc : Thread Cert.WGateReferenceIdeal.nD Cert.WGateReferenceIdeal.τ).loc Cert.WGateReferenceIdeal.main_arg0) = m ((c.tc : Thread Cert.WGateIdeal.nD Cert.WGateIdeal.τ).loc Cert.WGateIdeal.main_arg0)
      ∧ m' ((c.tc : Thread Cert.WGateReferenceIdeal.nD Cert.WGateReferenceIdeal.τ).loc Cert.WGateReferenceIdeal.main_arg1) = m ((c.tc : Thread Cert.WGateIdeal.nD Cert.WGateIdeal.τ).loc Cert.WGateIdeal.main_arg1)) →
    ∃ (v0 : (c : Dev Cert.WGateIdeal.nD) → Buf (Elt Ideal) ((c.tc : Thread Cert.WGateIdeal.nD Cert.WGateIdeal.τ).loc Cert.WGateIdeal.main_v0)),
      θ_run (Cert.WGateIdeal.defs (F := Ideal)) (onTc (τ := Cert.WGateIdeal.τ) (Cert.WGateIdeal.main (F := Ideal))) ⟨m, fun _ => 0, g⟩ (fun r => ∀ c : Dev Cert.WGateIdeal.nD,
          r.2.mem ((c.tc : Thread Cert.WGateIdeal.nD Cert.WGateIdeal.τ).loc Cert.WGateIdeal.main_v0) = v0 c
          ∧ r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
          ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ θ_run (Cert.WGateReferenceIdeal.defs (F := Ideal)) (onTc (τ := Cert.WGateReferenceIdeal.τ) (Cert.WGateReferenceIdeal.main (F := Ideal))) ⟨m', fun _ => 0, g'⟩ (fun r => ∀ c : Dev Cert.WGateReferenceIdeal.nD,
          r.2.mem ((c.tc : Thread Cert.WGateReferenceIdeal.nD Cert.WGateReferenceIdeal.τ).loc Cert.WGateReferenceIdeal.main_v1) = v0 c
          ∧ r.2.mem ((c.tc : Thread Cert.WGateReferenceIdeal.nD Cert.WGateReferenceIdeal.τ).loc Cert.WGateReferenceIdeal.main_arg0) = m' ((c.tc : Thread Cert.WGateReferenceIdeal.nD Cert.WGateReferenceIdeal.τ).loc Cert.WGateReferenceIdeal.main_arg0)
          ∧ r.2.mem ((c.tc : Thread Cert.WGateReferenceIdeal.nD Cert.WGateReferenceIdeal.τ).loc Cert.WGateReferenceIdeal.main_arg1) = m' ((c.tc : Thread Cert.WGateReferenceIdeal.nD Cert.WGateReferenceIdeal.τ).loc Cert.WGateReferenceIdeal.main_arg1))

def preserves_WMain_WMainIdeal : Prop :=
  True

def algebraic_WMainIdeal_WMainReferenceIdeal [hWMainIdeal : Cert.WMainIdeal.Facts] [hWMainReferenceIdeal : Cert.WMainReferenceIdeal.Facts] : Prop :=
  ∀ (m : (ℓ : Loc Cert.WMainIdeal.nD Cert.WMainIdeal.τ Cert.WMainIdeal.sig) → Buf (Elt Ideal) ℓ) (g : Dev Cert.WMainIdeal.nD → PrngReg)
    (m' : (ℓ : Loc Cert.WMainReferenceIdeal.nD Cert.WMainReferenceIdeal.τ Cert.WMainReferenceIdeal.sig) → Buf (Elt Ideal) ℓ) (g' : Dev Cert.WMainReferenceIdeal.nD → PrngReg), Pre_WMainIdeal m →
    (∀ c : Dev Cert.WMainIdeal.nD,
      m' ((c.tc : Thread Cert.WMainReferenceIdeal.nD Cert.WMainReferenceIdeal.τ).loc Cert.WMainReferenceIdeal.main_arg0) = m ((c.tc : Thread Cert.WMainIdeal.nD Cert.WMainIdeal.τ).loc Cert.WMainIdeal.main_arg0)
      ∧ m' ((c.tc : Thread Cert.WMainReferenceIdeal.nD Cert.WMainReferenceIdeal.τ).loc Cert.WMainReferenceIdeal.main_arg1) = m ((c.tc : Thread Cert.WMainIdeal.nD Cert.WMainIdeal.τ).loc Cert.WMainIdeal.main_arg1)) →
    ∃ (v0 : (c : Dev Cert.WMainIdeal.nD) → Buf (Elt Ideal) ((c.tc : Thread Cert.WMainIdeal.nD Cert.WMainIdeal.τ).loc Cert.WMainIdeal.main_v0)),
      θ_run (Cert.WMainIdeal.defs (F := Ideal)) (onTc (τ := Cert.WMainIdeal.τ) (Cert.WMainIdeal.main (F := Ideal))) ⟨m, fun _ => 0, g⟩ (fun r => ∀ c : Dev Cert.WMainIdeal.nD,
          r.2.mem ((c.tc : Thread Cert.WMainIdeal.nD Cert.WMainIdeal.τ).loc Cert.WMainIdeal.main_v0) = v0 c
          ∧ r.2.mem ((c.tc : Thread Cert.WMainIdeal.nD Cert.WMainIdeal.τ).loc Cert.WMainIdeal.main_arg0) = m ((c.tc : Thread Cert.WMainIdeal.nD Cert.WMainIdeal.τ).loc Cert.WMainIdeal.main_arg0)
          ∧ r.2.mem ((c.tc : Thread Cert.WMainIdeal.nD Cert.WMainIdeal.τ).loc Cert.WMainIdeal.main_arg1) = m ((c.tc : Thread Cert.WMainIdeal.nD Cert.WMainIdeal.τ).loc Cert.WMainIdeal.main_arg1))
      ∧ θ_run (Cert.WMainReferenceIdeal.defs (F := Ideal)) (onTc (τ := Cert.WMainReferenceIdeal.τ) (Cert.WMainReferenceIdeal.main (F := Ideal))) ⟨m', fun _ => 0, g'⟩ (fun r => ∀ c : Dev Cert.WMainReferenceIdeal.nD,
          r.2.mem ((c.tc : Thread Cert.WMainReferenceIdeal.nD Cert.WMainReferenceIdeal.τ).loc Cert.WMainReferenceIdeal.main_v3) = v0 c
          ∧ r.2.mem ((c.tc : Thread Cert.WMainReferenceIdeal.nD Cert.WMainReferenceIdeal.τ).loc Cert.WMainReferenceIdeal.main_arg0) = m' ((c.tc : Thread Cert.WMainReferenceIdeal.nD Cert.WMainReferenceIdeal.τ).loc Cert.WMainReferenceIdeal.main_arg0)
          ∧ r.2.mem ((c.tc : Thread Cert.WMainReferenceIdeal.nD Cert.WMainReferenceIdeal.τ).loc Cert.WMainReferenceIdeal.main_arg1) = m' ((c.tc : Thread Cert.WMainReferenceIdeal.nD Cert.WMainReferenceIdeal.τ).loc Cert.WMainReferenceIdeal.main_arg1))

def preserves_OutLn_OutLnIdeal : Prop :=
  True

def algebraic_OutLnIdeal_OutLnReferenceIdeal [hOutLnIdeal : Cert.OutLnIdeal.Facts] [hOutLnReferenceIdeal : Cert.OutLnReferenceIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnReferenceIdeal.nD Cert.OutLnReferenceIdeal.τ Cert.OutLnReferenceIdeal.sig) → Buf (Elt Ideal) ℓ) (g' : Dev Cert.OutLnReferenceIdeal.nD → PrngReg), Pre_OutLnIdeal m →
    (∀ c : Dev Cert.OutLnIdeal.nD,
      m' ((c.tc : Thread Cert.OutLnReferenceIdeal.nD Cert.OutLnReferenceIdeal.τ).loc Cert.OutLnReferenceIdeal.main_arg0) = m ((c.tc : Thread Cert.OutLnIdeal.nD Cert.OutLnIdeal.τ).loc Cert.OutLnIdeal.main_arg0)
      ∧ m' ((c.tc : Thread Cert.OutLnReferenceIdeal.nD Cert.OutLnReferenceIdeal.τ).loc Cert.OutLnReferenceIdeal.main_arg1) = m ((c.tc : Thread Cert.OutLnIdeal.nD Cert.OutLnIdeal.τ).loc Cert.OutLnIdeal.main_arg1)
      ∧ m' ((c.tc : Thread Cert.OutLnReferenceIdeal.nD Cert.OutLnReferenceIdeal.τ).loc Cert.OutLnReferenceIdeal.main_arg2) = m ((c.tc : Thread Cert.OutLnIdeal.nD Cert.OutLnIdeal.τ).loc Cert.OutLnIdeal.main_arg2)
      ∧ m' ((c.tc : Thread Cert.OutLnReferenceIdeal.nD Cert.OutLnReferenceIdeal.τ).loc Cert.OutLnReferenceIdeal.main_arg3) = m ((c.tc : Thread Cert.OutLnIdeal.nD Cert.OutLnIdeal.τ).loc Cert.OutLnIdeal.main_arg3)
      ∧ m' ((c.tc : Thread Cert.OutLnReferenceIdeal.nD Cert.OutLnReferenceIdeal.τ).loc Cert.OutLnReferenceIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v0_0)) (v1 : (c : Dev Cert.OutLnIdeal.nD) → Buf (Elt Ideal) ((c.tc : Thread Cert.OutLnIdeal.nD Cert.OutLnIdeal.τ).loc Cert.OutLnIdeal.main_v0_1)) (v2 : (c : Dev Cert.OutLnIdeal.nD) → Buf (Elt Ideal) ((c.tc : Thread Cert.OutLnIdeal.nD Cert.OutLnIdeal.τ).loc Cert.OutLnIdeal.main_v0_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v0_0) = v0 c
          ∧ r.2.mem ((c.tc : Thread Cert.OutLnIdeal.nD Cert.OutLnIdeal.τ).loc Cert.OutLnIdeal.main_v0_1) = v1 c
          ∧ r.2.mem ((c.tc : Thread Cert.OutLnIdeal.nD Cert.OutLnIdeal.τ).loc Cert.OutLnIdeal.main_v0_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnReferenceIdeal.defs (F := Ideal)) (onTc (τ := Cert.OutLnReferenceIdeal.τ) (Cert.OutLnReferenceIdeal.main (F := Ideal))) ⟨m', fun _ => 0, g'⟩ (fun r => ∀ c : Dev Cert.OutLnReferenceIdeal.nD,
          r.2.mem ((c.tc : Thread Cert.OutLnReferenceIdeal.nD Cert.OutLnReferenceIdeal.τ).loc Cert.OutLnReferenceIdeal.main_v25) = v0 c
          ∧ r.2.mem ((c.tc : Thread Cert.OutLnReferenceIdeal.nD Cert.OutLnReferenceIdeal.τ).loc Cert.OutLnReferenceIdeal.main_v26) = v1 c
          ∧ r.2.mem ((c.tc : Thread Cert.OutLnReferenceIdeal.nD Cert.OutLnReferenceIdeal.τ).loc Cert.OutLnReferenceIdeal.main_v3) = v2 c
          ∧ r.2.mem ((c.tc : Thread Cert.OutLnReferenceIdeal.nD Cert.OutLnReferenceIdeal.τ).loc Cert.OutLnReferenceIdeal.main_arg0) = m' ((c.tc : Thread Cert.OutLnReferenceIdeal.nD Cert.OutLnReferenceIdeal.τ).loc Cert.OutLnReferenceIdeal.main_arg0)
          ∧ r.2.mem ((c.tc : Thread Cert.OutLnReferenceIdeal.nD Cert.OutLnReferenceIdeal.τ).loc Cert.OutLnReferenceIdeal.main_arg1) = m' ((c.tc : Thread Cert.OutLnReferenceIdeal.nD Cert.OutLnReferenceIdeal.τ).loc Cert.OutLnReferenceIdeal.main_arg1)
          ∧ r.2.mem ((c.tc : Thread Cert.OutLnReferenceIdeal.nD Cert.OutLnReferenceIdeal.τ).loc Cert.OutLnReferenceIdeal.main_arg2) = m' ((c.tc : Thread Cert.OutLnReferenceIdeal.nD Cert.OutLnReferenceIdeal.τ).loc Cert.OutLnReferenceIdeal.main_arg2)
          ∧ r.2.mem ((c.tc : Thread Cert.OutLnReferenceIdeal.nD Cert.OutLnReferenceIdeal.τ).loc Cert.OutLnReferenceIdeal.main_arg3) = m' ((c.tc : Thread Cert.OutLnReferenceIdeal.nD Cert.OutLnReferenceIdeal.τ).loc Cert.OutLnReferenceIdeal.main_arg3)
          ∧ r.2.mem ((c.tc : Thread Cert.OutLnReferenceIdeal.nD Cert.OutLnReferenceIdeal.τ).loc Cert.OutLnReferenceIdeal.main_arg4) = m' ((c.tc : Thread Cert.OutLnReferenceIdeal.nD Cert.OutLnReferenceIdeal.τ).loc Cert.OutLnReferenceIdeal.main_arg4))

def preserves_ProjGate_ProjGateIdeal : Prop :=
  True

def algebraic_ProjGateIdeal_ProjGateReferenceIdeal [hProjGateIdeal : Cert.ProjGateIdeal.Facts] [hProjGateReferenceIdeal : Cert.ProjGateReferenceIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateReferenceIdeal.nD Cert.ProjGateReferenceIdeal.τ Cert.ProjGateReferenceIdeal.sig) → Buf (Elt Ideal) ℓ) (g' : Dev Cert.ProjGateReferenceIdeal.nD → PrngReg), Pre_ProjGateIdeal m →
    (∀ c : Dev Cert.ProjGateIdeal.nD,
      m' ((c.tc : Thread Cert.ProjGateReferenceIdeal.nD Cert.ProjGateReferenceIdeal.τ).loc Cert.ProjGateReferenceIdeal.main_arg0) = m ((c.tc : Thread Cert.ProjGateIdeal.nD Cert.ProjGateIdeal.τ).loc Cert.ProjGateIdeal.main_arg0)
      ∧ m' ((c.tc : Thread Cert.ProjGateReferenceIdeal.nD Cert.ProjGateReferenceIdeal.τ).loc Cert.ProjGateReferenceIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateReferenceIdeal.defs (F := Ideal)) (onTc (τ := Cert.ProjGateReferenceIdeal.τ) (Cert.ProjGateReferenceIdeal.main (F := Ideal))) ⟨m', fun _ => 0, g'⟩ (fun r => ∀ c : Dev Cert.ProjGateReferenceIdeal.nD,
          r.2.mem ((c.tc : Thread Cert.ProjGateReferenceIdeal.nD Cert.ProjGateReferenceIdeal.τ).loc Cert.ProjGateReferenceIdeal.main_v1) = v0 c
          ∧ r.2.mem ((c.tc : Thread Cert.ProjGateReferenceIdeal.nD Cert.ProjGateReferenceIdeal.τ).loc Cert.ProjGateReferenceIdeal.main_arg0) = m' ((c.tc : Thread Cert.ProjGateReferenceIdeal.nD Cert.ProjGateReferenceIdeal.τ).loc Cert.ProjGateReferenceIdeal.main_arg0)
          ∧ r.2.mem ((c.tc : Thread Cert.ProjGateReferenceIdeal.nD Cert.ProjGateReferenceIdeal.τ).loc Cert.ProjGateReferenceIdeal.main_arg1) = m' ((c.tc : Thread Cert.ProjGateReferenceIdeal.nD Cert.ProjGateReferenceIdeal.τ).loc Cert.ProjGateReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v2) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_ProjLast_ProjLastIdeal : Prop :=
  True

def algebraic_ProjLastIdeal_ProjLastReferenceIdeal [hProjLastIdeal : Cert.ProjLastIdeal.Facts] [hProjLastReferenceIdeal : Cert.ProjLastReferenceIdeal.Facts] : Prop :=
  ∀ (m : (ℓ : Loc Cert.ProjLastIdeal.nD Cert.ProjLastIdeal.τ Cert.ProjLastIdeal.sig) → Buf (Elt Ideal) ℓ) (g : Dev Cert.ProjLastIdeal.nD → PrngReg)
    (m' : (ℓ : Loc Cert.ProjLastReferenceIdeal.nD Cert.ProjLastReferenceIdeal.τ Cert.ProjLastReferenceIdeal.sig) → Buf (Elt Ideal) ℓ) (g' : Dev Cert.ProjLastReferenceIdeal.nD → PrngReg), Pre_ProjLastIdeal m →
    (∀ c : Dev Cert.ProjLastIdeal.nD,
      m' ((c.tc : Thread Cert.ProjLastReferenceIdeal.nD Cert.ProjLastReferenceIdeal.τ).loc Cert.ProjLastReferenceIdeal.main_arg0) = m ((c.tc : Thread Cert.ProjLastIdeal.nD Cert.ProjLastIdeal.τ).loc Cert.ProjLastIdeal.main_arg0)
      ∧ m' ((c.tc : Thread Cert.ProjLastReferenceIdeal.nD Cert.ProjLastReferenceIdeal.τ).loc Cert.ProjLastReferenceIdeal.main_arg1) = m ((c.tc : Thread Cert.ProjLastIdeal.nD Cert.ProjLastIdeal.τ).loc Cert.ProjLastIdeal.main_arg1)) →
    ∃ (v0 : (c : Dev Cert.ProjLastIdeal.nD) → Buf (Elt Ideal) ((c.tc : Thread Cert.ProjLastIdeal.nD Cert.ProjLastIdeal.τ).loc Cert.ProjLastIdeal.main_v0)),
      θ_run (Cert.ProjLastIdeal.defs (F := Ideal)) (onTc (τ := Cert.ProjLastIdeal.τ) (Cert.ProjLastIdeal.main (F := Ideal))) ⟨m, fun _ => 0, g⟩ (fun r => ∀ c : Dev Cert.ProjLastIdeal.nD,
          r.2.mem ((c.tc : Thread Cert.ProjLastIdeal.nD Cert.ProjLastIdeal.τ).loc Cert.ProjLastIdeal.main_v0) = v0 c
          ∧ r.2.mem ((c.tc : Thread Cert.ProjLastIdeal.nD Cert.ProjLastIdeal.τ).loc Cert.ProjLastIdeal.main_arg0) = m ((c.tc : Thread Cert.ProjLastIdeal.nD Cert.ProjLastIdeal.τ).loc Cert.ProjLastIdeal.main_arg0)
          ∧ r.2.mem ((c.tc : Thread Cert.ProjLastIdeal.nD Cert.ProjLastIdeal.τ).loc Cert.ProjLastIdeal.main_arg1) = m ((c.tc : Thread Cert.ProjLastIdeal.nD Cert.ProjLastIdeal.τ).loc Cert.ProjLastIdeal.main_arg1))
      ∧ θ_run (Cert.ProjLastReferenceIdeal.defs (F := Ideal)) (onTc (τ := Cert.ProjLastReferenceIdeal.τ) (Cert.ProjLastReferenceIdeal.main (F := Ideal))) ⟨m', fun _ => 0, g'⟩ (fun r => ∀ c : Dev Cert.ProjLastReferenceIdeal.nD,
          r.2.mem ((c.tc : Thread Cert.ProjLastReferenceIdeal.nD Cert.ProjLastReferenceIdeal.τ).loc Cert.ProjLastReferenceIdeal.main_v3) = v0 c
          ∧ r.2.mem ((c.tc : Thread Cert.ProjLastReferenceIdeal.nD Cert.ProjLastReferenceIdeal.τ).loc Cert.ProjLastReferenceIdeal.main_arg0) = m' ((c.tc : Thread Cert.ProjLastReferenceIdeal.nD Cert.ProjLastReferenceIdeal.τ).loc Cert.ProjLastReferenceIdeal.main_arg0)
          ∧ r.2.mem ((c.tc : Thread Cert.ProjLastReferenceIdeal.nD Cert.ProjLastReferenceIdeal.τ).loc Cert.ProjLastReferenceIdeal.main_arg1) = m' ((c.tc : Thread Cert.ProjLastReferenceIdeal.nD Cert.ProjLastReferenceIdeal.τ).loc Cert.ProjLastReferenceIdeal.main_arg1))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)
      ∧ m' ((c.tc : Thread Cert.InGradReferenceIdeal.nD Cert.InGradReferenceIdeal.τ).loc Cert.InGradReferenceIdeal.main_arg2) = m ((c.tc : Thread Cert.InGradIdeal.nD Cert.InGradIdeal.τ).loc Cert.InGradIdeal.main_arg2)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v3) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1)
          ∧ r.2.mem ((c.tc : Thread Cert.InGradReferenceIdeal.nD Cert.InGradReferenceIdeal.τ).loc Cert.InGradReferenceIdeal.main_arg2) = m' ((c.tc : Thread Cert.InGradReferenceIdeal.nD Cert.InGradReferenceIdeal.τ).loc Cert.InGradReferenceIdeal.main_arg2))

def Claim : Prop :=
  ∃ (hKernel : Cert.Kernel.Facts) (hKernelIdeal : Cert.KernelIdeal.Facts) (hReferenceIdeal : Cert.ReferenceIdeal.Facts) (hLnSwap : Cert.LnSwap.Facts) (hLnSwapIdeal : Cert.LnSwapIdeal.Facts) (hLnReferenceIdeal : Cert.LnReferenceIdeal.Facts) (hAttn : Cert.Attn.Facts) (hAttnIdeal : Cert.AttnIdeal.Facts) (hAttnReferenceIdeal : Cert.AttnReferenceIdeal.Facts) (hSwap : Cert.Swap.Facts) (hSwapIdeal : Cert.SwapIdeal.Facts) (hSwapReferenceIdeal : Cert.SwapReferenceIdeal.Facts) (hSwapReference : Cert.SwapReference.Facts) (hStepIn : Cert.StepIn.Facts) (hStepInIdeal : Cert.StepInIdeal.Facts) (hStepInReferenceIdeal : Cert.StepInReferenceIdeal.Facts) (hStepOut : Cert.StepOut.Facts) (hStepOutIdeal : Cert.StepOutIdeal.Facts) (hStepOutReferenceIdeal : Cert.StepOutReferenceIdeal.Facts) (hStepSmall : Cert.StepSmall.Facts) (hStepSmallIdeal : Cert.StepSmallIdeal.Facts) (hStepSmallReferenceIdeal : Cert.StepSmallReferenceIdeal.Facts) (hGather : Cert.Gather.Facts) (hGatherIdeal : Cert.GatherIdeal.Facts) (hGatherReferenceIdeal : Cert.GatherReferenceIdeal.Facts) (hGatherReference : Cert.GatherReference.Facts) (hProj : Cert.Proj.Facts) (hProjIdeal : Cert.ProjIdeal.Facts) (hProjReferenceIdeal : Cert.ProjReferenceIdeal.Facts) (hLoss : Cert.Loss.Facts) (hLossIdeal : Cert.LossIdeal.Facts) (hLossReferenceIdeal : Cert.LossReferenceIdeal.Facts) (hSums : Cert.Sums.Facts) (hSumsIdeal : Cert.SumsIdeal.Facts) (hSumsReferenceIdeal : Cert.SumsReferenceIdeal.Facts) (hWOut : Cert.WOut.Facts) (hWOutIdeal : Cert.WOutIdeal.Facts) (hWOutReferenceIdeal : Cert.WOutReferenceIdeal.Facts) (hWGate : Cert.WGate.Facts) (hWGateIdeal : Cert.WGateIdeal.Facts) (hWGateReferenceIdeal : Cert.WGateReferenceIdeal.Facts) (hWMain : Cert.WMain.Facts) (hWMainIdeal : Cert.WMainIdeal.Facts) (hWMainReferenceIdeal : Cert.WMainReferenceIdeal.Facts) (hOutLn : Cert.OutLn.Facts) (hOutLnIdeal : Cert.OutLnIdeal.Facts) (hOutLnReferenceIdeal : Cert.OutLnReferenceIdeal.Facts) (hProjGate : Cert.ProjGate.Facts) (hProjGateIdeal : Cert.ProjGateIdeal.Facts) (hProjGateReferenceIdeal : Cert.ProjGateReferenceIdeal.Facts) (hOutGrad : Cert.OutGrad.Facts) (hOutGradIdeal : Cert.OutGradIdeal.Facts) (hOutGradReferenceIdeal : Cert.OutGradReferenceIdeal.Facts) (hProjLast : Cert.ProjLast.Facts) (hProjLastIdeal : Cert.ProjLastIdeal.Facts) (hProjLastReferenceIdeal : Cert.ProjLastReferenceIdeal.Facts) (hInGrad : Cert.InGrad.Facts) (hInGradIdeal : Cert.InGradIdeal.Facts) (hInGradReferenceIdeal : Cert.InGradReferenceIdeal.Facts) (hOn_from_others : Cert.On_from_others.Facts) (hOn_up_to_split : Cert.On_up_to_split.Facts),
    quiescent_Kernel (hKernel := hKernel)
    ∧ quiescent_KernelIdeal (hKernelIdeal := hKernelIdeal)
    ∧ quiescent_ReferenceIdeal (hReferenceIdeal := hReferenceIdeal)
    ∧ quiescent_LnSwap (hLnSwap := hLnSwap)
    ∧ quiescent_LnSwapIdeal (hLnSwapIdeal := hLnSwapIdeal)
    ∧ quiescent_LnReferenceIdeal (hLnReferenceIdeal := hLnReferenceIdeal)
    ∧ quiescent_Attn (hAttn := hAttn)
    ∧ quiescent_AttnIdeal (hAttnIdeal := hAttnIdeal)
    ∧ quiescent_AttnReferenceIdeal (hAttnReferenceIdeal := hAttnReferenceIdeal)
    ∧ quiescent_Swap (hSwap := hSwap)
    ∧ quiescent_SwapIdeal (hSwapIdeal := hSwapIdeal)
    ∧ quiescent_SwapReferenceIdeal (hSwapReferenceIdeal := hSwapReferenceIdeal)
    ∧ quiescent_SwapReference (hSwapReference := hSwapReference)
    ∧ quiescent_StepIn (hStepIn := hStepIn)
    ∧ quiescent_StepInIdeal (hStepInIdeal := hStepInIdeal)
    ∧ quiescent_StepInReferenceIdeal (hStepInReferenceIdeal := hStepInReferenceIdeal)
    ∧ quiescent_StepOut (hStepOut := hStepOut)
    ∧ quiescent_StepOutIdeal (hStepOutIdeal := hStepOutIdeal)
    ∧ quiescent_StepOutReferenceIdeal (hStepOutReferenceIdeal := hStepOutReferenceIdeal)
    ∧ quiescent_StepSmall (hStepSmall := hStepSmall)
    ∧ quiescent_StepSmallIdeal (hStepSmallIdeal := hStepSmallIdeal)
    ∧ quiescent_StepSmallReferenceIdeal (hStepSmallReferenceIdeal := hStepSmallReferenceIdeal)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Proj (hProj := hProj)
    ∧ quiescent_ProjIdeal (hProjIdeal := hProjIdeal)
    ∧ quiescent_ProjReferenceIdeal (hProjReferenceIdeal := hProjReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Sums (hSums := hSums)
    ∧ quiescent_SumsIdeal (hSumsIdeal := hSumsIdeal)
    ∧ quiescent_SumsReferenceIdeal (hSumsReferenceIdeal := hSumsReferenceIdeal)
    ∧ quiescent_WOut (hWOut := hWOut)
    ∧ quiescent_WOutIdeal (hWOutIdeal := hWOutIdeal)
    ∧ quiescent_WOutReferenceIdeal (hWOutReferenceIdeal := hWOutReferenceIdeal)
    ∧ quiescent_WGate (hWGate := hWGate)
    ∧ quiescent_WGateIdeal (hWGateIdeal := hWGateIdeal)
    ∧ quiescent_WGateReferenceIdeal (hWGateReferenceIdeal := hWGateReferenceIdeal)
    ∧ quiescent_WMain (hWMain := hWMain)
    ∧ quiescent_WMainIdeal (hWMainIdeal := hWMainIdeal)
    ∧ quiescent_WMainReferenceIdeal (hWMainReferenceIdeal := hWMainReferenceIdeal)
    ∧ quiescent_OutLn (hOutLn := hOutLn)
    ∧ quiescent_OutLnIdeal (hOutLnIdeal := hOutLnIdeal)
    ∧ quiescent_OutLnReferenceIdeal (hOutLnReferenceIdeal := hOutLnReferenceIdeal)
    ∧ quiescent_ProjGate (hProjGate := hProjGate)
    ∧ quiescent_ProjGateIdeal (hProjGateIdeal := hProjGateIdeal)
    ∧ quiescent_ProjGateReferenceIdeal (hProjGateReferenceIdeal := hProjGateReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_ProjLast (hProjLast := hProjLast)
    ∧ quiescent_ProjLastIdeal (hProjLastIdeal := hProjLastIdeal)
    ∧ quiescent_ProjLastReferenceIdeal (hProjLastReferenceIdeal := hProjLastReferenceIdeal)
    ∧ quiescent_InGrad (hInGrad := hInGrad)
    ∧ quiescent_InGradIdeal (hInGradIdeal := hInGradIdeal)
    ∧ quiescent_InGradReferenceIdeal (hInGradReferenceIdeal := hInGradReferenceIdeal)
    ∧ preserves_Kernel_KernelIdeal
    ∧ algebraic_KernelIdeal_ReferenceIdeal (hKernelIdeal := hKernelIdeal) (hReferenceIdeal := hReferenceIdeal)
    ∧ preserves_LnSwap_LnSwapIdeal
    ∧ algebraic_LnSwapIdeal_LnReferenceIdeal (hLnSwapIdeal := hLnSwapIdeal) (hLnReferenceIdeal := hLnReferenceIdeal)
    ∧ preserves_Attn_AttnIdeal
    ∧ algebraic_AttnIdeal_AttnReferenceIdeal (hAttnIdeal := hAttnIdeal) (hAttnReferenceIdeal := hAttnReferenceIdeal)
    ∧ preserves_Swap_SwapIdeal
    ∧ algebraic_SwapIdeal_SwapReferenceIdeal (hSwapIdeal := hSwapIdeal) (hSwapReferenceIdeal := hSwapReferenceIdeal)
    ∧ bitexact_Swap_SwapReference (hSwap := hSwap) (hSwapReference := hSwapReference)
    ∧ preserves_StepIn_StepInIdeal
    ∧ algebraic_StepInIdeal_StepInReferenceIdeal (hStepInIdeal := hStepInIdeal) (hStepInReferenceIdeal := hStepInReferenceIdeal)
    ∧ preserves_StepOut_StepOutIdeal
    ∧ algebraic_StepOutIdeal_StepOutReferenceIdeal (hStepOutIdeal := hStepOutIdeal) (hStepOutReferenceIdeal := hStepOutReferenceIdeal)
    ∧ preserves_StepSmall_StepSmallIdeal
    ∧ algebraic_StepSmallIdeal_StepSmallReferenceIdeal (hStepSmallIdeal := hStepSmallIdeal) (hStepSmallReferenceIdeal := hStepSmallReferenceIdeal)
    ∧ preserves_Gather_GatherIdeal
    ∧ algebraic_GatherIdeal_GatherReferenceIdeal_on_from_others (hGatherIdeal := hGatherIdeal) (hGatherReferenceIdeal := hGatherReferenceIdeal) (hOn_from_others := hOn_from_others)
    ∧ bitexact_Gather_GatherReference_on_from_others (hGather := hGather) (hGatherReference := hGatherReference) (hOn_from_others := hOn_from_others)
    ∧ preserves_Proj_ProjIdeal
    ∧ algebraic_ProjIdeal_ProjReferenceIdeal_on_up_to_split (hProjIdeal := hProjIdeal) (hProjReferenceIdeal := hProjReferenceIdeal) (hOn_up_to_split := hOn_up_to_split)
    ∧ preserves_Loss_LossIdeal
    ∧ algebraic_LossIdeal_LossReferenceIdeal (hLossIdeal := hLossIdeal) (hLossReferenceIdeal := hLossReferenceIdeal)
    ∧ preserves_Sums_SumsIdeal
    ∧ algebraic_SumsIdeal_SumsReferenceIdeal (hSumsIdeal := hSumsIdeal) (hSumsReferenceIdeal := hSumsReferenceIdeal)
    ∧ preserves_WOut_WOutIdeal
    ∧ algebraic_WOutIdeal_WOutReferenceIdeal (hWOutIdeal := hWOutIdeal) (hWOutReferenceIdeal := hWOutReferenceIdeal)
    ∧ preserves_WGate_WGateIdeal
    ∧ algebraic_WGateIdeal_WGateReferenceIdeal (hWGateIdeal := hWGateIdeal) (hWGateReferenceIdeal := hWGateReferenceIdeal)
    ∧ preserves_WMain_WMainIdeal
    ∧ algebraic_WMainIdeal_WMainReferenceIdeal (hWMainIdeal := hWMainIdeal) (hWMainReferenceIdeal := hWMainReferenceIdeal)
    ∧ preserves_OutLn_OutLnIdeal
    ∧ algebraic_OutLnIdeal_OutLnReferenceIdeal (hOutLnIdeal := hOutLnIdeal) (hOutLnReferenceIdeal := hOutLnReferenceIdeal)
    ∧ preserves_ProjGate_ProjGateIdeal
    ∧ algebraic_ProjGateIdeal_ProjGateReferenceIdeal (hProjGateIdeal := hProjGateIdeal) (hProjGateReferenceIdeal := hProjGateReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_ProjLast_ProjLastIdeal
    ∧ algebraic_ProjLastIdeal_ProjLastReferenceIdeal (hProjLastIdeal := hProjLastIdeal) (hProjLastReferenceIdeal := hProjLastReferenceIdeal)
    ∧ preserves_InGrad_InGradIdeal
    ∧ algebraic_InGradIdeal_InGradReferenceIdeal (hInGradIdeal := hInGradIdeal) (hInGradReferenceIdeal := hInGradReferenceIdeal)
-- ==== On_from_others.lean ====
abbrev S4x2x1168x2048 : Shape := ⟨4, ![4, 2, 1168, 2048]⟩
abbrev S32x2x1168x2048 : Shape := ⟨4, ![32, 2, 1168, 2048]⟩
abbrev S_ : Shape := ⟨0, ![]⟩

class Facts : Prop where
  bcast_S_S32x2x1168x2048 : S_.BroadcastsInDim S32x2x1168x2048 (![] : Fin 0 → Fin S32x2x1168x2048.rank)

variable [Facts]

def fn {F : FTy → Type} [FloatOps F] (main_arg0 : FVec F S4x2x1168x2048 .bf16) : IVec S32x2x1168x2048 1 :=
  let main_v0 : IVec S32x2x1168x2048 32 := iotaInDim S32x2x1168x2048 32 0
  let main_v1 : IVec S32x2x1168x2048 32 := iotaInDim S32x2x1168x2048 32 1
  let main_c : IVec S_ 32 := constantI S_ 32 3#32
  let main_v2 : IVec S32x2x1168x2048 32 := broadcastInDim S32x2x1168x2048 ![] bcast_S_S32x2x1168x2048 main_c
  let main_v3 : IVec S32x2x1168x2048 32 := andi main_v0 main_v2
  let main_c_0 : IVec S_ 32 := constantI S_ 32 3#32
  let main_v4 : IVec S32x2x1168x2048 32 := broadcastInDim S32x2x1168x2048 ![] bcast_S_S32x2x1168x2048 main_c_0
  let main_v5 : IVec S32x2x1168x2048 32 := Host.shrui main_v0 main_v4
  let main_v6 : IVec S32x2x1168x2048 1 := cmpi .ne main_v3 main_v5
  let main_c_1 : IVec S_ 32 := constantI S_ 32 2#32
  let main_v7 : IVec S32x2x1168x2048 32 := broadcastInDim S32x2x1168x2048 ![] bcast_S_S32x2x1168x2048 main_c_1
  let main_v8 : IVec S32x2x1168x2048 32 := Host.shrui main_v0 main_v7
  let main_c_2 : IVec S_ 32 := constantI S_ 32 1#32
  let main_v9 : IVec S32x2x1168x2048 32 := broadcastInDim S32x2x1168x2048 ![] bcast_S_S32x2x1168x2048 main_c_2
  let main_v10 : IVec S32x2x1168x2048 32 := andi main_v8 main_v9
  let main_v11 : IVec S32x2x1168x2048 1 := cmpi .eq main_v10 main_v1
  let main_v12 : IVec S32x2x1168x2048 1 := andi main_v6 main_v11
  main_v12
-- ==== On_up_to_split.lean ====
abbrev S32768x2048 : Shape := ⟨2, ![32768, 2048]⟩
abbrev S7296x2048 : Shape := ⟨2, ![7296, 2048]⟩
abbrev S4x2x1168x2048 : Shape := ⟨4, ![4, 2, 1168, 2048]⟩
abbrev S32x2x1168x2048 : Shape := ⟨4, ![32, 2, 1168, 2048]⟩
abbrev S_ : Shape := ⟨0, ![]⟩
abbrev S32768x7168 : Shape := ⟨2, ![32768, 7168]⟩

class Facts : Prop where
  bcast_S_S32x2x1168x2048 : S_.BroadcastsInDim S32x2x1168x2048 (![] : Fin 0 → Fin S32x2x1168x2048.rank)
  bcast_S_S32768x7168 : S_.BroadcastsInDim S32768x7168 (![] : Fin 0 → Fin S32768x7168.rank)

variable [Facts]

def fn {F : FTy → Type} [FloatOps F] (main_arg0 : FVec F S32768x2048 .bf16) (main_arg1 : FVec F S7296x2048 .bf16) (main_arg2 : FVec F S4x2x1168x2048 .bf16) : IVec S32768x7168 1 × IVec S32x2x1168x2048 1 :=
  let main_v0 : IVec S32x2x1168x2048 32 := iotaInDim S32x2x1168x2048 32 2
  let main_c : IVec S_ 32 := constantI S_ 32 464#32
  let main_v1 : IVec S32x2x1168x2048 32 := broadcastInDim S32x2x1168x2048 ![] bcast_S_S32x2x1168x2048 main_c
  let main_v2 : IVec S32x2x1168x2048 1 := cmpi .slt main_v0 main_v1
  let main_c_0 : IVec S_ 1 := constantI S_ 1 1#1
  let main_v3 : IVec S32768x7168 1 := broadcastInDim S32768x7168 ![] bcast_S_S32768x7168 main_c_0
  let main_v4 : IVec S32x2x1168x2048 32 := iotaInDim S32x2x1168x2048 32 0
  let main_v5 : IVec S32x2x1168x2048 32 := iotaInDim S32x2x1168x2048 32 1
  let main_c_1 : IVec S_ 32 := constantI S_ 32 3#32
  let main_v6 : IVec S32x2x1168x2048 32 := broadcastInDim S32x2x1168x2048 ![] bcast_S_S32x2x1168x2048 main_c_1
  let main_v7 : IVec S32x2x1168x2048 32 := andi main_v4 main_v6
  let main_c_2 : IVec S_ 32 := constantI S_ 32 3#32
  let main_v8 : IVec S32x2x1168x2048 32 := broadcastInDim S32x2x1168x2048 ![] bcast_S_S32x2x1168x2048 main_c_2
  let main_v9 : IVec S32x2x1168x2048 32 := Host.shrui main_v4 main_v8
  let main_v10 : IVec S32x2x1168x2048 1 := cmpi .ne main_v7 main_v9
  let main_c_3 : IVec S_ 32 := constantI S_ 32 2#32
  let main_v11 : IVec S32x2x1168x2048 32 := broadcastInDim S32x2x1168x2048 ![] bcast_S_S32x2x1168x2048 main_c_3
  let main_v12 : IVec S32x2x1168x2048 32 := Host.shrui main_v4 main_v11
  let main_c_4 : IVec S_ 32 := constantI S_ 32 1#32
  let main_v13 : IVec S32x2x1168x2048 32 := broadcastInDim S32x2x1168x2048 ![] bcast_S_S32x2x1168x2048 main_c_4
  let main_v14 : IVec S32x2x1168x2048 32 := andi main_v12 main_v13
  let main_v15 : IVec S32x2x1168x2048 1 := cmpi .eq main_v14 main_v5
  let main_v16 : IVec S32x2x1168x2048 1 := andi main_v10 main_v15
  let main_v17 : IVec S32x2x1168x2048 1 := andi main_v16 main_v2
  (main_v3, main_v17)
-- ==== Kernel.lean ====
abbrev S4096x7296 : Shape := ⟨2, ![4096, 7296]⟩
abbrev S7296x2048 : Shape := ⟨2, ![7296, 2048]⟩
abbrev S4096x2048 : Shape := ⟨2, ![4096, 2048]⟩
abbrev S4x1x1168x2048 : Shape := ⟨4, ![4, 1, 1168, 2048]⟩
abbrev S3x1x1168x2048 : Shape := ⟨4, ![3, 1, 1168, 2048]⟩
abbrev S1024x2432 : Shape := ⟨2, ![1024, 2432]⟩
abbrev S2432x1024 : Shape := ⟨2, ![2432, 1024]⟩
abbrev S1024x1024 : Shape := ⟨2, ![1024, 1024]⟩
abbrev S3 : Shape := ⟨1, ![3]⟩
abbrev S1 : Shape := ⟨1, ![1]⟩
abbrev S_ : Shape := ⟨0, ![]⟩
abbrev S1x1x1168x2048 : Shape := ⟨4, ![1, 1, 1168, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x7296, .bf16⟩
  | .hbm, ⟨1, _⟩ => ⟨S7296x2048, .bf16⟩
  | .hbm, ⟨2, _⟩ => ⟨S4096x2048, .f32⟩
  | .hbm, ⟨3, _⟩ => ⟨S4x1x1168x2048, .bf16⟩
  | .hbm, ⟨4, _⟩ => ⟨S4096x2048, .f32⟩
  | .hbm, ⟨5, _⟩ => ⟨S3x1x1168x2048, .bf16⟩
  | .local _ .vmem, ⟨0, _⟩ => ⟨S1024x2432, .bf16⟩
  | .local _ .vmem, ⟨1, _⟩ => ⟨S1024x2432, .bf16⟩
  | .local _ .vmem, ⟨2, _⟩ => ⟨S2432x1024, .bf16⟩
  | .local _ .vmem, ⟨3, _⟩ => ⟨S2432x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 8
abbrev τ : Topo := Topo.v7x

variable {F : FTy → Type} [FloatOps F]

abbrev grid0 : Pipeline.Grid := ⟨3, ![4, 2, 3], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v0 v2
  let arg2 : BitVec 32 := BitVec.ofNat 32 (i 2).val
  let c0_i32_1 : BitVec 32 := 0#32
  let v6 : BitVec 1 := Scalar.cmpi .eq arg2 c0_i32_1
  let v7 : BitVec 1 := Scalar.andi v3 v6
  let v10 : BitVec 32 := Scalar.extui v7
  let c0_i32_2 : BitVec 32 := 0#32
  let v11 : BitVec 1 := Scalar.cmpi .ne v10 c0_i32_2
  v11

def k0_off1 (d30 : Dev nD) : Fin 4 → Nat :=
  let c2_i32_23 : BitVec 32 := 2#32
  let c1_i32_19 : BitVec 32 := 1#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let v39 : BitVec 32 := Scalar.subi c1_i32_19 v32
  let v43 : BitVec 32 := Scalar.muli c2_i32_23 v39
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v44 : BitVec 32 := Scalar.addi v43 v35
  let c0_i32_36 : BitVec 32 := 0#32
  let c0_i32_37 : BitVec 32 := 0#32
  let c0_i32_38 : BitVec 32 := 0#32
  ![v44.toNat, 0, 0, 0]
def k0_dev1 (d30 : Dev nD) : Nat :=
  let c0_i32_29 : BitVec 32 := 0#32
  let c1_i32_19 : BitVec 32 := 1#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let v39 : BitVec 32 := Scalar.subi c1_i32_19 v32
  let c4_i32_28 : BitVec 32 := 4#32
  let v49 : BitVec 32 := Scalar.muli v39 c4_i32_28
  let v50 : BitVec 32 := Scalar.addi c0_i32_29 v49
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let c2_i32_30 : BitVec 32 := 2#32
  let v51 : BitVec 32 := Scalar.muli v35 c2_i32_30
  let v52 : BitVec 32 := Scalar.addi v50 v51
  let v36 : BitVec 32 := Dev.word d30
  let c1_i32_18 : BitVec 32 := 1#32
  let v37 : BitVec 32 := Scalar.divsi v36 c1_i32_18
  let c2_i32_17 : BitVec 32 := 2#32
  let v38 : BitVec 32 := Scalar.remsi v37 c2_i32_17
  let c1_i32_31 : BitVec 32 := 1#32
  let v53 : BitVec 32 := Scalar.muli v38 c1_i32_31
  let v54 : BitVec 32 := Scalar.addi v52 v53
  v54.toNat
def k0_off2 (d30 : Dev nD) : Fin 4 → Nat :=
  let c2_i32_24 : BitVec 32 := 2#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let v45 : BitVec 32 := Scalar.muli c2_i32_24 v32
  let c1_i32_20 : BitVec 32 := 1#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v40 : BitVec 32 := Scalar.subi c1_i32_20 v35
  let v46 : BitVec 32 := Scalar.addi v45 v40
  let c0_i32_49 : BitVec 32 := 0#32
  let c0_i32_50 : BitVec 32 := 0#32
  let c0_i32_51 : BitVec 32 := 0#32
  ![v46.toNat, 0, 0, 0]
def k0_dev2 (d30 : Dev nD) : Nat :=
  let c0_i32_42 : BitVec 32 := 0#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let c4_i32_41 : BitVec 32 := 4#32
  let v61 : BitVec 32 := Scalar.muli v32 c4_i32_41
  let v62 : BitVec 32 := Scalar.addi c0_i32_42 v61
  let c1_i32_20 : BitVec 32 := 1#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v40 : BitVec 32 := Scalar.subi c1_i32_20 v35
  let c2_i32_43 : BitVec 32 := 2#32
  let v63 : BitVec 32 := Scalar.muli v40 c2_i32_43
  let v64 : BitVec 32 := Scalar.addi v62 v63
  let v36 : BitVec 32 := Dev.word d30
  let c1_i32_18 : BitVec 32 := 1#32
  let v37 : BitVec 32 := Scalar.divsi v36 c1_i32_18
  let c2_i32_17 : BitVec 32 := 2#32
  let v38 : BitVec 32 := Scalar.remsi v37 c2_i32_17
  let c1_i32_44 : BitVec 32 := 1#32
  let v65 : BitVec 32 := Scalar.muli v38 c1_i32_44
  let v66 : BitVec 32 := Scalar.addi v64 v65
  v66.toNat
def k0_off3 (d30 : Dev nD) : Fin 4 → Nat :=
  let c2_i32_25 : BitVec 32 := 2#32
  let c1_i32_21 : BitVec 32 := 1#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let v41 : BitVec 32 := Scalar.subi c1_i32_21 v32
  let v47 : BitVec 32 := Scalar.muli c2_i32_25 v41
  let c1_i32_22 : BitVec 32 := 1#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v42 : BitVec 32 := Scalar.subi c1_i32_22 v35
  let v48 : BitVec 32 := Scalar.addi v47 v42
  let c0_i32_62 : BitVec 32 := 0#32
  let c0_i32_63 : BitVec 32 := 0#32
  let c0_i32_64 : BitVec 32 := 0#32
  ![v48.toNat, 0, 0, 0]
def k0_dev3 (d30 : Dev nD) : Nat :=
  let c0_i32_55 : BitVec 32 := 0#32
  let c1_i32_21 : BitVec 32 := 1#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let v41 : BitVec 32 := Scalar.subi c1_i32_21 v32
  let c4_i32_54 : BitVec 32 := 4#32
  let v73 : BitVec 32 := Scalar.muli v41 c4_i32_54
  let v74 : BitVec 32 := Scalar.addi c0_i32_55 v73
  let c1_i32_22 : BitVec 32 := 1#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v42 : BitVec 32 := Scalar.subi c1_i32_22 v35
  let c2_i32_56 : BitVec 32 := 2#32
  let v75 : BitVec 32 := Scalar.muli v42 c2_i32_56
  let v76 : BitVec 32 := Scalar.addi v74 v75
  let v36 : BitVec 32 := Dev.word d30
  let c1_i32_18 : BitVec 32 := 1#32
  let v37 : BitVec 32 := Scalar.divsi v36 c1_i32_18
  let c2_i32_17 : BitVec 32 := 2#32
  let v38 : BitVec 32 := Scalar.remsi v37 c2_i32_17
  let c1_i32_57 : BitVec 32 := 1#32
  let v77 : BitVec 32 := Scalar.muli v38 c1_i32_57
  let v78 : BitVec 32 := Scalar.addi v76 v77
  v78.toNat
def k0_cond5 (i : grid0.Coords) : BitVec 1 :=
  let arg0 : BitVec 32 := BitVec.ofNat 32 (i 0).val
  let c3_i32 : BitVec 32 := 3#32
  let v1 : BitVec 1 := Scalar.cmpi .eq arg0 c3_i32
  let arg1 : BitVec 32 := BitVec.ofNat 32 (i 1).val
  let c1_i32 : BitVec 32 := 1#32
  let v4 : BitVec 1 := Scalar.cmpi .eq arg1 c1_i32
  let v5 : BitVec 1 := Scalar.andi v1 v4
  let arg2 : BitVec 32 := BitVec.ofNat 32 (i 2).val
  let c2_i32 : BitVec 32 := 2#32
  let v8 : BitVec 1 := Scalar.cmpi .eq arg2 c2_i32
  let v9 : BitVec 1 := Scalar.andi v5 v8
  let v28 : BitVec 32 := Scalar.extui v9
  let c0_i32_13 : BitVec 32 := 0#32
  let v29 : BitVec 1 := Scalar.cmpi .ne v28 c0_i32_13
  v29

def k0_off4 (d30 : Dev nD) : Fin 4 → Nat :=
  let c2_i32_23 : BitVec 32 := 2#32
  let c1_i32_19 : BitVec 32 := 1#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let v39 : BitVec 32 := Scalar.subi c1_i32_19 v32
  let v43 : BitVec 32 := Scalar.muli c2_i32_23 v39
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v44 : BitVec 32 := Scalar.addi v43 v35
  let c0_i32_29 : BitVec 32 := 0#32
  let c0_i32_30 : BitVec 32 := 0#32
  let c0_i32_31 : BitVec 32 := 0#32
  ![v44.toNat, 0, 0, 0]
def k0_off5 (d30 : Dev nD) : Fin 4 → Nat :=
  let c2_i32_24 : BitVec 32 := 2#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let v45 : BitVec 32 := Scalar.muli c2_i32_24 v32
  let c1_i32_20 : BitVec 32 := 1#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v40 : BitVec 32 := Scalar.subi c1_i32_20 v35
  let v46 : BitVec 32 := Scalar.addi v45 v40
  let c0_i32_52 : BitVec 32 := 0#32
  let c0_i32_53 : BitVec 32 := 0#32
  let c0_i32_54 : BitVec 32 := 0#32
  ![v46.toNat, 0, 0, 0]
def k0_off6 (d30 : Dev nD) : Fin 4 → Nat :=
  let c2_i32_25 : BitVec 32 := 2#32
  let c1_i32_21 : BitVec 32 := 1#32
  let v30 : BitVec 32 := Dev.word d30
  let c4_i32 : BitVec 32 := 4#32
  let v31 : BitVec 32 := Scalar.divsi v30 c4_i32
  let c2_i32_14 : BitVec 32 := 2#32
  let v32 : BitVec 32 := Scalar.remsi v31 c2_i32_14
  let v41 : BitVec 32 := Scalar.subi c1_i32_21 v32
  let v47 : BitVec 32 := Scalar.muli c2_i32_25 v41
  let c1_i32_22 : BitVec 32 := 1#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v42 : BitVec 32 := Scalar.subi c1_i32_22 v35
  let v48 : BitVec 32 := Scalar.addi v47 v42
  let c0_i32_75 : BitVec 32 := 0#32
  let c0_i32_76 : BitVec 32 := 0#32
  let c0_i32_77 : BitVec 32 := 0#32
  ![v48.toNat, 0, 0, 0]
def k0_cond4 (i : grid0.Coords) : BitVec 1 :=
  let arg2 : BitVec 32 := BitVec.ofNat 32 (i 2).val
  let c2_i32_11 : BitVec 32 := 2#32
  let v25 : BitVec 1 := Scalar.cmpi .eq arg2 c2_i32_11
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S32768x7296 : Shape := ⟨2, ![32768, 7296]⟩
abbrev S7296x2048 : Shape := ⟨2, ![7296, 2048]⟩
abbrev S32768x2048 : Shape := ⟨2, ![32768, 2048]⟩
abbrev S16x2x1168x2048 : Shape := ⟨4, ![16, 2, 1168, 2048]⟩
abbrev S_ : Shape := ⟨0, ![]⟩
abbrev S1x2x1168x2048 : Shape := ⟨4, ![1, 2, 1168, 2048]⟩
abbrev S12x2x1168x2048 : Shape := ⟨4, ![12, 2, 1168, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x7296, .bf16⟩
  | .hbm, ⟨1, _⟩ => ⟨S7296x2048, .bf16⟩
  | .hbm, ⟨2, _⟩ => ⟨S32768x2048, .f32⟩
  | .hbm, ⟨3, _⟩ => ⟨S16x2x1168x2048, .bf16⟩
  | .hbm, ⟨4, _⟩ => ⟨S32768x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S1x2x1168x2048, .bf16⟩
  | .hbm, ⟨10, _⟩ => ⟨S1x2x1168x2048, .bf16⟩
  | .hbm, ⟨11, _⟩ => ⟨S1x2x1168x2048, .bf16⟩
  | .hbm, ⟨12, _⟩ => ⟨S1x2x1168x2048, .bf16⟩
  | .hbm, ⟨13, _⟩ => ⟨S1x2x1168x2048, .bf16⟩
  | .hbm, ⟨14, _⟩ => ⟨S1x2x1168x2048, .bf16⟩
  | .hbm, ⟨15, _⟩ => ⟨S1x2x1168x2048, .bf16⟩
  | .hbm, ⟨16, _⟩ => ⟨S1x2x1168x2048, .bf16⟩
  | .hbm, ⟨17, _⟩ => ⟨S1x2x1168x2048, .bf16⟩
  | .hbm, ⟨18, _⟩ => ⟨S1x2x1168x2048, .bf16⟩
  | .hbm, ⟨19, _⟩ => ⟨S1x2x1168x2048, .bf16⟩
  | .hbm, ⟨20, _⟩ => ⟨S1x2x1168x2048, .bf16⟩
  | .hbm, ⟨21, _⟩ => ⟨S12x2x1168x2048, .bf16⟩
  | _, _ => ⟨S32768x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== LnSwap.lean ====
abbrev S4096x2048 : Shape := ⟨2, ![4096, 2048]⟩
abbrev S1x2048 : Shape := ⟨2, ![1, 2048]⟩
abbrev S4x2x1168x2048 : Shape := ⟨4, ![4, 2, 1168, 2048]⟩
abbrev S8x2048 : Shape := ⟨2, ![8, 2048]⟩
abbrev S4x1x1168x2048 : Shape := ⟨4, ![4, 1, 1168, 2048]⟩
abbrev S256x2048 : Shape := ⟨2, ![256, 2048]⟩
abbrev S1 : Shape := ⟨1, ![1]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4x2x1168x2048, .bf16⟩
  | .hbm, ⟨4, _⟩ => ⟨S4096x2048, .f32⟩
  | .hbm, ⟨5, _⟩ => ⟨S4096x2048, .bf16⟩
  | .hbm, ⟨6, _⟩ => ⟨S8x2048, .f32⟩
  | .hbm, ⟨7, _⟩ => ⟨S4x1x1168x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_0 : BitVec 32 := 0#32
  let v3 : BitVec 1 := Scalar.cmpi .ne v2 c0_i32_0
  v3

def k0_off1 (d65 : Dev nD) : Fin 4 → Nat :=
  let c0_i32_41 : BitVec 32 := 0#32
  let c1_i32_33 : BitVec 32 := 1#32
  let v71 : BitVec 32 := Dev.word d65
  let c1_i32 : BitVec 32 := 1#32
  let v72 : BitVec 32 := Scalar.divsi v71 c1_i32
  let c2_i32_32 : BitVec 32 := 2#32
  let v73 : BitVec 32 := Scalar.remsi v72 c2_i32_32
  let v74 : BitVec 32 := Scalar.subi c1_i32_33 v73
  let c0_i32_42 : BitVec 32 := 0#32
  let c0_i32_43 : BitVec 32 := 0#32
  ![0, v74.toNat, 0, 0]
def k0_dev1 (d65 : Dev nD) : Nat :=
  let c0_i32_38 : BitVec 32 := 0#32
  let v65 : BitVec 32 := Dev.word d65
  let c4_i32 : BitVec 32 := 4#32
  let v66 : BitVec 32 := Scalar.divsi v65 c4_i32
  let c2_i32 : BitVec 32 := 2#32
  let v67 : BitVec 32 := Scalar.remsi v66 c2_i32
  let c4_i32_37 : BitVec 32 := 4#32
  let v76 : BitVec 32 := Scalar.muli v67 c4_i32_37
  let v77 : BitVec 32 := Scalar.addi c0_i32_38 v76
  let v68 : BitVec 32 := Dev.word d65
  let c2_i32_31 : BitVec 32 := 2#32
  let v69 : BitVec 32 := Scalar.divsi v68 c2_i32_31
  let c2_i32_30 : BitVec 32 := 2#32
  let v70 : BitVec 32 := Scalar.remsi v69 c2_i32_30
  let c2_i32_39 : BitVec 32 := 2#32
  let v78 : BitVec 32 := Scalar.muli v70 c2_i32_39
  let v79 : BitVec 32 := Scalar.addi v77 v78
  let c1_i32_34 : BitVec 32 := 1#32
  let v71 : BitVec 32 := Dev.word d65
  let c1_i32 : BitVec 32 := 1#32
  let v72 : BitVec 32 := Scalar.divsi v71 c1_i32
  let c2_i32_32 : BitVec 32 := 2#32
  let v73 : BitVec 32 := Scalar.remsi v72 c2_i32_32
  let v75 : BitVec 32 := Scalar.subi c1_i32_34 v73
  let c1_i32_40 : BitVec 32 := 1#32
  let v80 : BitVec 32 := Scalar.muli v75 c1_i32_40
  let v81 : BitVec 32 := Scalar.addi v79 v80
  v81.toNat
def k0_cond3 (i : grid0.Coords) : BitVec 1 :=
  let arg0 : BitVec 32 := BitVec.ofNat 32 (i 0).val
  let c15_i32 : BitVec 32 := 15#32
  let v1 : BitVec 1 := Scalar.cmpi .eq arg0 c15_i32
  let v63 : BitVec 32 := Scalar.extui v1
  let c0_i32_29 : BitVec 32 := 0#32
  let v64 : BitVec 1 := Scalar.cmpi .ne v63 c0_i32_29
  v64

def k0_off2 (d65 : Dev nD) : Fin 4 → Nat :=
  let c0_i32_38 : BitVec 32 := 0#32
  let c1_i32_33 : BitVec 32 := 1#32
  let v71 : BitVec 32 := Dev.word d65
  let c1_i32 : BitVec 32 := 1#32
  let v72 : BitVec 32 := Scalar.divsi v71 c1_i32
  let c2_i32_32 : BitVec 32 := 2#32
  let v73 : BitVec 32 := Scalar.remsi v72 c2_i32_32
  let v74 : BitVec 32 := Scalar.subi c1_i32_33 v73
  let c0_i32_39 : BitVec 32 := 0#32
  let c0_i32_40 : BitVec 32 := 0#32
  ![0, v74.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnReferenceIdeal.lean ====
abbrev S32768x2048 : Shape := ⟨2, ![32768, 2048]⟩
abbrev S1x2048 : Shape := ⟨2, ![1, 2048]⟩
abbrev S32x2x1168x2048 : Shape := ⟨4, ![32, 2, 1168, 2048]⟩
abbrev S_ : Shape := ⟨0, ![]⟩
abbrev S32768 : Shape := ⟨1, ![32768]⟩
abbrev S32768x1 : Shape := ⟨2, ![32768, 1]⟩
abbrev S8x4096x2048 : Shape := ⟨3, ![8, 4096, 2048]⟩
abbrev S8x2048 : Shape := ⟨2, ![8, 2048]⟩
abbrev S8x1x2048 : Shape := ⟨3, ![8, 1, 2048]⟩
abbrev S8x6x2048 : Shape := ⟨3, ![8, 6, 2048]⟩
abbrev S8x8x2048 : Shape := ⟨3, ![8, 8, 2048]⟩
abbrev S64x2048 : Shape := ⟨2, ![64, 2048]⟩
abbrev S4x1x1168x2048 : Shape := ⟨4, ![4, 1, 1168, 2048]⟩
abbrev S32x1x1168x2048 : Shape := ⟨4, ![32, 1, 1168, 2048]⟩

abbrev nBuf : Space → Nat
  | .hbm => 70
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S1x2048, .f32⟩
  | .hbm, ⟨3, _⟩ => ⟨S32x2x1168x2048, .bf16⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S8x4096x2048, .f32⟩
  | .hbm, ⟨49, _⟩ => ⟨S_, .f32⟩
  | .hbm, ⟨50, _⟩ => ⟨S8x2048, .f32⟩
  | .hbm, ⟨51, _⟩ => ⟨S8x4096x2048, .f32⟩
  | .hbm, ⟨52, _⟩ => ⟨S_, .f32⟩
  | .hbm, ⟨53, _⟩ => ⟨S8x2048, .f32⟩
  | .hbm, ⟨54, _⟩ => ⟨S8x1x2048, .f32⟩
  | .hbm, ⟨55, _⟩ => ⟨S8x1x2048, .f32⟩
  | .hbm, ⟨56, _⟩ => ⟨S_, .f32⟩
  | .hbm, ⟨57, _⟩ => ⟨S8x6x2048, .f32⟩
  | .hbm, ⟨58, _⟩ => ⟨S8x8x2048, .f32⟩
  | .hbm, ⟨59, _⟩ => ⟨S64x2048, .f32⟩
  | .hbm, ⟨60, _⟩ => ⟨S32768x2048, .bf16⟩
  | .hbm, ⟨61, _⟩ => ⟨S4x1x1168x2048, .bf16⟩
  | .hbm, ⟨62, _⟩ => ⟨S4x1x1168x2048, .bf16⟩
  | .hbm, ⟨63, _⟩ => ⟨S4x1x1168x2048, .bf16⟩
  | .hbm, ⟨64, _⟩ => ⟨S4x1x1168x2048, .bf16⟩
  | .hbm, ⟨65, _⟩ => ⟨S4x1x1168x2048, .bf16⟩
  | .hbm, ⟨66, _⟩ => ⟨S4x1x1168x2048, .bf16⟩
  | .hbm, ⟨67, _⟩ => ⟨S4x1x1168x2048, .bf16⟩
  | .hbm, ⟨68, _⟩ => ⟨S4x1x1168x2048, .bf16⟩
  | .hbm, ⟨69, _⟩ => ⟨S32x1x1168x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Attn.lean ====
abbrev S4096x7168 : Shape := ⟨2, ![4096, 7168]⟩
abbrev S4096x1024 : Shape := ⟨2, ![4096, 1024]⟩
abbrev S8x8x1x512 : Shape := ⟨4, ![8, 8, 1, 512]⟩
abbrev S4x1x1168x2048 : Shape := ⟨4, ![4, 1, 1168, 2048]⟩
abbrev S8x8x4096 : Shape := ⟨3, ![8, 8, 4096]⟩
abbrev S3x1x1168x2048 : Shape := ⟨4, ![3, 1, 1168, 2048]⟩
abbrev S4096x128 : Shape := ⟨2, ![4096, 128]⟩
abbrev S512x128 : Shape := ⟨2, ![512, 128]⟩
abbrev S1x1x1x512 : Shape := ⟨4, ![1, 1, 1, 512]⟩
abbrev S1x8x4096 : Shape := ⟨3, ![1, 8, 4096]⟩
abbrev S1x8x512 : Shape := ⟨3, ![1, 8, 512]⟩
abbrev S4096x256 : Shape := ⟨2, ![4096, 256]⟩
abbrev S512x256 : Shape := ⟨2, ![512, 256]⟩
abbrev S512x512 : Shape := ⟨2, ![512, 512]⟩
abbrev S3 : Shape := ⟨1, ![3]⟩
abbrev S1 : Shape := ⟨1, ![1]⟩
abbrev S_ : Shape := ⟨0, ![]⟩
abbrev S1x1x1168x2048 : Shape := ⟨4, ![1, 1, 1168, 2048]⟩
abbrev S1x512 : Shape := ⟨2, ![1, 512]⟩
abbrev S128x512 : Shape := ⟨2, ![128, 512]⟩
abbrev S8x512 : Shape := ⟨2, ![8, 512]⟩

abbrev nBuf : Space → Nat
  | .hbm => 12
  | .vmem => 31
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S8x8x1x512, .f32⟩
  | .hbm, ⟨5, _⟩ => ⟨S4x1x1168x2048, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S8x8x4096, .f32⟩
  | .hbm, ⟨10, _⟩ => ⟨S8x8x4096, .f32⟩
  | .hbm, ⟨11, _⟩ => ⟨S3x1x1168x2048, .bf16⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S1x1x1x512, .f32⟩
  | .local _ .vmem, ⟨13, _⟩ => ⟨S1x1x1x512, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x8x4096, .f32⟩
  | .local _ .vmem, ⟨21, _⟩ => ⟨S1x8x4096, .f32⟩
  | .local _ .vmem, ⟨22, _⟩ => ⟨S1x8x512, .f32⟩
  | .local _ .vmem, ⟨23, _⟩ => ⟨S1x8x512, .f32⟩
  | .local _ .vmem, ⟨24, _⟩ => ⟨S4096x256, .f32⟩
  | .local _ .vmem, ⟨25, _⟩ => ⟨S512x256, .f32⟩
  | .local _ .vmem, ⟨26, _⟩ => ⟨S512x128, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 8
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v0 v2
  let v6 : BitVec 32 := Scalar.extui v3
  let c0_i32_2 : BitVec 32 := 0#32
  let v7 : BitVec 1 := Scalar.cmpi .ne v6 c0_i32_2
  v7

def k0_off1 (d176 : Dev nD) : Fin 4 → Nat :=
  let c2_i32_106 : BitVec 32 := 2#32
  let c1_i32_102 : BitVec 32 := 1#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let v185 : BitVec 32 := Scalar.subi c1_i32_102 v178
  let v189 : BitVec 32 := Scalar.muli c2_i32_106 v185
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let v190 : BitVec 32 := Scalar.addi v189 v181
  let c0_i32_119 : BitVec 32 := 0#32
  let c0_i32_120 : BitVec 32 := 0#32
  let c0_i32_121 : BitVec 32 := 0#32
  ![v190.toNat, 0, 0, 0]
def k0_dev1 (d176 : Dev nD) : Nat :=
  let c0_i32_112 : BitVec 32 := 0#32
  let c1_i32_102 : BitVec 32 := 1#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let v185 : BitVec 32 := Scalar.subi c1_i32_102 v178
  let c4_i32_111 : BitVec 32 := 4#32
  let v195 : BitVec 32 := Scalar.muli v185 c4_i32_111
  let v196 : BitVec 32 := Scalar.addi c0_i32_112 v195
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let c2_i32_113 : BitVec 32 := 2#32
  let v197 : BitVec 32 := Scalar.muli v181 c2_i32_113
  let v198 : BitVec 32 := Scalar.addi v196 v197
  let v182 : BitVec 32 := Dev.word d176
  let c1_i32_101 : BitVec 32 := 1#32
  let v183 : BitVec 32 := Scalar.divsi v182 c1_i32_101
  let c2_i32_100 : BitVec 32 := 2#32
  let v184 : BitVec 32 := Scalar.remsi v183 c2_i32_100
  let c1_i32_114 : BitVec 32 := 1#32
  let v199 : BitVec 32 := Scalar.muli v184 c1_i32_114
  let v200 : BitVec 32 := Scalar.addi v198 v199
  v200.toNat
def k0_off2 (d176 : Dev nD) : Fin 4 → Nat :=
  let c2_i32_107 : BitVec 32 := 2#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let v191 : BitVec 32 := Scalar.muli c2_i32_107 v178
  let c1_i32_103 : BitVec 32 := 1#32
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let v186 : BitVec 32 := Scalar.subi c1_i32_103 v181
  let v192 : BitVec 32 := Scalar.addi v191 v186
  let c0_i32_132 : BitVec 32 := 0#32
  let c0_i32_133 : BitVec 32 := 0#32
  let c0_i32_134 : BitVec 32 := 0#32
  ![v192.toNat, 0, 0, 0]
def k0_dev2 (d176 : Dev nD) : Nat :=
  let c0_i32_125 : BitVec 32 := 0#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let c4_i32_124 : BitVec 32 := 4#32
  let v207 : BitVec 32 := Scalar.muli v178 c4_i32_124
  let v208 : BitVec 32 := Scalar.addi c0_i32_125 v207
  let c1_i32_103 : BitVec 32 := 1#32
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let v186 : BitVec 32 := Scalar.subi c1_i32_103 v181
  let c2_i32_126 : BitVec 32 := 2#32
  let v209 : BitVec 32 := Scalar.muli v186 c2_i32_126
  let v210 : BitVec 32 := Scalar.addi v208 v209
  let v182 : BitVec 32 := Dev.word d176
  let c1_i32_101 : BitVec 32 := 1#32
  let v183 : BitVec 32 := Scalar.divsi v182 c1_i32_101
  let c2_i32_100 : BitVec 32 := 2#32
  let v184 : BitVec 32 := Scalar.remsi v183 c2_i32_100
  let c1_i32_127 : BitVec 32 := 1#32
  let v211 : BitVec 32 := Scalar.muli v184 c1_i32_127
  let v212 : BitVec 32 := Scalar.addi v210 v211
  v212.toNat
def k0_off3 (d176 : Dev nD) : Fin 4 → Nat :=
  let c2_i32_108 : BitVec 32 := 2#32
  let c1_i32_104 : BitVec 32 := 1#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let v187 : BitVec 32 := Scalar.subi c1_i32_104 v178
  let v193 : BitVec 32 := Scalar.muli c2_i32_108 v187
  let c1_i32_105 : BitVec 32 := 1#32
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let v188 : BitVec 32 := Scalar.subi c1_i32_105 v181
  let v194 : BitVec 32 := Scalar.addi v193 v188
  let c0_i32_145 : BitVec 32 := 0#32
  let c0_i32_146 : BitVec 32 := 0#32
  let c0_i32_147 : BitVec 32 := 0#32
  ![v194.toNat, 0, 0, 0]
def k0_dev3 (d176 : Dev nD) : Nat :=
  let c0_i32_138 : BitVec 32 := 0#32
  let c1_i32_104 : BitVec 32 := 1#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let v187 : BitVec 32 := Scalar.subi c1_i32_104 v178
  let c4_i32_137 : BitVec 32 := 4#32
  let v219 : BitVec 32 := Scalar.muli v187 c4_i32_137
  let v220 : BitVec 32 := Scalar.addi c0_i32_138 v219
  let c1_i32_105 : BitVec 32 := 1#32
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let v188 : BitVec 32 := Scalar.subi c1_i32_105 v181
  let c2_i32_139 : BitVec 32 := 2#32
  let v221 : BitVec 32 := Scalar.muli v188 c2_i32_139
  let v222 : BitVec 32 := Scalar.addi v220 v221
  let v182 : BitVec 32 := Dev.word d176
  let c1_i32_101 : BitVec 32 := 1#32
  let v183 : BitVec 32 := Scalar.divsi v182 c1_i32_101
  let c2_i32_100 : BitVec 32 := 2#32
  let v184 : BitVec 32 := Scalar.remsi v183 c2_i32_100
  let c1_i32_140 : BitVec 32 := 1#32
  let v223 : BitVec 32 := Scalar.muli v184 c1_i32_140
  let v224 : BitVec 32 := Scalar.addi v222 v223
  v224.toNat
def k0_mult1 (i : grid0.Coords) : BitVec 32 :=
  let arg1 : BitVec 32 := BitVec.ofNat 32 (i 1).val
  let c512_i32 : BitVec 32 := 512#32
  let v31 : BitVec 32 := Scalar.muli arg1 c512_i32
  v31
def k0_off4 (i : grid0.Coords) : Fin 2 → Nat :=
  let arg1 : BitVec 32 := BitVec.ofNat 32 (i 1).val
  let c512_i32 : BitVec 32 := 512#32
  let v31 : BitVec 32 := Scalar.muli arg1 c512_i32
  let v32 : BitVec 32 := v31
  let v33 : Index := Scalar.indexCast v32
  let c0_21 : Index := 0#32
  ![v33.toNat, 0]
def k0_mult2 (i : grid0.Coords) : BitVec 32 :=
  let arg1 : BitVec 32 := BitVec.ofNat 32 (i 1).val
  let c512_i32_25 : BitVec 32 := 512#32
  let v40 : BitVec 32 := Scalar.muli arg1 c512_i32_25
  v40
def k0_cond3 (i : grid0.Coords) : BitVec 1 :=
  let c7_i32_20 : BitVec 32 := 7#32
  let arg1 : BitVec 32 := BitVec.ofNat 32 (i 1).val
  let v30 : BitVec 32 := Scalar.subi c7_i32_20 arg1
  let c0_i32_30 : BitVec 32 := 0#32
  let v49 : BitVec 1 := Scalar.cmpi .sgt v30 c0_i32_30
  let v50 : BitVec 32 := Scalar.extui v49
  let c0_i32_31 : BitVec 32 := 0#32
  let v51 : BitVec 1 := Scalar.cmpi .ne v50 c0_i32_31
  v51

def k0_mult3 (i : grid0.Coords) : BitVec 32 :=
  let arg1 : BitVec 32 := BitVec.ofNat 32 (i 1).val
  let c1_i32_97 : BitVec 32 := 1#32
  let v176 : BitVec 32 := Scalar.addi arg1 c1_i32_97
  let c512_i32_98 : BitVec 32 := 512#32
  let v177 : BitVec 32 := Scalar.muli v176 c512_i32_98
  v177
def k0_off5 (i : grid0.Coords) : Fin 2 → Nat :=
  let arg1 : BitVec 32 := BitVec.ofNat 32 (i 1).val
  let c1_i32_97 : BitVec 32 := 1#32
  let v176 : BitVec 32 := Scalar.addi arg1 c1_i32_97
  let c512_i32_98 : BitVec 32 := 512#32
  let v177 : BitVec 32 := Scalar.muli v176 c512_i32_98
  let v178 : BitVec 32 := v177
  let v179 : Index := Scalar.indexCast v178
  let c0_99 : Index := 0#32
  ![v179.toNat, 0]
def k0_mult4 (i : grid0.Coords) : BitVec 32 :=
  let arg1 : BitVec 32 := BitVec.ofNat 32 (i 1).val
  let c1_i32_97 : BitVec 32 := 1#32
  let v176 : BitVec 32 := Scalar.addi arg1 c1_i32_97
  let c512_i32_103 : BitVec 32 := 512#32
  let v186 : BitVec 32 := Scalar.muli v176 c512_i32_103
  v186
def k0_mult5 (i : grid0.Coords) : BitVec 32 :=
  let arg1 : BitVec 32 := BitVec.ofNat 32 (i 1).val
  let c512_i32_32 : BitVec 32 := 512#32
  let v52 : BitVec 32 := Scalar.muli arg1 c512_i32_32
  v52
def k0_off6 (i : grid0.Coords) : Fin 2 → Nat :=
  let arg1 : BitVec 32 := BitVec.ofNat 32 (i 1).val
  let c512_i32_32 : BitVec 32 := 512#32
  let v52 : BitVec 32 := Scalar.muli arg1 c512_i32_32
  let v53 : BitVec 32 := v52
  let v98 : Index := Scalar.indexCast v53
  let c0_53 : Index := 0#32
  ![v98.toNat, 0]
def k0_mult6 (i : grid0.Coords) : BitVec 32 :=
  let arg1 : BitVec 32 := BitVec.ofNat 32 (i 1).val
  let c512_i32_56 : BitVec 32 := 512#32
  let v106 : BitVec 32 := Scalar.muli arg1 c512_i32_56
  v106
def k0_off7 (i : grid0.Coords) : Fin 2 → Nat :=
  let arg1 : BitVec 32 := BitVec.ofNat 32 (i 1).val
  let c512_i32_56 : BitVec 32 := 512#32
  let v106 : BitVec 32 := Scalar.muli arg1 c512_i32_56
  let v107 : BitVec 32 := v106
  let v108 : Index := Scalar.indexCast v107
  let c0_57 : Index := 0#32
  ![v108.toNat, 0]
def k0_off8 (i : grid0.Coords) : Fin 2 → Nat :=
  let arg1 : BitVec 32 := BitVec.ofNat 32 (i 1).val
  let c512_i32_56 : BitVec 32 := 512#32
  let v106 : BitVec 32 := Scalar.muli arg1 c512_i32_56
  let v107 : BitVec 32 := v106
  let v115 : Index := Scalar.indexCast v107
  let c128 : Index := 128#32
  ![v115.toNat, 128]
def k0_off9 (i : grid0.Coords) : Fin 3 → Nat :=
  let c0_60 : Index := 0#32
  let c0_61 : Index := 0#32
  let arg1 : BitVec 32 := BitVec.ofNat 32 (i 1).val
  let c512_i32_56 : BitVec 32 := 512#32
  let v106 : BitVec 32 := Scalar.muli arg1 c512_i32_56
  let v107 : BitVec 32 := v106
  let v119 : Index := Scalar.indexCast v107
  ![0, 0, v119.toNat]
@[reducible] def k0_t1_loop (i : grid0.Coords) : Scf.Loop 32 :=
  let c0_i32_70 : BitVec 32 := 0#32
  let c7_i32_20 : BitVec 32 := 7#32
  let arg1 : BitVec 32 := BitVec.ofNat 32 (i 1).val
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_72 : BitVec 32 := 1#32
  ⟨c0_i32_70, v146, c1_i32_72⟩
def k0_mult7 (i : grid0.Coords) (k0_t1 : Fin (k0_t1_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c1_i32_99 : BitVec 32 := 1#32
  let v179 : BitVec 32 := Scalar.addi v178 c1_i32_99
  let c512_i32_100 : BitVec 32 := 512#32
  let v180 : BitVec 32 := Scalar.muli v179 c512_i32_100
  v180
def k0_off10 (i : grid0.Coords) (k0_t1 : Fin (k0_t1_loop i).trips) (c1_i32_99 : BitVec 32) : Fin 2 → Nat :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let v179 : BitVec 32 := Scalar.addi v178 c1_i32_99
  let c512_i32_100 : BitVec 32 := 512#32
  let v180 : BitVec 32 := Scalar.muli v179 c512_i32_100
  let v181 : BitVec 32 := v180
  let v182 : Index := Scalar.indexCast v181
  let c0_101 : Index := 0#32
  ![v182.toNat, 0]
def k0_mult8 (i : grid0.Coords) (k0_t1 : Fin (k0_t1_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c1_i32_99 : BitVec 32 := 1#32
  let v179 : BitVec 32 := Scalar.addi v178 c1_i32_99
  let c512_i32_105 : BitVec 32 := 512#32
  let v189 : BitVec 32 := Scalar.muli v179 c512_i32_105
  v189
def k0_mult9 (i : grid0.Coords) (k0_t1 : Fin (k0_t1_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c512_i32_110 : BitVec 32 := 512#32
  let v198 : BitVec 32 := Scalar.muli v178 c512_i32_110
  v198
def k0_off11 (i : grid0.Coords) (k0_t1 : Fin (k0_t1_loop i).trips) : Fin 2 → Nat :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c512_i32_110 : BitVec 32 := 512#32
  let v198 : BitVec 32 := Scalar.muli v178 c512_i32_110
  let v199 : BitVec 32 := v198
  let v205 : Index := Scalar.indexCast v199
  let c0_114 : Index := 0#32
  ![v205.toNat, 0]
def k0_off12 (i : grid0.Coords) (k0_t1 : Fin (k0_t1_loop i).trips) : Fin 2 → Nat :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c512_i32_110 : BitVec 32 := 512#32
  let v198 : BitVec 32 := Scalar.muli v178 c512_i32_110
  let v199 : BitVec 32 := v198
  let v239 : Index := Scalar.indexCast v199
  let c0_130 : Index := 0#32
  ![v239.toNat, 0]
def k0_mult10 (i : grid0.Coords) (k0_t1 : Fin (k0_t1_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c2_i32_133 : BitVec 32 := 2#32
  let v247 : BitVec 32 := Scalar.addi v178 c2_i32_133
  let c512_i32_134 : BitVec 32 := 512#32
  let v248 : BitVec 32 := Scalar.muli v247 c512_i32_134
  v248
def k0_mult11 (i : grid0.Coords) (k0_t1 : Fin (k0_t1_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c2_i32_133 : BitVec 32 := 2#32
  let v247 : BitVec 32 := Scalar.addi v178 c2_i32_133
  let c512_i32_139 : BitVec 32 := 512#32
  let v257 : BitVec 32 := Scalar.muli v247 c512_i32_139
  v257
def k0_mult12 (i : grid0.Coords) (k0_t1 : Fin (k0_t1_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c1_i32_144 : BitVec 32 := 1#32
  let v266 : BitVec 32 := Scalar.addi v178 c1_i32_144
  let c512_i32_145 : BitVec 32 := 512#32
  let v267 : BitVec 32 := Scalar.muli v266 c512_i32_145
  v267
def k0_off13 (i : grid0.Coords) (k0_t1 : Fin (k0_t1_loop i).trips) : Fin 2 → Nat :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c1_i32_72 : BitVec 32 := 1#32
  let arg25 : BitVec 32 := Scf.iv c0_i32_70 c1_i32_72 k0_t1
  let v177 : BitVec 32 := Scalar.muli c2_i32_98 arg25
  let v178 : BitVec 32 := Scalar.addi v176 v177
  let c1_i32_144 : BitVec 32 := 1#32
  let v266 : BitVec 32 := Scalar.addi v178 c1_i32_144
  let c512_i32_145 : BitVec 32 := 512#32
  let v267 : BitVec 32 := Scalar.muli v266 c512_i32_145
  let v268 : BitVec 32 := v267
  let v308 : Index := Scalar.indexCast v268
  let c0_165 : Index := 0#32
  ![v308.toNat, 0]
@[reducible] def k0_t2_loop (i : grid0.Coords) : Scf.Loop 32 :=
  let c0_i32_70 : BitVec 32 := 0#32
  let c7_i32_20 : BitVec 32 := 7#32
  let arg1 : BitVec 32 := BitVec.ofNat 32 (i 1).val
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let v143 : BitVec 32 := Scalar.addi c0_i32_70 v142
  let c1_i32_73 : BitVec 32 := 1#32
  ⟨v146, v143, c1_i32_73⟩
def k0_mult13 (i : grid0.Coords) (k0_t2 : Fin (k0_t2_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c1_i32_99 : BitVec 32 := 1#32
  let v179 : BitVec 32 := Scalar.addi v178 c1_i32_99
  let c512_i32_100 : BitVec 32 := 512#32
  let v180 : BitVec 32 := Scalar.muli v179 c512_i32_100
  v180
def k0_off14 (i : grid0.Coords) (k0_t2 : Fin (k0_t2_loop i).trips) (c1_i32_99 : BitVec 32) : Fin 2 → Nat :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let v179 : BitVec 32 := Scalar.addi v178 c1_i32_99
  let c512_i32_100 : BitVec 32 := 512#32
  let v180 : BitVec 32 := Scalar.muli v179 c512_i32_100
  let v181 : BitVec 32 := v180
  let v182 : Index := Scalar.indexCast v181
  let c0_101 : Index := 0#32
  ![v182.toNat, 0]
def k0_mult14 (i : grid0.Coords) (k0_t2 : Fin (k0_t2_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c1_i32_99 : BitVec 32 := 1#32
  let v179 : BitVec 32 := Scalar.addi v178 c1_i32_99
  let c512_i32_105 : BitVec 32 := 512#32
  let v189 : BitVec 32 := Scalar.muli v179 c512_i32_105
  v189
def k0_mult15 (i : grid0.Coords) (k0_t2 : Fin (k0_t2_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c512_i32_110 : BitVec 32 := 512#32
  let v198 : BitVec 32 := Scalar.muli v178 c512_i32_110
  v198
def k0_off15 (i : grid0.Coords) (k0_t2 : Fin (k0_t2_loop i).trips) : Fin 2 → Nat :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c512_i32_110 : BitVec 32 := 512#32
  let v198 : BitVec 32 := Scalar.muli v178 c512_i32_110
  let v199 : BitVec 32 := v198
  let v205 : Index := Scalar.indexCast v199
  let c0_114 : Index := 0#32
  ![v205.toNat, 0]
def k0_off16 (i : grid0.Coords) (k0_t2 : Fin (k0_t2_loop i).trips) : Fin 2 → Nat :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c512_i32_110 : BitVec 32 := 512#32
  let v198 : BitVec 32 := Scalar.muli v178 c512_i32_110
  let v199 : BitVec 32 := v198
  let v239 : Index := Scalar.indexCast v199
  let c0_130 : Index := 0#32
  ![v239.toNat, 0]
def k0_mult16 (i : grid0.Coords) (k0_t2 : Fin (k0_t2_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c2_i32_133 : BitVec 32 := 2#32
  let v247 : BitVec 32 := Scalar.addi v178 c2_i32_133
  let c512_i32_134 : BitVec 32 := 512#32
  let v248 : BitVec 32 := Scalar.muli v247 c512_i32_134
  v248
def k0_mult17 (i : grid0.Coords) (k0_t2 : Fin (k0_t2_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c2_i32_133 : BitVec 32 := 2#32
  let v247 : BitVec 32 := Scalar.addi v178 c2_i32_133
  let c512_i32_139 : BitVec 32 := 512#32
  let v257 : BitVec 32 := Scalar.muli v247 c512_i32_139
  v257
def k0_mult18 (i : grid0.Coords) (k0_t2 : Fin (k0_t2_loop i).trips) : BitVec 32 :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c1_i32_144 : BitVec 32 := 1#32
  let v266 : BitVec 32 := Scalar.addi v178 c1_i32_144
  let c512_i32_145 : BitVec 32 := 512#32
  let v267 : BitVec 32 := Scalar.muli v266 c512_i32_145
  v267
def k0_off17 (i : grid0.Coords) (k0_t2 : Fin (k0_t2_loop i).trips) : Fin 2 → Nat :=
  let arg1 : BitVec 32 := BitVec.ofNat 32 (i 1).val
  let c1_i32_97 : BitVec 32 := 1#32
  let v176 : BitVec 32 := Scalar.addi arg1 c1_i32_97
  let c2_i32_98 : BitVec 32 := 2#32
  let c0_i32_70 : BitVec 32 := 0#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg25 : BitVec 32 := Scf.iv v146 c1_i32_73 k0_t2
  let v177 : BitVec 32 := Scalar.muli c2_i32_98 arg25
  let v178 : BitVec 32 := Scalar.addi v176 v177
  let c1_i32_144 : BitVec 32 := 1#32
  let v266 : BitVec 32 := Scalar.addi v178 c1_i32_144
  let c512_i32_145 : BitVec 32 := 512#32
  let v267 : BitVec 32 := Scalar.muli v266 c512_i32_145
  let v268 : BitVec 32 := v267
  let v308 : Index := Scalar.indexCast v268
  let c0_165 : Index := 0#32
  ![v308.toNat, 0]
def k0_cond4 (i : grid0.Coords) : BitVec 1 :=
  let c7_i32_20 : BitVec 32 := 7#32
  let arg1 : BitVec 32 := BitVec.ofNat 32 (i 1).val
  let v30 : BitVec 32 := Scalar.subi c7_i32_20 arg1
  let c2_i32_76 : BitVec 32 := 2#32
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v150 : BitVec 32 := Scalar.muli c2_i32_76 v141
  let v151 : BitVec 32 := Scalar.subi v30 v150
  let c1_i32_77 : BitVec 32 := 1#32
  let v152 : BitVec 1 := Scalar.cmpi .eq v151 c1_i32_77
  let v153 : BitVec 32 := Scalar.extui v152
  let c0_i32_78 : BitVec 32 := 0#32
  let v154 : BitVec 1 := Scalar.cmpi .ne v153 c0_i32_78
  v154

def k0_mult19 (i : grid0.Coords) : BitVec 32 :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c512_i32_97 : BitVec 32 := 512#32
  let v176 : BitVec 32 := Scalar.muli v149 c512_i32_97
  v176
def k0_off18 (i : grid0.Coords) : Fin 2 → Nat :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c512_i32_97 : BitVec 32 := 512#32
  let v176 : BitVec 32 := Scalar.muli v149 c512_i32_97
  let v177 : BitVec 32 := v176
  let v183 : Index := Scalar.indexCast v177
  let c0_101 : Index := 0#32
  ![v183.toNat, 0]
def k0_off19 (i : grid0.Coords) : Fin 2 → Nat :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c512_i32_97 : BitVec 32 := 512#32
  let v176 : BitVec 32 := Scalar.muli v149 c512_i32_97
  let v177 : BitVec 32 := v176
  let v217 : Index := Scalar.indexCast v177
  let c0_117 : Index := 0#32
  ![v217.toNat, 0]
def k0_cond5 (i : grid0.Coords) : BitVec 1 :=
  let c7_i32_20 : BitVec 32 := 7#32
  let arg1 : BitVec 32 := BitVec.ofNat 32 (i 1).val
  let v30 : BitVec 32 := Scalar.subi c7_i32_20 arg1
  let c2_i32_79 : BitVec 32 := 2#32
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v155 : BitVec 32 := Scalar.muli c2_i32_79 v141
  let v156 : BitVec 32 := Scalar.subi v30 v155
  let c2_i32_80 : BitVec 32 := 2#32
  let v157 : BitVec 1 := Scalar.cmpi .eq v156 c2_i32_80
  let v158 : BitVec 32 := Scalar.extui v157
  let c0_i32_81 : BitVec 32 := 0#32
  let v159 : BitVec 1 := Scalar.cmpi .ne v158 c0_i32_81
  v159

def k0_mult20 (i : grid0.Coords) : BitVec 32 :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c1_i32_97 : BitVec 32 := 1#32
  let v176 : BitVec 32 := Scalar.addi v149 c1_i32_97
  let c512_i32_98 : BitVec 32 := 512#32
  let v177 : BitVec 32 := Scalar.muli v176 c512_i32_98
  v177
def k0_off20 (i : grid0.Coords) : Fin 2 → Nat :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c1_i32_97 : BitVec 32 := 1#32
  let v176 : BitVec 32 := Scalar.addi v149 c1_i32_97
  let c512_i32_98 : BitVec 32 := 512#32
  let v177 : BitVec 32 := Scalar.muli v176 c512_i32_98
  let v178 : BitVec 32 := v177
  let v179 : Index := Scalar.indexCast v178
  let c0_99 : Index := 0#32
  ![v179.toNat, 0]
def k0_mult21 (i : grid0.Coords) : BitVec 32 :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c1_i32_97 : BitVec 32 := 1#32
  let v176 : BitVec 32 := Scalar.addi v149 c1_i32_97
  let c512_i32_103 : BitVec 32 := 512#32
  let v186 : BitVec 32 := Scalar.muli v176 c512_i32_103
  v186
def k0_mult22 (i : grid0.Coords) : BitVec 32 :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c512_i32_108 : BitVec 32 := 512#32
  let v195 : BitVec 32 := Scalar.muli v149 c512_i32_108
  v195
def k0_off21 (i : grid0.Coords) : Fin 2 → Nat :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c512_i32_108 : BitVec 32 := 512#32
  let v195 : BitVec 32 := Scalar.muli v149 c512_i32_108
  let v196 : BitVec 32 := v195
  let v202 : Index := Scalar.indexCast v196
  let c0_112 : Index := 0#32
  ![v202.toNat, 0]
def k0_off22 (i : grid0.Coords) : Fin 2 → Nat :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c512_i32_108 : BitVec 32 := 512#32
  let v195 : BitVec 32 := Scalar.muli v149 c512_i32_108
  let v196 : BitVec 32 := v195
  let v236 : Index := Scalar.indexCast v196
  let c0_128 : Index := 0#32
  ![v236.toNat, 0]
def k0_mult23 (i : grid0.Coords) : BitVec 32 :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c1_i32_131 : BitVec 32 := 1#32
  let v244 : BitVec 32 := Scalar.addi v149 c1_i32_131
  let c512_i32_132 : BitVec 32 := 512#32
  let v245 : BitVec 32 := Scalar.muli v244 c512_i32_132
  v245
def k0_off23 (i : grid0.Coords) : Fin 2 → Nat :=
  let arg1 : BitVec 32 := BitVec.ofNat 32 (i 1).val
  let c1_i32_74 : BitVec 32 := 1#32
  let v147 : BitVec 32 := Scalar.addi arg1 c1_i32_74
  let c2_i32_75 : BitVec 32 := 2#32
  let c7_i32_20 : BitVec 32 := 7#32
  let v30 : BitVec 32 := Scalar.subi c7_i32_20 arg1
  let c1_i32 : BitVec 32 := 1#32
  let v123 : BitVec 32 := Scalar.subi v30 c1_i32
  let c0_i32_62 : BitVec 32 := 0#32
  let v124 : BitVec 32 := Scalar.maxsi v123 c0_i32_62
  let c0_i32_63 : BitVec 32 := 0#32
  let v126 : BitVec 1 := Scalar.cmpi .sgt v124 c0_i32_63
  let v127 : BitVec 32 := Scalar.extui v126
  let c0_i32_64 : BitVec 32 := 0#32
  let v128 : BitVec 1 := Scalar.cmpi .slt v124 c0_i32_64
  let v129 : BitVec 32 := Scalar.extui v128
  let v130 : BitVec 32 := Scalar.subi v127 v129
  let c2_i32 : BitVec 32 := 2#32
  let c0_i32_65 : BitVec 32 := 0#32
  let v131 : BitVec 1 := Scalar.cmpi .sgt c2_i32 c0_i32_65
  let v132 : BitVec 32 := Scalar.extui v131
  let c0_i32_66 : BitVec 32 := 0#32
  let v133 : BitVec 1 := Scalar.cmpi .slt c2_i32 c0_i32_66
  let v134 : BitVec 32 := Scalar.extui v133
  let v135 : BitVec 32 := Scalar.subi v132 v134
  let v136 : BitVec 1 := Scalar.cmpi .ne v130 v135
  let v137 : BitVec 32 := Scalar.remsi v124 c2_i32
  let c0_i32_67 : BitVec 32 := 0#32
  let v138 : BitVec 1 := Scalar.cmpi .ne v137 c0_i32_67
  let v139 : BitVec 1 := Scalar.andi v136 v138
  let v125 : BitVec 32 := Scalar.divsi v124 c2_i32
  let c1_i32_68 : BitVec 32 := 1#32
  let v140 : BitVec 32 := Scalar.subi v125 c1_i32_68
  let v141 : BitVec 32 := Scalar.select v139 v140 v125
  let v148 : BitVec 32 := Scalar.muli c2_i32_75 v141
  let v149 : BitVec 32 := Scalar.addi v147 v148
  let c1_i32_131 : BitVec 32 := 1#32
  let v244 : BitVec 32 := Scalar.addi v149 c1_i32_131
  let c512_i32_132 : BitVec 32 := 512#32
  let v245 : BitVec 32 := Scalar.muli v244 c512_i32_132
  let v246 : BitVec 32 := v245
  let v286 : Index := Scalar.indexCast v246
  let c0_152 : Index := 0#32
  ![v286.toNat, 0]
def k0_cond6 (i : grid0.Coords) : BitVec 1 :=
  let arg0 : BitVec 32 := BitVec.ofNat 32 (i 0).val
  let c7_i32 : BitVec 32 := 7#32
  let v1 : BitVec 1 := Scalar.cmpi .eq arg0 c7_i32
  let arg1 : BitVec 32 := BitVec.ofNat 32 (i 1).val
  let c7_i32_1 : BitVec 32 := 7#32
  let v4 : BitVec 1 := Scalar.cmpi .eq arg1 c7_i32_1
  let v5 : BitVec 1 := Scalar.andi v1 v4
  let v174 : BitVec 32 := Scalar.extui v5
  let c0_i32_96 : BitVec 32 := 0#32
  let v175 : BitVec 1 := Scalar.cmpi .ne v174 c0_i32_96
  v175

def k0_off24 (d176 : Dev nD) : Fin 4 → Nat :=
  let c2_i32_106 : BitVec 32 := 2#32
  let c1_i32_102 : BitVec 32 := 1#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let v185 : BitVec 32 := Scalar.subi c1_i32_102 v178
  let v189 : BitVec 32 := Scalar.muli c2_i32_106 v185
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let v190 : BitVec 32 := Scalar.addi v189 v181
  let c0_i32_112 : BitVec 32 := 0#32
  let c0_i32_113 : BitVec 32 := 0#32
  let c0_i32_114 : BitVec 32 := 0#32
  ![v190.toNat, 0, 0, 0]
def k0_off25 (d176 : Dev nD) : Fin 4 → Nat :=
  let c2_i32_107 : BitVec 32 := 2#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let v191 : BitVec 32 := Scalar.muli c2_i32_107 v178
  let c1_i32_103 : BitVec 32 := 1#32
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let v186 : BitVec 32 := Scalar.subi c1_i32_103 v181
  let v192 : BitVec 32 := Scalar.addi v191 v186
  let c0_i32_135 : BitVec 32 := 0#32
  let c0_i32_136 : BitVec 32 := 0#32
  let c0_i32_137 : BitVec 32 := 0#32
  ![v192.toNat, 0, 0, 0]
def k0_off26 (d176 : Dev nD) : Fin 4 → Nat :=
  let c2_i32_108 : BitVec 32 := 2#32
  let c1_i32_104 : BitVec 32 := 1#32
  let v176 : BitVec 32 := Dev.word d176
  let c4_i32 : BitVec 32 := 4#32
  let v177 : BitVec 32 := Scalar.divsi v176 c4_i32
  let c2_i32_97 : BitVec 32 := 2#32
  let v178 : BitVec 32 := Scalar.remsi v177 c2_i32_97
  let v187 : BitVec 32 := Scalar.subi c1_i32_104 v178
  let v193 : BitVec 32 := Scalar.muli c2_i32_108 v187
  let c1_i32_105 : BitVec 32 := 1#32
  let v179 : BitVec 32 := Dev.word d176
  let c2_i32_99 : BitVec 32 := 2#32
  let v180 : BitVec 32 := Scalar.divsi v179 c2_i32_99
  let c2_i32_98 : BitVec 32 := 2#32
  let v181 : BitVec 32 := Scalar.remsi v180 c2_i32_98
  let v188 : BitVec 32 := Scalar.subi c1_i32_105 v181
  let v194 : BitVec 32 := Scalar.addi v193 v188
  let c0_i32_158 : BitVec 32 := 0#32
  let c0_i32_159 : BitVec 32 := 0#32
  let c0_i32_160 : BitVec 32 := 0#32
  ![v194.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnReferenceIdeal.lean ====
abbrev S32768x7168 : Shape := ⟨2, ![32768, 7168]⟩
abbrev S32768x1024 : Shape := ⟨2, ![32768, 1024]⟩
abbrev S64x8x1x512 : Shape := ⟨4, ![64, 8, 1, 512]⟩
abbrev S16x2x1168x2048 : Shape := ⟨4, ![16, 2, 1168, 2048]⟩
abbrev S8x4096x8x128 : Shape := ⟨4, ![8, 4096, 8, 128]⟩
abbrev S8x8x4096x128 : Shape := ⟨4, ![8, 8, 4096, 128]⟩
abbrev S8x8x4096x4096 : Shape := ⟨4, ![8, 8, 4096, 4096]⟩
abbrev S_ : Shape := ⟨0, ![]⟩
abbrev S8x8x1x4096 : Shape := ⟨4, ![8, 8, 1, 4096]⟩
abbrev S4096x4096 : Shape := ⟨2, ![4096, 4096]⟩
abbrev S1x8x1x8x1x4096x1x128 : Shape := ⟨8, ![1, 8, 1, 8, 1, 4096, 1, 128]⟩
abbrev S1x8x1x8x1x4096x32x128 : Shape := ⟨8, ![1, 8, 1, 8, 1, 4096, 32, 128]⟩
abbrev S8x8x4096 : Shape := ⟨3, ![8, 8, 4096]⟩
abbrev S8x8x8x4096 : Shape := ⟨4, ![8, 8, 8, 4096]⟩
abbrev S64x8x4096 : Shape := ⟨3, ![64, 8, 4096]⟩
abbrev S1x2x1168x2048 : Shape := ⟨4, ![1, 2, 1168, 2048]⟩
abbrev S12x2x1168x2048 : Shape := ⟨4, ![12, 2, 1168, 2048]⟩

abbrev nBuf : Space → Nat
  | .hbm => 97
  | .vmem => 0
  | .smem => 0
  | _ => 0

abbrev bufTy : (tb : Table) → Fin (tcTables nBuf tb) → BufTy
  | .hbm, ⟨0, _⟩ => ⟨S32768x7168, .bf16⟩
  | .hbm, ⟨1, _⟩ => ⟨S32768x1024, .bf16⟩
  | .hbm, ⟨2, _⟩ => ⟨S32768x1024, .f32⟩
  | .hbm, ⟨3, _⟩ => ⟨S32768x1024, .f32⟩
  | .hbm, ⟨4, _⟩ => ⟨S64x8x1x512, .f32⟩
  | .hbm, ⟨5, _⟩ => ⟨S16x2x1168x2048, .bf16⟩
  | .hbm, ⟨6, _⟩ => ⟨S32768x1024, .bf16⟩
  | .hbm, ⟨7, _⟩ => ⟨S8x4096x8x128, .bf16⟩
  | .hbm, ⟨8, _⟩ => ⟨S8x8x4096x128, .bf16⟩
  | .hbm, ⟨9, _⟩ => ⟨S32768x1024, .bf16⟩
  | .hbm, ⟨10, _⟩ => ⟨S8x4096x8x128, .bf16⟩
  | .hbm, ⟨11, _⟩ => ⟨S8x8x4096x128, .bf16⟩
  | .hbm, ⟨12, _⟩ => ⟨S32768x1024, .bf16⟩
  | .hbm, ⟨13, _⟩ => ⟨S8x4096x8x128, .bf16⟩
  | .hbm, ⟨14, _⟩ => ⟨S8x8x4096x128, .bf16⟩
  | .hbm, ⟨15, _⟩ => ⟨S8x4096x8x128, .bf16⟩
  | .hbm, ⟨16, _⟩ => ⟨S8x8x4096x128, .bf16⟩
  | .hbm, ⟨17, _⟩ => ⟨S8x8x4096x4096, .f32⟩
  | .hbm, ⟨18, _⟩ => ⟨S_, .f32⟩
  | .hbm, ⟨19, _⟩ => ⟨S8x8x4096x4096, .f32⟩
  | .hbm, ⟨20, _⟩ => ⟨S8x8x4096x4096, .f32⟩
  | .hbm, ⟨21, _⟩ => ⟨S8x8x1x4096, .f32⟩
  | .hbm, ⟨22, _⟩ => ⟨S_, .f32⟩
  | .hbm, ⟨23, _⟩ => ⟨S8x8x1x4096, .f32⟩
  | .hbm, ⟨24, _⟩ => ⟨S8x8x1x4096, .f32⟩
  | .hbm, ⟨25, _⟩ => ⟨S8x8x4096x4096, .f32⟩
  | .hbm, ⟨26, _⟩ => ⟨S8x8x4096x4096, .f32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S8x8x4096x4096, .i1⟩
  | .hbm, ⟨33, _⟩ => ⟨S8x8x4096x4096, .f32⟩
  | .hbm, ⟨34, _⟩ => ⟨S8x8x4096x4096, .f32⟩
  | .hbm, ⟨35, _⟩ => ⟨S8x4096x8x128, .f32⟩
  | .hbm, ⟨36, _⟩ => ⟨S8x8x4096x128, .f32⟩
  | .hbm, ⟨37, _⟩ => ⟨S1x8x1x8x1x4096x1x128, .f32⟩
  | .hbm, ⟨38, _⟩ => ⟨S1x8x1x8x1x4096x32x128, .f32⟩
  | .hbm, ⟨39, _⟩ => ⟨S8x8x4096x4096, .f32⟩
  | .hbm, ⟨40, _⟩ => ⟨S8x8x4096x4096, .f32⟩
  | .hbm, ⟨41, _⟩ => ⟨S_, .f32⟩
  | .hbm, ⟨42, _⟩ => ⟨S8x8x4096x4096, .f32⟩
  | .hbm, ⟨43, _⟩ => ⟨S8x8x4096x4096, .f32⟩
  | .hbm, ⟨44, _⟩ => ⟨S8x8x4096x4096, .f32⟩
  | .hbm, ⟨45, _⟩ => ⟨S8x4096x8x128, .f32⟩
  | .hbm, ⟨46, _⟩ => ⟨S8x8x4096x128, .f32⟩
  | .hbm, ⟨47, _⟩ => ⟨S1x8x1x8x1x4096x1x128, .f32⟩
  | .hbm, ⟨48, _⟩ => ⟨S1x8x1x8x1x4096x32x128, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .bf16⟩
  | .hbm, ⟨53, _⟩ => ⟨S8x8x4096x128, .f32⟩
  | .hbm, ⟨54, _⟩ => ⟨S_, .f32⟩
  | .hbm, ⟨55, _⟩ => ⟨S8x8x4096x128, .f32⟩
  | .hbm, ⟨56, _⟩ => ⟨S8x8x4096x128, .f32⟩
  | .hbm, ⟨57, _⟩ => ⟨S8x8x4096x128, .bf16⟩
  | .hbm, ⟨58, _⟩ => ⟨S8x8x4096x128, .f32⟩
  | .hbm, ⟨59, _⟩ => ⟨S_, .f32⟩
  | .hbm, ⟨60, _⟩ => ⟨S8x8x4096x128, .f32⟩
  | .hbm, ⟨61, _⟩ => ⟨S8x8x4096x128, .f32⟩
  | .hbm, ⟨62, _⟩ => ⟨S8x8x4096x128, .bf16⟩
  | .hbm, ⟨63, _⟩ => ⟨S8x8x4096x4096, .bf16⟩
  | .hbm, ⟨64, _⟩ => ⟨S8x8x4096x128, .f32⟩
  | .hbm, ⟨65, _⟩ => ⟨S8x8x4096x128, .bf16⟩
  | .hbm, ⟨66, _⟩ => ⟨S8x8x4096x4096, .f32⟩
  | .hbm, ⟨67, _⟩ => ⟨S_, .f32⟩
  | .hbm, ⟨68, _⟩ => ⟨S8x8x4096, .f32⟩
  | .hbm, ⟨69, _⟩ => ⟨S8x8x4096x4096, .f32⟩
  | .hbm, ⟨70, _⟩ => ⟨S_, .f32⟩
  | .hbm, ⟨71, _⟩ => ⟨S8x8x4096, .f32⟩
  | .hbm, ⟨72, _⟩ => ⟨S8x4096x8x128, .bf16⟩
  | .hbm, ⟨73, _⟩ => ⟨S32768x1024, .bf16⟩
  | .hbm, ⟨74, _⟩ => ⟨S8x4096x8x128, .bf16⟩
  | .hbm, ⟨75, _⟩ => ⟨S32768x1024, .bf16⟩
  | .hbm, ⟨76, _⟩ => ⟨S8x4096x8x128, .bf16⟩
  | .hbm, ⟨77, _⟩ => ⟨S32768x1024, .bf16⟩
  | .hbm, ⟨78, _⟩ => ⟨S8x8x1x4096, .f32⟩
  | .hbm, ⟨79, _⟩ => ⟨S8x8x8x4096, .f32⟩
  | .hbm, ⟨80, _⟩ => ⟨S64x8x4096, .f32⟩
  | .hbm, ⟨81, _⟩ => ⟨S8x8x1x4096, .f32⟩
  | .hbm, ⟨82, _⟩ => ⟨S8x8x8x4096, .f32⟩
  | .hbm, ⟨83, _⟩ => ⟨S64x8x4096, .f32⟩
  | .hbm, ⟨84, _⟩ => ⟨S1x2x1168x2048, .bf16⟩
  | .hbm, ⟨85, _⟩ => ⟨S1x2x1168x2048, .bf16⟩
  | .hbm, ⟨86, _⟩ => ⟨S1x2x1168x2048, .bf16⟩
  | .hbm, ⟨87, _⟩ => ⟨S1x2x1168x2048, .bf16⟩
  | .hbm, ⟨88, _⟩ => ⟨S1x2x1168x2048, .bf16⟩
  | .hbm, ⟨89, _⟩ => ⟨S1x2x1168x2048, .bf16⟩
  | .hbm, ⟨90, _⟩ => ⟨S1x2x1168x2048, .bf16⟩
  | .hbm, ⟨91, _⟩ => ⟨S1x2x1168x2048, .bf16⟩
  | .hbm, ⟨92, _⟩ => ⟨S1x2x1168x2048, .bf16⟩
  | .hbm, ⟨93, _⟩ => ⟨S1x2x1168x2048, .bf16⟩
  | .hbm, ⟨94, _⟩ => ⟨S1x2x1168x2048, .bf16⟩
  | .hbm, ⟨95, _⟩ => ⟨S1x2x1168x2048, .bf16⟩
  | .hbm, ⟨96, _⟩ => ⟨S12x2x1168x2048, .bf16⟩
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩

abbrev nD : Nat := 1
abbrev τ : Topo := Topo.v7x

variable {F : FTy → Type} [FloatOps F]
-- ==== Swap.lean ====
abbrev S4x2x1168x2048 : Shape := ⟨4, ![4, 2, 1168, 2048]⟩
abbrev S4x1x1168x2048 : Shape := ⟨4, ![4, 1, 1168, 2048]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x2x1168x2048, .bf16⟩
  | .hbm, ⟨1, _⟩ => ⟨S4x1x1168x2048, .bf16⟩
  | _, _ => ⟨S4x2x1168x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32_10 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_11 : BitVec 32 := 0#32
  let c0_i32_12 : BitVec 32 := 0#32
  ![0, v9.toNat, 0, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_9 : BitVec 32 := 1#32
  let v15 : BitVec 32 := Scalar.muli v10 c1_i32_9
  let v16 : BitVec 32 := Scalar.addi v14 v15
  v16.toNat
-- ==== SwapReference.lean ====
abbrev S32x2x1168x2048 : Shape := ⟨4, ![32, 2, 1168, 2048]⟩
abbrev S4x1x1168x2048 : Shape := ⟨4, ![4, 1, 1168, 2048]⟩
abbrev S32x1x1168x2048 : Shape := ⟨4, ![32, 1, 1168, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32x2x1168x2048, .bf16⟩
  | .hbm, ⟨1, _⟩ => ⟨S4x1x1168x2048, .bf16⟩
  | .hbm, ⟨2, _⟩ => ⟨S4x1x1168x2048, .bf16⟩
  | .hbm, ⟨3, _⟩ => ⟨S4x1x1168x2048, .bf16⟩
  | .hbm, ⟨4, _⟩ => ⟨S4x1x1168x2048, .bf16⟩
  | .hbm, ⟨5, _⟩ => ⟨S4x1x1168x2048, .bf16⟩
  | .hbm, ⟨6, _⟩ => ⟨S4x1x1168x2048, .bf16⟩
  | .hbm, ⟨7, _⟩ => ⟨S4x1x1168x2048, .bf16⟩
  | .hbm, ⟨8, _⟩ => ⟨S4x1x1168x2048, .bf16⟩
  | .hbm, ⟨9, _⟩ => ⟨S32x1x1168x2048, .bf16⟩
  | _, _ => ⟨S32x2x1168x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== StepIn.lean ====
abbrev S1794x4x2048 : Shape := ⟨3, ![1794, 4, 2048]⟩
abbrev S46x4x2048 : Shape := ⟨3, ![46, 4, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1794x4x2048, .f32⟩
  | .hbm, ⟨1, _⟩ => ⟨S1794x4x2048, .f32⟩
  | .hbm, ⟨2, _⟩ => ⟨S1794x4x2048, .f32⟩
  | .hbm, ⟨3, _⟩ => ⟨S1794x4x2048, .f32⟩
  | .hbm, ⟨4, _⟩ => ⟨S1794x4x2048, .f32⟩
  | .hbm, ⟨5, _⟩ => ⟨S1794x4x2048, .f32⟩
  | .hbm, ⟨6, _⟩ => ⟨S1794x4x2048, .f32⟩
  | .hbm, ⟨7, _⟩ => ⟨S1794x4x2048, .f32⟩
  | .local _ .vmem, ⟨0, _⟩ => ⟨S46x4x2048, .f32⟩
  | .local _ .vmem, ⟨1, _⟩ => ⟨S46x4x2048, .f32⟩
  | .local _ .vmem, ⟨2, _⟩ => ⟨S46x4x2048, .f32⟩
  | .local _ .vmem, ⟨3, _⟩ => ⟨S46x4x2048, .f32⟩
  | .local _ .vmem, ⟨4, _⟩ => ⟨S46x4x2048, .f32⟩
  | .local _ .vmem, ⟨5, _⟩ => ⟨S46x4x2048, .f32⟩
  | .local _ .vmem, ⟨6, _⟩ => ⟨S46x4x2048, .f32⟩
  | .local _ .vmem, ⟨7, _⟩ => ⟨S46x4x2048, .f32⟩
  | .local _ .vmem, ⟨8, _⟩ => ⟨S46x4x2048, .f32⟩
  | .local _ .vmem, ⟨9, _⟩ => ⟨S46x4x2048, .f32⟩
  | .local _ .vmem, ⟨10, _⟩ => ⟨S46x4x2048, .f32⟩
  | .local _ .vmem, ⟨11, _⟩ => ⟨S46x4x2048, .f32⟩
  | .local _ .vmem, ⟨12, _⟩ => ⟨S46x4x2048, .f32⟩
  | .local _ .vmem, ⟨13, _⟩ => ⟨S46x4x2048, .f32⟩
  | .local _ .vmem, ⟨14, _⟩ => ⟨S46x4x2048, .f32⟩
  | .local _ .vmem, ⟨15, _⟩ => ⟨S46x4x2048, .f32⟩
  | _, _ => ⟨S1794x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![39, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S46x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S46x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S46x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S46x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S46x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S46x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S46x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S46x4x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepInReferenceIdeal.lean ====
abbrev S1794x4x2048 : Shape := ⟨3, ![1794, 4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1794x4x2048, .f32⟩
  | .hbm, ⟨1, _⟩ => ⟨S1794x4x2048, .f32⟩
  | .hbm, ⟨2, _⟩ => ⟨S1794x4x2048, .f32⟩
  | .hbm, ⟨3, _⟩ => ⟨S1794x4x2048, .f32⟩
  | .hbm, ⟨4, _⟩ => ⟨S_, .f32⟩
  | .hbm, ⟨5, _⟩ => ⟨S1794x4x2048, .f32⟩
  | .hbm, ⟨6, _⟩ => ⟨S1794x4x2048, .f32⟩
  | .hbm, ⟨7, _⟩ => ⟨S_, .f32⟩
  | .hbm, ⟨8, _⟩ => ⟨S1794x4x2048, .f32⟩
  | .hbm, ⟨9, _⟩ => ⟨S1794x4x2048, .f32⟩
  | .hbm, ⟨10, _⟩ => ⟨S1794x4x2048, .f32⟩
  | .hbm, ⟨11, _⟩ => ⟨S_, .f32⟩
  | .hbm, ⟨12, _⟩ => ⟨S1794x4x2048, .f32⟩
  | .hbm, ⟨13, _⟩ => ⟨S1794x4x2048, .f32⟩
  | .hbm, ⟨14, _⟩ => ⟨S1794x4x2048, .f32⟩
  | .hbm, ⟨15, _⟩ => ⟨S_, .f32⟩
  | .hbm, ⟨16, _⟩ => ⟨S1794x4x2048, .f32⟩
  | .hbm, ⟨17, _⟩ => ⟨S1794x4x2048, .f32⟩
  | .hbm, ⟨18, _⟩ => ⟨S1794x4x2048, .f32⟩
  | .hbm, ⟨19, _⟩ => ⟨S_, .f32⟩
  | .hbm, ⟨20, _⟩ => ⟨S1794x4x2048, .f32⟩
  | .hbm, ⟨21, _⟩ => ⟨S1794x4x2048, .f32⟩
  | .hbm, ⟨22, _⟩ => ⟨S_, .f32⟩
  | .hbm, ⟨23, _⟩ => ⟨S1794x4x2048, .f32⟩
  | .hbm, ⟨24, _⟩ => ⟨S1794x4x2048, .f32⟩
  | .hbm, ⟨25, _⟩ => ⟨S1794x4x2048, .f32⟩
  | .hbm, ⟨26, _⟩ => ⟨S_, .f32⟩
  | .hbm, ⟨27, _⟩ => ⟨S1794x4x2048, .f32⟩
  | .hbm, ⟨28, _⟩ => ⟨S1794x4x2048, .f32⟩
  | .hbm, ⟨29, _⟩ => ⟨S1794x4x2048, .f32⟩
  | .hbm, ⟨30, _⟩ => ⟨S_, .f32⟩
  | .hbm, ⟨31, _⟩ => ⟨S1794x4x2048, .f32⟩
  | .hbm, ⟨32, _⟩ => ⟨S1794x4x2048, .f32⟩
  | .hbm, ⟨33, _⟩ => ⟨S1794x4x2048, .f32⟩
  | .hbm, ⟨34, _⟩ => ⟨S_, .f32⟩
  | .hbm, ⟨35, _⟩ => ⟨S1794x4x2048, .f32⟩
  | .hbm, ⟨36, _⟩ => ⟨S1794x4x2048, .f32⟩
  | _, _ => ⟨S1794x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOut.lean ====
abbrev S4x512x2048 : Shape := ⟨3, ![4, 512, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== StepOutReferenceIdeal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSmall.lean ====
abbrev S1x2216x128 : Shape := ⟨3, ![1, 2216, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x2216x128, .f32⟩
  | .hbm, ⟨1, _⟩ => ⟨S1x2216x128, .f32⟩
  | .hbm, ⟨2, _⟩ => ⟨S1x2216x128, .f32⟩
  | .hbm, ⟨3, _⟩ => ⟨S1x2216x128, .f32⟩
  | .hbm, ⟨4, _⟩ => ⟨S1x2216x128, .f32⟩
  | .hbm, ⟨5, _⟩ => ⟨S1x2216x128, .f32⟩
  | .hbm, ⟨6, _⟩ => ⟨S1x2216x128, .f32⟩
  | .local _ .vmem, ⟨0, _⟩ => ⟨S1x2216x128, .f32⟩
  | .local _ .vmem, ⟨1, _⟩ => ⟨S1x2216x128, .f32⟩
  | .local _ .vmem, ⟨2, _⟩ => ⟨S1x2216x128, .f32⟩
  | .local _ .vmem, ⟨3, _⟩ => ⟨S1x2216x128, .f32⟩
  | .local _ .vmem, ⟨4, _⟩ => ⟨S1x2216x128, .f32⟩
  | .local _ .vmem, ⟨5, _⟩ => ⟨S1x2216x128, .f32⟩
  | .local _ .vmem, ⟨6, _⟩ => ⟨S1x2216x128, .f32⟩
  | _, _ => ⟨S1x2216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== StepSmallReferenceIdeal.lean ====
abbrev S1x2216x128 : Shape := ⟨3, ![1, 2216, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2216x128, .f32⟩
  | .hbm, ⟨1, _⟩ => ⟨S1x2216x128, .f32⟩
  | .hbm, ⟨2, _⟩ => ⟨S1x2216x128, .f32⟩
  | .hbm, ⟨3, _⟩ => ⟨S1x2216x128, .f32⟩
  | .hbm, ⟨4, _⟩ => ⟨S_, .f32⟩
  | .hbm, ⟨5, _⟩ => ⟨S1x2216x128, .f32⟩
  | .hbm, ⟨6, _⟩ => ⟨S1x2216x128, .f32⟩
  | .hbm, ⟨7, _⟩ => ⟨S_, .f32⟩
  | .hbm, ⟨8, _⟩ => ⟨S1x2216x128, .f32⟩
  | .hbm, ⟨9, _⟩ => ⟨S1x2216x128, .f32⟩
  | .hbm, ⟨10, _⟩ => ⟨S1x2216x128, .f32⟩
  | .hbm, ⟨11, _⟩ => ⟨S_, .f32⟩
  | .hbm, ⟨12, _⟩ => ⟨S1x2216x128, .f32⟩
  | .hbm, ⟨13, _⟩ => ⟨S1x2216x128, .f32⟩
  | .hbm, ⟨14, _⟩ => ⟨S1x2216x128, .f32⟩
  | .hbm, ⟨15, _⟩ => ⟨S_, .f32⟩
  | .hbm, ⟨16, _⟩ => ⟨S1x2216x128, .f32⟩
  | .hbm, ⟨17, _⟩ => ⟨S1x2216x128, .f32⟩
  | .hbm, ⟨18, _⟩ => ⟨S1x2216x128, .f32⟩
  | .hbm, ⟨19, _⟩ => ⟨S_, .f32⟩
  | .hbm, ⟨20, _⟩ => ⟨S1x2216x128, .f32⟩
  | .hbm, ⟨21, _⟩ => ⟨S1x2216x128, .f32⟩
  | .hbm, ⟨22, _⟩ => ⟨S_, .f32⟩
  | .hbm, ⟨23, _⟩ => ⟨S1x2216x128, .f32⟩
  | .hbm, ⟨24, _⟩ => ⟨S1x2216x128, .f32⟩
  | .hbm, ⟨25, _⟩ => ⟨S1x2216x128, .f32⟩
  | .hbm, ⟨26, _⟩ => ⟨S_, .f32⟩
  | .hbm, ⟨27, _⟩ => ⟨S1x2216x128, .f32⟩
  | .hbm, ⟨28, _⟩ => ⟨S1x2216x128, .f32⟩
  | .hbm, ⟨29, _⟩ => ⟨S1x2216x128, .f32⟩
  | .hbm, ⟨30, _⟩ => ⟨S_, .f32⟩
  | .hbm, ⟨31, _⟩ => ⟨S1x2216x128, .f32⟩
  | .hbm, ⟨32, _⟩ => ⟨S1x2216x128, .f32⟩
  | .hbm, ⟨33, _⟩ => ⟨S1x2216x128, .f32⟩
  | .hbm, ⟨34, _⟩ => ⟨S_, .f32⟩
  | .hbm, ⟨35, _⟩ => ⟨S1x2216x128, .f32⟩
  | .hbm, ⟨36, _⟩ => ⟨S1x2216x128, .f32⟩
  | _, _ => ⟨S1x2216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Gather.lean ====
abbrev S1x2x1168x2048 : Shape := ⟨4, ![1, 2, 1168, 2048]⟩
abbrev S4x2x1168x2048 : Shape := ⟨4, ![4, 2, 1168, 2048]⟩
abbrev S3 : Shape := ⟨1, ![3]⟩
abbrev S1 : Shape := ⟨1, ![1]⟩
abbrev S_ : Shape := ⟨0, ![]⟩
abbrev S1x1x1168x2048 : Shape := ⟨4, ![1, 1, 1168, 2048]⟩

abbrev nBuf : Space → Nat
  | .hbm => 2
  | .vmem => 0
  | .smem => 0
  | _ => 0

abbrev bufTy : (tb : Table) → Fin (tcTables nBuf tb) → BufTy
  | .hbm, ⟨0, _⟩ => ⟨S1x2x1168x2048, .bf16⟩
  | .hbm, ⟨1, _⟩ => ⟨S4x2x1168x2048, .bf16⟩
  | _, _ => ⟨S1x2x1168x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let c0_i32_16 : BitVec 32 := 0#32
  ![v14.toNat, v8.toNat, 0, 0]
def k0_off2 (d0 : Dev nD) : Fin 4 → Nat :=
  let c0_i32_17 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_18 : BitVec 32 := 0#32
  let c0_i32_19 : BitVec 32 := 0#32
  ![0, v8.toNat, 0, 0]
def k0_dev1 (d0 : Dev nD) : Nat :=
  let c0_i32_12 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_11 : BitVec 32 := 4#32
  let v19 : BitVec 32 := Scalar.muli v9 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v33 : BitVec 32 := Scalar.muli v10 c2_i32_24
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v35 : BitVec 32 := Scalar.muli v8 c1_i32_25
  let v36 : BitVec 32 := Scalar.addi v34 v35
  v36.toNat
def k0_dev3 (d0 : Dev nD) : Nat :=
  let c0_i32_34 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_33 : BitVec 32 := 4#32
  let v43 : BitVec 32 := Scalar.muli v11 c4_i32_33
  let v44 : BitVec 32 := Scalar.addi c0_i32_34 v43
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_35 : BitVec 32 := 2#32
  let v45 : BitVec 32 := Scalar.muli v12 c2_i32_35
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v47 : BitVec 32 := Scalar.muli v8 c1_i32_36
  let v48 : BitVec 32 := Scalar.addi v46 v47
  v48.toNat
def k0_off3 (d0 : Dev nD) : Fin 4 → Nat :=
  let c2_i32_90 : BitVec 32 := 2#32
  let c1_i32_48 : BitVec 32 := 1#32
  let v55 : BitVec 32 := Dev.word d0
  let c4_i32_43 : BitVec 32 := 4#32
  let v56 : BitVec 32 := Scalar.divsi v55 c4_i32_43
  let c2_i32_42 : BitVec 32 := 2#32
  let v57 : BitVec 32 := Scalar.remsi v56 c2_i32_42
  let v64 : BitVec 32 := Scalar.subi c1_i32_48 v57
  let v101 : BitVec 32 := Scalar.muli c2_i32_90 v64
  let v58 : BitVec 32 := Dev.word d0
  let c2_i32_45 : BitVec 32 := 2#32
  let v59 : BitVec 32 := Scalar.divsi v58 c2_i32_45
  let c2_i32_44 : BitVec 32 := 2#32
  let v60 : BitVec 32 := Scalar.remsi v59 c2_i32_44
  let v102 : BitVec 32 := Scalar.addi v101 v60
  let v61 : BitVec 32 := Dev.word d0
  let c1_i32_47 : BitVec 32 := 1#32
  let v62 : BitVec 32 := Scalar.divsi v61 c1_i32_47
  let c2_i32_46 : BitVec 32 := 2#32
  let v63 : BitVec 32 := Scalar.remsi v62 c2_i32_46
  let c0_i32_97 : BitVec 32 := 0#32
  let c0_i32_98 : BitVec 32 := 0#32
  ![v102.toNat, v63.toNat, 0, 0]
def k0_off4 (d0 : Dev nD) : Fin 4 → Nat :=
  let c2_i32_102 : BitVec 32 := 2#32
  let v55 : BitVec 32 := Dev.word d0
  let c4_i32_43 : BitVec 32 := 4#32
  let v56 : BitVec 32 := Scalar.divsi v55 c4_i32_43
  let c2_i32_42 : BitVec 32 := 2#32
  let v57 : BitVec 32 := Scalar.remsi v56 c2_i32_42
  let v115 : BitVec 32 := Scalar.muli c2_i32_102 v57
  let c1_i32_49 : BitVec 32 := 1#32
  let v58 : BitVec 32 := Dev.word d0
  let c2_i32_45 : BitVec 32 := 2#32
  let v59 : BitVec 32 := Scalar.divsi v58 c2_i32_45
  let c2_i32_44 : BitVec 32 := 2#32
  let v60 : BitVec 32 := Scalar.remsi v59 c2_i32_44
  let v65 : BitVec 32 := Scalar.subi c1_i32_49 v60
  let v116 : BitVec 32 := Scalar.addi v115 v65
  let v61 : BitVec 32 := Dev.word d0
  let c1_i32_47 : BitVec 32 := 1#32
  let v62 : BitVec 32 := Scalar.divsi v61 c1_i32_47
  let c2_i32_46 : BitVec 32 := 2#32
  let v63 : BitVec 32 := Scalar.remsi v62 c2_i32_46
  let c0_i32_109 : BitVec 32 := 0#32
  let c0_i32_110 : BitVec 32 := 0#32
  ![v116.toNat, v63.toNat, 0, 0]
def k0_off5 (d0 : Dev nD) : Fin 4 → Nat :=
  let c2_i32_114 : BitVec 32 := 2#32
  let c1_i32_50 : BitVec 32 := 1#32
  let v55 : BitVec 32 := Dev.word d0
  let c4_i32_43 : BitVec 32 := 4#32
  let v56 : BitVec 32 := Scalar.divsi v55 c4_i32_43
  let c2_i32_42 : BitVec 32 := 2#32
  let v57 : BitVec 32 := Scalar.remsi v56 c2_i32_42
  let v66 : BitVec 32 := Scalar.subi c1_i32_50 v57
  let v129 : BitVec 32 := Scalar.muli c2_i32_114 v66
  let c1_i32_51 : BitVec 32 := 1#32
  let v58 : BitVec 32 := Dev.word d0
  let c2_i32_45 : BitVec 32 := 2#32
  let v59 : BitVec 32 := Scalar.divsi v58 c2_i32_45
  let c2_i32_44 : BitVec 32 := 2#32
  let v60 : BitVec 32 := Scalar.remsi v59 c2_i32_44
  let v67 : BitVec 32 := Scalar.subi c1_i32_51 v60
  let v130 : BitVec 32 := Scalar.addi v129 v67
  let v61 : BitVec 32 := Dev.word d0
  let c1_i32_47 : BitVec 32 := 1#32
  let v62 : BitVec 32 := Scalar.divsi v61 c1_i32_47
  let c2_i32_46 : BitVec 32 := 2#32
  let v63 : BitVec 32 := Scalar.remsi v62 c2_i32_46
  let c0_i32_121 : BitVec 32 := 0#32
  let c0_i32_122 : BitVec 32 := 0#32
  ![v130.toNat, v63.toNat, 0, 0]
-- ==== GatherReference.lean ====
abbrev S4x2x1168x2048 : Shape := ⟨4, ![4, 2, 1168, 2048]⟩
abbrev S32x2x1168x2048 : Shape := ⟨4, ![32, 2, 1168, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4x2x1168x2048, .bf16⟩
  | .hbm, ⟨1, _⟩ => ⟨S32x2x1168x2048, .bf16⟩
  | _, _ => ⟨S4x2x1168x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proj.lean ====
abbrev S4096x2048 : Shape := ⟨2, ![4096, 2048]⟩
abbrev S7296x2048 : Shape := ⟨2, ![7296, 2048]⟩
abbrev S1x2x1168x2048 : Shape := ⟨4, ![1, 2, 1168, 2048]⟩
abbrev S4096x7168 : Shape := ⟨2, ![4096, 7168]⟩
abbrev S4x2x1168x2048 : Shape := ⟨4, ![4, 2, 1168, 2048]⟩
abbrev S1024x2048 : Shape := ⟨2, ![1024, 2048]⟩
abbrev S1024x1024 : Shape := ⟨2, ![1024, 1024]⟩
abbrev S3 : Shape := ⟨1, ![3]⟩
abbrev S1 : Shape := ⟨1, ![1]⟩
abbrev S_ : Shape := ⟨0, ![]⟩
abbrev S1x1x464x2048 : Shape := ⟨4, ![1, 1, 464, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S7296x2048, .bf16⟩
  | .hbm, ⟨2, _⟩ => ⟨S1x2x1168x2048, .bf16⟩
  | .hbm, ⟨3, _⟩ => ⟨S4096x7168, .bf16⟩
  | .hbm, ⟨4, _⟩ => ⟨S4x2x1168x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 7, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v0 v2
  let arg2 : BitVec 32 := BitVec.ofNat 32 (i 2).val
  let c0_i32_1 : BitVec 32 := 0#32
  let v6 : BitVec 1 := Scalar.cmpi .eq arg2 c0_i32_1
  let v7 : BitVec 1 := Scalar.andi v3 v6
  let v10 : BitVec 32 := Scalar.extui v7
  let c0_i32_3 : BitVec 32 := 0#32
  let v11 : BitVec 1 := Scalar.cmpi .ne v10 c0_i32_3
  v11

def k0_off1 (d21 : Dev nD) : Fin 4 → Nat :=
  let c2_i32_17 : BitVec 32 := 2#32
  let v21 : BitVec 32 := Dev.word d21
  let c4_i32 : BitVec 32 := 4#32
  let v22 : BitVec 32 := Scalar.divsi v21 c4_i32
  let c2_i32 : BitVec 32 := 2#32
  let v23 : BitVec 32 := Scalar.remsi v22 c2_i32
  let v34 : BitVec 32 := Scalar.muli c2_i32_17 v23
  let v24 : BitVec 32 := Dev.word d21
  let c2_i32_11 : BitVec 32 := 2#32
  let v25 : BitVec 32 := Scalar.divsi v24 c2_i32_11
  let c2_i32_10 : BitVec 32 := 2#32
  let v26 : BitVec 32 := Scalar.remsi v25 c2_i32_10
  let v35 : BitVec 32 := Scalar.addi v34 v26
  let v27 : BitVec 32 := Dev.word d21
  let c1_i32 : BitVec 32 := 1#32
  let v28 : BitVec 32 := Scalar.divsi v27 c1_i32
  let c2_i32_12 : BitVec 32 := 2#32
  let v29 : BitVec 32 := Scalar.remsi v28 c2_i32_12
  let c0_i32_26 : BitVec 32 := 0#32
  let c0_i32_27 : BitVec 32 := 0#32
  ![v35.toNat, v29.toNat, 0, 0]
def k0_off2 (d21 : Dev nD) : Fin 4 → Nat :=
  let c0_i32_28 : BitVec 32 := 0#32
  let v27 : BitVec 32 := Dev.word d21
  let c1_i32 : BitVec 32 := 1#32
  let v28 : BitVec 32 := Scalar.divsi v27 c1_i32
  let c2_i32_12 : BitVec 32 := 2#32
  let v29 : BitVec 32 := Scalar.remsi v28 c2_i32_12
  let c0_i32_29 : BitVec 32 := 0#32
  let c0_i32_30 : BitVec 32 := 0#32
  ![0, v29.toNat, 0, 0]
def k0_dev1 (d21 : Dev nD) : Nat :=
  let c0_i32_23 : BitVec 32 := 0#32
  let c1_i32_13 : BitVec 32 := 1#32
  let v21 : BitVec 32 := Dev.word d21
  let c4_i32 : BitVec 32 := 4#32
  let v22 : BitVec 32 := Scalar.divsi v21 c4_i32
  let c2_i32 : BitVec 32 := 2#32
  let v23 : BitVec 32 := Scalar.remsi v22 c2_i32
  let v30 : BitVec 32 := Scalar.subi c1_i32_13 v23
  let c4_i32_22 : BitVec 32 := 4#32
  let v40 : BitVec 32 := Scalar.muli v30 c4_i32_22
  let v41 : BitVec 32 := Scalar.addi c0_i32_23 v40
  let v24 : BitVec 32 := Dev.word d21
  let c2_i32_11 : BitVec 32 := 2#32
  let v25 : BitVec 32 := Scalar.divsi v24 c2_i32_11
  let c2_i32_10 : BitVec 32 := 2#32
  let v26 : BitVec 32 := Scalar.remsi v25 c2_i32_10
  let c2_i32_24 : BitVec 32 := 2#32
  let v42 : BitVec 32 := Scalar.muli v26 c2_i32_24
  let v43 : BitVec 32 := Scalar.addi v41 v42
  let v27 : BitVec 32 := Dev.word d21
  let c1_i32 : BitVec 32 := 1#32
  let v28 : BitVec 32 := Scalar.divsi v27 c1_i32
  let c2_i32_12 : BitVec 32 := 2#32
  let v29 : BitVec 32 := Scalar.remsi v28 c2_i32_12
  let c1_i32_25 : BitVec 32 := 1#32
  let v44 : BitVec 32 := Scalar.muli v29 c1_i32_25
  let v45 : BitVec 32 := Scalar.addi v43 v44
  v45.toNat
def k0_dev2 (d21 : Dev nD) : Nat :=
  let c0_i32_34 : BitVec 32 := 0#32
  let v21 : BitVec 32 := Dev.word d21
  let c4_i32 : BitVec 32 := 4#32
  let v22 : BitVec 32 := Scalar.divsi v21 c4_i32
  let c2_i32 : BitVec 32 := 2#32
  let v23 : BitVec 32 := Scalar.remsi v22 c2_i32
  let c4_i32_33 : BitVec 32 := 4#32
  let v52 : BitVec 32 := Scalar.muli v23 c4_i32_33
  let v53 : BitVec 32 := Scalar.addi c0_i32_34 v52
  let c1_i32_14 : BitVec 32 := 1#32
  let v24 : BitVec 32 := Dev.word d21
  let c2_i32_11 : BitVec 32 := 2#32
  let v25 : BitVec 32 := Scalar.divsi v24 c2_i32_11
  let c2_i32_10 : BitVec 32 := 2#32
  let v26 : BitVec 32 := Scalar.remsi v25 c2_i32_10
  let v31 : BitVec 32 := Scalar.subi c1_i32_14 v26
  let c2_i32_35 : BitVec 32 := 2#32
  let v54 : BitVec 32 := Scalar.muli v31 c2_i32_35
  let v55 : BitVec 32 := Scalar.addi v53 v54
  let v27 : BitVec 32 := Dev.word d21
  let c1_i32 : BitVec 32 := 1#32
  let v28 : BitVec 32 := Scalar.divsi v27 c1_i32
  let c2_i32_12 : BitVec 32 := 2#32
  let v29 : BitVec 32 := Scalar.remsi v28 c2_i32_12
  let c1_i32_36 : BitVec 32 := 1#32
  let v56 : BitVec 32 := Scalar.muli v29 c1_i32_36
  let v57 : BitVec 32 := Scalar.addi v55 v56
  v57.toNat
def k0_dev3 (d21 : Dev nD) : Nat :=
  let c0_i32_45 : BitVec 32 := 0#32
  let c1_i32_15 : BitVec 32 := 1#32
  let v21 : BitVec 32 := Dev.word d21
  let c4_i32 : BitVec 32 := 4#32
  let v22 : BitVec 32 := Scalar.divsi v21 c4_i32
  let c2_i32 : BitVec 32 := 2#32
  let v23 : BitVec 32 := Scalar.remsi v22 c2_i32
  let v32 : BitVec 32 := Scalar.subi c1_i32_15 v23
  let c4_i32_44 : BitVec 32 := 4#32
  let v64 : BitVec 32 := Scalar.muli v32 c4_i32_44
  let v65 : BitVec 32 := Scalar.addi c0_i32_45 v64
  let c1_i32_16 : BitVec 32 := 1#32
  let v24 : BitVec 32 := Dev.word d21
  let c2_i32_11 : BitVec 32 := 2#32
  let v25 : BitVec 32 := Scalar.divsi v24 c2_i32_11
  let c2_i32_10 : BitVec 32 := 2#32
  let v26 : BitVec 32 := Scalar.remsi v25 c2_i32_10
  let v33 : BitVec 32 := Scalar.subi c1_i32_16 v26
  let c2_i32_46 : BitVec 32 := 2#32
  let v66 : BitVec 32 := Scalar.muli v33 c2_i32_46
  let v67 : BitVec 32 := Scalar.addi v65 v66
  let v27 : BitVec 32 := Dev.word d21
  let c1_i32 : BitVec 32 := 1#32
  let v28 : BitVec 32 := Scalar.divsi v27 c1_i32
  let c2_i32_12 : BitVec 32 := 2#32
  let v29 : BitVec 32 := Scalar.remsi v28 c2_i32_12
  let c1_i32_47 : BitVec 32 := 1#32
  let v68 : BitVec 32 := Scalar.muli v29 c1_i32_47
  let v69 : BitVec 32 := Scalar.addi v67 v68
  v69.toNat
def k0_cond2 (i : grid0.Coords) : BitVec 1 :=
  let arg0 : BitVec 32 := BitVec.ofNat 32 (i 0).val
  let c3_i32 : BitVec 32 := 3#32
  let v1 : BitVec 1 := Scalar.cmpi .eq arg0 c3_i32
  let arg1 : BitVec 32 := BitVec.ofNat 32 (i 1).val
  let c6_i32 : BitVec 32 := 6#32
  let v4 : BitVec 1 := Scalar.cmpi .eq arg1 c6_i32
  let v5 : BitVec 1 := Scalar.andi v1 v4
  let arg2 : BitVec 32 := BitVec.ofNat 32 (i 2).val
  let c0_i32_2 : BitVec 32 := 0#32
  let v8 : BitVec 1 := Scalar.cmpi .eq arg2 c0_i32_2
  let v9 : BitVec 1 := Scalar.andi v5 v8
  let v19 : BitVec 32 := Scalar.extui v9
  let c0_i32_9 : BitVec 32 := 0#32
  let v20 : BitVec 1 := Scalar.cmpi .ne v19 c0_i32_9
  v20

def k0_off3 (d21 : Dev nD) : Fin 4 → Nat :=
  let c0_i32_33 : BitVec 32 := 0#32
  let v40 : BitVec 32 := Dev.word d21
  let c1_i32_22 : BitVec 32 := 1#32
  let v41 : BitVec 32 := Scalar.divsi v40 c1_i32_22
  let c2_i32_21 : BitVec 32 := 2#32
  let v42 : BitVec 32 := Scalar.remsi v41 c2_i32_21
  let c0_i32_34 : BitVec 32 := 0#32
  let c0_i32_35 : BitVec 32 := 0#32
  ![0, v42.toNat, 0, 0]
def k0_off4 (d21 : Dev nD) : Fin 4 → Nat :=
  let c2_i32_27 : BitVec 32 := 2#32
  let v34 : BitVec 32 := Dev.word d21
  let c4_i32_18 : BitVec 32 := 4#32
  let v35 : BitVec 32 := Scalar.divsi v34 c4_i32_18
  let c2_i32_17 : BitVec 32 := 2#32
  let v36 : BitVec 32 := Scalar.remsi v35 c2_i32_17
  let v47 : BitVec 32 := Scalar.muli c2_i32_27 v36
  let v37 : BitVec 32 := Dev.word d21
  let c2_i32_20 : BitVec 32 := 2#32
  let v38 : BitVec 32 := Scalar.divsi v37 c2_i32_20
  let c2_i32_19 : BitVec 32 := 2#32
  let v39 : BitVec 32 := Scalar.remsi v38 c2_i32_19
  let v48 : BitVec 32 := Scalar.addi v47 v39
  let v40 : BitVec 32 := Dev.word d21
  let c1_i32_22 : BitVec 32 := 1#32
  let v41 : BitVec 32 := Scalar.divsi v40 c1_i32_22
  let c2_i32_21 : BitVec 32 := 2#32
  let v42 : BitVec 32 := Scalar.remsi v41 c2_i32_21
  let c0_i32_36 : BitVec 32 := 0#32
  let c0_i32_37 : BitVec 32 := 0#32
  ![v48.toNat, v42.toNat, 0, 0]
def k0_off5 (d21 : Dev nD) : Fin 4 → Nat :=
  let c2_i32_55 : BitVec 32 := 2#32
  let c1_i32_13 : BitVec 32 := 1#32
  let v21 : BitVec 32 := Dev.word d21
  let c4_i32 : BitVec 32 := 4#32
  let v22 : BitVec 32 := Scalar.divsi v21 c4_i32
  let c2_i32 : BitVec 32 := 2#32
  let v23 : BitVec 32 := Scalar.remsi v22 c2_i32
  let v30 : BitVec 32 := Scalar.subi c1_i32_13 v23
  let v67 : BitVec 32 := Scalar.muli c2_i32_55 v30
  let v24 : BitVec 32 := Dev.word d21
  let c2_i32_11 : BitVec 32 := 2#32
  let v25 : BitVec 32 := Scalar.divsi v24 c2_i32_11
  let c2_i32_10 : BitVec 32 := 2#32
  let v26 : BitVec 32 := Scalar.remsi v25 c2_i32_10
  let v68 : BitVec 32 := Scalar.addi v67 v26
  let v27 : BitVec 32 := Dev.word d21
  let c1_i32 : BitVec 32 := 1#32
  let v28 : BitVec 32 := Scalar.divsi v27 c1_i32
  let c2_i32_12 : BitVec 32 := 2#32
  let v29 : BitVec 32 := Scalar.remsi v28 c2_i32_12
  let c0_i32_62 : BitVec 32 := 0#32
  let c0_i32_63 : BitVec 32 := 0#32
  ![v68.toNat, v29.toNat, 0, 0]
def k0_off6 (d21 : Dev nD) : Fin 4 → Nat :=
  let c2_i32_67 : BitVec 32 := 2#32
  let v21 : BitVec 32 := Dev.word d21
  let c4_i32 : BitVec 32 := 4#32
  let v22 : BitVec 32 := Scalar.divsi v21 c4_i32
  let c2_i32 : BitVec 32 := 2#32
  let v23 : BitVec 32 := Scalar.remsi v22 c2_i32
  let v81 : BitVec 32 := Scalar.muli c2_i32_67 v23
  let c1_i32_14 : BitVec 32 := 1#32
  let v24 : BitVec 32 := Dev.word d21
  let c2_i32_11 : BitVec 32 := 2#32
  let v25 : BitVec 32 := Scalar.divsi v24 c2_i32_11
  let c2_i32_10 : BitVec 32 := 2#32
  let v26 : BitVec 32 := Scalar.remsi v25 c2_i32_10
  let v31 : BitVec 32 := Scalar.subi c1_i32_14 v26
  let v82 : BitVec 32 := Scalar.addi v81 v31
  let v27 : BitVec 32 := Dev.word d21
  let c1_i32 : BitVec 32 := 1#32
  let v28 : BitVec 32 := Scalar.divsi v27 c1_i32
  let c2_i32_12 : BitVec 32 := 2#32
  let v29 : BitVec 32 := Scalar.remsi v28 c2_i32_12
  let c0_i32_74 : BitVec 32 := 0#32
  let c0_i32_75 : BitVec 32 := 0#32
  ![v82.toNat, v29.toNat, 0, 0]
def k0_off7 (d21 : Dev nD) : Fin 4 → Nat :=
  let c2_i32_79 : BitVec 32 := 2#32
  let c1_i32_15 : BitVec 32 := 1#32
  let v21 : BitVec 32 := Dev.word d21
  let c4_i32 : BitVec 32 := 4#32
  let v22 : BitVec 32 := Scalar.divsi v21 c4_i32
  let c2_i32 : BitVec 32 := 2#32
  let v23 : BitVec 32 := Scalar.remsi v22 c2_i32
  let v32 : BitVec 32 := Scalar.subi c1_i32_15 v23
  let v95 : BitVec 32 := Scalar.muli c2_i32_79 v32
  let c1_i32_16 : BitVec 32 := 1#32
  let v24 : BitVec 32 := Dev.word d21
  let c2_i32_11 : BitVec 32 := 2#32
  let v25 : BitVec 32 := Scalar.divsi v24 c2_i32_11
  let c2_i32_10 : BitVec 32 := 2#32
  let v26 : BitVec 32 := Scalar.remsi v25 c2_i32_10
  let v33 : BitVec 32 := Scalar.subi c1_i32_16 v26
  let v96 : BitVec 32 := Scalar.addi v95 v33
  let v27 : BitVec 32 := Dev.word d21
  let c1_i32 : BitVec 32 := 1#32
  let v28 : BitVec 32 := Scalar.divsi v27 c1_i32
  let c2_i32_12 : BitVec 32 := 2#32
  let v29 : BitVec 32 := Scalar.remsi v28 c2_i32_12
  let c0_i32_86 : BitVec 32 := 0#32
  let c0_i32_87 : BitVec 32 := 0#32
  ![v96.toNat, v29.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S32768x2048 : Shape := ⟨2, ![32768, 2048]⟩
abbrev S7296x2048 : Shape := ⟨2, ![7296, 2048]⟩
abbrev S4x2x1168x2048 : Shape := ⟨4, ![4, 2, 1168, 2048]⟩
abbrev S7168x2048 : Shape := ⟨2, ![7168, 2048]⟩
abbrev S2048x7168 : Shape := ⟨2, ![2048, 7168]⟩
abbrev S32768x7168 : Shape := ⟨2, ![32768, 7168]⟩
abbrev S32x2x1168x2048 : Shape := ⟨4, ![32, 2, 1168, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S7296x2048, .bf16⟩
  | .hbm, ⟨2, _⟩ => ⟨S4x2x1168x2048, .bf16⟩
  | .hbm, ⟨3, _⟩ => ⟨S7168x2048, .bf16⟩
  | .hbm, ⟨4, _⟩ => ⟨S2048x7168, .bf16⟩
  | .hbm, ⟨5, _⟩ => ⟨S32768x7168, .f32⟩
  | .hbm, ⟨6, _⟩ => ⟨S32768x7168, .bf16⟩
  | .hbm, ⟨7, _⟩ => ⟨S32x2x1168x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Loss.lean ====
abbrev S4096x2048 : Shape := ⟨2, ![4096, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Sums.lean ====
abbrev S22144x128 : Shape := ⟨2, ![22144, 128]⟩
abbrev S2768x128 : Shape := ⟨2, ![2768, 128]⟩

abbrev nBuf : Space → Nat
  | .hbm => 2
  | .vmem => 2
  | .smem => 0
  | _ => 0

abbrev bufTy : (tb : Table) → Fin (tcTables nBuf tb) → BufTy
  | .hbm, ⟨0, _⟩ => ⟨S22144x128, .f32⟩
  | .hbm, ⟨1, _⟩ => ⟨S2768x128, .f32⟩
  | .local _ .vmem, ⟨0, _⟩ => ⟨S22144x128, .f32⟩
  | .local _ .vmem, ⟨1, _⟩ => ⟨S2768x128, .f32⟩
  | _, _ => ⟨S22144x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S22144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumsReferenceIdeal.lean ====
abbrev S22144x128 : Shape := ⟨2, ![22144, 128]⟩
abbrev S8x2768x128 : Shape := ⟨3, ![8, 2768, 128]⟩
abbrev S_ : Shape := ⟨0, ![]⟩
abbrev S2768x128 : Shape := ⟨2, ![2768, 128]⟩

abbrev nBuf : Space → Nat
  | .hbm => 4
  | .vmem => 0
  | .smem => 0
  | _ => 0

abbrev bufTy : (tb : Table) → Fin (tcTables nBuf tb) → BufTy
  | .hbm, ⟨0, _⟩ => ⟨S22144x128, .f32⟩
  | .hbm, ⟨1, _⟩ => ⟨S8x2768x128, .f32⟩
  | .hbm, ⟨2, _⟩ => ⟨S_, .f32⟩
  | .hbm, ⟨3, _⟩ => ⟨S2768x128, .f32⟩
  | _, _ => ⟨S22144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutReferenceIdeal.lean ====
abbrev S4096x2048 : Shape := ⟨2, ![4096, 2048]⟩
abbrev S2048x4096 : Shape := ⟨2, ![2048, 4096]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x4096, .bf16⟩
  | .hbm, ⟨3, _⟩ => ⟨S2048x2048, .f32⟩
  | .hbm, ⟨4, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WGate.lean ====
abbrev S4096x128 : Shape := ⟨2, ![4096, 128]⟩
abbrev S4096x2048 : Shape := ⟨2, ![4096, 2048]⟩
abbrev S128x2048 : Shape := ⟨2, ![128, 2048]⟩
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WGateReferenceIdeal.lean ====
abbrev S4096x128 : Shape := ⟨2, ![4096, 128]⟩
abbrev S4096x2048 : Shape := ⟨2, ![4096, 2048]⟩
abbrev S128x4096 : Shape := ⟨2, ![128, 4096]⟩
abbrev S128x2048 : Shape := ⟨2, ![128, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x4096, .bf16⟩
  | .hbm, ⟨3, _⟩ => ⟨S128x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WMain.lean ====
abbrev S4096x7296 : Shape := ⟨2, ![4096, 7296]⟩
abbrev S4096x2048 : Shape := ⟨2, ![4096, 2048]⟩
abbrev S7168x2048 : Shape := ⟨2, ![7168, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7296, .bf16⟩
  | .hbm, ⟨1, _⟩ => ⟨S4096x2048, .bf16⟩
  | .hbm, ⟨2, _⟩ => ⟨S7168x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WMainReferenceIdeal.lean ====
abbrev S4096x7296 : Shape := ⟨2, ![4096, 7296]⟩
abbrev S4096x2048 : Shape := ⟨2, ![4096, 2048]⟩
abbrev S4096x7168 : Shape := ⟨2, ![4096, 7168]⟩
abbrev S7168x4096 : Shape := ⟨2, ![7168, 4096]⟩
abbrev S7168x2048 : Shape := ⟨2, ![7168, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S4096x2048, .bf16⟩
  | .hbm, ⟨2, _⟩ => ⟨S4096x7168, .bf16⟩
  | .hbm, ⟨3, _⟩ => ⟨S7168x4096, .bf16⟩
  | .hbm, ⟨4, _⟩ => ⟨S7168x2048, .f32⟩
  | .hbm, ⟨5, _⟩ => ⟨S7168x2048, .bf16⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutLn.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLnReferenceIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== ProjGate.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateReferenceIdeal.lean ====
abbrev S4096x2048 : Shape := ⟨2, ![4096, 2048]⟩
abbrev S128x2048 : Shape := ⟨2, ![128, 2048]⟩
abbrev S2048x128 : Shape := ⟨2, ![2048, 128]⟩
abbrev S4096x128 : Shape := ⟨2, ![4096, 128]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S2048x128, .bf16⟩
  | .hbm, ⟨3, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutGrad.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .bf16⟩
  | .hbm, ⟨3, _⟩ => ⟨S4096x2048, .f32⟩
  | .hbm, ⟨4, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjLast.lean ====
abbrev S4096x2048 : Shape := ⟨2, ![4096, 2048]⟩
abbrev S7296x2048 : Shape := ⟨2, ![7296, 2048]⟩
abbrev S4096x7168 : Shape := ⟨2, ![4096, 7168]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S7296x2048, .bf16⟩
  | .hbm, ⟨2, _⟩ => ⟨S4096x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjLastReferenceIdeal.lean ====
abbrev S4096x2048 : Shape := ⟨2, ![4096, 2048]⟩
abbrev S7296x2048 : Shape := ⟨2, ![7296, 2048]⟩
abbrev S7168x2048 : Shape := ⟨2, ![7168, 2048]⟩
abbrev S2048x7168 : Shape := ⟨2, ![2048, 7168]⟩
abbrev S4096x7168 : Shape := ⟨2, ![4096, 7168]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S7296x2048, .bf16⟩
  | .hbm, ⟨2, _⟩ => ⟨S7168x2048, .bf16⟩
  | .hbm, ⟨3, _⟩ => ⟨S2048x7168, .bf16⟩
  | .hbm, ⟨4, _⟩ => ⟨S4096x7168, .f32⟩
  | .hbm, ⟨5, _⟩ => ⟨S4096x7168, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InGrad.lean ====
abbrev S4096x7296 : Shape := ⟨2, ![4096, 7296]⟩
abbrev S7296x2048 : Shape := ⟨2, ![7296, 2048]⟩
abbrev S4096x2048 : Shape := ⟨2, ![4096, 2048]⟩
abbrev S1024x2432 : Shape := ⟨2, ![1024, 2432]⟩
abbrev S2432x1024 : Shape := ⟨2, ![2432, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x7296, .bf16⟩
  | .hbm, ⟨1, _⟩ => ⟨S7296x2048, .bf16⟩
  | .hbm, ⟨2, _⟩ => ⟨S4096x2048, .f32⟩
  | .hbm, ⟨3, _⟩ => ⟨S4096x2048, .f32⟩
  | .local _ .vmem, ⟨0, _⟩ => ⟨S1024x2432, .bf16⟩
  | .local _ .vmem, ⟨1, _⟩ => ⟨S1024x2432, .bf16⟩
  | .local _ .vmem, ⟨2, _⟩ => ⟨S2432x1024, .bf16⟩
  | .local _ .vmem, ⟨3, _⟩ => ⟨S2432x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGradReferenceIdeal.lean ====
abbrev S4096x7296 : Shape := ⟨2, ![4096, 7296]⟩
abbrev S7296x2048 : Shape := ⟨2, ![7296, 2048]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S7296x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Launch.lean ====
/-
# The launch of a kernel whose remote copies land in another device's result array

`Proof.Launch`: from the protocol of one region to the run of a whole `@main`, for a kernel with no handshake. A device
may copy into its neighbour's result array as soon as it starts, so the neighbour's array has to be given away before
anyone runs: the global step at launch (`hglob`) is handed, of every device at once, the kernel's own semaphores at
zero AND the buffers no window stages (`unscopedRest`), and deals them out with the tokens of the protocol.
-/
module

public import Idealize.ShloMosaic.Lib.Pipeline.Kit
public import Idealize.ShloMosaic.Lib.Tactic

@[expose] public section

set_option Elab.async false

noncomputable section

namespace Proof.Launch

open Idealize.ShloMosaic Idealize.ShloMosaic.TcCoe Idealize.ShloMosaic.Rounds
open Idealize.ShloMosaic.Pipeline Idealize.ShloMosaic.Pipeline.PerCore Idealize.ShloMosaic.Pipeline.PerCore.RDat
open Idealize.SL Idealize.SL.RA
open Idealize.SL.BI (sProp bigSep bigSep_sep' bigSep_mono bigSep_congr bigSep_univ_prod bigSep_fupd)
open scoped Idealize.SL.BI
open Idealize.SL.BI.BIBase Idealize.SL.BI.Laws Idealize.SL.Sem Idealize.SL.ProofMode

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {P : Type} [Fintype P]

local notation "𝕄" => MT nD τ sig Ix Val Name U Lvl

variable (pcs : P → PCfg sig Λ₀ Val) (a : Dev nD → (p : P) → (pcs p).Adm)
  (rdats : (p : P) → (c : Dev nD) → RDat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- A device's windowed arrays at the launch contents, as buffers: one that two windows read is named once. -/
def arrs (m : (ℓ : Loc nD τ sig) → Buf Val ℓ) (c : Dev nD) : sProp 𝕄 :=
  arrBufs (pinD pcs a c p).spec c (fun b => m ((c.tc : Thread nD τ).loc b))

/-- The buffers of a device that no window stages and that live through the region, at the launch contents. -/
def rest (m : (ℓ : Loc nD τ sig) → Buf Val ℓ) (c : Dev nD) : sProp 𝕄 :=
  unscopedRest (pinD pcs a c p).spec c (fun b => m ((c.tc : Thread nD τ).loc b))

/-- What stays with a device through the launch, beside its debts and its generator register. -/
def kept (m : (ℓ : Loc nD τ sig) → Buf Val ℓ) (c : Dev nD) : sProp 𝕄 :=
  iprop(scopedBufs (c.tc : Thread nD τ) ∗ cellsSems0 (pinD pcs a) p c ∗ idleSems0 (pinD pcs a) phinj p (fun _ => ho) c ∗ arrs pcs a p m c)

include hw in
/-- One device's launch holdings: what it keeps, what goes to the global step, and the rest. -/
theorem core_split (O₀ : Dev nD → CellTallies nD τ sig Ix) (m : (ℓ : Loc nD τ sig) → Buf Val ℓ) (g : Dev nD → PrngReg) (c : Dev nD) :
    coreInit (Ix := Ix) (Name := Name) (U := U) (Lvl := Lvl) (owing O₀) 0 (⟨m, fun _ => 0, g⟩ : MemSt nD τ sig Val) (c.tc : Thread nD τ)
      ⊢ iprop(kept pcs a phinj p ho m c ∗ (ownSems0 osem c ∗ unscopedSems0 c ∗ rest pcs a p m c)
          ∗ levels0 c ∗ owes (c.tc : Thread nD τ) (O₀ c) ∅ ∗ launchCred O₀ c ∗ prngReg c (g c)) := by
  have hub := unscopedBufs_split₀ (pinD pcs a) p c hw.arr_unscoped (Ix := Ix) (Name := Name) (U := U) (Lvl := Lvl) (fun b => m ((c.tc : Thread nD τ).loc b))
  have hss := scopedSems0_split (pinD pcs a) phinj p (fun _ => hw) (fun _ => ho) (Ix := Ix) (Val := Val) (Name := Name) (U := U) (Lvl := Lvl) c
  refine (coreInit_boundary_owing O₀ m g c).trans ?_
  unfold boundary kept arrs rest
  rw [hss]
  iintro ⟨⟨Hsc, ⟨⟨Hcl, Hos⟩, Hid⟩, -⟩, Hub, Hus, HO, Hlv, Hpr, Hcr⟩
  ihave Hb := (Entails.of_eq hub) $$ Hub
  icases Hb with ⟨Ha, Hr⟩
  isplitl [Hsc Hcl Hid Ha]
  · isplitl [Hsc]; · iexact Hsc
    isplitl [Hcl]; · iexact Hcl
    isplitl [Hid] <;> iassumption
  isplitl [Hos Hus Hr]
  · isplitl [Hos]; · iexact Hos
    isplitl [Hus] <;> iassumption
  isplitl [Hlv]; · iexact Hlv
  isplitl [HO]; · iexact HO
  isplitl [Hcr] <;> iassumption

/-- Every device's right to assign levels, spent at once on one assignment over the TensorCores' cells. -/
theorem assign [Preorder Lvl] (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hoff (d : Dev nD) (q : Proc τ) (hq : q ≠ Proc.tc) : (coreLevAts ((d, q) : Thread nD τ) L lv : sProp 𝕄) = BI.emp := by
    unfold coreLevAts
    rw [bigSep_congr (Ψ := fun _ : SemLoc sig => (BI.emp : sProp 𝕄)) fun sm _ => by rw [hL (((d, q) : Thread nD τ), sm) hq, BI.bigSep_empty],
      BI.bigSep_emp_const]
  have hall : (levAts L lv : sProp 𝕄) = bigSep Finset.univ fun c : Thread nD τ => coreLevAts c L lv :=
    bigSep_univ_prod fun g : GSem nD τ sig => bigSep (L g) fun i => levAt g i (lv g i)
  refine (bigSep_mono fun c _ => lev_assign_cells (c.tc : Thread nD τ) L lv).trans <| (BI.bigSep_bupd _ _).trans <| BI.bupd_mono ?_
  rw [hall, bigSep_threads (fun c : Thread nD τ => coreLevAts c L lv)]
  have hsc : (bigSep Finset.univ fun d : Dev nD => bigSep (Finset.univ.erase Proc.tc) fun q => (coreLevAts ((d, q) : Thread nD τ) L lv : sProp 𝕄)) = BI.emp :=
    (bigSep_congr (Ψ := fun _ : Dev nD => (BI.emp : sProp 𝕄)) fun d _ =>
      (bigSep_congr (Ψ := fun _ : Proc τ => (BI.emp : sProp 𝕄)) fun q hq => hoff d q (Finset.ne_of_mem_erase hq)).trans (BI.bigSep_emp_const _)).trans
      (BI.bigSep_emp_const _)
  have hin : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun q => (coreLevAts ((d, q) : Thread nD τ) L lv : sProp 𝕄)) := by
    rw [hsc, bigSep_sep']
    iintro ⟨-, H⟩
    isplitl [H]; · iexact H
    iempintro
  exact hin

/-- What a device enters `@main` with. -/
def enter (O₀ : Dev nD → CellTallies nD τ sig Ix) (L : GSem nD τ sig → Finset Ix) (lv : GSem nD τ sig → Ix → Lvl)
    (m : (ℓ : Loc nD τ sig) → Buf Val ℓ) (g : Dev nD → PrngReg) (G' : Dev nD → sProp 𝕄) (c : Dev nD) : sProp 𝕄 :=
  iprop(kept pcs a phinj p ho m c ∗ (levAts L lv ∗ launchCred O₀ c ∗ prngReg c (g c) ∗ G' c) ∗ owes (c.tc : Thread nD τ) (O₀ c) ∅
    ∗ cellsGhost (pinD pcs a) EP p c ∗ toksInit (pinD pcs a) EP p c)

/-- What it leaves with. -/
def leave (Y Z : Dev nD → sProp 𝕄) (c : Dev nD) : sProp 𝕄 :=
  iprop((rdats p c).arraysAt (pinD pcs a c p).N ∗ Y c ∗ Z c ∗ scopedSems0 (c.tc : Thread nD τ))

include hw in
/-- The launch of the whole machine. -/
theorem launch [DecidableEq P] [Preorder Lvl] [∀ e, Nonempty (Val e)] [Infinite Name] [EP.LandsIn (upEmb : UEmb _ 𝕄)]
    (O₀ : Dev nD → CellTallies nD τ sig Ix) (m : (ℓ : Loc nD τ sig) → Buf Val ℓ) (g : Dev nD → PrngReg)
    (L : GSem nD τ sig → Finset Ix) (lv : GSem nD τ sig → Ix → Lvl) (hL : ∀ g : GSem nD τ sig, g.1.2 ≠ .tc → L g = ∅)
    (G G' : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G))
    (hglob : (bigSep Finset.univ fun c => iprop((ownSems0 osem c ∗ unscopedSems0 c ∗ rest pcs a p m c) ∗ G c) : sProp 𝕄) ⊢ |={Set.univ}=> bigSep Finset.univ G') :
    iprop((bigSep Finset.univ fun d : Dev nD =>
        coreInit (Ix := Ix) (Name := Name) (U := U) (Lvl := Lvl) (owing O₀) 0 (⟨m, fun _ => 0, g⟩ : MemSt nD τ sig Val) (d.tc : Thread nD τ)) ∗ ownU u₀)
      ⊢ |={Set.univ}=> (bigSep Finset.univ (enter pcs a phinj p ho EP O₀ L lv m g G') : sProp 𝕄) := by
  have hpick (Φ : P → Dev nD → sProp 𝕄) :
      (bigSep Finset.univ fun c : Dev nD => bigSep Finset.univ fun p' => Φ p' c) ⊢ bigSep Finset.univ fun c : Dev nD => Φ p c :=
    bigSep_mono fun c _ => BI.bigSep_elim (Finset.mem_univ p)
  have hcores : (bigSep Finset.univ fun d : Dev nD =>
        coreInit (Ix := Ix) (Name := Name) (U := U) (Lvl := Lvl) (owing O₀) 0 (⟨m, fun _ => 0, g⟩ : MemSt nD τ sig Val) (d.tc : Thread nD τ))
      ⊢ iprop((bigSep Finset.univ fun c : Dev nD => kept pcs a phinj p ho m c)
        ∗ ((bigSep Finset.univ fun c : Dev nD => ownSems0 osem c) ∗ (bigSep Finset.univ fun c : Dev nD => unscopedSems0 c)
            ∗ (bigSep Finset.univ fun c : Dev nD => rest pcs a p m c))
        ∗ (bigSep Finset.univ fun c : Dev nD => levels0 c) ∗ (bigSep Finset.univ fun c : Dev nD => owes (c.tc : Thread nD τ) (O₀ c) ∅)
        ∗ (bigSep Finset.univ fun c : Dev nD => launchCred O₀ c) ∗ (bigSep Finset.univ fun c : Dev nD => prngReg c (g c)) : sProp 𝕄) := by
    refine (bigSep_mono fun c _ => core_split pcs a phinj p hw ho O₀ m g c).trans ?_
    simp only [bigSep_sep']
    exact BI.Entails.refl _
  iintro ⟨Hc, Hu⟩
  ihave Hc := hcores $$ Hc
  icases Hc with ⟨Hk, Hglob, Hlv, HO, Hcr, Hpr⟩
  imod (assign L lv hL) $$ Hlv with Hla
  imod hu₀ $$ Hu with ⟨HP, HG⟩
  imod (fund_ghost (pinD pcs a) EP phinj) $$ HP with ⟨Hg, Ht⟩
  imod hglob $$ [Hglob HG] with HG'
  · simp only [bigSep_sep']
    isplitl [Hglob] <;> iassumption
  imodintro
  unfold enter
  simp only [bigSep_sep']
  isplitl [Hk]; · iexact Hk
  isplitl [Hla Hcr Hpr HG']
  · isplitl [Hla]
    · iapply (BI.bigSep_intro_persistent (S := Finset.univ) fun (c : Dev nD) _ => (BI.Entails.refl (levAts L lv : sProp 𝕄))); iexact Hla
    isplitl [Hcr]; · iexact Hcr
    isplitl [Hpr] <;> iassumption
  isplitl [HO]; · iexact HO
  isplitl [Hg]
  · iapply (hpick fun p' c => cellsGhost (pinD pcs a) EP p' c); iexact Hg
  · iapply (hpick fun p' c => toksInit (pinD pcs a) EP p' c); iexact Ht

include hw in
/-- One device's run of `@main`: the region, then the return. -/
theorem core_run [DecidableEq P] [Preorder Lvl] [∀ e, Nonempty (Val e)] [Infinite Name] [EP.LandsIn (upEmb : UEmb _ 𝕄)]
    (O₀ : Dev nD → CellTallies nD τ sig Ix) (m : (ℓ : Loc nD τ sig) → Buf Val ℓ) (g : Dev nD → PrngReg)
    (L : GSem nD τ sig → Finset Ix) (lv : GSem nD τ sig → Ix → Lvl)
    (G' X Y Z : Dev nD → sProp 𝕄) (c : Dev nD)
    (hbody : (rdats p c).BodyObligation defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : SharedIn (pcs p).spec) (hq : ∀ w, ((pcs p).spec w).isOut = false → (rdats p c).q w = shareOf (pcs p).spec w)
    (howed₀ : (rdats p c).owed 0 = O₀ c) (howedN : (rdats p c).owed (Fin.last _) = 0)
    (hwaits : (levAts L lv : sProp 𝕄) ⊢ cellsWaits (pinD pcs a) rdats ι p c)
    (hA : ∀ w, (rdats p c).A w = m (((pinD pcs a c p).spec w).arr.view.loc (c.tc : Thread nD τ)))
    (hpre : (BI.emp : sProp 𝕄) ⊢ (prefHeld (pcs p).pre c (fun _ => fullShare.right) (a c p).1 : sProp 𝕄))
    (hX : iprop(levAts L lv ∗ launchCred O₀ c ∗ prngReg c (g c) ∗ G' c) ⊢ |={Set.univ}=> iprop(X c ∗ Z c))
    (hin : iprop(X c ∗ scopedRest (pinD pcs a c p).spec c) ⊢ (rdats p c).Φ 0)
    (hout : (rdats p c).Φ (Fin.last (pinD pcs a c p).N) ⊢ iprop(Y c ∗ ownSems0 osem c ∗ scopedRest (pinD pcs a c p).spec c)) :
    enter pcs a phinj p ho EP O₀ L lv m g G' c
      ⊢ wp frame (wpE 𝔻 𝕍 (c.tc : Thread nD τ) none) Set.univ (.op (.customCall (entry p) ()) fun _ => .ret (⟨⟩ : PUnit))
          (fun _ => post (liftTc (leave pcs a rdats p Y Z) BI.emp) (c.tc : Thread nD τ)) := by
  have hss := scopedSems0_split (pinD pcs a) phinj p (fun _ => hw) (fun _ => ho) (Ix := Ix) (Val := Val) (Name := Name) (U := U) (Lvl := Lvl) c
  have hsb := scopedBufs_split (pinD pcs a) p c hw.stage_scoped hw.stage_inj hstage (nD := nD) (τ := τ) (Ix := Ix) (Val := Val) (Name := Name) (U := U) (Lvl := Lvl)
  have harr₀ : arrs pcs a p m c ⊢ (rdats p c).arrays (rdats p c).A := (rdats p c).arrays_split_shared hshare harr hq _ _ hA
  have hin' : iprop(X c ∗ (prefHeld (pcs p).pre c (fun _ => fullShare.right) (a c p).1 : sProp 𝕄) ∗ scopedRest (pinD pcs a c p).spec c) ⊢ (rdats p c).Φ 0 := by
    refine Entails.trans ?_ hin
    iintro ⟨HX, -, HR⟩
    isplitl [HX] <;> iassumption
  have hout' : iprop((rdats p c).Φ (Fin.last (pinD pcs a c p).N) ∗ cellsSems0 (pinD pcs a) p c ∗ Dat.staging (pinD pcs a c p) c ∗ idleSems0 (pinD pcs a) phinj p (fun _ => ho) c)
      ⊢ iprop(Y c ∗ scopedSems0 (c.tc : Thread nD τ) ∗ scopedBufs (c.tc : Thread nD τ)) := by
    rw [hss, hsb]
    iintro ⟨HΦ, Hcl, Hst, Hid⟩
    ihave H := hout $$ HΦ
    icases H with ⟨HY, Hos, Hr⟩
    isplitl [HY]; · iexact HY
    isplitl [Hcl Hos Hid]
    · isplitl [Hcl Hos]; · isplitl [Hcl] <;> iassumption
      iexact Hid
    isplitl [Hst] <;> iassumption
  have hpost : PerCore.RDat.EntryPost (pinD pcs a) rdats ι p c
      ⊢ iprop((rdats p c).arraysAt (pinD pcs a c p).N ∗ ∃ W, owes (c.tc : Thread nD τ) (0 : CellTallies nD τ sig Ix) W) := by
    unfold PerCore.RDat.EntryPost RDat.owesAt owesWithin
    rw [howedN]
    iintro ⟨Ha, ⟨%W, -, HW⟩⟩
    isplitl [Ha]; · iexact Ha
    iexists W; iexact HW
  unfold enter kept
  iintro ⟨⟨Hsc, Hcl, Hid, Ha⟩, ⟨#Hla, Hcr, Hpr, HG⟩, HO, Hg, Ht⟩
  ihave Hw := hwaits $$ Hla
  iapply (fupd_wp frame (wpE 𝔻 𝕍 (c.tc : Thread nD τ) none) Set.univ _ _)
  imod (cellsInit_alloc (pinD pcs a) rdats EP phinj p c) $$ [Hcl Hg] with ⟨%κ, -, Hinit⟩
  · isplitl [Hcl] <;> iassumption
  imod hX $$ [Hcr Hpr HG] with ⟨HX, HZ⟩
  · isplitr; · iexact Hla
    isplitl [Hcr]; · iexact Hcr
    isplitl [Hpr] <;> iassumption
  imodintro
  iapply (wp_customCall_entry_frame pcs a rdats ι EP κ phinj p defs₀ 𝒱₀ (fun _ => fullShare.right) c Set.univ (fun _ _ => Set.mem_univ _)
      hbody hne none (fun u h => nomatch h) (X := X c) (Y := Y c) (R := scopedRest (pinD pcs a c p).spec c) (I := idleSems0 (pinD pcs a) phinj p (fun _ => ho) c)
      (Entails.of_eq hsb) hin' hout'
      (k := fun _ => .ret (⟨⟩ : PUnit)) (Q := fun _ => post (liftTc (leave pcs a rdats p Y Z) BI.emp) (c.tc : Thread nD τ))) $$ [Ha HO Hinit Ht HX Hid Hsc Hw]
  · isplitl [Ha HO Hinit Ht Hw]
    · unfold PerCore.RDat.EntryPre RDat.owesAt owesWithin
      rw [howed₀]
      isplitl [Ha]; · iapply harr₀; iexact Ha
      isplitl [HO]
      · iexists ∅; isplitr; · ipureintro; rw [Finset.coe_empty]; exact Set.empty_subset _
        iexact HO
      isplitl [Hw]; · iexact Hw
      isplitl [Hinit] <;> iassumption
    isplitr; · iapply hpre; iempintro
    isplitl [HX]; · iexact HX
    isplitl [Hid] <;> iassumption
  iintro ⟨Hpost, HY, Hz, -⟩
  rw [wp_ret]; imodintro
  unfold post; simp only [liftTc_tc, leave]
  ihave Hp := hpost $$ Hpost
  icases Hp with ⟨Ha, HW⟩
  isplitr [HW]
  · isplitl [Ha]; · iexact Ha
    isplitl [HY]; · iexact HY
    isplitl [HZ] <;> iassumption
  · iexact HW

/-- A device's leavings read against a final state. -/
theorem core_read [Preorder Lvl] [∀ e, Nonempty (Val e)] (Y Z : Dev nD → sProp 𝕄) (c : Dev nD)
    (harr : ∀ w, ((pcs p).spec w).arr.IsWhole) (QY : Dev nD → MemSt nD τ sig Val → Prop)
    (hY : ∀ (s' : Phys nD τ sig Val), iprop(Y c ∗ Z c ∗ SI s') ⊢ |={Set.univ}=> iprop(⌜QY c s'.mem⌝ ∗ SI s'))
    (s' : Phys nD τ sig Val) :
    iprop(leave pcs a rdats p Y Z c ∗ SI s') ⊢ |={Set.univ}=>
      iprop(⌜((∀ w, (rdats p c).ArrAt w (pinD pcs a c p).N (s'.mem.mem (((pinD pcs a c p).spec w).arr.view.loc (c.tc : Thread nD τ)))) ∧ QY c s'.mem)
        ∧ ∀ sm : SemLoc sig, sm.isScoped .tc = true → s'.mem.sem ((c.tc : Thread nD τ), sm) = 0⌝ ∗ SI s') := by
  unfold leave
  iintro ⟨⟨Ha, HY, HZ, Hz⟩, HSI⟩
  ihave %hz := (tcScoped_read_pers c s') $$ [Hz HSI]
  · isplitl [Hz] <;> iassumption
  ihave Hr := (arraysAt_read pcs a rdats p c harr (pinD pcs a c p).N s') $$ [Ha HSI]
  · isplitl [Ha] <;> iassumption
  icases Hr with ⟨%ha, HSI⟩
  imod (hY s') $$ [HY HZ HSI] with ⟨%hy, HSI⟩
  · isplitl [HY]; · iexact HY
    isplitl [HZ] <;> iassumption
  imodintro
  isplitr
  · ipureintro; exact ⟨⟨ha, hy⟩, hz⟩
  · iexact HSI

include phinj hw ho in
/-- The run of an `@main` that is one region, from the region's proof data and the protocol: `O₀` what each device owes
    at launch, `G` its copies of the protocol's ghost state, `G'` what the global step makes of them and of every
    device's semaphores and unstaged buffers, `X` what goes into the region's invariant and `Y` what comes back. -/
theorem run_owing [DecidableEq P] [Preorder Lvl] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, (rdats p c).BodyObligation defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : SharedIn (pcs p).spec) (hq : ∀ c w, ((pcs p).spec w).isOut = false → (rdats p c).q w = shareOf (pcs p).spec w)
    (O₀ : Dev nD → CellTallies nD τ sig Ix) (howed₀ : ∀ c, (rdats p c).owed 0 = O₀ c) (howedN : ∀ c, (rdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ cellsWaits (pinD pcs a) rdats ι p c)
    (G G' : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G))
    (hglob : (bigSep Finset.univ fun c => iprop((ownSems0 osem c ∗ unscopedSems0 c ∗ rest pcs a p m c) ∗ G c) : sProp 𝕄) ⊢ |={Set.univ}=> bigSep Finset.univ G')
    (hA : ∀ c w, (rdats p c).A w = m (((pinD pcs a c p).spec w).arr.view.loc (c.tc : Thread nD τ)))
    (hpre : ∀ c, (BI.emp : sProp 𝕄) ⊢ (prefHeld (pcs p).pre c (fun _ => fullShare.right) (a c p).1 : sProp 𝕄))
    (X Y Z : Dev nD → sProp 𝕄)
    (hX : ∀ c, iprop(levAts L lv ∗ launchCred O₀ c ∗ prngReg c (g c) ∗ G' c) ⊢ |={Set.univ}=> iprop(X c ∗ Z c))
    (hin : ∀ c, iprop(X c ∗ scopedRest (pinD pcs a c p).spec c) ⊢ (rdats p c).Φ 0)
    (hout : ∀ c, (rdats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ Z c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, (rdats p c).ArrAt w (pinD pcs a c p).N (s.mem (((pinD pcs a c p).spec w).arr.view.loc (c.tc : Thread nD τ)))) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  refine (θ_run 𝔻 _ _).mono (Q := fun r => (∀ c : Dev nD, ((∀ w, (rdats p c).ArrAt w (pinD pcs a c p).N (r.2.mem (((pinD pcs a c p).spec w).arr.view.loc (c.tc : Thread nD τ))))
      ∧ QY c r.2)
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ => enter pcs a phinj p ho EP O₀ L lv m g G') (fun _ => leave pcs a rdats p Y Z)
      (fun _ => iprop(emp)) Set.univ ?_ (fun _ c => ?_) fun _ => ?_))
  · iintro H
    imod (launch pcs a phinj p hw ho EP O₀ m g L lv hL G G' u₀ hu₀ hglob) $$ H with H
    imodintro
    iexists ()
    isplitl [H]; · iexact H
    iempintro
  · rw [hmain c]
    exact core_run pcs a rdats ι phinj p hw ho EP defs₀ 𝒱₀ O₀ m g L lv G' X Y Z c (hbody c) hne harr hstage hshare (hq c) (howed₀ c) (howedN c)
      (hwaits c) (hA c) (hpre c) (hX c) (hin c) (hout c)
  · iintro ⟨H, -, Hsc⟩ %s' HSI
    ihave %hsc := (scSems_read_zero m g s') $$ [Hsc HSI]
    · isplitl [Hsc] <;> iassumption
    imod (posts_fupd Finset.univ (fun c => core_read pcs a rdats p Y Z c harr QY (hY c)) s') $$ [H HSI] with %h
    · isplitl [H] <;> iassumption
    imodintro
    ipureintro
    exact ⟨fun c => h c (Finset.mem_univ c), hsc⟩

end Proof.Launch

end
-- ==== Proof.Lines.lean ====
/-
# Pairwise exchanges with no handshake

`Proof.Lines`: each device sends, on every line `j`, one block to its partner `peer j` (an involution), waits for its
own block to have left (`snd j`) and for the partner's to have arrived (`rcv j`). Two cells a line and device:

* `snd j` of `c`: signalled once by `c`'s own copy when its source has been read, `amt j` units; waited for by `c`, who
  gets the source back (`src j c`);
* `rcv j` of `c`: signalled once by the copy of `peer j c` when it has landed, `amt j` units; waited for by `c`, who gets
  the landed block (`dst j c`).

A device owes its partners' `rcv` cells from the start, and may wait for anything else meanwhile only below their level;
it waits for `snd` and `rcv` when it owes nothing. The place a block lands in belongs to its sender from the launch.
-/
module

public import proofs.«01_k».proof.Proof.Launch

@[expose] public section

noncomputable section

namespace Proof.Lines

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem Idealize.SL.ProofMode

/-- The lines: their semaphores, partners and amounts. -/
structure Plan (nD : Nat) (sig : RefSig) (J : Type) where
  snd : J → DmaSem sig
  rcv : J → DmaSem sig
  peer : J → Dev nD → Dev nD
  amt : J → ℕ
  inj : Function.Injective fun x : J × Bool => cond x.2 (rcv x.1) (snd x.1)
  invol : ∀ j c, peer j (peer j c) = c
  pos : ∀ j, 0 < amt j

variable {nD : Nat} {τ : Topo} {sig : RefSig} {Val : EltTy → Type} {J : Type} [Fintype J] [DecidableEq J]

/-- Two copies of the ghost state of rounds: the pipeline's and the lines'. -/
abbrev UU (nD : Nat) (τ : Topo) (sig : RefSig) : Type := URounds (GSem nD τ sig) Unit × URounds (GSem nD τ sig) Unit

local notation "𝕄" => MT nD τ sig Unit Val ℕ (UU nD τ sig) ℕ

abbrev EP : Emb (URounds (GSem nD τ sig) Unit) (MT nD τ sig Unit Val ℕ (UU nD τ sig) ℕ) := embL
abbrev ER : Emb (URounds (GSem nD τ sig) Unit) (MT nD τ sig Unit Val ℕ (UU nD τ sig) ℕ) := embR

namespace Plan

variable (B : Plan nD sig J)

/-- The semaphores, `false` the departures and `true` the arrivals. -/
abbrev osem (x : J × Bool) : SemLoc sig := .dma (cond x.2 (B.rcv x.1) (B.snd x.1))
abbrev cell (c : Dev nD) (x : J × Bool) : GSem nD τ sig := ((c : Thread nD τ), B.osem x)

theorem osem_inj : Function.Injective B.osem := fun x y h => B.inj (SemLoc.dma.inj h)

theorem cell_inj : Function.Injective fun y : Dev nD × (J × Bool) => (B.cell (τ := τ) y.1 y.2) := by
  rintro ⟨c, x⟩ ⟨c', x'⟩ h
  have h1 : c = c' := congrArg (fun g : GSem nD τ sig => g.1.1) h
  have h2 : x = x' := B.osem_inj (congrArg Prod.snd h)
  rw [h1, h2]

/-- The partners on line `j` as a permutation of the devices. -/
def swap (j : J) : Dev nD ≃ Dev nD := ⟨B.peer j, B.peer j, B.invol j, B.invol j⟩

/-! ## The schedule -/

open Classical in
/-- The line and the end a semaphore belongs to. -/
def find (s : SemLoc sig) : Option (J × Bool) := if h : ∃ x, s = B.osem x then some h.choose else none

theorem find_osem (x : J × Bool) : B.find (B.osem x) = some x := by
  have h : ∃ y, B.osem x = B.osem y := ⟨x, rfl⟩
  unfold find
  rw [dif_pos h]
  exact congrArg some (B.osem_inj h.choose_spec).symm

theorem find_eq {s : SemLoc sig} {x : J × Bool} (h : B.find s = some x) : s = B.osem x := by
  unfold find at h
  split at h
  · next hx => rw [← Option.some.inj h]; exact hx.choose_spec
  · exact absurd h (by simp)

variable (src dst : J → Dev nD → sProp (MT nD τ sig Unit Val ℕ (UU nD τ sig) ℕ))

def load (c : Dev nD) : Option (J × Bool) → sProp 𝕄
  | none => iprop(emp)
  | some (j, true) => dst j c
  | some (j, false) => src j c

open Classical in
def sched : Schedule (GSem nD τ sig) Unit 𝕄 where
  duties g r := if r = 0 ∧ g.1.2 = .tc ∧ (B.find g.2).isSome then {()} else ∅
  unitless _ := False
  amount g _ _ := (B.find g.2).elim 1 fun x => B.amt x.1
  payload g _ _ := load src dst g.1.1 (B.find g.2)
  amount_pos g _ _ _ := by
    cases h : B.find g.2 with
    | none => exact Nat.one_pos
    | some x => exact B.pos x.1

instance payload_storable [∀ j c, BI.Storable (upEmb : UEmb _ 𝕄) (src j c)] [∀ j c, BI.Storable (upEmb : UEmb _ 𝕄) (dst j c)]
    (g : GSem nD τ sig) (r : ℕ) (d : Unit) : BI.Storable (upEmb : UEmb _ 𝕄) ((B.sched src dst).payload g r d) := by
  show BI.Storable upEmb (load src dst g.1.1 (B.find g.2))
  rcases B.find g.2 with _ | ⟨j, _ | _⟩ <;> unfold load <;> infer_instance

variable (c : Dev nD) (x : J × Bool) (j : J)

theorem duties_cell : (B.sched src dst).duties (B.cell c x) 0 = {()} := by
  dsimp only [sched]; exact if_pos ⟨rfl, rfl, by rw [B.find_osem]; rfl⟩
theorem mem_duties : () ∈ (B.sched src dst).duties (B.cell c x) 0 := by rw [duties_cell]; exact Finset.mem_singleton_self _
theorem duties_later (g : GSem nD τ sig) : ∀ r, 1 ≤ r → (B.sched src dst).duties g r = ∅ :=
  fun r hr => by dsimp only [sched]; exact if_neg fun h => by omega
theorem amount_cell (u : Unit) : (B.sched src dst).amount (B.cell c x) 0 u = B.amt x.1 := by
  dsimp only [sched]; rw [B.find_osem]; rfl
theorem expect_cell : (B.sched src dst).expect (B.cell c x) 0 = B.amt x.1 := by
  unfold Schedule.expect Schedule.amountOf; rw [duties_cell, Finset.sum_singleton, amount_cell]
theorem payload_snd (u : Unit) : (B.sched src dst).payload (B.cell c (j, false)) 0 u = src j c := by
  dsimp only [sched]; rw [B.find_osem]; rfl
theorem payload_rcv (u : Unit) : (B.sched src dst).payload (B.cell c (j, true)) 0 u = dst j c := by
  dsimp only [sched]; rw [B.find_osem]; rfl
theorem rest_snd : bigSep ((B.sched src dst).duties (B.cell c (j, false)) 0 \ ∅) (fun u => (B.sched src dst).payload (B.cell c (j, false)) 0 u) = src j c := by
  rw [Finset.sdiff_empty, duties_cell, bigSep_singleton, payload_snd]
theorem rest_rcv : bigSep ((B.sched src dst).duties (B.cell c (j, true)) 0 \ ∅) (fun u => (B.sched src dst).payload (B.cell c (j, true)) 0 u) = dst j c := by
  rw [Finset.sdiff_empty, duties_cell, bigSep_singleton, payload_rcv]

/-! ## Debts and levels -/

/-- What device `c` owes while the lines `s` are still to be sent. -/
def due (s : Finset J) (c : Dev nD) : CellTallies nD τ sig Unit := ∑ j ∈ s, tallyAt (B.cell (B.peer j c) (j, true)) () (B.amt j)

theorem due_empty : B.due (τ := τ) ∅ c = 0 := Finset.sum_empty
theorem due_erase {s : Finset J} (hj : j ∈ s) :
    B.due (τ := τ) s c = B.due (s.erase j) c + tallyAt (B.cell (B.peer j c) (j, true)) () (B.amt j) := (Finset.sum_erase_add s _ hj).symm

def L (g : GSem nD τ sig) : Finset Unit := if g.1.2 = .tc then {()} else ∅
/-- An arrival is above everything else. -/
def lv (g : GSem nD τ sig) (_ : Unit) : ℕ := if (B.find g.2).any (·.2) then 1 else 0
theorem L_of_ne (g : GSem nD τ sig) (h : g.1.2 ≠ .tc) : L g = ∅ := if_neg h
theorem L_tc (sm : SemLoc sig) : L ((c : Thread nD τ), sm) = {()} := if_pos rfl

theorem due_pos {s : Finset J} {g : GSem nD τ sig} {u : Unit} (h : 0 < B.due s c g u) : ∃ j d, g = B.cell d (j, true) := by
  obtain ⟨j, -, hj⟩ := Pipeline.sum_pos_exists h
  rw [tallyAt_apply] at hj
  by_cases hg : g = B.cell (B.peer j c) (j, true) ∧ u = ()
  · exact ⟨j, _, hg.1⟩
  · rw [if_neg hg] at hj; exact absurd hj (Nat.lt_irrefl 0)

/-- A device that still owes may wait for a semaphore that is no arrival's. -/
theorem mayWait (s : Finset J) (q : DmaSem sig) (hq : ∀ j, q ≠ B.rcv j) :
    (levAts L B.lv : sProp 𝕄) ⊢ MayWait (c : Thread nD τ) (.dma q) () (B.due s c) := by
  refine Pipeline.mayWait_of_levAts (by rw [L_tc]; exact Finset.mem_singleton_self _) fun g u hg => ?_
  obtain ⟨j, d, rfl⟩ := B.due_pos c hg
  refine ⟨by rw [L_tc]; exact Finset.mem_singleton_self _, ?_⟩
  have h1 : B.lv (τ := τ) (B.cell d (j, true)) u = 1 := by unfold lv; rw [B.find_osem]; rfl
  have h0 : B.lv (τ := τ) ((c : Thread nD τ), .dma q) () = 0 := by
    unfold lv
    cases hf : B.find (.dma q) with
    | none => rfl
    | some x =>
      obtain ⟨i, b⟩ := x
      cases b with
      | false => rfl
      | true => exact absurd (SemLoc.dma.inj (B.find_eq hf)) (hq i)
  rw [h0, h1]; exact Nat.one_pos

/-! ## What a device holds of a line -/

/-- Before the send: the rights to send and to wait, and `give j d`, the place on `d = peer j c` the block lands in. -/
def lin (c : Dev nD) (j : J) : sProp 𝕄 :=
  iprop(atPos ER (B.cell c (j, false)) 0 ∅ 0 ∗ atPos ER (B.cell c (j, true)) 0 ∅ 0
    ∗ dutyTok ER (B.cell c (j, false)) 0 () ∗ dutyTok ER (B.cell (B.peer j c) (j, true)) 0 ())

def ready (give : J → Dev nD → sProp 𝕄) (c : Dev nD) (j : J) : sProp 𝕄 :=
  iprop(∃ κs κp κr : ℕ, cellInv ER (B.sched src dst) κs (B.cell c (j, false)) ∗ cellInv ER (B.sched src dst) κp (B.cell (B.peer j c) (j, true))
    ∗ cellInv ER (B.sched src dst) κr (B.cell c (j, true)) ∗ reached ER (B.cell c (j, false)) 0 ∗ reached ER (B.cell (B.peer j c) (j, true)) 0
    ∗ B.lin c j ∗ give j (B.peer j c) ∗ cred (tallyAt (B.cell c (j, true)) () (B.amt j)))

/-- The block under way, both ways. -/
def flying (c : Dev nD) (j : J) : sProp 𝕄 :=
  iprop(∃ κs κr : ℕ, cellInv ER (B.sched src dst) κs (B.cell c (j, false)) ∗ cellInv ER (B.sched src dst) κr (B.cell c (j, true))
    ∗ atPos ER (B.cell c (j, false)) 0 ∅ 0 ∗ atPos ER (B.cell c (j, true)) 0 ∅ 0
    ∗ cred (tallyAt (B.cell c (j, false)) () (B.amt j)) ∗ cred (tallyAt (B.cell c (j, true)) () (B.amt j)))

/-- The own block has left; the partner's is awaited. -/
def half (c : Dev nD) (j : J) : sProp 𝕄 :=
  iprop(∃ κr : ℕ, cellInv ER (B.sched src dst) κr (B.cell c (j, true)) ∗ atPos ER (B.cell c (j, true)) 0 ∅ 0
    ∗ cred (tallyAt (B.cell c (j, true)) () (B.amt j)) ∗ semVal (B.cell c (j, false)) 0)

/-- Both are done. -/
def over (c : Dev nD) (j : J) : sProp 𝕄 := iprop(semVal (B.cell c (j, false)) 0 ∗ semVal (B.cell c (j, true)) 0)

section Rules

variable {Λ : Labels} {defs : Defs nD τ sig Val Λ} (𝒱 : Variants) {α : Type} {Q : α → sProp (MT nD τ sig Unit Val ℕ (UU nD τ sig) ℕ)}
variable {sp sp' : Space} {s : Shape} {e : EltTy}

/-- The send of line `j`. -/
theorem wp_post [∀ j c, BI.Storable (upEmb : UEmb _ 𝕄) (src j c)] [∀ j c, BI.Storable (upEmb : UEmb _ 𝕄) (dst j c)]
    (give : J → Dev nD → sProp 𝕄) {n : Dev nD} (hn : n = B.peer j c)
    {sm : Memref sig .tc sp s e} {dm : Memref sig (Dev.tc n : Thread nD τ).2.kind sp' s e} {hsc : dm.view.ref.isScScratch = false} {sS sR : SemLoc sig}
    (hS : sS = B.osem (j, false)) (hR : sR = B.osem (j, true))
    {hsrc : sm.view.WordExact} {hdst : dm.view.WordExact} {hsem : DmaTarget.Typed sp sR (.remote (Dev.tc n : Thread nD τ) dm sS hsc)}
    {k : PUnit → Prog (TpuEff nD τ sig Val Λ .tc) α} {q : PosShare TreeShare}
    {fs : Buf Val (sm.view.loc (c : Thread nD τ))} {fd : Buf Val (dm.view.loc (n : Thread nD τ))}
    (hN : dm.view.amount sR = B.amt j)
    (hgive : give j n ⊢ (dm.view.loc (n : Thread nD τ) ↦[dm.view.set]{fullShare} fd))
    (hpay₁ : (sm.view.loc (c : Thread nD τ) ↦[sm.view.set]{q} fs) ⊢ src j c)
    (hpay₂ : (dm.view.loc (n : Thread nD τ) ↦[dm.view.set]{fullShare} (dm.view.write Val fd (sm.view.read Val fs) Finset.univ)) ⊢ dst j n)
    {t : Finset J} (hj : j ∈ t) {W : Waits sig Unit} (hr : τ.routes (c : Thread nD τ) (n : Thread nD τ) = true := by routes) :
    iprop(B.ready src dst give c j ∗ (sm.view.loc (c : Thread nD τ) ↦[sm.view.set]{q} fs) ∗ owes (c : Thread nD τ) (B.due t c) W)
      ⊢ iprop(((B.flying src dst c j ∗ owes (c : Thread nD τ) (B.due (t.erase j) c) W) -∗ wp frame (wpE defs 𝒱 (c : Thread nD τ) none) Set.univ (k ⟨⟩) Q)
          -∗ wp frame (wpE defs 𝒱 (c : Thread nD τ) none) Set.univ
              (.op (.enqueueDma sm (.remote (Dev.tc n : Thread nD τ) dm sS hsc) sR hsrc hdst hsem) k) Q) := by
  subst hn hS hR
  unfold ready flying lin
  iintro ⟨⟨%κs, %κp, %κr, #Hs, #Hp, #Hr, #Rs, #Rp, ⟨Hat, Hat', Hts, Htp⟩, Hg, Hc⟩, Hsrc, HO⟩ Hk
  ihave Hd := hgive $$ Hg
  iapply (Rounds.wp_send_pointsTo 𝒱 ER (B.sched src dst) (c : Thread nD τ) none (κ₁ := κs) (κ₂ := κp)
    (r₁ := 0) (r₂ := 0) (d₁ := ()) (d₂ := ()) (fd := fd) (B.mem_duties src dst c (j, false)) (B.mem_duties src dst (B.peer j c) (j, true))
    () () (B.amt j) hN (B.amount_cell src dst c (j, false) ()) (B.amount_cell src dst (B.peer j c) (j, true) ())
    (B.due (t.erase j) c) (B.due_erase c j hj) (W := W)
    (by rw [B.payload_snd]; exact hpay₁) (by rw [B.payload_rcv]; exact hpay₂) hr) $$ [Hsrc Hd HO Hts Htp]
  · isplitr; · iexact Hs
    isplitr; · iexact Hp
    isplitl [Hsrc]; · iexact Hsrc
    isplitl [Hd]; · iexact Hd
    isplitl [HO]; · iexact HO
    isplitl [Hts]; · iexact Hts
    isplitr; · iexact Rs
    isplitl [Htp]; · iexact Htp
    iexact Rp
  iintro ⟨Hcs, HO⟩
  iapply Hk
  isplitr [HO]
  · iexists κs; iexists κr
    isplitr; · iexact Hs
    isplitr; · iexact Hr
    isplitl [Hat]; · iexact Hat
    isplitl [Hat']; · iexact Hat'
    isplitl [Hcs] <;> iassumption
  · iexact HO

/-- The wait for line `j`'s own block to have left. -/
theorem wp_left {w : TpuEff nD τ sig Val Λ .tc PUnit} {sm : SemLoc sig} {k' : ℕ}
    (hw : ∀ K : PUnit → sProp 𝕄, wpE defs 𝒱 (c : Thread nD τ) none Set.univ w K = waitSpec (c : Thread nD τ) Set.univ sm k' K)
    (hsm : sm = B.osem (j, false)) (hk : k' = B.amt j)
    {k : PUnit → Prog (TpuEff nD τ sig Val Λ .tc) α} {W : Waits sig Unit} :
    iprop(B.flying src dst c j ∗ owes (c : Thread nD τ) (0 : CellTallies nD τ sig Unit) W)
      ⊢ iprop(((B.half src dst c j ∗ src j c ∗ ∃ W, owes (c : Thread nD τ) (0 : CellTallies nD τ sig Unit) W) -∗ wp frame (wpE defs 𝒱 (c : Thread nD τ) none) Set.univ (k ⟨⟩) Q)
          -∗ wp frame (wpE defs 𝒱 (c : Thread nD τ) none) Set.univ (.op w k) Q) := by
  subst hsm hk
  unfold flying half
  iintro ⟨⟨%κs, %κr, #Hs, #Hr, Hat, Hat', Hcs, Hcr⟩, HO⟩ Hk
  iapply (Rounds.wp_wait_rest_token 𝒱 ER (B.sched src dst) (c : Thread nD τ) none (κ := κs) hw (Set.mem_univ _) () (O := 0) (W := W) (R := 0) (m := 0) (T := ∅)
      (by rw [Nat.zero_add, B.expect_cell])) $$ [Hcs HO Hat]
  · isplitr; · iexact Hs
    isplitl [Hcs]; · iexact Hcs
    isplitl [HO]; · iexact HO
    isplitr; · rw [MayWait_zero]; iempintro
    iexact Hat
  iintro ⟨HO, Hat, -, Hpay⟩
  ihave Hp := (Entails.of_eq (B.rest_snd src dst c j)) $$ Hpay
  imod (Rounds.cell_close ER (B.sched src dst) (Set.mem_univ κs) (fun h => h) (R := 0 + 1) (B.duties_later src dst _)) $$ [Hat] with Hz
  · isplitr; · iexact Hs
    iexact Hat
  iapply Hk
  isplitl [Hat' Hcr Hz]
  · iexists κr
    isplitr; · iexact Hr
    isplitl [Hat']; · iexact Hat'
    isplitl [Hcr] <;> iassumption
  isplitl [Hp]; · iexact Hp
  iexists _; iexact HO

/-- The wait for line `j`'s block from the partner. -/
theorem wp_came {w : TpuEff nD τ sig Val Λ .tc PUnit} {sm : SemLoc sig} {k' : ℕ}
    (hw : ∀ K : PUnit → sProp 𝕄, wpE defs 𝒱 (c : Thread nD τ) none Set.univ w K = waitSpec (c : Thread nD τ) Set.univ sm k' K)
    (hsm : sm = B.osem (j, true)) (hk : k' = B.amt j)
    {k : PUnit → Prog (TpuEff nD τ sig Val Λ .tc) α} {W : Waits sig Unit} :
    iprop(B.half src dst c j ∗ owes (c : Thread nD τ) (0 : CellTallies nD τ sig Unit) W)
      ⊢ iprop(((B.over c j ∗ dst j c ∗ ∃ W, owes (c : Thread nD τ) (0 : CellTallies nD τ sig Unit) W) -∗ wp frame (wpE defs 𝒱 (c : Thread nD τ) none) Set.univ (k ⟨⟩) Q)
          -∗ wp frame (wpE defs 𝒱 (c : Thread nD τ) none) Set.univ (.op w k) Q) := by
  subst hsm hk
  unfold half over
  iintro ⟨⟨%κr, #Hr, Hat, Hcr, Hz⟩, HO⟩ Hk
  iapply (Rounds.wp_wait_rest_token 𝒱 ER (B.sched src dst) (c : Thread nD τ) none (κ := κr) hw (Set.mem_univ _) () (O := 0) (W := W) (R := 0) (m := 0) (T := ∅)
      (by rw [Nat.zero_add, B.expect_cell])) $$ [Hcr HO Hat]
  · isplitr; · iexact Hr
    isplitl [Hcr]; · iexact Hcr
    isplitl [HO]; · iexact HO
    isplitr; · rw [MayWait_zero]; iempintro
    iexact Hat
  iintro ⟨HO, Hat, -, Hpay⟩
  ihave Hp := (Entails.of_eq (B.rest_rcv src dst c j)) $$ Hpay
  imod (Rounds.cell_close ER (B.sched src dst) (Set.mem_univ κr) (fun h => h) (R := 0 + 1) (B.duties_later src dst _)) $$ [Hat] with Hz'
  · isplitr; · iexact Hr
    iexact Hat
  iapply Hk
  isplitl [Hz Hz']
  · isplitl [Hz] <;> iassumption
  isplitl [Hp]; · iexact Hp
  iexists _; iexact HO

end Rules

/-! ## The launch -/

def cells : Finset (GSem nD τ sig) := Finset.univ.map ⟨fun y : Dev nD × (J × Bool) => B.cell y.1 y.2, B.cell_inj⟩
def toks : Finset (GSem nD τ sig × ℕ × Unit) :=
  Finset.univ.map ⟨fun y : Dev nD × (J × Bool) => (B.cell y.1 y.2, 0, ()), fun _ _ h => B.cell_inj (congrArg Prod.fst h)⟩

/-- A device's ghost state of the lines at launch. -/
def G (c : Dev nD) : sProp 𝕄 :=
  iprop((bigSep Finset.univ fun x => roundState ER (B.sched src dst) (B.cell c x) 0) ∗ (bigSep Finset.univ fun x => reached ER (B.cell c x) 0)
    ∗ (bigSep Finset.univ fun x => atPos ER (B.cell c x) 0 ∅ 0) ∗ (bigSep Finset.univ fun x => dutyTok ER (B.cell c x) 0 ()))

theorem fund : BI.own (ER (initOf (B.cells (τ := τ)) B.toks)) ⊢ (|==> bigSep Finset.univ (B.G src dst) : sProp 𝕄) := by
  have hX (Φ : GSem nD τ sig → sProp 𝕄) : bigSep B.cells Φ = bigSep Finset.univ fun c : Dev nD => bigSep Finset.univ fun x => Φ (B.cell c x) := by
    unfold cells; rw [bigSep_map, bigSep_univ_prod]; rfl
  have hT : bigSep B.toks (fun x => (dutyTok ER x.1 x.2.1 x.2.2 : sProp 𝕄)) = bigSep Finset.univ fun c : Dev nD => bigSep Finset.univ fun x => dutyTok ER (B.cell c x) 0 () := by
    unfold toks; rw [bigSep_map, bigSep_univ_prod]; rfl
  iintro H
  imod (Rounds.fund ER (B.sched src dst) B.cells B.toks) $$ H with ⟨Hst, Hr, Hat, Ht⟩
  imodintro
  unfold G; simp only [bigSep_sep']
  isplitl [Hst]; · iapply (Entails.of_eq (hX fun g => roundState ER (B.sched src dst) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Ht

/-- Every cell's invariant and that it is in round 0: known to everyone. -/
def records (K : Dev nD × (J × Bool) → ℕ) : sProp 𝕄 :=
  iprop((bigSep Finset.univ fun y : Dev nD × (J × Bool) => cellInv ER (B.sched src dst) (K y) (B.cell y.1 y.2))
    ∗ bigSep Finset.univ fun y : Dev nD × (J × Bool) => reached ER (B.cell y.1 y.2) 0)
instance records_persistent (K : Dev nD × (J × Bool) → ℕ) : BI.Persistent (B.records src dst K) := by unfold records; infer_instance

theorem records_inv (K : Dev nD × (J × Bool) → ℕ) (y : Dev nD × (J × Bool)) :
    B.records src dst K ⊢ cellInv ER (B.sched src dst) (K y) (B.cell y.1 y.2) := by
  unfold records
  exact BI.Laws.sep_elim_left.trans (bigSep_elim (Finset.mem_univ y))
theorem records_reached (K : Dev nD × (J × Bool) → ℕ) (y : Dev nD × (J × Bool)) :
    B.records src dst K ⊢ reached ER (B.cell y.1 y.2) 0 := by
  unfold records
  exact BI.Laws.sep_elim_right.trans (bigSep_elim (Finset.mem_univ y))

/-- What the global step leaves a device. -/
def G' (keep : Dev nD → sProp 𝕄) (give : J → Dev nD → sProp 𝕄) (c : Dev nD) : sProp 𝕄 :=
  iprop(keep c ∗ (∃ K, B.records src dst K) ∗ bigSep Finset.univ fun j => iprop(B.lin c j ∗ give j (B.peer j c)))

theorem ends (Φ : J × Bool → sProp 𝕄) :
    bigSep Finset.univ Φ = iprop((bigSep Finset.univ fun j => Φ (j, false)) ∗ (bigSep Finset.univ fun j => Φ (j, true))) := by
  rw [bigSep_univ_prod, ← bigSep_sep']
  exact bigSep_congr fun j _ => bigSep_univ_eq_bigSepL [false, true] (by decide) (by decide) _

/-- Each line's share regrouped from the devices that hold it to their partners. -/
theorem around (Φ : J → Dev nD → sProp 𝕄) :
    (bigSep Finset.univ fun c : Dev nD => bigSep Finset.univ fun j => Φ j c)
      = bigSep Finset.univ fun c : Dev nD => bigSep Finset.univ fun j => Φ j (B.peer j c) := by
  rw [← bigSep_univ_prod (fun y : Dev nD × J => Φ y.2 y.1), ← bigSep_univ_prod (fun y : Dev nD × J => Φ y.2 (B.peer y.2 y.1))]
  exact bigSep_univ_equiv (⟨fun y => (B.peer y.2 y.1, y.2), fun y => (B.peer y.2 y.1, y.2),
    fun y => by simp only [B.invol], fun y => by simp only [B.invol]⟩ : Dev nD × J ≃ Dev nD × J) (fun y => Φ y.2 y.1)

/-- What a device has once its cells are opened. -/
def dealt (keep : Dev nD → sProp 𝕄) (give : J → Dev nD → sProp 𝕄) (c : Dev nD) : sProp 𝕄 :=
  iprop((bigSep Finset.univ fun x => iprop(∃ κ : ℕ, cellInv ER (B.sched src dst) κ (B.cell c x)))
          ∗ (bigSep Finset.univ fun x => reached ER (B.cell c x) 0)
          ∗ ((bigSep Finset.univ fun j => atPos ER (B.cell c (j, false)) 0 ∅ 0) ∗ (bigSep Finset.univ fun j => atPos ER (B.cell c (j, true)) 0 ∅ 0))
          ∗ ((bigSep Finset.univ fun j => dutyTok ER (B.cell c (j, false)) 0 ()) ∗ (bigSep Finset.univ fun j => dutyTok ER (B.cell c (j, true)) 0 ()))
          ∗ keep c ∗ (bigSep Finset.univ fun j => give j c))

/-- The invariants shared, and each line's rights and places handed to the partners. -/
theorem regroup (keep : Dev nD → sProp 𝕄) (give : J → Dev nD → sProp 𝕄) :
    bigSep Finset.univ (B.dealt src dst keep give) ⊢ bigSep Finset.univ (B.G' src dst keep give) := by
  unfold dealt
  simp only [bigSep_sep']
  rw [B.around (fun j c => dutyTok ER (B.cell c (j, true)) 0 ()), B.around give,
    ← bigSep_univ_prod (fun y : Dev nD × (J × Bool) => iprop(∃ κ : ℕ, cellInv ER (B.sched src dst) κ (B.cell y.1 y.2))),
    ← bigSep_univ_prod (fun y : Dev nD × (J × Bool) => (reached ER (B.cell y.1 y.2) 0 : sProp 𝕄))]
  iintro ⟨HI, #HR, ⟨HaS, HaR⟩, ⟨HtS, HtR⟩, Hk, Hg⟩
  ihave HK := (BI.bigSep_exists_pi Finset.univ (fun (y : Dev nD × (J × Bool)) (κ : ℕ) => (cellInv ER (B.sched src dst) κ (B.cell y.1 y.2) : sProp 𝕄))) $$ HI
  icases HK with ⟨%K, #HI⟩
  unfold G' lin
  simp only [bigSep_sep']
  isplitl [Hk]; · iexact Hk
  isplitr
  · iapply (BI.bigSep_of_persistent Finset.univ (iprop(∃ K, B.records src dst K) : sProp 𝕄))
    iexists K
    unfold records
    isplitr; · iexact HI
    iexact HR
  isplitr [Hg]
  · isplitl [HaS]; · iexact HaS
    isplitl [HaR]; · iexact HaR
    isplitl [HtS] <;> iassumption
  · iexact Hg

theorem glob [∀ j c, BI.Storable (upEmb : UEmb _ 𝕄) (src j c)] [∀ j c, BI.Storable (upEmb : UEmb _ 𝕄) (dst j c)]
    (keep : Dev nD → sProp 𝕄) (give : J → Dev nD → sProp 𝕄) (sems rest : Dev nD → sProp 𝕄)
    (hrest : ∀ c, rest c ⊢ iprop(keep c ∗ bigSep Finset.univ fun j => give j c)) :
    (bigSep Finset.univ fun c => iprop((Pipeline.ownSems0 B.osem c ∗ sems c ∗ rest c) ∗ B.G src dst c) : sProp 𝕄)
      ⊢ |={Set.univ}=> bigSep Finset.univ (B.G' src dst keep give) := by
  have hcore (c : Dev nD) : iprop((Pipeline.ownSems0 B.osem c ∗ sems c ∗ rest c) ∗ B.G src dst c)
      ⊢ |={Set.univ}=> B.dealt src dst keep give c := by
    unfold G dealt
    rw [show (Pipeline.ownSems0 (Ix := Unit) (Name := ℕ) (U := UU nD τ sig) (Lvl := ℕ) (Val := Val) (τ := τ) B.osem c : sProp 𝕄)
      = bigSep Finset.univ fun x => semVal (B.cell c x) 0 from rfl]
    iintro ⟨⟨Hz, -, Hrest⟩, Hst, Hr, Hat, Ht⟩
    ihave Hg := (hrest c) $$ Hrest
    icases Hg with ⟨Hk, Hg⟩
    imod (show iprop((bigSep Finset.univ fun x => semVal (B.cell c x) 0) ∗ bigSep Finset.univ fun x => roundState ER (B.sched src dst) (B.cell c x) 0)
        ⊢ (|={Set.univ}=> bigSep Finset.univ fun x => iprop(∃ κ : ℕ, cellInv ER (B.sched src dst) κ (B.cell c x)) : sProp 𝕄) from by
          rw [← bigSep_sep']
          exact (bigSep_mono fun x _ => (Rounds.body_intro ER (B.sched src dst) (B.cell c x)).trans inv_alloc).trans (bigSep_fupd _ _)) $$ [Hz Hst] with Hinv
    · isplitl [Hz] <;> iassumption
    imodintro
    isplitl [Hinv]; · iexact Hinv
    isplitl [Hr]; · iexact Hr
    isplitl [Hat]; · iapply (Entails.of_eq (ends fun x => atPos ER (B.cell c x) 0 ∅ 0)); iexact Hat
    isplitl [Ht]; · iapply (Entails.of_eq (ends fun x => dutyTok ER (B.cell c x) 0 ())); iexact Ht
    isplitl [Hk] <;> iassumption
  exact ((bigSep_mono fun c _ => hcore c).trans (bigSep_fupd _ _)).trans (BI.fupd_mono (B.regroup src dst keep give))

/-- Every line done is every semaphore back at zero. -/
theorem over_sems : (Pipeline.ownSems0 B.osem c : sProp 𝕄) = bigSep Finset.univ fun j => B.over c j := by
  show bigSep Finset.univ (fun x : J × Bool => (semVal (B.cell c x) 0 : sProp 𝕄)) = _
  rw [ends]; unfold over; rw [bigSep_sep']

theorem creds : (Pipeline.launchCred (B.due (τ := τ) Finset.univ) c : sProp 𝕄) ⊢ bigSep Finset.univ fun j => cred (tallyAt (B.cell c (j, true)) () (B.amt j)) := by
  unfold due
  rw [Pipeline.launchCred_sum]
  exact bigSep_mono fun j _ => Pipeline.launchCred_tallyAt _ (B.peer j) (B.peer j) (B.invol j) (B.invol j) () (B.amt j) c

/-- Where a device starts: what it kept, and every line ready. -/
theorem start (keep : Dev nD → sProp 𝕄) (give : J → Dev nD → sProp 𝕄) (R : sProp 𝕄) :
    iprop(levAts L B.lv ∗ Pipeline.launchCred (B.due (τ := τ) Finset.univ) c ∗ R ∗ B.G' src dst keep give c)
      ⊢ |={Set.univ}=> iprop((keep c ∗ bigSep Finset.univ fun j => B.ready src dst give c j) ∗ emp) := by
  have hline (K : Dev nD × (J × Bool) → ℕ) (j : J) :
      iprop(B.records src dst K ∗ cred (tallyAt (B.cell c (j, true)) () (B.amt j)) ∗ B.lin c j ∗ give j (B.peer j c)) ⊢ B.ready src dst give c j := by
    unfold ready
    iintro ⟨#H, Hc, Hl, Hg⟩
    iexists K (c, (j, false)); iexists K (B.peer j c, (j, true)); iexists K (c, (j, true))
    isplitr; · iapply (B.records_inv src dst K (c, (j, false))); iexact H
    isplitr; · iapply (B.records_inv src dst K (B.peer j c, (j, true))); iexact H
    isplitr; · iapply (B.records_inv src dst K (c, (j, true))); iexact H
    isplitr; · iapply (B.records_reached src dst K (c, (j, false))); iexact H
    isplitr; · iapply (B.records_reached src dst K (B.peer j c, (j, true))); iexact H
    isplitl [Hl]; · iexact Hl
    isplitl [Hg] <;> iassumption
  unfold G'
  iintro ⟨-, Hcr, -, Hk, ⟨%K, #HK⟩, Hl⟩
  ihave Hc := (B.creds c) $$ Hcr
  imodintro
  isplitl
  · isplitl [Hk]; · iexact Hk
    iapply (show (bigSep Finset.univ fun j => iprop(B.records src dst K ∗ cred (tallyAt (B.cell c (j, true)) () (B.amt j)) ∗ B.lin c j ∗ give j (B.peer j c)))
      ⊢ bigSep Finset.univ (B.ready src dst give c) from bigSep_mono fun j _ => hline K j)
    simp only [bigSep_sep']
    isplitr
    · iapply (BI.bigSep_of_persistent Finset.univ (B.records src dst K)); iexact HK
    isplitl [Hc]; · iexact Hc
    iexact Hl
  · iempintro

end Plan

end Proof.Lines

end
-- ==== Proof.Staged.lean ====
/-
# Loads and stores of an owned memref

`Proof.Staged`: a load of all of an owned memref gives what it is owned at, and a store over all of it leaves it owned at
what was stored; of a part of it, given by a rectangle, likewise (`get`, `put`).
-/
module

public import Idealize.ShloMosaic.Lib.Memref
public import Idealize.ShloMosaic.Lib.Tactic

@[expose] public section

noncomputable section

namespace Proof.Staged

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) {α : Type}

local notation "𝕄" => MT nD τ sig Ix Val Name U Lvl

variable {Q : α → sProp (MT nD τ sig Ix Val Name U Lvl)}

variable {κ : Kind} {sp : Space} {s : Shape} {e : EltTy}

theorem readAt_all (v : View sig κ sp s e) (f : v.ty.Contents Val) {off : Fin s.rank → ℕ} (h : off = fun _ => 0)
    (inb : ∀ a, off a + s.size a ≤ s.size a) : v.readAt Val (Rect.unit off s.size inb).toLoadRect f = v.read Val f := by
  subst h
  funext x
  have hx : (Rect.unit (fun _ => 0) s.size inb).toLoadRect.idx x = x := funext fun a => Fin.ext (by
    show 0 + 1 * (x a).val = (x a).val
    omega)
  rw [View.readAt_apply, hx]

theorem read_write_all (v : View sig κ sp s e) (f : v.ty.Contents Val) {off : Fin s.rank → ℕ} (h : off = fun _ => 0)
    (inb : ∀ a, off a + s.size a ≤ s.size a) (w : (Rect.unit off s.size inb).shape.Idx → Val e) :
    v.read Val ((v.slice (Rect.unit off s.size inb)).write Val f w Finset.univ) = w := by
  subst h
  funext x
  have hx : (Rect.unit (fun _ => 0) s.size inb).emb x = x := funext fun a => Fin.ext (by
    show 0 + 1 * (x a).val = (x a).val
    omega)
  have := View.read_slice_write_emb (v := v) (Val := Val) (Rect.unit (fun _ => 0) s.size inb) f w (M := Finset.univ) (x := x) (Finset.mem_univ _)
  rw [hx] at this
  exact this

variable (c : Thread nD τ)

/-- A load of all of an owned memref. -/
theorem wp_read {cs : CoreSpace} {s : Shape} {e : EltTy} {m : Memref sig c.2.kind cs s e} {off : Fin s.rank → ℕ} (h : off = fun _ => 0)
    {inb : ∀ a, off a + s.size a ≤ s.size a} {hl : m.view.LoadsAt (Rect.unit off s.size inb).toLoadRect}
    {k : ((Rect.unit off s.size inb).toLoadRect.shape.Idx → Val e) → Prog (TpuEff nD τ sig Val Λ c.2) α} {q : PosShare TreeShare} {X : s.Idx → Val e} :
    (owns c m q X : sProp 𝕄)
      ⊢ iprop((owns c m q X -∗ wp frame (wpE defs 𝒱 c none) Set.univ (k X) Q)
          -∗ wp frame (wpE defs 𝒱 c none) Set.univ (.op (.load m (Rect.unit off s.size inb).toLoadRect hl) k) Q) := by
  unfold owns
  iintro ⟨%f, %hf, H⟩ Hk
  iapply (wp_load 𝒱 c none Set.univ (m := m) (r := (Rect.unit off s.size inb).toLoadRect) (hl := hl) (S := m.view.set) (q := q) (f := f)
    (View.setOn_subset_set _ _)) $$ H
  iintro H
  rw [readAt_all m.view f h inb, hf]
  iapply Hk
  iexists f
  isplitr; · ipureintro; exact hf
  iexact H

/-- A store over all of an owned memref. -/
theorem wp_fill {cs : CoreSpace} {s : Shape} {e : EltTy} {m : Memref sig c.2.kind cs s e} {off : Fin s.rank → ℕ} (h : off = fun _ => 0)
    {inb : ∀ a, off a + s.size a ≤ s.size a} {w : (Rect.unit off s.size inb).shape.Idx → Val e}
    {hx : (m.access (Rect.unit off s.size inb)).Stores Finset.univ} {hm : Finset.univ = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE defs 𝒱 c none) Set.univ (k ⟨⟩) Q)
          -∗ wp frame (wpE defs 𝒱 c none) Set.univ (.op (.store m (Rect.unit off s.size inb) w Finset.univ hx hm) k) Q) := by
  unfold owns
  iintro ⟨%f, %hf, H⟩ Hk
  iapply (wp_store 𝒱 c none Set.univ (m := m) (r := Rect.unit off s.size inb) (w := w) (Mk := Finset.univ) (hx := hx) (hm := hm) (S := m.view.set) (f := f)
    (View.set_slice_subset _ _)) $$ H
  iintro H
  iapply Hk
  iexists _
  isplitr
  · ipureintro; exact read_write_all m.view f h inb w
  iexact H

/-! ## Parts -/

/-- The elements of a rectangle. -/
def get {s : Shape} {e : EltTy} (R : Rect s) (X : s.Idx → Val e) : R.shape.Idx → Val e := fun x => X (R.emb x)

open Classical in
/-- The elements of a rectangle replaced. -/
def put {s : Shape} {e : EltTy} (R : Rect s) (w : R.shape.Idx → Val e) (X : s.Idx → Val e) : s.Idx → Val e :=
  fun i => if h : ∃ x, R.emb x = i then w h.choose else X i

theorem put_emb {s : Shape} {e : EltTy} (R : Rect s) (w : R.shape.Idx → Val e) (X : s.Idx → Val e) (x : R.shape.Idx) :
    put R w X (R.emb x) = w x := by
  have h : ∃ y, R.emb y = R.emb x := ⟨x, rfl⟩
  unfold put
  rw [dif_pos h, R.emb.injective h.choose_spec]

theorem put_off {s : Shape} {e : EltTy} (R : Rect s) (w : R.shape.Idx → Val e) (X : s.Idx → Val e) {i : s.Idx} (h : ∀ x, R.emb x ≠ i) :
    put R w X i = X i := dif_neg fun ⟨x, hx⟩ => h x hx

theorem read_write_put (v : View sig κ sp s e) (f : v.ty.Contents Val) (R : Rect s) (w : R.shape.Idx → Val e) :
    v.read Val ((v.slice R).write Val f w Finset.univ) = put R w (v.read Val f) := by
  funext i
  by_cases h : ∃ x, R.emb x = i
  · obtain ⟨x, rfl⟩ := h
    rw [put_emb, View.read_slice_write_emb R f w (Finset.mem_univ x)]
  · have h' : ∀ x, R.emb x ≠ i := fun x hx => h ⟨x, hx⟩
    rw [put_off R w _ h', View.read_slice_write_of_not_mem R f w Finset.univ fun hm => ?_]
    obtain ⟨x, -, hx⟩ := Finset.mem_map.mp hm
    exact h' x hx

/-- A load of a part of an owned memref. -/
theorem wp_get {cs : CoreSpace} {s : Shape} {e : EltTy} {m : Memref sig c.2.kind cs s e} {off size : Fin s.rank → ℕ}
    {inb : ∀ a, off a + size a ≤ s.size a} {hl : m.view.LoadsAt (Rect.unit off size inb).toLoadRect}
    {k : ((Rect.unit off size inb).toLoadRect.shape.Idx → Val e) → Prog (TpuEff nD τ sig Val Λ c.2) α} {q : PosShare TreeShare} {X : s.Idx → Val e} :
    (owns c m q X : sProp 𝕄)
      ⊢ iprop((owns c m q X -∗ wp frame (wpE defs 𝒱 c none) Set.univ (k (get (Rect.unit off size inb) X)) Q)
          -∗ wp frame (wpE defs 𝒱 c none) Set.univ (.op (.load m (Rect.unit off size inb).toLoadRect hl) k) Q) := by
  unfold owns
  iintro ⟨%f, %hf, H⟩ Hk
  iapply (wp_load 𝒱 c none Set.univ (m := m) (r := (Rect.unit off size inb).toLoadRect) (hl := hl) (S := m.view.set) (q := q) (f := f)
    (View.setOn_subset_set _ _)) $$ H
  iintro H
  rw [show m.view.readAt Val (Rect.unit off size inb).toLoadRect f = get (Rect.unit off size inb) X from by
    rw [← hf]; funext x; rw [View.readAt_apply]; rfl]
  iapply Hk
  iexists f
  isplitr; · ipureintro; exact hf
  iexact H

/-- A store over a part of an owned memref. -/
theorem wp_put {cs : CoreSpace} {s : Shape} {e : EltTy} {m : Memref sig c.2.kind cs s e} {off size : Fin s.rank → ℕ}
    {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (put (Rect.unit off size inb) w X) -∗ wp frame (wpE defs 𝒱 c none) Set.univ (k ⟨⟩) Q)
          -∗ wp frame (wpE defs 𝒱 c none) Set.univ (.op (.store m (Rect.unit off size inb) w Finset.univ hx hm) k) Q) := by
  unfold owns
  iintro ⟨%f, %hf, H⟩ Hk
  iapply (wp_store 𝒱 c none Set.univ (m := m) (r := Rect.unit off size inb) (w := w) (Mk := Finset.univ) (hx := hx) (hm := hm) (S := m.view.set) (f := f)
    (View.set_slice_subset _ _)) $$ H
  iintro H
  iapply Hk
  iexists _
  isplitr
  · ipureintro
    rw [← hf]
    exact read_write_put m.view f _ w
  iexact H

end Proof.Staged

end
-- ==== Proof.KernelRun.lean ====
/-
# The gradient of a layer's input with its exchange between chips: the run

`Cert.KernelProof`: on every device the kernel multiplies its rows `dp` by `wt`, three blocks of the contracted axis
accumulated in a scratch (`acc`), and adds a multiple of `dpre`. Under the multiplications it exchanges rows of `hsum` with
the three other chips: three lines (`Proof.Lines`), sent at the first grid point and waited for at the last. Over any float
values.
-/
module

public import proofs.«01_k».proof.Proof.Lines
public import proofs.«01_k».proof.Proof.Staged
public import proofs.«01_k».proof.Proof.Gen.KernelIdeal.Skeleton
public import proofs.«01_k».proof.Proof.Gen.KernelIdeal.Frame

@[expose] public section

set_option maxRecDepth 16384

noncomputable section

namespace Cert.KernelProof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Proof.Lines (UU EP ER)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The lines -/

abbrev t0 : Fin grid0.N := ⟨0, by decide⟩
theorem first_cond : k0_cond1 (grid0.coords t0) = 1#1 := by decide

/-- The device of the same place on chip `2`, `1`, `3` away. -/
def peer (j : Fin 3) (c : Dev nD) : Dev nD := match j with
  | 0 => ⟨k0_dev1 c, k0_dev1_lt _ c first_cond⟩
  | 1 => ⟨k0_dev2 c, k0_dev2_lt _ c first_cond⟩
  | 2 => ⟨k0_dev3 c, k0_dev3_lt _ c first_cond⟩
theorem peer_peer (j : Fin 3) (c : Dev nD) : peer j (peer j c) = c := by
  refine Fin.ext ?_
  have : c.val < 8 := c.isLt
  match j with
  | 0 => show k0_dev1 (peer 0 c) = _; rw [k0_dev1_eq]; unfold peer; simp only [k0_dev1_eq]; omega
  | 1 => show k0_dev2 (peer 1 c) = _; rw [k0_dev2_eq]; unfold peer; simp only [k0_dev2_eq]; omega
  | 2 => show k0_dev3 (peer 2 c) = _; rw [k0_dev3_eq]; unfold peer; simp only [k0_dev3_eq]; omega

abbrev hM : Memref sig .tc .hbm S4x1x1168x2048 .bf16 := Memref.whole main_arg3
abbrev oM : Memref sig .tc .hbm S3x1x1168x2048 .bf16 := Memref.whole main_v1_1

def sOff (j : Fin 3) (c : Dev nD) : Fin 4 → ℕ := match j with
  | 0 => k0_off1 c
  | 1 => k0_off2 c
  | 2 => k0_off3 c
theorem sOff_inb (j : Fin 3) (c : Dev nD) : ∀ a, sOff j c a + S1x1x1168x2048.size a ≤ S4x1x1168x2048.size a := match j with
  | 0 => k0_off1_inb _ c first_cond
  | 1 => k0_off2_inb _ c first_cond
  | 2 => k0_off3_inb _ c first_cond
def oOff (j : Fin 3) : Fin 4 → ℕ := match j with
  | 0 => ![0, 0, 0, 0]
  | 1 => ![1, 0, 0, 0]
  | 2 => ![2, 0, 0, 0]
theorem oOff_inb (j : Fin 3) : ∀ a, oOff j a + S1x1x1168x2048.size a ≤ S3x1x1168x2048.size a := match j with
  | 0 => inb_S3x1x1168x2048_S1x1x1168x2048_0_0_0_0
  | 1 => inb_S3x1x1168x2048_S1x1x1168x2048_1_0_0_0
  | 2 => inb_S3x1x1168x2048_S1x1x1168x2048_2_0_0_0

/-- The row sent on line `j`. -/
abbrev sRow (j : Fin 3) (c : Dev nD) : Memref sig .tc .hbm S1x1x1168x2048 .bf16 :=
  hM.slice (Rect.unit (s := S4x1x1168x2048) (sOff j c) S1x1x1168x2048.size (sOff_inb j c)) (fun _ => rfl)
/-- The row that comes on line `j`. -/
abbrev oRow (j : Fin 3) : Memref sig .tc .hbm S1x1x1168x2048 .bf16 :=
  oM.slice (Rect.unit (s := S3x1x1168x2048) (oOff j) S1x1x1168x2048.size (oOff_inb j)) (fun _ => rfl)

def sndS (j : Fin 3) : DmaSem sig := match j with
  | 0 => ((cc0_scratch1.slice (Rect.unit (s := S3) ![0] S1.size inb_S3_S1_0)).squeeze S_ squeezes_S1_S_ : DmaSems sig S_).sem
  | 1 => ((cc0_scratch1.slice (Rect.unit (s := S3) ![1] S1.size inb_S3_S1_1)).squeeze S_ squeezes_S1_S_ : DmaSems sig S_).sem
  | 2 => ((cc0_scratch1.slice (Rect.unit (s := S3) ![2] S1.size inb_S3_S1_2)).squeeze S_ squeezes_S1_S_ : DmaSems sig S_).sem
def rcvS (j : Fin 3) : DmaSem sig := match j with
  | 0 => ((cc0_scratch2.slice (Rect.unit (s := S3) ![0] S1.size inb_S3_S1_0)).squeeze S_ squeezes_S1_S_ : DmaSems sig S_).sem
  | 1 => ((cc0_scratch2.slice (Rect.unit (s := S3) ![1] S1.size inb_S3_S1_1)).squeeze S_ squeezes_S1_S_ : DmaSems sig S_).sem
  | 2 => ((cc0_scratch2.slice (Rect.unit (s := S3) ![2] S1.size inb_S3_S1_2)).squeeze S_ squeezes_S1_S_ : DmaSems sig S_).sem

theorem sems_inj : Function.Injective fun x : Fin 3 × Bool => cond x.2 (rcvS x.1) (sndS x.1) := by decide

def plan : Proof.Lines.Plan nD sig (Fin 3) where
  snd := sndS
  rcv := rcvS
  peer := peer
  amt _ := (oRow 0).view.dmaCredit
  inj := sems_inj
  invol := peer_peer
  pos _ := View.dmaCredit_pos _ (by decide)

/-! ## What moves -/

/-- What `c`'s second result holds on line `j`'s row: the row its partner sent. -/
def got (j : Fin 3) (c : Dev nD) : Buf (Elt F) ((c : Thread nD τ).loc main_v1_1) :=
  (oRow j).view.write (Elt F) (m ((c : Thread nD τ).loc main_v1_1)) ((sRow j (peer j c)).view.read (Elt F) (m ((peer j c : Thread nD τ).loc main_arg3))) Finset.univ

def qs (j : Fin 3) : PosShare TreeShare := match j with
  | 0 => fullShare.right.left
  | 1 => fullShare.right.right.left
  | 2 => fullShare.right.right.right

def src (j : Fin 3) (c : Dev nD) : sProp 𝕄 :=
  iprop(((c : Thread nD τ).loc main_arg3) ↦[(sRow j c).view.set]{qs j} (m ((c : Thread nD τ).loc main_arg3)))
def dst (j : Fin 3) (c : Dev nD) : sProp 𝕄 := iprop(((c : Thread nD τ).loc main_v1_1) ↦[(oRow j).view.set]{fullShare} got m j c)
/-- The place a row lands in, as launched. -/
def give (j : Fin 3) (c : Dev nD) : sProp 𝕄 := iprop(((c : Thread nD τ).loc main_v1_1) ↦[(oRow j).view.set]{fullShare} m ((c : Thread nD τ).loc main_v1_1))
/-- A share of the operand, to read it by at the end. -/
def hold (c : Dev nD) : sProp 𝕄 := iprop(((c : Thread nD τ).loc main_arg3) ↦{fullShare.left} m ((c : Thread nD τ).loc main_arg3))
def keep (c : Dev nD) : sProp 𝕄 := iprop(hold m c ∗ src m 0 c ∗ src m 1 c ∗ src m 2 c)

instance src_storable (j : Fin 3) (c : Dev nD) : BI.Storable (upEmb : UEmb _ 𝕄) (src m j c) := by unfold src; infer_instance
instance dst_storable (j : Fin 3) (c : Dev nD) : BI.Storable (upEmb : UEmb _ 𝕄) (dst m j c) := by unfold dst; infer_instance

theorem lines (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- An element of a row of the second result is on that row. -/
theorem mem_oRow (j : Fin 3) {i : S3x1x1168x2048.Idx} (h : i ∈ (oRow j).view.set) : (i 0 : ℕ) = j.val := by
  have hi : i ∈ ((View.whole main_v1_1).slice (Rect.unit (s := S3x1x1168x2048) (oOff j) S1x1x1168x2048.size (oOff_inb j))).set := h
  rw [View.set_slice_whole, Rect.mem_set_unit] at hi
  have h1 := hi 0
  have h2 : S1x1x1168x2048.size 0 = 1 := rfl
  have h3 : oOff j 0 = j.val := match j with | 0 => rfl | 1 => rfl | 2 => rfl
  rw [h3, h2] at h1
  omega

theorem oRow_disjoint {j k : Fin 3} (hjk : j ≠ k) : Disjoint (oRow j).view.set (oRow k).view.set :=
  Finset.disjoint_left.mpr fun i hi hk => hjk (Fin.ext ((mem_oRow j hi).symm.trans (mem_oRow k hk)))

theorem rest_split (c : Dev nD) :
    (Pipeline.unscopedRest cfg0.spec c (fun b => m ((c : Thread nD τ).loc b)) : sProp 𝕄) ⊢ iprop(keep m c ∗ bigSep Finset.univ fun j : Fin 3 => give m j c) := by
  rw [unscopedRest0_eq, lines]
  unfold keep hold src give
  iintro ⟨Ha, Ho⟩
  ihave H := (pointsTo_share (PosShare.mem_left_op_right fullShare)).1 $$ Ha
  icases H with ⟨Hl, Hr⟩
  ihave H := (pointsTo_share (PosShare.mem_left_op_right fullShare.right)).1 $$ Hr
  icases H with ⟨H0, Hr⟩
  ihave H := (pointsTo_share (PosShare.mem_left_op_right fullShare.right.right)).1 $$ Hr
  icases H with ⟨H1, H2⟩
  ihave H := (pointsTo_split_subset (Finset.subset_univ (sRow 0 c).view.set)).1 $$ H0
  icases H with ⟨H0, -⟩
  ihave H := (pointsTo_split_subset (Finset.subset_univ (sRow 1 c).view.set)).1 $$ H1
  icases H with ⟨H1, -⟩
  ihave H := (pointsTo_split_subset (Finset.subset_univ (sRow 2 c).view.set)).1 $$ H2
  icases H with ⟨H2, -⟩
  ihave H := (pointsTo_split_subset (Finset.subset_univ (oRow 0).view.set)).1 $$ Ho
  icases H with ⟨O0, Ho⟩
  ihave H := (pointsTo_split_subset (Finset.subset_sdiff.mpr ⟨Finset.subset_univ (oRow 1).view.set, oRow_disjoint (by decide)⟩)).1 $$ Ho
  icases H with ⟨O1, Ho⟩
  ihave H := (pointsTo_split_subset (Finset.subset_sdiff.mpr ⟨Finset.subset_sdiff.mpr ⟨Finset.subset_univ (oRow 2).view.set, oRow_disjoint (by decide)⟩, oRow_disjoint (by decide)⟩)).1 $$ Ho
  icases H with ⟨O2, -⟩
  isplitl [Hl H0 H1 H2]
  · isplitl [Hl]; · iexact Hl
    isplitl [H0]; · iexact H0
    isplitl [H1]; · iexact H1
    iexact H2
  · isplitl [O0]; · iexact O0
    isplitl [O1]; · iexact O1
    iexact O2

/-! ## The values of the grid points -/

/-- The grid point of a number. -/
def pt (n : ℕ) : Fin cfg0.N := ⟨n % 24, by rw [show cfg0.N = 24 from N_0]; exact Nat.mod_lt _ (by decide)⟩
theorem lt_N (t : Fin cfg0.N) : t.val < 24 := lt_of_lt_of_eq t.isLt N_0
theorem pt_val (t : Fin cfg0.N) : pt t.val = t := Fin.ext (Nat.mod_eq_of_lt (lt_N t))

/-- The blocks of the operands at a point. -/
def bA (c : Dev nD) (n : ℕ) : Vec F S1024x2432 .bf16 := iblk m c 0 (pt n)
def bB (c : Dev nD) (n : ℕ) : Vec F S2432x1024 .bf16 := iblk m c 1 (pt n)
def bD (c : Dev nD) (n : ℕ) : Vec F S1024x1024 .f32 := iblk m c 2 (pt n)

/-- The scratch after point `n`, the first or second of its three. -/
def acc (c : Dev nD) (n : ℕ) : Vec F S1024x1024 .f32 :=
  if n % 3 = 0 then k0_pay2 (bA m c n) (bB m c n) else k0_pay3 (bA m c n) (bB m c n) (k0_pay2 (bA m c (n - 1)) (bB m c (n - 1)))
/-- What the third point of a block leaves for the result. -/
def out (c : Dev nD) (n : ℕ) : Vec F S1024x1024 .f32 := k0_pay4 (bA m c n) (bB m c n) (acc m c (n - 1)) (bD m c n)

/-- The scratch before point `n`. -/
def scr (c : Dev nD) (n : ℕ) : sProp 𝕄 :=
  iprop(∃ f, ⌜n % 3 ≠ 0 → f = acc m c (n - 1)⌝ ∗ owns (c : Thread nD τ) (Memref.whole cc0_scratch0) fullShare f)

/-- The lines before point `n`. -/
def state (c : Dev nD) (n : ℕ) : sProp 𝕄 :=
  if n = 0 then iprop(keep m c ∗ plan.ready (src m) (dst m) (give m) c 0 ∗ plan.ready (src m) (dst m) (give m) c 1 ∗ plan.ready (src m) (dst m) (give m) c 2)
  else if n < 24 then iprop(hold m c ∗ plan.flying (src m) (dst m) c 0 ∗ plan.flying (src m) (dst m) c 1 ∗ plan.flying (src m) (dst m) c 2)
  else iprop((hold m c ∗ dst m 0 c ∗ dst m 1 c ∗ dst m 2 c) ∗ plan.over c 0 ∗ plan.over c 1 ∗ plan.over c 2)

def O₀ : Dev nD → CellTallies nD τ sig Unit := plan.due Finset.univ

def dats (_ : Fin 1) (c : Dev nD) : Dat τ (Elt F) Unit ℕ (UU nD τ sig) ℕ cfg0 c where
  A w := m ((cfg0.win w).arr.view.loc (c : Thread nD τ))
  after w t := match w with
    | 0 => iblk m c 0 t
    | 1 => iblk m c 1 t
    | 2 => iblk m c 2 t
    | 3 => out m c t.val
    | ⟨_ + 4, h⟩ => absurd h (Nat.not_lt.2 (Nat.le_add_left _ _))
  Φ t := iprop(state m c t.val ∗ scr m c t.val)
  q _ := fullShare
  owed t := if t.val = 0 then O₀ c else 0

abbrev 𝒱₀ : Variants := Variants.none

theorem before_0 (c : Dev nD) (t : Fin cfg0.N) (d) : (dats m 0 c).before 0 t d = bA m c t.val := by
  rw [(dats m 0 c).before_in_eq_fetched 0 rfl (fun _ => rfl) (fun _ _ _ => rfl) (fun t => rfl) t d]
  unfold bA; rw [pt_val]; rfl
theorem before_1 (c : Dev nD) (t : Fin cfg0.N) (d) : (dats m 0 c).before 1 t d = bB m c t.val := by
  rw [(dats m 0 c).before_in_eq_fetched 1 rfl (fun _ => rfl) (fun _ _ _ => rfl) (fun t => rfl) t d]
  unfold bB; rw [pt_val]; rfl
theorem before_2 (c : Dev nD) (t : Fin cfg0.N) (d) : (dats m 0 c).before 2 t d = bD m c t.val := by
  rw [(dats m 0 c).before_in_eq_fetched 2 rfl (fun _ => rfl) (fun _ _ _ => rfl) (fun t => rfl) t d]
  unfold bD; rw [pt_val]; rfl

/-! ## The branches -/

abbrev cond2 (i : grid0.Coords) : BitVec 1 :=
  Scalar.cmpi .ne (Scalar.extui (Scalar.cmpi .eq (BitVec.ofNat 32 (i 2).val) 0#32) : BitVec 32) 0#32
abbrev cond3 (i : grid0.Coords) : BitVec 1 :=
  Scalar.cmpi .ne (Scalar.extui (Scalar.andi (Scalar.cmpi .sgt (BitVec.ofNat 32 (i 2).val) 0#32) (Scalar.cmpi .slt (BitVec.ofNat 32 (i 2).val) 2#32)) : BitVec 32) 0#32

theorem cond1_iff : ∀ t : Fin grid0.N, k0_cond1 (grid0.coords t) = 1#1 ↔ t.val = 0 := by decide +kernel
theorem cond2_iff : ∀ t : Fin grid0.N, cond2 (grid0.coords t) = 1#1 ↔ t.val % 3 = 0 := by decide +kernel
theorem cond3_iff : ∀ t : Fin grid0.N, cond3 (grid0.coords t) = 1#1 ↔ t.val % 3 = 1 := by decide +kernel
theorem cond4_iff : ∀ t : Fin grid0.N, k0_cond4 (grid0.coords t) = 1#1 ↔ t.val % 3 = 2 := by decide +kernel
theorem cond5_iff : ∀ t : Fin grid0.N, k0_cond5 (grid0.coords t) = 1#1 ↔ t.val = 23 := by decide +kernel

theorem idle_3 (t : Fin cfg0.N) (h : t.val % 3 ≠ 2) : cfg0.idle 3 (cfg0.grid.coords t) = true := by
  have := mt (cond4_iff t).mp h
  show (!(k0_cond4 (grid0.coords t) == 1#1)) = true
  simp [this]
theorem live_3 (t : Fin cfg0.N) (h : t.val % 3 = 2) : cfg0.idle 3 (cfg0.grid.coords t) = false := by
  have := (cond4_iff t).mpr h
  show (!(k0_cond4 (grid0.coords t) == 1#1)) = false
  simp [this]
theorem unflushed_3 (t : Fin cfg0.N) (h : t.val % 3 ≠ 2) : (cfg0.win 3).flush t = false :=
  Bool.eq_false_iff.mpr (mt (flush0_3 t).mp h)

/-- The windows' buffers before the body of a point. -/
abbrev ins (c : Dev nD) (t : Fin cfg0.N) : sProp 𝕄 :=
  iprop(owns (c : Thread nD τ) (st0_0 t) fullShare (bA m c t.val) ∗ owns (c : Thread nD τ) (st0_1 t) fullShare (bB m c t.val)
    ∗ owns (c : Thread nD τ) (st0_2 t) fullShare (bD m c t.val))
abbrev Φ (c : Dev nD) (n : ℕ) : sProp 𝕄 := iprop(state m c n ∗ scr m c n)

theorem owed_first (c : Dev nD) (t : Fin (cfg0.N + 1)) (h : t.val = 0) : (dats m 0 c).owed t = plan.due Finset.univ c := if_pos h
theorem owed_later (c : Dev nD) (t : Fin (cfg0.N + 1)) (h : t.val ≠ 0) : (dats m 0 c).owed t = 0 := if_neg h
theorem state_first (c : Dev nD) (n : ℕ) (h : n = 0) : state m c n
    = iprop(keep m c ∗ plan.ready (src m) (dst m) (give m) c 0 ∗ plan.ready (src m) (dst m) (give m) c 1 ∗ plan.ready (src m) (dst m) (give m) c 2) := if_pos h
theorem state_mid (c : Dev nD) (n : ℕ) (h : n ≠ 0) (h' : n < 24) : state m c n
    = iprop(hold m c ∗ plan.flying (src m) (dst m) c 0 ∗ plan.flying (src m) (dst m) c 1 ∗ plan.flying (src m) (dst m) c 2) := (if_neg h).trans (if_pos h')
theorem state_last (c : Dev nD) (n : ℕ) (h' : ¬ n < 24) : state m c n
    = iprop((hold m c ∗ dst m 0 c ∗ dst m 1 c ∗ dst m 2 c) ∗ plan.over c 0 ∗ plan.over c 1 ∗ plan.over c 2) :=
  (if_neg (by omega)).trans (if_neg h')

theorem hz : (![0, 0] : Fin 2 → ℕ) = fun _ => 0 := funext fun a => by fin_cases a <;> rfl

/-- A point that starts a block, after the first. -/
theorem wp_start (c : Dev nD) (t : Fin cfg0.N) (h0 : t.val ≠ 0) (h : t.val % 3 = 0) (Kt : PUnit → sProp 𝕄) :
    iprop((ins m c t ∗ Φ m c t.val) ∗ ((ins m c t ∗ Φ m c (t.val + 1)) -∗ Kt ⟨⟩))
      ⊢ wp frame (wpE (defs₀ (F := F)) 𝒱₀ c none) Set.univ (bodyAt0 t) Kt := by
  have hN := lt_N t
  unfold bodyAt0
  simp only [cc0_d_x_eq_skeleton]; unfold cc0_d_x_skel
  dsimp only
  simp only [dif_neg (mt (cond1_iff t).mp h0), dif_pos ((cond2_iff t).mpr h), dif_neg (mt (cond3_iff t).mp (by omega : ¬ t.val % 3 = 1)),
    dif_neg (mt (cond4_iff t).mp (by omega : ¬ t.val % 3 = 2)), dif_neg (mt (cond5_iff t).mp (by omega : ¬ t.val = 23)),
    Prog.lift, Prog.bind_op, Prog.bind_ret, Prog.pure_eq_ret]
  unfold Φ scr
  rw [state_mid m c t.val (by omega) hN, state_mid m c (t.val + 1) (by omega) (by omega)]
  iintro ⟨⟨⟨HA, HB, HD⟩, HL, %f, -, HS⟩, Hk⟩
  iapply (Proof.Staged.wp_read 𝒱₀ (c : Thread nD τ) hz) $$ HA; iintro HA
  iapply (Proof.Staged.wp_read 𝒱₀ (c : Thread nD τ) hz) $$ HB; iintro HB
  iapply (Proof.Staged.wp_read 𝒱₀ (c : Thread nD τ) hz) $$ HS; iintro HS
  iapply (Proof.Staged.wp_fill 𝒱₀ (c : Thread nD τ) hz) $$ HS; iintro HS
  rw [wp_ret]; imodintro
  iapply Hk
  isplitl [HA HB HD]
  · isplitl [HA]; · iexact HA
    isplitl [HB] <;> iassumption
  isplitl [HL]
  · iexact HL
  · iexists _
    isplitr
    swap; · iexact HS
    ipureintro
    intro _
    unfold acc
    rw [Nat.add_sub_cancel, if_pos h]

set_option maxHeartbeats 2000000 in
/-- The first point: every line's row is sent. -/
theorem wp_first (c : Dev nD) (t : Fin cfg0.N) (h0 : t.val = 0) (Kt : PUnit → sProp 𝕄) :
    iprop((ins m c t ∗ Φ m c t.val ∗ (dats m 0 c).owesAt () t.castSucc) ∗ ((ins m c t ∗ Φ m c (t.val + 1) ∗ (dats m 0 c).owesAt () t.succ) -∗ Kt ⟨⟩))
      ⊢ wp frame (wpE (defs₀ (F := F)) 𝒱₀ c none) Set.univ (bodyAt0 t) Kt := by
  have hN := lt_N t
  unfold bodyAt0
  simp only [cc0_d_x_eq_skeleton]; unfold cc0_d_x_skel
  simp only [k0_part1_eq_skeleton]; unfold k0_part1_skel
  dsimp only
  simp only [dif_pos ((cond1_iff t).mpr h0), dif_pos ((cond2_iff t).mpr (by omega : t.val % 3 = 0)), dif_neg (mt (cond3_iff t).mp (by omega : ¬ t.val % 3 = 1)),
    dif_neg (mt (cond4_iff t).mp (by omega : ¬ t.val % 3 = 2)), dif_neg (mt (cond5_iff t).mp (by omega : ¬ t.val = 23)),
    Prog.lift, Prog.bind_op, Prog.bind_ret, Prog.pure_eq_ret, wp_deviceId]
  unfold Φ scr Dat.owesAt Pipeline.owesWithin
  rw [owed_first m c t.castSucc h0, owed_later m c t.succ (Nat.succ_ne_zero t.val), state_first m c t.val h0,
    state_mid m c (t.val + 1) (by omega) (by omega)]
  unfold keep
  iintro ⟨⟨⟨HA, HB, HD⟩, ⟨⟨⟨Hh, S0, S1, S2⟩, L0, L1, L2⟩, %f, -, HS⟩, %W, %hW, HO⟩, Hk⟩
  unfold src
  iapply (plan.wp_post (src m) (dst m) c 0 𝒱₀ (give m) (n := peer 0 c) rfl (sm := sRow 0 c) (dm := oRow 0) rfl rfl
      (q := qs 0) (fs := m ((c : Thread nD τ).loc main_arg3)) (fd := m ((peer 0 c : Thread nD τ).loc main_v1_1)) rfl
      (BI.Entails.refl _) (BI.Entails.refl _)
      (by unfold dst got; rw [peer_peer]) (Finset.mem_univ 0) (W := W)) $$ [L0 S0 HO]
  · isplitl [L0]; · iexact L0
    isplitl [S0]; · iexact S0
    iexact HO
  iintro ⟨L0, HO⟩
  iapply (plan.wp_post (src m) (dst m) c 1 𝒱₀ (give m) (n := peer 1 c) rfl (sm := sRow 1 c) (dm := oRow 1) rfl rfl
      (q := qs 1) (fs := m ((c : Thread nD τ).loc main_arg3)) (fd := m ((peer 1 c : Thread nD τ).loc main_v1_1)) rfl
      (BI.Entails.refl _) (BI.Entails.refl _)
      (by unfold dst got; rw [peer_peer]) (t := Finset.univ.erase 0) (by decide) (W := W)) $$ [L1 S1 HO]
  · isplitl [L1]; · iexact L1
    isplitl [S1]; · iexact S1
    iexact HO
  iintro ⟨L1, HO⟩
  iapply (plan.wp_post (src m) (dst m) c 2 𝒱₀ (give m) (n := peer 2 c) rfl (sm := sRow 2 c) (dm := oRow 2) rfl rfl
      (q := qs 2) (fs := m ((c : Thread nD τ).loc main_arg3)) (fd := m ((peer 2 c : Thread nD τ).loc main_v1_1)) rfl
      (BI.Entails.refl _) (BI.Entails.refl _)
      (by unfold dst got; rw [peer_peer]) (t := (Finset.univ.erase 0).erase 1) (by decide) (W := W)) $$ [L2 S2 HO]
  · isplitl [L2]; · iexact L2
    isplitl [S2]; · iexact S2
    iexact HO
  iintro ⟨L2, HO⟩
  rw [show ((Finset.univ.erase (0 : Fin 3)).erase 1).erase 2 = ∅ from by decide, Proof.Lines.Plan.due_empty]
  iapply (Proof.Staged.wp_read 𝒱₀ (c : Thread nD τ) hz) $$ HA; iintro HA
  iapply (Proof.Staged.wp_read 𝒱₀ (c : Thread nD τ) hz) $$ HB; iintro HB
  iapply (Proof.Staged.wp_read 𝒱₀ (c : Thread nD τ) hz) $$ HS; iintro HS
  iapply (Proof.Staged.wp_fill 𝒱₀ (c : Thread nD τ) hz) $$ HS; iintro HS
  rw [wp_ret]; imodintro
  iapply Hk
  isplitl [HA HB HD]
  · isplitl [HA]; · iexact HA
    isplitl [HB] <;> iassumption
  isplitr [HO]
  · isplitr [HS]
    · isplitl [Hh]; · iexact Hh
      isplitl [L0]; · iexact L0
      isplitl [L1]; · iexact L1
      iexact L2
    · iexists _
      isplitr
      swap; · iexact HS
      ipureintro
      intro _
      unfold acc
      rw [Nat.add_sub_cancel, if_pos (by omega : t.val % 3 = 0)]
  · iexists W
    isplitr; · ipureintro; exact fun _ _ => Or.inl trivial
    iexact HO

/-- The second point of a block. -/
theorem wp_second (c : Dev nD) (t : Fin cfg0.N) (h : t.val % 3 = 1) (Kt : PUnit → sProp 𝕄) :
    iprop((ins m c t ∗ Φ m c t.val) ∗ ((ins m c t ∗ Φ m c (t.val + 1)) -∗ Kt ⟨⟩))
      ⊢ wp frame (wpE (defs₀ (F := F)) 𝒱₀ c none) Set.univ (bodyAt0 t) Kt := by
  have hN := lt_N t
  unfold bodyAt0
  simp only [cc0_d_x_eq_skeleton]; unfold cc0_d_x_skel
  dsimp only
  simp only [dif_neg (mt (cond1_iff t).mp (by omega : ¬ t.val = 0)), dif_neg (mt (cond2_iff t).mp (by omega : ¬ t.val % 3 = 0)), dif_pos ((cond3_iff t).mpr h),
    dif_neg (mt (cond4_iff t).mp (by omega : ¬ t.val % 3 = 2)), dif_neg (mt (cond5_iff t).mp (by omega : ¬ t.val = 23)),
    Prog.lift, Prog.bind_op, Prog.bind_ret, Prog.pure_eq_ret]
  unfold Φ scr
  rw [state_mid m c t.val (by omega) hN, state_mid m c (t.val + 1) (by omega) (by omega)]
  iintro ⟨⟨⟨HA, HB, HD⟩, HL, %f, %hf, HS⟩, Hk⟩
  iapply (Proof.Staged.wp_read 𝒱₀ (c : Thread nD τ) hz) $$ HA; iintro HA
  iapply (Proof.Staged.wp_read 𝒱₀ (c : Thread nD τ) hz) $$ HB; iintro HB
  iapply (Proof.Staged.wp_read 𝒱₀ (c : Thread nD τ) hz) $$ HS; iintro HS
  iapply (Proof.Staged.wp_read 𝒱₀ (c : Thread nD τ) hz) $$ HS; iintro HS
  iapply (Proof.Staged.wp_fill 𝒱₀ (c : Thread nD τ) hz) $$ HS; iintro HS
  rw [wp_ret]; imodintro
  iapply Hk
  isplitl [HA HB HD]
  · isplitl [HA]; · iexact HA
    isplitl [HB] <;> iassumption
  isplitl [HL]
  · iexact HL
  · iexists _
    isplitr
    swap; · iexact HS
    ipureintro
    intro _
    rw [hf (by omega)]
    unfold acc
    rw [Nat.add_sub_cancel, if_pos (by omega : (t.val - 1) % 3 = 0), if_neg (by omega : ¬ t.val % 3 = 0)]

/-- The third point of a block, before the last. -/
theorem wp_third (c : Dev nD) (t : Fin cfg0.N) (h : t.val % 3 = 2) (h23 : t.val ≠ 23) (X : S1024x1024.Idx → F .f32) (Kt : PUnit → sProp 𝕄) :
    iprop((ins m c t ∗ owns (c : Thread nD τ) (st0_3 t) fullShare X ∗ Φ m c t.val)
        ∗ ((ins m c t ∗ owns (c : Thread nD τ) (st0_3 t) fullShare (out m c t.val) ∗ Φ m c (t.val + 1)) -∗ Kt ⟨⟩))
      ⊢ wp frame (wpE (defs₀ (F := F)) 𝒱₀ c none) Set.univ (bodyAt0 t) Kt := by
  have hN := lt_N t
  unfold bodyAt0
  simp only [cc0_d_x_eq_skeleton]; unfold cc0_d_x_skel
  dsimp only
  simp only [dif_neg (mt (cond1_iff t).mp (by omega : ¬ t.val = 0)), dif_neg (mt (cond2_iff t).mp (by omega : ¬ t.val % 3 = 0)), dif_neg (mt (cond3_iff t).mp (by omega : ¬ t.val % 3 = 1)),
    dif_pos ((cond4_iff t).mpr h), dif_neg (mt (cond5_iff t).mp h23),
    Prog.lift, Prog.bind_op, Prog.bind_ret, Prog.pure_eq_ret]
  unfold Φ scr
  rw [state_mid m c t.val (by omega) hN, state_mid m c (t.val + 1) (by omega) (by omega)]
  iintro ⟨⟨⟨HA, HB, HD⟩, HX, HL, %f, %hf, HS⟩, Hk⟩
  iapply (Proof.Staged.wp_read 𝒱₀ (c : Thread nD τ) hz) $$ HA; iintro HA
  iapply (Proof.Staged.wp_read 𝒱₀ (c : Thread nD τ) hz) $$ HB; iintro HB
  iapply (Proof.Staged.wp_read 𝒱₀ (c : Thread nD τ) hz) $$ HS; iintro HS
  iapply (Proof.Staged.wp_read 𝒱₀ (c : Thread nD τ) hz) $$ HD; iintro HD
  iapply (Proof.Staged.wp_read 𝒱₀ (c : Thread nD τ) hz) $$ HX; iintro HX
  iapply (Proof.Staged.wp_fill 𝒱₀ (c : Thread nD τ) hz) $$ HX; iintro HX
  rw [wp_ret]; imodintro
  rw [show out m c t.val = k0_pay4 (bA m c t.val) (bB m c t.val) f (bD m c t.val) from by unfold out; rw [hf (by omega)]]
  iapply Hk
  isplitl [HA HB HD]
  · isplitl [HA]; · iexact HA
    isplitl [HB] <;> iassumption
  isplitl [HX]; · iexact HX
  isplitl [HL]
  · iexact HL
  · iexists _
    isplitr
    swap; · iexact HS
    ipureintro
    intro hh
    omega

set_option maxHeartbeats 2000000 in
/-- The last point: every line is waited for. -/
theorem wp_last (c : Dev nD) (t : Fin cfg0.N) (h23 : t.val = 23) (X : S1024x1024.Idx → F .f32) (Kt : PUnit → sProp 𝕄) :
    iprop((ins m c t ∗ owns (c : Thread nD τ) (st0_3 t) fullShare X ∗ Φ m c t.val ∗ (dats m 0 c).owesAt () t.castSucc)
        ∗ ((ins m c t ∗ owns (c : Thread nD τ) (st0_3 t) fullShare (out m c t.val) ∗ Φ m c (t.val + 1) ∗ (dats m 0 c).owesAt () t.succ) -∗ Kt ⟨⟩))
      ⊢ wp frame (wpE (defs₀ (F := F)) 𝒱₀ c none) Set.univ (bodyAt0 t) Kt := by
  have hN := lt_N t
  unfold bodyAt0
  simp only [cc0_d_x_eq_skeleton]; unfold cc0_d_x_skel
  simp only [k0_part2_eq_skeleton, k0_part3_eq_skeleton]; unfold k0_part2_skel k0_part3_skel
  dsimp only
  simp only [dif_neg (mt (cond1_iff t).mp (by omega : ¬ t.val = 0)), dif_neg (mt (cond2_iff t).mp (by omega : ¬ t.val % 3 = 0)), dif_neg (mt (cond3_iff t).mp (by omega : ¬ t.val % 3 = 1)),
    dif_pos ((cond4_iff t).mpr (by omega : t.val % 3 = 2)), dif_pos ((cond5_iff t).mpr h23),
    Prog.lift, Prog.bind_op, Prog.bind_ret, Prog.pure_eq_ret, wp_deviceId]
  unfold Φ scr Dat.owesAt Pipeline.owesWithin
  rw [owed_later m c t.castSucc (by show ¬ t.val = 0; omega), owed_later m c t.succ (Nat.succ_ne_zero t.val), state_mid m c t.val (by omega) hN,
    state_last m c (t.val + 1) (by omega)]
  iintro ⟨⟨⟨HA, HB, HD⟩, HX, ⟨⟨Hh, L0, L1, L2⟩, %f, %hf, HS⟩, %W, %hW, HO⟩, Hk⟩
  iapply (Proof.Staged.wp_read 𝒱₀ (c : Thread nD τ) hz) $$ HA; iintro HA
  iapply (Proof.Staged.wp_read 𝒱₀ (c : Thread nD τ) hz) $$ HB; iintro HB
  iapply (Proof.Staged.wp_read 𝒱₀ (c : Thread nD τ) hz) $$ HS; iintro HS
  iapply (Proof.Staged.wp_read 𝒱₀ (c : Thread nD τ) hz) $$ HD; iintro HD
  iapply (Proof.Staged.wp_read 𝒱₀ (c : Thread nD τ) hz) $$ HX; iintro HX
  iapply (Proof.Staged.wp_fill 𝒱₀ (c : Thread nD τ) hz) $$ HX; iintro HX
  rw [wp_deviceId]
  iapply (plan.wp_left (src m) (dst m) c 0 𝒱₀ (wpE_waitDma2_eq 𝒱₀ (c : Thread nD τ) none Set.univ) rfl rfl) $$ [L0 HO]
  · isplitl [L0] <;> iassumption
  iintro ⟨L0, -, %W0, HO⟩
  iapply (plan.wp_came (src m) (dst m) c 0 𝒱₀ (wpE_waitDma2_eq 𝒱₀ (c : Thread nD τ) none Set.univ) rfl rfl) $$ [L0 HO]
  · isplitl [L0] <;> iassumption
  iintro ⟨L0, D0, %W1, HO⟩
  iapply (plan.wp_left (src m) (dst m) c 1 𝒱₀ (wpE_waitDma2_eq 𝒱₀ (c : Thread nD τ) none Set.univ) rfl rfl) $$ [L1 HO]
  · isplitl [L1] <;> iassumption
  iintro ⟨L1, -, %W2, HO⟩
  iapply (plan.wp_came (src m) (dst m) c 1 𝒱₀ (wpE_waitDma2_eq 𝒱₀ (c : Thread nD τ) none Set.univ) rfl rfl) $$ [L1 HO]
  · isplitl [L1] <;> iassumption
  iintro ⟨L1, D1, %W3, HO⟩
  iapply (plan.wp_left (src m) (dst m) c 2 𝒱₀ (wpE_waitDma2_eq 𝒱₀ (c : Thread nD τ) none Set.univ) rfl rfl) $$ [L2 HO]
  · isplitl [L2] <;> iassumption
  iintro ⟨L2, -, %W4, HO⟩
  iapply (plan.wp_came (src m) (dst m) c 2 𝒱₀ (wpE_waitDma2_eq 𝒱₀ (c : Thread nD τ) none Set.univ) rfl rfl) $$ [L2 HO]
  · isplitl [L2] <;> iassumption
  iintro ⟨L2, D2, %W5, HO⟩
  rw [wp_ret]; imodintro
  rw [show out m c t.val = k0_pay4 (bA m c t.val) (bB m c t.val) f (bD m c t.val) from by unfold out; rw [hf (by omega)]]
  iapply Hk
  isplitl [HA HB HD]
  · isplitl [HA]; · iexact HA
    isplitl [HB] <;> iassumption
  isplitl [HX]; · iexact HX
  isplitr [HO]
  · isplitr [HS]
    · isplitl [Hh D0 D1 D2]
      · isplitl [Hh]; · iexact Hh
        isplitl [D0]; · iexact D0
        isplitl [D1]; · iexact D1
        iexact D2
      · isplitl [L0]; · iexact L0
        isplitl [L1]; · iexact L1
        iexact L2
    · iexists _
      isplitr
      swap; · iexact HS
      ipureintro
      intro hh
      omega
  · iexists W5
    isplitr; · ipureintro; exact fun _ _ => Or.inl trivial
    iexact HO

theorem leaves_0 (c : Dev nD) (t : Fin cfg0.N) : (dats m 0 c).leavesExact 0 t = owns (c : Thread nD τ) (st0_0 t) fullShare (bA m c t.val) := by
  unfold bA; rw [pt_val]; rfl
theorem leaves_1 (c : Dev nD) (t : Fin cfg0.N) : (dats m 0 c).leavesExact 1 t = owns (c : Thread nD τ) (st0_1 t) fullShare (bB m c t.val) := by
  unfold bB; rw [pt_val]; rfl
theorem leaves_2 (c : Dev nD) (t : Fin cfg0.N) : (dats m 0 c).leavesExact 2 t = owns (c : Thread nD τ) (st0_2 t) fullShare (bD m c t.val) := by
  unfold bD; rw [pt_val]; rfl
theorem leaves_3 (c : Dev nD) (t : Fin cfg0.N) (h : t.val % 3 = 2) :
    (dats m 0 c).leavesExact 3 t = owns (c : Thread nD τ) (st0_3 t) fullShare (out m c t.val) := by
  unfold Dat.leavesExact; rw [live_3 t h]; rfl

/-- What is owed does not change after the first point. -/
theorem owes_mid (c : Dev nD) (t : Fin cfg0.N) (h : t.val ≠ 0) : (dats m 0 c).owesAt () t.castSucc ⊢ (dats m 0 c).owesAt () t.succ := by
  unfold Dat.owesAt Pipeline.owesWithin
  rw [owed_later m c t.castSucc h, owed_later m c t.succ (Nat.succ_ne_zero t.val)]
  iintro ⟨%W, -, HO⟩
  iexists W
  isplitr; · ipureintro; exact fun _ _ => Or.inl trivial
  iexact HO

theorem body_obligation (c : Dev nD) : BodyObligation (dats (F := F) m 0 c) (defs₀ (F := F)) 𝒱₀ () Set.univ := fun t => by
  rw [bigSep_W0, bigSep_W0]
  show iprop(Φ m c t.val ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d)))
    ⊢ wp frame (wpE (defs₀ (F := F)) 𝒱₀ c none) Set.univ (bodyAt0 t) (fun _ => iprop(Φ m c (t.val + 1) ∗ (dats m 0 c).owesAt () t.succ
      ∗ (dats m 0 c).leavesExact 0 t ∗ (dats m 0 c).leavesExact 1 t ∗ (dats m 0 c).leavesExact 2 t ∗ (dats m 0 c).leavesExact 3 t))
  rw [leaves_0, leaves_1, leaves_2]
  by_cases h2 : t.val % 3 = 2
  · rw [leaves_3 m c t h2]
    by_cases h23 : t.val = 23
    · simp only [before_0, before_1, before_2]
      iintro ⟨HΦ, HO, ⟨%d0, H0⟩, ⟨%d1, H1⟩, ⟨%d2, H2⟩, %d3, H3⟩
      iapply (wp_last m c t h23 _ _)
      isplitl
      · isplitl [H0 H1 H2]
        · isplitl [H0]; · iexact H0
          isplitl [H1]; · iexact H1
          iexact H2
        isplitl [H3]; · iexact H3
        isplitl [HΦ]; · iexact HΦ
        iexact HO
      · iintro ⟨⟨H0, H1, H2⟩, H3, HΦ, HO⟩
        isplitl [HΦ]; · iexact HΦ
        isplitl [HO]; · iexact HO
        isplitl [H0]; · iexact H0
        isplitl [H1]; · iexact H1
        isplitl [H2]; · iexact H2
        iexact H3
    · simp only [before_0, before_1, before_2]
      iintro ⟨HΦ, HO, ⟨%d0, H0⟩, ⟨%d1, H1⟩, ⟨%d2, H2⟩, %d3, H3⟩
      ihave HO := (owes_mid m c t (by omega)) $$ HO
      iapply (wp_third m c t h2 h23 _ _)
      isplitr [HO]
      · isplitl [H0 H1 H2]
        · isplitl [H0]; · iexact H0
          isplitl [H1]; · iexact H1
          iexact H2
        isplitl [H3]; · iexact H3
        iexact HΦ
      · iintro ⟨⟨H0, H1, H2⟩, H3, HΦ⟩
        isplitl [HΦ]; · iexact HΦ
        isplitl [HO]; · iexact HO
        isplitl [H0]; · iexact H0
        isplitl [H1]; · iexact H1
        isplitl [H2]; · iexact H2
        iexact H3
  · rw [Dat.leavesExact_idle (dats m 0 c) 3 t (idle_3 t h2) (unflushed_3 t h2)]
    by_cases h0 : t.val = 0
    · simp only [before_0, before_1, before_2]
      iintro ⟨HΦ, HO, ⟨%d0, H0⟩, ⟨%d1, H1⟩, ⟨%d2, H2⟩, H3⟩
      iapply (wp_first m c t h0 _)
      isplitr [H3]
      · isplitl [H0 H1 H2]
        · isplitl [H0]; · iexact H0
          isplitl [H1]; · iexact H1
          iexact H2
        isplitl [HΦ]; · iexact HΦ
        iexact HO
      · iintro ⟨⟨H0, H1, H2⟩, HΦ, HO⟩
        isplitl [HΦ]; · iexact HΦ
        isplitl [HO]; · iexact HO
        isplitl [H0]; · iexact H0
        isplitl [H1]; · iexact H1
        isplitl [H2]; · iexact H2
        iexact H3
    · simp only [before_0, before_1, before_2]
      iintro ⟨HΦ, HO, ⟨%d0, H0⟩, ⟨%d1, H1⟩, ⟨%d2, H2⟩, H3⟩
      ihave HO := (owes_mid m c t h0) $$ HO
      by_cases h1 : t.val % 3 = 1
      · iapply (wp_second m c t h1 _)
        isplitr [H3 HO]
        · isplitl [H0 H1 H2]
          · isplitl [H0]; · iexact H0
            isplitl [H1]; · iexact H1
            iexact H2
          iexact HΦ
        · iintro ⟨⟨H0, H1, H2⟩, HΦ⟩
          isplitl [HΦ]; · iexact HΦ
          isplitl [HO]; · iexact HO
          isplitl [H0]; · iexact H0
          isplitl [H1]; · iexact H1
          isplitl [H2]; · iexact H2
          iexact H3
      · iapply (wp_start m c t h0 (by omega) _)
        isplitr [H3 HO]
        · isplitl [H0 H1 H2]
          · isplitl [H0]; · iexact H0
            isplitl [H1]; · iexact H1
            iexact H2
          iexact HΦ
        · iintro ⟨⟨H0, H1, H2⟩, HΦ⟩
          isplitl [HΦ]; · iexact HΦ
          isplitl [HO]; · iexact HO
          isplitl [H0]; · iexact H0
          isplitl [H1]; · iexact H1
          isplitl [H2]; · iexact H2
          iexact H3

/-! ## The run -/

def u₀ : UU nD τ sig := (initOf (Pipeline.cells cfgs cellOf_inj) (Pipeline.launchToks cfgs cellOf_inj), initOf plan.cells plan.toks)

/-- What a device's arrays hold at the end that no window stages. -/
def rest (c : Dev nD) (s : MemSt nD τ sig (Elt F)) : Prop :=
  s.mem ((c : Thread nD τ).loc main_arg3) = m ((c : Thread nD τ).loc main_arg3)
    ∧ ∀ j : Fin 3, ∀ i ∈ (oRow j).view.set, s.mem ((c : Thread nD τ).loc main_v1_1) i = got m j c i

theorem ends (c : Dev nD) (s' : Phys nD τ sig (Elt F)) :
    iprop((hold m c ∗ dst m 0 c ∗ dst m 1 c ∗ dst m 2 c) ∗ emp ∗ SI s') ⊢ (|={Set.univ}=> iprop(⌜rest m c s'.mem⌝ ∗ SI s') : sProp 𝕄) := by
  unfold hold dst rest
  iintro ⟨⟨Hh, D0, D1, D2⟩, -, HSI⟩
  ihave %h := SI_pointsTo_agree $$ [HSI Hh]
  · isplitl [HSI] <;> iassumption
  ihave %h0 := SI_pointsTo_agree $$ [HSI D0]
  · isplitl [HSI] <;> iassumption
  ihave %h1 := SI_pointsTo_agree $$ [HSI D1]
  · isplitl [HSI] <;> iassumption
  ihave %h2 := SI_pointsTo_agree $$ [HSI D2]
  · isplitl [HSI] <;> iassumption
  imodintro
  isplitr
  · ipureintro
    refine ⟨funext fun i => h i (Finset.mem_univ i), fun j => ?_⟩
    fin_cases j
    · exact fun i hi => h0 i hi
    · exact fun i hi => h1 i hi
    · exact fun i hi => h2 i hi
  · iexact HSI

theorem ownSemFacts : Pipeline.OwnSemFacts cfg0.spec plan.osem := by decide

theorem scratch_eq (c : Dev nD) (f : Buf (Elt F) ((c : Thread nD τ).loc cc0_scratch0)) :
    (owns (c : Thread nD τ) (Memref.whole cc0_scratch0) fullShare f : sProp 𝕄) = ((c : Thread nD τ).loc cc0_scratch0) ↦{fullShare} f :=
  owns_whole _ _ _ _

/-- A staging semaphore is no line's. -/
theorem stage_ne : ∀ (w : Fin cfg0.W) (s : Fin (cfg0.win w).nbuf) (j : Fin 3), (cfg0.win w).sem s ≠ plan.rcv j := by decide

/-- From any memory with zero counters every weakly fair execution of `@main` terminates, each staged array at its
    written blocks, the rows exchanged in place, and every counter at zero. -/
theorem run_main : θ_run defs (onTc (τ := τ) (main (F := F))) ⟨m, fun _ => 0, ρ⟩
    (fun r => (∀ c : Dev nD, (∀ w, r.2.mem ((cfg0.win w).arr.view.loc (c : Thread nD τ)) = (dats m 0 c).arrAt w cfg0.N) ∧ rest m c r.2)
      ∧ r.2.sem = fun _ => 0) :=
  Proof.Launch.run_owing (fun p => (cfgs p).toPCfg) (fun _ p => (cfgs p).toPCfg_adm) (fun p c => (dats m p c).toR) () cellOf_inj (0 : Fin 1)
    winFacts0.to₀ (osem := plan.osem) ownSemFacts EP defs₀ 𝒱₀ m ρ main
    (hmain := fun _ => rfl)
    (hbody := fun c => (Pipeline.BodyObligation.loose (dats m 0 c) (body_obligation m c)).toR) (hne := block_pos0) (harr := arr_whole0) (hstage := stage_whole0)
    (hshare := Pipeline.SharedIn.of_injective winFacts0.arr_inj)
    (hq := fun c w hw => (dats m 0 c).q_eq_shareOf_of_share_full winFacts0.arr_inj (fun w => by fin_cases w <;> rfl) w hw)
    (O₀ := O₀) (howed₀ := fun _ => rfl) (howedN := fun _ => rfl)
    (L := Proof.Lines.Plan.L) (lv := plan.lv) (hL := Proof.Lines.Plan.L_of_ne)
    (hwaits := fun c => Pipeline.cellsWaits_intro cfgs (dats m) () 0 c fun w s t => by
      by_cases h : t.val = 0
      · rw [owed_first m c t h]; exact plan.mayWait c Finset.univ _ (stage_ne w s)
      · rw [owed_later m c t h, MayWait_zero]; iintro -; iempintro)
    (G := plan.G (src m) (dst m)) (G' := plan.G' (src m) (dst m) (keep m) (give m)) (u₀ := u₀)
    (hu₀ := by
      unfold u₀
      iintro Hu
      ihave H := (ownU_pair _ _) $$ Hu
      icases H with ⟨HP, HX⟩
      imod (plan.fund (src m) (dst m)) $$ HX with HG
      imodintro
      isplitl [HP] <;> iassumption)
    (hglob := plan.glob (src m) (dst m) (keep m) (give m) _ _ (rest_split m))
    (hA := fun _ _ => rfl) (hpre := fun c => by
      unfold Pipeline.prefHeld
      rw [show (Finset.univ : Finset (Fin 0)) = ∅ from rfl, bigSep_empty])
    (X := fun c => iprop(keep m c ∗ bigSep Finset.univ fun j => plan.ready (src m) (dst m) (give m) c j))
    (Y := fun c => iprop(hold m c ∗ dst m 0 c ∗ dst m 1 c ∗ dst m 2 c)) (Z := fun _ => iprop(emp))
    (hX := fun c => plan.start (src m) (dst m) c (keep m) (give m) _)
    (hin := fun c => by
      show iprop(_ ∗ Pipeline.scopedRest spec0 c) ⊢ Φ m c 0
      rw [scopedRest0_eq c, lines]
      unfold Φ scr
      rw [state_first m c 0 rfl]
      simp only [scratch_eq]
      iintro ⟨H1, %f, H2⟩
      isplitl [H1]; · iexact H1
      iexists f
      isplitr; · ipureintro; exact fun h => absurd rfl h
      iexact H2)
    (hout := fun c => by
      show Φ m c 24 ⊢ iprop((hold m c ∗ dst m 0 c ∗ dst m 1 c ∗ dst m 2 c) ∗ Pipeline.ownSems0 plan.osem c ∗ Pipeline.scopedRest spec0 c)
      rw [scopedRest0_eq c, plan.over_sems, lines]
      unfold Φ scr
      rw [state_last m c 24 (by omega)]
      simp only [scratch_eq]
      iintro ⟨⟨H1, H2⟩, %f, -, H3⟩
      isplitl [H1]; · iexact H1
      isplitl [H2]; · iexact H2
      iexists f
      iexact H3)
    (QY := rest m) (hY := ends m)
    (hQ := fun _ h hs => ⟨fun c => ⟨fun w => ((dats m 0 c).toR_arrAt_iff w _ _).mp ((h c).1 w), (h c).2⟩, sem_eq_zero_of_scoped (by decide) hs⟩)

end Cert.KernelProof

end
-- ==== Proof.Products.lean ====
/-
# Products with a turned side, in blocks

What the calls that take such products have in common: an entry of a block's product, an entry of the reference's, and the places of a
block in its array.
-/
module

public import Idealize.ShloMosaic.Lib.MatmulPlain
public import Idealize.ShloMosaic.Lib.StackMember
public import Idealize.ShloMosaic.Lib.Pointwise

@[expose] public section

noncomputable section

namespace Cert.Products

open Idealize.ShloMosaic
open scoped BigOperators

theorem zero2 : (![0, 0] : Fin 2 → Nat) = fun _ => 0 := funext fun a => by fin_cases a <;> rfl

/-- A place of a block in its array. -/
theorem spot {k l K L : ℕ} (f : Fin 2 → ℕ) (u v : ℕ) (h : f 0 = u ∧ f 1 = v) (a : Fin k) (b : Fin l) (r : Fin K) (s : Fin L)
    (hr : r.val = k * u + a.val) (hs : s.val = l * v + b.val) (x : Fin 2) :
    f x * (⟨2, ![k, l]⟩ : Shape).size x + 1 * ((ix2 a b : (⟨2, ![k, l]⟩ : Shape).Idx) x).val = ((ix2 r s : (⟨2, ![K, L]⟩ : Shape).Idx) x).val := by
  match x with
  | ⟨0, _⟩ => show f 0 * k + 1 * a.val = r.val; rw [h.1, hr, Nat.mul_comm, Nat.one_mul]
  | ⟨1, _⟩ => show f 1 * l + 1 * b.val = s.val; rw [h.2, hs, Nat.mul_comm, Nat.one_mul]

/-- A block's places. -/
theorem in_tile {k l K L : ℕ} (hk : 0 < k) (hl : 0 < l) (f : Fin 2 → ℕ) (i : (⟨2, ![K, L]⟩ : Shape).Idx)
    (h : f 0 = (i 0 : ℕ) / k ∧ f 1 = (i 1 : ℕ) / l) (x : Fin 2) :
    f x * (⟨2, ![k, l]⟩ : Shape).size x ≤ (i x : ℕ) ∧ (i x : ℕ) < f x * (⟨2, ![k, l]⟩ : Shape).size x + (⟨2, ![k, l]⟩ : Shape).size x := by
  match x with
  | ⟨0, _⟩ => show f 0 * k ≤ (i 0 : ℕ) ∧ (i 0 : ℕ) < f 0 * k + k; rw [h.1]; exact ⟨Nat.div_mul_le_self _ _, Nat.lt_div_mul_add hk⟩
  | ⟨1, _⟩ => show f 1 * l ≤ (i 1 : ℕ) ∧ (i 1 : ℕ) < f 1 * l + l; rw [h.2]; exact ⟨Nat.div_mul_le_self _ _, Nat.lt_div_mul_add hl⟩

variable {M K N : ℕ}

/-- An entry of the product with a turned right side. -/
def entry (A : (⟨2, ![M, K]⟩ : Shape).Idx → Ideal .bf16) (B : (⟨2, ![N, K]⟩ : Shape).Idx → Ideal .bf16) (r : Fin M) (s : Fin N) : Ideal .f32 :=
  ∑ p : Fin K, A (ix2 r p) * B (ix2 s p)

theorem block_apply (A : FVec Ideal ⟨2, ![M, K]⟩ .bf16) (B : FVec Ideal ⟨2, ![N, K]⟩ .bf16) (a : Fin M) (b : Fin N) :
    FloatOps.matmul (F := Ideal) (φ₁ := .bf16) (φ₂ := .bf16) (DotDims.transposedRhs M K N) none A B (constant ⟨2, ![M, N]⟩ .f32 0x00000000#32) (ix2 a b)
      = entry A B a b := by
  refine (Ideal.matmul_transposedRhs_apply (M := M) (K := K) (N := N) (φ₁ := .bf16) (φ₂ := .bf16) none A B _ a b).trans ?_
  show Ideal.ofBits .f32 0x00000000#32 + _ = _
  rw [Ideal.ofBits_zero_f32, zero_add]
  rfl

theorem whole_apply (A : FVec Ideal ⟨2, ![M, K]⟩ .bf16) (B : FVec Ideal ⟨2, ![N, K]⟩ .bf16)
    (h : (⟨2, ![N, K]⟩ : Shape).Transposes [1, 0] ⟨2, ![K, N]⟩) (r : Fin M) (s : Fin N) :
    Host.dotGeneral (F := Ideal) (φ₁ := .bf16) (φ₂ := .bf16) (DotDims.plain M K N) none A (transpose ⟨2, ![K, N]⟩ [1, 0] B h) (ix2 r s) = entry A B r s :=
  (StackMember.dotGeneral_plain_apply (m := M) (k := K) (n := N) none A _ r s).trans <| Finset.sum_congr rfl fun p _ => congrArg (A (ix2 r p) * ·)
    (transpose_apply _ _ _ (ix2 p s) (ix2 s p) fun b => match b with | ⟨0, _⟩ => rfl | ⟨1, _⟩ => rfl)

/-- A sum over the contracted axis, in its two halves. -/
theorem sum_halves {T : Type} [AddCommMonoid T] (f : Fin 4096 → T) : ∑ p, f p
    = (∑ q : Fin 2048, f ⟨q.val, by omega⟩) + ∑ q : Fin 2048, f ⟨2048 + q.val, by omega⟩ := by
  show ∑ p : Fin (2048 + 2048), f p = _
  rw [Fin.sum_univ_add]
  rfl

/-- An entry of the reference's product with a turned left side. -/
theorem turned_apply (A : FVec Ideal ⟨2, ![K, M]⟩ .bf16) (B : FVec Ideal ⟨2, ![K, N]⟩ .bf16)
    (h : (⟨2, ![K, M]⟩ : Shape).Transposes [1, 0] ⟨2, ![M, K]⟩) (r : Fin M) (s : Fin N) :
    Host.dotGeneral (F := Ideal) (φ₁ := .bf16) (φ₂ := .bf16) (DotDims.plain M K N) none (transpose ⟨2, ![M, K]⟩ [1, 0] A h) B (ix2 r s)
      = ∑ p : Fin K, A (ix2 p r) * B (ix2 p s) :=
  (StackMember.dotGeneral_plain_apply (m := M) (k := K) (n := N) none _ B r s).trans <| Finset.sum_congr rfl fun p _ => congrArg (· * B (ix2 p s))
    (transpose_apply _ _ _ (ix2 r p) (ix2 p r) fun b => match b with | ⟨0, _⟩ => rfl | ⟨1, _⟩ => rfl)

end Cert.Products

end
-- ==== Proof.KernelValue.lean ====
/-
# The gradient of a layer's input with its exchange between chips: its values

`Cert.KernelProof.prod_eq`: a device's part of the product, accumulated over three blocks of the contracted axis, is its rows of
the whole product. `Cert.KernelProof.rows_eq`: the rows a device holds of the exchange are its part of the reference's.
-/
module

public import proofs.«01_k».proof.Proof.KernelRun
public import proofs.«01_k».proof.Proof.Gen.ReferenceIdeal
public import proofs.«01_k».proof.Proof.Products

@[expose] public section

set_option maxRecDepth 16384

noncomputable section

namespace Cert.KernelProof

open Cert.KernelIdeal Cert.KernelIdeal.Gen
open Idealize.ShloMosaic Idealize.ShloMosaic.TcCoe
open Cert.Products (spot in_tile)
open Idealize.ShloMosaic.Pipeline (Dat)
open scoped BigOperators

/-! ## The product -/

theorem index_0 : ∀ t : Fin grid0.N, win0_0.index t 0 = t.val / 6 ∧ win0_0.index t 1 = t.val % 3 := by decide +kernel
theorem index_1 : ∀ t : Fin grid0.N, win0_1.index t 0 = t.val % 3 ∧ win0_1.index t 1 = t.val / 3 % 2 := by decide +kernel
theorem index_2 : ∀ t : Fin grid0.N, win0_2.index t 0 = t.val / 6 ∧ win0_2.index t 1 = t.val / 3 % 2 := by decide +kernel
theorem index_3 : ∀ t : Fin grid0.N, win0_3.index t 0 = t.val / 6 ∧ win0_3.index t 1 = t.val / 3 % 2 := by decide +kernel

section
variable {F : FTy → Type} [FloatOps F]
variable (m : (ℓ : Loc nD τ sig) → Buf (Elt F) ℓ) (c : Dev nD)

theorem bA_apply (t : Fin cfg0.N) (a : Fin 1024) (q : Fin 2432) (r : Fin 4096) (p : Fin 7296)
    (hr : r.val = 1024 * (t.val / 6) + a.val) (hp : p.val = 2432 * (t.val % 3) + q.val) :
    bA m c t.val (ix2 a q) = m ((c : Thread nD τ).loc main_arg0) (ix2 r p) := by
  unfold bA iblk
  rw [pt_val, View.read_apply]
  exact congrArg (m ((c : Thread nD τ).loc main_arg0)) (funext fun x => Fin.ext (spot _ _ _ (index_0 t) a q r p (by omega) (by omega) x))

theorem bB_apply (t : Fin cfg0.N) (q : Fin 2432) (b : Fin 1024) (p : Fin 7296) (s : Fin 2048)
    (hp : p.val = 2432 * (t.val % 3) + q.val) (hs : s.val = 1024 * (t.val / 3 % 2) + b.val) :
    bB m c t.val (ix2 q b) = m ((c : Thread nD τ).loc main_arg1) (ix2 p s) := by
  unfold bB iblk
  rw [pt_val, View.read_apply]
  exact congrArg (m ((c : Thread nD τ).loc main_arg1)) (funext fun x => Fin.ext (spot _ _ _ (index_1 t) q b p s (by omega) (by omega) x))

theorem bD_apply (t : Fin cfg0.N) (a b : Fin 1024) (r : Fin 4096) (s : Fin 2048)
    (hr : r.val = 1024 * (t.val / 6) + a.val) (hs : s.val = 1024 * (t.val / 3 % 2) + b.val) :
    bD m c t.val (ix2 a b) = m ((c : Thread nD τ).loc main_arg2) (ix2 r s) := by
  unfold bD iblk
  rw [pt_val, View.read_apply]
  exact congrArg (m ((c : Thread nD τ).loc main_arg2)) (funext fun x => Fin.ext (spot _ _ _ (index_2 t) a b r s (by omega) (by omega) x))

end

section
variable (m : (ℓ : Loc nD τ sig) → Buf (Elt Ideal) ℓ) (c : Dev nD)

abbrev alpha : Ideal .f32 := Ideal.ofBits .f32 0x3FD744FD#32

/-- An entry of a device's product. -/
def entry (A : (⟨2, ![4096, 7296]⟩ : Shape).Idx → Ideal .bf16) (B : (⟨2, ![7296, 2048]⟩ : Shape).Idx → Ideal .bf16)
    (D : (⟨2, ![4096, 2048]⟩ : Shape).Idx → Ideal .f32) (r : Fin 4096) (s : Fin 2048) : Ideal .f32 :=
  (∑ p : Fin 7296, A (ix2 r p) * B (ix2 p s)) + alpha * D (ix2 r s)

theorem pay1_apply (A : Vec Ideal S1024x2432 .bf16) (B : Vec Ideal S2432x1024 .bf16) (a b : Fin 1024) :
    k0_pay1 A B (ix2 a b) = ∑ q : Fin 2432, A (ix2 a q) * B (ix2 q b) := by
  unfold k0_pay1
  rw [shapeCast_self, shapeCast_self]
  refine (Ideal.matmul_plain_apply (M := 1024) (K := 2432) (N := 1024) none A B _ a b).trans ?_
  show Ideal.ofBits .f32 0x00000000#32 + _ = _
  rw [Ideal.ofBits_zero_f32, zero_add]
  rfl

/-- A sum over the contracted axis, in its three blocks. -/
theorem sum_blocks {M : Type} [AddCommMonoid M] (f : Fin 7296 → M) : ∑ p, f p
    = ((∑ q : Fin 2432, f ⟨q.val, by omega⟩) + ∑ q : Fin 2432, f ⟨2432 + q.val, by omega⟩) + ∑ q : Fin 2432, f ⟨4864 + q.val, by omega⟩ := by
  show ∑ p : Fin ((2432 + 2432) + 2432), f p = _
  rw [Fin.sum_univ_add, Fin.sum_univ_add]
  rfl

theorem out_apply (t : Fin cfg0.N) (ht : t.val % 3 = 2) (a b : Fin 1024) (r : Fin 4096) (s : Fin 2048)
    (hr : r.val = 1024 * (t.val / 6) + a.val) (hs : s.val = 1024 * (t.val / 3 % 2) + b.val) :
    out m c t.val (ix2 a b)
      = entry (m ((c : Thread nD τ).loc main_arg0)) (m ((c : Thread nD τ).loc main_arg1)) (m ((c : Thread nD τ).loc main_arg2)) r s := by
  have hN := lt_N t
  have hlt : ∀ k, t.val - k < cfg0.N := fun k => lt_of_le_of_lt (Nat.sub_le _ _) t.isLt
  unfold out acc entry
  rw [if_neg (by omega : ¬ (t.val - 1) % 3 = 0)]
  unfold k0_pay4 k0_pay3 k0_pay2
  dsimp only
  simp only [shapeCast_self]
  show ((k0_pay1 _ _ (ix2 a b) + k0_pay1 _ _ (ix2 a b)) + k0_pay1 _ _ (ix2 a b)) + alpha * bD m c t.val (ix2 a b) = _
  rw [pay1_apply, pay1_apply, pay1_apply, sum_blocks, bD_apply m c t a b r s hr hs]
  refine congrArg (· + _) (congrArg₂ (· + ·) (congrArg₂ (· + ·) ?_ ?_) ?_) <;> refine Finset.sum_congr rfl fun q _ => ?_
  · exact congrArg₂ (· * ·) (bA_apply m c ⟨t.val - 1 - 1, hlt 2⟩ a q r _ (by dsimp only; omega) (by dsimp only; omega))
      (bB_apply m c ⟨t.val - 1 - 1, hlt 2⟩ q b _ s (by dsimp only; omega) (by dsimp only; omega))
  · exact congrArg₂ (· * ·) (bA_apply m c ⟨t.val - 1, hlt 1⟩ a q r _ (by dsimp only; omega) (by dsimp only; omega))
      (bB_apply m c ⟨t.val - 1, hlt 1⟩ q b _ s (by dsimp only; omega) (by dsimp only; omega))
  · exact congrArg₂ (· * ·) (bA_apply m c t a q r _ hr (by dsimp only; omega)) (bB_apply m c t q b _ s (by dsimp only; omega) hs)

/-- A device's product. -/
def prod : Buf (Elt Ideal) ((c : Thread nD τ).loc main_v1_0) := fun i : (⟨2, ![4096, 2048]⟩ : Shape).Idx =>
  entry (m ((c : Thread nD τ).loc main_arg0)) (m ((c : Thread nD τ).loc main_arg1)) (m ((c : Thread nD τ).loc main_arg2)) (i 0) (i 1)

theorem flushed_eq (t : Fin cfg0.N) (hf : (cfg0.win 3).flush t = true) :
    (dats m 0 c).flushed 3 t = ((cfg0.win 3).blk t).view.read (Elt Ideal) (prod m c) := by
  have ht := (flush0_3 t).mp hf
  funext i
  obtain ⟨a, b, rfl⟩ : ∃ (a b : Fin 1024), i = ix2 a b := ⟨i 0, i 1, eq_ix2 i⟩
  show out m c t.val (ix2 a b) = _
  rw [View.read_apply]
  have hN := lt_N t
  refine out_apply m c t ht a b _ _ ?_ ?_
  · show win0_3.index t 0 * 1024 + 1 * a.val = _; rw [(index_3 t).1]; omega
  · show win0_3.index t 1 * 1024 + 1 * b.val = _; rw [(index_3 t).2]; omega

theorem final_eq : (dats m 0 c).arrAt 3 cfg0.N = prod m c :=
  (dats m 0 c).arrAt_eq_of_cover 3 (prod m c) (flushed_eq m c) fun i => by
    have h0 : (i 0 : ℕ) < 4096 := (i 0).isLt
    have h1 : (i 1 : ℕ) < 2048 := (i 1).isLt
    let t : Fin cfg0.N := ⟨6 * ((i 0 : ℕ) / 1024) + 3 * ((i 1 : ℕ) / 1024) + 2, by rw [show cfg0.N = 24 from N_0]; omega⟩
    have ht : t.val = 6 * ((i 0 : ℕ) / 1024) + 3 * ((i 1 : ℕ) / 1024) + 2 := rfl
    refine ⟨t, (flush0_3 t).mpr (by omega), ?_⟩
    show i ∈ ((View.whole main_v1_0).slice (win0_3.rect t)).set
    rw [View.set_slice_whole, Rect.mem_set_unit]
    exact in_tile (k := 1024) (l := 1024) (by omega) (by omega) _ i ⟨(index_3 t).1.trans (by omega), (index_3 t).2.trans (by omega)⟩

/-- The reference's product. -/
abbrev wholeProd (A : (⟨2, ![32768, 7296]⟩ : Shape).Idx → Ideal .bf16) (B : (⟨2, ![7296, 2048]⟩ : Shape).Idx → Ideal .bf16)
    (D : (⟨2, ![32768, 2048]⟩ : Shape).Idx → Ideal .f32) : (⟨2, ![32768, 2048]⟩ : Shape).Idx → Ideal .f32 :=
  addf (Host.dotGeneral Cert.ReferenceIdeal.dot_S32768x7296_S7296x2048_S32768x2048_1_0_0_1_n_n none A B)
    (mulf (broadcastInDim ⟨2, ![32768, 2048]⟩ ![] Cert.ReferenceIdeal.Gen.bcast_S_S32768x2048 (constant Cert.ReferenceIdeal.S_ .f32 0x3FD744FD#32)) D)

theorem prod_eq (A : (⟨2, ![32768, 7296]⟩ : Shape).Idx → Ideal .bf16) (B : (⟨2, ![7296, 2048]⟩ : Shape).Idx → Ideal .bf16)
    (D : (⟨2, ![32768, 2048]⟩ : Shape).Idx → Ideal .f32)
    (hA : m ((c : Thread nD τ).loc main_arg0) = Layout.block ⟨2, ![4096, 7296]⟩ ⟨2, ![32768, 7296]⟩ 0 8 c A)
    (hB : m ((c : Thread nD τ).loc main_arg1) = B)
    (hD : m ((c : Thread nD τ).loc main_arg2) = Layout.block ⟨2, ![4096, 2048]⟩ ⟨2, ![32768, 2048]⟩ 0 8 c D) :
    prod m c = Layout.block ⟨2, ![4096, 2048]⟩ ⟨2, ![32768, 2048]⟩ 0 8 c (wholeProd A B D) := by
  funext (i : (⟨2, ![4096, 2048]⟩ : Shape).Idx)
  have hc : c.val < 8 := c.isLt
  have i0 : (i 0).val < 4096 := (i 0).isLt
  have hi : (show Layout.Tiles ⟨2, ![4096, 2048]⟩ ⟨2, ![32768, 2048]⟩ 0 8 by decide).idx c i = ix2 ⟨c.val * 4096 + (i 0).val, by omega⟩ (i 1) :=
    funext fun x => Fin.ext (by match x with | ⟨0, _⟩ => rfl | ⟨1, _⟩ => rfl)
  rw [Layout.block_apply, hi]
  show _ = Host.dotGeneral (DotDims.plain 32768 7296 2048) none A B (ix2 _ _) + alpha * D (ix2 _ _)
  refine .trans ?_ (congrArg (· + _) (StackMember.dotGeneral_plain_apply (m := 32768) (k := 7296) (n := 2048) none A B _ (i 1)).symm)
  unfold prod entry
  rw [hA, hB, hD]
  refine congrArg₂ (· + ·) (Finset.sum_congr rfl fun p _ => congrArg (· * _) (congrArg A ?_)) (congrArg (alpha * ·) (congrArg D ?_))
  · exact funext fun x => Fin.ext (by match x with | ⟨0, _⟩ => rfl | ⟨1, _⟩ => rfl)
  · exact funext fun x => Fin.ext (by match x with | ⟨0, _⟩ => rfl | ⟨1, _⟩ => rfl)

end

/-! ## The exchange -/

/-- The rows of the reference's result, in the whole array's. -/
def rowOf (n : Fin 12) : ℕ := match n with
  | 0 => 8 | 1 => 4 | 2 => 12 | 3 => 13 | 4 => 1 | 5 => 9 | 6 => 2 | 7 => 14 | 8 => 6 | 9 => 7 | 10 => 11 | 11 => 3
theorem row_slices : ∀ n : Fin 12, (⟨4, ![16, 2, 1168, 2048]⟩ : Shape).Slices ![rowOf n, 0, 0, 0] ⟨4, ![1, 2, 1168, 2048]⟩ := by decide

variable {F : FTy → Type} [FloatOps F]

def row (H : (⟨4, ![16, 2, 1168, 2048]⟩ : Shape).Idx → Elt F .bf16) (n : Fin 12) : (⟨4, ![1, 2, 1168, 2048]⟩ : Shape).Idx → Elt F .bf16 :=
  extractStridedSlice ⟨4, ![1, 2, 1168, 2048]⟩ ![rowOf n, 0, 0, 0] H (row_slices n)

/-- The rows laid end to end: the reference's result. -/
def wholeRows (H : (⟨4, ![16, 2, 1168, 2048]⟩ : Shape).Idx → Elt F .bf16) : (⟨4, ![12, 2, 1168, 2048]⟩ : Shape).Idx → Elt F .bf16 :=
  concatenate ⟨4, ![12, 2, 1168, 2048]⟩ 0 (List.ofFn fun n : Fin 12 => ⟨⟨4, ![1, 2, 1168, 2048]⟩, row H n⟩)
    Cert.ReferenceIdeal.Gen.concatenates_S1x2x1168x2048_S1x2x1168x2048_S1x2x1168x2048_S1x2x1168x2048_S1x2x1168x2048_S1x2x1168x2048_S1x2x1168x2048_S1x2x1168x2048_S1x2x1168x2048_S1x2x1168x2048_S1x2x1168x2048_S1x2x1168x2048_S12x2x1168x2048_d0

theorem mesh_0 : ∀ c : Fin 8, ((Layout.meshBlock [2, 2, 2] ![[0, 1], [2], [], []] c) (0 : Fin 4)).val = c.val / 2 := by decide
theorem mesh_1 : ∀ c : Fin 8, ((Layout.meshBlock [2, 2, 2] ![[0, 1], [2], [], []] c) (1 : Fin 4)).val = c.val % 2 := by decide
theorem mesh_2 : ∀ c : Fin 8, ((Layout.meshBlock [2, 2, 2] ![[0, 1], [2], [], []] c) (2 : Fin 4)).val = 0 := by decide
theorem mesh_3 : ∀ c : Fin 8, ((Layout.meshBlock [2, 2, 2] ![[0, 1], [2], [], []] c) (3 : Fin 4)).val = 0 := by decide

/-- The row a device gets on a line, where it lies in the whole array. -/
theorem row_from : ∀ (j : Fin 3) (c : Dev nD), (peer j c).val / 2 * 4 + sOff j (peer j c) 0
    = rowOf ⟨3 * (c.val / 2) + j.val, by have : c.val < 8 := c.isLt; omega⟩ := by decide +kernel
theorem row_half : ∀ (j : Fin 3) (c : Dev nD), (peer j c).val % 2 = c.val % 2 := by decide +kernel
theorem row_offs : ∀ (j : Fin 3) (c : Dev nD), sOff j (peer j c) 1 = 0 ∧ sOff j (peer j c) 2 = 0 ∧ sOff j (peer j c) 3 = 0 := by decide +kernel

variable (m : (ℓ : Loc nD τ sig) → Buf (Elt F) ℓ)

theorem rowOf_lt : ∀ n : Fin 12, rowOf n < 16 := by decide

theorem row_apply (H : (⟨4, ![16, 2, 1168, 2048]⟩ : Shape).Idx → Elt F .bf16) (n : Fin 12) (h : Fin 2) (r : Fin 1168) (w : Fin 2048) :
    row H n (ix4 0 h r w) = H (ix4 ⟨rowOf n, rowOf_lt n⟩ h r w) := by
  unfold row
  refine extractStridedSlice_apply _ H _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

theorem wholeRows_apply (H : (⟨4, ![16, 2, 1168, 2048]⟩ : Shape).Idx → Elt F .bf16) (n : Fin 12) (h : Fin 2) (r : Fin 1168) (w : Fin 2048) :
    wholeRows H (ix4 n h r w) = H (ix4 ⟨rowOf n, rowOf_lt n⟩ h r w) := by
  refine .trans ?_ (row_apply H n h r w)
  unfold wholeRows
  refine concatenate_ofFn_apply (t := ⟨4, ![12, 2, 1168, 2048]⟩) 0 (row H) _ rfl 1 rfl _ n (Nat.div_one _) _ (Nat.mod_one _).symm fun b hb => ?_
  match b with
  | ⟨0, _⟩ => exact absurd rfl hb
  | ⟨1, _⟩ => rfl
  | ⟨2, _⟩ => rfl
  | ⟨3, _⟩ => rfl

/-- A device's part of the rows. -/
abbrev part {α : Type} (c : Dev nD) (v : (⟨4, ![12, 2, 1168, 2048]⟩ : Shape).Idx → α) : (⟨4, ![3, 1, 1168, 2048]⟩ : Shape).Idx → α :=
  Layout.blockN ⟨4, ![3, 1, 1168, 2048]⟩ ⟨4, ![12, 2, 1168, 2048]⟩ (Layout.meshBlock [2, 2, 2] ![[0, 1], [2], [], []] c) v

theorem part_apply {α : Type} (c : Dev nD) (v : (⟨4, ![12, 2, 1168, 2048]⟩ : Shape).Idx → α) (i : (⟨4, ![3, 1, 1168, 2048]⟩ : Shape).Idx)
    (n : Fin 12) (hn : n.val = 3 * (c.val / 2) + (i 0).val) (h : Fin 2) (hh : h.val = c.val % 2) : part c v i = v (ix4 n h (i 2) (i 3)) := by
  have i1 : (i 1).val < 1 := (i 1).isLt
  have hc0 := mesh_0 c; have hc1 := mesh_1 c; have hc2 := mesh_2 c; have hc3 := mesh_3 c
  unfold part
  rw [Layout.blockN_apply]
  refine congrArg v (funext fun x => Fin.ext ?_)
  rw [Layout.TilesN.idx_val]
  match x with
  | ⟨0, _⟩ => show _ * 3 + (i 0).val = n.val; exact (congrArg (· * 3 + _) hc0).trans (by omega)
  | ⟨1, _⟩ => show _ * 1 + (i 1).val = h.val; exact (congrArg (· * 1 + _) hc1).trans (by omega)
  | ⟨2, _⟩ => show _ * 1168 + (i 2).val = (i 2).val; exact (congrArg (· * 1168 + _) hc2).trans (by omega)
  | ⟨3, _⟩ => show _ * 2048 + (i 3).val = (i 3).val; exact (congrArg (· * 2048 + _) hc3).trans (by omega)

theorem hpart_apply {α : Type} (c : Dev nD) (v : (⟨4, ![16, 2, 1168, 2048]⟩ : Shape).Idx → α) (i : (⟨4, ![4, 1, 1168, 2048]⟩ : Shape).Idx)
    (n : Fin 16) (hn : n.val = 4 * (c.val / 2) + (i 0).val) (h : Fin 2) (hh : h.val = c.val % 2) (r : Fin 1168) (hr : (i 2).val = r.val) (w : Fin 2048) (hw : (i 3).val = w.val) :
    Layout.blockN ⟨4, ![4, 1, 1168, 2048]⟩ ⟨4, ![16, 2, 1168, 2048]⟩ (Layout.meshBlock [2, 2, 2] ![[0, 1], [2], [], []] c) v (by decide) i = v (ix4 n h r w) := by
  have i1 : (i 1).val < 1 := (i 1).isLt
  have hc0 := mesh_0 c; have hc1 := mesh_1 c; have hc2 := mesh_2 c; have hc3 := mesh_3 c
  rw [Layout.blockN_apply]
  refine congrArg v (funext fun x => Fin.ext ?_)
  rw [Layout.TilesN.idx_val]
  match x with
  | ⟨0, _⟩ => show _ * 4 + (i 0).val = n.val; exact (congrArg (· * 4 + _) hc0).trans (by omega)
  | ⟨1, _⟩ => show _ * 1 + (i 1).val = h.val; exact (congrArg (· * 1 + _) hc1).trans (by omega)
  | ⟨2, _⟩ => show _ * 1168 + (i 2).val = r.val; exact (congrArg (· * 1168 + _) hc2).trans (by omega)
  | ⟨3, _⟩ => show _ * 2048 + (i 3).val = w.val; exact (congrArg (· * 2048 + _) hc3).trans (by omega)

theorem oOff_eq (j : Fin 3) : oOff j = ![j.val, 0, 0, 0] := match j with | 0 => rfl | 1 => rfl | 2 => rfl

/-- A device's rows are its part of the reference's. -/
theorem rows_eq (H : (⟨4, ![16, 2, 1168, 2048]⟩ : Shape).Idx → Elt F .bf16)
    (hH : ∀ c : Dev nD, m ((c : Thread nD τ).loc main_arg3)
      = Layout.blockN ⟨4, ![4, 1, 1168, 2048]⟩ ⟨4, ![16, 2, 1168, 2048]⟩ (Layout.meshBlock [2, 2, 2] ![[0, 1], [2], [], []] c) H)
    (c : Dev nD) (j : Fin 3) (x : S1x1x1168x2048.Idx) :
    (sRow j (peer j c)).view.read (Elt F) (m ((peer j c : Thread nD τ).loc main_arg3)) x
      = part c (wholeRows H) ((oRow j).view.emb x) := by
  have hc : c.val < 8 := c.isLt
  have x0 : (x 0).val < 1 := (x 0).isLt
  have hr := row_from j c
  have hh := row_half j c
  obtain ⟨o1, o2, o3⟩ := row_offs j c
  have ho := oOff_eq j
  rw [hH (peer j c), View.read_apply]
  refine .trans ?_ (.symm ((part_apply c _ ((oRow j).view.emb x) ⟨3 * (c.val / 2) + j.val, by omega⟩ ?_ ⟨c.val % 2, by omega⟩ rfl).trans (wholeRows_apply H _ _ _ _)))
  swap
  · show 3 * (c.val / 2) + j.val = _ + (oOff j 0 + 1 * (x 0).val); rw [ho]; show _ = _ + (j.val + 1 * (x 0).val); omega
  refine hpart_apply (peer j c) H _ _ ?_ _ hh.symm _ ?_ _ ?_
  · show rowOf _ = 4 * _ + (sOff j (peer j c) 0 + 1 * (x 0).val); rw [← hr]; omega
  · show sOff j (peer j c) 2 + 1 * (x 2).val = oOff j 2 + 1 * (x 2).val; rw [ho, o2]; rfl
  · show sOff j (peer j c) 3 + 1 * (x 3).val = oOff j 3 + 1 * (x 3).val; rw [ho, o3]; rfl

end Cert.KernelProof

end
-- ==== Proof.KernelClaims.lean ====
/-
# The gradient of a layer's input with its exchange between chips: its claims
-/
module

public import proofs.«01_k».proof.Defs
public import proofs.«01_k».proof.Proof.KernelValue
public import proofs.«01_k».proof.Proof.Gen.Kernel
public import proofs.«01_k».proof.Proof.Gen.ReferenceIdeal.Run

@[expose] public section

set_option maxRecDepth 16384

noncomputable section

namespace Cert.KernelProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Every element of the second result is on one of its rows. -/
theorem on_row (i : S3x1x1168x2048.Idx) : ∃ j : Fin 3, i ∈ (oRow j).view.set := by
  let j : Fin 3 := ⟨(i 0).val, (i 0).isLt⟩
  refine ⟨j, ?_⟩
  show i ∈ ((View.whole main_v1_1).slice (Rect.unit (s := S3x1x1168x2048) (oOff j) S1x1x1168x2048.size (oOff_inb j))).set
  rw [View.set_slice_whole, Rect.mem_set_unit, oOff_eq]
  have i1 : (i 1).val < 1 := (i 1).isLt
  have i2 : (i 2).val < 1168 := (i 2).isLt
  have i3 : (i 3).val < 2048 := (i 3).isLt
  intro a
  match a with
  | ⟨0, _⟩ => exact ⟨le_refl _, Nat.lt_succ_self _⟩
  | ⟨1, _⟩ => show 0 ≤ (i 1).val ∧ (i 1).val < 0 + 1; omega
  | ⟨2, _⟩ => show 0 ≤ (i 2).val ∧ (i 2).val < 0 + 1168; omega
  | ⟨3, _⟩ => show 0 ≤ (i 3).val ∧ (i 3).val < 0 + 2048; omega

/-- The second result is the device's part of the reference's. -/
theorem exchanged (H : (⟨4, ![16, 2, 1168, 2048]⟩ : Shape).Idx → Elt F .bf16)
    (hH : ∀ c : Dev nD, m ((c : Thread nD τ).loc main_arg3)
      = Layout.blockN ⟨4, ![4, 1, 1168, 2048]⟩ ⟨4, ![16, 2, 1168, 2048]⟩ (Layout.meshBlock [2, 2, 2] ![[0, 1], [2], [], []] c) H)
    (c : Dev nD) (s : MemSt nD τ sig (Elt F)) (hs : rest m c s) : s.mem ((c : Thread nD τ).loc main_v1_1) = part c (wholeRows H) := by
  funext i
  obtain ⟨j, hi⟩ := on_row i
  refine (hs.2 j i hi).trans ?_
  obtain ⟨x, -, rfl⟩ := Finset.mem_map.mp hi
  unfold got
  rw [View.write_emb_of_mem _ _ (Finset.mem_univ x), rows_eq m H hH c j x]
  rfl

theorem kept (c : Dev nD) (s : MemSt nD τ sig (Elt F))
    (h : (∀ w, s.mem ((cfg0.win w).arr.view.loc (c : Thread nD τ)) = (dats m 0 c).arrAt w cfg0.N) ∧ rest m c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3) :=
  ⟨(h.1 0).trans ((dats m 0 c).arrAt_in 0 rfl _), (h.1 1).trans ((dats m 0 c).arrAt_in 1 rfl _),
    (h.1 2).trans ((dats m 0 c).arrAt_in 2 rfl _), h.2.1⟩

/-- The two programs' body tables agree. -/
theorem bodies : @Cert.Kernel.defs₀ F _ _ = @Cert.KernelIdeal.defs₀ F _ _ := by
  funext p ℓ a
  match p, ℓ, a with
  | .tc, ⟨0, _⟩, ⟨_, _⟩ => rfl
  | .scScalar _, ⟨0, _⟩, _ => rfl
  | .scVector _ _, ⟨0, _⟩, _ => rfl

theorem tables : @Cert.Kernel.defs F _ _ = @Cert.KernelIdeal.defs F _ _ :=
  congrArg (Pipeline.defs Cert.KernelIdeal.pcfgs) bodies

theorem quiescent : Cert.quiescent_Kernel := fun m ρ _ => by
  rw [tables]
  exact (θ_run Cert.KernelIdeal.defs _ _).mono (fun r h => ⟨fun c => kept m c r.2 (h.1 c), h.2⟩) (run_main (F := Bits) m ρ)
theorem quiescent_ideal : Cert.quiescent_KernelIdeal := fun m ρ _ =>
  (θ_run Cert.KernelIdeal.defs _ _).mono (fun r h => ⟨fun c => kept m c r.2 (h.1 c), h.2⟩) (run_main (F := Ideal) m ρ)
theorem quiescent_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem preserved : Cert.preserves_Kernel_KernelIdeal := trivial

theorem algebraic : Cert.algebraic_KernelIdeal_ReferenceIdeal := fun m g m' g' _ hm =>
  ⟨wholeProd (m' (((0 : Dev 1) : Thread 1 Cert.ReferenceIdeal.τ).loc Cert.ReferenceIdeal.main_arg0))
      (m' (((0 : Dev 1) : Thread 1 Cert.ReferenceIdeal.τ).loc Cert.ReferenceIdeal.main_arg1))
      (m' (((0 : Dev 1) : Thread 1 Cert.ReferenceIdeal.τ).loc Cert.ReferenceIdeal.main_arg2)),
    wholeRows (F := Ideal) (m' (((0 : Dev 1) : Thread 1 Cert.ReferenceIdeal.τ).loc Cert.ReferenceIdeal.main_arg3)),
    (θ_run Cert.KernelIdeal.defs _ _).mono (fun r h c =>
      ⟨((h.1 c).1 3).trans ((final_eq m c).trans (prod_eq m c _ _ _ (hm c).1 (hm c).2.1 (hm c).2.2.1)),
        exchanged m _ (fun d => (hm d).2.2.2) c r.2 (h.1 c).2, kept m c r.2 (h.1 c)⟩) (run_main (F := Ideal) m g),
    (θ_run Cert.ReferenceIdeal.defs _ _).mono (fun _ h => h 0) (Cert.ReferenceIdeal.Value.run (F := Ideal) m' g')⟩

end Cert.KernelProof

end
-- ==== Proof.SwapRun.lean ====
/-
# The swap between the two devices of a chip: its run

`Cert.SwapProof`: device `c` sends the half of its pending blocks that is its sibling's (`slab`, row `1 - c % 2` of the
second axis) straight into the sibling's result array and waits for both ends. One line (`Proof.Lines`), whose partner
is the sibling `peer`. Over any float values: the kernel only moves data.
-/
module

public import proofs.«01_k».proof.Proof.Lines
public import proofs.«01_k».proof.Proof.Gen.SwapIdeal.Skeleton
public import proofs.«01_k».proof.Proof.Gen.SwapIdeal.Launch
public import proofs.«01_k».proof.Proof.Gen.SwapIdeal.Points

@[expose] public section

noncomputable section

namespace Cert.SwapProof

open Cert.SwapIdeal Cert.SwapIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Proof.Lines (UU EP ER)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The line -/

/-- The other device of `c`'s chip. -/
def peer (c : Dev nD) : Dev nD := ⟨k0_dev1 c, k0_dev1_lt c⟩
theorem peer_peer (c : Dev nD) : peer (peer c) = c := by
  refine Fin.ext ?_
  show k0_dev1 (peer c) = _
  rw [k0_dev1_eq]; unfold peer; simp only [k0_dev1_eq]
  have := c.isLt
  omega

abbrev gM : Memref sig .tc .hbm S4x2x1168x2048 .bf16 := Memref.whole main_arg0
abbrev oM : Memref sig .tc .hbm S4x1x1168x2048 .bf16 := Memref.whole main_v1
/-- The blocks device `c` sends. -/
abbrev slab (c : Dev nD) : Memref sig .tc .hbm S4x1x1168x2048 .bf16 :=
  gM.slice (Rect.unit (s := S4x2x1168x2048) (k0_off1 c) S4x1x1168x2048.size (k0_off1_inb c)) (fun _ => rfl)

abbrev sndS : DmaSem sig := ((cc0_scratch0.slice (Rect.unit (s := S1) ![0] S1.size inb_S1_S1_0)).squeeze S_ squeezes_S1_S_ : DmaSems sig S_).sem
abbrev rcvS : DmaSem sig := ((cc0_scratch1.slice (Rect.unit (s := S1) ![0] S1.size inb_S1_S1_0)).squeeze S_ squeezes_S1_S_ : DmaSems sig S_).sem

theorem snd_ne_rcv : sndS ≠ rcvS := by decide

def plan : Proof.Lines.Plan nD sig (Fin 1) where
  snd _ := sndS
  rcv _ := rcvS
  peer _ := peer
  amt _ := oM.view.dmaCredit
  inj := by
    rintro ⟨i, a⟩ ⟨j, b⟩ h
    have hij : i = j := Subsingleton.elim _ _
    subst hij
    cases a <;> cases b <;> first | rfl | exact absurd h snd_ne_rcv | exact absurd h.symm snd_ne_rcv
  invol _ := peer_peer
  pos _ := View.dmaCredit_pos _ (by decide)

/-! ## What moves -/

/-- What `c`'s result array holds at the end: the blocks its sibling sent. -/
def got (c : Dev nD) : Buf (Elt F) ((c : Thread nD τ).loc main_v1) := (slab (peer c)).view.read (Elt F) (m ((peer c : Thread nD τ).loc main_arg0))

def src (_ : Fin 1) (c : Dev nD) : sProp 𝕄 :=
  iprop((slab c).view.loc (c : Thread nD τ) ↦[(slab c).view.set]{fullShare.right} (m ((c : Thread nD τ).loc main_arg0)))
def dst (_ : Fin 1) (c : Dev nD) : sProp 𝕄 := iprop(((c : Thread nD τ).loc main_v1) ↦{fullShare} got m c)
/-- The place a block lands in, as launched. -/
def give (_ : Fin 1) (c : Dev nD) : sProp 𝕄 := iprop(((c : Thread nD τ).loc main_v1) ↦{fullShare} m ((c : Thread nD τ).loc main_v1))
/-- A share of the operand, to read it by at the end. -/
def hold (c : Dev nD) : sProp 𝕄 := iprop(((c : Thread nD τ).loc main_arg0) ↦{fullShare.left} m ((c : Thread nD τ).loc main_arg0))
def keep (c : Dev nD) : sProp 𝕄 := iprop(hold m c ∗ src m 0 c)

instance src_storable (j : Fin 1) (c : Dev nD) : BI.Storable (upEmb : UEmb _ 𝕄) (src m j c) := by unfold src; infer_instance
instance dst_storable (j : Fin 1) (c : Dev nD) : BI.Storable (upEmb : UEmb _ 𝕄) (dst m j c) := by unfold dst; infer_instance

theorem one_line (Φ : Fin 1 → sProp 𝕄) : bigSep Finset.univ Φ = Φ 0 := by
  rw [show (Finset.univ : Finset (Fin 1)) = {0} from rfl, bigSep_singleton]

theorem rest_split (c : Dev nD) :
    (Pipeline.unscopedRest cfg0.spec c (fun b => m ((c : Thread nD τ).loc b)) : sProp 𝕄) ⊢ iprop(keep m c ∗ bigSep Finset.univ fun j : Fin 1 => give m j c) := by
  rw [unscopedRest0_eq, one_line]
  unfold keep hold src give
  iintro ⟨Ha, Ho⟩
  ihave H := (pointsTo_share (PosShare.mem_left_op_right fullShare)).1 $$ Ha
  icases H with ⟨Hl, Hr⟩
  ihave H := (pointsTo_split_subset (Finset.subset_univ (slab c).view.set)).1 $$ Hr
  icases H with ⟨Hr, -⟩
  isplitl [Hl Hr]
  · isplitl [Hl] <;> iassumption
  · iexact Ho

theorem whole_eq (c : Dev nD) (f : Buf (Elt F) ((c : Thread nD τ).loc main_v1)) :
    (oM.view.loc (c : Thread nD τ) ↦[oM.view.set]{fullShare} f : sProp 𝕄) = (((c : Thread nD τ).loc main_v1) ↦{fullShare} f) :=
  congrArg (fun S => (((c : Thread nD τ).loc main_v1) ↦[S]{fullShare} f : sProp 𝕄)) (View.set_whole main_v1)

/-! ## The region's data -/

abbrev ready (c : Dev nD) : sProp 𝕄 := plan.ready (src m) (dst m) (give m) c 0

def Φ₀ (c : Dev nD) : sProp 𝕄 := iprop(keep m c ∗ ready m c)
def Φ₁ (c : Dev nD) : sProp 𝕄 := iprop((hold m c ∗ dst m 0 c) ∗ plan.over c 0)

def O₀ : Dev nD → CellTallies nD τ sig Unit := plan.due Finset.univ

def dats (_ : Fin 1) (c : Dev nD) : Dat τ (Elt F) Unit ℕ (UU nD τ sig) ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body -/

theorem write_whole (c : Dev nD) (f g : Buf (Elt F) ((c : Thread nD τ).loc main_v1)) : oM.view.write (Elt F) f g Finset.univ = g :=
  View.write_whole_univ _ _ _

theorem wp_body (c : Dev nD) (Kt : PUnit → sProp 𝕄) :
    iprop((Φ₀ m c ∗ (dats m 0 c).owesAt () t0_0.castSucc) ∗ ((Φ₁ m c ∗ (dats m 0 c).owesAt () t0_0.succ) -∗ Kt ⟨⟩))
      ⊢ wp frame (wpE (defs₀ (F := F)) 𝒱₀ c none) Set.univ (bodyAt0 t0_0) Kt := by
  unfold bodyAt0
  simp only [cc0_rs_swap_last_eq_skeleton]; unfold cc0_rs_swap_last_skel
  simp only [k0_part1_eq_skeleton]; unfold k0_part1_skel
  simp only [Prog.lift, Prog.bind_op, Prog.bind_ret, Prog.pure_eq_ret, wp_deviceId]
  unfold Φ₀ keep Dat.owesAt Pipeline.owesWithin
  rw [show (dats m 0 c).owed t0_0.castSucc = plan.due Finset.univ c from rfl, show (dats m 0 c).owed t0_0.succ = 0 from rfl]
  iintro ⟨⟨⟨⟨Hh, Hs⟩, Hl⟩, %W, %hW, HO⟩, Hk⟩
  unfold src
  iapply (plan.wp_post (src m) (dst m) c 0 𝒱₀ (give m) (n := peer c) rfl (sm := slab c) (dm := oM) rfl rfl
      (q := fullShare.right) (fs := m ((c : Thread nD τ).loc main_arg0)) (fd := m ((peer c : Thread nD τ).loc main_v1)) rfl
      (by unfold give; rw [whole_eq]) (BI.Entails.refl _)
      (by
        unfold dst got; rw [peer_peer, write_whole, whole_eq])
      (Finset.mem_univ 0) (W := W)) $$ [Hl Hs HO]
  · isplitl [Hl]; · iexact Hl
    isplitl [Hs] <;> iassumption
  iintro ⟨Hl, HO⟩
  rw [show Finset.univ.erase (0 : Fin 1) = ∅ from rfl, Proof.Lines.Plan.due_empty]
  iapply (plan.wp_left (src m) (dst m) c 0 𝒱₀ (wpE_waitDma2_eq 𝒱₀ (c : Thread nD τ) none Set.univ) rfl rfl) $$ [Hl HO]
  · isplitl [Hl] <;> iassumption
  iintro ⟨Hl, -, %W', HO⟩
  iapply (plan.wp_came (src m) (dst m) c 0 𝒱₀ (wpE_waitDma2_eq 𝒱₀ (c : Thread nD τ) none Set.univ) rfl rfl) $$ [Hl HO]
  · isplitl [Hl] <;> iassumption
  iintro ⟨Hl, Hd, %W'', HO⟩
  rw [wp_ret]; imodintro
  iapply Hk
  unfold Φ₁
  isplitr [HO]
  · isplitr [Hl]
    · isplitl [Hh] <;> iassumption
    · iexact Hl
  · iexists W''
    isplitr; · ipureintro; exact fun _ _ => Or.inl trivial
    iexact HO

theorem body_obligation (c : Dev nD) : BodyObligation (dats (F := F) m 0 c) (defs₀ (F := F)) 𝒱₀ () Set.univ := fun t => by
  rw [fin_N0 t]
  simp only [Finset.univ_eq_empty, bigSep_empty]
  show iprop(Φ₀ m c ∗ (dats m 0 c).owesAt () t0_0.castSucc ∗ emp)
    ⊢ wp frame (wpE (defs₀ (F := F)) 𝒱₀ c none) Set.univ (bodyAt0 t0_0) (fun _ => iprop(Φ₁ m c ∗ (dats m 0 c).owesAt () t0_0.succ ∗ emp))
  iintro ⟨H1, H2, -⟩
  iapply (wp_body m c _)
  isplitl
  · isplitl [H1] <;> iassumption
  · iintro ⟨H1, H2⟩
    isplitl [H1]; · iexact H1
    isplitl [H2]; · iexact H2
    iempintro

/-! ## The run -/

def u₀ : UU nD τ sig := (initOf (Pipeline.cells cfgs cellOf_inj) (Pipeline.launchToks cfgs cellOf_inj), initOf plan.cells plan.toks)

def final (c : Dev nD) (s : MemSt nD τ sig (Elt F)) : Prop :=
  s.mem ((c : Thread nD τ).loc main_arg0) = m ((c : Thread nD τ).loc main_arg0) ∧ s.mem ((c : Thread nD τ).loc main_v1) = got m c

theorem ends (c : Dev nD) (s' : Phys nD τ sig (Elt F)) :
    iprop((hold m c ∗ dst m 0 c) ∗ emp ∗ SI s') ⊢ (|={Set.univ}=> iprop(⌜final m c s'.mem⌝ ∗ SI s') : sProp 𝕄) := by
  unfold hold dst final
  iintro ⟨⟨Hh, Hd⟩, -, HSI⟩
  ihave %h1 := SI_pointsTo_agree $$ [HSI Hh]
  · isplitl [HSI] <;> iassumption
  ihave %h2 := SI_pointsTo_agree $$ [HSI Hd]
  · isplitl [HSI] <;> iassumption
  imodintro
  isplitr
  · ipureintro; exact ⟨funext fun i => h1 i (Finset.mem_univ i), funext fun i => h2 i (Finset.mem_univ i)⟩
  · iexact HSI

theorem ownSemFacts : Pipeline.OwnSemFacts cfg0.spec plan.osem := by decide

/-- From any memory with zero counters every weakly fair execution of `@main` terminates, with the operand unchanged,
    every result array holding the sibling's blocks, and every counter at zero. -/
theorem run_main : θ_run defs (onTc (τ := τ) (main (F := F))) ⟨m, fun _ => 0, ρ⟩
    (fun r => (∀ c : Dev nD, final m c r.2) ∧ r.2.sem = fun _ => 0) :=
  Proof.Launch.run_owing (fun p => (cfgs p).toPCfg) (fun _ p => (cfgs p).toPCfg_adm) (fun p c => (dats m p c).toR) () cellOf_inj (0 : Fin 1)
    winFacts0.to₀ (osem := plan.osem) ownSemFacts EP defs₀ 𝒱₀ m ρ main
    (hmain := fun _ => rfl)
    (hbody := fun c => (Pipeline.BodyObligation.loose (dats m 0 c) (body_obligation m c)).toR) (hne := fun w => w.elim0) (harr := arr_whole0) (hstage := stage_whole0)
    (hshare := Pipeline.SharedIn.of_injective winFacts0.arr_inj) (hq := fun _ w => w.elim0)
    (O₀ := O₀) (howed₀ := fun _ => rfl) (howedN := fun _ => rfl)
    (L := Proof.Lines.Plan.L) (lv := plan.lv) (hL := Proof.Lines.Plan.L_of_ne)
    (hwaits := fun c => Pipeline.cellsWaits_intro cfgs (dats m) () 0 c fun w => w.elim0)
    (G := plan.G (src m) (dst m)) (G' := plan.G' (src m) (dst m) (keep m) (give m)) (u₀ := u₀)
    (hu₀ := by
      unfold u₀
      iintro Hu
      ihave H := (ownU_pair _ _) $$ Hu
      icases H with ⟨HP, HX⟩
      imod (plan.fund (src m) (dst m)) $$ HX with HG
      imodintro
      isplitl [HP] <;> iassumption)
    (hglob := plan.glob (src m) (dst m) (keep m) (give m) _ _ (rest_split m))
    (hA := fun _ _ => rfl) (hpre := fun c => by
      unfold Pipeline.prefHeld
      rw [show (Finset.univ : Finset (Fin 0)) = ∅ from rfl, bigSep_empty])
    (X := fun c => iprop(keep m c ∗ bigSep Finset.univ fun j => plan.ready (src m) (dst m) (give m) c j))
    (Y := fun c => iprop(hold m c ∗ dst m 0 c)) (Z := fun _ => iprop(emp))
    (hX := fun c => plan.start (src m) (dst m) c (keep m) (give m) _)
    (hin := fun c => by
      show _ ⊢ Φ₀ m c
      rw [one_line]
      unfold Φ₀
      exact BI.Laws.sep_elim_left)
    (hout := fun c => by
      show Φ₁ m c ⊢ iprop((hold m c ∗ dst m 0 c) ∗ Pipeline.ownSems0 plan.osem c ∗ Pipeline.scopedRest spec0 c)
      rw [show (Pipeline.scopedRest spec0 c : sProp 𝕄) = BI.emp from scopedRest0_eq c, plan.over_sems, one_line]
      unfold Φ₁
      iintro ⟨H1, H2⟩
      isplitl [H1]; · iexact H1
      isplitl [H2]; · iexact H2
      iempintro)
    (QY := final m) (hY := ends m)
    (hQ := fun _ h hs => ⟨fun c => (h c).2, sem_eq_zero_of_scoped (by decide) hs⟩)

end Cert.SwapProof

end
-- ==== Proof.SwapValue.lean ====
/-
# The swap between the two devices of a chip: its value

`Cert.SwapProof.value`: if every device's pending blocks are its part of one whole array, what each device holds in its
result at the end is its part of the reference's result.
-/
module

public import proofs.«01_k».proof.Proof.SwapRun
public import proofs.«01_k».proof.Proof.Gen.SwapReferenceIdeal
public import Idealize.ShloMosaic.Lib.Pipeline.Value

@[expose] public section

noncomputable section

namespace Cert.SwapProof

open Cert.SwapIdeal Cert.SwapIdeal.Gen
open Idealize.ShloMosaic Idealize.ShloMosaic.TcCoe

variable {α : Type}

/-- Where the blocks device `c` receives lie in the whole array. -/
def from_ (c : Fin 8) : Fin 4 → ℕ := ![4 * (c.val + 1 - 2 * (c.val % 2)), c.val % 2, 0, 0]
theorem from_slices : ∀ c : Fin 8, (⟨4, ![32, 2, 1168, 2048]⟩ : Shape).Slices (from_ c) ⟨4, ![4, 1, 1168, 2048]⟩ := by decide

/-- The blocks device `c` receives, of the whole array. -/
def piece (A : (⟨4, ![32, 2, 1168, 2048]⟩ : Shape).Idx → α) (c : Fin 8) : (⟨4, ![4, 1, 1168, 2048]⟩ : Shape).Idx → α :=
  extractStridedSlice ⟨4, ![4, 1, 1168, 2048]⟩ (from_ c) A (from_slices c)

variable {F : FTy → Type} [FloatOps F]

/-- What the sibling sends is the piece. -/
theorem sent_eq (c : Dev nD) (A : (⟨4, ![32, 2, 1168, 2048]⟩ : Shape).Idx → Elt F .bf16) :
    (slab (peer c)).view.read (Elt F) (Layout.block ⟨4, ![4, 2, 1168, 2048]⟩ ⟨4, ![32, 2, 1168, 2048]⟩ 0 8 (peer c) A) = piece A c := by
  have hc : c.val < 8 := c.isLt
  funext i
  unfold piece
  refine (extractStridedSlice_apply (from_ c) A (from_slices c) i _ fun a => ?_).symm
  have hd : (peer c).val = (4 * (c.val / 4) + 2 * ((c.val / 2) % 2) + 1) - (c.val % 2) := k0_dev1_eq c
  have ho := k0_off1_eq (peer c)
  have i0 : (i 0).val < 4 := (i 0).isLt
  fin_cases a
  · show (peer c).val * 4 + (k0_off1 (peer c) 0 + 1 * (i 0).val) = 4 * (c.val + 1 - 2 * (c.val % 2)) + (i 0).val
    rw [congrFun ho 0, hd]
    show _ * 4 + (0 + _) = _
    omega
  · show k0_off1 (peer c) 1 + 1 * (i 1).val = c.val % 2 + (i 1).val
    rw [congrFun ho 1, hd]
    show 1 - _ + _ = _
    omega
  · show k0_off1 (peer c) 2 + 1 * (i 2).val = 0 + (i 2).val
    rw [congrFun ho 2, Nat.one_mul]; rfl
  · show k0_off1 (peer c) 3 + 1 * (i 3).val = 0 + (i 3).val
    rw [congrFun ho 3, Nat.one_mul]; rfl

variable (m : (ℓ : Loc nD τ sig) → Buf (Elt F) ℓ) (ρ : Dev nD → PrngReg)

/-- The pieces laid end to end: the reference's result. -/
def whole (A : (⟨4, ![32, 2, 1168, 2048]⟩ : Shape).Idx → Elt F .bf16) : (⟨4, ![32, 1, 1168, 2048]⟩ : Shape).Idx → Elt F .bf16 :=
  concatenate ⟨4, ![32, 1, 1168, 2048]⟩ 0 (List.ofFn fun c : Fin 8 => ⟨⟨4, ![4, 1, 1168, 2048]⟩, piece A c⟩)
    Cert.SwapReferenceIdeal.Gen.concatenates_S4x1x1168x2048_S4x1x1168x2048_S4x1x1168x2048_S4x1x1168x2048_S4x1x1168x2048_S4x1x1168x2048_S4x1x1168x2048_S4x1x1168x2048_S32x1x1168x2048_d0

/-- A device's result is its part of the reference's. -/
theorem got_eq (A : (⟨4, ![32, 2, 1168, 2048]⟩ : Shape).Idx → Elt F .bf16)
    (hA : ∀ c : Dev nD, m ((c : Thread nD τ).loc main_arg0) = Layout.block ⟨4, ![4, 2, 1168, 2048]⟩ ⟨4, ![32, 2, 1168, 2048]⟩ 0 8 c A) (c : Dev nD) :
    got m c = Layout.block ⟨4, ![4, 1, 1168, 2048]⟩ ⟨4, ![32, 1, 1168, 2048]⟩ 0 8 c (whole A) := by
  unfold got whole
  rw [hA (peer c), sent_eq]
  exact (Layout.block_concatenate_ofFn (t := ⟨4, ![32, 1, 1168, 2048]⟩) 0 (piece A) _ (by decide) c).symm

end Cert.SwapProof

end
-- ==== Proof.SwapClaims.lean ====
/-
# The swap between the two devices of a chip: its claims
-/
module

public import proofs.«01_k».proof.Defs
public import proofs.«01_k».proof.Proof.SwapValue
public import proofs.«01_k».proof.Proof.Gen.Swap
public import proofs.«01_k».proof.Proof.Gen.SwapReferenceIdeal.Run
public import proofs.«01_k».proof.Proof.Gen.SwapReference.Run
public import Idealize.ShloMosaic.Lib.Quiescent

@[expose] public section

noncomputable section

namespace Cert.SwapProof

open Idealize.ShloMosaic Idealize.ShloMosaic.TcCoe Idealize.SL.Sem

theorem quiescent : Cert.quiescent_Swap := fun m ρ _ =>
  (θ_run Cert.SwapIdeal.defs _ _).mono (fun _ h => ⟨fun c => (h.1 c).1, h.2⟩) (run_main (F := Bits) m ρ)
theorem quiescent_ideal : Cert.quiescent_SwapIdeal := fun m ρ _ =>
  (θ_run Cert.SwapIdeal.defs _ _).mono (fun _ h => ⟨fun c => (h.1 c).1, h.2⟩) (run_main (F := Ideal) m ρ)
theorem quiescent_refIdeal : Cert.quiescent_SwapReferenceIdeal := fun m ρ _ =>
  (θ_run Cert.SwapReferenceIdeal.defs _ _).mono (fun r h => ⟨fun c => (h c).2, sem_eq_zero_of_no_sems (by decide) r.2⟩)
    (Cert.SwapReferenceIdeal.Value.run (F := Ideal) m ρ)
theorem quiescent_ref : Cert.quiescent_SwapReference := fun m ρ _ =>
  (θ_run Cert.SwapReference.defs _ _).mono (fun r h => ⟨fun c => (h c).2, sem_eq_zero_of_no_sems (by decide) r.2⟩)
    (Cert.SwapReference.Value.run (F := Bits) m ρ)
theorem preserved : Cert.preserves_Swap_SwapIdeal := trivial

theorem algebraic : Cert.algebraic_SwapIdeal_SwapReferenceIdeal := fun m g m' g' _ hm =>
  ⟨whole (F := Ideal) (m' (((0 : Dev 1) : Thread 1 Cert.SwapReferenceIdeal.τ).loc Cert.SwapReferenceIdeal.main_arg0)),
    (θ_run Cert.SwapIdeal.defs _ _).mono (fun _ h c => ⟨(h.1 c).2.trans (got_eq m _ hm c), (h.1 c).1⟩) (run_main (F := Ideal) m g),
    (θ_run Cert.SwapReferenceIdeal.defs _ _).mono (fun _ h => h 0) (Cert.SwapReferenceIdeal.Value.run (F := Ideal) m' g')⟩

theorem bitexact : Cert.bitexact_Swap_SwapReference := fun m g m' g' _ hm =>
  ⟨whole (F := Bits) (m' (((0 : Dev 1) : Thread 1 Cert.SwapReference.τ).loc Cert.SwapReference.main_arg0)),
    (θ_run Cert.SwapIdeal.defs _ _).mono (fun _ h c => ⟨(h.1 c).2.trans (got_eq m _ hm c), (h.1 c).1⟩) (run_main (F := Bits) m g),
    (θ_run Cert.SwapReference.defs _ _).mono (fun _ h => h 0) (Cert.SwapReference.Value.run (F := Bits) m' g')⟩

end Cert.SwapProof

end
-- ==== Proof.LnRun.lean ====
/-
# The gradient through the layer norm with the swap inside a chip: the run

`Cert.LnProof`: on every device the kernel takes its rows tile by tile, forms the gradient through the layer norm of each
row, and adds up two sums over all rows in a resident block (`sums`): the gradients of gain and bias. Under the tiles it
sends the half of its pending blocks that is its sibling's straight into the sibling's result array: one line
(`Proof.Lines`), sent at the first grid point and waited for at the last. Over any float values.
-/
module

public import proofs.«01_k».proof.Proof.Lines
public import proofs.«01_k».proof.Proof.Staged
public import proofs.«01_k».proof.Proof.Gen.LnSwapIdeal.Skeleton
public import proofs.«01_k».proof.Proof.Gen.LnSwapIdeal.Frame

@[expose] public section

set_option maxRecDepth 16384

noncomputable section

namespace Cert.LnProof

open Cert.LnSwapIdeal Cert.LnSwapIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Proof.Lines (UU EP ER)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The line -/

abbrev t0 : Fin grid0.N := ⟨0, by decide⟩
theorem first_cond : k0_cond1 (grid0.coords t0) = 1#1 := by decide

/-- The other device of `c`'s chip. -/
def peer (c : Dev nD) : Dev nD := ⟨k0_dev1 c, k0_dev1_lt _ c first_cond⟩
theorem peer_peer (c : Dev nD) : peer (peer c) = c := by
  refine Fin.ext ?_
  show k0_dev1 (peer c) = _
  rw [k0_dev1_eq]; unfold peer; simp only [k0_dev1_eq]
  have := c.isLt
  omega

abbrev gM : Memref sig .tc .hbm S4x2x1168x2048 .bf16 := Memref.whole main_arg3
abbrev oM : Memref sig .tc .hbm S4x1x1168x2048 .bf16 := Memref.whole main_v1_3
/-- The blocks device `c` sends. -/
abbrev slab (c : Dev nD) : Memref sig .tc .hbm S4x1x1168x2048 .bf16 :=
  gM.slice (Rect.unit (s := S4x2x1168x2048) (k0_off1 c) S4x1x1168x2048.size (k0_off1_inb _ c first_cond)) (fun _ => rfl)

abbrev sndS : DmaSem sig := ((cc0_scratch0.slice (Rect.unit (s := S1) ![0] S1.size inb_S1_S1_0)).squeeze S_ squeezes_S1_S_ : DmaSems sig S_).sem
abbrev rcvS : DmaSem sig := ((cc0_scratch1.slice (Rect.unit (s := S1) ![0] S1.size inb_S1_S1_0)).squeeze S_ squeezes_S1_S_ : DmaSems sig S_).sem

theorem snd_ne_rcv : sndS ≠ rcvS := by decide

def plan : Proof.Lines.Plan nD sig (Fin 1) where
  snd _ := sndS
  rcv _ := rcvS
  peer _ := peer
  amt _ := oM.view.dmaCredit
  inj := by
    rintro ⟨i, a⟩ ⟨j, b⟩ h
    have hij : i = j := Subsingleton.elim _ _
    subst hij
    cases a <;> cases b <;> first | rfl | exact absurd h snd_ne_rcv | exact absurd h.symm snd_ne_rcv
  invol _ := peer_peer
  pos _ := View.dmaCredit_pos _ (by decide)

/-! ## What moves -/

/-- What `c`'s result array holds at the end: the blocks its sibling sent. -/
def got (c : Dev nD) : Buf (Elt F) ((c : Thread nD τ).loc main_v1_3) := (slab (peer c)).view.read (Elt F) (m ((peer c : Thread nD τ).loc main_arg3))

def src (_ : Fin 1) (c : Dev nD) : sProp 𝕄 :=
  iprop((slab c).view.loc (c : Thread nD τ) ↦[(slab c).view.set]{fullShare.right} (m ((c : Thread nD τ).loc main_arg3)))
def dst (_ : Fin 1) (c : Dev nD) : sProp 𝕄 := iprop(((c : Thread nD τ).loc main_v1_3) ↦{fullShare} got m c)
/-- The place a block lands in, as launched. -/
def give (_ : Fin 1) (c : Dev nD) : sProp 𝕄 := iprop(((c : Thread nD τ).loc main_v1_3) ↦{fullShare} m ((c : Thread nD τ).loc main_v1_3))
/-- A share of the operand, to read it by at the end. -/
def hold (c : Dev nD) : sProp 𝕄 := iprop(((c : Thread nD τ).loc main_arg3) ↦{fullShare.left} m ((c : Thread nD τ).loc main_arg3))
def keep (c : Dev nD) : sProp 𝕄 := iprop(hold m c ∗ src m 0 c)

instance src_storable (j : Fin 1) (c : Dev nD) : BI.Storable (upEmb : UEmb _ 𝕄) (src m j c) := by unfold src; infer_instance
instance dst_storable (j : Fin 1) (c : Dev nD) : BI.Storable (upEmb : UEmb _ 𝕄) (dst m j c) := by unfold dst; infer_instance

theorem one_line (Φ : Fin 1 → sProp 𝕄) : bigSep Finset.univ Φ = Φ 0 := by
  rw [show (Finset.univ : Finset (Fin 1)) = {0} from rfl, bigSep_singleton]

theorem rest_split (c : Dev nD) :
    (Pipeline.unscopedRest cfg0.spec c (fun b => m ((c : Thread nD τ).loc b)) : sProp 𝕄) ⊢ iprop(keep m c ∗ bigSep Finset.univ fun j : Fin 1 => give m j c) := by
  rw [unscopedRest0_eq, one_line]
  unfold keep hold src give
  iintro ⟨Ha, Ho⟩
  ihave H := (pointsTo_share (PosShare.mem_left_op_right fullShare)).1 $$ Ha
  icases H with ⟨Hl, Hr⟩
  ihave H := (pointsTo_split_subset (Finset.subset_univ (slab c).view.set)).1 $$ Hr
  icases H with ⟨Hr, -⟩
  isplitl [Hl Hr]
  · isplitl [Hl] <;> iassumption
  · iexact Ho

theorem whole_eq (c : Dev nD) (f : Buf (Elt F) ((c : Thread nD τ).loc main_v1_3)) :
    (oM.view.loc (c : Thread nD τ) ↦[oM.view.set]{fullShare} f : sProp 𝕄) = (((c : Thread nD τ).loc main_v1_3) ↦{fullShare} f) :=
  congrArg (fun S => (((c : Thread nD τ).loc main_v1_3) ↦[S]{fullShare} f : sProp 𝕄)) (View.set_whole main_v1_3)

theorem write_whole (c : Dev nD) (f g : Buf (Elt F) ((c : Thread nD τ).loc main_v1_3)) : oM.view.write (Elt F) f g Finset.univ = g :=
  View.write_whole_univ _ _ _

/-! ## The values of the grid points -/

/-- The grid point of a number. -/
def pt (n : ℕ) : Fin cfg0.N := ⟨n % 16, by rw [show cfg0.N = 16 from N_0]; exact Nat.mod_lt _ (by decide)⟩
theorem lt_N (t : Fin cfg0.N) : t.val < 16 := lt_of_lt_of_eq t.isLt N_0
theorem pt_val (t : Fin cfg0.N) : pt t.val = t := Fin.ext (Nat.mod_eq_of_lt (lt_N t))

/-- The tiles of the operands at a point. -/
def bX (c : Dev nD) (n : ℕ) : Vec F S256x2048 .f32 := iblk m c 0 (pt n)
def bP (c : Dev nD) (n : ℕ) : Vec F S256x2048 .f32 := iblk m c 1 (pt n)
def bG (c : Dev nD) (n : ℕ) : Vec F S1x2048 .f32 := iblk m c 2 (pt n)

/-- The rows of the resident block: the sums of the gain's gradient and of the bias's. -/
abbrev row0 : Rect S8x2048 := Rect.unit (s := S8x2048) ![0, 0] S1x2048.size inb_S8x2048_S1x2048_0_0
abbrev row1 : Rect S8x2048 := Rect.unit (s := S8x2048) ![1, 0] S1x2048.size inb_S8x2048_S1x2048_1_0

open Proof.Staged (get put)

/-- One tile added to the sums. -/
def step (c : Dev nD) (n : ℕ) (X : Vec F S8x2048 .f32) : Vec F S8x2048 .f32 :=
  put (Val := Elt F) row1 (k0_pay4 (k0_pay6 (bX m c n)) (get (Val := Elt F) row1 (put (Val := Elt F) row0 (k0_pay3 (k0_pay6 (bX m c n)) (k0_pay9 (bP m c n)) (get (Val := Elt F) row0 X)) X)))
    (put (Val := Elt F) row0 (k0_pay3 (k0_pay6 (bX m c n)) (k0_pay9 (bP m c n)) (get (Val := Elt F) row0 X)) X)
/-- The sums after point `n`. -/
def sums (c : Dev nD) : ℕ → Vec F S8x2048 .f32
  | 0 => step m c 0 k0_pay5
  | n + 1 => step m c (n + 1) (sums c n)
/-- What a point leaves for the two staged results. -/
def outP (c : Dev nD) (n : ℕ) : Vec F S256x2048 .f32 :=
  k0_pay1 (k0_pay8 (bP m c n)) (k0_pay9 (bP m c n)) (k0_pay11 (bX m c n) (bG m c n)) (k0_pay12 (bP m c n) (bX m c n) (bG m c n))
def outB (c : Dev nD) (n : ℕ) : Vec F S256x2048 .bf16 :=
  k0_pay2 (k0_pay8 (bP m c n)) (k0_pay9 (bP m c n)) (k0_pay11 (bX m c n) (bG m c n)) (k0_pay12 (bP m c n) (bX m c n) (bG m c n))

/-- The line before point `n`. -/
def state (c : Dev nD) (n : ℕ) : sProp 𝕄 :=
  if n = 0 then iprop(keep m c ∗ plan.ready (src m) (dst m) (give m) c 0)
  else if n < 16 then iprop(hold m c ∗ plan.flying (src m) (dst m) c 0)
  else iprop((hold m c ∗ dst m 0 c) ∗ plan.over c 0)

def O₀ : Dev nD → CellTallies nD τ sig Unit := plan.due Finset.univ

def dats (_ : Fin 1) (c : Dev nD) : Dat τ (Elt F) Unit ℕ (UU nD τ sig) ℕ cfg0 c where
  A w := m ((cfg0.win w).arr.view.loc (c : Thread nD τ))
  after w t := match w with
    | 0 => iblk m c 0 t
    | 1 => iblk m c 1 t
    | 2 => iblk m c 2 t
    | 3 => outP m c t.val
    | 4 => outB m c t.val
    | 5 => sums m c t.val
    | ⟨_ + 6, h⟩ => absurd h (Nat.not_lt.2 (Nat.le_add_left _ _))
  Φ t := state m c t.val
  q _ := fullShare
  owed t := if t.val = 0 then O₀ c else 0

abbrev 𝒱₀ : Variants := Variants.none

theorem before_0 (c : Dev nD) (t : Fin cfg0.N) (d) : (dats m 0 c).before 0 t d = bX m c t.val := by
  rw [(dats m 0 c).before_in_eq_fetched 0 rfl (fun _ => rfl) (fun _ _ _ => rfl) (fun t => rfl) t d]
  unfold bX; rw [pt_val]; rfl
theorem before_1 (c : Dev nD) (t : Fin cfg0.N) (d) : (dats m 0 c).before 1 t d = bP m c t.val := by
  rw [(dats m 0 c).before_in_eq_fetched 1 rfl (fun _ => rfl) (fun _ _ _ => rfl) (fun t => rfl) t d]
  unfold bP; rw [pt_val]; rfl
theorem before_2 (c : Dev nD) (t : Fin cfg0.N) (d) : (dats m 0 c).before 2 t d = bG m c t.val := by
  rw [(dats m 0 c).before_in_eq_fetched 2 rfl (fun _ => rfl) (fun _ _ _ => rfl) (fun t => rfl) t d]
  unfold bG; rw [pt_val]; rfl
/-- After the first point the resident block holds what the point before left. -/
theorem before_5 (c : Dev nD) (t : Fin cfg0.N) (h : t.val ≠ 0) (d) : (dats m 0 c).before 5 t d = sums m c (t.val - 1) :=
  (dats m 0 c).before_out_kept 5 rfl t h
    (Bool.eq_false_iff.mpr fun hf => by
      have h1 := (flush0_5 _).mp hf
      have h2 := lt_N t
      dsimp only at h1
      omega) (fun _ => rfl) (fun _ _ => rfl) d

/-! ## The branches -/

abbrev cond2 (i : grid0.Coords) : BitVec 1 :=
  Scalar.cmpi .ne (Scalar.extui (Scalar.cmpi .eq (BitVec.ofNat 32 (i 0).val) 0#32) : BitVec 32) 0#32

theorem cond1_iff : ∀ t : Fin grid0.N, k0_cond1 (grid0.coords t) = 1#1 ↔ t.val = 0 := by decide +kernel
theorem cond2_iff : ∀ t : Fin grid0.N, cond2 (grid0.coords t) = 1#1 ↔ t.val = 0 := by decide +kernel
theorem cond3_iff : ∀ t : Fin grid0.N, k0_cond3 (grid0.coords t) = 1#1 ↔ t.val = 15 := by decide +kernel

/-- The windows' buffers before the body of a point. -/
abbrev ins (c : Dev nD) (t : Fin cfg0.N) : sProp 𝕄 :=
  iprop(owns (c : Thread nD τ) (st0_0 t) fullShare (bX m c t.val) ∗ owns (c : Thread nD τ) (st0_1 t) fullShare (bP m c t.val)
    ∗ owns (c : Thread nD τ) (st0_2 t) fullShare (bG m c t.val))
/-- The results' buffers. -/
abbrev outs (c : Dev nD) (t : Fin cfg0.N) (X : S256x2048.Idx → F .f32) (Y : S256x2048.Idx → F .bf16) (Z : S8x2048.Idx → F .f32) : sProp 𝕄 :=
  iprop(owns (c : Thread nD τ) (st0_3 t) fullShare X ∗ owns (c : Thread nD τ) (st0_4 t) fullShare Y ∗ owns (c : Thread nD τ) (st0_5 t) fullShare Z)

theorem owed_first (c : Dev nD) (t : Fin (cfg0.N + 1)) (h : t.val = 0) : (dats m 0 c).owed t = plan.due Finset.univ c := if_pos h
theorem owed_later (c : Dev nD) (t : Fin (cfg0.N + 1)) (h : t.val ≠ 0) : (dats m 0 c).owed t = 0 := if_neg h
theorem state_first (c : Dev nD) (n : ℕ) (h : n = 0) : state m c n = iprop(keep m c ∗ plan.ready (src m) (dst m) (give m) c 0) := if_pos h
theorem state_mid (c : Dev nD) (n : ℕ) (h : n ≠ 0) (h' : n < 16) : state m c n = iprop(hold m c ∗ plan.flying (src m) (dst m) c 0) :=
  (if_neg h).trans (if_pos h')
theorem state_last (c : Dev nD) (n : ℕ) (h' : ¬ n < 16) : state m c n = iprop((hold m c ∗ dst m 0 c) ∗ plan.over c 0) :=
  (if_neg (by omega)).trans (if_neg h')
theorem sums_next (c : Dev nD) (n : ℕ) (h : n ≠ 0) : sums m c n = step m c n (sums m c (n - 1)) := by
  obtain ⟨k, rfl⟩ := Nat.exists_eq_succ_of_ne_zero h
  rfl

theorem hz : (![0, 0] : Fin 2 → ℕ) = fun _ => 0 := funext fun a => by fin_cases a <;> rfl

set_option maxHeartbeats 2000000 in
/-- A point between the first and the last. -/
theorem wp_mid (c : Dev nD) (t : Fin cfg0.N) (h0 : t.val ≠ 0) (h15 : t.val ≠ 15) (X : S256x2048.Idx → F .f32) (Y : S256x2048.Idx → F .bf16) (Kt : PUnit → sProp 𝕄) :
    iprop((ins m c t ∗ outs c t X Y (sums m c (t.val - 1)) ∗ state m c t.val)
        ∗ ((ins m c t ∗ outs c t (outP m c t.val) (outB m c t.val) (sums m c t.val) ∗ state m c (t.val + 1)) -∗ Kt ⟨⟩))
      ⊢ wp frame (wpE (defs₀ (F := F)) 𝒱₀ c none) Set.univ (bodyAt0 t) Kt := by
  have hN := lt_N t
  unfold bodyAt0
  simp only [cc0_ln_bwd_eq_skeleton]; unfold cc0_ln_bwd_skel
  simp only [k0_part1_eq_skeleton]; unfold k0_part1_skel
  dsimp only
  simp only [dif_neg (mt (cond1_iff t).mp h0), dif_neg (mt (cond2_iff t).mp h0), dif_neg (mt (cond3_iff t).mp h15),
    Prog.lift, Prog.bind_op, Prog.bind_ret, Prog.pure_eq_ret]
  rw [state_mid m c t.val h0 hN, state_mid m c (t.val + 1) (by omega) (by omega), sums_next m c t.val h0]
  iintro ⟨⟨⟨HA, HB, HG⟩, ⟨HX, HY, HZ⟩, HL⟩, Hk⟩
  iapply (Proof.Staged.wp_read 𝒱₀ (c : Thread nD τ) hz) $$ HB; iintro HB
  iapply (Proof.Staged.wp_read 𝒱₀ (c : Thread nD τ) hz) $$ HA; iintro HA
  iapply (Proof.Staged.wp_read 𝒱₀ (c : Thread nD τ) hz) $$ HG; iintro HG
  iapply (Proof.Staged.wp_read 𝒱₀ (c : Thread nD τ) hz) $$ HX; iintro HX
  iapply (Proof.Staged.wp_fill 𝒱₀ (c : Thread nD τ) hz) $$ HX; iintro HX
  iapply (Proof.Staged.wp_read 𝒱₀ (c : Thread nD τ) hz) $$ HY; iintro HY
  iapply (Proof.Staged.wp_fill 𝒱₀ (c : Thread nD τ) hz) $$ HY; iintro HY
  iapply (Proof.Staged.wp_get 𝒱₀ (c : Thread nD τ)) $$ HZ; iintro HZ
  iapply (Proof.Staged.wp_get 𝒱₀ (c : Thread nD τ)) $$ HZ; iintro HZ
  iapply (Proof.Staged.wp_put 𝒱₀ (c : Thread nD τ)) $$ HZ; iintro HZ
  iapply (Proof.Staged.wp_get 𝒱₀ (c : Thread nD τ)) $$ HZ; iintro HZ
  iapply (Proof.Staged.wp_get 𝒱₀ (c : Thread nD τ)) $$ HZ; iintro HZ
  iapply (Proof.Staged.wp_put 𝒱₀ (c : Thread nD τ)) $$ HZ; iintro HZ
  rw [wp_ret]; imodintro
  iapply Hk
  isplitl [HA HB HG]
  · isplitl [HA]; · iexact HA
    isplitl [HB] <;> iassumption
  isplitl [HX HY HZ]
  · isplitl [HX]; · iexact HX
    isplitl [HY]; · iexact HY
    iexact HZ
  iexact HL

set_option maxHeartbeats 2000000 in
/-- The first point: the blocks are sent, and the sums start at zero. -/
theorem wp_first (c : Dev nD) (t : Fin cfg0.N) (h0 : t.val = 0) (X : S256x2048.Idx → F .f32) (Y : S256x2048.Idx → F .bf16) (Z : S8x2048.Idx → F .f32) (Kt : PUnit → sProp 𝕄) :
    iprop((ins m c t ∗ outs c t X Y Z ∗ state m c t.val ∗ (dats m 0 c).owesAt () t.castSucc)
        ∗ ((ins m c t ∗ outs c t (outP m c t.val) (outB m c t.val) (sums m c t.val) ∗ state m c (t.val + 1) ∗ (dats m 0 c).owesAt () t.succ) -∗ Kt ⟨⟩))
      ⊢ wp frame (wpE (defs₀ (F := F)) 𝒱₀ c none) Set.univ (bodyAt0 t) Kt := by
  have hN := lt_N t
  unfold bodyAt0
  simp only [cc0_ln_bwd_eq_skeleton]; unfold cc0_ln_bwd_skel
  simp only [k0_part1_eq_skeleton]; unfold k0_part1_skel
  dsimp only
  simp only [dif_pos ((cond1_iff t).mpr h0), dif_pos ((cond2_iff t).mpr h0), dif_neg (mt (cond3_iff t).mp (by omega : ¬ t.val = 15)),
    Prog.lift, Prog.bind_op, Prog.bind_ret, Prog.pure_eq_ret, wp_deviceId]
  unfold Dat.owesAt Pipeline.owesWithin
  rw [owed_first m c t.castSucc h0, owed_later m c t.succ (Nat.succ_ne_zero t.val), state_first m c t.val h0,
    state_mid m c (t.val + 1) (by omega) (by omega), show sums m c t.val = step m c t.val k0_pay5 from by rw [h0]; rfl]
  unfold keep
  iintro ⟨⟨⟨HA, HB, HG⟩, ⟨HX, HY, HZ⟩, ⟨⟨Hh, Hs⟩, Hl⟩, %W, %hW, HO⟩, Hk⟩
  unfold src
  iapply (plan.wp_post (src m) (dst m) c 0 𝒱₀ (give m) (n := peer c) rfl (sm := slab c) (dm := oM) rfl rfl
      (q := fullShare.right) (fs := m ((c : Thread nD τ).loc main_arg3)) (fd := m ((peer c : Thread nD τ).loc main_v1_3)) rfl
      (by unfold give; rw [whole_eq]) (BI.Entails.refl _)
      (by
        unfold dst got; rw [peer_peer, write_whole, whole_eq])
      (Finset.mem_univ 0) (W := W)) $$ [Hl Hs HO]
  · isplitl [Hl]; · iexact Hl
    isplitl [Hs] <;> iassumption
  iintro ⟨Hl, HO⟩
  rw [show Finset.univ.erase (0 : Fin 1) = ∅ from rfl, Proof.Lines.Plan.due_empty]
  iapply (Proof.Staged.wp_read 𝒱₀ (c : Thread nD τ) hz) $$ HZ; iintro HZ
  iapply (Proof.Staged.wp_fill 𝒱₀ (c : Thread nD τ) hz) $$ HZ; iintro HZ
  iapply (Proof.Staged.wp_read 𝒱₀ (c : Thread nD τ) hz) $$ HB; iintro HB
  iapply (Proof.Staged.wp_read 𝒱₀ (c : Thread nD τ) hz) $$ HA; iintro HA
  iapply (Proof.Staged.wp_read 𝒱₀ (c : Thread nD τ) hz) $$ HG; iintro HG
  iapply (Proof.Staged.wp_read 𝒱₀ (c : Thread nD τ) hz) $$ HX; iintro HX
  iapply (Proof.Staged.wp_fill 𝒱₀ (c : Thread nD τ) hz) $$ HX; iintro HX
  iapply (Proof.Staged.wp_read 𝒱₀ (c : Thread nD τ) hz) $$ HY; iintro HY
  iapply (Proof.Staged.wp_fill 𝒱₀ (c : Thread nD τ) hz) $$ HY; iintro HY
  iapply (Proof.Staged.wp_get 𝒱₀ (c : Thread nD τ)) $$ HZ; iintro HZ
  iapply (Proof.Staged.wp_get 𝒱₀ (c : Thread nD τ)) $$ HZ; iintro HZ
  iapply (Proof.Staged.wp_put 𝒱₀ (c : Thread nD τ)) $$ HZ; iintro HZ
  iapply (Proof.Staged.wp_get 𝒱₀ (c : Thread nD τ)) $$ HZ; iintro HZ
  iapply (Proof.Staged.wp_get 𝒱₀ (c : Thread nD τ)) $$ HZ; iintro HZ
  iapply (Proof.Staged.wp_put 𝒱₀ (c : Thread nD τ)) $$ HZ; iintro HZ
  rw [wp_ret]; imodintro
  iapply Hk
  isplitl [HA HB HG]
  · isplitl [HA]; · iexact HA
    isplitl [HB] <;> iassumption
  isplitl [HX HY HZ]
  · isplitl [HX]; · iexact HX
    isplitl [HY]; · iexact HY
    iexact HZ
  isplitr [HO]
  · isplitl [Hh]; · iexact Hh
    iexact Hl
  · iexists W
    isplitr; · ipureintro; exact fun _ _ => Or.inl trivial
    iexact HO

set_option maxHeartbeats 2000000 in
/-- The last point: the line is waited for. -/
theorem wp_last (c : Dev nD) (t : Fin cfg0.N) (h15 : t.val = 15) (X : S256x2048.Idx → F .f32) (Y : S256x2048.Idx → F .bf16) (Kt : PUnit → sProp 𝕄) :
    iprop((ins m c t ∗ outs c t X Y (sums m c (t.val - 1)) ∗ state m c t.val ∗ (dats m 0 c).owesAt () t.castSucc)
        ∗ ((ins m c t ∗ outs c t (outP m c t.val) (outB m c t.val) (sums m c t.val) ∗ state m c (t.val + 1) ∗ (dats m 0 c).owesAt () t.succ) -∗ Kt ⟨⟩))
      ⊢ wp frame (wpE (defs₀ (F := F)) 𝒱₀ c none) Set.univ (bodyAt0 t) Kt := by
  have hN := lt_N t
  unfold bodyAt0
  simp only [cc0_ln_bwd_eq_skeleton]; unfold cc0_ln_bwd_skel
  simp only [k0_part1_eq_skeleton]; unfold k0_part1_skel
  dsimp only
  simp only [dif_neg (mt (cond1_iff t).mp (by omega : ¬ t.val = 0)), dif_neg (mt (cond2_iff t).mp (by omega : ¬ t.val = 0)), dif_pos ((cond3_iff t).mpr h15),
    Prog.lift, Prog.bind_op, Prog.bind_ret, Prog.pure_eq_ret, wp_deviceId]
  unfold Dat.owesAt Pipeline.owesWithin
  rw [owed_later m c t.castSucc (by show ¬ t.val = 0; omega), owed_later m c t.succ (Nat.succ_ne_zero t.val), state_mid m c t.val (by omega) hN,
    state_last m c (t.val + 1) (by omega), sums_next m c t.val (by omega)]
  iintro ⟨⟨⟨HA, HB, HG⟩, ⟨HX, HY, HZ⟩, ⟨Hh, Hl⟩, %W, %hW, HO⟩, Hk⟩
  iapply (Proof.Staged.wp_read 𝒱₀ (c : Thread nD τ) hz) $$ HB; iintro HB
  iapply (Proof.Staged.wp_read 𝒱₀ (c : Thread nD τ) hz) $$ HA; iintro HA
  iapply (Proof.Staged.wp_read 𝒱₀ (c : Thread nD τ) hz) $$ HG; iintro HG
  iapply (Proof.Staged.wp_read 𝒱₀ (c : Thread nD τ) hz) $$ HX; iintro HX
  iapply (Proof.Staged.wp_fill 𝒱₀ (c : Thread nD τ) hz) $$ HX; iintro HX
  iapply (Proof.Staged.wp_read 𝒱₀ (c : Thread nD τ) hz) $$ HY; iintro HY
  iapply (Proof.Staged.wp_fill 𝒱₀ (c : Thread nD τ) hz) $$ HY; iintro HY
  iapply (Proof.Staged.wp_get 𝒱₀ (c : Thread nD τ)) $$ HZ; iintro HZ
  iapply (Proof.Staged.wp_get 𝒱₀ (c : Thread nD τ)) $$ HZ; iintro HZ
  iapply (Proof.Staged.wp_put 𝒱₀ (c : Thread nD τ)) $$ HZ; iintro HZ
  iapply (Proof.Staged.wp_get 𝒱₀ (c : Thread nD τ)) $$ HZ; iintro HZ
  iapply (Proof.Staged.wp_get 𝒱₀ (c : Thread nD τ)) $$ HZ; iintro HZ
  iapply (Proof.Staged.wp_put 𝒱₀ (c : Thread nD τ)) $$ HZ; iintro HZ
  rw [wp_deviceId]
  iapply (plan.wp_left (src m) (dst m) c 0 𝒱₀ (wpE_waitDma2_eq 𝒱₀ (c : Thread nD τ) none Set.univ) rfl rfl) $$ [Hl HO]
  · isplitl [Hl] <;> iassumption
  iintro ⟨Hl, -, %W', HO⟩
  iapply (plan.wp_came (src m) (dst m) c 0 𝒱₀ (wpE_waitDma2_eq 𝒱₀ (c : Thread nD τ) none Set.univ) rfl rfl) $$ [Hl HO]
  · isplitl [Hl] <;> iassumption
  iintro ⟨Hl, Hd, %W'', HO⟩
  rw [wp_ret]; imodintro
  iapply Hk
  isplitl [HA HB HG]
  · isplitl [HA]; · iexact HA
    isplitl [HB] <;> iassumption
  isplitl [HX HY HZ]
  · isplitl [HX]; · iexact HX
    isplitl [HY]; · iexact HY
    iexact HZ
  isplitr [HO]
  · isplitr [Hl]
    · isplitl [Hh] <;> iassumption
    · iexact Hl
  · iexists W''
    isplitr; · ipureintro; exact fun _ _ => Or.inl trivial
    iexact HO

theorem leaves_0 (c : Dev nD) (t : Fin cfg0.N) : (dats m 0 c).leavesExact 0 t = owns (c : Thread nD τ) (st0_0 t) fullShare (bX m c t.val) := by
  unfold bX; rw [pt_val]; rfl
theorem leaves_1 (c : Dev nD) (t : Fin cfg0.N) : (dats m 0 c).leavesExact 1 t = owns (c : Thread nD τ) (st0_1 t) fullShare (bP m c t.val) := by
  unfold bP; rw [pt_val]; rfl
theorem leaves_2 (c : Dev nD) (t : Fin cfg0.N) : (dats m 0 c).leavesExact 2 t = owns (c : Thread nD τ) (st0_2 t) fullShare (bG m c t.val) := by
  unfold bG; rw [pt_val]; rfl
theorem leaves_3 (c : Dev nD) (t : Fin cfg0.N) : (dats m 0 c).leavesExact 3 t = owns (c : Thread nD τ) (st0_3 t) fullShare (outP m c t.val) := rfl
theorem leaves_4 (c : Dev nD) (t : Fin cfg0.N) : (dats m 0 c).leavesExact 4 t = owns (c : Thread nD τ) (st0_4 t) fullShare (outB m c t.val) := rfl
theorem leaves_5 (c : Dev nD) (t : Fin cfg0.N) : (dats m 0 c).leavesExact 5 t = owns (c : Thread nD τ) (st0_5 t) fullShare (sums m c t.val) := rfl

/-- What is owed does not change after the first point. -/
theorem owes_mid (c : Dev nD) (t : Fin cfg0.N) (h : t.val ≠ 0) : (dats m 0 c).owesAt () t.castSucc ⊢ (dats m 0 c).owesAt () t.succ := by
  unfold Dat.owesAt Pipeline.owesWithin
  rw [owed_later m c t.castSucc h, owed_later m c t.succ (Nat.succ_ne_zero t.val)]
  iintro ⟨%W, -, HO⟩
  iexists W
  isplitr; · ipureintro; exact fun _ _ => Or.inl trivial
  iexact HO

theorem body_obligation (c : Dev nD) : BodyObligation (dats (F := F) m 0 c) (defs₀ (F := F)) 𝒱₀ () Set.univ := fun t => by
  rw [bigSep_W0, bigSep_W0]
  show iprop(state m c t.val ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d)))
    ⊢ wp frame (wpE (defs₀ (F := F)) 𝒱₀ c none) Set.univ (bodyAt0 t) (fun _ => iprop(state m c (t.val + 1) ∗ (dats m 0 c).owesAt () t.succ
      ∗ (dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t))
  rw [leaves_0, leaves_1, leaves_2, leaves_3, leaves_4, leaves_5]
  simp only [before_0, before_1, before_2]
  by_cases h0 : t.val = 0
  · iintro ⟨HΦ, HO, ⟨%d0, H0⟩, ⟨%d1, H1⟩, ⟨%d2, H2⟩, ⟨%d3, H3⟩, ⟨%d4, H4⟩, %d5, H5⟩
    iapply (wp_first m c t h0 _ _ _ _)
    isplitl
    · isplitl [H0 H1 H2]
      · isplitl [H0]; · iexact H0
        isplitl [H1]; · iexact H1
        iexact H2
      isplitl [H3 H4 H5]
      · isplitl [H3]; · iexact H3
        isplitl [H4]; · iexact H4
        iexact H5
      isplitl [HΦ]; · iexact HΦ
      iexact HO
    · iintro ⟨⟨H0, H1, H2⟩, ⟨H3, H4, H5⟩, HΦ, HO⟩
      isplitl [HΦ]; · iexact HΦ
      isplitl [HO]; · iexact HO
      isplitl [H0]; · iexact H0
      isplitl [H1]; · iexact H1
      isplitl [H2]; · iexact H2
      isplitl [H3]; · iexact H3
      isplitl [H4]; · iexact H4
      iexact H5
  · simp only [before_5 m c t h0]
    iintro ⟨HΦ, HO, ⟨%d0, H0⟩, ⟨%d1, H1⟩, ⟨%d2, H2⟩, ⟨%d3, H3⟩, ⟨%d4, H4⟩, %d5, H5⟩
    by_cases h15 : t.val = 15
    · iapply (wp_last m c t h15 _ _ _)
      isplitl
      · isplitl [H0 H1 H2]
        · isplitl [H0]; · iexact H0
          isplitl [H1]; · iexact H1
          iexact H2
        isplitl [H3 H4 H5]
        · isplitl [H3]; · iexact H3
          isplitl [H4]; · iexact H4
          iexact H5
        isplitl [HΦ]; · iexact HΦ
        iexact HO
      · iintro ⟨⟨H0, H1, H2⟩, ⟨H3, H4, H5⟩, HΦ, HO⟩
        isplitl [HΦ]; · iexact HΦ
        isplitl [HO]; · iexact HO
        isplitl [H0]; · iexact H0
        isplitl [H1]; · iexact H1
        isplitl [H2]; · iexact H2
        isplitl [H3]; · iexact H3
        isplitl [H4]; · iexact H4
        iexact H5
    · ihave HO := (owes_mid m c t h0) $$ HO
      iapply (wp_mid m c t h0 h15 _ _ _)
      isplitr [HO]
      · isplitl [H0 H1 H2]
        · isplitl [H0]; · iexact H0
          isplitl [H1]; · iexact H1
          iexact H2
        isplitl [H3 H4 H5]
        · isplitl [H3]; · iexact H3
          isplitl [H4]; · iexact H4
          iexact H5
        iexact HΦ
      · iintro ⟨⟨H0, H1, H2⟩, ⟨H3, H4, H5⟩, HΦ⟩
        isplitl [HΦ]; · iexact HΦ
        isplitl [HO]; · iexact HO
        isplitl [H0]; · iexact H0
        isplitl [H1]; · iexact H1
        isplitl [H2]; · iexact H2
        isplitl [H3]; · iexact H3
        isplitl [H4]; · iexact H4
        iexact H5

/-! ## The run -/

def u₀ : UU nD τ sig := (initOf (Pipeline.cells cfgs cellOf_inj) (Pipeline.launchToks cfgs cellOf_inj), initOf plan.cells plan.toks)

/-- What a device's arrays hold at the end that no window stages. -/
def rest (c : Dev nD) (s : MemSt nD τ sig (Elt F)) : Prop :=
  s.mem ((c : Thread nD τ).loc main_arg3) = m ((c : Thread nD τ).loc main_arg3) ∧ s.mem ((c : Thread nD τ).loc main_v1_3) = got m c

theorem ends (c : Dev nD) (s' : Phys nD τ sig (Elt F)) :
    iprop((hold m c ∗ dst m 0 c) ∗ emp ∗ SI s') ⊢ (|={Set.univ}=> iprop(⌜rest m c s'.mem⌝ ∗ SI s') : sProp 𝕄) := by
  unfold hold dst rest
  iintro ⟨⟨Hh, Hd⟩, -, HSI⟩
  ihave %h1 := SI_pointsTo_agree $$ [HSI Hh]
  · isplitl [HSI] <;> iassumption
  ihave %h2 := SI_pointsTo_agree $$ [HSI Hd]
  · isplitl [HSI] <;> iassumption
  imodintro
  isplitr
  · ipureintro; exact ⟨funext fun i => h1 i (Finset.mem_univ i), funext fun i => h2 i (Finset.mem_univ i)⟩
  · iexact HSI

theorem ownSemFacts : Pipeline.OwnSemFacts cfg0.spec plan.osem := by decide

/-- A staging semaphore is no line's. -/
theorem stage_ne : ∀ (w : Fin cfg0.W) (s : Fin (cfg0.win w).nbuf) (j : Fin 1), (cfg0.win w).sem s ≠ plan.rcv j := by decide

/-- From any memory with zero counters every weakly fair execution of `@main` terminates, each staged array at its
    written blocks, the swapped blocks in place, and every counter at zero. -/
theorem run_main : θ_run defs (onTc (τ := τ) (main (F := F))) ⟨m, fun _ => 0, ρ⟩
    (fun r => (∀ c : Dev nD, (∀ w, r.2.mem ((cfg0.win w).arr.view.loc (c : Thread nD τ)) = (dats m 0 c).arrAt w cfg0.N) ∧ rest m c r.2)
      ∧ r.2.sem = fun _ => 0) :=
  Proof.Launch.run_owing (fun p => (cfgs p).toPCfg) (fun _ p => (cfgs p).toPCfg_adm) (fun p c => (dats m p c).toR) () cellOf_inj (0 : Fin 1)
    winFacts0.to₀ (osem := plan.osem) ownSemFacts EP defs₀ 𝒱₀ m ρ main
    (hmain := fun _ => rfl)
    (hbody := fun c => (Pipeline.BodyObligation.loose (dats m 0 c) (body_obligation m c)).toR) (hne := block_pos0) (harr := arr_whole0) (hstage := stage_whole0)
    (hshare := Pipeline.SharedIn.of_injective winFacts0.arr_inj)
    (hq := fun c w hw => (dats m 0 c).q_eq_shareOf_of_share_full winFacts0.arr_inj (fun w => by fin_cases w <;> rfl) w hw)
    (O₀ := O₀) (howed₀ := fun _ => rfl) (howedN := fun _ => rfl)
    (L := Proof.Lines.Plan.L) (lv := plan.lv) (hL := Proof.Lines.Plan.L_of_ne)
    (hwaits := fun c => Pipeline.cellsWaits_intro cfgs (dats m) () 0 c fun w s t => by
      by_cases h : t.val = 0
      · rw [owed_first m c t h]; exact plan.mayWait c Finset.univ _ (stage_ne w s)
      · rw [owed_later m c t h, MayWait_zero]; iintro -; iempintro)
    (G := plan.G (src m) (dst m)) (G' := plan.G' (src m) (dst m) (keep m) (give m)) (u₀ := u₀)
    (hu₀ := by
      unfold u₀
      iintro Hu
      ihave H := (ownU_pair _ _) $$ Hu
      icases H with ⟨HP, HX⟩
      imod (plan.fund (src m) (dst m)) $$ HX with HG
      imodintro
      isplitl [HP] <;> iassumption)
    (hglob := plan.glob (src m) (dst m) (keep m) (give m) _ _ (rest_split m))
    (hA := fun _ _ => rfl) (hpre := fun c => by
      unfold Pipeline.prefHeld
      rw [show (Finset.univ : Finset (Fin 0)) = ∅ from rfl, bigSep_empty])
    (X := fun c => iprop(keep m c ∗ bigSep Finset.univ fun j => plan.ready (src m) (dst m) (give m) c j))
    (Y := fun c => iprop(hold m c ∗ dst m 0 c)) (Z := fun _ => iprop(emp))
    (hX := fun c => plan.start (src m) (dst m) c (keep m) (give m) _)
    (hin := fun c => by
      show _ ⊢ state m c 0
      rw [one_line, state_first m c 0 rfl]
      exact BI.Laws.sep_elim_left)
    (hout := fun c => by
      show state m c 16 ⊢ iprop((hold m c ∗ dst m 0 c) ∗ Pipeline.ownSems0 plan.osem c ∗ Pipeline.scopedRest spec0 c)
      rw [show (Pipeline.scopedRest spec0 c : sProp 𝕄) = BI.emp from scopedRest0_eq c, plan.over_sems, one_line, state_last m c 16 (by omega)]
      iintro ⟨H1, H2⟩
      isplitl [H1]; · iexact H1
      isplitl [H2]; · iexact H2
      iempintro)
    (QY := rest m) (hY := ends m)
    (hQ := fun _ h hs => ⟨fun c => ⟨fun w => ((dats m 0 c).toR_arrAt_iff w _ _).mp ((h c).1 w), (h c).2⟩, sem_eq_zero_of_scoped (by decide) hs⟩)

end Cert.LnProof

end
-- ==== Proof.LnRows.lean ====
/-
# The gradient through the layer norm: one row

The gradient through the layer norm of one row (`Cert.LnProof.dpre`) and what the kernel's payloads and the reference's operations
are at an index, in terms of it.
-/
module

public import proofs.«01_k».proof.Proof.Gen.LnSwapIdeal.Skeleton
public import proofs.«01_k».proof.Proof.Gen.LnReferenceIdeal
public import Idealize.ShloMosaic.Lib.Pointwise

@[expose] public section

noncomputable section

namespace Cert.LnProof

open Idealize.ShloMosaic
open scoped BigOperators

/-! ## One row -/

section
variable (x d g : Fin 2048 → Ideal .f32)

def mean : Ideal .f32 := Ideal.div (∑ k, x k) (Ideal.ofBits .f32 0x45000000#32)
def cen (k : Fin 2048) : Ideal .f32 := x k - mean x
def rstd : Ideal .f32 := Ideal.rsqrt (mean (fun k => cen x k * cen x k) + Ideal.ofBits .f32 0x3727C5AC#32)
def xhat (k : Fin 2048) : Ideal .f32 := cen x k * rstd x
def dxh (k : Fin 2048) : Ideal .f32 := d k * g k
/-- The gradient of a row `x` whose normalised row has the gradient `d`, with gain `g`. -/
def dpre (k : Fin 2048) : Ideal .f32 :=
  rstd x * ((dxh d g k - mean (dxh d g)) - xhat x k * mean (fun k => dxh d g k * xhat x k))
end

/-- A row of a tile. -/
abbrev rowK {n : ℕ} (X : (⟨2, ![n, 2048]⟩ : Shape).Idx → Ideal .f32) (r : Fin n) : Fin 2048 → Ideal .f32 := fun k => X (ix2 r k)

/-! ## The kernel's payloads -/

section
open Cert.LnSwapIdeal Cert.LnSwapIdeal.Gen
variable (X P : Vec Ideal S256x2048 .f32) (G V : Vec Ideal S1x2048 .f32) (r : Fin 256) (k : Fin 2048)

theorem pay6_apply : k0_pay6 X (ix2 r k) = X (ix2 r k) := by pointwise [k0_pay6]
theorem pay7_apply : k0_pay7 P (ix2 r k) = cen (rowK P r) k := by
  unfold cen mean
  pointwise [k0_pay7]
theorem pay8_apply (z : Fin 1) : k0_pay8 P (ix2 r z) = rstd (rowK P r) := by
  have h := fun k => pay7_apply P r k
  unfold rstd mean
  pointwise [k0_pay8]
  simp only [h]
theorem pay9_apply : k0_pay9 P (ix2 r k) = xhat (rowK P r) k := by
  have h7 := pay7_apply P r k
  have h8 := fun z => pay8_apply P r z
  unfold xhat
  pointwise [k0_pay9]
  simp only [h7, h8]
theorem pay10_apply : k0_pay10 X G (ix2 r k) = dxh (rowK X r) (rowK G 0) k := by
  have h6 := pay6_apply X r k
  unfold dxh
  pointwise [k0_pay10]
  simp only [h6]
theorem pay11_apply : k0_pay11 X G (ix2 r k) = dxh (rowK X r) (rowK G 0) k - mean (dxh (rowK X r) (rowK G 0)) := by
  have h := fun k => pay10_apply X G r k
  unfold mean
  pointwise [k0_pay11]
  simp only [h]
theorem pay12_apply : k0_pay12 P X G (ix2 r k) = dxh (rowK X r) (rowK G 0) k * xhat (rowK P r) k := by
  have h := fun k => pay10_apply X G r k
  have h' := fun k => pay9_apply P r k
  pointwise [k0_pay12]
  simp only [h, h']
theorem pay1_apply : k0_pay1 (k0_pay8 P) (k0_pay9 P) (k0_pay11 X G) (k0_pay12 P X G) (ix2 r k) = dpre (rowK P r) (rowK X r) (rowK G 0) k := by
  have h8 := fun z => pay8_apply P r z
  have h9 := pay9_apply P r k
  have h11 := pay11_apply X G r k
  have h12 := fun k => pay12_apply X P G r k
  unfold dpre
  pointwise [k0_pay1]
  simp only [h8, h9, h11, h12]
  rfl
theorem pay2_apply : k0_pay2 (k0_pay8 P) (k0_pay9 P) (k0_pay11 X G) (k0_pay12 P X G) (ix2 r k) = dpre (rowK P r) (rowK X r) (rowK G 0) k :=
  pay1_apply X P G r k
theorem pay3_apply (z : Fin 1) : k0_pay3 (k0_pay6 X) (k0_pay9 P) V (ix2 z k) = V (ix2 z k) + ∑ r : Fin 256, X (ix2 r k) * xhat (rowK P r) k := by
  have h6 := fun r => pay6_apply X r k
  have h9 := fun r => pay9_apply P r k
  pointwise [k0_pay3]
  simp only [h6, h9]
theorem pay4_apply (z : Fin 1) : k0_pay4 (k0_pay6 X) V (ix2 z k) = V (ix2 z k) + ∑ r : Fin 256, X (ix2 r k) := by
  have h6 := fun r => pay6_apply X r k
  pointwise [k0_pay4]
  simp only [h6]
theorem pay5_apply (i : S8x2048.Idx) : k0_pay5 (F := Ideal) i = 0 := by pointwise [k0_pay5]
end

/-! ## The reference's operations -/

section
open Cert.LnReferenceIdeal Cert.LnReferenceIdeal.Gen

/-- The mean of every row. -/
def means (X : FVec Ideal S32768x2048 .f32) : FVec Ideal S32768x1 .f32 :=
  Host.divf (broadcastInDim S32768x1 ![0] bcast_S32768_S32768x1_0 (Host.reduceAdd X (constant S_ .f32 0x00000000#32) reducesTo_S32768x2048_S32768_d1 h_S_))
    (broadcastInDim S32768x1 ![] bcast_S_S32768x1 (constant S_ .f32 0x45000000#32))
/-- A column along every row. -/
def along (Y : FVec Ideal S32768x1 .f32) : FVec Ideal S32768x2048 .f32 := broadcastInDim S32768x2048 ![0, 1] bcast_S32768x1_S32768x2048_0_1 Y
def cens (X : FVec Ideal S32768x2048 .f32) : FVec Ideal S32768x2048 .f32 := subf X (along (means X))
def rstds (X : FVec Ideal S32768x2048 .f32) : FVec Ideal S32768x1 .f32 :=
  Host.rsqrt (addf (means (mulf (cens X) (cens X))) (broadcastInDim S32768x1 ![] bcast_S_S32768x1 (constant S_ .f32 0x3727C5AC#32)))
def xhats (X : FVec Ideal S32768x2048 .f32) : FVec Ideal S32768x2048 .f32 := mulf (cens X) (along (rstds X))
def dxhs (D : FVec Ideal S32768x2048 .f32) (G : FVec Ideal S1x2048 .f32) : FVec Ideal S32768x2048 .f32 :=
  mulf D (broadcastInDim S32768x2048 ![0, 1] bcast_S1x2048_S32768x2048_0_1 G)
def dpres (X D : FVec Ideal S32768x2048 .f32) (G : FVec Ideal S1x2048 .f32) : FVec Ideal S32768x2048 .f32 :=
  mulf (along (rstds X)) (subf (subf (dxhs D G) (along (means (dxhs D G)))) (mulf (xhats X) (along (means (mulf (dxhs D G) (xhats X))))))

variable (X D : FVec Ideal S32768x2048 .f32) (G : FVec Ideal S1x2048 .f32) (r : Fin 32768) (k : Fin 2048)

theorem means_apply (z : Fin 1) : means X (ix2 r z) = mean (rowK X r) := by
  unfold mean
  pointwise [means]
theorem along_apply (Y : FVec Ideal S32768x1 .f32) : along Y (ix2 r k) = Y (ix2 r 0) := by
  pointwise [along]
theorem cens_apply : cens X (ix2 r k) = cen (rowK X r) k :=
  congrArg (X (ix2 r k) - ·) ((along_apply r k _).trans (means_apply X r 0))
theorem rstds_apply (z : Fin 1) : rstds X (ix2 r z) = rstd (rowK X r) := by
  have h := means_apply (mulf (cens X) (cens X)) r z
  have h' : rowK (mulf (cens X) (cens X)) r = fun k => cen (rowK X r) k * cen (rowK X r) k :=
    funext fun k => congrArg₂ (· * ·) (cens_apply X r k) (cens_apply X r k)
  unfold rstd
  rw [h'] at h
  exact congrArg (fun y => Ideal.rsqrt (y + _)) h
theorem xhats_apply : xhats X (ix2 r k) = xhat (rowK X r) k :=
  congrArg₂ (· * ·) (cens_apply X r k) ((along_apply r k _).trans (rstds_apply X r 0))
theorem dxhs_apply : dxhs D G (ix2 r k) = dxh (rowK D r) (rowK G 0) k := by
  unfold dxh
  pointwise [dxhs]
theorem dpres_apply : dpres X D G (ix2 r k) = dpre (rowK X r) (rowK D r) (rowK G 0) k := by
  have h1 : rowK (dxhs D G) r = dxh (rowK D r) (rowK G 0) := funext fun k => dxhs_apply D G r k
  have h2 : rowK (mulf (dxhs D G) (xhats X)) r = fun k => dxh (rowK D r) (rowK G 0) k * xhat (rowK X r) k :=
    funext fun k => congrArg₂ (· * ·) (dxhs_apply D G r k) (xhats_apply X r k)
  refine congrArg₂ (· * ·) ((along_apply r k _).trans (rstds_apply X r 0)) (congrArg₂ (· - ·) (congrArg₂ (· - ·) (dxhs_apply D G r k) ?_)
    (congrArg₂ (· * ·) (xhats_apply X r k) ?_))
  · exact ((along_apply r k _).trans (means_apply _ r 0)).trans (congrArg mean h1)
  · exact ((along_apply r k _).trans (means_apply _ r 0)).trans (congrArg mean h2)

/-- The sums of the rows of each of the eight parts. -/
def partSums (Y : FVec Ideal S32768x2048 .f32) : FVec Ideal S8x2048 .f32 :=
  Host.reduceAdd (shapeCast S8x4096x2048 Y shapeCasts_S32768x2048_S8x4096x2048) (constant S_ .f32 0x00000000#32) reducesTo_S8x4096x2048_S8x2048_d1 h_S_
theorem partSums_apply (Y : FVec Ideal S32768x2048 .f32) (c : Fin 8) :
    partSums Y (ix2 c k) = ∑ a : Fin 4096, Y (ix2 ⟨c.val * 4096 + a.val, by omega⟩ k) := by
  pointwise [partSums]

/-- The third result: per part, the sum of the gain's gradient, the sum of the bias's, six rows of zeros. -/
def dgbs (X D : FVec Ideal S32768x2048 .f32) : FVec Ideal S64x2048 .f32 :=
  shapeCast S64x2048 (concatenate S8x8x2048 1
    [⟨S8x1x2048, broadcastInDim S8x1x2048 ![0, 2] bcast_S8x2048_S8x1x2048_0_2 (partSums (mulf D (xhats X)))⟩,
      ⟨S8x1x2048, broadcastInDim S8x1x2048 ![0, 2] bcast_S8x2048_S8x1x2048_0_2 (partSums D)⟩,
      ⟨S8x6x2048, broadcastInDim S8x6x2048 ![] bcast_S_S8x6x2048 (constant S_ .f32 0x00000000#32)⟩]
    concatenates_S8x1x2048_S8x1x2048_S8x6x2048_S8x8x2048_d1) shapeCasts_S8x8x2048_S64x2048

/-- A row of the two sums and the zeros, of rows `d` and `x` indexed by `a`. -/
def dgb {n : ℕ} (x d : Fin n → Fin 2048 → Ideal .f32) (j : Fin 8) (k : Fin 2048) : Ideal .f32 :=
  if j.val = 0 then ∑ a, d a k * xhat (x a) k else if j.val = 1 then ∑ a, d a k else 0

theorem dgbs_apply (c : Fin 8) (j : Fin 8) : dgbs X D (ix2 ⟨c.val * 8 + j.val, by omega⟩ k)
    = dgb (fun a : Fin 4096 => rowK X ⟨c.val * 4096 + a.val, by omega⟩) (fun a => rowK D ⟨c.val * 4096 + a.val, by omega⟩) j k := by
  have h0 := partSums_apply k (mulf D (xhats X)) c
  have h1 := partSums_apply k D c
  have hx := fun r => xhats_apply X r k
  unfold dgb
  pointwise [dgbs]
  split <;> rename_i hj
  · rw [if_pos (by omega), h0]
    exact Finset.sum_congr rfl fun a _ => congrArg (D _ * ·) (hx _)
  · rw [if_neg (by omega)]
    split <;> rename_i hj'
    · rw [if_pos (by omega), h1]
    · rw [if_neg (by omega)]
end

end Cert.LnProof

end
-- ==== Proof.LnValue.lean ====
/-
# The gradient through the layer norm with the swap inside a chip: its values

`Cert.LnProof.outP_eq`, `Cert.LnProof.outB_eq`, `Cert.LnProof.sums_eq`: what a device's pipeline leaves in its three results is its
part of the reference's. `Cert.LnProof.got_eq`: so is the block it gets from its sibling.
-/
module

public import proofs.«01_k».proof.Proof.LnRun
public import proofs.«01_k».proof.Proof.LnRows
public import proofs.«01_k».proof.Proof.SwapValue
public import proofs.«01_k».proof.Proof.Products

@[expose] public section

set_option maxRecDepth 16384

noncomputable section

namespace Cert.LnProof

open Cert.LnSwapIdeal Cert.LnSwapIdeal.Gen
open Idealize.ShloMosaic Idealize.ShloMosaic.TcCoe
open Cert.Products (spot in_tile)
open Idealize.ShloMosaic.Pipeline (Dat)
open Proof.Staged (get put put_emb put_off)
open scoped BigOperators

/-! ## The blocks -/

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = 0 ∧ win0_5.index t 1 = 0 := by decide +kernel

variable (m : (ℓ : Loc nD τ sig) → Buf (Elt Ideal) ℓ) (c : Dev nD)

/-- The rows of the two operands a device holds, and the gain. -/
abbrev rX (r : Fin 4096) : Fin 2048 → Ideal .f32 := fun k => m ((c : Thread nD τ).loc main_arg0) (ix2 r k)
abbrev rP (r : Fin 4096) : Fin 2048 → Ideal .f32 := fun k => m ((c : Thread nD τ).loc main_arg1) (ix2 r k)
abbrev rG : Fin 2048 → Ideal .f32 := fun k => m ((c : Thread nD τ).loc main_arg2) (ix2 0 k)

theorem bX_row (t : Fin cfg0.N) (a : Fin 256) (r : Fin 4096) (hr : r.val = 256 * t.val + a.val) : rowK (bX m c t.val) a = rX m c r := by
  funext k
  unfold bX iblk rX rowK
  rw [pt_val, View.read_apply]
  exact congrArg (m ((c : Thread nD τ).loc main_arg0)) (funext fun x => Fin.ext (spot _ _ _ (index_0 t) a k r k (by omega) (by omega) x))
theorem bP_row (t : Fin cfg0.N) (a : Fin 256) (r : Fin 4096) (hr : r.val = 256 * t.val + a.val) : rowK (bP m c t.val) a = rP m c r := by
  funext k
  unfold bP iblk rP rowK
  rw [pt_val, View.read_apply]
  exact congrArg (m ((c : Thread nD τ).loc main_arg1)) (funext fun x => Fin.ext (spot _ _ _ (index_1 t) a k r k (by omega) (by omega) x))
theorem bG_row (t : Fin cfg0.N) : rowK (bG m c t.val) 0 = rG m c := by
  funext k
  unfold bG iblk rG rowK
  rw [pt_val, View.read_apply]
  refine congrArg (m ((c : Thread nD τ).loc main_arg2)) (funext fun x => Fin.ext ?_)
  match x with
  | ⟨0, _⟩ => show win0_2.index t 0 * 1 + 1 * 0 = 0; rw [(index_2 t).1]
  | ⟨1, _⟩ => show win0_2.index t 1 * 2048 + 1 * k.val = k.val; rw [(index_2 t).2]; omega

/-! ## The gradient of the rows -/

/-- What a device's first result holds, and at the narrower format its second. -/
def resP : Buf (Elt Ideal) ((c : Thread nD τ).loc main_v1_0) := fun i : (⟨2, ![4096, 2048]⟩ : Shape).Idx =>
  dpre (rP m c (i 0)) (rX m c (i 0)) (rG m c) (i 1)
def resB : Buf (Elt Ideal) ((c : Thread nD τ).loc main_v1_1) := fun i : (⟨2, ![4096, 2048]⟩ : Shape).Idx =>
  dpre (rP m c (i 0)) (rX m c (i 0)) (rG m c) (i 1)

theorem outP_apply (t : Fin cfg0.N) (a : Fin 256) (k : Fin 2048) (r : Fin 4096) (hr : r.val = 256 * t.val + a.val) (k' : Fin 2048) (hk : k' = k) :
    outP m c t.val (ix2 a k) = dpre (rP m c r) (rX m c r) (rG m c) k' := by
  subst hk
  refine (pay1_apply (bX m c t.val) (bP m c t.val) (bG m c t.val) a k').trans ?_
  rw [bX_row m c t a r hr, bP_row m c t a r hr, bG_row]
theorem outB_apply (t : Fin cfg0.N) (a : Fin 256) (k : Fin 2048) (r : Fin 4096) (hr : r.val = 256 * t.val + a.val) (k' : Fin 2048) (hk : k' = k) :
    outB m c t.val (ix2 a k) = dpre (rP m c r) (rX m c r) (rG m c) k' := outP_apply m c t a k r hr k' hk

theorem flushed_3 (t : Fin cfg0.N) (hf : (cfg0.win 3).flush t = true) :
    (dats m 0 c).flushed 3 t = ((cfg0.win 3).blk t).view.read (Elt Ideal) (resP m c) := by
  funext i
  obtain ⟨a, k, rfl⟩ : ∃ (a : Fin 256) (k : Fin 2048), i = ix2 a k := ⟨i 0, i 1, eq_ix2 i⟩
  show outP m c t.val (ix2 a k) = _
  rw [View.read_apply]
  refine outP_apply m c t a k _ ?_ _ (Fin.ext ?_)
  · show win0_3.index t 0 * 256 + 1 * a.val = _; rw [(index_3 t).1]; omega
  · show win0_3.index t 1 * 2048 + 1 * k.val = _; rw [(index_3 t).2]; omega
theorem flushed_4 (t : Fin cfg0.N) (hf : (cfg0.win 4).flush t = true) :
    (dats m 0 c).flushed 4 t = ((cfg0.win 4).blk t).view.read (Elt Ideal) (resB m c) := by
  funext i
  obtain ⟨a, k, rfl⟩ : ∃ (a : Fin 256) (k : Fin 2048), i = ix2 a k := ⟨i 0, i 1, eq_ix2 i⟩
  show outB m c t.val (ix2 a k) = _
  rw [View.read_apply]
  refine outB_apply m c t a k _ ?_ _ (Fin.ext ?_)
  · show win0_4.index t 0 * 256 + 1 * a.val = _; rw [(index_4 t).1]; omega
  · show win0_4.index t 1 * 2048 + 1 * k.val = _; rw [(index_4 t).2]; omega

theorem final_3 : (dats m 0 c).arrAt 3 cfg0.N = resP m c :=
  (dats m 0 c).arrAt_eq_of_cover 3 (resP m c) (flushed_3 m c) fun i => by
    have h0 : (i 0 : ℕ) < 4096 := (i 0).isLt
    have h1 : (i 1 : ℕ) < 2048 := (i 1).isLt
    let t : Fin cfg0.N := ⟨(i 0 : ℕ) / 256, by rw [show cfg0.N = 16 from N_0]; omega⟩
    have ht : t.val = (i 0 : ℕ) / 256 := rfl
    refine ⟨t, flush0_3 t, ?_⟩
    show i ∈ ((View.whole main_v1_0).slice (win0_3.rect t)).set
    rw [View.set_slice_whole, Rect.mem_set_unit]
    exact in_tile (k := 256) (l := 2048) (by omega) (by omega) _ i ⟨(index_3 t).1.trans (by omega), (index_3 t).2.trans (by omega)⟩
theorem final_4 : (dats m 0 c).arrAt 4 cfg0.N = resB m c :=
  (dats m 0 c).arrAt_eq_of_cover 4 (resB m c) (flushed_4 m c) fun i => by
    have h0 : (i 0 : ℕ) < 4096 := (i 0).isLt
    have h1 : (i 1 : ℕ) < 2048 := (i 1).isLt
    let t : Fin cfg0.N := ⟨(i 0 : ℕ) / 256, by rw [show cfg0.N = 16 from N_0]; omega⟩
    have ht : t.val = (i 0 : ℕ) / 256 := rfl
    refine ⟨t, flush0_4 t, ?_⟩
    show i ∈ ((View.whole main_v1_1).slice (win0_4.rect t)).set
    rw [View.set_slice_whole, Rect.mem_set_unit]
    exact in_tile (k := 256) (l := 2048) (by omega) (by omega) _ i ⟨(index_4 t).1.trans (by omega), (index_4 t).2.trans (by omega)⟩

/-! ## The sums -/

theorem row0_emb (z : Fin 1) (k : Fin 2048) : row0.emb (ix2 z k) = ix2 (0 : Fin 8) k := by
  funext x; refine Fin.ext ?_
  match x with
  | ⟨0, _⟩ => show 0 + 1 * z.val = 0; omega
  | ⟨1, _⟩ => show 0 + 1 * k.val = k.val; omega
theorem row1_emb (z : Fin 1) (k : Fin 2048) : row1.emb (ix2 z k) = ix2 (1 : Fin 8) k := by
  funext x; refine Fin.ext ?_
  match x with
  | ⟨0, _⟩ => show 1 + 1 * z.val = 1; omega
  | ⟨1, _⟩ => show 0 + 1 * k.val = k.val; omega
theorem row0_off (j : Fin 8) (hj : j.val ≠ 0) (k : Fin 2048) (x : (⟨2, ![1, 2048]⟩ : Shape).Idx) : row0.emb x ≠ ix2 j k := by
  intro h
  have h0 := congrArg Fin.val (congrFun h 0)
  have hx : (x 0).val < 1 := (x 0).isLt
  have : 0 + 1 * (x 0).val = j.val := h0
  omega
theorem row1_off (j : Fin 8) (hj : j.val ≠ 1) (k : Fin 2048) (x : (⟨2, ![1, 2048]⟩ : Shape).Idx) : row1.emb x ≠ ix2 j k := by
  intro h
  have h0 := congrArg Fin.val (congrFun h 0)
  have hx : (x 0).val < 1 := (x 0).isLt
  have : 1 + 1 * (x 0).val = j.val := h0
  omega

/-- One tile added, row by row. -/
theorem step_0 (n : ℕ) (X : Vec Ideal S8x2048 .f32) (k : Fin 2048) :
    step m c n X (ix2 0 k) = X (ix2 0 k) + ∑ a : Fin 256, bX m c n (ix2 a k) * xhat (rowK (bP m c n) a) k := by
  unfold step
  refine (put_off (Val := Elt Ideal) row1 _ _ (row1_off 0 (by decide) k)).trans ?_
  refine (congrArg (put (Val := Elt Ideal) row0 _ X) (row0_emb 0 k).symm).trans ?_
  refine (put_emb (Val := Elt Ideal) row0 _ _ (ix2 0 k)).trans ((pay3_apply (bX m c n) (bP m c n) _ k 0).trans ?_)
  exact congrArg (X · + _) (row0_emb 0 k)
theorem step_1 (n : ℕ) (X : Vec Ideal S8x2048 .f32) (k : Fin 2048) :
    step m c n X (ix2 1 k) = X (ix2 1 k) + ∑ a : Fin 256, bX m c n (ix2 a k) := by
  unfold step
  refine (congrArg (put (Val := Elt Ideal) row1 _ _) (row1_emb 0 k).symm).trans ?_
  refine (put_emb (Val := Elt Ideal) row1 _ _ (ix2 0 k)).trans ((pay4_apply (bX m c n) _ k 0).trans (congrArg (· + _) ?_))
  refine (congrArg (put (Val := Elt Ideal) row0 _ X) (row1_emb 0 k)).trans ?_
  exact put_off (Val := Elt Ideal) row0 _ _ (row0_off 1 (by decide) k)
theorem step_off (n : ℕ) (X : Vec Ideal S8x2048 .f32) (j : Fin 8) (h0 : j.val ≠ 0) (h1 : j.val ≠ 1) (k : Fin 2048) :
    step m c n X (ix2 j k) = X (ix2 j k) := by
  unfold step
  exact (put_off (Val := Elt Ideal) row1 _ _ (row1_off j h1 k)).trans (put_off (Val := Elt Ideal) row0 _ _ (row0_off j h0 k))

/-- The sums over the tiles up to a point, in the order taken. -/
def upto (f : ℕ → Ideal .f32) : ℕ → Ideal .f32
  | 0 => f 0
  | n + 1 => upto f n + f (n + 1)
theorem upto_eq (f : ℕ → Ideal .f32) (n : ℕ) : upto f n = ∑ t ∈ Finset.range (n + 1), f t := by
  induction n with
  | zero => exact (Finset.sum_range_one f).symm
  | succ n ih => rw [Finset.sum_range_succ, ← ih]; rfl

theorem sums_0 (k : Fin 2048) (n : ℕ) :
    sums m c n (ix2 0 k) = upto (fun n => ∑ a : Fin 256, bX m c n (ix2 a k) * xhat (rowK (bP m c n) a) k) n := by
  induction n with
  | zero => exact (step_0 m c 0 _ k).trans ((congrArg (· + _) (pay5_apply _)).trans (zero_add _))
  | succ n ih => exact (step_0 m c (n + 1) _ k).trans (congrArg (· + _) ih)
theorem sums_1 (k : Fin 2048) (n : ℕ) : sums m c n (ix2 1 k) = upto (fun n => ∑ a : Fin 256, bX m c n (ix2 a k)) n := by
  induction n with
  | zero => exact (step_1 m c 0 _ k).trans ((congrArg (· + _) (pay5_apply _)).trans (zero_add _))
  | succ n ih => exact (step_1 m c (n + 1) _ k).trans (congrArg (· + _) ih)
theorem sums_off (j : Fin 8) (h0 : j.val ≠ 0) (h1 : j.val ≠ 1) (k : Fin 2048) (n : ℕ) : sums m c n (ix2 j k) = 0 := by
  induction n with
  | zero => exact (step_off m c 0 _ j h0 h1 k).trans (pay5_apply _)
  | succ n ih => exact (step_off m c (n + 1) _ j h0 h1 k).trans ih

/-- The tiles' rows, all of them. -/
theorem sum_tiles (f : ℕ → Fin 256 → Ideal .f32) (g : Fin 4096 → Ideal .f32)
    (h : ∀ (t : Fin 16) (a : Fin 256), f t.val a = g ⟨256 * t.val + a.val, by omega⟩) :
    upto (fun n => ∑ a, f n a) 15 = ∑ r, g r := by
  rw [upto_eq, ← Fin.sum_univ_eq_sum_range (fun n => ∑ a, f n a) 16, ← Equiv.sum_comp (finProdFinEquiv (m := 16) (n := 256)) g, Fintype.sum_prod_type]
  refine Finset.sum_congr rfl fun t _ => Finset.sum_congr rfl fun a _ => (h t a).trans (congrArg g (Fin.ext ?_))
  show 256 * t.val + a.val = a.val + 256 * t.val
  omega

/-- What a device's third result holds. -/
def resS : Buf (Elt Ideal) ((c : Thread nD τ).loc main_v1_2) := fun i : (⟨2, ![8, 2048]⟩ : Shape).Idx => dgb (rP m c) (rX m c) (i 0) (i 1)

theorem sums_last (j : Fin 8) (k : Fin 2048) : sums m c 15 (ix2 j k) = dgb (rP m c) (rX m c) j k := by
  have lt : ∀ t : Fin 16, t.val < cfg0.N := fun t => lt_of_lt_of_eq t.isLt N_0.symm
  unfold dgb
  by_cases h0 : j.val = 0
  · rw [if_pos h0, show j = 0 from Fin.ext h0, sums_0]
    refine sum_tiles _ _ fun t a => congrArg₂ (· * ·) ?_ ?_
    · exact congrFun (bX_row m c ⟨t.val, lt t⟩ a _ rfl) k
    · exact congrArg (xhat · k) (bP_row m c ⟨t.val, lt t⟩ a _ rfl)
  rw [if_neg h0]
  by_cases h1 : j.val = 1
  · rw [if_pos h1, show j = 1 from Fin.ext h1, sums_1]
    exact sum_tiles _ _ fun t a => congrFun (bX_row m c ⟨t.val, lt t⟩ a _ rfl) k
  rw [if_neg h1]
  exact sums_off m c j h0 h1 k 15

theorem flushed_5 (t : Fin cfg0.N) (hf : (cfg0.win 5).flush t = true) :
    (dats m 0 c).flushed 5 t = ((cfg0.win 5).blk t).view.read (Elt Ideal) (resS m c) := by
  have ht : t.val = 15 := by have := (flush0_5 t).mp hf; have := lt_N t; omega
  funext i
  obtain ⟨j, k, rfl⟩ : ∃ (j : Fin 8) (k : Fin 2048), i = ix2 j k := ⟨i 0, i 1, eq_ix2 i⟩
  show sums m c t.val (ix2 j k) = _
  rw [View.read_apply, ht]
  refine (sums_last m c j k).trans (congrArg₂ (dgb (rP m c) (rX m c)) (Fin.ext ?_) (Fin.ext ?_))
  · show _ = win0_5.index t 0 * 8 + 1 * j.val; rw [(index_5 t).1]; omega
  · show _ = win0_5.index t 1 * 2048 + 1 * k.val; rw [(index_5 t).2]; omega
theorem final_5 : (dats m 0 c).arrAt 5 cfg0.N = resS m c :=
  (dats m 0 c).arrAt_eq_of_cover 5 (resS m c) (flushed_5 m c) fun i => by
    have h0 : (i 0 : ℕ) < 8 := (i 0).isLt
    have h1 : (i 1 : ℕ) < 2048 := (i 1).isLt
    let t : Fin cfg0.N := ⟨15, by rw [show cfg0.N = 16 from N_0]; omega⟩
    refine ⟨t, (flush0_5 t).mpr rfl, ?_⟩
    show i ∈ ((View.whole main_v1_2).slice (win0_5.rect t)).set
    rw [View.set_slice_whole, Rect.mem_set_unit]
    exact in_tile (k := 8) (l := 2048) (by omega) (by omega) _ i ⟨(index_5 t).1.trans (by omega), (index_5 t).2.trans (by omega)⟩

/-! ## Parts of the reference's results -/

section
variable (X P : (⟨2, ![32768, 2048]⟩ : Shape).Idx → Ideal .f32) (G : (⟨2, ![1, 2048]⟩ : Shape).Idx → Ideal .f32)

theorem part_rows {φ : FTy} (v : (⟨2, ![32768, 2048]⟩ : Shape).Idx → Ideal φ) (r : Fin 4096) (k : Fin 2048) :
    Layout.block ⟨2, ![4096, 2048]⟩ ⟨2, ![32768, 2048]⟩ 0 8 c v (by decide) (ix2 r k)
      = v (ix2 ⟨c.val * 4096 + r.val, by have : c.val < 8 := c.isLt; omega⟩ k) := by
  rw [Layout.block_apply]
  exact congrArg v (funext fun x => Fin.ext (by match x with | ⟨0, _⟩ => rfl | ⟨1, _⟩ => rfl))

variable (hX : m ((c : Thread nD τ).loc main_arg0) = Layout.block ⟨2, ![4096, 2048]⟩ ⟨2, ![32768, 2048]⟩ 0 8 c X)
  (hP : m ((c : Thread nD τ).loc main_arg1) = Layout.block ⟨2, ![4096, 2048]⟩ ⟨2, ![32768, 2048]⟩ 0 8 c P)
  (hG : m ((c : Thread nD τ).loc main_arg2) = G)

include hX in
theorem rX_eq (r : Fin 4096) : rX m c r = rowK X ⟨c.val * 4096 + r.val, by have : c.val < 8 := c.isLt; omega⟩ :=
  funext fun k => (congrFun hX (ix2 r k)).trans (part_rows c X r k)
include hP in
theorem rP_eq (r : Fin 4096) : rP m c r = rowK P ⟨c.val * 4096 + r.val, by have : c.val < 8 := c.isLt; omega⟩ :=
  funext fun k => (congrFun hP (ix2 r k)).trans (part_rows c P r k)
include hG in
theorem rG_eq : rG m c = rowK G 0 := funext fun k => congrFun hG (ix2 0 k)

include hX hP hG in
theorem resP_eq : resP m c = Layout.block ⟨2, ![4096, 2048]⟩ ⟨2, ![32768, 2048]⟩ 0 8 c (dpres P X G) := by
  funext i
  obtain ⟨r, k, rfl⟩ : ∃ (r : Fin 4096) (k : Fin 2048), i = ix2 r k := ⟨i 0, i 1, eq_ix2 i⟩
  refine .trans ?_ ((part_rows c _ r k).trans (dpres_apply P X G _ k)).symm
  show dpre (rP m c r) (rX m c r) (rG m c) k = _
  rw [rX_eq m c X hX, rP_eq m c P hP, rG_eq m c G hG]
include hX hP hG in
theorem resB_eq : resB m c = Layout.block ⟨2, ![4096, 2048]⟩ ⟨2, ![32768, 2048]⟩ 0 8 c
    (truncf .bf16 (dpres P X G) Cert.LnReferenceIdeal.Gen.bitsLt_bf16_f32) := resP_eq m c X P G hX hP hG
include hX hP in
theorem resS_eq : resS m c = Layout.block ⟨2, ![8, 2048]⟩ ⟨2, ![64, 2048]⟩ 0 8 c (dgbs P X) := by
  funext i
  obtain ⟨j, k, rfl⟩ : ∃ (j : Fin 8) (k : Fin 2048), i = ix2 j k := ⟨i 0, i 1, eq_ix2 i⟩
  have hi : (show Layout.Tiles ⟨2, ![8, 2048]⟩ ⟨2, ![64, 2048]⟩ 0 8 by decide).idx c (ix2 j k) = ix2 ⟨c.val * 8 + j.val, by have : c.val < 8 := c.isLt; omega⟩ k :=
    funext fun x => Fin.ext (by match x with | ⟨0, _⟩ => rfl | ⟨1, _⟩ => rfl)
  rw [Layout.block_apply, hi]
  refine .trans ?_ (dgbs_apply P X k c j).symm
  show dgb (rP m c) (rX m c) j k = _
  rw [funext (rX_eq m c X hX), funext (rP_eq m c P hP)]
end

/-! ## The swap -/

open Cert.SwapProof (from_ from_slices)

variable {F : FTy → Type} [FloatOps F]

/-- What the sibling sends is the piece. -/
theorem sent_eq (c : Dev nD) (A : (⟨4, ![32, 2, 1168, 2048]⟩ : Shape).Idx → Elt F .bf16) :
    (slab (peer c)).view.read (Elt F) (Layout.block ⟨4, ![4, 2, 1168, 2048]⟩ ⟨4, ![32, 2, 1168, 2048]⟩ 0 8 (peer c) A) = Cert.SwapProof.piece A c := by
  have hc : c.val < 8 := c.isLt
  funext i
  unfold Cert.SwapProof.piece
  refine (extractStridedSlice_apply (from_ c) A (from_slices c) i _ fun a => ?_).symm
  have hd : (peer c).val = (4 * (c.val / 4) + 2 * ((c.val / 2) % 2) + 1) - (c.val % 2) := k0_dev1_eq c
  have ho := k0_off1_eq (peer c)
  have i0 : (i 0).val < 4 := (i 0).isLt
  fin_cases a
  · show (peer c).val * 4 + (k0_off1 (peer c) 0 + 1 * (i 0).val) = 4 * (c.val + 1 - 2 * (c.val % 2)) + (i 0).val
    rw [congrFun ho 0, hd]
    show _ * 4 + (0 + _) = _
    omega
  · show k0_off1 (peer c) 1 + 1 * (i 1).val = c.val % 2 + (i 1).val
    rw [congrFun ho 1, hd]
    show 1 - _ + _ = _
    omega
  · show k0_off1 (peer c) 2 + 1 * (i 2).val = 0 + (i 2).val
    rw [congrFun ho 2, Nat.one_mul]; rfl
  · show k0_off1 (peer c) 3 + 1 * (i 3).val = 0 + (i 3).val
    rw [congrFun ho 3, Nat.one_mul]; rfl

/-- The pieces laid end to end: the reference's fourth result. -/
def whole (A : (⟨4, ![32, 2, 1168, 2048]⟩ : Shape).Idx → Elt F .bf16) : (⟨4, ![32, 1, 1168, 2048]⟩ : Shape).Idx → Elt F .bf16 :=
  concatenate ⟨4, ![32, 1, 1168, 2048]⟩ 0 (List.ofFn fun c : Fin 8 => ⟨⟨4, ![4, 1, 1168, 2048]⟩, Cert.SwapProof.piece A c⟩)
    Cert.LnReferenceIdeal.Gen.concatenates_S4x1x1168x2048_S4x1x1168x2048_S4x1x1168x2048_S4x1x1168x2048_S4x1x1168x2048_S4x1x1168x2048_S4x1x1168x2048_S4x1x1168x2048_S32x1x1168x2048_d0

theorem got_eq (m : (ℓ : Loc nD τ sig) → Buf (Elt F) ℓ) (A : (⟨4, ![32, 2, 1168, 2048]⟩ : Shape).Idx → Elt F .bf16)
    (hA : ∀ c : Dev nD, m ((c : Thread nD τ).loc main_arg3) = Layout.block ⟨4, ![4, 2, 1168, 2048]⟩ ⟨4, ![32, 2, 1168, 2048]⟩ 0 8 c A) (c : Dev nD) :
    got m c = Layout.block ⟨4, ![4, 1, 1168, 2048]⟩ ⟨4, ![32, 1, 1168, 2048]⟩ 0 8 c (whole A) := by
  unfold got whole
  rw [hA (peer c), sent_eq]
  exact (Layout.block_concatenate_ofFn (t := ⟨4, ![32, 1, 1168, 2048]⟩) 0 (Cert.SwapProof.piece A) _ (by decide) c).symm

end Cert.LnProof

end
-- ==== Proof.LnClaims.lean ====
/-
# The gradient through the layer norm with the swap inside a chip: its claims
-/
module

public import proofs.«01_k».proof.Defs
public import proofs.«01_k».proof.Proof.LnValue
public import proofs.«01_k».proof.Proof.Gen.LnSwap
public import proofs.«01_k».proof.Proof.Gen.LnReferenceIdeal.Run

@[expose] public section

set_option maxRecDepth 16384

noncomputable section

namespace Cert.LnProof

open Cert.LnSwapIdeal Cert.LnSwapIdeal.Gen
open Idealize.ShloMosaic Idealize.ShloMosaic.TcCoe Idealize.SL.Sem

variable {F : FTy → Type} [FloatOps F]
variable (m : (ℓ : Loc nD τ sig) → Buf (Elt F) ℓ)

theorem kept (c : Dev nD) (s : MemSt nD τ sig (Elt F))
    (h : (∀ w, s.mem ((cfg0.win w).arr.view.loc (c : Thread nD τ)) = (dats m 0 c).arrAt w cfg0.N) ∧ rest m c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3) :=
  ⟨(h.1 0).trans ((dats m 0 c).arrAt_in 0 rfl _), (h.1 1).trans ((dats m 0 c).arrAt_in 1 rfl _),
    (h.1 2).trans ((dats m 0 c).arrAt_in 2 rfl _), h.2.1⟩

/-- The two programs' body tables agree. -/
theorem bodies : @Cert.LnSwap.defs₀ F _ _ = @Cert.LnSwapIdeal.defs₀ F _ _ := by
  funext p ℓ a
  match p, ℓ, a with
  | .tc, ⟨0, _⟩, ⟨_, _⟩ => rfl
  | .scScalar _, ⟨0, _⟩, _ => rfl
  | .scVector _ _, ⟨0, _⟩, _ => rfl

theorem tables : @Cert.LnSwap.defs F _ _ = @Cert.LnSwapIdeal.defs F _ _ :=
  congrArg (Pipeline.defs Cert.LnSwapIdeal.pcfgs) bodies

theorem quiescent : Cert.quiescent_LnSwap := fun m ρ _ => by
  rw [tables]
  exact (θ_run Cert.LnSwapIdeal.defs _ _).mono (fun r h => ⟨fun c => kept m c r.2 (h.1 c), h.2⟩) (run_main (F := Bits) m ρ)
theorem quiescent_ideal : Cert.quiescent_LnSwapIdeal := fun m ρ _ =>
  (θ_run Cert.LnSwapIdeal.defs _ _).mono (fun r h => ⟨fun c => kept m c r.2 (h.1 c), h.2⟩) (run_main (F := Ideal) m ρ)
theorem quiescent_ref : Cert.quiescent_LnReferenceIdeal := fun m ρ _ =>
  (θ_run Cert.LnReferenceIdeal.defs _ _).mono (fun r h => ⟨fun c => (h c).2.2.2.2, sem_eq_zero_of_no_sems (by decide) r.2⟩)
    (Cert.LnReferenceIdeal.Value.run (F := Ideal) m ρ)
theorem preserved : Cert.preserves_LnSwap_LnSwapIdeal := trivial

section
variable (m' : (ℓ : Loc Cert.LnReferenceIdeal.nD Cert.LnReferenceIdeal.τ Cert.LnReferenceIdeal.sig) → Buf (Elt Ideal) ℓ)

/-- The reference's operands. -/
abbrev aX : (⟨2, ![32768, 2048]⟩ : Shape).Idx → Ideal .f32 := m' (((0 : Dev 1) : Thread 1 Cert.LnReferenceIdeal.τ).loc Cert.LnReferenceIdeal.main_arg0)
abbrev aP : (⟨2, ![32768, 2048]⟩ : Shape).Idx → Ideal .f32 := m' (((0 : Dev 1) : Thread 1 Cert.LnReferenceIdeal.τ).loc Cert.LnReferenceIdeal.main_arg1)
abbrev aG : (⟨2, ![1, 2048]⟩ : Shape).Idx → Ideal .f32 := m' (((0 : Dev 1) : Thread 1 Cert.LnReferenceIdeal.τ).loc Cert.LnReferenceIdeal.main_arg2)
abbrev aS : (⟨4, ![32, 2, 1168, 2048]⟩ : Shape).Idx → Ideal .bf16 := m' (((0 : Dev 1) : Thread 1 Cert.LnReferenceIdeal.τ).loc Cert.LnReferenceIdeal.main_arg3)

theorem ref_0 : Cert.LnReferenceIdeal.Value.res_out0 m' 0 = dpres (aP m') (aX m') (aG m') := rfl
theorem ref_1 : Cert.LnReferenceIdeal.Value.res_out1 m' 0 = truncf .bf16 (dpres (aP m') (aX m') (aG m')) Cert.LnReferenceIdeal.Gen.bitsLt_bf16_f32 := rfl
end

theorem algebraic : Cert.algebraic_LnSwapIdeal_LnReferenceIdeal := fun m g m' g' _ hm =>
  ⟨dpres (aP m') (aX m') (aG m'), truncf .bf16 (dpres (aP m') (aX m') (aG m')) Cert.LnReferenceIdeal.Gen.bitsLt_bf16_f32,
    dgbs (aP m') (aX m'), whole (F := Ideal) (aS m'),
    (θ_run Cert.LnSwapIdeal.defs _ _).mono (fun r h c =>
      ⟨((h.1 c).1 3).trans ((final_3 m c).trans (resP_eq m c _ _ _ (hm c).1 (hm c).2.1 (hm c).2.2.1)),
        ((h.1 c).1 4).trans ((final_4 m c).trans (resB_eq m c _ _ _ (hm c).1 (hm c).2.1 (hm c).2.2.1)),
        ((h.1 c).1 5).trans ((final_5 m c).trans (resS_eq m c _ _ (hm c).1 (hm c).2.1)),
        (h.1 c).2.2.trans (got_eq m _ (fun d => (hm d).2.2.2) c), kept m c r.2 (h.1 c)⟩) (run_main (F := Ideal) m g),
    (θ_run Cert.LnReferenceIdeal.defs _ _).mono (fun _ h => ⟨(h 0).1.trans (ref_0 m'), (h 0).2.1.trans (ref_1 m'), (h 0).2.2.1, (h 0).2.2.2⟩)
      (Cert.LnReferenceIdeal.Value.run (F := Ideal) m' g')⟩

end Cert.LnProof

end
-- ==== Proof.AttnStep.lean ====
/-
# The gradients of attention, one grid point: blocks of rows and what a block adds

`Cert.AttnProof`: the blocks of 512 rows of the arrays a grid point reads (`rows`, `upd`), what one block of queries adds
to the gradients of the keys, the values and the queries (`first`, `step`), the sums over the blocks from the diagonal to
the end (`run`), and the parts of the kernel's body as moves between these. Over any float values.
-/
module

public import proofs.«01_k».proof.Proof.Staged
public import proofs.«01_k».proof.Proof.Gen.AttnIdeal.Skeleton
public import proofs.«01_k».proof.Proof.Gen.AttnIdeal.Launch
public import proofs.«01_k».proof.Proof.Gen.AttnIdeal.Points
public import Idealize.ShloMosaic.Lib.Pointwise.Index

@[expose] public section

set_option maxRecDepth 16384

noncomputable section

namespace Cert.AttnProof

open Cert.AttnIdeal Cert.AttnIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Proof.Staged (get put put_emb put_off)

/-! ## Blocks of rows -/

section Blocks
variable {α : Type}

/-- Rows `512 b …` of an array. -/
def rows (b : ℕ) (X : S4096x128.Idx → α) : S512x128.Idx → α :=
  fun i => X (ix2 (n0 := 4096) (n1 := 128) ⟨(512 * b + (i 0).val) % 4096, Nat.mod_lt _ (by decide)⟩ (i 1))
def rowsW (b : ℕ) (X : S4096x256.Idx → α) : S512x256.Idx → α :=
  fun i => X (ix2 (n0 := 4096) (n1 := 256) ⟨(512 * b + (i 0).val) % 4096, Nat.mod_lt _ (by decide)⟩ (i 1))
/-- The first and the second 128 columns of such rows. -/
def rowsL (b : ℕ) (X : S4096x256.Idx → α) : S512x128.Idx → α :=
  fun i => X (ix2 (n0 := 4096) (n1 := 256) ⟨(512 * b + (i 0).val) % 4096, Nat.mod_lt _ (by decide)⟩ ⟨(i 1).val, lt_of_lt_of_le (i 1).isLt (by decide)⟩)
def rowsR (b : ℕ) (X : S4096x256.Idx → α) : S512x128.Idx → α :=
  fun i => X (ix2 (n0 := 4096) (n1 := 256) ⟨(512 * b + (i 0).val) % 4096, Nat.mod_lt _ (by decide)⟩ ⟨128 + (i 1).val, by have := (i 1).isLt; change (i 1).val < 128 at this; omega⟩)
def colsL (X : S512x256.Idx → α) : S512x128.Idx → α :=
  fun i => X (ix2 (n0 := 512) (n1 := 256) (i 0) ⟨(i 1).val, lt_of_lt_of_le (i 1).isLt (by decide)⟩)
def colsR (X : S512x256.Idx → α) : S512x128.Idx → α :=
  fun i => X (ix2 (n0 := 512) (n1 := 256) (i 0) ⟨128 + (i 1).val, by have := (i 1).isLt; change (i 1).val < 128 at this; omega⟩)

/-- Rows `512 b …` of an array replaced. -/
def upd (b : ℕ) (w : S512x128.Idx → α) (X : S4096x128.Idx → α) : S4096x128.Idx → α :=
  fun i => if (i 0).val / 512 = b then w (ix2 (n0 := 512) (n1 := 128) ⟨(i 0).val % 512, Nat.mod_lt _ (by decide)⟩ (i 1)) else X i
def updW (b : ℕ) (w : S512x256.Idx → α) (X : S4096x256.Idx → α) : S4096x256.Idx → α :=
  fun i => if (i 0).val / 512 = b then w (ix2 (n0 := 512) (n1 := 256) ⟨(i 0).val % 512, Nat.mod_lt _ (by decide)⟩ (i 1)) else X i
/-- Columns `512 b …` of a row vector replaced. -/
def updC (b : ℕ) (w : S1x8x512.Idx → α) (X : S1x8x4096.Idx → α) : S1x8x4096.Idx → α :=
  fun i => if (i 2).val / 512 = b then w (ix3 (n0 := 1) (n1 := 8) (n2 := 512) (i 0) (i 1) ⟨(i 2).val % 512, Nat.mod_lt _ (by decide)⟩) else X i

end Blocks

section Rects
variable {Val : EltTy → Type} {e : EltTy} {b : ℕ} (hb : b < 8)
include hb

theorem get_rows {off : Fin 2 → ℕ} (h : off = ![512 * b, 0]) (inb : ∀ a, off a + S512x128.size a ≤ S4096x128.size a) (X : S4096x128.Idx → Val e) :
    get (Rect.unit (s := S4096x128) off S512x128.size inb) X = rows b X := by
  subst h
  funext x
  have hx : (x 0).val < 512 := (x 0).isLt
  refine congrArg X (funext fun a => Fin.ext ?_)
  fin_cases a
  · show 512 * b + 1 * (x 0).val = (512 * b + (x 0).val) % 4096
    rw [Nat.mod_eq_of_lt (by omega)]; omega
  · show 0 + 1 * (x 1).val = (x 1).val
    omega
theorem get_rowsW {off : Fin 2 → ℕ} (h : off = ![512 * b, 0]) (inb : ∀ a, off a + S512x256.size a ≤ S4096x256.size a) (X : S4096x256.Idx → Val e) :
    get (Rect.unit (s := S4096x256) off S512x256.size inb) X = rowsW b X := by
  subst h
  funext x
  have hx : (x 0).val < 512 := (x 0).isLt
  refine congrArg X (funext fun a => Fin.ext ?_)
  fin_cases a
  · show 512 * b + 1 * (x 0).val = (512 * b + (x 0).val) % 4096
    rw [Nat.mod_eq_of_lt (by omega)]; omega
  · show 0 + 1 * (x 1).val = (x 1).val
    omega
theorem get_rowsL {off : Fin 2 → ℕ} (h : off = ![512 * b, 0]) (inb : ∀ a, off a + S512x128.size a ≤ S4096x256.size a) (X : S4096x256.Idx → Val e) :
    get (Rect.unit (s := S4096x256) off S512x128.size inb) X = rowsL b X := by
  subst h
  funext x
  have hx : (x 0).val < 512 := (x 0).isLt
  refine congrArg X (funext fun a => Fin.ext ?_)
  fin_cases a
  · show 512 * b + 1 * (x 0).val = (512 * b + (x 0).val) % 4096
    rw [Nat.mod_eq_of_lt (by omega)]; omega
  · show 0 + 1 * (x 1).val = (x 1).val
    omega
theorem get_rowsR {off : Fin 2 → ℕ} (h : off = ![512 * b, 128]) (inb : ∀ a, off a + S512x128.size a ≤ S4096x256.size a) (X : S4096x256.Idx → Val e) :
    get (Rect.unit (s := S4096x256) off S512x128.size inb) X = rowsR b X := by
  subst h
  funext x
  have hx : (x 0).val < 512 := (x 0).isLt
  refine congrArg X (funext fun a => Fin.ext ?_)
  fin_cases a
  · show 512 * b + 1 * (x 0).val = (512 * b + (x 0).val) % 4096
    rw [Nat.mod_eq_of_lt (by omega)]; omega
  · show 128 + 1 * (x 1).val = 128 + (x 1).val
    omega

theorem put_rows {off : Fin 2 → ℕ} (h : off = ![512 * b, 0]) (inb : ∀ a, off a + S512x128.size a ≤ S4096x128.size a) (w : S512x128.Idx → Val e) (X : S4096x128.Idx → Val e) :
    put (Rect.unit (s := S4096x128) off S512x128.size inb) w X = upd b w X := by
  subst h
  funext i
  have hi : (i 0).val < 4096 := (i 0).isLt
  unfold upd
  split
  · rename_i hq
    have he : (Rect.unit (s := S4096x128) ![512 * b, 0] S512x128.size inb).emb (ix2 (n0 := 512) (n1 := 128) ⟨(i 0).val % 512, Nat.mod_lt _ (by decide)⟩ (i 1)) = i := by
      refine funext fun a => Fin.ext ?_
      fin_cases a
      · show 512 * b + 1 * ((i 0).val % 512) = (i 0).val
        omega
      · show 0 + 1 * (i 1).val = (i 1).val
        omega
    exact (congrArg (put (Rect.unit (s := S4096x128) ![512 * b, 0] S512x128.size inb) w X) he.symm).trans (put_emb (Val := Val) (e := e) (Rect.unit (s := S4096x128) ![512 * b, 0] S512x128.size inb) w X _)
  · rename_i hq
    refine put_off _ _ _ fun x hx => hq ?_
    have h0 : (x 0).val < 512 := (x 0).isLt
    have : 512 * b + 1 * (x 0).val = (i 0).val := congrArg (fun j : S4096x128.Idx => (j 0).val) hx
    omega
theorem put_rowsW {off : Fin 2 → ℕ} (h : off = ![512 * b, 0]) (inb : ∀ a, off a + S512x256.size a ≤ S4096x256.size a) (w : S512x256.Idx → Val e) (X : S4096x256.Idx → Val e) :
    put (Rect.unit (s := S4096x256) off S512x256.size inb) w X = updW b w X := by
  subst h
  funext i
  have hi : (i 0).val < 4096 := (i 0).isLt
  unfold updW
  split
  · rename_i hq
    have he : (Rect.unit (s := S4096x256) ![512 * b, 0] S512x256.size inb).emb (ix2 (n0 := 512) (n1 := 256) ⟨(i 0).val % 512, Nat.mod_lt _ (by decide)⟩ (i 1)) = i := by
      refine funext fun a => Fin.ext ?_
      fin_cases a
      · show 512 * b + 1 * ((i 0).val % 512) = (i 0).val
        omega
      · show 0 + 1 * (i 1).val = (i 1).val
        omega
    exact (congrArg (put (Rect.unit (s := S4096x256) ![512 * b, 0] S512x256.size inb) w X) he.symm).trans (put_emb (Val := Val) (e := e) (Rect.unit (s := S4096x256) ![512 * b, 0] S512x256.size inb) w X _)
  · rename_i hq
    refine put_off _ _ _ fun x hx => hq ?_
    have h0 : (x 0).val < 512 := (x 0).isLt
    have : 512 * b + 1 * (x 0).val = (i 0).val := congrArg (fun j : S4096x256.Idx => (j 0).val) hx
    omega
theorem put_cols {off : Fin 3 → ℕ} (h : off = ![0, 0, 512 * b]) (inb : ∀ a, off a + S1x8x512.size a ≤ S1x8x4096.size a) (w : S1x8x512.Idx → Val e) (X : S1x8x4096.Idx → Val e) :
    put (Rect.unit (s := S1x8x4096) off S1x8x512.size inb) w X = updC b w X := by
  subst h
  funext i
  have hi : (i 2).val < 4096 := (i 2).isLt
  unfold updC
  split
  · rename_i hq
    have he : (Rect.unit (s := S1x8x4096) ![0, 0, 512 * b] S1x8x512.size inb).emb (ix3 (n0 := 1) (n1 := 8) (n2 := 512) (i 0) (i 1) ⟨(i 2).val % 512, Nat.mod_lt _ (by decide)⟩) = i := by
      refine funext fun a => Fin.ext ?_
      fin_cases a
      · show 0 + 1 * (i 0).val = (i 0).val
        omega
      · show 0 + 1 * (i 1).val = (i 1).val
        omega
      · show 512 * b + 1 * ((i 2).val % 512) = (i 2).val
        omega
    exact (congrArg (put (Rect.unit (s := S1x8x4096) ![0, 0, 512 * b] S1x8x512.size inb) w X) he.symm).trans (put_emb (Val := Val) (e := e) (Rect.unit (s := S1x8x4096) ![0, 0, 512 * b] S1x8x512.size inb) w X _)
  · rename_i hq
    refine put_off _ _ _ fun x hx => hq ?_
    have h0 : (x 2).val < 512 := (x 2).isLt
    have : 512 * b + 1 * (x 2).val = (i 2).val := congrArg (fun j : S1x8x4096.Idx => (j 2).val) hx
    omega

end Rects

theorem get_colsL {Val : EltTy → Type} {e : EltTy} (inb : ∀ a, (![0, 0] : Fin 2 → ℕ) a + S512x128.size a ≤ S512x256.size a) (X : S512x256.Idx → Val e) :
    get (Rect.unit (s := S512x256) ![0, 0] S512x128.size inb) X = colsL X := by
  funext x
  refine congrArg X (funext fun a => Fin.ext ?_)
  fin_cases a
  · show 0 + 1 * (x 0).val = (x 0).val
    omega
  · show 0 + 1 * (x 1).val = (x 1).val
    omega
theorem get_colsR {Val : EltTy → Type} {e : EltTy} (inb : ∀ a, (![0, 128] : Fin 2 → ℕ) a + S512x128.size a ≤ S512x256.size a) (X : S512x256.Idx → Val e) :
    get (Rect.unit (s := S512x256) ![0, 128] S512x128.size inb) X = colsR X := by
  funext x
  refine congrArg X (funext fun a => Fin.ext ?_)
  fin_cases a
  · show 0 + 1 * (x 0).val = (x 0).val
    omega
  · show 128 + 1 * (x 1).val = 128 + (x 1).val
    omega

variable {F : FTy → Type} [FloatOps F]

/-! ## What a block adds -/

/-- The arrays a grid point reads: the head's queries, keys and values, the gradient of the output, the queries'
logarithms and sums, and the keys' decay. -/
structure Ins (F : FTy → Type) [FloatOps F] where
  q : Vec F S4096x128 .bf16
  k : Vec F S512x128 .bf16
  v : Vec F S512x128 .bf16
  d : Vec F S4096x128 .bf16
  lse : Vec F S4096x128 .f32
  delta : Vec F S4096x128 .f32
  cum : Vec F S1x1x1x512 .f32

/-- The sums: of the queries' gradients, the keys' and the values'. -/
structure Acc (F : FTy → Type) [FloatOps F] where
  a : Vec F S4096x256 .f32
  b : Vec F S512x256 .f32
  v : Vec F S512x128 .f32

/-- The products a block starts from, for two blocks at a time. -/
structure Sc (F : FTy → Type) [FloatOps F] where
  sa : Vec F S512x512 .f32
  da : Vec F S512x512 .f32
  sb : Vec F S512x512 .f32
  db : Vec F S512x512 .f32

/-- The results. -/
structure Outs (F : FTy → Type) [FloatOps F] where
  dq : Vec F S4096x128 .bf16
  dk : Vec F S512x128 .bf16
  dv : Vec F S512x128 .bf16
  drow : Vec F S1x8x4096 .f32
  dcol : Vec F S1x8x512 .f32

variable (x : Ins F)

/-- Block `b` of the queries by the keys, and of the output's gradient by the values. -/
def sIn (b : ℕ) : Vec F S512x512 .f32 := k0_pay1 (k0_pay46 x.k) (rows b x.q)
def dIn (b : ℕ) : Vec F S512x512 .f32 := k0_pay2 (k0_pay47 x.v) (rows b x.d)

/-- The block on the diagonal, and one under it, from the two products. -/
def firstS (b : ℕ) (s d : Vec F S512x512 .f32) (y : Acc F) : Acc F where
  a := updW b (k0_pay61 (k0_pay49 x.k) (k0_pay55 (k0_pay48 x.cum) s) (k0_pay56 (rows b x.lse)) d (rows b x.delta) (rowsW b y.a)) y.a
  b := k0_pay60 k0_pay50 (k0_pay55 (k0_pay48 x.cum) s) (k0_pay56 (rows b x.lse)) d (rows b x.delta) y.b (rows b x.q)
  v := k0_pay59 (k0_pay55 (k0_pay48 x.cum) s) (k0_pay56 (rows b x.lse)) y.v (rows b x.d)
def stepS (b : ℕ) (s d : Vec F S512x512 .f32) (y : Acc F) : Acc F where
  a := updW b (k0_pay7 (k0_pay49 x.k) (k0_pay3 (k0_pay48 x.cum) s (rows b x.lse)) d (rows b x.delta) (rowsW b y.a)) y.a
  b := k0_pay6 k0_pay50 (k0_pay3 (k0_pay48 x.cum) s (rows b x.lse)) d (rows b x.delta) y.b (rows b x.q)
  v := k0_pay5 (k0_pay3 (k0_pay48 x.cum) s (rows b x.lse)) y.v (rows b x.d)
def first (b : ℕ) (y : Acc F) : Acc F := firstS x b (sIn x b) (dIn x b) y
def step (b : ℕ) (y : Acc F) : Acc F := stepS x b (sIn x b) (dIn x b) y

/-- The blocks `b`, `b + 1`, … one after the other, `n` of them. -/
def run (b : ℕ) (y : Acc F) : ℕ → Acc F
  | 0 => y
  | n + 1 => step x (b + n) (run b y n)

/-- The sums a point starts from: zeros, but for the queries' gradients after the first block of keys. -/
def start (b : ℕ) (A : Vec F S4096x256 .f32) : Acc F := ⟨if b = 0 then k0_pay43 else A, k0_pay44, k0_pay45⟩

/-- The sums with the diagonal's block, and at the end. -/
def diag (b : ℕ) (A : Vec F S4096x256 .f32) : Acc F := first x b (start b A)
def fin (b : ℕ) (A : Vec F S4096x256 .f32) : Acc F := run x (b + 1) (diag x b A) (7 - b)

/-! ## The copies of the same values in the printed body -/

theorem c51 (u w) : k0_pay51 (F := F) u w = k0_pay1 u w := rfl
theorem c52 (u w) : k0_pay52 (F := F) u w = k0_pay2 u w := rfl
theorem c53 (u w) : k0_pay53 (F := F) u w = k0_pay1 u w := rfl
theorem c54 (u w) : k0_pay54 (F := F) u w = k0_pay2 u w := rfl
theorem c8 (u w) : k0_pay8 (F := F) u w = k0_pay1 u w := rfl
theorem c9 (u w) : k0_pay9 (F := F) u w = k0_pay2 u w := rfl
theorem c29 (u w) : k0_pay29 (F := F) u w = k0_pay1 u w := rfl
theorem c30 (u w) : k0_pay30 (F := F) u w = k0_pay2 u w := rfl
theorem c64 (c s l V d) : k0_pay64 (F := F) V (k0_pay12 c s l) d = k0_pay5 (k0_pay3 c s l) V d := rfl
theorem c65 (c s l p e o B q) : k0_pay65 (F := F) o (k0_pay11 c s l p e) B q = k0_pay6 o (k0_pay3 c s l) p e B q := rfl
theorem c66 (c s l p e k A) : k0_pay66 (F := F) k (k0_pay11 c s l p e) A = k0_pay7 k (k0_pay3 c s l) p e A := rfl
theorem c27 (c s l V d) : k0_pay27 (F := F) c s l V d = k0_pay5 (k0_pay3 c s l) V d := rfl
theorem c70 (c s l p e o B q) : k0_pay70 (F := F) (k0_pay28 c o s l p e B q) = k0_pay6 o (k0_pay3 c s l) p e B q := rfl
theorem c71 (c s l p e k A) : k0_pay71 (F := F) k (k0_pay26 c s l p e) A = k0_pay7 k (k0_pay3 c s l) p e A := rfl
theorem c34 (c s l V d) : k0_pay34 (F := F) (k0_pay31 c s l) V d = k0_pay5 (k0_pay3 c s l) V d := rfl
theorem c35 (c s l p e o B q) : k0_pay35 (F := F) o (k0_pay32 c s l p e) B q = k0_pay6 o (k0_pay3 c s l) p e B q := rfl
theorem c36 (c s l p e k A) : k0_pay36 (F := F) k (k0_pay32 c s l p e) A = k0_pay7 k (k0_pay3 c s l) p e A := rfl
theorem c40 (c s l V d) : k0_pay40 (F := F) (k0_pay37 c s) l V d = k0_pay5 (k0_pay3 c s l) V d := rfl
theorem c41 (c s l p e o B q) : k0_pay41 (F := F) o (k0_pay37 c s) l p e B q = k0_pay6 o (k0_pay3 c s l) p e B q := rfl
theorem c72 (c s l p e k A) : k0_pay72 (F := F) (k0_pay42 k (k0_pay37 c s) l p e A) = k0_pay7 k (k0_pay3 c s l) p e A := rfl

/-! ## The offsets and the branches -/

theorem o4 : ∀ t : Fin grid0.N, k0_off4 (grid0.coords t) = ![512 * (t.val % 8), 0] := by decide +kernel
theorem o5 : ∀ t : Fin grid0.N, k0_off5 (grid0.coords t) = ![512 * (t.val % 8 + 1), 0] := by decide +kernel
theorem o6 : ∀ t : Fin grid0.N, k0_off6 (grid0.coords t) = ![512 * (t.val % 8), 0] := by decide +kernel
theorem o7 : ∀ t : Fin grid0.N, k0_off7 (grid0.coords t) = ![512 * (t.val % 8), 0] := by decide +kernel
theorem o8 : ∀ t : Fin grid0.N, k0_off8 (grid0.coords t) = ![512 * (t.val % 8), 128] := by decide +kernel
theorem o9 : ∀ t : Fin grid0.N, k0_off9 (grid0.coords t) = ![0, 0, 512 * (t.val % 8)] := by decide +kernel
theorem o10a : ∀ (t : Fin grid0.N) (j : Fin (k0_t1_loop (grid0.coords t)).trips), k0_off10 (grid0.coords t) j 1#32 = ![512 * (t.val % 8 + 1 + 2 * j.val + 1), 0] := by decide +kernel
theorem o10b : ∀ (t : Fin grid0.N) (j : Fin (k0_t1_loop (grid0.coords t)).trips), k0_off10 (grid0.coords t) j 2#32 = ![512 * (t.val % 8 + 1 + 2 * j.val + 2), 0] := by decide +kernel
theorem o11 : ∀ (t : Fin grid0.N) (j : Fin (k0_t1_loop (grid0.coords t)).trips), k0_off11 (grid0.coords t) j = ![512 * (t.val % 8 + 1 + 2 * j.val), 0] := by decide +kernel
theorem o12 : ∀ (t : Fin grid0.N) (j : Fin (k0_t1_loop (grid0.coords t)).trips), k0_off12 (grid0.coords t) j = ![512 * (t.val % 8 + 1 + 2 * j.val), 0] := by decide +kernel
theorem o13 : ∀ (t : Fin grid0.N) (j : Fin (k0_t1_loop (grid0.coords t)).trips), k0_off13 (grid0.coords t) j = ![512 * (t.val % 8 + 1 + 2 * j.val + 1), 0] := by decide +kernel
theorem o18 : ∀ t : Fin grid0.N, k0_cond4 (grid0.coords t) = 1#1 → k0_off18 (grid0.coords t) = ![512 * 7, 0] := by decide +kernel
theorem o19 : ∀ t : Fin grid0.N, k0_cond4 (grid0.coords t) = 1#1 → k0_off19 (grid0.coords t) = ![512 * 7, 0] := by decide +kernel
theorem o20 : ∀ t : Fin grid0.N, k0_cond5 (grid0.coords t) = 1#1 → k0_off20 (grid0.coords t) = ![512 * 7, 0] := by decide +kernel
theorem o21 : ∀ t : Fin grid0.N, k0_cond5 (grid0.coords t) = 1#1 → k0_off21 (grid0.coords t) = ![512 * 6, 0] := by decide +kernel
theorem o22 : ∀ t : Fin grid0.N, k0_cond5 (grid0.coords t) = 1#1 → k0_off22 (grid0.coords t) = ![512 * 6, 0] := by decide +kernel
theorem o23 : ∀ t : Fin grid0.N, k0_cond5 (grid0.coords t) = 1#1 → k0_off23 (grid0.coords t) = ![512 * 7, 0] := by decide +kernel
theorem trips1 : ∀ t : Fin grid0.N, (k0_t1_loop (grid0.coords t)).trips = (6 - t.val % 8) / 2 := by decide +kernel
theorem trips2 : ∀ t : Fin grid0.N, (k0_t2_loop (grid0.coords t)).trips = 0 := fun t => Nat.le_zero.mp (k0_t2_abs _).2.1

abbrev cond2 (i : grid0.Coords) : BitVec 1 :=
  Scalar.cmpi .ne (Scalar.extui (Scalar.cmpi .eq (BitVec.ofNat 32 (i 1).val) 0#32) : BitVec 32) 0#32
theorem cond1_iff : ∀ t : Fin grid0.N, k0_cond1 (grid0.coords t) = 1#1 ↔ t.val = 0 := by decide +kernel
theorem cond2_iff : ∀ t : Fin grid0.N, cond2 (grid0.coords t) = 1#1 ↔ t.val % 8 = 0 := by decide +kernel
theorem cond3_iff : ∀ t : Fin grid0.N, k0_cond3 (grid0.coords t) = 1#1 ↔ t.val % 8 ≠ 7 := by decide +kernel
theorem cond4_iff : ∀ t : Fin grid0.N, k0_cond4 (grid0.coords t) = 1#1 ↔ t.val % 2 = 0 := by decide +kernel
theorem cond5_iff : ∀ t : Fin grid0.N, k0_cond5 (grid0.coords t) = 1#1 ↔ t.val % 2 = 1 ∧ t.val % 8 ≠ 7 := by decide +kernel
theorem cond6_iff : ∀ t : Fin grid0.N, k0_cond6 (grid0.coords t) = 1#1 ↔ t.val = 63 := by decide +kernel

theorem hz : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-! ## Loads and stores of blocks -/

abbrev 𝒱₀ : Variants := Variants.none

section Moves
variable {Ix : Type} [DecidableEq Ix] {Name : Type} [DecidableEq Name] {U : Type} [URA U] {Lvl : Type} [Preorder Lvl]

local notation "𝕄" => MT nD τ sig Ix (Elt F) Name U Lvl

variable (c : Dev nD) {α : Type} {Q : α → sProp (MT nD τ sig Ix (Elt F) Name U Lvl)}

theorem wp_rows {e : EltTy} {b : ℕ} (hb : b < 8) {m : Memref sig .tc .vmem S4096x128 e} {off : Fin 2 → ℕ} (h : off = ![512 * b, 0])
    {inb : ∀ a, off a + S512x128.size a ≤ S4096x128.size a} {hl : m.view.LoadsAt (Rect.unit (s := S4096x128) off S512x128.size inb).toLoadRect}
    {k : (S512x128.Idx → Elt F e) → Prog (TpuEff nD τ sig (Elt F) Λ₀ .tc) α} {X : S4096x128.Idx → Elt F e} :
    (owns (c : Thread nD τ) m fullShare X : sProp 𝕄)
      ⊢ iprop((owns (c : Thread nD τ) m fullShare X -∗ wp frame (wpE (defs₀ (F := F)) 𝒱₀ (c : Thread nD τ) none) Set.univ (k (rows b X)) Q)
          -∗ wp frame (wpE (defs₀ (F := F)) 𝒱₀ (c : Thread nD τ) none) Set.univ (.op (.load m (Rect.unit (s := S4096x128) off S512x128.size inb).toLoadRect hl) k) Q) := by
  have := Proof.Staged.wp_get (defs := defs₀ (F := F)) (Ix := Ix) (Name := Name) (U := U) (Lvl := Lvl) 𝒱₀ (c : Thread nD τ) (m := m) (inb := inb) (hl := hl) (k := k) (q := fullShare) (X := X) (Q := Q)
  rw [get_rows hb h] at this
  exact this

theorem wp_rowsW {e : EltTy} {b : ℕ} (hb : b < 8) {m : Memref sig .tc .vmem S4096x256 e} {off : Fin 2 → ℕ} (h : off = ![512 * b, 0])
    {inb : ∀ a, off a + S512x256.size a ≤ S4096x256.size a} {hl : m.view.LoadsAt (Rect.unit (s := S4096x256) off S512x256.size inb).toLoadRect}
    {k : (S512x256.Idx → Elt F e) → Prog (TpuEff nD τ sig (Elt F) Λ₀ .tc) α} {X : S4096x256.Idx → Elt F e} :
    (owns (c : Thread nD τ) m fullShare X : sProp 𝕄)
      ⊢ iprop((owns (c : Thread nD τ) m fullShare X -∗ wp frame (wpE (defs₀ (F := F)) 𝒱₀ (c : Thread nD τ) none) Set.univ (k (rowsW b X)) Q)
          -∗ wp frame (wpE (defs₀ (F := F)) 𝒱₀ (c : Thread nD τ) none) Set.univ (.op (.load m (Rect.unit (s := S4096x256) off S512x256.size inb).toLoadRect hl) k) Q) := by
  have := Proof.Staged.wp_get (defs := defs₀ (F := F)) (Ix := Ix) (Name := Name) (U := U) (Lvl := Lvl) 𝒱₀ (c : Thread nD τ) (m := m) (inb := inb) (hl := hl) (k := k) (q := fullShare) (X := X) (Q := Q)
  rw [get_rowsW hb h] at this
  exact this

theorem wp_rowsL {e : EltTy} {b : ℕ} (hb : b < 8) {m : Memref sig .tc .vmem S4096x256 e} {off : Fin 2 → ℕ} (h : off = ![512 * b, 0])
    {inb : ∀ a, off a + S512x128.size a ≤ S4096x256.size a} {hl : m.view.LoadsAt (Rect.unit (s := S4096x256) off S512x128.size inb).toLoadRect}
    {k : (S512x128.Idx → Elt F e) → Prog (TpuEff nD τ sig (Elt F) Λ₀ .tc) α} {X : S4096x256.Idx → Elt F e} :
    (owns (c : Thread nD τ) m fullShare X : sProp 𝕄)
      ⊢ iprop((owns (c : Thread nD τ) m fullShare X -∗ wp frame (wpE (defs₀ (F := F)) 𝒱₀ (c : Thread nD τ) none) Set.univ (k (rowsL b X)) Q)
          -∗ wp frame (wpE (defs₀ (F := F)) 𝒱₀ (c : Thread nD τ) none) Set.univ (.op (.load m (Rect.unit (s := S4096x256) off S512x128.size inb).toLoadRect hl) k) Q) := by
  have := Proof.Staged.wp_get (defs := defs₀ (F := F)) (Ix := Ix) (Name := Name) (U := U) (Lvl := Lvl) 𝒱₀ (c : Thread nD τ) (m := m) (inb := inb) (hl := hl) (k := k) (q := fullShare) (X := X) (Q := Q)
  rw [get_rowsL hb h] at this
  exact this

theorem wp_rowsR {e : EltTy} {b : ℕ} (hb : b < 8) {m : Memref sig .tc .vmem S4096x256 e} {off : Fin 2 → ℕ} (h : off = ![512 * b, 128])
    {inb : ∀ a, off a + S512x128.size a ≤ S4096x256.size a} {hl : m.view.LoadsAt (Rect.unit (s := S4096x256) off S512x128.size inb).toLoadRect}
    {k : (S512x128.Idx → Elt F e) → Prog (TpuEff nD τ sig (Elt F) Λ₀ .tc) α} {X : S4096x256.Idx → Elt F e} :
    (owns (c : Thread nD τ) m fullShare X : sProp 𝕄)
      ⊢ iprop((owns (c : Thread nD τ) m fullShare X -∗ wp frame (wpE (defs₀ (F := F)) 𝒱₀ (c : Thread nD τ) none) Set.univ (k (rowsR b X)) Q)
          -∗ wp frame (wpE (defs₀ (F := F)) 𝒱₀ (c : Thread nD τ) none) Set.univ (.op (.load m (Rect.unit (s := S4096x256) off S512x128.size inb).toLoadRect hl) k) Q) := by
  have := Proof.Staged.wp_get (defs := defs₀ (F := F)) (Ix := Ix) (Name := Name) (U := U) (Lvl := Lvl) 𝒱₀ (c : Thread nD τ) (m := m) (inb := inb) (hl := hl) (k := k) (q := fullShare) (X := X) (Q := Q)
  rw [get_rowsR hb h] at this
  exact this

theorem wp_putRows {e : EltTy} {b : ℕ} (hb : b < 8) {m : Memref sig .tc .vmem S4096x128 e} {off : Fin 2 → ℕ} (h : off = ![512 * b, 0])
    {inb : ∀ a, off a + S512x128.size a ≤ S4096x128.size a} {w : S512x128.Idx → Elt F e}
    {hx : (m.access (Rect.unit (s := S4096x128) off S512x128.size inb)).Stores Finset.univ} {hm : Finset.univ = Finset.univ ∨ ∀ a, (Rect.unit (s := S4096x128) off S512x128.size inb).stride a = 1}
    {k : PUnit → Prog (TpuEff nD τ sig (Elt F) Λ₀ .tc) α} {X : S4096x128.Idx → Elt F e} :
    (owns (c : Thread nD τ) m fullShare X : sProp 𝕄)
      ⊢ iprop((owns (c : Thread nD τ) m fullShare (upd b w X) -∗ wp frame (wpE (defs₀ (F := F)) 𝒱₀ (c : Thread nD τ) none) Set.univ (k ⟨⟩) Q)
          -∗ wp frame (wpE (defs₀ (F := F)) 𝒱₀ (c : Thread nD τ) none) Set.univ (.op (.store m (Rect.unit (s := S4096x128) off S512x128.size inb) w Finset.univ hx hm) k) Q) := by
  have := Proof.Staged.wp_put (defs := defs₀ (F := F)) (Ix := Ix) (Name := Name) (U := U) (Lvl := Lvl) 𝒱₀ (c : Thread nD τ) (m := m) (inb := inb) (w := w) (hx := hx) (hm := hm) (k := k) (X := X) (Q := Q)
  rw [put_rows hb h] at this
  exact this

theorem wp_putRowsW {e : EltTy} {b : ℕ} (hb : b < 8) {m : Memref sig .tc .vmem S4096x256 e} {off : Fin 2 → ℕ} (h : off = ![512 * b, 0])
    {inb : ∀ a, off a + S512x256.size a ≤ S4096x256.size a} {w : S512x256.Idx → Elt F e}
    {hx : (m.access (Rect.unit (s := S4096x256) off S512x256.size inb)).Stores Finset.univ} {hm : Finset.univ = Finset.univ ∨ ∀ a, (Rect.unit (s := S4096x256) off S512x256.size inb).stride a = 1}
    {k : PUnit → Prog (TpuEff nD τ sig (Elt F) Λ₀ .tc) α} {X : S4096x256.Idx → Elt F e} :
    (owns (c : Thread nD τ) m fullShare X : sProp 𝕄)
      ⊢ iprop((owns (c : Thread nD τ) m fullShare (updW b w X) -∗ wp frame (wpE (defs₀ (F := F)) 𝒱₀ (c : Thread nD τ) none) Set.univ (k ⟨⟩) Q)
          -∗ wp frame (wpE (defs₀ (F := F)) 𝒱₀ (c : Thread nD τ) none) Set.univ (.op (.store m (Rect.unit (s := S4096x256) off S512x256.size inb) w Finset.univ hx hm) k) Q) := by
  have := Proof.Staged.wp_put (defs := defs₀ (F := F)) (Ix := Ix) (Name := Name) (U := U) (Lvl := Lvl) 𝒱₀ (c : Thread nD τ) (m := m) (inb := inb) (w := w) (hx := hx) (hm := hm) (k := k) (X := X) (Q := Q)
  rw [put_rowsW hb h] at this
  exact this

theorem wp_putCols {e : EltTy} {b : ℕ} (hb : b < 8) {m : Memref sig .tc .vmem S1x8x4096 e} {off : Fin 3 → ℕ} (h : off = ![0, 0, 512 * b])
    {inb : ∀ a, off a + S1x8x512.size a ≤ S1x8x4096.size a} {w : S1x8x512.Idx → Elt F e}
    {hx : (m.access (Rect.unit (s := S1x8x4096) off S1x8x512.size inb)).Stores Finset.univ} {hm : Finset.univ = Finset.univ ∨ ∀ a, (Rect.unit (s := S1x8x4096) off S1x8x512.size inb).stride a = 1}
    {k : PUnit → Prog (TpuEff nD τ sig (Elt F) Λ₀ .tc) α} {X : S1x8x4096.Idx → Elt F e} :
    (owns (c : Thread nD τ) m fullShare X : sProp 𝕄)
      ⊢ iprop((owns (c : Thread nD τ) m fullShare (updC b w X) -∗ wp frame (wpE (defs₀ (F := F)) 𝒱₀ (c : Thread nD τ) none) Set.univ (k ⟨⟩) Q)
          -∗ wp frame (wpE (defs₀ (F := F)) 𝒱₀ (c : Thread nD τ) none) Set.univ (.op (.store m (Rect.unit (s := S1x8x4096) off S1x8x512.size inb) w Finset.univ hx hm) k) Q) := by
  have := Proof.Staged.wp_put (defs := defs₀ (F := F)) (Ix := Ix) (Name := Name) (U := U) (Lvl := Lvl) 𝒱₀ (c : Thread nD τ) (m := m) (inb := inb) (w := w) (hx := hx) (hm := hm) (k := k) (X := X) (Q := Q)
  rw [put_cols hb h] at this
  exact this

theorem wp_colsL {e : EltTy} {m : Memref sig .tc .vmem S512x256 e}
    {inb : ∀ a, (![0, 0] : Fin 2 → ℕ) a + S512x128.size a ≤ S512x256.size a} {hl : m.view.LoadsAt (Rect.unit (s := S512x256) ![0, 0] S512x128.size inb).toLoadRect}
    {k : (S512x128.Idx → Elt F e) → Prog (TpuEff nD τ sig (Elt F) Λ₀ .tc) α} {X : S512x256.Idx → Elt F e} :
    (owns (c : Thread nD τ) m fullShare X : sProp 𝕄)
      ⊢ iprop((owns (c : Thread nD τ) m fullShare X -∗ wp frame (wpE (defs₀ (F := F)) 𝒱₀ (c : Thread nD τ) none) Set.univ (k (colsL X)) Q)
          -∗ wp frame (wpE (defs₀ (F := F)) 𝒱₀ (c : Thread nD τ) none) Set.univ (.op (.load m (Rect.unit (s := S512x256) ![0, 0] S512x128.size inb).toLoadRect hl) k) Q) := by
  have := Proof.Staged.wp_get (defs := defs₀ (F := F)) (Ix := Ix) (Name := Name) (U := U) (Lvl := Lvl) 𝒱₀ (c : Thread nD τ) (m := m) (inb := inb) (hl := hl) (k := k) (q := fullShare) (X := X) (Q := Q)
  rw [get_colsL] at this
  exact this
theorem wp_colsR {e : EltTy} {m : Memref sig .tc .vmem S512x256 e}
    {inb : ∀ a, (![0, 128] : Fin 2 → ℕ) a + S512x128.size a ≤ S512x256.size a} {hl : m.view.LoadsAt (Rect.unit (s := S512x256) ![0, 128] S512x128.size inb).toLoadRect}
    {k : (S512x128.Idx → Elt F e) → Prog (TpuEff nD τ sig (Elt F) Λ₀ .tc) α} {X : S512x256.Idx → Elt F e} :
    (owns (c : Thread nD τ) m fullShare X : sProp 𝕄)
      ⊢ iprop((owns (c : Thread nD τ) m fullShare X -∗ wp frame (wpE (defs₀ (F := F)) 𝒱₀ (c : Thread nD τ) none) Set.univ (k (colsR X)) Q)
          -∗ wp frame (wpE (defs₀ (F := F)) 𝒱₀ (c : Thread nD τ) none) Set.univ (.op (.load m (Rect.unit (s := S512x256) ![0, 128] S512x128.size inb).toLoadRect hl) k) Q) := by
  have := Proof.Staged.wp_get (defs := defs₀ (F := F)) (Ix := Ix) (Name := Name) (U := U) (Lvl := Lvl) 𝒱₀ (c : Thread nD τ) (m := m) (inb := inb) (hl := hl) (k := k) (q := fullShare) (X := X) (Q := Q)
  rw [get_colsR] at this
  exact this

end Moves

/-! ## The parts of the body -/

section Parts
variable {Ix : Type} [DecidableEq Ix] {Name : Type} [DecidableEq Name] {U : Type} [URA U] {Lvl : Type} [Preorder Lvl]

local notation "𝕄" => MT nD τ sig Ix (Elt F) Name U Lvl

variable (c : Dev nD) (t : Fin cfg0.N)

/-- What a point has in its buffers. -/
def Mem (y : Acc F) (z : Sc F) (o : Outs F) : sProp 𝕄 :=
  iprop(owns (c : Thread nD τ) (st0_0 t) fullShare x.q ∗ owns (c : Thread nD τ) (st0_1 t) fullShare x.k ∗ owns (c : Thread nD τ) (st0_2 t) fullShare x.v
    ∗ owns (c : Thread nD τ) (st0_3 t) fullShare x.d ∗ owns (c : Thread nD τ) (st0_4 t) fullShare x.lse ∗ owns (c : Thread nD τ) (st0_5 t) fullShare x.delta
    ∗ owns (c : Thread nD τ) (st0_6 t) fullShare x.cum
    ∗ owns (c : Thread nD τ) (st0_7 t) fullShare o.dq ∗ owns (c : Thread nD τ) (st0_8 t) fullShare o.dk ∗ owns (c : Thread nD τ) (st0_9 t) fullShare o.dv
    ∗ owns (c : Thread nD τ) (st0_10 t) fullShare o.drow ∗ owns (c : Thread nD τ) (st0_11 t) fullShare o.dcol
    ∗ owns (c : Thread nD τ) (Memref.whole cc0_scratch0) fullShare y.a ∗ owns (c : Thread nD τ) (Memref.whole cc0_scratch1) fullShare y.b
    ∗ owns (c : Thread nD τ) (Memref.whole cc0_scratch2) fullShare y.v ∗ owns (c : Thread nD τ) (Memref.whole cc0_scratch3) fullShare z.sa
    ∗ owns (c : Thread nD τ) (Memref.whole cc0_scratch4) fullShare z.da ∗ owns (c : Thread nD τ) (Memref.whole cc0_scratch5) fullShare z.sb
    ∗ owns (c : Thread nD τ) (Memref.whole cc0_scratch6) fullShare z.db)

variable (y : Acc F) (z : Sc F) (o : Outs F)

theorem kb_lt : t.val % 8 < 8 := Nat.mod_lt _ (by decide)

theorem wp_part15 (a1 : BitVec 32) {Q : (Σ' (_ : BitVec 32) (_ : BitVec 32) (_ : FVec F S512x512 .f32), FVec F S512x512 .f32) → sProp (MT nD τ sig Ix (Elt F) Name U Lvl)} :
    (Mem x c t y z o : sProp 𝕄) ⊢ iprop((∀ r s, Mem x c t y ⟨sIn x (t.val % 8), dIn x (t.val % 8), if t.val % 8 = 7 then z.sb else sIn x (t.val % 8 + 1), if t.val % 8 = 7 then z.db else dIn x (t.val % 8 + 1)⟩ o -∗ Q ⟨r, s, k0_pay55 (k0_pay48 x.cum) (sIn x (t.val % 8)), k0_pay56 (rows (t.val % 8) x.lse)⟩)
      -∗ wp frame (wpE (defs₀ (F := F)) 𝒱₀ (c : Thread nD τ) none) Set.univ (k0_part15 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 a1 (k0_pay46 x.k) (k0_pay47 x.v) (k0_pay48 x.cum)) Q) := by
  simp only [k0_part15_eq_skeleton]; unfold k0_part15_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  by_cases h7 : t.val % 8 = 7
  · simp only [dif_neg (mt (cond3_iff t).mp (not_not.mpr h7)), if_pos h7, Prog.bind_op, Prog.bind_ret, Prog.pure_eq_ret]
    iapply (wp_rows c (kb_lt t) (o4 t)) $$ H0; iintro H0
    iapply (Proof.Staged.wp_read 𝒱₀ (c : Thread nD τ) hz) $$ S3; iintro S3
    iapply (Proof.Staged.wp_fill 𝒱₀ (c : Thread nD τ) hz) $$ S3; iintro S3
    iapply (wp_rows c (kb_lt t) (o4 t)) $$ H3; iintro H3
    iapply (Proof.Staged.wp_read 𝒱₀ (c : Thread nD τ) hz) $$ S4; iintro S4
    iapply (Proof.Staged.wp_fill 𝒱₀ (c : Thread nD τ) hz) $$ S4; iintro S4
    iapply (Proof.Staged.wp_read 𝒱₀ (c : Thread nD τ) hz) $$ S3; iintro S3
    iapply (wp_rows c (kb_lt t) (o4 t)) $$ H4; iintro H4
    rw [wp_ret]; imodintro
    simp only [c51, c52]
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  · have hb : t.val % 8 + 1 < 8 := by have := kb_lt t; omega
    simp only [dif_pos ((cond3_iff t).mpr h7), if_neg h7, Prog.bind_op, Prog.bind_ret, Prog.pure_eq_ret]
    iapply (wp_rows c (kb_lt t) (o4 t)) $$ H0; iintro H0
    iapply (Proof.Staged.wp_read 𝒱₀ (c : Thread nD τ) hz) $$ S3; iintro S3
    iapply (Proof.Staged.wp_fill 𝒱₀ (c : Thread nD τ) hz) $$ S3; iintro S3
    iapply (wp_rows c (kb_lt t) (o4 t)) $$ H3; iintro H3
    iapply (Proof.Staged.wp_read 𝒱₀ (c : Thread nD τ) hz) $$ S4; iintro S4
    iapply (Proof.Staged.wp_fill 𝒱₀ (c : Thread nD τ) hz) $$ S4; iintro S4
    iapply (wp_rows c hb (o5 t)) $$ H0; iintro H0
    iapply (Proof.Staged.wp_read 𝒱₀ (c : Thread nD τ) hz) $$ S5; iintro S5
    iapply (Proof.Staged.wp_fill 𝒱₀ (c : Thread nD τ) hz) $$ S5; iintro S5
    iapply (wp_rows c hb (o5 t)) $$ H3; iintro H3
    iapply (Proof.Staged.wp_read 𝒱₀ (c : Thread nD τ) hz) $$ S6; iintro S6
    iapply (Proof.Staged.wp_fill 𝒱₀ (c : Thread nD τ) hz) $$ S6; iintro S6
    iapply (Proof.Staged.wp_read 𝒱₀ (c : Thread nD τ) hz) $$ S3; iintro S3
    iapply (wp_rows c (kb_lt t) (o4 t)) $$ H4; iintro H4
    rw [wp_ret]; imodintro
    simp only [c51, c52, c53, c54]
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6

theorem wp_part16 (v53 : BitVec 32) {Q : BitVec 32 → sProp (MT nD τ sig Ix (Elt F) Name U Lvl)} :
    (Mem x c t y z o : sProp 𝕄) ⊢ iprop((Mem x c t (firstS x (t.val % 8) z.sa z.da y) z o -∗ Q 512#32)
      -∗ wp frame (wpE (defs₀ (F := F)) 𝒱₀ (c : Thread nD τ) none) Set.univ (k0_part16 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (k0_pay49 x.k) (k0_pay50 (F := F)) v53 (k0_pay55 (k0_pay48 x.cum) z.sa) (k0_pay56 (rows (t.val % 8) x.lse))) Q) := by
  simp only [k0_part16_eq_skeleton]; unfold k0_part16_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (Proof.Staged.wp_read 𝒱₀ (c : Thread nD τ) hz) $$ S4; iintro S4
  iapply (wp_rows c (kb_lt t) (o4 t)) $$ H5; iintro H5
  iapply (Proof.Staged.wp_read 𝒱₀ (c : Thread nD τ) hz) $$ S2; iintro S2
  iapply (wp_rows c (kb_lt t) (o4 t)) $$ H3; iintro H3
  iapply (Proof.Staged.wp_read 𝒱₀ (c : Thread nD τ) hz) $$ S2; iintro S2
  iapply (Proof.Staged.wp_fill 𝒱₀ (c : Thread nD τ) hz) $$ S2; iintro S2
  iapply (Proof.Staged.wp_read 𝒱₀ (c : Thread nD τ) hz) $$ S1; iintro S1
  iapply (wp_rows c (kb_lt t) (o4 t)) $$ H0; iintro H0
  iapply (Proof.Staged.wp_read 𝒱₀ (c : Thread nD τ) hz) $$ S1; iintro S1
  iapply (Proof.Staged.wp_fill 𝒱₀ (c : Thread nD τ) hz) $$ S1; iintro S1
  iapply (wp_rowsW c (kb_lt t) (o6 t)) $$ S0; iintro S0
  iapply (wp_rowsW c (kb_lt t) (o6 t)) $$ S0; iintro S0
  iapply (wp_putRowsW c (kb_lt t) (o6 t)) $$ S0; iintro S0
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

theorem wp_part17 (a1 b1 c0 : BitVec 32) {Q : (Σ' (_ : BitVec 32) (_ : BitVec 32), BitVec 32) → sProp (MT nD τ sig Ix (Elt F) Name U Lvl)} :
    (Mem x c t y z o : sProp 𝕄) ⊢ iprop((∀ r s u, Mem x c t y z ⟨upd (t.val % 8) (k0_pay62 (rowsL (t.val % 8) y.a)) o.dq, o.dk, o.dv, updC (t.val % 8) (k0_pay63 (rowsR (t.val % 8) y.a)) o.drow, o.dcol⟩ -∗ Q ⟨r, s, u⟩)
      -∗ wp frame (wpE (defs₀ (F := F)) 𝒱₀ (c : Thread nD τ) none) Set.univ (k0_part17 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 a1 b1 c0) Q) := by
  simp only [k0_part17_eq_skeleton]; unfold k0_part17_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (wp_rowsL c (kb_lt t) (o7 t)) $$ S0; iintro S0
  iapply (wp_rows c (kb_lt t) (o4 t)) $$ H7; iintro H7
  iapply (wp_putRows c (kb_lt t) (o4 t)) $$ H7; iintro H7
  iapply (wp_rowsR c (kb_lt t) (o8 t)) $$ S0; iintro S0
  iapply (Proof.Staged.wp_get 𝒱₀ (c : Thread nD τ)) $$ H10; iintro H10
  iapply (wp_putCols c (kb_lt t) (o9 t)) $$ H10; iintro H10
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

theorem j_lt (j : Fin (k0_t1_loop (grid0.coords t)).trips) : t.val % 8 + 1 + 2 * j.val + 2 < 8 := by
  have h : j.val < _ := j.isLt
  have h2 := trips1 t
  omega
theorem j_lt1 (j : Fin (k0_t1_loop (grid0.coords t)).trips) : t.val % 8 + 1 + 2 * j.val + 1 < 8 := by have := j_lt t j; omega
theorem j_lt0 (j : Fin (k0_t1_loop (grid0.coords t)).trips) : t.val % 8 + 1 + 2 * j.val < 8 := by have := j_lt t j; omega

theorem wp_part2 (a1 c0 c1 : BitVec 32) (j : Fin (k0_t1_loop (grid0.coords t)).trips) {Q : (Σ' (_ : BitVec 32) (_ : BitVec 32) (_ : FVec F S512x512 .f32), Vec F S512x512 .f32) → sProp (MT nD τ sig Ix (Elt F) Name U Lvl)} :
    (Mem x c t y z o : sProp 𝕄) ⊢ iprop((∀ r s, Mem x c t y ⟨sIn x ((t.val % 8 + 1 + 2 * j.val) + 1), dIn x ((t.val % 8 + 1 + 2 * j.val) + 1), z.sb, z.db⟩ o -∗ Q ⟨r, s, k0_pay3 (k0_pay48 x.cum) z.sb (rows (t.val % 8 + 1 + 2 * j.val) x.lse), z.db⟩)
      -∗ wp frame (wpE (defs₀ (F := F)) 𝒱₀ (c : Thread nD τ) none) Set.univ (k0_part2 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 a1 (k0_pay46 x.k) (k0_pay47 x.v) (k0_pay48 x.cum) c0 c1 j) Q) := by
  simp only [k0_part2_eq_skeleton]; unfold k0_part2_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (wp_rows c (j_lt1 t j) (o10a t j)) $$ H0; iintro H0
  iapply (Proof.Staged.wp_read 𝒱₀ (c : Thread nD τ) hz) $$ S3; iintro S3
  iapply (Proof.Staged.wp_fill 𝒱₀ (c : Thread nD τ) hz) $$ S3; iintro S3
  iapply (wp_rows c (j_lt1 t j) (o10a t j)) $$ H3; iintro H3
  iapply (Proof.Staged.wp_read 𝒱₀ (c : Thread nD τ) hz) $$ S4; iintro S4
  iapply (Proof.Staged.wp_fill 𝒱₀ (c : Thread nD τ) hz) $$ S4; iintro S4
  iapply (Proof.Staged.wp_read 𝒱₀ (c : Thread nD τ) hz) $$ S5; iintro S5
  iapply (wp_rows c (j_lt0 t j) (o11 t j)) $$ H4; iintro H4
  iapply (Proof.Staged.wp_read 𝒱₀ (c : Thread nD τ) hz) $$ S6; iintro S6
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

theorem wp_part3 (v178 v199 : BitVec 32) (j : Fin (k0_t1_loop (grid0.coords t)).trips) {Q : BitVec 32 → sProp (MT nD τ sig Ix (Elt F) Name U Lvl)} :
    (Mem x c t y z o : sProp 𝕄) ⊢ iprop((∀ r, Mem x c t (stepS x (t.val % 8 + 1 + 2 * j.val) z.sb z.db y) z o -∗ Q r)
      -∗ wp frame (wpE (defs₀ (F := F)) 𝒱₀ (c : Thread nD τ) none) Set.univ (k0_part3 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (k0_pay49 x.k) (k0_pay50 (F := F)) j v178 v199 (k0_pay3 (k0_pay48 x.cum) z.sb (rows (t.val % 8 + 1 + 2 * j.val) x.lse)) z.db) Q) := by
  simp only [k0_part3_eq_skeleton]; unfold k0_part3_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (wp_rows c (j_lt0 t j) (o11 t j)) $$ H5; iintro H5
  iapply (Proof.Staged.wp_read 𝒱₀ (c : Thread nD τ) hz) $$ S2; iintro S2
  iapply (wp_rows c (j_lt0 t j) (o11 t j)) $$ H3; iintro H3
  iapply (Proof.Staged.wp_read 𝒱₀ (c : Thread nD τ) hz) $$ S2; iintro S2
  iapply (Proof.Staged.wp_fill 𝒱₀ (c : Thread nD τ) hz) $$ S2; iintro S2
  iapply (Proof.Staged.wp_read 𝒱₀ (c : Thread nD τ) hz) $$ S1; iintro S1
  iapply (wp_rows c (j_lt0 t j) (o11 t j)) $$ H0; iintro H0
  iapply (Proof.Staged.wp_read 𝒱₀ (c : Thread nD τ) hz) $$ S1; iintro S1
  iapply (Proof.Staged.wp_fill 𝒱₀ (c : Thread nD τ) hz) $$ S1; iintro S1
  iapply (wp_rowsW c (j_lt0 t j) (o12 t j)) $$ S0; iintro S0
  iapply (wp_rowsW c (j_lt0 t j) (o12 t j)) $$ S0; iintro S0
  iapply (wp_putRowsW c (j_lt0 t j) (o12 t j)) $$ S0; iintro S0
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

theorem wp_part4 (v178 v247 : BitVec 32) (j : Fin (k0_t1_loop (grid0.coords t)).trips) {Q : (Σ' (_ : BitVec 32) (_ : FVec F S512x512 .bf16) (_ : Vec F S512x128 .f32), FVec F S512x512 .bf16) → sProp (MT nD τ sig Ix (Elt F) Name U Lvl)} :
    (Mem x c t y z o : sProp 𝕄) ⊢ iprop((∀ r, Mem x c t y ⟨z.sa, z.da, sIn x ((t.val % 8 + 1 + 2 * j.val) + 2), dIn x ((t.val % 8 + 1 + 2 * j.val) + 2)⟩ o -∗ Q ⟨r, k0_pay11 (k0_pay48 x.cum) z.sa (rows ((t.val % 8 + 1 + 2 * j.val) + 1) x.lse) z.da (rows ((t.val % 8 + 1 + 2 * j.val) + 1) x.delta), y.v, k0_pay12 (k0_pay48 x.cum) z.sa (rows ((t.val % 8 + 1 + 2 * j.val) + 1) x.lse)⟩)
      -∗ wp frame (wpE (defs₀ (F := F)) 𝒱₀ (c : Thread nD τ) none) Set.univ (k0_part4 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (k0_pay46 x.k) (k0_pay47 x.v) (k0_pay48 x.cum) j v178 v247) Q) := by
  simp only [k0_part4_eq_skeleton]; unfold k0_part4_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (wp_rows c (j_lt t j) (o10b t j)) $$ H0; iintro H0
  iapply (Proof.Staged.wp_read 𝒱₀ (c : Thread nD τ) hz) $$ S5; iintro S5
  iapply (Proof.Staged.wp_fill 𝒱₀ (c : Thread nD τ) hz) $$ S5; iintro S5
  iapply (wp_rows c (j_lt t j) (o10b t j)) $$ H3; iintro H3
  iapply (Proof.Staged.wp_read 𝒱₀ (c : Thread nD τ) hz) $$ S6; iintro S6
  iapply (Proof.Staged.wp_fill 𝒱₀ (c : Thread nD τ) hz) $$ S6; iintro S6
  iapply (Proof.Staged.wp_read 𝒱₀ (c : Thread nD τ) hz) $$ S3; iintro S3
  iapply (wp_rows c (j_lt1 t j) (o10a t j)) $$ H4; iintro H4
  iapply (Proof.Staged.wp_read 𝒱₀ (c : Thread nD τ) hz) $$ S4; iintro S4
  iapply (wp_rows c (j_lt1 t j) (o10a t j)) $$ H5; iintro H5
  iapply (Proof.Staged.wp_read 𝒱₀ (c : Thread nD τ) hz) $$ S2; iintro S2
  rw [wp_ret]; imodintro
  simp only [c8, c9]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

theorem wp_part8 (v149 : BitVec 32) (h4 : k0_cond4 (grid0.coords t) = 1#1) {Q : (Σ' (_ : BitVec 32) (_ : FVec F S512x512 .bf16) (_ : FVec F S512x256 .f32), Vec F S512x256 .f32) → sProp (MT nD τ sig Ix (Elt F) Name U Lvl)} :
    (Mem x c t y z o : sProp 𝕄) ⊢ iprop((∀ r s, Mem x c t { y with v := (stepS x 7 z.sb z.db y).v } z o -∗ Q ⟨r, k0_pay26 (k0_pay48 x.cum) z.sb (rows 7 x.lse) z.db (rows 7 x.delta), k0_pay28 (k0_pay48 x.cum) (k0_pay50 (F := F)) z.sb (rows 7 x.lse) z.db (rows 7 x.delta) y.b (rows 7 x.q), s⟩)
      -∗ wp frame (wpE (defs₀ (F := F)) 𝒱₀ (c : Thread nD τ) none) Set.univ (k0_part8 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (k0_pay48 x.cum) (k0_pay50 (F := F)) v149 h4) Q) := by
  simp only [k0_part8_eq_skeleton]; unfold k0_part8_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (Proof.Staged.wp_read 𝒱₀ (c : Thread nD τ) hz) $$ S5; iintro S5
  iapply (wp_rows c (by decide : 7 < 8) (o18 t h4)) $$ H4; iintro H4
  iapply (Proof.Staged.wp_read 𝒱₀ (c : Thread nD τ) hz) $$ S6; iintro S6
  iapply (wp_rows c (by decide : 7 < 8) (o18 t h4)) $$ H5; iintro H5
  iapply (Proof.Staged.wp_read 𝒱₀ (c : Thread nD τ) hz) $$ S2; iintro S2
  iapply (wp_rows c (by decide : 7 < 8) (o18 t h4)) $$ H3; iintro H3
  iapply (Proof.Staged.wp_read 𝒱₀ (c : Thread nD τ) hz) $$ S2; iintro S2
  iapply (Proof.Staged.wp_fill 𝒱₀ (c : Thread nD τ) hz) $$ S2; iintro S2
  iapply (Proof.Staged.wp_read 𝒱₀ (c : Thread nD τ) hz) $$ S1; iintro S1
  iapply (wp_rows c (by decide : 7 < 8) (o18 t h4)) $$ H0; iintro H0
  iapply (Proof.Staged.wp_read 𝒱₀ (c : Thread nD τ) hz) $$ S1; iintro S1
  rw [wp_ret]; imodintro
  simp only [c27]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

theorem wp_part9 (v149 : BitVec 32) (h5 : k0_cond5 (grid0.coords t) = 1#1) {Q : (Σ' (_ : BitVec 32) (_ : FVec F S512x512 .f32), FVec F S512x512 .f32) → sProp (MT nD τ sig Ix (Elt F) Name U Lvl)} :
    (Mem x c t y z o : sProp 𝕄) ⊢ iprop((∀ r, Mem x c t y ⟨sIn x 7, dIn x 7, z.sb, z.db⟩ o -∗ Q ⟨r, k0_pay31 (k0_pay48 x.cum) z.sb (rows 6 x.lse), k0_pay32 (k0_pay48 x.cum) z.sb (rows 6 x.lse) z.db (rows 6 x.delta)⟩)
      -∗ wp frame (wpE (defs₀ (F := F)) 𝒱₀ (c : Thread nD τ) none) Set.univ (k0_part9 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (k0_pay46 x.k) (k0_pay47 x.v) (k0_pay48 x.cum) v149 h5) Q) := by
  simp only [k0_part9_eq_skeleton]; unfold k0_part9_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (wp_rows c (by decide : 7 < 8) (o20 t h5)) $$ H0; iintro H0
  iapply (Proof.Staged.wp_read 𝒱₀ (c : Thread nD τ) hz) $$ S3; iintro S3
  iapply (Proof.Staged.wp_fill 𝒱₀ (c : Thread nD τ) hz) $$ S3; iintro S3
  iapply (wp_rows c (by decide : 7 < 8) (o20 t h5)) $$ H3; iintro H3
  iapply (Proof.Staged.wp_read 𝒱₀ (c : Thread nD τ) hz) $$ S4; iintro S4
  iapply (Proof.Staged.wp_fill 𝒱₀ (c : Thread nD τ) hz) $$ S4; iintro S4
  iapply (Proof.Staged.wp_read 𝒱₀ (c : Thread nD τ) hz) $$ S5; iintro S5
  iapply (wp_rows c (by decide : 6 < 8) (o21 t h5)) $$ H4; iintro H4
  iapply (Proof.Staged.wp_read 𝒱₀ (c : Thread nD τ) hz) $$ S6; iintro S6
  iapply (wp_rows c (by decide : 6 < 8) (o21 t h5)) $$ H5; iintro H5
  rw [wp_ret]; imodintro
  simp only [c29, c30]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

theorem wp_part10 (v149 v196 : BitVec 32) (h5 : k0_cond5 (grid0.coords t) = 1#1) {Q : (Σ' (_ : BitVec 32), FVec F S512x512 .f32) → sProp (MT nD τ sig Ix (Elt F) Name U Lvl)} :
    (Mem x c t y z o : sProp 𝕄) ⊢ iprop((∀ r, Mem x c t (stepS x 6 z.sb z.db y) z o -∗ Q ⟨r, k0_pay37 (k0_pay48 x.cum) z.sa⟩)
      -∗ wp frame (wpE (defs₀ (F := F)) 𝒱₀ (c : Thread nD τ) none) Set.univ (k0_part10 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (k0_pay48 x.cum) (k0_pay49 x.k) (k0_pay50 (F := F)) v149 h5 v196 (k0_pay31 (k0_pay48 x.cum) z.sb (rows 6 x.lse)) (k0_pay32 (k0_pay48 x.cum) z.sb (rows 6 x.lse) z.db (rows 6 x.delta))) Q) := by
  simp only [k0_part10_eq_skeleton]; unfold k0_part10_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (Proof.Staged.wp_read 𝒱₀ (c : Thread nD τ) hz) $$ S2; iintro S2
  iapply (wp_rows c (by decide : 6 < 8) (o21 t h5)) $$ H3; iintro H3
  iapply (Proof.Staged.wp_read 𝒱₀ (c : Thread nD τ) hz) $$ S2; iintro S2
  iapply (Proof.Staged.wp_fill 𝒱₀ (c : Thread nD τ) hz) $$ S2; iintro S2
  iapply (Proof.Staged.wp_read 𝒱₀ (c : Thread nD τ) hz) $$ S1; iintro S1
  iapply (wp_rows c (by decide : 6 < 8) (o21 t h5)) $$ H0; iintro H0
  iapply (Proof.Staged.wp_read 𝒱₀ (c : Thread nD τ) hz) $$ S1; iintro S1
  iapply (Proof.Staged.wp_fill 𝒱₀ (c : Thread nD τ) hz) $$ S1; iintro S1
  iapply (wp_rowsW c (by decide : 6 < 8) (o22 t h5)) $$ S0; iintro S0
  iapply (wp_rowsW c (by decide : 6 < 8) (o22 t h5)) $$ S0; iintro S0
  iapply (wp_putRowsW c (by decide : 6 < 8) (o22 t h5)) $$ S0; iintro S0
  iapply (Proof.Staged.wp_read 𝒱₀ (c : Thread nD τ) hz) $$ S3; iintro S3
  rw [wp_ret]; imodintro
  simp only [c34, c35, c36]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

theorem wp_part11 (v246 : BitVec 32) (h5 : k0_cond5 (grid0.coords t) = 1#1) {Q : (FVec F S512x256 .f32) → sProp (MT nD τ sig Ix (Elt F) Name U Lvl)} :
    (Mem x c t y z o : sProp 𝕄) ⊢ iprop((Mem x c t { stepS x 7 z.sa z.da y with a := y.a } z o -∗ Q (k0_pay42 (k0_pay49 x.k) (k0_pay37 (k0_pay48 x.cum) z.sa) (rows 7 x.lse) z.da (rows 7 x.delta) (rowsW 7 y.a)))
      -∗ wp frame (wpE (defs₀ (F := F)) 𝒱₀ (c : Thread nD τ) none) Set.univ (k0_part11 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (k0_pay49 x.k) (k0_pay50 (F := F)) h5 v246 (k0_pay37 (k0_pay48 x.cum) z.sa)) Q) := by
  simp only [k0_part11_eq_skeleton]; unfold k0_part11_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  iapply (wp_rows c (by decide : 7 < 8) (o20 t h5)) $$ H4; iintro H4
  iapply (Proof.Staged.wp_read 𝒱₀ (c : Thread nD τ) hz) $$ S4; iintro S4
  iapply (wp_rows c (by decide : 7 < 8) (o20 t h5)) $$ H5; iintro H5
  iapply (Proof.Staged.wp_read 𝒱₀ (c : Thread nD τ) hz) $$ S2; iintro S2
  iapply (wp_rows c (by decide : 7 < 8) (o20 t h5)) $$ H3; iintro H3
  iapply (Proof.Staged.wp_read 𝒱₀ (c : Thread nD τ) hz) $$ S2; iintro S2
  iapply (Proof.Staged.wp_fill 𝒱₀ (c : Thread nD τ) hz) $$ S2; iintro S2
  iapply (Proof.Staged.wp_read 𝒱₀ (c : Thread nD τ) hz) $$ S1; iintro S1
  iapply (wp_rows c (by decide : 7 < 8) (o20 t h5)) $$ H0; iintro H0
  iapply (Proof.Staged.wp_read 𝒱₀ (c : Thread nD τ) hz) $$ S1; iintro S1
  iapply (Proof.Staged.wp_fill 𝒱₀ (c : Thread nD τ) hz) $$ S1; iintro S1
  iapply (wp_rowsW c (by decide : 7 < 8) (o23 t h5)) $$ S0; iintro S0
  rw [wp_ret]; imodintro
  simp only [c40, c41]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

/-- One turn of the loop: two blocks. -/
theorem wp_body (a1 : BitVec 32) (b1 : BitVec 1) (b2 b3 b4 b5 : BitVec 32) (j : Fin (k0_t1_loop (grid0.coords t)).trips)
    {Q : Unit → sProp (MT nD τ sig Ix (Elt F) Name U Lvl)} :
    (Mem x c t y z o : sProp 𝕄) ⊢ iprop((Mem x c t (stepS x ((t.val % 8 + 1 + 2 * j.val) + 1) (sIn x ((t.val % 8 + 1 + 2 * j.val) + 1)) (dIn x ((t.val % 8 + 1 + 2 * j.val) + 1)) (stepS x (t.val % 8 + 1 + 2 * j.val) z.sb z.db y))
        ⟨sIn x ((t.val % 8 + 1 + 2 * j.val) + 1), dIn x ((t.val % 8 + 1 + 2 * j.val) + 1), sIn x ((t.val % 8 + 1 + 2 * j.val) + 2), dIn x ((t.val % 8 + 1 + 2 * j.val) + 2)⟩ o -∗ Q ⟨⟩)
      -∗ wp frame (wpE (defs₀ (F := F)) 𝒱₀ (c : Thread nD τ) none) Set.univ (k0_t1_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 a1 b1 (k0_pay46 x.k) (k0_pay47 x.v) (k0_pay48 x.cum) (k0_pay49 x.k) (k0_pay50 (F := F)) b2 b3 b4 b5 j ⟨⟩) Q) := by
  unfold k0_t1_body
  dsimp only
  iintro HM Hk
  rw [wp_bind]
  iapply (wp_part2 x c t y z o a1 b4 _ j) $$ HM
  iintro %r2 %s2 HM
  dsimp only
  rw [wp_bind]
  iapply (wp_part3 x c t y _ o r2 s2 j) $$ HM
  iintro %r3 HM
  dsimp only
  rw [wp_bind]
  iapply (wp_part4 x c t _ _ o r2 r3 j) $$ HM
  iintro %r4 HM
  dsimp only
  simp only [Prog.lift, Prog.bind_op, Prog.bind_ret, Prog.pure_eq_ret]
  unfold Mem
  irevert HM Hk
  simp only [sIn, dIn, stepS]
  iintro ⟨H0, H1, H2, H3, H4, H5, H6, H7, H8, H9, H10, H11, S0, S1, S2, S3, S4, S5, S6⟩ Hk
  iapply (wp_rows c (j_lt1 t j) (o10a t j)) $$ H3; iintro H3
  iapply (Proof.Staged.wp_read 𝒱₀ (c : Thread nD τ) hz) $$ S2; iintro S2
  iapply (Proof.Staged.wp_fill 𝒱₀ (c : Thread nD τ) hz) $$ S2; iintro S2
  iapply (Proof.Staged.wp_read 𝒱₀ (c : Thread nD τ) hz) $$ S1; iintro S1
  iapply (wp_rows c (j_lt1 t j) (o10a t j)) $$ H0; iintro H0
  iapply (Proof.Staged.wp_read 𝒱₀ (c : Thread nD τ) hz) $$ S1; iintro S1
  iapply (Proof.Staged.wp_fill 𝒱₀ (c : Thread nD τ) hz) $$ S1; iintro S1
  iapply (wp_rowsW c (j_lt1 t j) (o13 t j)) $$ S0; iintro S0
  iapply (wp_rowsW c (j_lt1 t j) (o13 t j)) $$ S0; iintro S0
  iapply (wp_putRowsW c (j_lt1 t j) (o13 t j)) $$ S0; iintro S0
  rw [wp_ret]; imodintro
  simp only [c64, c65, c66]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iexact S6

/-- What the loop has done after `j` turns. -/
def Turn (j : ℕ) : sProp 𝕄 :=
  iprop(∃ z : Sc F, ⌜t.val % 8 ≠ 7 → z.sb = sIn x (t.val % 8 + 1 + 2 * j) ∧ z.db = dIn x (t.val % 8 + 1 + 2 * j)⌝ ∗ Mem x c t (run x (t.val % 8 + 1) y (2 * j)) z o)

theorem wp_turn (a1 : BitVec 32) (b1 : BitVec 1) (b2 b3 b4 b5 : BitVec 32) (j : Fin (k0_t1_loop (grid0.coords t)).trips)  :
    (Turn x c t y o j.val : sProp 𝕄) ⊢ wp frame (wpE (defs₀ (F := F)) 𝒱₀ (c : Thread nD τ) none) Set.univ (k0_t1_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 a1 b1 (k0_pay46 x.k) (k0_pay47 x.v) (k0_pay48 x.cum) (k0_pay49 x.k) (k0_pay50 (F := F)) b2 b3 b4 b5 j ⟨⟩) (fun _ => Turn x c t y o (j.val + 1)) := by
  unfold Turn
  iintro ⟨%z, %hz, HM⟩
  have h7 : t.val % 8 ≠ 7 := by have := j_lt t j; omega
  iapply (wp_body x c t _ z o a1 b1 b2 b3 b4 b5 j) $$ HM
  iintro HM
  iexists _
  isplitr [HM]
  rotate_left
  · rw [(hz h7).1, (hz h7).2]
    iexact HM
  · ipureintro
    exact fun _ => ⟨rfl, rfl⟩

/-- The blocks under the diagonal, and the keys' results. -/
theorem wp_part18 (a1 : BitVec 32) (b1 : BitVec 1) (b2 b3 b4 b5 : BitVec 32)
    (hzz : t.val % 8 ≠ 7 → z.sb = sIn x (t.val % 8 + 1) ∧ z.db = dIn x (t.val % 8 + 1))
    {Q : BitVec 32 → sProp (MT nD τ sig Ix (Elt F) Name U Lvl)} :
    (Mem x c t y z o : sProp 𝕄) ⊢ iprop((∀ r z', Mem x c t (run x (t.val % 8 + 1) y (7 - t.val % 8)) z'
        ⟨o.dq, k0_pay73 (colsL (run x (t.val % 8 + 1) y (7 - t.val % 8)).b), k0_pay75 (run x (t.val % 8 + 1) y (7 - t.val % 8)).v, o.drow,
          k0_pay74 (colsR (run x (t.val % 8 + 1) y (7 - t.val % 8)).b)⟩ -∗ Q r)
      -∗ wp frame (wpE (defs₀ (F := F)) 𝒱₀ (c : Thread nD τ) none) Set.univ (k0_part18 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 a1 b1 (k0_pay46 x.k) (k0_pay47 x.v) (k0_pay48 x.cum) (k0_pay49 x.k) (k0_pay50 (F := F)) b2 b3 b4 b5) Q) := by
  simp only [k0_part18_eq_skeleton]; unfold k0_part18_skel
  dsimp only
  iintro HM Hk
  iapply (Scf.wp_for_bind Idealize.ShloMosaic.frame (wpE (defs₀ (F := F)) 𝒱₀ (c : Thread nD τ) none) Set.univ _ _ _ _ _ _ (fun j _ => Turn x c t y o j)
    (fun j _ => wp_turn x c t y o a1 b1 b2 b3 b4 b5 j)) $$ [HM]
  · unfold Turn
    iexists z
    isplitr [HM]
    · ipureintro; exact hzz
    · iexact HM
  iintro %u HT
  iapply (Scf.wp_for_bind Idealize.ShloMosaic.frame (wpE (defs₀ (F := F)) 𝒱₀ (c : Thread nD τ) none) Set.univ _ _ _ _ _ _ (fun _ _ => Turn x c t y o ((6 - t.val % 8) / 2))
    (fun j _ => absurd (lt_of_lt_of_eq j.isLt (trips2 t)) (Nat.not_lt_zero _))) $$ [HT]
  · rw [← trips1 t]; iexact HT
  iintro %u2 HT
  unfold Turn
  icases HT with ⟨%z', %hz', HM⟩
  have hkb := kb_lt t
  rcases (show t.val % 8 = 7 ∨ t.val % 2 = 0 ∨ (t.val % 8 ≠ 7 ∧ t.val % 2 = 1) by omega) with h7 | he | ⟨h7, ho⟩
  · rw [dif_neg (mt (cond4_iff t).mp (by omega)), dif_neg (mt (cond5_iff t).mp (by omega))]
    rw [show 2 * ((6 - t.val % 8) / 2) = 7 - t.val % 8 by omega]
    simp only [Prog.lift, Prog.bind_op, Prog.bind_ret, Prog.pure_eq_ret]
    unfold Mem
    icases HM with ⟨H0, H1, H2, H3, H4, H5, H6, H7, H8, H9, H10, H11, S0, S1, S2, S3, S4, S5, S6⟩
    iapply (wp_colsL c) $$ S1; iintro S1
    iapply (Proof.Staged.wp_read 𝒱₀ (c : Thread nD τ) hz) $$ H8; iintro H8
    iapply (Proof.Staged.wp_fill 𝒱₀ (c : Thread nD τ) hz) $$ H8; iintro H8
    iapply (wp_colsR c) $$ S1; iintro S1
    iapply (Proof.Staged.wp_read 𝒱₀ (c : Thread nD τ) hz3) $$ H11; iintro H11
    iapply (Proof.Staged.wp_fill 𝒱₀ (c : Thread nD τ) hz3) $$ H11; iintro H11
    iapply (Proof.Staged.wp_read 𝒱₀ (c : Thread nD τ) hz) $$ S2; iintro S2
    iapply (Proof.Staged.wp_read 𝒱₀ (c : Thread nD τ) hz) $$ H9; iintro H9
    iapply (Proof.Staged.wp_fill 𝒱₀ (c : Thread nD τ) hz) $$ H9; iintro H9
    rw [wp_ret]; imodintro
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  · rw [dif_pos ((cond4_iff t).mpr he), dif_neg (mt (cond5_iff t).mp (by omega))]
    obtain ⟨hs, hd⟩ := hz' (by omega)
    rw [show t.val % 8 + 1 + 2 * ((6 - t.val % 8) / 2) = 7 by omega] at hs hd
    rw [show 7 - t.val % 8 = 2 * ((6 - t.val % 8) / 2) + 1 by omega]
    have hr : run x (t.val % 8 + 1) y (2 * ((6 - t.val % 8) / 2) + 1) = stepS x 7 z'.sb z'.db (run x (t.val % 8 + 1) y (2 * ((6 - t.val % 8) / 2))) := by
      rw [hs, hd]
      show step x (t.val % 8 + 1 + 2 * ((6 - t.val % 8) / 2)) _ = step x 7 _
      rw [show t.val % 8 + 1 + 2 * ((6 - t.val % 8) / 2) = 7 by omega]
    rw [hr]
    generalize run x (t.val % 8 + 1) y (2 * ((6 - t.val % 8) / 2)) = w
    rw [wp_bind]
    iapply (wp_part8 x c t _ _ o _ ((cond4_iff t).mpr he)) $$ HM
    iintro %r8 %s8 HM
    dsimp only
    simp only [Prog.lift, Prog.bind_op, Prog.bind_ret, Prog.pure_eq_ret]
    unfold Mem
    simp only [stepS]
    icases HM with ⟨H0, H1, H2, H3, H4, H5, H6, H7, H8, H9, H10, H11, S0, S1, S2, S3, S4, S5, S6⟩
    iapply (Proof.Staged.wp_fill 𝒱₀ (c : Thread nD τ) hz) $$ S1; iintro S1
    iapply (wp_rowsW c (by decide : 7 < 8) (o19 t ((cond4_iff t).mpr he))) $$ S0; iintro S0
    iapply (wp_rowsW c (by decide : 7 < 8) (o19 t ((cond4_iff t).mpr he))) $$ S0; iintro S0
    iapply (wp_putRowsW c (by decide : 7 < 8) (o19 t ((cond4_iff t).mpr he))) $$ S0; iintro S0
    iapply (wp_colsL c) $$ S1; iintro S1
    iapply (Proof.Staged.wp_read 𝒱₀ (c : Thread nD τ) hz) $$ H8; iintro H8
    iapply (Proof.Staged.wp_fill 𝒱₀ (c : Thread nD τ) hz) $$ H8; iintro H8
    iapply (wp_colsR c) $$ S1; iintro S1
    iapply (Proof.Staged.wp_read 𝒱₀ (c : Thread nD τ) hz3) $$ H11; iintro H11
    iapply (Proof.Staged.wp_fill 𝒱₀ (c : Thread nD τ) hz3) $$ H11; iintro H11
    iapply (Proof.Staged.wp_read 𝒱₀ (c : Thread nD τ) hz) $$ S2; iintro S2
    iapply (Proof.Staged.wp_read 𝒱₀ (c : Thread nD τ) hz) $$ H9; iintro H9
    iapply (Proof.Staged.wp_fill 𝒱₀ (c : Thread nD τ) hz) $$ H9; iintro H9
    rw [wp_ret]; imodintro
    simp only [c70, c71]
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  · have h5 : k0_cond5 (grid0.coords t) = 1#1 := (cond5_iff t).mpr ⟨ho, h7⟩
    rw [dif_neg (mt (cond4_iff t).mp (by omega)), dif_pos h5]
    obtain ⟨hs, hd⟩ := hz' (by omega)
    rw [show t.val % 8 + 1 + 2 * ((6 - t.val % 8) / 2) = 6 by omega] at hs hd
    rw [show 7 - t.val % 8 = 2 * ((6 - t.val % 8) / 2) + 2 by omega]
    have hr : run x (t.val % 8 + 1) y (2 * ((6 - t.val % 8) / 2) + 2)
        = stepS x 7 (sIn x 7) (dIn x 7) (stepS x 6 z'.sb z'.db (run x (t.val % 8 + 1) y (2 * ((6 - t.val % 8) / 2)))) := by
      rw [hs, hd]
      show step x (t.val % 8 + 1 + (2 * ((6 - t.val % 8) / 2) + 1)) (step x (t.val % 8 + 1 + 2 * ((6 - t.val % 8) / 2)) _) = step x 7 (step x 6 _)
      rw [show t.val % 8 + 1 + 2 * ((6 - t.val % 8) / 2) = 6 by omega, show t.val % 8 + 1 + (2 * ((6 - t.val % 8) / 2) + 1) = 7 by omega]
    rw [hr]
    generalize run x (t.val % 8 + 1) y (2 * ((6 - t.val % 8) / 2)) = w
    rw [wp_bind]
    iapply (wp_part9 x c t _ _ o _ h5) $$ HM
    iintro %r9 HM
    dsimp only
    rw [wp_bind]
    iapply (wp_part10 x c t _ _ o _ _ h5) $$ HM
    iintro %r10 HM
    dsimp only
    rw [wp_bind]
    iapply (wp_part11 x c t _ _ o _ h5) $$ HM
    iintro HM
    dsimp only
    generalize (⟨sIn x 7, dIn x 7, z'.sb, z'.db⟩ : Sc F) = zz
    simp only [Prog.lift, Prog.bind_op, Prog.bind_ret, Prog.pure_eq_ret]
    unfold Mem
    simp only [stepS, sIn, dIn]
    icases HM with ⟨H0, H1, H2, H3, H4, H5, H6, H7, H8, H9, H10, H11, S0, S1, S2, S3, S4, S5, S6⟩
    iapply (wp_rowsW c (by decide : 7 < 8) (o23 t h5)) $$ S0; iintro S0
    iapply (wp_putRowsW c (by decide : 7 < 8) (o23 t h5)) $$ S0; iintro S0
    iapply (wp_colsL c) $$ S1; iintro S1
    iapply (Proof.Staged.wp_read 𝒱₀ (c : Thread nD τ) hz) $$ H8; iintro H8
    iapply (Proof.Staged.wp_fill 𝒱₀ (c : Thread nD τ) hz) $$ H8; iintro H8
    iapply (wp_colsR c) $$ S1; iintro S1
    iapply (Proof.Staged.wp_read 𝒱₀ (c : Thread nD τ) hz3) $$ H11; iintro H11
    iapply (Proof.Staged.wp_fill 𝒱₀ (c : Thread nD τ) hz3) $$ H11; iintro H11
    iapply (Proof.Staged.wp_read 𝒱₀ (c : Thread nD τ) hz) $$ S2; iintro S2
    iapply (Proof.Staged.wp_read 𝒱₀ (c : Thread nD τ) hz) $$ H9; iintro H9
    iapply (Proof.Staged.wp_fill 𝒱₀ (c : Thread nD τ) hz) $$ H9; iintro H9
    rw [wp_ret]; imodintro
    simp only [c72]
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6

/-- The first part of the body but for the sends. -/
theorem wp_part14 (h0 : t.val ≠ 0) {Q : (Σ' (_ : BitVec 32) (_ : BitVec 1) (_ : FVec F S512x128 .bf16) (_ : FVec F S512x128 .bf16) (_ : FVec F S1x512 .f32) (_ : FVec F S512x256 .bf16), FVec F S512x128 .bf16) → sProp (MT nD τ sig Ix (Elt F) Name U Lvl)} :
    (Mem x c t y z o : sProp 𝕄) ⊢ iprop((∀ r s, Mem x c t (start (t.val % 8) y.a) z o -∗ Q ⟨r, s, (k0_pay46 x.k), (k0_pay47 x.v), (k0_pay48 x.cum), (k0_pay49 x.k), (k0_pay50 (F := F))⟩)
      -∗ wp frame (wpE (defs₀ (F := F)) 𝒱₀ (c : Thread nD τ) none) Set.univ (k0_part14 (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) Q) := by
  simp only [k0_part14_eq_skeleton]; unfold k0_part14_skel
  dsimp only
  simp only [Prog.lift, Prog.bind_op, Prog.bind_ret, Prog.pure_eq_ret]
  unfold Mem
  simp only [sIn, dIn, stepS, firstS]
  iintro ⟨H0, H1, H2, H3, H4, H5, H6, H7, H8, H9, H10, H11, S0, S1, S2, S3, S4, S5, S6⟩ Hk
  simp only [dif_neg (mt (cond1_iff t).mp h0), start]
  by_cases hk : t.val % 8 = 0
  · simp only [dif_pos ((cond2_iff t).mpr hk), if_pos hk, Prog.bind_op, Prog.bind_ret, Prog.pure_eq_ret]
    iapply (Proof.Staged.wp_read 𝒱₀ (c : Thread nD τ) hz) $$ S0; iintro S0
    iapply (Proof.Staged.wp_fill 𝒱₀ (c : Thread nD τ) hz) $$ S0; iintro S0
    iapply (Proof.Staged.wp_read 𝒱₀ (c : Thread nD τ) hz) $$ S1; iintro S1
    iapply (Proof.Staged.wp_fill 𝒱₀ (c : Thread nD τ) hz) $$ S1; iintro S1
    iapply (Proof.Staged.wp_read 𝒱₀ (c : Thread nD τ) hz) $$ S2; iintro S2
    iapply (Proof.Staged.wp_fill 𝒱₀ (c : Thread nD τ) hz) $$ S2; iintro S2
    iapply (Proof.Staged.wp_read 𝒱₀ (c : Thread nD τ) hz) $$ H1; iintro H1
    iapply (Proof.Staged.wp_read 𝒱₀ (c : Thread nD τ) hz) $$ H2; iintro H2
    iapply (Proof.Staged.wp_read 𝒱₀ (c : Thread nD τ) hz4) $$ H6; iintro H6
    rw [wp_ret]; imodintro
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  · simp only [dif_neg (mt (cond2_iff t).mp hk), if_neg hk, Prog.bind_op, Prog.bind_ret, Prog.pure_eq_ret]
    iapply (Proof.Staged.wp_read 𝒱₀ (c : Thread nD τ) hz) $$ S1; iintro S1
    iapply (Proof.Staged.wp_fill 𝒱₀ (c : Thread nD τ) hz) $$ S1; iintro S1
    iapply (Proof.Staged.wp_read 𝒱₀ (c : Thread nD τ) hz) $$ S2; iintro S2
    iapply (Proof.Staged.wp_fill 𝒱₀ (c : Thread nD τ) hz) $$ S2; iintro S2
    iapply (Proof.Staged.wp_read 𝒱₀ (c : Thread nD τ) hz) $$ H1; iintro H1
    iapply (Proof.Staged.wp_read 𝒱₀ (c : Thread nD τ) hz) $$ H2; iintro H2
    iapply (Proof.Staged.wp_read 𝒱₀ (c : Thread nD τ) hz4) $$ H6; iintro H6
    rw [wp_ret]; imodintro
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6

/-- What a point leaves for the results, from what it found there. -/
def outs (b : ℕ) (A : Vec F S4096x256 .f32) (o : Outs F) : Outs F where
  dq := upd b (k0_pay62 (rowsL b (diag x b A).a)) o.dq
  dk := k0_pay73 (colsL (fin x b A).b)
  dv := k0_pay75 (fin x b A).v
  drow := updC b (k0_pay63 (rowsR b (diag x b A).a)) o.drow
  dcol := k0_pay74 (colsR (fin x b A).b)

/-- The products the loop starts from. -/
abbrev Loaded : Sc F := ⟨sIn x (t.val % 8), dIn x (t.val % 8), if t.val % 8 = 7 then z.sb else sIn x (t.val % 8 + 1), if t.val % 8 = 7 then z.db else dIn x (t.val % 8 + 1)⟩
theorem loaded : t.val % 8 ≠ 7 → (Loaded x t z).sb = sIn x (t.val % 8 + 1) ∧ (Loaded x t z).db = dIn x (t.val % 8 + 1) :=
  fun h => ⟨if_neg h, if_neg h⟩

/-- A point between the first and the last. -/
theorem wp_mid (h0 : t.val ≠ 0) (h63 : t.val ≠ 63) {Q : PUnit → sProp (MT nD τ sig Ix (Elt F) Name U Lvl)} :
    (Mem x c t y z o : sProp 𝕄) ⊢ iprop((∀ z', Mem x c t (fin x (t.val % 8) y.a) z' (outs x (t.val % 8) y.a o) -∗ Q ⟨⟩)
      -∗ wp frame (wpE (defs₀ (F := F)) 𝒱₀ (c : Thread nD τ) none) Set.univ (bodyAt0 t) Q) := by
  unfold bodyAt0
  simp only [cc0_attn_bwd_eq_skeleton]; unfold cc0_attn_bwd_skel
  dsimp only
  iintro HM Hk
  rw [wp_bind]
  iapply (wp_part14 x c t _ _ _ h0) $$ HM
  iintro %r14 %s14 HM
  dsimp only
  rw [wp_bind]
  iapply (wp_part15 x c t _ _ _ _) $$ HM
  iintro %r15 %s15 HM
  dsimp only
  rw [wp_bind]
  iapply (wp_part16 x c t _ _ _ _) $$ HM
  iintro HM
  dsimp only
  rw [wp_bind]
  iapply (wp_part17 x c t _ _ _ _ _ _) $$ HM
  iintro %r17 %s17 %u17 HM
  dsimp only
  rw [wp_bind]
  iapply (wp_part18 x c t _ (Loaded x t z) _ _ _ _ _ _ _ (loaded x t z)) $$ HM
  iintro %r18 %z' HM
  dsimp only
  simp only [dif_neg (mt (cond6_iff t).mp h63), Prog.bind_ret, Prog.pure_eq_ret]
  rw [wp_ret]; imodintro
  unfold outs fin diag first
  iapply Hk
  iexact HM

end Parts

end Cert.AttnProof

end
-- ==== Proof.AttnRun.lean ====
/-
# The gradients of attention with their exchange between chips: the run

`Cert.AttnProof`: on every device the kernel goes through the heads and, for each, the blocks of keys (`AttnStep`). The
gradient of the queries is summed in a scratch through a head's eight points (`accA`), one block of its rows being ready
at each point. Under this it exchanges rows of `hsum` with the three other chips: three lines (`Proof.Lines`), sent at the
first grid point and waited for at the last. Over any float values.
-/
module

public import proofs.«01_k».proof.Proof.Lines
public import proofs.«01_k».proof.Proof.AttnStep
public import proofs.«01_k».proof.Proof.Gen.AttnIdeal.Frame

@[expose] public section

set_option maxRecDepth 16384

noncomputable section

namespace Cert.AttnProof

open Cert.AttnIdeal Cert.AttnIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Proof.Lines (UU EP ER)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The lines -/

abbrev t0 : Fin grid0.N := ⟨0, by decide⟩
theorem first_cond : k0_cond1 (grid0.coords t0) = 1#1 := by decide

/-- The device of the same place on chip `2`, `1`, `3` away. -/
def peer (j : Fin 3) (c : Dev nD) : Dev nD := match j with
  | 0 => ⟨k0_dev1 c, k0_dev1_lt _ c first_cond⟩
  | 1 => ⟨k0_dev2 c, k0_dev2_lt _ c first_cond⟩
  | 2 => ⟨k0_dev3 c, k0_dev3_lt _ c first_cond⟩
theorem peer_peer (j : Fin 3) (c : Dev nD) : peer j (peer j c) = c := by
  refine Fin.ext ?_
  have : c.val < 8 := c.isLt
  match j with
  | 0 => show k0_dev1 (peer 0 c) = _; rw [k0_dev1_eq]; unfold peer; simp only [k0_dev1_eq]; omega
  | 1 => show k0_dev2 (peer 1 c) = _; rw [k0_dev2_eq]; unfold peer; simp only [k0_dev2_eq]; omega
  | 2 => show k0_dev3 (peer 2 c) = _; rw [k0_dev3_eq]; unfold peer; simp only [k0_dev3_eq]; omega

abbrev hM : Memref sig .tc .hbm S4x1x1168x2048 .bf16 := Memref.whole main_arg5
abbrev oM : Memref sig .tc .hbm S3x1x1168x2048 .bf16 := Memref.whole main_v1_5

def sOff (j : Fin 3) (c : Dev nD) : Fin 4 → ℕ := match j with
  | 0 => k0_off1 c
  | 1 => k0_off2 c
  | 2 => k0_off3 c
theorem sOff_inb (j : Fin 3) (c : Dev nD) : ∀ a, sOff j c a + S1x1x1168x2048.size a ≤ S4x1x1168x2048.size a := match j with
  | 0 => k0_off1_inb _ c first_cond
  | 1 => k0_off2_inb _ c first_cond
  | 2 => k0_off3_inb _ c first_cond
def oOff (j : Fin 3) : Fin 4 → ℕ := match j with
  | 0 => ![0, 0, 0, 0]
  | 1 => ![1, 0, 0, 0]
  | 2 => ![2, 0, 0, 0]
theorem oOff_inb (j : Fin 3) : ∀ a, oOff j a + S1x1x1168x2048.size a ≤ S3x1x1168x2048.size a := match j with
  | 0 => inb_S3x1x1168x2048_S1x1x1168x2048_0_0_0_0
  | 1 => inb_S3x1x1168x2048_S1x1x1168x2048_1_0_0_0
  | 2 => inb_S3x1x1168x2048_S1x1x1168x2048_2_0_0_0

/-- The row sent on line `j`. -/
abbrev sRow (j : Fin 3) (c : Dev nD) : Memref sig .tc .hbm S1x1x1168x2048 .bf16 :=
  hM.slice (Rect.unit (s := S4x1x1168x2048) (sOff j c) S1x1x1168x2048.size (sOff_inb j c)) (fun _ => rfl)
/-- The row that comes on line `j`. -/
abbrev oRow (j : Fin 3) : Memref sig .tc .hbm S1x1x1168x2048 .bf16 :=
  oM.slice (Rect.unit (s := S3x1x1168x2048) (oOff j) S1x1x1168x2048.size (oOff_inb j)) (fun _ => rfl)

def sndS (j : Fin 3) : DmaSem sig := match j with
  | 0 => ((cc0_scratch7.slice (Rect.unit (s := S3) ![0] S1.size inb_S3_S1_0)).squeeze S_ squeezes_S1_S_ : DmaSems sig S_).sem
  | 1 => ((cc0_scratch7.slice (Rect.unit (s := S3) ![1] S1.size inb_S3_S1_1)).squeeze S_ squeezes_S1_S_ : DmaSems sig S_).sem
  | 2 => ((cc0_scratch7.slice (Rect.unit (s := S3) ![2] S1.size inb_S3_S1_2)).squeeze S_ squeezes_S1_S_ : DmaSems sig S_).sem
def rcvS (j : Fin 3) : DmaSem sig := match j with
  | 0 => ((cc0_scratch8.slice (Rect.unit (s := S3) ![0] S1.size inb_S3_S1_0)).squeeze S_ squeezes_S1_S_ : DmaSems sig S_).sem
  | 1 => ((cc0_scratch8.slice (Rect.unit (s := S3) ![1] S1.size inb_S3_S1_1)).squeeze S_ squeezes_S1_S_ : DmaSems sig S_).sem
  | 2 => ((cc0_scratch8.slice (Rect.unit (s := S3) ![2] S1.size inb_S3_S1_2)).squeeze S_ squeezes_S1_S_ : DmaSems sig S_).sem

theorem sems_inj : Function.Injective fun x : Fin 3 × Bool => cond x.2 (rcvS x.1) (sndS x.1) := by decide

def plan : Proof.Lines.Plan nD sig (Fin 3) where
  snd := sndS
  rcv := rcvS
  peer := peer
  amt _ := (oRow 0).view.dmaCredit
  inj := sems_inj
  invol := peer_peer
  pos _ := View.dmaCredit_pos _ (by decide)

/-! ## What moves -/

/-- What `c`'s last result holds on line `j`'s row: the row its partner sent. -/
def got (j : Fin 3) (c : Dev nD) : Buf (Elt F) ((c : Thread nD τ).loc main_v1_5) :=
  (oRow j).view.write (Elt F) (m ((c : Thread nD τ).loc main_v1_5)) ((sRow j (peer j c)).view.read (Elt F) (m ((peer j c : Thread nD τ).loc main_arg5))) Finset.univ

def qs (j : Fin 3) : PosShare TreeShare := match j with
  | 0 => fullShare.right.left
  | 1 => fullShare.right.right.left
  | 2 => fullShare.right.right.right

def src (j : Fin 3) (c : Dev nD) : sProp 𝕄 :=
  iprop(((c : Thread nD τ).loc main_arg5) ↦[(sRow j c).view.set]{qs j} (m ((c : Thread nD τ).loc main_arg5)))
def dst (j : Fin 3) (c : Dev nD) : sProp 𝕄 := iprop(((c : Thread nD τ).loc main_v1_5) ↦[(oRow j).view.set]{fullShare} got m j c)
/-- The place a row lands in, as launched. -/
def give (j : Fin 3) (c : Dev nD) : sProp 𝕄 := iprop(((c : Thread nD τ).loc main_v1_5) ↦[(oRow j).view.set]{fullShare} m ((c : Thread nD τ).loc main_v1_5))
/-- A share of the operand, to read it by at the end. -/
def hold (c : Dev nD) : sProp 𝕄 := iprop(((c : Thread nD τ).loc main_arg5) ↦{fullShare.left} m ((c : Thread nD τ).loc main_arg5))
def keep (c : Dev nD) : sProp 𝕄 := iprop(hold m c ∗ src m 0 c ∗ src m 1 c ∗ src m 2 c)

instance src_storable (j : Fin 3) (c : Dev nD) : BI.Storable (upEmb : UEmb _ 𝕄) (src m j c) := by unfold src; infer_instance
instance dst_storable (j : Fin 3) (c : Dev nD) : BI.Storable (upEmb : UEmb _ 𝕄) (dst m j c) := by unfold dst; infer_instance

theorem lines (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- An element of a row of the last result is on that row. -/
theorem mem_oRow (j : Fin 3) {i : S3x1x1168x2048.Idx} (h : i ∈ (oRow j).view.set) : (i 0 : ℕ) = j.val := by
  have hi : i ∈ ((View.whole main_v1_5).slice (Rect.unit (s := S3x1x1168x2048) (oOff j) S1x1x1168x2048.size (oOff_inb j))).set := h
  rw [View.set_slice_whole, Rect.mem_set_unit] at hi
  have h1 := hi 0
  have h2 : S1x1x1168x2048.size 0 = 1 := rfl
  have h3 : oOff j 0 = j.val := match j with | 0 => rfl | 1 => rfl | 2 => rfl
  rw [h3, h2] at h1
  omega

theorem oRow_disjoint {j k : Fin 3} (hjk : j ≠ k) : Disjoint (oRow j).view.set (oRow k).view.set :=
  Finset.disjoint_left.mpr fun i hi hk => hjk (Fin.ext ((mem_oRow j hi).symm.trans (mem_oRow k hk)))

theorem rest_split (c : Dev nD) :
    (Pipeline.unscopedRest cfg0.spec c (fun b => m ((c : Thread nD τ).loc b)) : sProp 𝕄) ⊢ iprop(keep m c ∗ bigSep Finset.univ fun j : Fin 3 => give m j c) := by
  rw [unscopedRest0_eq, lines]
  unfold keep hold src give
  iintro ⟨Ha, Ho⟩
  ihave H := (pointsTo_share (PosShare.mem_left_op_right fullShare)).1 $$ Ha
  icases H with ⟨Hl, Hr⟩
  ihave H := (pointsTo_share (PosShare.mem_left_op_right fullShare.right)).1 $$ Hr
  icases H with ⟨H0, Hr⟩
  ihave H := (pointsTo_share (PosShare.mem_left_op_right fullShare.right.right)).1 $$ Hr
  icases H with ⟨H1, H2⟩
  ihave H := (pointsTo_split_subset (Finset.subset_univ (sRow 0 c).view.set)).1 $$ H0
  icases H with ⟨H0, -⟩
  ihave H := (pointsTo_split_subset (Finset.subset_univ (sRow 1 c).view.set)).1 $$ H1
  icases H with ⟨H1, -⟩
  ihave H := (pointsTo_split_subset (Finset.subset_univ (sRow 2 c).view.set)).1 $$ H2
  icases H with ⟨H2, -⟩
  ihave H := (pointsTo_split_subset (Finset.subset_univ (oRow 0).view.set)).1 $$ Ho
  icases H with ⟨O0, Ho⟩
  ihave H := (pointsTo_split_subset (Finset.subset_sdiff.mpr ⟨Finset.subset_univ (oRow 1).view.set, oRow_disjoint (by decide)⟩)).1 $$ Ho
  icases H with ⟨O1, Ho⟩
  ihave H := (pointsTo_split_subset (Finset.subset_sdiff.mpr ⟨Finset.subset_sdiff.mpr ⟨Finset.subset_univ (oRow 2).view.set, oRow_disjoint (by decide)⟩, oRow_disjoint (by decide)⟩)).1 $$ Ho
  icases H with ⟨O2, -⟩
  isplitl [Hl H0 H1 H2]
  · isplitl [Hl]; · iexact Hl
    isplitl [H0]; · iexact H0
    isplitl [H1]; · iexact H1
    iexact H2
  · isplitl [O0]; · iexact O0
    isplitl [O1]; · iexact O1
    iexact O2

/-! ## The values of the grid points -/

/-- The grid point of a number. -/
def pt (n : ℕ) : Fin cfg0.N := ⟨n % 64, by rw [show cfg0.N = 64 from N_0]; exact Nat.mod_lt _ (by decide)⟩
theorem lt_N (t : Fin cfg0.N) : t.val < 64 := lt_of_lt_of_eq t.isLt N_0
theorem pt_val (t : Fin cfg0.N) : pt t.val = t := Fin.ext (Nat.mod_eq_of_lt (lt_N t))

/-- The blocks of the operands at a point. -/
def ins (c : Dev nD) (n : ℕ) : Ins F where
  q := iblk m c 0 (pt n)
  k := iblk m c 1 (pt n)
  v := iblk m c 2 (pt n)
  d := iblk m c 3 (pt n)
  lse := iblk m c 4 (pt n)
  delta := iblk m c 5 (pt n)
  cum := iblk m c 6 (pt n)

/-- The sums of the queries' gradients after a point. -/
def accA (c : Dev nD) : ℕ → Vec F S4096x256 .f32
  | 0 => (fin (ins m c 0) 0 (k0_pay43 (F := F))).a
  | n + 1 => (fin (ins m c (n + 1)) ((n + 1) % 8) (accA c n)).a
/-- The same before a point. -/
def prevA (c : Dev nD) : ℕ → Vec F S4096x256 .f32
  | 0 => k0_pay43
  | n + 1 => accA m c n
theorem accA_eq (c : Dev nD) (n : ℕ) : accA m c n = (fin (ins m c n) (n % 8) (prevA m c n)).a := by cases n <;> rfl

/-- The sums of a point, with its first block and at its end. -/
def dg (c : Dev nD) (n : ℕ) : Acc F := diag (ins m c n) (n % 8) (prevA m c n)
def fn (c : Dev nD) (n : ℕ) : Acc F := fin (ins m c n) (n % 8) (prevA m c n)

theorem diag_eq (c : Dev nD) (n : ℕ) (A : Vec F S4096x256 .f32) (h : n % 8 ≠ 0 → A = accA m c (n - 1)) :
    diag (ins m c n) (n % 8) A = dg m c n := by
  unfold dg
  by_cases h0 : n % 8 = 0
  · unfold diag start
    rw [if_pos h0, if_pos h0]
  · rw [h h0]
    cases n with
    | zero => exact absurd rfl h0
    | succ n => rfl
theorem fin_eq (c : Dev nD) (n : ℕ) (A : Vec F S4096x256 .f32) (h : n % 8 ≠ 0 → A = accA m c (n - 1)) :
    fin (ins m c n) (n % 8) A = fn m c n := by
  have := diag_eq m c n A h
  unfold fin fn
  rw [this]
  rfl

/-- The blocks a point leaves, and the whole of a head's results that are written block by block. -/
def dqB (c : Dev nD) (n : ℕ) : Vec F S512x128 .bf16 := k0_pay62 (rowsL (n % 8) (dg m c n).a)
def drB (c : Dev nD) (n : ℕ) : Vec F S1x8x512 .f32 := k0_pay63 (rowsR (n % 8) (dg m c n).a)
def dkB (c : Dev nD) (n : ℕ) : Vec F S512x128 .bf16 := k0_pay73 (colsL (fn m c n).b)
def dvB (c : Dev nD) (n : ℕ) : Vec F S512x128 .bf16 := k0_pay75 (fn m c n).v
def dcB (c : Dev nD) (n : ℕ) : Vec F S1x8x512 .f32 := k0_pay74 (colsR (fn m c n).b)
def dqF (c : Dev nD) (h : ℕ) : Vec F S4096x128 .bf16 :=
  fun i => dqB m c (8 * h + (i 0).val / 512) (ix2 (n0 := 512) (n1 := 128) ⟨(i 0).val % 512, Nat.mod_lt _ (by decide)⟩ (i 1))
def drF (c : Dev nD) (h : ℕ) : Vec F S1x8x4096 .f32 :=
  fun i => drB m c (8 * h + (i 2).val / 512) (ix3 (n0 := 1) (n1 := 8) (n2 := 512) (i 0) (i 1) ⟨(i 2).val % 512, Nat.mod_lt _ (by decide)⟩)

/-- The scratches before point `n`. -/
def scr (c : Dev nD) (n : ℕ) : sProp 𝕄 :=
  iprop(∃ (y : Acc F) (z : Sc F), ⌜n % 8 ≠ 0 → y.a = accA m c (n - 1)⌝
    ∗ owns (c : Thread nD τ) (Memref.whole cc0_scratch0) fullShare y.a ∗ owns (c : Thread nD τ) (Memref.whole cc0_scratch1) fullShare y.b
    ∗ owns (c : Thread nD τ) (Memref.whole cc0_scratch2) fullShare y.v ∗ owns (c : Thread nD τ) (Memref.whole cc0_scratch3) fullShare z.sa
    ∗ owns (c : Thread nD τ) (Memref.whole cc0_scratch4) fullShare z.da ∗ owns (c : Thread nD τ) (Memref.whole cc0_scratch5) fullShare z.sb
    ∗ owns (c : Thread nD τ) (Memref.whole cc0_scratch6) fullShare z.db)

/-- The lines before point `n`. -/
def state (c : Dev nD) (n : ℕ) : sProp 𝕄 :=
  if n = 0 then iprop(keep m c ∗ plan.ready (src m) (dst m) (give m) c 0 ∗ plan.ready (src m) (dst m) (give m) c 1 ∗ plan.ready (src m) (dst m) (give m) c 2)
  else if n < 64 then iprop(hold m c ∗ plan.flying (src m) (dst m) c 0 ∗ plan.flying (src m) (dst m) c 1 ∗ plan.flying (src m) (dst m) c 2)
  else iprop((hold m c ∗ dst m 0 c ∗ dst m 1 c ∗ dst m 2 c) ∗ plan.over c 0 ∗ plan.over c 1 ∗ plan.over c 2)

def O₀ : Dev nD → CellTallies nD τ sig Unit := plan.due Finset.univ

def dats (_ : Fin 1) (c : Dev nD) : Dat τ (Elt F) Unit ℕ (UU nD τ sig) ℕ cfg0 c where
  A w := m ((cfg0.win w).arr.view.loc (c : Thread nD τ))
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => dqF m c (t.val / 8)
    | 8 => dkB m c t.val
    | 9 => dvB m c t.val
    | 10 => drF m c (t.val / 8)
    | 11 => dcB m c t.val
    | ⟨_ + 12, h⟩ => absurd h (Nat.not_lt.2 (Nat.le_add_left _ _))
  Φ t := iprop(state m c t.val ∗ scr m c t.val)
  q w := Pipeline.shareOf spec0 w
  owed t := if t.val = 0 then O₀ c else 0

/-- The two results that are written block by block: what is written so far is as it shall be. -/
def R7 (c : Dev nD) (t : Fin cfg0.N) (Y X : S4096x128.Idx → Elt F .bf16) : Prop := ∀ i : S4096x128.Idx, (i 0).val / 512 ≤ t.val % 8 → X i = dqF m c (t.val / 8) i
def R10 (c : Dev nD) (t : Fin cfg0.N) (Y X : S1x8x4096.Idx → Elt F .f32) : Prop := ∀ i : S1x8x4096.Idx, (i 2).val / 512 ≤ t.val % 8 → X i = drF m c (t.val / 8) i

def ovr (c : Dev nD) : (w : Fin cfg0.W) → Option (Fin cfg0.N → (Y X : (cfg0.win w).block.Idx → Elt F (cfg0.win w).elt) → Prop)
  | 7 => some (R7 m c)
  | 10 => some (R10 m c)
  | _ => none

def rdat (p : Fin 1) (c : Dev nD) : RDat τ (Elt F) Unit ℕ (UU nD τ sig) ℕ cfg0 c := (dats m p c).toR.override (ovr m c)

theorem finds_0 (c : Dev nD) (t : Fin cfg0.N) (Y) (h : (rdat m 0 c).Finds 0 t Y) : Y = (ins m c t.val).q := by
  obtain ⟨d, rfl⟩ := (dats m 0 c).toR_finds 0 t Y (((dats m 0 c).toR.override_finds (ovr := ovr m c) rfl t Y).mp h)
  rw [(dats m 0 c).before_in_eq_fetched 0 rfl (fun _ => rfl) (fun _ _ _ => rfl) (fun t => rfl) t d]
  unfold ins; rw [pt_val]; rfl
theorem finds_1 (c : Dev nD) (t : Fin cfg0.N) (Y) (h : (rdat m 0 c).Finds 1 t Y) : Y = (ins m c t.val).k := by
  obtain ⟨d, rfl⟩ := (dats m 0 c).toR_finds 1 t Y (((dats m 0 c).toR.override_finds (ovr := ovr m c) rfl t Y).mp h)
  rw [(dats m 0 c).before_in_eq_fetched 1 rfl (fun _ => rfl) (fun _ _ _ => rfl) (fun t => rfl) t d]
  unfold ins; rw [pt_val]; rfl
theorem finds_2 (c : Dev nD) (t : Fin cfg0.N) (Y) (h : (rdat m 0 c).Finds 2 t Y) : Y = (ins m c t.val).v := by
  obtain ⟨d, rfl⟩ := (dats m 0 c).toR_finds 2 t Y (((dats m 0 c).toR.override_finds (ovr := ovr m c) rfl t Y).mp h)
  rw [(dats m 0 c).before_in_eq_fetched 2 rfl (fun _ => rfl) (fun _ _ _ => rfl) (fun t => rfl) t d]
  unfold ins; rw [pt_val]; rfl
theorem finds_3 (c : Dev nD) (t : Fin cfg0.N) (Y) (h : (rdat m 0 c).Finds 3 t Y) : Y = (ins m c t.val).d := by
  obtain ⟨d, rfl⟩ := (dats m 0 c).toR_finds 3 t Y (((dats m 0 c).toR.override_finds (ovr := ovr m c) rfl t Y).mp h)
  rw [(dats m 0 c).before_in_eq_fetched 3 rfl (fun _ => rfl) (fun _ _ _ => rfl) (fun t => rfl) t d]
  unfold ins; rw [pt_val]; rfl
theorem finds_4 (c : Dev nD) (t : Fin cfg0.N) (Y) (h : (rdat m 0 c).Finds 4 t Y) : Y = (ins m c t.val).lse := by
  obtain ⟨d, rfl⟩ := (dats m 0 c).toR_finds 4 t Y (((dats m 0 c).toR.override_finds (ovr := ovr m c) rfl t Y).mp h)
  rw [(dats m 0 c).before_in_eq_fetched 4 rfl (fun _ => rfl) (fun _ _ _ => rfl) (fun t => rfl) t d]
  unfold ins; rw [pt_val]; rfl
theorem finds_5 (c : Dev nD) (t : Fin cfg0.N) (Y) (h : (rdat m 0 c).Finds 5 t Y) : Y = (ins m c t.val).delta := by
  obtain ⟨d, rfl⟩ := (dats m 0 c).toR_finds 5 t Y (((dats m 0 c).toR.override_finds (ovr := ovr m c) rfl t Y).mp h)
  rw [(dats m 0 c).before_in_eq_fetched 5 rfl (fun _ => rfl) (fun _ _ _ => rfl) (fun t => rfl) t d]
  unfold ins; rw [pt_val]; rfl
theorem finds_6 (c : Dev nD) (t : Fin cfg0.N) (Y) (h : (rdat m 0 c).Finds 6 t Y) : Y = (ins m c t.val).cum := by
  obtain ⟨d, rfl⟩ := (dats m 0 c).toR_finds 6 t Y (((dats m 0 c).toR.override_finds (ovr := ovr m c) rfl t Y).mp h)
  rw [(dats m 0 c).before_in_eq_fetched 6 rfl (fun _ => rfl) (fun _ _ _ => rfl) (fun t => rfl) t d]
  unfold ins; rw [pt_val]; rfl

theorem before_7 (c : Dev nD) (t : Fin cfg0.N) (Y : S4096x128.Idx → Elt F .bf16) (h : (rdat m 0 c).Finds 7 t Y) (ht : t.val % 8 ≠ 0) (i : S4096x128.Idx)
    (hi : (i 0).val / 512 < t.val % 8) : Y i = dqF m c (t.val / 8) i := by
  have hf : (cfg0.win 7).fetch t = false := rfl
  rcases ((rdat m 0 c).finds_of_pos hf (by omega) Y).mp h with h | ⟨Y', -, h⟩
  · have := (flush0_7 _).mp h
    have := lt_N t
    simp only at *
    omega
  · have := h i (by show (i 0).val / 512 ≤ (t.val - 1) % 8; omega)
    rw [this]
    show dqF m c ((t.val - 1) / 8) i = _
    rw [show (t.val - 1) / 8 = t.val / 8 by omega]
theorem before_10 (c : Dev nD) (t : Fin cfg0.N) (Y : S1x8x4096.Idx → Elt F .f32) (h : (rdat m 0 c).Finds 10 t Y) (ht : t.val % 8 ≠ 0) (i : S1x8x4096.Idx)
    (hi : (i 2).val / 512 < t.val % 8) : Y i = drF m c (t.val / 8) i := by
  have hf : (cfg0.win 10).fetch t = false := rfl
  rcases ((rdat m 0 c).finds_of_pos hf (by omega) Y).mp h with h | ⟨Y', -, h⟩
  · have := (flush0_10 _).mp h
    have := lt_N t
    simp only at *
    omega
  · have := h i (by show (i 2).val / 512 ≤ (t.val - 1) % 8; omega)
    rw [this]
    show drF m c ((t.val - 1) / 8) i = _
    rw [show (t.val - 1) / 8 = t.val / 8 by omega]

theorem leaves_7 (c : Dev nD) (t : Fin cfg0.N) (Y : S4096x128.Idx → Elt F .bf16) (h : (rdat m 0 c).Finds 7 t Y) :
    R7 m c t Y (upd (t.val % 8) (dqB m c t.val) Y) := by
  intro i hi
  unfold upd
  by_cases he : (i 0).val / 512 = t.val % 8
  · rw [if_pos he]
    unfold dqF
    rw [he, show 8 * (t.val / 8) + t.val % 8 = t.val by omega]
  · rw [if_neg he]
    exact before_7 m c t Y h (by omega) i (by omega)
theorem leaves_10 (c : Dev nD) (t : Fin cfg0.N) (Y : S1x8x4096.Idx → Elt F .f32) (h : (rdat m 0 c).Finds 10 t Y) :
    R10 m c t Y (updC (t.val % 8) (drB m c t.val) Y) := by
  intro i hi
  unfold updC
  by_cases he : (i 2).val / 512 = t.val % 8
  · rw [if_pos he]
    unfold drF
    rw [he, show 8 * (t.val / 8) + t.val % 8 = t.val by omega]
  · rw [if_neg he]
    exact before_10 m c t Y h (by omega) i (by omega)

/-- What the arrays hold at the end. -/
theorem arrAt_of (c : Dev nD) (w : Fin cfg0.W)
    (h : ∀ u X, (cfg0.win w).flush u = true → (rdat m 0 c).Leaves w u X → X = (dats m 0 c).after w u) :
    ∀ n G, (rdat m 0 c).ArrAt w n G → G = (dats m 0 c).arrAt w n
  | 0, G => fun hG => hG
  | n + 1, G => by
    simp only [RDat.ArrAt, Dat.arrAt]
    by_cases hn : n < cfg0.N
    · rw [dif_pos hn, dif_pos hn]
      by_cases hfl : (cfg0.win w).flush ⟨n, hn⟩ = true
      · rw [if_pos hfl, if_pos hfl]
        rintro ⟨G₀, X, hG₀, hX, rfl⟩
        rw [arrAt_of c w h n G₀ hG₀, h _ X hfl hX]
      · rw [if_neg hfl, if_neg hfl]; exact arrAt_of c w h n G
    · rw [dif_neg hn, dif_neg hn]; exact arrAt_of c w h n G

theorem ovr_none (c : Dev nD) : ∀ w : Fin cfg0.W, w ≠ 7 → w ≠ 10 → ovr m c w = none := by
  intro w h7 h10
  fin_cases w <;> first | rfl | exact absurd rfl h7 | exact absurd rfl h10

theorem arrAt_eq (c : Dev nD) (w : Fin cfg0.W) (G) (h : (rdat m 0 c).ArrAt w cfg0.N G) : G = (dats m 0 c).arrAt w cfg0.N := by
  by_cases h7 : w = 7
  · subst h7
    refine arrAt_of m c 7 (fun u X hu hX => ?_) _ G h
    obtain ⟨Y, -, hX⟩ := hX
    have hX : R7 m c u Y X := hX
    refine funext fun i => hX i ?_
    have hi : (i 0).val < 4096 := (i 0).isLt
    have := (flush0_7 u).mp hu
    omega
  by_cases h10 : w = 10
  · subst h10
    refine arrAt_of m c 10 (fun u X hu hX => ?_) _ G h
    obtain ⟨Y, -, hX⟩ := hX
    have hX : R10 m c u Y X := hX
    refine funext fun i => hX i ?_
    have hi : (i 2).val < 4096 := (i 2).isLt
    have := (flush0_10 u).mp hu
    omega
  have hn := ovr_none m c w h7 h10
  exact ((dats m 0 c).toR_arrAt_iff w _ G).mp (((dats m 0 c).toR.override_arrAt hn _ G).mp h)

/-! ## The lines' states -/

theorem owed_first (c : Dev nD) (t : Fin (cfg0.N + 1)) (h : t.val = 0) : (dats m 0 c).owed t = plan.due Finset.univ c := if_pos h
theorem owed_later (c : Dev nD) (t : Fin (cfg0.N + 1)) (h : ¬ t.val = 0) : (dats m 0 c).owed t = 0 := if_neg h
theorem state_first (c : Dev nD) (n : ℕ) (h : n = 0) : state m c n = iprop(keep m c ∗ plan.ready (src m) (dst m) (give m) c 0
    ∗ plan.ready (src m) (dst m) (give m) c 1 ∗ plan.ready (src m) (dst m) (give m) c 2) := if_pos h
theorem state_mid (c : Dev nD) (n : ℕ) (h : n ≠ 0) (h' : n < 64) : state m c n = iprop(hold m c ∗ plan.flying (src m) (dst m) c 0
    ∗ plan.flying (src m) (dst m) c 1 ∗ plan.flying (src m) (dst m) c 2) := (if_neg h).trans (if_pos h')
theorem state_last (c : Dev nD) (n : ℕ) (h : ¬ n < 64) : state m c n = iprop((hold m c ∗ dst m 0 c ∗ dst m 1 c ∗ dst m 2 c)
    ∗ plan.over c 0 ∗ plan.over c 1 ∗ plan.over c 2) := (if_neg (by omega)).trans (if_neg h)

/-- What is owed does not change after the first point. -/
theorem owes_mid (c : Dev nD) (t : Fin cfg0.N) (h : t.val ≠ 0) : (dats m 0 c).owesAt () t.castSucc ⊢ (dats m 0 c).owesAt () t.succ := by
  unfold Dat.owesAt Pipeline.owesWithin
  rw [owed_later m c t.castSucc h, owed_later m c t.succ (Nat.succ_ne_zero t.val)]
  iintro ⟨%W, -, HO⟩
  iexists W
  isplitr; · ipureintro; exact fun _ _ => Or.inl trivial
  iexact HO

variable (x : Ins F) (y : Acc F) (z : Sc F) (o : Outs F)

set_option maxHeartbeats 2000000 in
/-- The first part of the first point: every line's row is sent. -/
theorem wp_sends (c : Dev nD) (t : Fin cfg0.N) (h0 : t.val = 0) {Q : (Σ' (_ : BitVec 32) (_ : BitVec 1) (_ : FVec F S512x128 .bf16) (_ : FVec F S512x128 .bf16) (_ : FVec F S1x512 .f32) (_ : FVec F S512x256 .bf16), FVec F S512x128 .bf16) → sProp 𝕄} :
    iprop(Mem x c t y z o ∗ state m c t.val ∗ (dats m 0 c).owesAt () t.castSucc)
      ⊢ iprop((∀ r s, (Mem x c t (start (t.val % 8) y.a) z o ∗ state m c (t.val + 1) ∗ (dats m 0 c).owesAt () t.succ) -∗ Q ⟨r, s, (k0_pay46 x.k), (k0_pay47 x.v), (k0_pay48 x.cum), (k0_pay49 x.k), (k0_pay50 (F := F))⟩)
      -∗ wp frame (wpE (defs₀ (F := F)) 𝒱₀ (c : Thread nD τ) none) Set.univ (k0_part14 (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole main_v1_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) Q) := by
  have hN := lt_N t
  simp only [k0_part14_eq_skeleton]; unfold k0_part14_skel
  simp only [k0_part1_eq_skeleton]; unfold k0_part1_skel
  dsimp only
  simp only [dif_pos ((cond1_iff t).mpr h0), dif_pos ((cond2_iff t).mpr (by omega : t.val % 8 = 0)),
    Prog.lift, Prog.bind_op, Prog.bind_ret, Prog.pure_eq_ret, wp_deviceId]
  unfold Mem Dat.owesAt Pipeline.owesWithin
  rw [owed_first m c t.castSucc h0, owed_later m c t.succ (Nat.succ_ne_zero t.val), state_first m c t.val h0,
    state_mid m c (t.val + 1) (by omega) (by omega)]
  simp only [start, if_pos (by omega : t.val % 8 = 0)]
  unfold keep
  iintro ⟨⟨H0, H1, H2, H3, H4, H5, H6, H7, H8, H9, H10, H11, S0, S1, S2, S3, S4, S5, S6⟩, ⟨⟨Hh, R0, R1, R2⟩, L0, L1, L2⟩, %W, %hW, HO⟩ Hk
  unfold src
  iapply (plan.wp_post (src m) (dst m) c 0 𝒱₀ (give m) (n := peer 0 c) rfl (sm := sRow 0 c) (dm := oRow 0) rfl rfl
      (q := qs 0) (fs := m ((c : Thread nD τ).loc main_arg5)) (fd := m ((peer 0 c : Thread nD τ).loc main_v1_5)) rfl
      (BI.Entails.refl _) (BI.Entails.refl _)
      (by unfold dst got; rw [peer_peer]) (Finset.mem_univ 0) (W := W)) $$ [L0 R0 HO]
  · isplitl [L0]; · iexact L0
    isplitl [R0]; · iexact R0
    iexact HO
  iintro ⟨L0, HO⟩
  iapply (plan.wp_post (src m) (dst m) c 1 𝒱₀ (give m) (n := peer 1 c) rfl (sm := sRow 1 c) (dm := oRow 1) rfl rfl
      (q := qs 1) (fs := m ((c : Thread nD τ).loc main_arg5)) (fd := m ((peer 1 c : Thread nD τ).loc main_v1_5)) rfl
      (BI.Entails.refl _) (BI.Entails.refl _)
      (by unfold dst got; rw [peer_peer]) (t := Finset.univ.erase 0) (by decide) (W := W)) $$ [L1 R1 HO]
  · isplitl [L1]; · iexact L1
    isplitl [R1]; · iexact R1
    iexact HO
  iintro ⟨L1, HO⟩
  iapply (plan.wp_post (src m) (dst m) c 2 𝒱₀ (give m) (n := peer 2 c) rfl (sm := sRow 2 c) (dm := oRow 2) rfl rfl
      (q := qs 2) (fs := m ((c : Thread nD τ).loc main_arg5)) (fd := m ((peer 2 c : Thread nD τ).loc main_v1_5)) rfl
      (BI.Entails.refl _) (BI.Entails.refl _)
      (by unfold dst got; rw [peer_peer]) (t := (Finset.univ.erase 0).erase 1) (by decide) (W := W)) $$ [L2 R2 HO]
  · isplitl [L2]; · iexact L2
    isplitl [R2]; · iexact R2
    iexact HO
  iintro ⟨L2, HO⟩
  rw [show ((Finset.univ.erase (0 : Fin 3)).erase 1).erase 2 = ∅ from by decide, Proof.Lines.Plan.due_empty]
  iapply (Proof.Staged.wp_read 𝒱₀ (c : Thread nD τ) hz) $$ S0; iintro S0
  iapply (Proof.Staged.wp_fill 𝒱₀ (c : Thread nD τ) hz) $$ S0; iintro S0
  iapply (Proof.Staged.wp_read 𝒱₀ (c : Thread nD τ) hz) $$ S1; iintro S1
  iapply (Proof.Staged.wp_fill 𝒱₀ (c : Thread nD τ) hz) $$ S1; iintro S1
  iapply (Proof.Staged.wp_read 𝒱₀ (c : Thread nD τ) hz) $$ S2; iintro S2
  iapply (Proof.Staged.wp_fill 𝒱₀ (c : Thread nD τ) hz) $$ S2; iintro S2
  iapply (Proof.Staged.wp_read 𝒱₀ (c : Thread nD τ) hz) $$ H1; iintro H1
  iapply (Proof.Staged.wp_read 𝒱₀ (c : Thread nD τ) hz) $$ H2; iintro H2
  iapply (Proof.Staged.wp_read 𝒱₀ (c : Thread nD τ) hz4) $$ H6; iintro H6
  rw [wp_ret]; imodintro
  iapply Hk
  isplitl [H0 H1 H2 H3 H4 H5 H6 H7 H8 H9 H10 H11 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  isplitr [HO]
  · isplitl [Hh]; · iexact Hh
    isplitl [L0]; · iexact L0
    isplitl [L1]; · iexact L1
    iexact L2
  · iexists W
    isplitr; · ipureintro; exact fun _ _ => Or.inl trivial
    iexact HO

/-- The first point. -/
theorem wp_first (c : Dev nD) (t : Fin cfg0.N) (h0 : t.val = 0) {Q : PUnit → sProp 𝕄} :
    iprop(Mem x c t y z o ∗ state m c t.val ∗ (dats m 0 c).owesAt () t.castSucc)
      ⊢ iprop((∀ z', (Mem x c t (fin x (t.val % 8) y.a) z' (outs x (t.val % 8) y.a o) ∗ state m c (t.val + 1) ∗ (dats m 0 c).owesAt () t.succ) -∗ Q ⟨⟩)
      -∗ wp frame (wpE (defs₀ (F := F)) 𝒱₀ (c : Thread nD τ) none) Set.univ (bodyAt0 t) Q) := by
  unfold bodyAt0
  simp only [cc0_attn_bwd_eq_skeleton]; unfold cc0_attn_bwd_skel
  dsimp only
  iintro HM Hk
  rw [wp_bind]
  iapply (wp_sends m x y z o c t h0) $$ HM
  iintro %r14 %s14 ⟨HM, HL, HO⟩
  dsimp only
  rw [wp_bind]
  iapply (wp_part15 x c t _ _ _ _) $$ HM
  iintro %r15 %s15 HM
  dsimp only
  rw [wp_bind]
  iapply (wp_part16 x c t _ _ _ _) $$ HM
  iintro HM
  dsimp only
  rw [wp_bind]
  iapply (wp_part17 x c t _ _ _ _ _ _) $$ HM
  iintro %r17 %s17 %u17 HM
  dsimp only
  rw [wp_bind]
  iapply (wp_part18 x c t _ (Loaded x t z) _ _ _ _ _ _ _ (loaded x t z)) $$ HM
  iintro %r18 %z' HM
  dsimp only
  simp only [dif_neg (mt (cond6_iff t).mp (by omega : ¬ t.val = 63)), Prog.bind_ret, Prog.pure_eq_ret]
  rw [wp_ret]; imodintro
  unfold outs fin diag first
  iapply Hk
  isplitl [HM]; · iexact HM
  isplitl [HL]; · iexact HL
  iexact HO

set_option maxHeartbeats 2000000 in
/-- The last point: every line is waited for. -/
theorem wp_last (c : Dev nD) (t : Fin cfg0.N) (h63 : t.val = 63) {Q : PUnit → sProp 𝕄} :
    iprop(Mem x c t y z o ∗ state m c t.val ∗ (dats m 0 c).owesAt () t.castSucc)
      ⊢ iprop((∀ z', (Mem x c t (fin x (t.val % 8) y.a) z' (outs x (t.val % 8) y.a o) ∗ state m c (t.val + 1) ∗ (dats m 0 c).owesAt () t.succ) -∗ Q ⟨⟩)
      -∗ wp frame (wpE (defs₀ (F := F)) 𝒱₀ (c : Thread nD τ) none) Set.univ (bodyAt0 t) Q) := by
  unfold bodyAt0
  simp only [cc0_attn_bwd_eq_skeleton]; unfold cc0_attn_bwd_skel
  dsimp only
  unfold Dat.owesAt Pipeline.owesWithin
  rw [owed_later m c t.castSucc (by show ¬ t.val = 0; omega), owed_later m c t.succ (Nat.succ_ne_zero t.val), state_mid m c t.val (by omega) (lt_N t),
    state_last m c (t.val + 1) (by omega)]
  iintro ⟨HM, ⟨Hh, L0, L1, L2⟩, %W, %hW, HO⟩ Hk
  rw [wp_bind]
  iapply (wp_part14 x c t _ _ _ (by omega)) $$ HM
  iintro %r14 %s14 HM
  dsimp only
  rw [wp_bind]
  iapply (wp_part15 x c t _ _ _ _) $$ HM
  iintro %r15 %s15 HM
  dsimp only
  rw [wp_bind]
  iapply (wp_part16 x c t _ _ _ _) $$ HM
  iintro HM
  dsimp only
  rw [wp_bind]
  iapply (wp_part17 x c t _ _ _ _ _ _) $$ HM
  iintro %r17 %s17 %u17 HM
  dsimp only
  rw [wp_bind]
  iapply (wp_part18 x c t _ (Loaded x t z) _ _ _ _ _ _ _ (loaded x t z)) $$ HM
  iintro %r18 %z' HM
  dsimp only
  simp only [dif_pos ((cond6_iff t).mpr h63), k0_part12_eq_skeleton, k0_part13_eq_skeleton]; unfold k0_part12_skel k0_part13_skel
  dsimp only
  simp only [Prog.lift, Prog.bind_op, Prog.bind_ret, Prog.pure_eq_ret, wp_deviceId]
  iapply (plan.wp_left (src m) (dst m) c 0 𝒱₀ (wpE_waitDma2_eq 𝒱₀ (c : Thread nD τ) none Set.univ) rfl rfl) $$ [L0 HO]
  · isplitl [L0] <;> iassumption
  iintro ⟨L0, -, %W0, HO⟩
  iapply (plan.wp_came (src m) (dst m) c 0 𝒱₀ (wpE_waitDma2_eq 𝒱₀ (c : Thread nD τ) none Set.univ) rfl rfl) $$ [L0 HO]
  · isplitl [L0] <;> iassumption
  iintro ⟨L0, D0, %W1, HO⟩
  iapply (plan.wp_left (src m) (dst m) c 1 𝒱₀ (wpE_waitDma2_eq 𝒱₀ (c : Thread nD τ) none Set.univ) rfl rfl) $$ [L1 HO]
  · isplitl [L1] <;> iassumption
  iintro ⟨L1, -, %W2, HO⟩
  iapply (plan.wp_came (src m) (dst m) c 1 𝒱₀ (wpE_waitDma2_eq 𝒱₀ (c : Thread nD τ) none Set.univ) rfl rfl) $$ [L1 HO]
  · isplitl [L1] <;> iassumption
  iintro ⟨L1, D1, %W3, HO⟩
  iapply (plan.wp_left (src m) (dst m) c 2 𝒱₀ (wpE_waitDma2_eq 𝒱₀ (c : Thread nD τ) none Set.univ) rfl rfl) $$ [L2 HO]
  · isplitl [L2] <;> iassumption
  iintro ⟨L2, -, %W4, HO⟩
  iapply (plan.wp_came (src m) (dst m) c 2 𝒱₀ (wpE_waitDma2_eq 𝒱₀ (c : Thread nD τ) none Set.univ) rfl rfl) $$ [L2 HO]
  · isplitl [L2] <;> iassumption
  iintro ⟨L2, D2, %W5, HO⟩
  rw [wp_ret]; imodintro
  unfold outs fin diag first
  iapply Hk
  isplitl [HM]; · iexact HM
  isplitr [HO]
  · isplitl [Hh D0 D1 D2]
    · isplitl [Hh]; · iexact Hh
      isplitl [D0]; · iexact D0
      isplitl [D1]; · iexact D1
      iexact D2
    · isplitl [L0]; · iexact L0
      isplitl [L1]; · iexact L1
      iexact L2
  · iexists W5
    isplitr; · ipureintro; exact fun _ _ => Or.inl trivial
    iexact HO

/-- Any point. -/
theorem wp_any (c : Dev nD) (t : Fin cfg0.N) {Q : PUnit → sProp 𝕄} :
    iprop(Mem x c t y z o ∗ state m c t.val ∗ (dats m 0 c).owesAt () t.castSucc)
      ⊢ iprop((∀ z', (Mem x c t (fin x (t.val % 8) y.a) z' (outs x (t.val % 8) y.a o) ∗ state m c (t.val + 1) ∗ (dats m 0 c).owesAt () t.succ) -∗ Q ⟨⟩)
      -∗ wp frame (wpE (defs₀ (F := F)) 𝒱₀ (c : Thread nD τ) none) Set.univ (bodyAt0 t) Q) := by
  have hN := lt_N t
  by_cases h0 : t.val = 0
  · exact wp_first m x y z o c t h0
  by_cases h63 : t.val = 63
  · exact wp_last m x y z o c t h63
  rw [state_mid m c t.val h0 hN, state_mid m c (t.val + 1) (by omega) (by omega)]
  iintro ⟨HM, HL, HO⟩ Hk
  ihave HO := (owes_mid m c t h0) $$ HO
  iapply (wp_mid x c t _ _ _ h0 h63) $$ HM
  iintro %z' HM
  iapply Hk
  isplitl [HM]; · iexact HM
  isplitl [HL]; · iexact HL
  iexact HO

theorem body_obligation (c : Dev nD) : (rdat (F := F) m 0 c).BodyObligation (defs₀ (F := F)) 𝒱₀ () Set.univ := fun t Y hY => by
  rw [bigSep_W0, bigSep_W0]
  show iprop((state m c t.val ∗ scr m c t.val) ∗ (dats m 0 c).owesAt () t.castSucc
      ∗ owns (c : Thread nD τ) (st0_0 t) fullShare (Y 0)
      ∗ owns (c : Thread nD τ) (st0_1 t) fullShare (Y 1)
      ∗ owns (c : Thread nD τ) (st0_2 t) fullShare (Y 2)
      ∗ owns (c : Thread nD τ) (st0_3 t) fullShare (Y 3)
      ∗ owns (c : Thread nD τ) (st0_4 t) fullShare (Y 4)
      ∗ owns (c : Thread nD τ) (st0_5 t) fullShare (Y 5)
      ∗ owns (c : Thread nD τ) (st0_6 t) fullShare (Y 6)
      ∗ owns (c : Thread nD τ) (st0_7 t) fullShare (Y 7)
      ∗ owns (c : Thread nD τ) (st0_8 t) fullShare (Y 8)
      ∗ owns (c : Thread nD τ) (st0_9 t) fullShare (Y 9)
      ∗ owns (c : Thread nD τ) (st0_10 t) fullShare (Y 10)
      ∗ owns (c : Thread nD τ) (st0_11 t) fullShare (Y 11))
    ⊢ wp frame (wpE (defs₀ (F := F)) 𝒱₀ c none) Set.univ (bodyAt0 t) (fun _ => iprop((state m c (t.val + 1) ∗ scr m c (t.val + 1)) ∗ (dats m 0 c).owesAt () t.succ
      ∗ (∃ X, ⌜(rdat m 0 c).after 0 t (Y 0) X⌝ ∗ owns (c : Thread nD τ) (st0_0 t) fullShare X)
      ∗ (∃ X, ⌜(rdat m 0 c).after 1 t (Y 1) X⌝ ∗ owns (c : Thread nD τ) (st0_1 t) fullShare X)
      ∗ (∃ X, ⌜(rdat m 0 c).after 2 t (Y 2) X⌝ ∗ owns (c : Thread nD τ) (st0_2 t) fullShare X)
      ∗ (∃ X, ⌜(rdat m 0 c).after 3 t (Y 3) X⌝ ∗ owns (c : Thread nD τ) (st0_3 t) fullShare X)
      ∗ (∃ X, ⌜(rdat m 0 c).after 4 t (Y 4) X⌝ ∗ owns (c : Thread nD τ) (st0_4 t) fullShare X)
      ∗ (∃ X, ⌜(rdat m 0 c).after 5 t (Y 5) X⌝ ∗ owns (c : Thread nD τ) (st0_5 t) fullShare X)
      ∗ (∃ X, ⌜(rdat m 0 c).after 6 t (Y 6) X⌝ ∗ owns (c : Thread nD τ) (st0_6 t) fullShare X)
      ∗ (∃ X, ⌜(rdat m 0 c).after 7 t (Y 7) X⌝ ∗ owns (c : Thread nD τ) (st0_7 t) fullShare X)
      ∗ (∃ X, ⌜(rdat m 0 c).after 8 t (Y 8) X⌝ ∗ owns (c : Thread nD τ) (st0_8 t) fullShare X)
      ∗ (∃ X, ⌜(rdat m 0 c).after 9 t (Y 9) X⌝ ∗ owns (c : Thread nD τ) (st0_9 t) fullShare X)
      ∗ (∃ X, ⌜(rdat m 0 c).after 10 t (Y 10) X⌝ ∗ owns (c : Thread nD τ) (st0_10 t) fullShare X)
      ∗ (∃ X, ⌜(rdat m 0 c).after 11 t (Y 11) X⌝ ∗ owns (c : Thread nD τ) (st0_11 t) fullShare X)))
  rw [finds_0 m c t _ (hY 0), finds_1 m c t _ (hY 1), finds_2 m c t _ (hY 2), finds_3 m c t _ (hY 3), finds_4 m c t _ (hY 4), finds_5 m c t _ (hY 5), finds_6 m c t _ (hY 6)]
  unfold scr
  iintro ⟨⟨HL, %y, %z, %hy, S0, S1, S2, S3, S4, S5, S6⟩, HO, H0, H1, H2, H3, H4, H5, H6, H7, H8, H9, H10, H11⟩
  iapply (wp_any m (ins m c t.val) y z ⟨Y 7, Y 8, Y 9, Y 10, Y 11⟩ c t) $$ [HL HO H0 H1 H2 H3 H4 H5 H6 H7 H8 H9 H10 H11 S0 S1 S2 S3 S4 S5 S6]
  · isplitr [HL HO]
    · unfold Mem
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      isplitl [S5]; · iexact S5
      iexact S6
    isplitl [HL]; · iexact HL
    iexact HO
  iintro %z' ⟨HM, HL, HO⟩
  unfold Mem outs
  rw [diag_eq m c t.val y.a hy, fin_eq m c t.val y.a hy]
  icases HM with ⟨H0, H1, H2, H3, H4, H5, H6, H7, H8, H9, H10, H11, S0, S1, S2, S3, S4, S5, S6⟩
  isplitl [HL S0 S1 S2 S3 S4 S5 S6]
  · isplitl [HL]; · iexact HL
    iexists (fn m c t.val)
    iexists z'
    isplitr
    · ipureintro
      intro _
      rw [Nat.add_sub_cancel, accA_eq]; rfl
    isplitl [S0]; · iexact S0
    isplitl [S1]; · iexact S1
    isplitl [S2]; · iexact S2
    isplitl [S3]; · iexact S3
    isplitl [S4]; · iexact S4
    isplitl [S5]; · iexact S5
    iexact S6
  isplitl [HO]; · iexact HO
  isplitl [H0]
  · iexists _
    isplitr
    swap; · iexact H0
    ipureintro
    (show _ = iblk m c 0 t; unfold ins; rw [pt_val])
  isplitl [H1]
  · iexists _
    isplitr
    swap; · iexact H1
    ipureintro
    (show _ = iblk m c 1 t; unfold ins; rw [pt_val])
  isplitl [H2]
  · iexists _
    isplitr
    swap; · iexact H2
    ipureintro
    (show _ = iblk m c 2 t; unfold ins; rw [pt_val])
  isplitl [H3]
  · iexists _
    isplitr
    swap; · iexact H3
    ipureintro
    (show _ = iblk m c 3 t; unfold ins; rw [pt_val])
  isplitl [H4]
  · iexists _
    isplitr
    swap; · iexact H4
    ipureintro
    (show _ = iblk m c 4 t; unfold ins; rw [pt_val])
  isplitl [H5]
  · iexists _
    isplitr
    swap; · iexact H5
    ipureintro
    (show _ = iblk m c 5 t; unfold ins; rw [pt_val])
  isplitl [H6]
  · iexists _
    isplitr
    swap; · iexact H6
    ipureintro
    (show _ = iblk m c 6 t; unfold ins; rw [pt_val])
  isplitl [H7]
  · iexists _
    isplitr
    swap; · iexact H7
    ipureintro
    exact leaves_7 m c t _ (hY 7)
  isplitl [H8]
  · iexists _
    isplitr
    swap; · iexact H8
    ipureintro
    rfl
  isplitl [H9]
  · iexists _
    isplitr
    swap; · iexact H9
    ipureintro
    rfl
  isplitl [H10]
  · iexists _
    isplitr
    swap; · iexact H10
    ipureintro
    exact leaves_10 m c t _ (hY 10)
  iexists _
  isplitr
  swap; · iexact H11
  ipureintro
  rfl

/-! ## The run -/

def u₀ : UU nD τ sig := (initOf (Pipeline.cells cfgs cellOf_inj) (Pipeline.launchToks cfgs cellOf_inj), initOf plan.cells plan.toks)

/-- What a device's arrays hold at the end that no window stages. -/
def rest (c : Dev nD) (s : MemSt nD τ sig (Elt F)) : Prop :=
  s.mem ((c : Thread nD τ).loc main_arg5) = m ((c : Thread nD τ).loc main_arg5)
    ∧ ∀ j : Fin 3, ∀ i ∈ (oRow j).view.set, s.mem ((c : Thread nD τ).loc main_v1_5) i = got m j c i

theorem ends (c : Dev nD) (s' : Phys nD τ sig (Elt F)) :
    iprop((hold m c ∗ dst m 0 c ∗ dst m 1 c ∗ dst m 2 c) ∗ emp ∗ SI s') ⊢ (|={Set.univ}=> iprop(⌜rest m c s'.mem⌝ ∗ SI s') : sProp 𝕄) := by
  unfold hold dst rest
  iintro ⟨⟨Hh, D0, D1, D2⟩, -, HSI⟩
  ihave %h := SI_pointsTo_agree $$ [HSI Hh]
  · isplitl [HSI] <;> iassumption
  ihave %h0 := SI_pointsTo_agree $$ [HSI D0]
  · isplitl [HSI] <;> iassumption
  ihave %h1 := SI_pointsTo_agree $$ [HSI D1]
  · isplitl [HSI] <;> iassumption
  ihave %h2 := SI_pointsTo_agree $$ [HSI D2]
  · isplitl [HSI] <;> iassumption
  imodintro
  isplitr
  · ipureintro
    refine ⟨funext fun i => h i (Finset.mem_univ i), fun j => ?_⟩
    fin_cases j
    · exact fun i hi => h0 i hi
    · exact fun i hi => h1 i hi
    · exact fun i hi => h2 i hi
  · iexact HSI

theorem ownSemFacts : Pipeline.OwnSemFacts cfg0.spec plan.osem := by decide

theorem scratch_eq0 (c : Dev nD) (f : Buf (Elt F) ((c : Thread nD τ).loc cc0_scratch0)) :
    (owns (c : Thread nD τ) (Memref.whole cc0_scratch0) fullShare f : sProp 𝕄) = ((c : Thread nD τ).loc cc0_scratch0) ↦{fullShare} f :=
  owns_whole _ _ _ _
theorem scratch_eq1 (c : Dev nD) (f : Buf (Elt F) ((c : Thread nD τ).loc cc0_scratch1)) :
    (owns (c : Thread nD τ) (Memref.whole cc0_scratch1) fullShare f : sProp 𝕄) = ((c : Thread nD τ).loc cc0_scratch1) ↦{fullShare} f :=
  owns_whole _ _ _ _
theorem scratch_eq2 (c : Dev nD) (f : Buf (Elt F) ((c : Thread nD τ).loc cc0_scratch2)) :
    (owns (c : Thread nD τ) (Memref.whole cc0_scratch2) fullShare f : sProp 𝕄) = ((c : Thread nD τ).loc cc0_scratch2) ↦{fullShare} f :=
  owns_whole _ _ _ _
theorem scratch_eq3 (c : Dev nD) (f : Buf (Elt F) ((c : Thread nD τ).loc cc0_scratch3)) :
    (owns (c : Thread nD τ) (Memref.whole cc0_scratch3) fullShare f : sProp 𝕄) = ((c : Thread nD τ).loc cc0_scratch3) ↦{fullShare} f :=
  owns_whole _ _ _ _
theorem scratch_eq4 (c : Dev nD) (f : Buf (Elt F) ((c : Thread nD τ).loc cc0_scratch4)) :
    (owns (c : Thread nD τ) (Memref.whole cc0_scratch4) fullShare f : sProp 𝕄) = ((c : Thread nD τ).loc cc0_scratch4) ↦{fullShare} f :=
  owns_whole _ _ _ _
theorem scratch_eq5 (c : Dev nD) (f : Buf (Elt F) ((c : Thread nD τ).loc cc0_scratch5)) :
    (owns (c : Thread nD τ) (Memref.whole cc0_scratch5) fullShare f : sProp 𝕄) = ((c : Thread nD τ).loc cc0_scratch5) ↦{fullShare} f :=
  owns_whole _ _ _ _
theorem scratch_eq6 (c : Dev nD) (f : Buf (Elt F) ((c : Thread nD τ).loc cc0_scratch6)) :
    (owns (c : Thread nD τ) (Memref.whole cc0_scratch6) fullShare f : sProp 𝕄) = ((c : Thread nD τ).loc cc0_scratch6) ↦{fullShare} f :=
  owns_whole _ _ _ _

/-- A staging semaphore is no line's. -/
theorem stage_ne : ∀ (w : Fin cfg0.W) (s : Fin (cfg0.win w).nbuf) (j : Fin 3), (cfg0.win w).sem s ≠ plan.rcv j := by decide

/-- From any memory with zero counters every weakly fair execution of `@main` terminates, each staged array at its
    written blocks, the rows exchanged in place, and every counter at zero. -/
theorem run_main : θ_run defs (onTc (τ := τ) (main (F := F))) ⟨m, fun _ => 0, ρ⟩
    (fun r => (∀ c : Dev nD, (∀ w, r.2.mem ((cfg0.win w).arr.view.loc (c : Thread nD τ)) = (dats m 0 c).arrAt w cfg0.N) ∧ rest m c r.2)
      ∧ r.2.sem = fun _ => 0) :=
  Proof.Launch.run_owing (fun p => (cfgs p).toPCfg) (fun _ p => (cfgs p).toPCfg_adm) (fun p c => rdat m p c) () cellOf_inj (0 : Fin 1)
    winFacts₀0 (osem := plan.osem) ownSemFacts EP defs₀ 𝒱₀ m ρ main
    (hmain := fun _ => rfl)
    (hbody := body_obligation m) (hne := block_pos0) (harr := arr_whole0) (hstage := stage_whole0)
    (hshare := sharedIn0) (hq := fun _ _ _ => rfl)
    (O₀ := O₀) (howed₀ := fun _ => rfl) (howedN := fun _ => rfl)
    (L := Proof.Lines.Plan.L) (lv := plan.lv) (hL := Proof.Lines.Plan.L_of_ne)
    (hwaits := fun c => Pipeline.cellsWaits_intro cfgs (dats m) () 0 c fun w s t => by
      by_cases h : t.val = 0
      · rw [owed_first m c t h]; exact plan.mayWait c Finset.univ _ (stage_ne w s)
      · rw [owed_later m c t h, MayWait_zero]; iintro -; iempintro)
    (G := plan.G (src m) (dst m)) (G' := plan.G' (src m) (dst m) (keep m) (give m)) (u₀ := u₀)
    (hu₀ := by
      unfold u₀
      iintro Hu
      ihave H := (ownU_pair _ _) $$ Hu
      icases H with ⟨HP, HX⟩
      imod (plan.fund (src m) (dst m)) $$ HX with HG
      imodintro
      isplitl [HP] <;> iassumption)
    (hglob := plan.glob (src m) (dst m) (keep m) (give m) _ _ (rest_split m))
    (hA := fun _ _ => rfl) (hpre := fun c => by
      unfold Pipeline.prefHeld
      rw [show (Finset.univ : Finset (Fin 0)) = ∅ from rfl, bigSep_empty])
    (X := fun c => iprop(keep m c ∗ bigSep Finset.univ fun j => plan.ready (src m) (dst m) (give m) c j))
    (Y := fun c => iprop(hold m c ∗ dst m 0 c ∗ dst m 1 c ∗ dst m 2 c)) (Z := fun _ => iprop(emp))
    (hX := fun c => plan.start (src m) (dst m) c (keep m) (give m) _)
    (hin := fun c => by
      show iprop(_ ∗ Pipeline.scopedRest spec0 c) ⊢ iprop(state m c 0 ∗ scr m c 0)
      rw [scopedRest0_eq c, lines]
      unfold scr
      rw [state_first m c 0 rfl]
      simp only [scratch_eq0, scratch_eq1, scratch_eq2, scratch_eq3, scratch_eq4, scratch_eq5, scratch_eq6]
      iintro ⟨H1, ⟨%f0, G0⟩, ⟨%f1, G1⟩, ⟨%f2, G2⟩, ⟨%f3, G3⟩, ⟨%f4, G4⟩, ⟨%f5, G5⟩, %f6, G6⟩
      isplitl [H1]; · iexact H1
      iexists (⟨f0, f1, f2⟩ : Acc F)
      iexists (⟨f3, f4, f5, f6⟩ : Sc F)
      isplitr; · ipureintro; exact fun h => absurd rfl h
      isplitl [G0]; · iexact G0
      isplitl [G1]; · iexact G1
      isplitl [G2]; · iexact G2
      isplitl [G3]; · iexact G3
      isplitl [G4]; · iexact G4
      isplitl [G5]; · iexact G5
      iexact G6)
    (hout := fun c => by
      show iprop(state m c 64 ∗ scr m c 64) ⊢ iprop((hold m c ∗ dst m 0 c ∗ dst m 1 c ∗ dst m 2 c) ∗ Pipeline.ownSems0 plan.osem c ∗ Pipeline.scopedRest spec0 c)
      rw [scopedRest0_eq c, plan.over_sems, lines]
      unfold scr
      rw [state_last m c 64 (by omega)]
      simp only [scratch_eq0, scratch_eq1, scratch_eq2, scratch_eq3, scratch_eq4, scratch_eq5, scratch_eq6]
      iintro ⟨⟨H1, H2⟩, %y, %z, -, G0, G1, G2, G3, G4, G5, G6⟩
      isplitl [H1]; · iexact H1
      isplitl [H2]; · iexact H2
      isplitl [G0]; · iexists _; iexact G0
      isplitl [G1]; · iexists _; iexact G1
      isplitl [G2]; · iexists _; iexact G2
      isplitl [G3]; · iexists _; iexact G3
      isplitl [G4]; · iexists _; iexact G4
      isplitl [G5]; · iexists _; iexact G5
      iexists _; iexact G6)
    (QY := rest m) (hY := ends m)
    (hQ := fun _ h hs => ⟨fun c => ⟨fun w => arrAt_eq m c w _ ((h c).1 w), (h c).2⟩, sem_eq_zero_of_scoped (by decide) hs⟩)

end Cert.AttnProof

end
-- ==== Proof.AttnTile.lean ====
/-
# Backward attention: one head

The weights and the gradients of one head (`Cert.AttnProof.Hd`), and what the kernel's payloads are at an index, in terms of a
block's arrays.
-/
module

public import proofs.«01_k».proof.Proof.AttnStep
public import Idealize.ShloMosaic.Lib.Pointwise

@[expose] public section

set_option maxRecDepth 16384

noncomputable section

namespace Cert.AttnProof

open Cert.AttnIdeal Cert.AttnIdeal.Gen
open Idealize.ShloMosaic
open scoped BigOperators

/-! ## The constants -/

/-- The scale of the scores in powers of two, the unit of the biases in powers of two, the scale of the scores. -/
abbrev c1 : EReal := Ideal.ofBits .f32 0x3E0293EE#32
abbrev c2 : EReal := Ideal.ofBits .f32 0x3FB8AA3B#32
abbrev c3 : EReal := Ideal.ofBits .f32 0x3DB504F3#32

theorem negInf : Ideal.ofBits .f32 0xFF800000#32 = (⊥ : EReal) := by
  simp [Ideal.ofBits, Ideal.ieee]
theorem oneBits : Ideal.ofBits .bf16 0x3F80#16 = (1 : EReal) := by
  rw [show (1 : EReal) = ((1 : ℝ) : EReal) by norm_cast]
  simp [Ideal.ofBits, Ideal.ieee, -EReal.coe_mul]; norm_num

/-! ## A block's payloads -/

/-- Which of a row's 128 copies of a statistic key `j` uses. -/
abbrev lane (j : Fin 512) : Fin 128 := ⟨j.val % 128, Nat.mod_lt _ (by decide)⟩

theorem four {α : Type} (f : (n : ℕ) → n < 128 → α) (j : Fin 512) :
    (if h : j.val < 128 then f j.val h else if h : j.val - 128 < 128 then f (j.val - 128) h
      else if h : j.val - 128 - 128 < 128 then f (j.val - 128 - 128) h else f (j.val - 128 - 128 - 128) (by omega)) = f (j.val % 128) (lane j).isLt := by
  have g : ∀ (n : ℕ) (h : n < 128), n = j.val % 128 → f n h = f (j.val % 128) (lane j).isLt := fun n h e => by subst e; rfl
  split
  · exact g _ _ (by omega)
  · split
    · exact g _ _ (by omega)
    · split
      · exact g _ _ (by omega)
      · exact g _ _ (by omega)

theorem toInt_small {a : ℕ} (ha : a < 2 ^ 31) : (BitVec.ofNat 32 a).toInt = a := by
  have h : (BitVec.ofNat 32 a).toNat = a := by rw [BitVec.toNat_ofNat]; omega
  rw [BitVec.toInt_eq_toNat_of_lt (by omega), h]
theorem select_le {α : Type} {a b : ℕ} (x y : α) (ha : a < 2 ^ 31) (hb : b < 2 ^ 31) :
    Scalar.select (IntOp.cmpi .sle (BitVec.ofNat 32 a) (BitVec.ofNat 32 b)) x y = if a ≤ b then x else y := by
  have e : (BitVec.ofNat 32 a).sle (BitVec.ofNat 32 b) = decide (a ≤ b) := by
    have h1 : (BitVec.ofNat 32 a).toInt = a := toInt_small ha
    have h2 : (BitVec.ofNat 32 b).toInt = b := toInt_small hb
    rw [BitVec.sle, h1, h2]
    exact decide_eq_decide.mpr Int.ofNat_le
  by_cases h : a ≤ b
  · simp [Scalar.select, IntOp.cmpi, e, h]
  · simp [Scalar.select, IntOp.cmpi, e, h]

section
variable (k v q d : Vec Ideal S512x128 .bf16) (cum : Vec Ideal S1x1x1x512 .f32) (s e p : Vec Ideal S512x512 .f32) (l dl : Vec Ideal S512x128 .f32)
  (i j : Fin 512)

theorem pay46_eq : k0_pay46 k = k := by funext x; pointwise [k0_pay46]
theorem pay47_eq : k0_pay47 v = v := by funext x; pointwise [k0_pay47]
theorem pay1_apply : k0_pay1 k q (ix2 i j) = ∑ x : Fin 128, q (ix2 i x) * k (ix2 j x) := by pointwise [k0_pay1]
theorem pay2_apply : k0_pay2 v d (ix2 i j) = ∑ x : Fin 128, d (ix2 i x) * v (ix2 j x) := by pointwise [k0_pay2]
theorem pay48_apply (z : Fin 1) : k0_pay48 cum (ix2 z j) = cum (ix4 0 0 0 j) * c2 := by pointwise [k0_pay48]
theorem pay56_apply : k0_pay56 (F := Ideal) l (ix2 i j) = l (ix2 i (lane j)) := by
  pointwise [k0_pay56]
  exact four (fun n h => l (ix2 i ⟨n, h⟩)) j
theorem pay3_apply : k0_pay3 (k0_pay48 cum) s l (ix2 i j) = Ideal.exp2 (s (ix2 i j) * c1 - cum (ix4 0 0 0 j) * c2 - l (ix2 i (lane j))) := by
  have h := pay48_apply cum j
  pointwise [k0_pay3]
  rw [h, four (fun n h => l (ix2 i ⟨n, h⟩)) j]
  rfl
theorem pay55_apply : k0_pay55 (k0_pay48 cum) s (ix2 i j) = if j.val ≤ i.val then s (ix2 i j) * c1 - cum (ix4 0 0 0 j) * c2 else ⊥ := by
  have h := pay48_apply cum j
  pointwise [k0_pay55]
  rw [h, negInf, select_le _ _ (by omega) (by omega)]
theorem pay57_apply : k0_pay57 (F := Ideal) s p (ix2 i j) = Ideal.exp2 (s (ix2 i j) - p (ix2 i j)) := by
  pointwise [k0_pay57]
  rfl
theorem pay58_apply : k0_pay58 (F := Ideal) s p e dl (ix2 i j) = Ideal.exp2 (s (ix2 i j) - p (ix2 i j)) * (e (ix2 i j) - dl (ix2 i (lane j))) := by
  pointwise [k0_pay58]
  rw [pay57_apply, four (fun n h => dl (ix2 i ⟨n, h⟩)) j]
theorem pay4_apply : k0_pay4 (F := Ideal) p e dl (ix2 i j) = p (ix2 i j) * (e (ix2 i j) - dl (ix2 i (lane j))) := by
  pointwise [k0_pay4]
  rw [four (fun n h => dl (ix2 i ⟨n, h⟩)) j]

variable (b : Vec Ideal S512x256 .f32) (w : Vec Ideal S512x128 .f32) (y : Fin 256)

/-- Column `y` of 128 columns and 128 columns of ones. -/
def ones {n : ℕ} (k : Fin n → Fin 128 → EReal) (j : Fin n) (y : Fin 256) : EReal := if h : y.val < 128 then k j ⟨y.val, h⟩ else 1
/-- A block by rows. -/
abbrev byRow {n : ℕ} (k : (⟨2, ![n, 128]⟩ : Shape).Idx → EReal) : Fin n → Fin 128 → EReal := fun j x => k (ix2 j x)

theorem pay49_apply : k0_pay49 k (ix2 j y) = ones (byRow k) j y := by
  pointwise [k0_pay49]
  unfold ones
  split <;> rename_i h
  · rw [pay46_eq]
  · rfl
theorem pay5_apply (z : Fin 128) : k0_pay5 p w d (ix2 j z) = w (ix2 j z) + ∑ i : Fin 512, p (ix2 i j) * d (ix2 i z) := by
  pointwise [k0_pay5]
theorem pay59_apply (z : Fin 128) : k0_pay59 s p w d (ix2 j z) = w (ix2 j z) + ∑ i : Fin 512, Ideal.exp2 (s (ix2 i j) - p (ix2 i j)) * d (ix2 i z) := by
  pointwise [k0_pay59]
  exact congrArg (w (ix2 j z) + ·) (Finset.sum_congr rfl fun i _ => congrArg (· * _) (pay57_apply s p i j))
theorem tail : (if h : y.val < 128 then q (ix2 j ⟨y.val, h⟩) else k0_pay50 (F := Ideal) (ix2 j ⟨y.val - 128, by omega⟩)) = ones (byRow q) j y := by
  have h50 : ∀ x, k0_pay50 (F := Ideal) x = 1 := fun x => by pointwise [k0_pay50]
  unfold ones
  split <;> rename_i h
  · rfl
  · exact h50 _
theorem pay6_apply : k0_pay6 k0_pay50 p e dl b q (ix2 j y)
    = b (ix2 j y) + ∑ i : Fin 512, p (ix2 i j) * (e (ix2 i j) - dl (ix2 i (lane j))) * ones (byRow q) i y := by
  pointwise [k0_pay6]
  refine congrArg (b (ix2 j y) + ·) (Finset.sum_congr rfl fun i _ => congrArg₂ (· * ·) (pay4_apply e p dl i j) ?_)
  exact tail q i y
theorem pay60_apply : k0_pay60 k0_pay50 s p e dl b q (ix2 j y)
    = b (ix2 j y) + ∑ i : Fin 512, Ideal.exp2 (s (ix2 i j) - p (ix2 i j)) * (e (ix2 i j) - dl (ix2 i (lane j))) * ones (byRow q) i y := by
  pointwise [k0_pay60]
  refine congrArg (b (ix2 j y) + ·) (Finset.sum_congr rfl fun i _ => congrArg₂ (· * ·) (pay58_apply s e p dl i j) ?_)
  exact tail q i y
theorem pay7_apply : k0_pay7 (k0_pay49 k) p e dl b (ix2 i y)
    = b (ix2 i y) + ∑ j : Fin 512, p (ix2 i j) * (e (ix2 i j) - dl (ix2 i (lane j))) * ones (byRow k) j y := by
  pointwise [k0_pay7]
  exact congrArg (b (ix2 i y) + ·) (Finset.sum_congr rfl fun j _ => congrArg₂ (· * ·) (pay4_apply e p dl i j) (pay49_apply k j y))
theorem pay61_apply : k0_pay61 (k0_pay49 k) s p e dl b (ix2 i y)
    = b (ix2 i y) + ∑ j : Fin 512, Ideal.exp2 (s (ix2 i j) - p (ix2 i j)) * (e (ix2 i j) - dl (ix2 i (lane j))) * ones (byRow k) j y := by
  pointwise [k0_pay61]
  exact congrArg (b (ix2 i y) + ·) (Finset.sum_congr rfl fun j _ => congrArg₂ (· * ·) (pay58_apply s e p dl i j) (pay49_apply k j y))

theorem pay62_apply (z : Fin 128) : k0_pay62 (F := Ideal) w (ix2 i z) = w (ix2 i z) * c3 := by pointwise [k0_pay62]
theorem pay73_apply (z : Fin 128) : k0_pay73 (F := Ideal) w (ix2 i z) = w (ix2 i z) * c3 := by pointwise [k0_pay73]
theorem pay75_apply (z : Fin 128) : k0_pay75 (F := Ideal) w (ix2 i z) = w (ix2 i z) := by pointwise [k0_pay75]
theorem pay63_apply (z : Fin 1) (a : Fin 8) : k0_pay63 (F := Ideal) w (ix3 z a i) = w (ix2 i ⟨a.val, by omega⟩) := by
  pointwise [k0_pay63]
theorem pay74_apply (z : Fin 1) (a : Fin 8) : k0_pay74 (F := Ideal) w (ix3 z a i) = w (ix2 i ⟨a.val, by omega⟩) := by
  pointwise [k0_pay74]
theorem pay43_apply (x : S4096x256.Idx) : k0_pay43 (F := Ideal) x = 0 := by pointwise [k0_pay43]
theorem pay44_apply (x : S512x256.Idx) : k0_pay44 (F := Ideal) x = 0 := by pointwise [k0_pay44]
theorem pay45_apply (x : S512x128.Idx) : k0_pay45 (F := Ideal) x = 0 := by pointwise [k0_pay45]
end

/-! ## A head -/

/-- The arrays of one head. -/
structure Hd where
  q : Fin 4096 → Fin 128 → EReal
  k : Fin 4096 → Fin 128 → EReal
  v : Fin 4096 → Fin 128 → EReal
  d : Fin 4096 → Fin 128 → EReal
  lse : Fin 4096 → Fin 128 → EReal
  delta : Fin 4096 → Fin 128 → EReal
  cum : Fin 4096 → EReal

/-- Which copy of a statistic key `j` uses. -/
abbrev laneH (j : Fin 4096) : Fin 128 := ⟨j.val % 128, Nat.mod_lt _ (by decide)⟩

/-- The weight of key `j` for query `r`, zero if the key is after the query; its gradient. -/
def E (H : Hd) (r j : Fin 4096) : EReal :=
  Ideal.exp2 ((if j.val ≤ r.val then (∑ x, H.q r x * H.k j x) * c1 - H.cum j * c2 else ⊥) - H.lse r (laneH j))
def D (H : Hd) (r j : Fin 4096) : EReal := E H r j * ((∑ x, H.d r x * H.v j x) - H.delta r (laneH j))

theorem E_zero (H : Hd) {r j : Fin 4096} (h : r.val < j.val) : E H r j = 0 := by
  rw [E, if_neg (by omega), show (⊥ : EReal) - H.lse r (laneH j) = ⊥ from EReal.bot_sub _]
  rfl
theorem D_zero (H : Hd) {r j : Fin 4096} (h : r.val < j.val) : D H r j = 0 := by rw [D, E_zero H h, zero_mul]

/-- Row `i` of block `b`. -/
def at' (b : ℕ) (i : Fin 512) : Fin 4096 := ⟨(512 * b + i.val) % 4096, Nat.mod_lt _ (by decide)⟩
theorem at_val {b : ℕ} (hb : b < 8) (i : Fin 512) : (at' b i).val = 512 * b + i.val := Nat.mod_eq_of_lt (by omega)
theorem laneH_at (b : ℕ) (j : Fin 512) : laneH (at' b j) = lane j := Fin.ext (by show (512 * b + j.val) % 4096 % 128 = j.val % 128; omega)
theorem at_of {b : ℕ} (r : Fin 4096) (h : r.val / 512 = b) : at' b ⟨r.val % 512, Nat.mod_lt _ (by decide)⟩ = r :=
  Fin.ext (by show (512 * b + r.val % 512) % 4096 = r.val; omega)

theorem sum_at {M : Type} [AddCommMonoid M] (f : Fin 4096 → M) : ∑ r, f r = ∑ b ∈ Finset.range 8, ∑ i : Fin 512, f (at' b i) := by
  rw [← Fin.sum_univ_eq_sum_range (fun b => ∑ i : Fin 512, f (at' b i)) 8, ← Fintype.sum_prod_type',
    ← Equiv.sum_comp (finProdFinEquiv (m := 8) (n := 512)) f]
  refine Fintype.sum_congr _ _ fun x => congrArg f (Fin.ext ?_)
  have h1 := x.1.isLt
  have h2 := x.2.isLt
  show x.2.val + 512 * x.1.val = (512 * x.1.val + x.2.val) % 4096
  omega
theorem sum_from {M : Type} [AddCommMonoid M] {b : ℕ} (hb : b < 8) (f : Fin 4096 → M) (h : ∀ r, r.val < 512 * b → f r = 0) :
    ∑ r, f r = ∑ i : Fin 512, f (at' b i) + ∑ t ∈ Finset.range (7 - b), ∑ i : Fin 512, f (at' (b + 1 + t) i) := by
  rw [sum_at, show 8 = b + ((7 - b) + 1) by omega, Finset.sum_range_add, Finset.sum_eq_zero, zero_add, Finset.sum_range_succ', add_comm]
  · refine congrArg₂ (· + ·) rfl (Finset.sum_congr rfl fun t _ => ?_)
    rw [show b + (t + 1) = b + 1 + t by omega]
  · intro t ht
    rw [Finset.mem_range] at ht
    refine Finset.sum_eq_zero fun i _ => h _ ?_
    rw [at_val (by omega)]
    omega
theorem sum_upto {M : Type} [AddCommMonoid M] {b : ℕ} (hb : b < 8) (f : Fin 4096 → M) (h : ∀ r, 512 * (b + 1) ≤ r.val → f r = 0) :
    ∑ r, f r = ∑ t ∈ Finset.range (b + 1), ∑ i : Fin 512, f (at' t i) := by
  rw [sum_at, show 8 = (b + 1) + (7 - b) by omega, Finset.sum_range_add]
  refine (congrArg (_ + ·) (Finset.sum_eq_zero fun t ht => ?_)).trans (add_zero _)
  rw [Finset.mem_range] at ht
  refine Finset.sum_eq_zero fun i _ => h _ ?_
  rw [at_val (by omega)]
  omega

/-- What block `b` of the keys gives query `r`: column `y` of the gradient and of the sums. -/
def S (H : Hd) (b : ℕ) (r : Fin 4096) (y : Fin 256) : EReal := ∑ j : Fin 512, D H r (at' b j) * ones H.k (at' b j) y
theorem S_zero (H : Hd) {b : ℕ} (hb : b < 8) {r : Fin 4096} (h : r.val < 512 * b) (y : Fin 256) : S H b r y = 0 :=
  Finset.sum_eq_zero fun j _ => by rw [D_zero H (by rw [at_val hb]; omega), zero_mul]

/-! ## A block of a head -/

/-- The arrays a point reads are the head's, with block `b` of the keys. -/
structure Of (H : Hd) (b : ℕ) (x : Ins Ideal) : Prop where
  q : ∀ r z, x.q (ix2 r z) = H.q r z
  k : ∀ j z, x.k (ix2 j z) = H.k (at' b j) z
  v : ∀ j z, x.v (ix2 j z) = H.v (at' b j) z
  d : ∀ r z, x.d (ix2 r z) = H.d r z
  lse : ∀ r z, x.lse (ix2 r z) = H.lse r z
  delta : ∀ r z, x.delta (ix2 r z) = H.delta r z
  cum : ∀ j, x.cum (ix4 0 0 0 j) = H.cum (at' b j)

section
variable {H : Hd} {b : ℕ} {x : Ins Ideal} (hx : Of H b x) (hb : b < 8)
include hx

theorem q_row (g : ℕ) (i : Fin 512) (z : Fin 128) : rows g x.q (ix2 i z) = H.q (at' g i) z := hx.q _ _
theorem d_row (g : ℕ) (i : Fin 512) (z : Fin 128) : rows g x.d (ix2 i z) = H.d (at' g i) z := hx.d _ _
theorem lse_row (g : ℕ) (i j : Fin 512) : rows g x.lse (ix2 i (lane j)) = H.lse (at' g i) (laneH (at' b j)) := by rw [laneH_at]; exact hx.lse _ _
theorem delta_row (g : ℕ) (i j : Fin 512) : rows g x.delta (ix2 i (lane j)) = H.delta (at' g i) (laneH (at' b j)) := by rw [laneH_at]; exact hx.delta _ _
theorem sIn_apply (g : ℕ) (i j : Fin 512) : sIn x g (ix2 i j) = ∑ z, H.q (at' g i) z * H.k (at' b j) z := by
  unfold sIn
  rw [pay46_eq, pay1_apply]
  exact Finset.sum_congr rfl fun z _ => congrArg₂ (· * ·) (q_row hx g i z) (hx.k j z)
theorem dIn_apply (g : ℕ) (i j : Fin 512) : dIn x g (ix2 i j) - rows g x.delta (ix2 i (lane j)) = (∑ z, H.d (at' g i) z * H.v (at' b j) z) - H.delta (at' g i) (laneH (at' b j)) := by
  unfold dIn
  rw [pay47_eq, pay2_apply, delta_row hx]
  exact congrArg (· - _) (Finset.sum_congr rfl fun z _ => congrArg₂ (· * ·) (d_row hx g i z) (hx.v j z))
theorem ones_q (g : ℕ) (i : Fin 512) (y : Fin 256) : ones (byRow (rows g x.q)) i y = ones H.q (at' g i) y := by
  unfold ones
  split
  · exact q_row hx g i _
  · rfl
theorem ones_k (j : Fin 512) (y : Fin 256) : ones (byRow x.k) j y = ones H.k (at' b j) y := by
  unfold ones
  split
  · exact hx.k j _
  · rfl

include hb
theorem p_step {g : ℕ} (hg : b < g) (hg8 : g < 8) (i j : Fin 512) : k0_pay3 (k0_pay48 x.cum) (sIn x g) (rows g x.lse) (ix2 i j) = E H (at' g i) (at' b j) := by
  rw [pay3_apply, sIn_apply hx, hx.cum, lse_row hx, E, if_pos]
  rw [at_val hb, at_val hg8]; omega
theorem p_first (i j : Fin 512) :
    Ideal.exp2 (k0_pay55 (k0_pay48 x.cum) (sIn x b) (ix2 i j) - k0_pay56 (rows b x.lse) (ix2 i j)) = E H (at' b i) (at' b j) := by
  rw [pay55_apply, pay56_apply, sIn_apply hx, hx.cum, lse_row hx, E, at_val hb, at_val hb]
  simp only [Nat.add_le_add_iff_left]

variable (y : Acc Ideal)

theorem first_b (j : Fin 512) (w : Fin 256) : (first x b y).b (ix2 j w) = y.b (ix2 j w) + ∑ i : Fin 512, D H (at' b i) (at' b j) * ones H.q (at' b i) w := by
  unfold first firstS
  refine (pay60_apply _ _ _ _ _ _ _ _).trans (congrArg _ (Finset.sum_congr rfl fun i _ => ?_))
  rw [p_first hx hb, dIn_apply hx, ones_q hx]; rfl
theorem step_b {g : ℕ} (hg : b < g) (hg8 : g < 8) (j : Fin 512) (w : Fin 256) :
    (step x g y).b (ix2 j w) = y.b (ix2 j w) + ∑ i : Fin 512, D H (at' g i) (at' b j) * ones H.q (at' g i) w := by
  unfold step stepS
  refine (pay6_apply _ _ _ _ _ _ _).trans (congrArg _ (Finset.sum_congr rfl fun i _ => ?_))
  rw [p_step hx hb hg hg8, dIn_apply hx, ones_q hx]; rfl
theorem first_v (j : Fin 512) (z : Fin 128) : (first x b y).v (ix2 j z) = y.v (ix2 j z) + ∑ i : Fin 512, E H (at' b i) (at' b j) * H.d (at' b i) z := by
  unfold first firstS
  refine (pay59_apply _ _ _ _ _ _).trans (congrArg _ (Finset.sum_congr rfl fun i _ => ?_))
  rw [p_first hx hb, d_row hx]
theorem step_v {g : ℕ} (hg : b < g) (hg8 : g < 8) (j : Fin 512) (z : Fin 128) :
    (step x g y).v (ix2 j z) = y.v (ix2 j z) + ∑ i : Fin 512, E H (at' g i) (at' b j) * H.d (at' g i) z := by
  unfold step stepS
  refine (pay5_apply _ _ _ _ _).trans (congrArg _ (Finset.sum_congr rfl fun i _ => ?_))
  rw [p_step hx hb hg hg8, d_row hx]

theorem first_a (r : Fin 4096) (w : Fin 256) : (first x b y).a (ix2 r w) = if r.val / 512 = b then y.a (ix2 r w) + S H b r w else y.a (ix2 r w) := by
  unfold first firstS
  show (if r.val / 512 = b then k0_pay61 (F := Ideal) _ _ _ _ _ _ (ix2 _ w) else y.a (ix2 r w)) = _
  refine ite_congr rfl (fun h => ?_) fun _ => rfl
  refine (pay61_apply _ _ _ _ _ _ _ _).trans (congrArg₂ (· + ·) (congrArg (fun r => y.a (ix2 r w)) (at_of r h)) (Finset.sum_congr rfl fun j _ => ?_))
  rw [p_first hx hb, dIn_apply hx, ones_k hx]
  exact congrArg (fun r => D H r (at' b j) * ones H.k (at' b j) w) (at_of r h)
theorem step_a {g : ℕ} (hg : b < g) (hg8 : g < 8) (r : Fin 4096) (w : Fin 256) :
    (step x g y).a (ix2 r w) = if r.val / 512 = g then y.a (ix2 r w) + S H b r w else y.a (ix2 r w) := by
  unfold step stepS
  show (if r.val / 512 = g then k0_pay7 (F := Ideal) _ _ _ _ _ (ix2 _ w) else y.a (ix2 r w)) = _
  refine ite_congr rfl (fun h => ?_) fun _ => rfl
  refine (pay7_apply _ _ _ _ _ _ _).trans (congrArg₂ (· + ·) (congrArg (fun r => y.a (ix2 r w)) (at_of r h)) (Finset.sum_congr rfl fun j _ => ?_))
  rw [p_step hx hb hg hg8, dIn_apply hx, ones_k hx]
  exact congrArg (fun r => D H r (at' b j) * ones H.k (at' b j) w) (at_of r h)

/-! ## All the blocks -/

theorem run_b (n : ℕ) (hn : n ≤ 7 - b) (j : Fin 512) (w : Fin 256) : (run x (b + 1) y n).b (ix2 j w)
    = y.b (ix2 j w) + ∑ t ∈ Finset.range n, ∑ i : Fin 512, D H (at' (b + 1 + t) i) (at' b j) * ones H.q (at' (b + 1 + t) i) w := by
  induction n with
  | zero => exact (add_zero _).symm
  | succ n ih =>
    rw [Finset.sum_range_succ, ← add_assoc, ← ih (by omega)]
    exact step_b hx hb _ (by omega) (by omega) j w
theorem run_v (n : ℕ) (hn : n ≤ 7 - b) (j : Fin 512) (z : Fin 128) : (run x (b + 1) y n).v (ix2 j z)
    = y.v (ix2 j z) + ∑ t ∈ Finset.range n, ∑ i : Fin 512, E H (at' (b + 1 + t) i) (at' b j) * H.d (at' (b + 1 + t) i) z := by
  induction n with
  | zero => exact (add_zero _).symm
  | succ n ih =>
    rw [Finset.sum_range_succ, ← add_assoc, ← ih (by omega)]
    exact step_v hx hb _ (by omega) (by omega) j z
theorem run_a (n : ℕ) (hn : n ≤ 7 - b) (r : Fin 4096) (w : Fin 256) : (run x (b + 1) y n).a (ix2 r w)
    = if b + 1 ≤ r.val / 512 ∧ r.val / 512 < b + 1 + n then y.a (ix2 r w) + S H b r w else y.a (ix2 r w) := by
  induction n with
  | zero => rw [if_neg (by omega)]; rfl
  | succ n ih =>
    refine (step_a hx hb _ (by omega) (by omega) r w).trans ?_
    rw [ih (by omega)]
    by_cases h : r.val / 512 = b + 1 + n
    · rw [if_pos h, if_neg (by omega), if_pos (by omega)]
    · rw [if_neg h]
      by_cases h' : b + 1 ≤ r.val / 512 ∧ r.val / 512 < b + 1 + n
      · rw [if_pos h', if_pos (by omega)]
      · rw [if_neg h', if_neg (by omega)]

variable (A : Vec Ideal S4096x256 .f32)

theorem fin_b (j : Fin 512) (w : Fin 256) : (fin x b A).b (ix2 j w) = ∑ r : Fin 4096, D H r (at' b j) * ones H.q r w := by
  unfold fin diag
  rw [run_b hx hb _ _ le_rfl, first_b hx hb, show (start b A).b (ix2 j w) = 0 from pay44_apply (ix2 j w), zero_add,
    sum_from hb _ fun r h => by rw [D_zero H (by rw [at_val hb]; omega), zero_mul]]
theorem fin_v (j : Fin 512) (z : Fin 128) : (fin x b A).v (ix2 j z) = ∑ r : Fin 4096, E H r (at' b j) * H.d r z := by
  unfold fin diag
  rw [run_v hx hb _ _ le_rfl, first_v hx hb, show (start b A).v (ix2 j z) = 0 from pay45_apply (ix2 j z), zero_add,
    sum_from hb _ fun r h => by rw [E_zero H (by rw [at_val hb]; omega), zero_mul]]
theorem diag_a (r : Fin 4096) (w : Fin 256) (h : r.val / 512 = b) : (diag x b A).a (ix2 r w) = (if b = 0 then 0 else A (ix2 r w)) + S H b r w := by
  unfold diag
  rw [first_a hx hb, if_pos h]
  refine congrArg (· + _) ?_
  show (if b = 0 then k0_pay43 (F := Ideal) else A) (ix2 r w) = _
  split
  · exact pay43_apply _
  · rfl
theorem fin_a (r : Fin 4096) (w : Fin 256) : (fin x b A).a (ix2 r w) = (if b = 0 then 0 else A (ix2 r w)) + S H b r w := by
  have h0 : (start b A).a (ix2 r w) = if b = 0 then 0 else A (ix2 r w) := by
    show (if b = 0 then k0_pay43 (F := Ideal) else A) (ix2 r w) = _
    split
    · exact pay43_apply _
    · rfl
  unfold fin
  rw [run_a hx hb _ _ le_rfl]
  unfold diag
  rw [first_a hx hb, h0]
  by_cases h1 : r.val / 512 = b
  · rw [if_neg (by omega), if_pos h1]
  · rw [if_neg h1]
    by_cases h2 : b + 1 ≤ r.val / 512
    · rw [if_pos ⟨h2, by omega⟩]
    · rw [if_neg (by omega), S_zero H hb (by omega), add_zero]
end

end Cert.AttnProof

end
-- ==== Proof.AttnValue.lean ====
/-
# Backward attention with its exchange between chips: its values

`Cert.AttnProof.final_7`, …: what a device's pipeline leaves in its results are the gradients of its heads (`Cert.AttnProof.gq`, …).
-/
module

public import proofs.«01_k».proof.Proof.AttnRun
public import proofs.«01_k».proof.Proof.AttnTile

@[expose] public section

set_option maxRecDepth 16384

noncomputable section

namespace Cert.AttnProof

open Cert.AttnIdeal Cert.AttnIdeal.Gen
open Idealize.ShloMosaic Idealize.ShloMosaic.TcCoe
open Idealize.ShloMosaic.Pipeline (Dat)
open scoped BigOperators

/-! ## The gradients of a head -/

section
variable (H : Hd)
/-- Of the queries, the keys and the values; the sums of the scores' gradients by query and by key. -/
def gq (r : Fin 4096) (z : Fin 128) : EReal := (∑ j, D H r j * H.k j z) * c3
def gk (j : Fin 4096) (z : Fin 128) : EReal := (∑ r, D H r j * H.q r z) * c3
def gv (j : Fin 4096) (z : Fin 128) : EReal := ∑ r, E H r j * H.d r z
def gr (r : Fin 4096) : EReal := ∑ j, D H r j
def gc (j : Fin 4096) : EReal := ∑ r, D H r j
end

/-- A column of head `h` in an array of heads. -/
abbrev col (h : Fin 8) (z : Fin 128) : Fin 1024 := ⟨128 * h.val + z.val, by omega⟩

/-- Head `h` of arrays that hold every head. -/
def headOf (P : Fin 4096 → Fin 7168 → EReal) (d l e : Fin 4096 → Fin 1024 → EReal) (C : Fin 8 → Fin 8 → Fin 512 → EReal) (h : Fin 8) : Hd where
  q r z := P r ⟨128 * h.val + z.val, by omega⟩
  k r z := P r ⟨1024 + (128 * h.val + z.val), by omega⟩
  v r z := P r ⟨2048 + (128 * h.val + z.val), by omega⟩
  d r z := d r (col h z)
  lse r z := l r (col h z)
  delta r z := e r (col h z)
  cum j := C h ⟨j.val / 512, by omega⟩ ⟨j.val % 512, Nat.mod_lt _ (by decide)⟩

theorem headOf_congr {P P' : Fin 4096 → Fin 7168 → EReal} {d d' l l' e e' : Fin 4096 → Fin 1024 → EReal} {C C' : Fin 8 → Fin 8 → Fin 512 → EReal} (h : Fin 8)
    (hP : ∀ r k, P r k = P' r k) (hd : ∀ r k, d r k = d' r k) (hl : ∀ r k, l r k = l' r k) (he : ∀ r k, e r k = e' r k)
    (hC : ∀ a b k, C a b k = C' a b k) : headOf P d l e C h = headOf P' d' l' e' C' h := by
  rw [funext fun r => funext (hP r), funext fun r => funext (hd r), funext fun r => funext (hl r), funext fun r => funext (he r),
    funext fun a => funext fun b => funext (hC a b)]

/-! ## The blocks -/

theorem index_0 : ∀ t : Fin grid0.N, win0_0.index t 0 = 0 ∧ win0_0.index t 1 = t.val / 8 := by decide +kernel
theorem index_1 : ∀ t : Fin grid0.N, win0_1.index t 0 = t.val % 8 ∧ win0_1.index t 1 = 8 + t.val / 8 := by decide +kernel
theorem index_2 : ∀ t : Fin grid0.N, win0_2.index t 0 = t.val % 8 ∧ win0_2.index t 1 = 16 + t.val / 8 := by decide +kernel
theorem index_3 : ∀ t : Fin grid0.N, win0_3.index t 0 = 0 ∧ win0_3.index t 1 = t.val / 8 := by decide +kernel
theorem index_4 : ∀ t : Fin grid0.N, win0_4.index t 0 = 0 ∧ win0_4.index t 1 = t.val / 8 := by decide +kernel
theorem index_5 : ∀ t : Fin grid0.N, win0_5.index t 0 = 0 ∧ win0_5.index t 1 = t.val / 8 := by decide +kernel
theorem index_6 : ∀ t : Fin grid0.N, win0_6.index t 0 = t.val / 8 ∧ win0_6.index t 1 = t.val % 8 ∧ win0_6.index t 2 = 0 ∧ win0_6.index t 3 = 0 := by decide +kernel
theorem index_7 : ∀ t : Fin grid0.N, win0_7.index t 0 = 0 ∧ win0_7.index t 1 = t.val / 8 := by decide +kernel
theorem index_8 : ∀ t : Fin grid0.N, win0_8.index t 0 = t.val % 8 ∧ win0_8.index t 1 = t.val / 8 := by decide +kernel
theorem index_9 : ∀ t : Fin grid0.N, win0_9.index t 0 = t.val % 8 ∧ win0_9.index t 1 = t.val / 8 := by decide +kernel
theorem index_10 : ∀ t : Fin grid0.N, win0_10.index t 0 = t.val / 8 ∧ win0_10.index t 1 = 0 ∧ win0_10.index t 2 = 0 := by decide +kernel
theorem index_11 : ∀ t : Fin grid0.N, win0_11.index t 0 = t.val / 8 ∧ win0_11.index t 1 = 0 ∧ win0_11.index t 2 = t.val % 8 := by decide +kernel

variable (m : (ℓ : Loc nD τ sig) → Buf (Elt Ideal) ℓ) (c : Dev nD)

/-- Head `h` of the arrays a device holds. -/
def hd (h : Fin 8) : Hd :=
  headOf (fun r k => m ((c : Thread nD τ).loc main_arg0) (ix2 r k)) (fun r k => m ((c : Thread nD τ).loc main_arg1) (ix2 r k))
    (fun r k => m ((c : Thread nD τ).loc main_arg2) (ix2 r k)) (fun r k => m ((c : Thread nD τ).loc main_arg3) (ix2 r k))
    (fun a b k => m ((c : Thread nD τ).loc main_arg4) (ix4 a b 0 k)) h

/-- The head of a point. -/
abbrev headT (t : Fin cfg0.N) : Fin 8 := ⟨t.val / 8, by have := lt_N t; omega⟩

theorem of_ins (t : Fin cfg0.N) : Of (hd m c (headT t)) (t.val % 8) (ins m c t.val) where
  q r z := by
    show iblk m c 0 (pt t.val) (ix2 r z) = _
    unfold iblk
    rw [pt_val, View.read_apply]
    refine congrArg (m ((c : Thread nD τ).loc main_arg0)) (funext fun x => Fin.ext ?_)
    match x with
    | ⟨0, _⟩ => show win0_0.index t 0 * 4096 + 1 * r.val = r.val; rw [(index_0 t).1]; omega
    | ⟨1, _⟩ => show win0_0.index t 1 * 128 + 1 * z.val = 128 * (t.val / 8) + z.val; rw [(index_0 t).2]; omega
  k j z := by
    show iblk m c 1 (pt t.val) (ix2 j z) = _
    unfold iblk
    rw [pt_val, View.read_apply]
    refine congrArg (m ((c : Thread nD τ).loc main_arg0)) (funext fun x => Fin.ext ?_)
    match x with
    | ⟨0, _⟩ => show win0_1.index t 0 * 512 + 1 * j.val = (at' (t.val % 8) j).val; rw [(index_1 t).1, at_val (by omega)]; omega
    | ⟨1, _⟩ => show win0_1.index t 1 * 128 + 1 * z.val = 1024 + (128 * (t.val / 8) + z.val); rw [(index_1 t).2]; omega
  v j z := by
    show iblk m c 2 (pt t.val) (ix2 j z) = _
    unfold iblk
    rw [pt_val, View.read_apply]
    refine congrArg (m ((c : Thread nD τ).loc main_arg0)) (funext fun x => Fin.ext ?_)
    match x with
    | ⟨0, _⟩ => show win0_2.index t 0 * 512 + 1 * j.val = (at' (t.val % 8) j).val; rw [(index_2 t).1, at_val (by omega)]; omega
    | ⟨1, _⟩ => show win0_2.index t 1 * 128 + 1 * z.val = 2048 + (128 * (t.val / 8) + z.val); rw [(index_2 t).2]; omega
  d r z := by
    show iblk m c 3 (pt t.val) (ix2 r z) = _
    unfold iblk
    rw [pt_val, View.read_apply]
    refine congrArg (m ((c : Thread nD τ).loc main_arg1)) (funext fun x => Fin.ext ?_)
    match x with
    | ⟨0, _⟩ => show win0_3.index t 0 * 4096 + 1 * r.val = r.val; rw [(index_3 t).1]; omega
    | ⟨1, _⟩ => show win0_3.index t 1 * 128 + 1 * z.val = 128 * (t.val / 8) + z.val; rw [(index_3 t).2]; omega
  lse r z := by
    show iblk m c 4 (pt t.val) (ix2 r z) = _
    unfold iblk
    rw [pt_val, View.read_apply]
    refine congrArg (m ((c : Thread nD τ).loc main_arg2)) (funext fun x => Fin.ext ?_)
    match x with
    | ⟨0, _⟩ => show win0_4.index t 0 * 4096 + 1 * r.val = r.val; rw [(index_4 t).1]; omega
    | ⟨1, _⟩ => show win0_4.index t 1 * 128 + 1 * z.val = 128 * (t.val / 8) + z.val; rw [(index_4 t).2]; omega
  delta r z := by
    show iblk m c 5 (pt t.val) (ix2 r z) = _
    unfold iblk
    rw [pt_val, View.read_apply]
    refine congrArg (m ((c : Thread nD τ).loc main_arg3)) (funext fun x => Fin.ext ?_)
    match x with
    | ⟨0, _⟩ => show win0_5.index t 0 * 4096 + 1 * r.val = r.val; rw [(index_5 t).1]; omega
    | ⟨1, _⟩ => show win0_5.index t 1 * 128 + 1 * z.val = 128 * (t.val / 8) + z.val; rw [(index_5 t).2]; omega
  cum j := by
    have ha := at_val (b := t.val % 8) (by omega) j
    show iblk m c 6 (pt t.val) (ix4 0 0 0 j) = _
    unfold iblk
    rw [pt_val, View.read_apply]
    refine congrArg (m ((c : Thread nD τ).loc main_arg4)) (funext fun x => Fin.ext ?_)
    match x with
    | ⟨0, _⟩ => show win0_6.index t 0 * 1 + 1 * 0 = t.val / 8; rw [(index_6 t).1]; omega
    | ⟨1, _⟩ => show win0_6.index t 1 * 1 + 1 * 0 = (at' (t.val % 8) j).val / 512; rw [(index_6 t).2.1]; omega
    | ⟨2, _⟩ => show win0_6.index t 2 * 1 + 1 * 0 = 0; rw [(index_6 t).2.2.1]
    | ⟨3, _⟩ => show win0_6.index t 3 * 512 + 1 * j.val = (at' (t.val % 8) j).val % 512; rw [(index_6 t).2.2.2]; omega

/-- Point `b` of head `h`. -/
theorem of_ins' (h : Fin 8) {b : ℕ} (hb : b < 8) : Of (hd m c h) b (ins m c (8 * h.val + b)) := by
  have e : Of (hd m c (headT ⟨8 * h.val + b, by rw [show cfg0.N = 64 from N_0]; omega⟩)) ((8 * h.val + b) % 8) (ins m c (8 * h.val + b)) :=
    of_ins m c ⟨8 * h.val + b, by rw [show cfg0.N = 64 from N_0]; omega⟩
  have e2 : headT ⟨8 * h.val + b, by rw [show cfg0.N = 64 from N_0]; omega⟩ = h := Fin.ext (by show (8 * h.val + b) / 8 = h.val; omega)
  rwa [e2, show (8 * h.val + b) % 8 = b by omega] at e

/-! ## The sums -/

theorem accA_apply (h : Fin 8) (b : ℕ) (hb : b < 8) (r : Fin 4096) (w : Fin 256) :
    accA m c (8 * h.val + b) (ix2 r w) = ∑ t ∈ Finset.range (b + 1), S (hd m c h) t r w := by
  induction b with
  | zero =>
    rw [accA_eq, show (8 * h.val + 0) % 8 = 0 by omega, fin_a (of_ins' m c h (by decide)) (by decide), if_pos rfl, zero_add, Finset.sum_range_one]
  | succ b ih =>
    rw [accA_eq, show (8 * h.val + (b + 1)) % 8 = b + 1 by omega, fin_a (of_ins' m c h hb) hb, if_neg (by omega), Finset.sum_range_succ, ← ih (by omega)]
    rfl

theorem dg_apply (h : Fin 8) (r : Fin 4096) (w : Fin 256) :
    (dg m c (8 * h.val + r.val / 512)).a (ix2 r w) = ∑ j, D (hd m c h) r j * ones (hd m c h).k j w := by
  have hr : r.val / 512 < 8 := by omega
  unfold dg
  rw [show (8 * h.val + r.val / 512) % 8 = r.val / 512 by omega, diag_a (of_ins' m c h hr) hr _ _ _ rfl,
    sum_upto hr _ fun j hj => by rw [D_zero _ (by omega), zero_mul]]
  refine Eq.trans ?_ (Finset.sum_range_succ (fun t => S (hd m c h) t r w) (r.val / 512)).symm
  refine congrArg (· + _) ?_
  generalize r.val / 512 = b at hr
  cases b with
  | zero => exact (if_pos rfl).trans (Finset.sum_range_zero _).symm
  | succ b => exact (if_neg (by omega)).trans (accA_apply m c h b (by omega) r w)

theorem fn_b (t : Fin cfg0.N) (j : Fin 512) (w : Fin 256) :
    (fn m c t.val).b (ix2 j w) = ∑ r, D (hd m c (headT t)) r (at' (t.val % 8) j) * ones (hd m c (headT t)).q r w :=
  fin_b (of_ins m c t) (by omega) _ j w
theorem fn_v (t : Fin cfg0.N) (j : Fin 512) (z : Fin 128) :
    (fn m c t.val).v (ix2 j z) = gv (hd m c (headT t)) (at' (t.val % 8) j) z :=
  fin_v (of_ins m c t) (by omega) _ j z

theorem ones_lt {n : ℕ} (k : Fin n → Fin 128 → EReal) (j : Fin n) (z : Fin 128) (h : z.val < 256) : ones k j ⟨z.val, h⟩ = k j z := dif_pos z.isLt
theorem ones_ge {n : ℕ} (k : Fin n → Fin 128 → EReal) (j : Fin n) (z : ℕ) (h : 128 + z < 256) : ones k j ⟨128 + z, h⟩ = 1 := dif_neg (by show ¬ 128 + z < 128; omega)

theorem dqF_apply (h : Fin 8) (r : Fin 4096) (z : Fin 128) : dqF m c h.val (ix2 r z) = gq (hd m c h) r z := by
  show dqB m c (8 * h.val + r.val / 512) (ix2 _ z) = _
  unfold dqB
  rw [pay62_apply, show (8 * h.val + r.val / 512) % 8 = r.val / 512 by omega]
  refine congrArg (· * c3) ?_
  show (dg m c (8 * h.val + r.val / 512)).a (ix2 (at' (r.val / 512) ⟨r.val % 512, _⟩) _) = _
  rw [at_of r rfl]
  refine (dg_apply m c h r _).trans (Finset.sum_congr rfl fun j _ => congrArg (_ * ·) (ones_lt _ _ z _))
theorem drF_apply (h : Fin 8) (x : Fin 1) (a : Fin 8) (r : Fin 4096) : drF m c h.val (ix3 x a r) = gr (hd m c h) r := by
  show drB m c (8 * h.val + r.val / 512) (ix3 x a _) = _
  unfold drB
  rw [pay63_apply, show (8 * h.val + r.val / 512) % 8 = r.val / 512 by omega]
  show (dg m c (8 * h.val + r.val / 512)).a (ix2 (at' (r.val / 512) ⟨r.val % 512, _⟩) _) = _
  rw [at_of r rfl]
  refine (dg_apply m c h r _).trans (Finset.sum_congr rfl fun j _ => (congrArg (_ * ·) (ones_ge _ _ _ _)).trans (mul_one _))
theorem dkB_apply (t : Fin cfg0.N) (j : Fin 512) (z : Fin 128) : dkB m c t.val (ix2 j z) = gk (hd m c (headT t)) (at' (t.val % 8) j) z := by
  unfold dkB
  rw [pay73_apply]
  refine congrArg (· * c3) ?_
  refine (fn_b m c t j _).trans (Finset.sum_congr rfl fun r _ => congrArg (_ * ·) (ones_lt _ _ z _))
theorem dvB_apply (t : Fin cfg0.N) (j : Fin 512) (z : Fin 128) : dvB m c t.val (ix2 j z) = gv (hd m c (headT t)) (at' (t.val % 8) j) z := by
  unfold dvB
  rw [pay75_apply]
  exact fn_v m c t j z
theorem dcB_apply (t : Fin cfg0.N) (x : Fin 1) (a : Fin 8) (j : Fin 512) : dcB m c t.val (ix3 x a j) = gc (hd m c (headT t)) (at' (t.val % 8) j) := by
  unfold dcB
  rw [pay74_apply]
  refine (fn_b m c t j _).trans (Finset.sum_congr rfl fun r _ => (congrArg (_ * ·) (ones_ge _ _ _ _)).trans (mul_one _))

/-! ## The results -/

/-- Which head a column is of, and where in it. -/
abbrev hOf (k : Fin 1024) : Fin 8 := ⟨k.val / 128, by omega⟩
abbrev zOf (k : Fin 1024) : Fin 128 := ⟨k.val % 128, Nat.mod_lt _ (by decide)⟩

def resQ : Buf (Elt Ideal) ((c : Thread nD τ).loc main_v1_0) := fun i : (⟨2, ![4096, 1024]⟩ : Shape).Idx => gq (hd m c (hOf (i 1))) (i 0) (zOf (i 1))
def resK : Buf (Elt Ideal) ((c : Thread nD τ).loc main_v1_1) := fun i : (⟨2, ![4096, 1024]⟩ : Shape).Idx => gk (hd m c (hOf (i 1))) (i 0) (zOf (i 1))
def resV : Buf (Elt Ideal) ((c : Thread nD τ).loc main_v1_2) := fun i : (⟨2, ![4096, 1024]⟩ : Shape).Idx => gv (hd m c (hOf (i 1))) (i 0) (zOf (i 1))
def resR : Buf (Elt Ideal) ((c : Thread nD τ).loc main_v1_3) := fun i : (⟨3, ![8, 8, 4096]⟩ : Shape).Idx => gr (hd m c (i 0)) (i 2)
def resC : Buf (Elt Ideal) ((c : Thread nD τ).loc main_v1_4) := fun i : (⟨3, ![8, 8, 4096]⟩ : Shape).Idx => gc (hd m c (i 0)) (i 2)

theorem at_eq {α β γ δ : Type} (f : α → β → γ → δ) {a a' : α} {b b' : β} {c c' : γ} (ha : a = a') (hb : b = b') (hc : c = c') : f a b c = f a' b' c' := by
  rw [ha, hb, hc]

theorem flushed_7 (t : Fin cfg0.N) (hf : (cfg0.win 7).flush t = true) :
    (dats m 0 c).flushed 7 t = ((cfg0.win 7).blk t).view.read (Elt Ideal) (resQ m c) := by
  funext i
  obtain ⟨r, z, rfl⟩ : ∃ (r : Fin 4096) (z : Fin 128), i = ix2 r z := ⟨i 0, i 1, eq_ix2 i⟩
  show dqF m c (headT t).val (ix2 r z) = _
  rw [View.read_apply, dqF_apply]
  refine at_eq (fun h => gq (hd m c h)) (Fin.ext ?_) (Fin.ext ?_) (Fin.ext ?_)
  · show t.val / 8 = (win0_7.index t 1 * 128 + 1 * z.val) / 128; rw [(index_7 t).2]; omega
  · show r.val = win0_7.index t 0 * 4096 + 1 * r.val; rw [(index_7 t).1]; omega
  · show z.val = (win0_7.index t 1 * 128 + 1 * z.val) % 128; rw [(index_7 t).2]; omega
theorem flushed_8 (t : Fin cfg0.N) (hf : (cfg0.win 8).flush t = true) :
    (dats m 0 c).flushed 8 t = ((cfg0.win 8).blk t).view.read (Elt Ideal) (resK m c) := by
  funext i
  obtain ⟨j, z, rfl⟩ : ∃ (j : Fin 512) (z : Fin 128), i = ix2 j z := ⟨i 0, i 1, eq_ix2 i⟩
  show dkB m c t.val (ix2 j z) = _
  rw [View.read_apply, dkB_apply]
  refine at_eq (fun h => gk (hd m c h)) (Fin.ext ?_) (Fin.ext ?_) (Fin.ext ?_)
  · show t.val / 8 = (win0_8.index t 1 * 128 + 1 * z.val) / 128; rw [(index_8 t).2]; omega
  · show (at' (t.val % 8) j).val = win0_8.index t 0 * 512 + 1 * j.val; rw [(index_8 t).1, at_val (by omega)]; omega
  · show z.val = (win0_8.index t 1 * 128 + 1 * z.val) % 128; rw [(index_8 t).2]; omega
theorem flushed_9 (t : Fin cfg0.N) (hf : (cfg0.win 9).flush t = true) :
    (dats m 0 c).flushed 9 t = ((cfg0.win 9).blk t).view.read (Elt Ideal) (resV m c) := by
  funext i
  obtain ⟨j, z, rfl⟩ : ∃ (j : Fin 512) (z : Fin 128), i = ix2 j z := ⟨i 0, i 1, eq_ix2 i⟩
  show dvB m c t.val (ix2 j z) = _
  rw [View.read_apply, dvB_apply]
  refine at_eq (fun h => gv (hd m c h)) (Fin.ext ?_) (Fin.ext ?_) (Fin.ext ?_)
  · show t.val / 8 = (win0_9.index t 1 * 128 + 1 * z.val) / 128; rw [(index_9 t).2]; omega
  · show (at' (t.val % 8) j).val = win0_9.index t 0 * 512 + 1 * j.val; rw [(index_9 t).1, at_val (by omega)]; omega
  · show z.val = (win0_9.index t 1 * 128 + 1 * z.val) % 128; rw [(index_9 t).2]; omega
theorem flushed_10 (t : Fin cfg0.N) (hf : (cfg0.win 10).flush t = true) :
    (dats m 0 c).flushed 10 t = ((cfg0.win 10).blk t).view.read (Elt Ideal) (resR m c) := by
  funext i
  obtain ⟨x, a, r, rfl⟩ : ∃ (x : Fin 1) (a : Fin 8) (r : Fin 4096), i = ix3 x a r := ⟨i 0, i 1, i 2, eq_ix3 i⟩
  show drF m c (headT t).val (ix3 x a r) = _
  rw [View.read_apply, drF_apply]
  refine congrArg₂ (fun h r => gr (hd m c h) r) (Fin.ext ?_) (Fin.ext ?_)
  · show t.val / 8 = win0_10.index t 0 * 1 + 1 * x.val; rw [(index_10 t).1]; omega
  · show r.val = win0_10.index t 2 * 4096 + 1 * r.val; rw [(index_10 t).2.2]; omega
theorem flushed_11 (t : Fin cfg0.N) (hf : (cfg0.win 11).flush t = true) :
    (dats m 0 c).flushed 11 t = ((cfg0.win 11).blk t).view.read (Elt Ideal) (resC m c) := by
  funext i
  obtain ⟨x, a, j, rfl⟩ : ∃ (x : Fin 1) (a : Fin 8) (j : Fin 512), i = ix3 x a j := ⟨i 0, i 1, i 2, eq_ix3 i⟩
  show dcB m c t.val (ix3 x a j) = _
  rw [View.read_apply, dcB_apply]
  refine congrArg₂ (fun h r => gc (hd m c h) r) (Fin.ext ?_) (Fin.ext ?_)
  · show t.val / 8 = win0_11.index t 0 * 1 + 1 * x.val; rw [(index_11 t).1]; omega
  · show (at' (t.val % 8) j).val = win0_11.index t 2 * 512 + 1 * j.val; rw [(index_11 t).2.2, at_val (by omega)]; omega

/-! ## Every element is in some block -/

/-- The point of head `h` and block `b`. -/
abbrev ptOf (h b : ℕ) (hh : h < 8) (hb : b < 8) : Fin cfg0.N := ⟨8 * h + b, by rw [show cfg0.N = 64 from N_0]; omega⟩

theorem final_7 : (dats m 0 c).arrAt 7 cfg0.N = resQ m c :=
  (dats m 0 c).arrAt_eq_of_cover 7 (resQ m c) (flushed_7 m c) fun i => by
    have h0 : (i 0 : ℕ) < 4096 := (i 0).isLt
    have h1 : (i 1 : ℕ) < 1024 := (i 1).isLt
    let t := ptOf ((i 1 : ℕ) / 128) 7 (by omega) (by omega)
    have ht : t.val = 8 * ((i 1 : ℕ) / 128) + 7 := rfl
    refine ⟨t, (flush0_7 _).2 (by show (8 * ((i 1 : ℕ) / 128) + 7) % 8 = 7; omega), ?_⟩
    show i ∈ ((View.whole main_v1_0).slice (win0_7.rect t)).set
    rw [View.set_slice_whole, Rect.mem_set_unit]
    intro a
    match a with
    | ⟨0, _⟩ => show win0_7.index t 0 * 4096 ≤ (i 0 : ℕ) ∧ (i 0 : ℕ) < win0_7.index t 0 * 4096 + 4096
                rw [(index_7 t).1]; omega
    | ⟨1, _⟩ => show win0_7.index t 1 * 128 ≤ (i 1 : ℕ) ∧ (i 1 : ℕ) < win0_7.index t 1 * 128 + 128
                rw [(index_7 t).2]; omega
theorem final_8 : (dats m 0 c).arrAt 8 cfg0.N = resK m c :=
  (dats m 0 c).arrAt_eq_of_cover 8 (resK m c) (flushed_8 m c) fun i => by
    have h0 : (i 0 : ℕ) < 4096 := (i 0).isLt
    have h1 : (i 1 : ℕ) < 1024 := (i 1).isLt
    let t := ptOf ((i 1 : ℕ) / 128) ((i 0 : ℕ) / 512) (by omega) (by omega)
    have ht : t.val = 8 * ((i 1 : ℕ) / 128) + ((i 0 : ℕ) / 512) := rfl
    refine ⟨t, flush0_8 _, ?_⟩
    show i ∈ ((View.whole main_v1_1).slice (win0_8.rect t)).set
    rw [View.set_slice_whole, Rect.mem_set_unit]
    intro a
    match a with
    | ⟨0, _⟩ => show win0_8.index t 0 * 512 ≤ (i 0 : ℕ) ∧ (i 0 : ℕ) < win0_8.index t 0 * 512 + 512
                rw [(index_8 t).1]; omega
    | ⟨1, _⟩ => show win0_8.index t 1 * 128 ≤ (i 1 : ℕ) ∧ (i 1 : ℕ) < win0_8.index t 1 * 128 + 128
                rw [(index_8 t).2]; omega
theorem final_9 : (dats m 0 c).arrAt 9 cfg0.N = resV m c :=
  (dats m 0 c).arrAt_eq_of_cover 9 (resV m c) (flushed_9 m c) fun i => by
    have h0 : (i 0 : ℕ) < 4096 := (i 0).isLt
    have h1 : (i 1 : ℕ) < 1024 := (i 1).isLt
    let t := ptOf ((i 1 : ℕ) / 128) ((i 0 : ℕ) / 512) (by omega) (by omega)
    have ht : t.val = 8 * ((i 1 : ℕ) / 128) + ((i 0 : ℕ) / 512) := rfl
    refine ⟨t, flush0_9 _, ?_⟩
    show i ∈ ((View.whole main_v1_2).slice (win0_9.rect t)).set
    rw [View.set_slice_whole, Rect.mem_set_unit]
    intro a
    match a with
    | ⟨0, _⟩ => show win0_9.index t 0 * 512 ≤ (i 0 : ℕ) ∧ (i 0 : ℕ) < win0_9.index t 0 * 512 + 512
                rw [(index_9 t).1]; omega
    | ⟨1, _⟩ => show win0_9.index t 1 * 128 ≤ (i 1 : ℕ) ∧ (i 1 : ℕ) < win0_9.index t 1 * 128 + 128
                rw [(index_9 t).2]; omega
theorem final_10 : (dats m 0 c).arrAt 10 cfg0.N = resR m c :=
  (dats m 0 c).arrAt_eq_of_cover 10 (resR m c) (flushed_10 m c) fun i => by
    have h0 : (i 0 : ℕ) < 8 := (i 0).isLt
    have h1 : (i 1 : ℕ) < 8 := (i 1).isLt
    have h2 : (i 2 : ℕ) < 4096 := (i 2).isLt
    let t := ptOf (i 0 : ℕ) 7 (by omega) (by omega)
    have ht : t.val = 8 * (i 0 : ℕ) + 7 := rfl
    refine ⟨t, (flush0_10 _).2 (by show (8 * (i 0 : ℕ) + 7) % 8 = 7; omega), ?_⟩
    show i ∈ ((View.whole main_v1_3).slice (win0_10.rect t)).set
    rw [View.set_slice_whole, Rect.mem_set_unit]
    intro a
    match a with
    | ⟨0, _⟩ => show win0_10.index t 0 * 1 ≤ (i 0 : ℕ) ∧ (i 0 : ℕ) < win0_10.index t 0 * 1 + 1
                rw [(index_10 t).1]; omega
    | ⟨1, _⟩ => show win0_10.index t 1 * 8 ≤ (i 1 : ℕ) ∧ (i 1 : ℕ) < win0_10.index t 1 * 8 + 8
                rw [(index_10 t).2.1]; omega
    | ⟨2, _⟩ => show win0_10.index t 2 * 4096 ≤ (i 2 : ℕ) ∧ (i 2 : ℕ) < win0_10.index t 2 * 4096 + 4096
                rw [(index_10 t).2.2]; omega
theorem final_11 : (dats m 0 c).arrAt 11 cfg0.N = resC m c :=
  (dats m 0 c).arrAt_eq_of_cover 11 (resC m c) (flushed_11 m c) fun i => by
    have h0 : (i 0 : ℕ) < 8 := (i 0).isLt
    have h1 : (i 1 : ℕ) < 8 := (i 1).isLt
    have h2 : (i 2 : ℕ) < 4096 := (i 2).isLt
    let t := ptOf (i 0 : ℕ) ((i 2 : ℕ) / 512) (by omega) (by omega)
    have ht : t.val = 8 * (i 0 : ℕ) + ((i 2 : ℕ) / 512) := rfl
    refine ⟨t, flush0_11 _, ?_⟩
    show i ∈ ((View.whole main_v1_4).slice (win0_11.rect t)).set
    rw [View.set_slice_whole, Rect.mem_set_unit]
    intro a
    match a with
    | ⟨0, _⟩ => show win0_11.index t 0 * 1 ≤ (i 0 : ℕ) ∧ (i 0 : ℕ) < win0_11.index t 0 * 1 + 1
                rw [(index_11 t).1]; omega
    | ⟨1, _⟩ => show win0_11.index t 1 * 8 ≤ (i 1 : ℕ) ∧ (i 1 : ℕ) < win0_11.index t 1 * 8 + 8
                rw [(index_11 t).2.1]; omega
    | ⟨2, _⟩ => show win0_11.index t 2 * 512 ≤ (i 2 : ℕ) ∧ (i 2 : ℕ) < win0_11.index t 2 * 512 + 512
                rw [(index_11 t).2.2]; omega

end Cert.AttnProof

end
-- ==== Proof.AttnRef.lean ====
/-
# Backward attention: the reference's operations

What the reference's operations are at an index, in terms of the heads of each part of the batch (`Cert.AttnProof.headW`).
-/
module

public import proofs.«01_k».proof.Proof.AttnValue
public import proofs.«01_k».proof.Proof.Gen.AttnReferenceIdeal

@[expose] public section

set_option maxRecDepth 16384

noncomputable section

namespace Cert.AttnProof

open Cert.AttnReferenceIdeal Cert.AttnReferenceIdeal.Gen
open Idealize.ShloMosaic
open scoped BigOperators

theorem pow_two (x : EReal) : Ideal.pow (Ideal.ofBits .f32 0x40000000#32) x = Ideal.exp2 x := by
  have h : Ideal.ofBits .f32 0x40000000#32 = ((2 : ℝ) : EReal) := by
    simp [Ideal.ofBits, Ideal.ieee, -EReal.coe_mul]; norm_num
  rw [h]
  induction x with
  | bot => rw [Ideal.pow_coe_bot, if_neg (by norm_num), if_pos (by norm_num)]; rfl
  | coe x => rfl
  | top => rw [Ideal.pow_coe_top, if_neg (by norm_num), if_pos (by norm_num)]; rfl

/-! ## The operations -/

/-- An array by batch, head and row. -/
def heads {φ : FTy} (X : FVec Ideal S32768x1024 φ) : FVec Ideal S8x8x4096x128 φ :=
  transpose S8x8x4096x128 [0, 2, 1, 3] (shapeCast S8x4096x8x128 X shapeCasts_S32768x1024_S8x4096x8x128) transposes_S8x4096x8x128_S8x8x4096x128_0_2_1_3
/-- Back. -/
def merged {φ : FTy} (X : FVec Ideal S8x8x4096x128 φ) : FVec Ideal S32768x1024 φ :=
  shapeCast S32768x1024 (transpose S8x4096x8x128 [0, 2, 1, 3] X transposes_S8x8x4096x128_S8x4096x8x128_0_2_1_3) shapeCasts_S8x4096x8x128_S32768x1024
/-- A statistic for every key. -/
def tiled (X : FVec Ideal S32768x1024 .f32) : FVec Ideal S8x8x4096x4096 .f32 :=
  shapeCast S8x8x4096x4096 (broadcastInDim S1x8x1x8x1x4096x32x128 ![0, 1, 2, 3, 4, 5, 6, 7] bcast_S1x8x1x8x1x4096x1x128_S1x8x1x8x1x4096x32x128_0_1_2_3_4_5_6_7
    (shapeCast S1x8x1x8x1x4096x1x128 (heads X) shapeCasts_S8x8x4096x128_S1x8x1x8x1x4096x1x128)) shapeCasts_S1x8x1x8x1x4096x32x128_S8x8x4096x4096

section
variable (P : FVec Ideal S32768x7168 .bf16) (Do : FVec Ideal S32768x1024 .bf16) (L De : FVec Ideal S32768x1024 .f32) (C : FVec Ideal S64x8x1x512 .f32)

def partQ : FVec Ideal S32768x1024 .bf16 := extractStridedSlice S32768x1024 ![0, 0] P slices_S32768x7168_S32768x1024_0_0
def partK : FVec Ideal S32768x1024 .bf16 := extractStridedSlice S32768x1024 ![0, 1024] P slices_S32768x7168_S32768x1024_0_1024
def partV : FVec Ideal S32768x1024 .bf16 := extractStridedSlice S32768x1024 ![0, 2048] P slices_S32768x7168_S32768x1024_0_2048
/-- The products of rows with rows, head by head. -/
def prods (X Y : FVec Ideal S8x8x4096x128 .bf16) : FVec Ideal S8x8x4096x4096 .f32 :=
  Host.dotGeneral dot_S8x8x4096x128_S8x8x4096x128_S8x8x4096x4096_3_3_2_2_01_01 none X Y
def biases : FVec Ideal S8x8x1x4096 .f32 :=
  mulf (shapeCast S8x8x1x4096 C shapeCasts_S64x8x1x512_S8x8x1x4096) (broadcastInDim S8x8x1x4096 ![] bcast_S_S8x8x1x4096 (constant S_ .f32 0x3FB8AA3B#32))
def logits : FVec Ideal S8x8x4096x4096 .f32 :=
  subf (mulf (prods (heads (partQ P)) (heads (partK P))) (broadcastInDim S8x8x4096x4096 ![] bcast_S_S8x8x4096x4096 (constant S_ .f32 0x3E0293EE#32)))
    (broadcastInDim S8x8x4096x4096 ![0, 1, 2, 3] bcast_S8x8x1x4096_S8x8x4096x4096_0_1_2_3 (biases C))
def masked : FVec Ideal S8x8x4096x4096 .f32 :=
  select (broadcastInDim S8x8x4096x4096 ![2, 3] bcast_S4096x4096_S8x8x4096x4096_2_3 (cmpi .sle (iotaInDim S4096x4096 32 1) (iotaInDim S4096x4096 32 0)))
    (logits P C) (broadcastInDim S8x8x4096x4096 ![] bcast_S_S8x8x4096x4096 (id (constant S_ .f32 0xFF800000#32)))
def weights : FVec Ideal S8x8x4096x4096 .f32 :=
  Host.powf (broadcastInDim S8x8x4096x4096 ![] bcast_S_S8x8x4096x4096 (constant S_ .f32 0x40000000#32)) (subf (masked P C) (tiled L))
def dscores : FVec Ideal S8x8x4096x4096 .bf16 :=
  truncf .bf16 (mulf (weights P L C) (subf (prods (heads Do) (heads (partV P))) (tiled De))) bitsLt_bf16_f32

def scaled (X : FVec Ideal S8x8x4096x128 .f32) : FVec Ideal S8x8x4096x128 .bf16 :=
  truncf .bf16 (mulf X (broadcastInDim S8x8x4096x128 ![] bcast_S_S8x8x4096x128 (constant S_ .f32 0x3DB504F3#32))) bitsLt_bf16_f32
def eight (X : FVec Ideal S8x8x4096 .f32) : FVec Ideal S64x8x4096 .f32 :=
  shapeCast S64x8x4096 (broadcastInDim S8x8x8x4096 ![0, 1, 2, 3] bcast_S8x8x1x4096_S8x8x8x4096_0_1_2_3 (broadcastInDim S8x8x1x4096 ![0, 1, 3] bcast_S8x8x4096_S8x8x1x4096_0_1_3 X))
    shapeCasts_S8x8x8x4096_S64x8x4096

def wholeQ : FVec Ideal S32768x1024 .bf16 :=
  merged (scaled (Host.dotGeneral dot_S8x8x4096x4096_S8x8x4096x128_S8x8x4096x128_3_2_2_3_01_01 none (dscores P Do L De C) (heads (partK P))))
def wholeK : FVec Ideal S32768x1024 .bf16 :=
  merged (scaled (Host.dotGeneral dot_S8x8x4096x4096_S8x8x4096x128_S8x8x4096x128_2_2_3_3_01_01 none (dscores P Do L De C) (heads (partQ P))))
def wholeV : FVec Ideal S32768x1024 .bf16 :=
  merged (truncf .bf16 (Host.dotGeneral dot_S8x8x4096x4096_S8x8x4096x128_S8x8x4096x128_2_2_3_3_01_01 none (truncf .bf16 (weights P L C) bitsLt_bf16_f32) (heads Do)) bitsLt_bf16_f32)
def wholeR : FVec Ideal S64x8x4096 .f32 :=
  eight (Host.reduceAdd (extf .f32 (dscores P Do L De C) bitsLt_bf16_f32) (constant S_ .f32 0x00000000#32) reducesTo_S8x8x4096x4096_S8x8x4096_d3 h_S_)
def wholeC : FVec Ideal S64x8x4096 .f32 :=
  eight (Host.reduceAdd (extf .f32 (dscores P Do L De C) bitsLt_bf16_f32) (constant S_ .f32 0x00000000#32) reducesTo_S8x8x4096x4096_S8x8x4096_d2 h_S_)

/-! ## At an index -/

/-- Row `r` of part `c` of the batch. -/
abbrev rowW (c : Fin 8) (r : Fin 4096) : Fin 32768 := ⟨c.val * 4096 + r.val, by omega⟩

/-- Head `h` of part `c` of the batch. -/
def headW (c h : Fin 8) : Hd :=
  headOf (fun r k => P (ix2 (rowW c r) k)) (fun r k => Do (ix2 (rowW c r) k)) (fun r k => L (ix2 (rowW c r) k)) (fun r k => De (ix2 (rowW c r) k))
    (fun a b k => C (ix4 ⟨c.val * 8 + a.val, by omega⟩ b 0 k)) h

variable (c h : Fin 8) (r j : Fin 4096) (z : Fin 128)

theorem heads_apply {φ : FTy} (X : FVec Ideal S32768x1024 φ) : heads X (ix4 c h r z) = X (ix2 (rowW c r) (col h z)) := by
  pointwise [heads]
  exact congrArg (fun k => X (ix2 (rowW c r) k)) (Fin.ext (by show h.val * 128 + z.val = 128 * h.val + z.val; omega))
theorem merged_apply {φ : FTy} (X : FVec Ideal S8x8x4096x128 φ) (k : Fin 1024) : merged X (ix2 (rowW c r) k) = X (ix4 c (hOf k) r (zOf k)) := by
  pointwise [merged]
  exact congrArg₂ (fun c r => X (ix4 c (hOf k) r (zOf k))) (Fin.ext (by show (c.val * 4096 + r.val) / 4096 = c.val; omega))
    (Fin.ext (by show (c.val * 4096 + r.val) % 4096 = r.val; omega))
theorem tiled_apply (X : FVec Ideal S32768x1024 .f32) : tiled X (ix4 c h r j) = X (ix2 (rowW c r) (col h (laneH j))) := by
  refine Eq.trans ?_ (heads_apply c h r (laneH j) X)
  unfold tiled
  generalize heads X = Y
  pointwise []
theorem biases_apply : biases C (ix4 c h 0 j) = (headW P Do L De C c h).cum j * c2 := by
  pointwise [biases]
  rfl
theorem q_apply : heads (partQ P) (ix4 c h r z) = (headW P Do L De C c h).q r z := by
  rw [heads_apply]
  pointwise [partQ]
  rfl
theorem k_apply : heads (partK P) (ix4 c h r z) = (headW P Do L De C c h).k r z := by
  rw [heads_apply]
  pointwise [partK]
  rfl
theorem v_apply : heads (partV P) (ix4 c h r z) = (headW P Do L De C c h).v r z := by
  rw [heads_apply]
  pointwise [partV]
  rfl
theorem prods_apply (X Y : FVec Ideal S8x8x4096x128 .bf16) : prods X Y (ix4 c h r j) = ∑ z : Fin 128, X (ix4 c h r z) * Y (ix4 c h j z) := by
  pointwise [prods]
theorem eight_apply (X : FVec Ideal S8x8x4096 .f32) (a : Fin 8) : eight X (ix3 ⟨c.val * 8 + h.val, by omega⟩ a r) = X (ix3 c h r) := by
  pointwise [eight]

theorem logits_apply : logits P C (ix4 c h r j)
    = (∑ z, (headW P Do L De C c h).q r z * (headW P Do L De C c h).k j z) * c1 - (headW P Do L De C c h).cum j * c2 := by
  have hp := prods_apply c h r j (heads (partQ P)) (heads (partK P))
  have hb := biases_apply P Do L De C c h j
  have hq := fun r z => q_apply P Do L De C c h r z
  have hk := fun r z => k_apply P Do L De C c h r z
  unfold logits
  generalize prods (heads (partQ P)) (heads (partK P)) = Y at hp
  generalize biases C = B at hb
  pointwise []
  rw [hp, hb]
  simp only [hq, hk]
theorem masked_apply : masked P C (ix4 c h r j) = if j.val ≤ r.val then
    (∑ z, (headW P Do L De C c h).q r z * (headW P Do L De C c h).k j z) * c1 - (headW P Do L De C c h).cum j * c2 else ⊥ := by
  rw [← logits_apply P Do L De C c h r j]
  unfold masked
  generalize logits P C = Y
  pointwise []
  exact (congrArg (Scalar.select _ _) negInf).trans (select_le _ _ (by omega) (by omega))
theorem weights_apply : weights P L C (ix4 c h r j) = E (headW P Do L De C c h) r j := by
  refine (pow_two _).trans (congrArg Ideal.exp2 (congrArg₂ (· - ·) (masked_apply P Do L De C c h r j) (tiled_apply c h r j L)))
theorem dscores_apply : dscores P Do L De C (ix4 c h r j) = D (headW P Do L De C c h) r j := by
  refine congrArg₂ (· * ·) (weights_apply P Do L De C c h r j) (congrArg₂ (· - ·) ?_ (tiled_apply c h r j De))
  rw [prods_apply]
  exact Finset.sum_congr rfl fun z _ => congrArg₂ (· * ·) (heads_apply c h r z Do) (v_apply P Do L De C c h j z)
theorem scaled_apply (X : FVec Ideal S8x8x4096x128 .f32) : scaled X (ix4 c h r z) = X (ix4 c h r z) * c3 := by
  pointwise [scaled]

theorem wholeQ_apply (k : Fin 1024) : wholeQ P Do L De C (ix2 (rowW c r) k) = gq (headW P Do L De C c (hOf k)) r (zOf k) := by
  have hd := fun r j => dscores_apply P Do L De C c (hOf k) r j
  have hk := fun r z => k_apply P Do L De C c (hOf k) r z
  unfold wholeQ gq
  rw [merged_apply, scaled_apply]
  generalize dscores P Do L De C = Y at hd
  generalize heads (partK P) = X at hk
  pointwise []
  simp only [hd, hk]
theorem wholeK_apply (k : Fin 1024) : wholeK P Do L De C (ix2 (rowW c r) k) = gk (headW P Do L De C c (hOf k)) r (zOf k) := by
  have hd := fun r j => dscores_apply P Do L De C c (hOf k) r j
  have hk := fun r z => q_apply P Do L De C c (hOf k) r z
  unfold wholeK gk
  rw [merged_apply, scaled_apply]
  generalize dscores P Do L De C = Y at hd
  generalize heads (partQ P) = X at hk
  pointwise []
  simp only [hd, hk]
theorem wholeV_apply (k : Fin 1024) : wholeV P Do L C (ix2 (rowW c r) k) = gv (headW P Do L De C c (hOf k)) r (zOf k) := by
  have hd := fun r j => weights_apply P Do L De C c (hOf k) r j
  have hk := fun r z => heads_apply c (hOf k) r z Do
  unfold wholeV gv
  rw [merged_apply]
  generalize weights P L C = Y at hd
  generalize heads Do = X at hk
  pointwise []
  simp only [hd, hk]
  rfl
theorem wholeR_apply (a : Fin 8) : wholeR P Do L De C (ix3 ⟨c.val * 8 + h.val, by omega⟩ a r) = gr (headW P Do L De C c h) r := by
  have hd := fun r j => dscores_apply P Do L De C c h r j
  unfold wholeR gr
  rw [eight_apply]
  generalize dscores P Do L De C = Y at hd
  pointwise []
  simp only [hd]
theorem wholeC_apply (a : Fin 8) : wholeC P Do L De C (ix3 ⟨c.val * 8 + h.val, by omega⟩ a j) = gc (headW P Do L De C c h) j := by
  have hd := fun r j => dscores_apply P Do L De C c h r j
  unfold wholeC gc
  rw [eight_apply]
  generalize dscores P Do L De C = Y at hd
  pointwise []
  simp only [hd]
end

end Cert.AttnProof

end
-- ==== Proof.AttnClaims.lean ====
/-
# Backward attention with its exchange between chips: its claims

`Cert.AttnProof.resQ_eq`, …: a device's gradients are its block of the reference's. `Cert.AttnProof.exchanged`: the rows it gets are its
part of the reference's.
-/
module

public import proofs.«01_k».proof.Defs
public import proofs.«01_k».proof.Proof.AttnRef
public import proofs.«01_k».proof.Proof.KernelValue
public import proofs.«01_k».proof.Proof.Gen.Attn
public import proofs.«01_k».proof.Proof.Gen.AttnReferenceIdeal.Run

@[expose] public section

set_option maxRecDepth 16384

noncomputable section

namespace Cert.AttnProof

open Cert.AttnIdeal Cert.AttnIdeal.Gen
open Idealize.ShloMosaic Idealize.ShloMosaic.TcCoe Idealize.SL.Sem
open Cert.KernelProof (rowOf wholeRows wholeRows_apply part part_apply hpart_apply)

/-! ## A device's block of the reference's results -/

section
variable (c : Dev nD)

theorem block_rows {α : Type} {n : ℕ} (v : (⟨2, ![32768, n]⟩ : Shape).Idx → α) (ht : Layout.Tiles ⟨2, ![4096, n]⟩ ⟨2, ![32768, n]⟩ 0 8) (r : Fin 4096) (k : Fin n) :
    Layout.block ⟨2, ![4096, n]⟩ ⟨2, ![32768, n]⟩ 0 8 c v ht (ix2 r k) = v (ix2 (rowW c r) k) := by
  rw [Layout.block_apply]
  exact congrArg v (funext fun x => Fin.ext (by match x with | ⟨0, _⟩ => rfl | ⟨1, _⟩ => rfl))
theorem block_sums {α : Type} (v : (⟨3, ![64, 8, 4096]⟩ : Shape).Idx → α) (ht : Layout.Tiles ⟨3, ![8, 8, 4096]⟩ ⟨3, ![64, 8, 4096]⟩ 0 8) (h a : Fin 8) (r : Fin 4096) :
    Layout.block ⟨3, ![8, 8, 4096]⟩ ⟨3, ![64, 8, 4096]⟩ 0 8 c v ht (ix3 h a r) = v (ix3 ⟨c.val * 8 + h.val, by have : c.val < 8 := c.isLt; omega⟩ a r) := by
  rw [Layout.block_apply]
  exact congrArg v (funext fun x => Fin.ext (by match x with | ⟨0, _⟩ => rfl | ⟨1, _⟩ => rfl | ⟨2, _⟩ => rfl))
theorem block_cums {α : Type} (v : (⟨4, ![64, 8, 1, 512]⟩ : Shape).Idx → α) (ht : Layout.Tiles ⟨4, ![8, 8, 1, 512]⟩ ⟨4, ![64, 8, 1, 512]⟩ 0 8) (a b : Fin 8) (k : Fin 512) :
    Layout.block ⟨4, ![8, 8, 1, 512]⟩ ⟨4, ![64, 8, 1, 512]⟩ 0 8 c v ht (ix4 a b 0 k) = v (ix4 ⟨c.val * 8 + a.val, by have : c.val < 8 := c.isLt; omega⟩ b 0 k) := by
  rw [Layout.block_apply]
  exact congrArg v (funext fun x => Fin.ext (by match x with | ⟨0, _⟩ => rfl | ⟨1, _⟩ => rfl | ⟨2, _⟩ => rfl | ⟨3, _⟩ => rfl))

variable (m : (ℓ : Loc nD τ sig) → Buf (Elt Ideal) ℓ)
variable (P : (⟨2, ![32768, 7168]⟩ : Shape).Idx → Ideal .bf16) (Do : (⟨2, ![32768, 1024]⟩ : Shape).Idx → Ideal .bf16)
  (L De : (⟨2, ![32768, 1024]⟩ : Shape).Idx → Ideal .f32) (C : (⟨4, ![64, 8, 1, 512]⟩ : Shape).Idx → Ideal .f32)
variable (hP : m ((c : Thread nD τ).loc main_arg0) = Layout.block ⟨2, ![4096, 7168]⟩ ⟨2, ![32768, 7168]⟩ 0 8 c P)
  (hD : m ((c : Thread nD τ).loc main_arg1) = Layout.block ⟨2, ![4096, 1024]⟩ ⟨2, ![32768, 1024]⟩ 0 8 c Do)
  (hL : m ((c : Thread nD τ).loc main_arg2) = Layout.block ⟨2, ![4096, 1024]⟩ ⟨2, ![32768, 1024]⟩ 0 8 c L)
  (hE : m ((c : Thread nD τ).loc main_arg3) = Layout.block ⟨2, ![4096, 1024]⟩ ⟨2, ![32768, 1024]⟩ 0 8 c De)
  (hC : m ((c : Thread nD τ).loc main_arg4) = Layout.block ⟨4, ![8, 8, 1, 512]⟩ ⟨4, ![64, 8, 1, 512]⟩ 0 8 c C)

include hP hD hL hE hC

/-- A device's head is the whole arrays' head. -/
theorem hd_eq (h : Fin 8) : hd m c h = headW P Do L De C c h :=
  headOf_congr h (fun r k => (congrFun hP (ix2 r k)).trans (block_rows c P _ r k)) (fun r k => (congrFun hD (ix2 r k)).trans (block_rows c Do _ r k))
    (fun r k => (congrFun hL (ix2 r k)).trans (block_rows c L _ r k)) (fun r k => (congrFun hE (ix2 r k)).trans (block_rows c De _ r k))
    (fun a b k => (congrFun hC (ix4 a b 0 k)).trans (block_cums c C _ a b k))

theorem resQ_eq : resQ m c = Layout.block ⟨2, ![4096, 1024]⟩ ⟨2, ![32768, 1024]⟩ 0 8 c (wholeQ P Do L De C) := by
  funext i
  obtain ⟨r, k, rfl⟩ : ∃ (r : Fin 4096) (k : Fin 1024), i = ix2 r k := ⟨i 0, i 1, eq_ix2 i⟩
  refine .trans ?_ ((block_rows c _ _ r k).trans (wholeQ_apply P Do L De C c r k)).symm
  show gq (hd m c (hOf k)) r (zOf k) = _
  rw [hd_eq c m P Do L De C hP hD hL hE hC]
theorem resK_eq : resK m c = Layout.block ⟨2, ![4096, 1024]⟩ ⟨2, ![32768, 1024]⟩ 0 8 c (wholeK P Do L De C) := by
  funext i
  obtain ⟨r, k, rfl⟩ : ∃ (r : Fin 4096) (k : Fin 1024), i = ix2 r k := ⟨i 0, i 1, eq_ix2 i⟩
  refine .trans ?_ ((block_rows c _ _ r k).trans (wholeK_apply P Do L De C c r k)).symm
  show gk (hd m c (hOf k)) r (zOf k) = _
  rw [hd_eq c m P Do L De C hP hD hL hE hC]
theorem resV_eq : resV m c = Layout.block ⟨2, ![4096, 1024]⟩ ⟨2, ![32768, 1024]⟩ 0 8 c (wholeV P Do L C) := by
  funext i
  obtain ⟨r, k, rfl⟩ : ∃ (r : Fin 4096) (k : Fin 1024), i = ix2 r k := ⟨i 0, i 1, eq_ix2 i⟩
  refine .trans ?_ ((block_rows c _ _ r k).trans (wholeV_apply P Do L De C c r k)).symm
  show gv (hd m c (hOf k)) r (zOf k) = _
  rw [hd_eq c m P Do L De C hP hD hL hE hC]
theorem resR_eq : resR m c = Layout.block ⟨3, ![8, 8, 4096]⟩ ⟨3, ![64, 8, 4096]⟩ 0 8 c (wholeR P Do L De C) := by
  funext i
  obtain ⟨h, a, r, rfl⟩ : ∃ (h a : Fin 8) (r : Fin 4096), i = ix3 h a r := ⟨i 0, i 1, i 2, eq_ix3 i⟩
  refine .trans ?_ ((block_sums c _ _ h a r).trans (wholeR_apply P Do L De C c h r a)).symm
  show gr (hd m c h) r = _
  rw [hd_eq c m P Do L De C hP hD hL hE hC]
theorem resC_eq : resC m c = Layout.block ⟨3, ![8, 8, 4096]⟩ ⟨3, ![64, 8, 4096]⟩ 0 8 c (wholeC P Do L De C) := by
  funext i
  obtain ⟨h, a, r, rfl⟩ : ∃ (h a : Fin 8) (r : Fin 4096), i = ix3 h a r := ⟨i 0, i 1, i 2, eq_ix3 i⟩
  refine .trans ?_ ((block_sums c _ _ h a r).trans (wholeC_apply P Do L De C c h r a)).symm
  show gc (hd m c h) r = _
  rw [hd_eq c m P Do L De C hP hD hL hE hC]
end

/-! ## The exchange -/

theorem row_from : ∀ (j : Fin 3) (c : Dev nD), (peer j c).val / 2 * 4 + sOff j (peer j c) 0
    = rowOf ⟨3 * (c.val / 2) + j.val, by have : c.val < 8 := c.isLt; omega⟩ := by decide +kernel
theorem row_half : ∀ (j : Fin 3) (c : Dev nD), (peer j c).val % 2 = c.val % 2 := by decide +kernel
theorem row_offs : ∀ (j : Fin 3) (c : Dev nD), sOff j (peer j c) 1 = 0 ∧ sOff j (peer j c) 2 = 0 ∧ sOff j (peer j c) 3 = 0 := by decide +kernel
theorem oOff_eq (j : Fin 3) : oOff j = ![j.val, 0, 0, 0] := match j with | 0 => rfl | 1 => rfl | 2 => rfl

variable {F : FTy → Type} [FloatOps F]
variable (m : (ℓ : Loc nD τ sig) → Buf (Elt F) ℓ)

/-- A device's rows are its part of the reference's. -/
theorem rows_eq (H : (⟨4, ![16, 2, 1168, 2048]⟩ : Shape).Idx → Elt F .bf16)
    (hH : ∀ c : Dev nD, m ((c : Thread nD τ).loc main_arg5)
      = Layout.blockN ⟨4, ![4, 1, 1168, 2048]⟩ ⟨4, ![16, 2, 1168, 2048]⟩ (Layout.meshBlock [2, 2, 2] ![[0, 1], [2], [], []] c) H)
    (c : Dev nD) (j : Fin 3) (x : S1x1x1168x2048.Idx) :
    (sRow j (peer j c)).view.read (Elt F) (m ((peer j c : Thread nD τ).loc main_arg5)) x
      = part c (wholeRows H) ((oRow j).view.emb x) := by
  have hc : c.val < 8 := c.isLt
  have x0 : (x 0).val < 1 := (x 0).isLt
  have hr := row_from j c
  have hh := row_half j c
  obtain ⟨o1, o2, o3⟩ := row_offs j c
  have ho := oOff_eq j
  rw [hH (peer j c), View.read_apply]
  refine .trans ?_ (.symm ((part_apply c _ ((oRow j).view.emb x) ⟨3 * (c.val / 2) + j.val, by omega⟩ ?_ ⟨c.val % 2, by omega⟩ rfl).trans (wholeRows_apply H _ _ _ _)))
  swap
  · show 3 * (c.val / 2) + j.val = _ + (oOff j 0 + 1 * (x 0).val); rw [ho]; show _ = _ + (j.val + 1 * (x 0).val); omega
  refine hpart_apply (peer j c) H _ _ ?_ _ hh.symm _ ?_ _ ?_
  · show rowOf _ = 4 * _ + (sOff j (peer j c) 0 + 1 * (x 0).val); rw [← hr]; omega
  · show sOff j (peer j c) 2 + 1 * (x 2).val = oOff j 2 + 1 * (x 2).val; rw [ho, o2]; rfl
  · show sOff j (peer j c) 3 + 1 * (x 3).val = oOff j 3 + 1 * (x 3).val; rw [ho, o3]; rfl

/-- Every element of the last result is on one of its rows. -/
theorem on_row (i : S3x1x1168x2048.Idx) : ∃ j : Fin 3, i ∈ (oRow j).view.set := by
  let j : Fin 3 := ⟨(i 0).val, (i 0).isLt⟩
  refine ⟨j, ?_⟩
  show i ∈ ((View.whole main_v1_5).slice (Rect.unit (s := S3x1x1168x2048) (oOff j) S1x1x1168x2048.size (oOff_inb j))).set
  rw [View.set_slice_whole, Rect.mem_set_unit, oOff_eq]
  have i1 : (i 1).val < 1 := (i 1).isLt
  have i2 : (i 2).val < 1168 := (i 2).isLt
  have i3 : (i 3).val < 2048 := (i 3).isLt
  intro a
  match a with
  | ⟨0, _⟩ => exact ⟨le_refl _, Nat.lt_succ_self _⟩
  | ⟨1, _⟩ => show 0 ≤ (i 1).val ∧ (i 1).val < 0 + 1; omega
  | ⟨2, _⟩ => show 0 ≤ (i 2).val ∧ (i 2).val < 0 + 1168; omega
  | ⟨3, _⟩ => show 0 ≤ (i 3).val ∧ (i 3).val < 0 + 2048; omega

/-- The last result is the device's part of the reference's. -/
theorem exchanged (H : (⟨4, ![16, 2, 1168, 2048]⟩ : Shape).Idx → Elt F .bf16)
    (hH : ∀ c : Dev nD, m ((c : Thread nD τ).loc main_arg5)
      = Layout.blockN ⟨4, ![4, 1, 1168, 2048]⟩ ⟨4, ![16, 2, 1168, 2048]⟩ (Layout.meshBlock [2, 2, 2] ![[0, 1], [2], [], []] c) H)
    (c : Dev nD) (s : MemSt nD τ sig (Elt F)) (hs : rest m c s) : s.mem ((c : Thread nD τ).loc main_v1_5) = part c (wholeRows H) := by
  funext i
  obtain ⟨j, hi⟩ := on_row i
  refine (hs.2 j i hi).trans ?_
  obtain ⟨x, -, rfl⟩ := Finset.mem_map.mp hi
  unfold got
  rw [View.write_emb_of_mem _ _ (Finset.mem_univ x), rows_eq m H hH c j x]
  rfl

/-! ## The claims -/

theorem kept (c : Dev nD) (s : MemSt nD τ sig (Elt F))
    (h : (∀ w, s.mem ((cfg0.win w).arr.view.loc (c : Thread nD τ)) = (dats m 0 c).arrAt w cfg0.N) ∧ rest m c s) :
    s.mem ((c : Thread nD τ).loc main_arg0) = m ((c : Thread nD τ).loc main_arg0) ∧
    s.mem ((c : Thread nD τ).loc main_arg1) = m ((c : Thread nD τ).loc main_arg1) ∧
    s.mem ((c : Thread nD τ).loc main_arg2) = m ((c : Thread nD τ).loc main_arg2) ∧
    s.mem ((c : Thread nD τ).loc main_arg3) = m ((c : Thread nD τ).loc main_arg3) ∧
    s.mem ((c : Thread nD τ).loc main_arg4) = m ((c : Thread nD τ).loc main_arg4) ∧
    s.mem ((c : Thread nD τ).loc main_arg5) = m ((c : Thread nD τ).loc main_arg5) :=
  ⟨(h.1 0).trans ((dats m 0 c).arrAt_in 0 rfl _), (h.1 3).trans ((dats m 0 c).arrAt_in 3 rfl _), (h.1 4).trans ((dats m 0 c).arrAt_in 4 rfl _), (h.1 5).trans ((dats m 0 c).arrAt_in 5 rfl _), (h.1 6).trans ((dats m 0 c).arrAt_in 6 rfl _), h.2.1⟩

set_option maxHeartbeats 4000000 in
/-- The two programs' body tables agree. -/
theorem bodies : @Cert.Attn.defs₀ F _ _ = @Cert.AttnIdeal.defs₀ F _ _ := by
  funext p ℓ a
  match p, ℓ, a with
  | .tc, ⟨0, _⟩, ⟨_, _⟩ => rfl
  | .scScalar _, ⟨0, _⟩, _ => rfl
  | .scVector _ _, ⟨0, _⟩, _ => rfl

theorem tables : @Cert.Attn.defs F _ _ = @Cert.AttnIdeal.defs F _ _ :=
  congrArg (Pipeline.defs Cert.AttnIdeal.pcfgs) bodies

theorem quiescent : Cert.quiescent_Attn := fun m ρ _ => by
  rw [tables]
  exact (θ_run Cert.AttnIdeal.defs _ _).mono (fun r h => ⟨fun c => kept m c r.2 (h.1 c), h.2⟩) (run_main (F := Bits) m ρ)
theorem quiescent_ideal : Cert.quiescent_AttnIdeal := fun m ρ _ =>
  (θ_run Cert.AttnIdeal.defs _ _).mono (fun r h => ⟨fun c => kept m c r.2 (h.1 c), h.2⟩) (run_main (F := Ideal) m ρ)
theorem quiescent_ref : Cert.quiescent_AttnReferenceIdeal := fun m ρ _ =>
  (θ_run Cert.AttnReferenceIdeal.defs _ _).mono (fun r h => ⟨fun c => (h c).2.2.2.2.2.2, sem_eq_zero_of_no_sems (by decide) r.2⟩)
    (Cert.AttnReferenceIdeal.Value.run (F := Ideal) m ρ)
theorem preserved : Cert.preserves_Attn_AttnIdeal := trivial

section
variable (m' : (ℓ : Loc 1 Cert.AttnReferenceIdeal.τ Cert.AttnReferenceIdeal.sig) → Buf (Elt Ideal) ℓ)
/-- The reference's results. -/
abbrev outQ := wholeQ (m' (((0 : Dev 1) : Thread 1 Cert.AttnReferenceIdeal.τ).loc Cert.AttnReferenceIdeal.main_arg0))
      (m' (((0 : Dev 1) : Thread 1 Cert.AttnReferenceIdeal.τ).loc Cert.AttnReferenceIdeal.main_arg1))
      (m' (((0 : Dev 1) : Thread 1 Cert.AttnReferenceIdeal.τ).loc Cert.AttnReferenceIdeal.main_arg2))
      (m' (((0 : Dev 1) : Thread 1 Cert.AttnReferenceIdeal.τ).loc Cert.AttnReferenceIdeal.main_arg3))
      (m' (((0 : Dev 1) : Thread 1 Cert.AttnReferenceIdeal.τ).loc Cert.AttnReferenceIdeal.main_arg4))
abbrev outK := wholeK (m' (((0 : Dev 1) : Thread 1 Cert.AttnReferenceIdeal.τ).loc Cert.AttnReferenceIdeal.main_arg0))
      (m' (((0 : Dev 1) : Thread 1 Cert.AttnReferenceIdeal.τ).loc Cert.AttnReferenceIdeal.main_arg1))
      (m' (((0 : Dev 1) : Thread 1 Cert.AttnReferenceIdeal.τ).loc Cert.AttnReferenceIdeal.main_arg2))
      (m' (((0 : Dev 1) : Thread 1 Cert.AttnReferenceIdeal.τ).loc Cert.AttnReferenceIdeal.main_arg3))
      (m' (((0 : Dev 1) : Thread 1 Cert.AttnReferenceIdeal.τ).loc Cert.AttnReferenceIdeal.main_arg4))
abbrev outV := wholeV (m' (((0 : Dev 1) : Thread 1 Cert.AttnReferenceIdeal.τ).loc Cert.AttnReferenceIdeal.main_arg0))
      (m' (((0 : Dev 1) : Thread 1 Cert.AttnReferenceIdeal.τ).loc Cert.AttnReferenceIdeal.main_arg1))
      (m' (((0 : Dev 1) : Thread 1 Cert.AttnReferenceIdeal.τ).loc Cert.AttnReferenceIdeal.main_arg2))
      (m' (((0 : Dev 1) : Thread 1 Cert.AttnReferenceIdeal.τ).loc Cert.AttnReferenceIdeal.main_arg4))
abbrev outR := wholeR (m' (((0 : Dev 1) : Thread 1 Cert.AttnReferenceIdeal.τ).loc Cert.AttnReferenceIdeal.main_arg0))
      (m' (((0 : Dev 1) : Thread 1 Cert.AttnReferenceIdeal.τ).loc Cert.AttnReferenceIdeal.main_arg1))
      (m' (((0 : Dev 1) : Thread 1 Cert.AttnReferenceIdeal.τ).loc Cert.AttnReferenceIdeal.main_arg2))
      (m' (((0 : Dev 1) : Thread 1 Cert.AttnReferenceIdeal.τ).loc Cert.AttnReferenceIdeal.main_arg3))
      (m' (((0 : Dev 1) : Thread 1 Cert.AttnReferenceIdeal.τ).loc Cert.AttnReferenceIdeal.main_arg4))
abbrev outC := wholeC (m' (((0 : Dev 1) : Thread 1 Cert.AttnReferenceIdeal.τ).loc Cert.AttnReferenceIdeal.main_arg0))
      (m' (((0 : Dev 1) : Thread 1 Cert.AttnReferenceIdeal.τ).loc Cert.AttnReferenceIdeal.main_arg1))
      (m' (((0 : Dev 1) : Thread 1 Cert.AttnReferenceIdeal.τ).loc Cert.AttnReferenceIdeal.main_arg2))
      (m' (((0 : Dev 1) : Thread 1 Cert.AttnReferenceIdeal.τ).loc Cert.AttnReferenceIdeal.main_arg3))
      (m' (((0 : Dev 1) : Thread 1 Cert.AttnReferenceIdeal.τ).loc Cert.AttnReferenceIdeal.main_arg4))
end

theorem algebraic : Cert.algebraic_AttnIdeal_AttnReferenceIdeal := fun m g m' g' _ hm =>
  ⟨outQ m', outK m', outV m', outR m', outC m', wholeRows (F := Ideal) (m' (((0 : Dev 1) : Thread 1 Cert.AttnReferenceIdeal.τ).loc Cert.AttnReferenceIdeal.main_arg5)),
    (θ_run Cert.AttnIdeal.defs _ _).mono (fun r h c => by
      obtain ⟨h0, h1, h2, h3, h4, -⟩ := hm c
      exact ⟨((h.1 c).1 7).trans ((final_7 m c).trans (resQ_eq c m _ _ _ _ _ h0 h1 h2 h3 h4)),
        ((h.1 c).1 8).trans ((final_8 m c).trans (resK_eq c m _ _ _ _ _ h0 h1 h2 h3 h4)),
        ((h.1 c).1 9).trans ((final_9 m c).trans (resV_eq c m _ _ _ _ _ h0 h1 h2 h3 h4)),
        ((h.1 c).1 10).trans ((final_10 m c).trans (resR_eq c m _ _ _ _ _ h0 h1 h2 h3 h4)),
        ((h.1 c).1 11).trans ((final_11 m c).trans (resC_eq c m _ _ _ _ _ h0 h1 h2 h3 h4)),
        exchanged m _ (fun d => (hm d).2.2.2.2.2) c r.2 (h.1 c).2, kept m c r.2 (h.1 c)⟩) (run_main (F := Ideal) m g),
    (θ_run Cert.AttnReferenceIdeal.defs _ _).mono (fun _ h => h 0) (Cert.AttnReferenceIdeal.Value.run (F := Ideal) m' g')⟩

end Cert.AttnProof

end
-- ==== Proof.StepClaims.lean ====
/-
# AdamW's steps, on one device: their claims

A step works element by element: an element's new moments come from its old ones and its gradient, and its change from these and its
weight (`Cert.StepProof.mean`, `square`, `change`). The reference computes the same three at every element. What is left is where the
elements lie: the second and third call's blocks tile their arrays, and so do the first's, which also hands its gradient back.
-/
module

public import proofs.«01_k».proof.Defs
public import proofs.«01_k».proof.Proof.Gen.StepIn
public import proofs.«01_k».proof.Proof.Gen.StepIn.Frame
public import proofs.«01_k».proof.Proof.Gen.StepInIdeal
public import proofs.«01_k».proof.Proof.Gen.StepInIdeal.Frame
public import proofs.«01_k».proof.Proof.Gen.StepInIdeal.Value
public import proofs.«01_k».proof.Proof.Gen.StepInReferenceIdeal
public import proofs.«01_k».proof.Proof.Gen.StepInReferenceIdeal.Run
public import proofs.«01_k».proof.Proof.Gen.StepOut
public import proofs.«01_k».proof.Proof.Gen.StepOut.Frame
public import proofs.«01_k».proof.Proof.Gen.StepOutIdeal
public import proofs.«01_k».proof.Proof.Gen.StepOutIdeal.Frame
public import proofs.«01_k».proof.Proof.Gen.StepOutIdeal.Value
public import proofs.«01_k».proof.Proof.Gen.StepOutReferenceIdeal
public import proofs.«01_k».proof.Proof.Gen.StepOutReferenceIdeal.Run
public import proofs.«01_k».proof.Proof.Gen.StepSmall
public import proofs.«01_k».proof.Proof.Gen.StepSmall.Frame
public import proofs.«01_k».proof.Proof.Gen.StepSmallIdeal
public import proofs.«01_k».proof.Proof.Gen.StepSmallIdeal.Frame
public import proofs.«01_k».proof.Proof.Gen.StepSmallIdeal.Value
public import proofs.«01_k».proof.Proof.Gen.StepSmallReferenceIdeal
public import proofs.«01_k».proof.Proof.Gen.StepSmallReferenceIdeal.Run
public import Idealize.ShloMosaic.Lib.Pipeline.Value
public import Idealize.ShloMosaic.Lib.Quiescent

@[expose] public section

set_option maxRecDepth 16384

noncomputable section

namespace Cert.StepProof

open Idealize.ShloMosaic Idealize.ShloMosaic.TcCoe Idealize.SL.Sem
open Idealize.ShloMosaic.Pipeline (Dat)

/-! ## One element's step -/

/-- The new first moment: nine tenths of the old one and a tenth of the gradient. -/
def mean (g m : Elt Ideal .f32) : Elt Ideal .f32 :=
  FloatOps.addf (F := Ideal) (FloatOps.mulf (Scalar.ofBits .f32 0x3F666666#32) m) (FloatOps.mulf (Scalar.ofBits .f32 0x3DCCCCCD#32) g)
/-- The new second moment, of the gradient's square. -/
def square (g v : Elt Ideal .f32) : Elt Ideal .f32 :=
  FloatOps.addf (F := Ideal) (FloatOps.mulf (Scalar.ofBits .f32 0x3F7FBE77#32) v) (FloatOps.mulf (Scalar.ofBits .f32 0x3A83126F#32) (FloatOps.mulf g g))
/-- The weight's change. -/
def change (w g m v : Elt Ideal .f32) : Elt Ideal .f32 :=
  FloatOps.mulf (F := Ideal) (Scalar.ofBits .f32 0xBA83126F#32) (FloatOps.addf
    (FloatOps.divf (FloatOps.divf (mean g m) (Scalar.ofBits .f32 0x3F26BD02#32))
      (FloatOps.addf (FloatOps.sqrt (FloatOps.divf (square g v) (Scalar.ofBits .f32 0x3C231ACC#32))) (Scalar.ofBits .f32 0x322BCC77#32)))
    (FloatOps.mulf (Scalar.ofBits .f32 0x3C23D70A#32) w))

/-! ## The first call's arrays after it -/

namespace In
open Cert.StepInIdeal Cert.StepInIdeal.Gen
variable (m : (ℓ : Loc nD τ sig) → Buf (Elt Ideal) ℓ)

abbrev argW (c : Dev nD) : S1794x4x2048.Idx → Elt Ideal .f32 := m ((c : Thread nD τ).loc main_arg0)
abbrev argG (c : Dev nD) : S1794x4x2048.Idx → Elt Ideal .f32 := m ((c : Thread nD τ).loc main_arg1)
abbrev argM (c : Dev nD) : S1794x4x2048.Idx → Elt Ideal .f32 := m ((c : Thread nD τ).loc main_arg2)
abbrev argV (c : Dev nD) : S1794x4x2048.Idx → Elt Ideal .f32 := m ((c : Thread nD τ).loc main_arg3)

theorem zero3 : (![0, 0, 0] : Fin 3 → Nat) = fun _ => 0 := funext fun a => by fin_cases a <;> rfl

theorem point4 (c : Dev nD) (t : Fin cfg0.N) : (dats m 0 c).flushed 4 t = ((cfg0.win 4).blk t).view.read (Elt Ideal)
    (fun i => change (argW m c i) (argG m c i) (argM m c i) (argV m c i)) := by
  rw [Value.flushed4]
  unfold out0_4
  rw [View.canon_unit_zero zero3]
  simp only [View.ld_unit_zero (S := S46x4x2048) zero3]
  rfl
theorem point5 (c : Dev nD) (t : Fin cfg0.N) : (dats m 0 c).flushed 5 t = ((cfg0.win 5).blk t).view.read (Elt Ideal)
    (fun i => mean (argG m c i) (argM m c i)) := by
  rw [Value.flushed5]
  unfold out0_5
  rw [View.canon_unit_zero zero3]
  simp only [View.ld_unit_zero (S := S46x4x2048) zero3]
  rfl
theorem point6 (c : Dev nD) (t : Fin cfg0.N) : (dats m 0 c).flushed 6 t = ((cfg0.win 6).blk t).view.read (Elt Ideal)
    (fun i => square (argG m c i) (argV m c i)) := by
  rw [Value.flushed6]
  unfold out0_6
  rw [View.canon_unit_zero zero3]
  simp only [View.ld_unit_zero (S := S46x4x2048) zero3]
  rfl
theorem point7 (c : Dev nD) (t : Fin cfg0.N) : (dats m 0 c).flushed 7 t = ((cfg0.win 7).blk t).view.read (Elt Ideal) (argG m c) := by
  rw [Value.flushed7]
  unfold out0_7
  rw [View.canon_unit_zero zero3]
  simp only [View.ld_unit_zero (S := S46x4x2048) zero3]
  rfl

/-- Block `t` holds rows `46 t` to `46 t + 45`. -/
theorem place : ∀ t : Fin grid0.N, win0_4.index t = ![t.val, 0, 0] := by decide +kernel

theorem in_block (i : S1794x4x2048.Idx) (t : Fin cfg0.N) (ht : t.val = (i 0).val / 46) (a : Fin 3) :
    win0_4.index t a * S46x4x2048.size a ≤ (i a).val ∧ (i a).val < win0_4.index t a * S46x4x2048.size a + S46x4x2048.size a := by
  have b1 : (i 1).val < 4 := (i 1).isLt
  have b2 : (i 2).val < 2048 := (i 2).isLt
  rw [show win0_4.index t = ![t.val, 0, 0] from place t]
  match a with
  | ⟨0, _⟩ => show t.val * 46 ≤ (i 0).val ∧ (i 0).val < t.val * 46 + 46; omega
  | ⟨1, _⟩ => show 0 * 4 ≤ (i 1).val ∧ (i 1).val < 0 * 4 + 4; omega
  | ⟨2, _⟩ => show 0 * 2048 ≤ (i 2).val ∧ (i 2).val < 0 * 2048 + 2048; omega

/-- The block of an index. -/
abbrev ptOf (i : S1794x4x2048.Idx) : Fin cfg0.N := ⟨(i 0).val / 46, by have b0 : (i 0).val < 1794 := (i 0).isLt; show _ < 39; omega⟩

theorem array4 (c : Dev nD) : (dats m 0 c).arrAt 4 cfg0.N = (fun i => change (argW m c i) (argG m c i) (argM m c i) (argV m c i)) :=
  (dats m 0 c).arrAt_eq_of_cover 4 _ (fun t _ => point4 m c t) fun i => ⟨ptOf i, flush0_4 _, by
    show i ∈ ((View.whole main_v0_0).slice (win0_4.rect (ptOf i))).set
    rw [View.set_slice_whole, Rect.mem_set_unit]
    exact in_block i (ptOf i) rfl⟩
theorem array5 (c : Dev nD) : (dats m 0 c).arrAt 5 cfg0.N = (fun i => mean (argG m c i) (argM m c i)) :=
  (dats m 0 c).arrAt_eq_of_cover 5 _ (fun t _ => point5 m c t) fun i => ⟨ptOf i, flush0_5 _, by
    show i ∈ ((View.whole main_v0_1).slice (win0_5.rect (ptOf i))).set
    rw [View.set_slice_whole, Rect.mem_set_unit]
    exact in_block i (ptOf i) rfl⟩
theorem array6 (c : Dev nD) : (dats m 0 c).arrAt 6 cfg0.N = (fun i => square (argG m c i) (argV m c i)) :=
  (dats m 0 c).arrAt_eq_of_cover 6 _ (fun t _ => point6 m c t) fun i => ⟨ptOf i, flush0_6 _, by
    show i ∈ ((View.whole main_v0_2).slice (win0_6.rect (ptOf i))).set
    rw [View.set_slice_whole, Rect.mem_set_unit]
    exact in_block i (ptOf i) rfl⟩
theorem array7 (c : Dev nD) : (dats m 0 c).arrAt 7 cfg0.N = argG m c :=
  (dats m 0 c).arrAt_eq_of_cover 7 _ (fun t _ => point7 m c t) fun i => ⟨ptOf i, flush0_7 _, by
    show i ∈ ((View.whole main_v0_3).slice (win0_7.rect (ptOf i))).set
    rw [View.set_slice_whole, Rect.mem_set_unit]
    exact in_block i (ptOf i) rfl⟩

end In

/-! ## The first call's claims -/

namespace In

theorem quiescent : Cert.quiescent_StepIn := fun m ρ _ => Cert.StepIn.Gen.frame m ρ
theorem quiescent_ideal : Cert.quiescent_StepInIdeal := fun m ρ _ => Cert.StepInIdeal.Gen.frame m ρ
theorem quiescent_ref : Cert.quiescent_StepInReferenceIdeal := fun m ρ _ =>
  (θ_run Cert.StepInReferenceIdeal.defs _ _).mono (fun r h => ⟨fun c => (h c).2.2.2.2, sem_eq_zero_of_no_sems (by decide) r.2⟩)
    (Cert.StepInReferenceIdeal.Value.run (F := Ideal) m ρ)
theorem preserved : Cert.preserves_StepIn_StepInIdeal := trivial

theorem algebraic : Cert.algebraic_StepInIdeal_StepInReferenceIdeal := fun m g m' g' _ hm =>
  let G := m' (((0 : Dev 1) : Thread 1 Cert.StepInReferenceIdeal.τ).loc Cert.StepInReferenceIdeal.main_arg1)
  let M := m' (((0 : Dev 1) : Thread 1 Cert.StepInReferenceIdeal.τ).loc Cert.StepInReferenceIdeal.main_arg2)
  let V := m' (((0 : Dev 1) : Thread 1 Cert.StepInReferenceIdeal.τ).loc Cert.StepInReferenceIdeal.main_arg3)
  ⟨fun _ i => change (m' (((0 : Dev 1) : Thread 1 Cert.StepInReferenceIdeal.τ).loc Cert.StepInReferenceIdeal.main_arg0) i) (G i) (M i) (V i), fun _ i => mean (G i) (M i), fun _ i => square (G i) (V i), fun _ => G,
    (θ_run Cert.StepInIdeal.defs _ _).mono (fun r h c => by
      obtain rfl : c = 0 := Subsingleton.elim _ _
      obtain ⟨hW, hG, hM, hV⟩ := hm 0
      exact ⟨
        ((h 0).1.trans (In.array4 m 0)).trans (by simp only [G, M, V, hW, hG, hM, hV]; rfl),
        ((h 0).2.1.trans (In.array5 m 0)).trans (by simp only [G, M, hG, hM]; rfl),
        ((h 0).2.2.1.trans (In.array6 m 0)).trans (by simp only [G, V, hG, hV]; rfl),
        ((h 0).2.2.2.1.trans (In.array7 m 0)).trans (by simp only [G, hG]), (h 0).2.2.2.2⟩)
      (Cert.StepInIdeal.Value.run_blocks (F := Ideal) m g),
    (θ_run Cert.StepInReferenceIdeal.defs _ _).mono (fun r h c => by
      obtain rfl : c = 0 := Subsingleton.elim _ _
      exact ⟨(h 0).1.trans (by funext i; rfl), (h 0).2.1.trans (by funext i; rfl), (h 0).2.2.1.trans (by funext i; rfl), (h 0).2.2.2.1, (h 0).2.2.2.2⟩)
      (Cert.StepInReferenceIdeal.Value.run (F := Ideal) m' g')⟩

end In

/-! ## The second call's claims -/

namespace Out

theorem quiescent : Cert.quiescent_StepOut := fun m ρ _ => Cert.StepOut.Gen.frame m ρ
theorem quiescent_ideal : Cert.quiescent_StepOutIdeal := fun m ρ _ => Cert.StepOutIdeal.Gen.frame m ρ
theorem quiescent_ref : Cert.quiescent_StepOutReferenceIdeal := fun m ρ _ =>
  (θ_run Cert.StepOutReferenceIdeal.defs _ _).mono (fun r h => ⟨fun c => (h c).2.2.2, sem_eq_zero_of_no_sems (by decide) r.2⟩)
    (Cert.StepOutReferenceIdeal.Value.run (F := Ideal) m ρ)
theorem preserved : Cert.preserves_StepOut_StepOutIdeal := trivial

theorem algebraic : Cert.algebraic_StepOutIdeal_StepOutReferenceIdeal := fun m g m' g' _ hm =>
  let G := m' (((0 : Dev 1) : Thread 1 Cert.StepOutReferenceIdeal.τ).loc Cert.StepOutReferenceIdeal.main_arg1)
  let M := m' (((0 : Dev 1) : Thread 1 Cert.StepOutReferenceIdeal.τ).loc Cert.StepOutReferenceIdeal.main_arg2)
  let V := m' (((0 : Dev 1) : Thread 1 Cert.StepOutReferenceIdeal.τ).loc Cert.StepOutReferenceIdeal.main_arg3)
  ⟨fun _ i => change (m' (((0 : Dev 1) : Thread 1 Cert.StepOutReferenceIdeal.τ).loc Cert.StepOutReferenceIdeal.main_arg0) i) (G i) (M i) (V i), fun _ i => mean (G i) (M i), fun _ i => square (G i) (V i),
    (θ_run Cert.StepOutIdeal.defs _ _).mono (fun r h c => by
      obtain rfl : c = 0 := Subsingleton.elim _ _
      obtain ⟨hW, hG, hM, hV⟩ := hm 0
      exact ⟨
        (h 0).1.trans (by simp only [G, M, V, hG, hM, hV, hW]; rfl),
        (h 0).2.1.trans (by simp only [G, M, hG, hM]; rfl),
        (h 0).2.2.1.trans (by simp only [G, V, hG, hV]; rfl), (h 0).2.2.2⟩)
      (Cert.StepOutIdeal.Value.run (F := Ideal) m g),
    (θ_run Cert.StepOutReferenceIdeal.defs _ _).mono (fun r h c => by
      obtain rfl : c = 0 := Subsingleton.elim _ _
      exact ⟨(h 0).1.trans (by funext i; rfl), (h 0).2.1.trans (by funext i; rfl), (h 0).2.2.1.trans (by funext i; rfl), (h 0).2.2.2⟩)
      (Cert.StepOutReferenceIdeal.Value.run (F := Ideal) m' g')⟩

end Out

/-! ## The third call's claims -/

namespace Small

theorem quiescent : Cert.quiescent_StepSmall := fun m ρ _ => Cert.StepSmall.Gen.frame m ρ
theorem quiescent_ideal : Cert.quiescent_StepSmallIdeal := fun m ρ _ => Cert.StepSmallIdeal.Gen.frame m ρ
theorem quiescent_ref : Cert.quiescent_StepSmallReferenceIdeal := fun m ρ _ =>
  (θ_run Cert.StepSmallReferenceIdeal.defs _ _).mono (fun r h => ⟨fun c => (h c).2.2.2, sem_eq_zero_of_no_sems (by decide) r.2⟩)
    (Cert.StepSmallReferenceIdeal.Value.run (F := Ideal) m ρ)
theorem preserved : Cert.preserves_StepSmall_StepSmallIdeal := trivial

theorem algebraic : Cert.algebraic_StepSmallIdeal_StepSmallReferenceIdeal := fun m g m' g' _ hm =>
  let G := m' (((0 : Dev 1) : Thread 1 Cert.StepSmallReferenceIdeal.τ).loc Cert.StepSmallReferenceIdeal.main_arg1)
  let M := m' (((0 : Dev 1) : Thread 1 Cert.StepSmallReferenceIdeal.τ).loc Cert.StepSmallReferenceIdeal.main_arg2)
  let V := m' (((0 : Dev 1) : Thread 1 Cert.StepSmallReferenceIdeal.τ).loc Cert.StepSmallReferenceIdeal.main_arg3)
  ⟨fun _ i => change (m' (((0 : Dev 1) : Thread 1 Cert.StepSmallReferenceIdeal.τ).loc Cert.StepSmallReferenceIdeal.main_arg0) i) (G i) (M i) (V i), fun _ i => mean (G i) (M i), fun _ i => square (G i) (V i),
    (θ_run Cert.StepSmallIdeal.defs _ _).mono (fun r h c => by
      obtain rfl : c = 0 := Subsingleton.elim _ _
      obtain ⟨hW, hG, hM, hV⟩ := hm 0
      exact ⟨
        (h 0).1.trans (by simp only [G, M, V, hG, hM, hV, hW]; rfl),
        (h 0).2.1.trans (by simp only [G, M, hG, hM]; rfl),
        (h 0).2.2.1.trans (by simp only [G, V, hG, hV]; rfl), (h 0).2.2.2⟩)
      (Cert.StepSmallIdeal.Value.run (F := Ideal) m g),
    (θ_run Cert.StepSmallReferenceIdeal.defs _ _).mono (fun r h c => by
      obtain rfl : c = 0 := Subsingleton.elim _ _
      exact ⟨(h 0).1.trans (by funext i; rfl), (h 0).2.1.trans (by funext i; rfl), (h 0).2.2.1.trans (by funext i; rfl), (h 0).2.2.2⟩)
      (Cert.StepSmallReferenceIdeal.Value.run (F := Ideal) m' g')⟩

end Small

end Cert.StepProof

end
-- ==== Proof.GatherRun.lean ====
/-
# The gather between chips of the first layer's weights: its run

`Cert.GatherProof`: device `c` sends its core's half of its chip's rows (`sRow`) to the device of the same core on each
of the three other chips, which takes it at the place of `c`'s chip and core (`tRow c`) in its result, and waits for the three
that come to it. Three lines (`Proof.Lines`) from one source, by three shares of it. Over any float values: the kernel only
moves data.
-/
module

public import proofs.«01_k».proof.Proof.Lines
public import proofs.«01_k».proof.Proof.Gen.GatherIdeal.Skeleton
public import proofs.«01_k».proof.Proof.Gen.GatherIdeal.Launch
public import proofs.«01_k».proof.Proof.Gen.GatherIdeal.Points

@[expose] public section

noncomputable section

namespace Cert.GatherProof

open Cert.GatherIdeal Cert.GatherIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Proof.Lines (UU EP ER)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The lines -/

/-- The device of the same core on chip `2`, `1`, `3` away. -/
def peer (j : Fin 3) (c : Dev nD) : Dev nD := match j with
  | 0 => ⟨k0_dev1 c, k0_dev1_lt c⟩
  | 1 => ⟨k0_dev2 c, k0_dev2_lt c⟩
  | 2 => ⟨k0_dev3 c, k0_dev3_lt c⟩
theorem peer_peer (j : Fin 3) (c : Dev nD) : peer j (peer j c) = c := by
  refine Fin.ext ?_
  have : c.val < 8 := c.isLt
  match j with
  | 0 => show k0_dev1 (peer 0 c) = _; rw [k0_dev1_eq]; unfold peer; simp only [k0_dev1_eq]; omega
  | 1 => show k0_dev2 (peer 1 c) = _; rw [k0_dev2_eq]; unfold peer; simp only [k0_dev2_eq]; omega
  | 2 => show k0_dev3 (peer 2 c) = _; rw [k0_dev3_eq]; unfold peer; simp only [k0_dev3_eq]; omega

abbrev gM : Memref sig .tc .hbm S1x2x1168x2048 .bf16 := Memref.whole main_arg0
abbrev oM : Memref sig .tc .hbm S4x2x1168x2048 .bf16 := Memref.whole main_v1

/-- The block device `c` sends. -/
abbrev sRow (c : Dev nD) : Memref sig .tc .hbm S1x1x1168x2048 .bf16 :=
  gM.slice (Rect.unit (s := S1x2x1168x2048) (k0_off2 c) S1x1x1168x2048.size (k0_off2_inb c)) (fun _ => rfl)
/-- The row of a result where device `c`'s block goes. -/
abbrev tRow (c : Dev nD) : Memref sig .tc .hbm S1x1x1168x2048 .bf16 :=
  oM.slice (Rect.unit (s := S4x2x1168x2048) (k0_off1 c) S1x1x1168x2048.size (k0_off1_inb c)) (fun _ => rfl)

def sndS (j : Fin 3) : DmaSem sig := match j with
  | 0 => ((cc0_scratch0.slice (Rect.unit (s := S3) ![0] S1.size inb_S3_S1_0)).squeeze S_ squeezes_S1_S_ : DmaSems sig S_).sem
  | 1 => ((cc0_scratch0.slice (Rect.unit (s := S3) ![1] S1.size inb_S3_S1_1)).squeeze S_ squeezes_S1_S_ : DmaSems sig S_).sem
  | 2 => ((cc0_scratch0.slice (Rect.unit (s := S3) ![2] S1.size inb_S3_S1_2)).squeeze S_ squeezes_S1_S_ : DmaSems sig S_).sem
def rcvS (j : Fin 3) : DmaSem sig := match j with
  | 0 => ((cc0_scratch1.slice (Rect.unit (s := S3) ![0] S1.size inb_S3_S1_0)).squeeze S_ squeezes_S1_S_ : DmaSems sig S_).sem
  | 1 => ((cc0_scratch1.slice (Rect.unit (s := S3) ![1] S1.size inb_S3_S1_1)).squeeze S_ squeezes_S1_S_ : DmaSems sig S_).sem
  | 2 => ((cc0_scratch1.slice (Rect.unit (s := S3) ![2] S1.size inb_S3_S1_2)).squeeze S_ squeezes_S1_S_ : DmaSems sig S_).sem

theorem sems_inj : Function.Injective fun x : Fin 3 × Bool => cond x.2 (rcvS x.1) (sndS x.1) := by decide

def plan : Proof.Lines.Plan nD sig (Fin 3) where
  snd := sndS
  rcv := rcvS
  peer := peer
  amt _ := (tRow 0).view.dmaCredit
  inj := sems_inj
  invol := peer_peer
  pos _ := View.dmaCredit_pos _ (by decide)

/-! ## What moves -/

/-- What `c`'s result holds on the row of its partner on line `j`: the block that partner sent. -/
def got (j : Fin 3) (c : Dev nD) : Buf (Elt F) ((c : Thread nD τ).loc main_v1) :=
  (tRow (peer j c)).view.write (Elt F) (m ((c : Thread nD τ).loc main_v1)) ((sRow (peer j c)).view.read (Elt F) (m ((peer j c : Thread nD τ).loc main_arg0))) Finset.univ

def qs (j : Fin 3) : PosShare TreeShare := match j with
  | 0 => fullShare.right.left
  | 1 => fullShare.right.right.left
  | 2 => fullShare.right.right.right

def src (j : Fin 3) (c : Dev nD) : sProp 𝕄 :=
  iprop(((c : Thread nD τ).loc main_arg0) ↦[(sRow c).view.set]{qs j} (m ((c : Thread nD τ).loc main_arg0)))
def dst (j : Fin 3) (c : Dev nD) : sProp 𝕄 := iprop(((c : Thread nD τ).loc main_v1) ↦[(tRow (peer j c)).view.set]{fullShare} got m j c)
/-- The place a block lands in, as launched. -/
def give (j : Fin 3) (c : Dev nD) : sProp 𝕄 := iprop(((c : Thread nD τ).loc main_v1) ↦[(tRow (peer j c)).view.set]{fullShare} m ((c : Thread nD τ).loc main_v1))
/-- A share of the operand, to read it by at the end. -/
def hold (c : Dev nD) : sProp 𝕄 := iprop(((c : Thread nD τ).loc main_arg0) ↦{fullShare.left} m ((c : Thread nD τ).loc main_arg0))
def keep (c : Dev nD) : sProp 𝕄 := iprop(hold m c ∗ src m 0 c ∗ src m 1 c ∗ src m 2 c)

instance src_storable (j : Fin 3) (c : Dev nD) : BI.Storable (upEmb : UEmb _ 𝕄) (src m j c) := by unfold src; infer_instance
instance dst_storable (j : Fin 3) (c : Dev nD) : BI.Storable (upEmb : UEmb _ 𝕄) (dst m j c) := by unfold dst; infer_instance

theorem lines (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- An index is on the row of a device exactly when it names its chip and its core. -/
theorem mem_tRow (c : Dev nD) (i : S4x2x1168x2048.Idx) : i ∈ (tRow c).view.set ↔ ((i 0 : ℕ) = c.val / 2 ∧ (i 1 : ℕ) = c.val % 2) := by
  show i ∈ ((View.whole main_v1).slice (Rect.unit (s := S4x2x1168x2048) (k0_off1 c) S1x1x1168x2048.size (k0_off1_inb c))).set ↔ _
  rw [View.set_slice_whole, Rect.mem_set_unit]
  have hc : c.val < 8 := c.isLt
  have e0 : k0_off1 c 0 = 2 * (c.val / 4) + ((c.val / 2) % 2) := congrFun (k0_off1_eq c) 0
  have e1 : k0_off1 c 1 = c.val % 2 := congrFun (k0_off1_eq c) 1
  have e2 : k0_off1 c 2 = 0 := congrFun (k0_off1_eq c) 2
  have e3 : k0_off1 c 3 = 0 := congrFun (k0_off1_eq c) 3
  have s0 : S1x1x1168x2048.size 0 = 1 := rfl
  have s1 : S1x1x1168x2048.size 1 = 1 := rfl
  have s2 : S1x1x1168x2048.size 2 = 1168 := rfl
  have s3 : S1x1x1168x2048.size 3 = 2048 := rfl
  have i2 : (i 2).val < 1168 := (i 2).isLt
  have i3 : (i 3).val < 2048 := (i 3).isLt
  refine ⟨fun h => ?_, fun h a => ?_⟩
  · have h0 := h 0
    have h1 := h 1
    rw [e0, s0] at h0
    rw [e1, s1] at h1
    omega
  · have ha : a = 0 ∨ a = 1 ∨ a = 2 ∨ a = 3 := (by decide : ∀ a : Fin 4, a = 0 ∨ a = 1 ∨ a = 2 ∨ a = 3) a
    obtain rfl | rfl | rfl | rfl := ha
    · rw [e0, s0]; omega
    · rw [e1, s1]; omega
    · rw [e2, s2]; omega
    · rw [e3, s3]; omega

theorem peer_chip_ne (c : Dev nD) {j k : Fin 3} (hjk : j ≠ k) : (peer j c).val / 2 ≠ (peer k c).val / 2 := by
  revert c j k; decide +kernel

theorem tRow_disjoint (c : Dev nD) {j k : Fin 3} (hjk : j ≠ k) : Disjoint (tRow (peer j c)).view.set (tRow (peer k c)).view.set :=
  Finset.disjoint_left.mpr fun i hi hk => peer_chip_ne c hjk (((mem_tRow _ i).mp hi).1.symm.trans ((mem_tRow _ i).mp hk).1)

theorem rest_split (c : Dev nD) :
    (Pipeline.unscopedRest cfg0.spec c (fun b => m ((c : Thread nD τ).loc b)) : sProp 𝕄) ⊢ iprop(keep m c ∗ bigSep Finset.univ fun j : Fin 3 => give m j c) := by
  rw [unscopedRest0_eq, lines]
  unfold keep hold src give
  iintro ⟨Ha, Ho⟩
  ihave H := (pointsTo_share (PosShare.mem_left_op_right fullShare)).1 $$ Ha
  icases H with ⟨Hl, Hr⟩
  ihave H := (pointsTo_share (PosShare.mem_left_op_right fullShare.right)).1 $$ Hr
  icases H with ⟨H0, Hr⟩
  ihave H := (pointsTo_share (PosShare.mem_left_op_right fullShare.right.right)).1 $$ Hr
  icases H with ⟨H1, H2⟩
  ihave H := (pointsTo_split_subset (Finset.subset_univ (sRow c).view.set)).1 $$ H0
  icases H with ⟨H0, -⟩
  ihave H := (pointsTo_split_subset (Finset.subset_univ (sRow c).view.set)).1 $$ H1
  icases H with ⟨H1, -⟩
  ihave H := (pointsTo_split_subset (Finset.subset_univ (sRow c).view.set)).1 $$ H2
  icases H with ⟨H2, -⟩
  ihave H := (pointsTo_split_subset (Finset.subset_univ (tRow (peer 0 c)).view.set)).1 $$ Ho
  icases H with ⟨O0, Ho⟩
  ihave H := (pointsTo_split_subset (Finset.subset_sdiff.mpr ⟨Finset.subset_univ (tRow (peer 1 c)).view.set, tRow_disjoint c (by decide)⟩)).1 $$ Ho
  icases H with ⟨O1, Ho⟩
  ihave H := (pointsTo_split_subset (Finset.subset_sdiff.mpr ⟨Finset.subset_sdiff.mpr ⟨Finset.subset_univ (tRow (peer 2 c)).view.set, tRow_disjoint c (by decide)⟩, tRow_disjoint c (by decide)⟩)).1 $$ Ho
  icases H with ⟨O2, -⟩
  isplitl [Hl H0 H1 H2]
  · isplitl [Hl]; · iexact Hl
    isplitl [H0]; · iexact H0
    isplitl [H1]; · iexact H1
    iexact H2
  · isplitl [O0]; · iexact O0
    isplitl [O1]; · iexact O1
    iexact O2

/-! ## The region's data -/

abbrev ready (j : Fin 3) (c : Dev nD) : sProp 𝕄 := plan.ready (src m) (dst m) (give m) c j

def Φ₀ (c : Dev nD) : sProp 𝕄 := iprop(keep m c ∗ ready m 0 c ∗ ready m 1 c ∗ ready m 2 c)
def Φ₁ (c : Dev nD) : sProp 𝕄 := iprop((hold m c ∗ dst m 0 c ∗ dst m 1 c ∗ dst m 2 c) ∗ plan.over c 0 ∗ plan.over c 1 ∗ plan.over c 2)

def O₀ : Dev nD → CellTallies nD τ sig Unit := plan.due Finset.univ

def dats (_ : Fin 1) (c : Dev nD) : Dat τ (Elt F) Unit ℕ (UU nD τ sig) ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body -/

theorem wp_body (c : Dev nD) (Kt : PUnit → sProp 𝕄) :
    iprop((Φ₀ m c ∗ (dats m 0 c).owesAt () t0_0.castSucc) ∗ ((Φ₁ m c ∗ (dats m 0 c).owesAt () t0_0.succ) -∗ Kt ⟨⟩))
      ⊢ wp frame (wpE (defs₀ (F := F)) 𝒱₀ c none) Set.univ (bodyAt0 t0_0) Kt := by
  unfold bodyAt0
  simp only [cc0_gather_first_ici_eq_skeleton]; unfold cc0_gather_first_ici_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold Φ₀ keep ready Dat.owesAt Pipeline.owesWithin
  rw [show (dats m 0 c).owed t0_0.castSucc = plan.due Finset.univ c from rfl, show (dats m 0 c).owed t0_0.succ = 0 from rfl]
  iintro ⟨⟨⟨⟨Hh, S0, S1, S2⟩, L0, L1, L2⟩, %W, %hW, HO⟩, Hk⟩
  unfold src
  iapply (plan.wp_post (src m) (dst m) c 0 𝒱₀ (give m) (n := peer 0 c) rfl (sm := sRow c) (dm := tRow c) rfl rfl
      (q := qs 0) (fs := m ((c : Thread nD τ).loc main_arg0)) (fd := m ((peer 0 c : Thread nD τ).loc main_v1)) rfl
      (by unfold give; rw [peer_peer]) (BI.Entails.refl _)
      (by unfold dst got; rw [peer_peer]) (Finset.mem_univ 0) (W := W)) $$ [L0 S0 HO]
  · isplitl [L0]; · iexact L0
    isplitl [S0] <;> iassumption
  iintro ⟨L0, HO⟩
  iapply (plan.wp_post (src m) (dst m) c 1 𝒱₀ (give m) (n := peer 1 c) rfl (sm := sRow c) (dm := tRow c) rfl rfl
      (q := qs 1) (fs := m ((c : Thread nD τ).loc main_arg0)) (fd := m ((peer 1 c : Thread nD τ).loc main_v1)) rfl
      (by unfold give; rw [peer_peer]) (BI.Entails.refl _)
      (by unfold dst got; rw [peer_peer]) (t := Finset.univ.erase 0) (by decide) (W := W)) $$ [L1 S1 HO]
  · isplitl [L1]; · iexact L1
    isplitl [S1] <;> iassumption
  iintro ⟨L1, HO⟩
  iapply (plan.wp_post (src m) (dst m) c 2 𝒱₀ (give m) (n := peer 2 c) rfl (sm := sRow c) (dm := tRow c) rfl rfl
      (q := qs 2) (fs := m ((c : Thread nD τ).loc main_arg0)) (fd := m ((peer 2 c : Thread nD τ).loc main_v1)) rfl
      (by unfold give; rw [peer_peer]) (BI.Entails.refl _)
      (by unfold dst got; rw [peer_peer]) (t := (Finset.univ.erase 0).erase 1) (by decide) (W := W)) $$ [L2 S2 HO]
  · isplitl [L2]; · iexact L2
    isplitl [S2] <;> iassumption
  iintro ⟨L2, HO⟩
  rw [show ((Finset.univ.erase (0 : Fin 3)).erase 1).erase 2 = ∅ from by decide, Proof.Lines.Plan.due_empty]
  iapply (plan.wp_left (src m) (dst m) c 0 𝒱₀ (wpE_waitDma2_eq 𝒱₀ (c : Thread nD τ) none Set.univ) rfl rfl) $$ [L0 HO]
  · isplitl [L0] <;> iassumption
  iintro ⟨L0, -, %W0, HO⟩
  iapply (plan.wp_left (src m) (dst m) c 1 𝒱₀ (wpE_waitDma2_eq 𝒱₀ (c : Thread nD τ) none Set.univ) rfl rfl) $$ [L1 HO]
  · isplitl [L1] <;> iassumption
  iintro ⟨L1, -, %W1, HO⟩
  iapply (plan.wp_left (src m) (dst m) c 2 𝒱₀ (wpE_waitDma2_eq 𝒱₀ (c : Thread nD τ) none Set.univ) rfl rfl) $$ [L2 HO]
  · isplitl [L2] <;> iassumption
  iintro ⟨L2, -, %W2, HO⟩
  iapply (plan.wp_came (src m) (dst m) c 0 𝒱₀ (wpE_waitDma2_eq 𝒱₀ (c : Thread nD τ) none Set.univ) rfl rfl) $$ [L0 HO]
  · isplitl [L0] <;> iassumption
  iintro ⟨L0, D0, %W3, HO⟩
  iapply (plan.wp_came (src m) (dst m) c 1 𝒱₀ (wpE_waitDma2_eq 𝒱₀ (c : Thread nD τ) none Set.univ) rfl rfl) $$ [L1 HO]
  · isplitl [L1] <;> iassumption
  iintro ⟨L1, D1, %W4, HO⟩
  iapply (plan.wp_came (src m) (dst m) c 2 𝒱₀ (wpE_waitDma2_eq 𝒱₀ (c : Thread nD τ) none Set.univ) rfl rfl) $$ [L2 HO]
  · isplitl [L2] <;> iassumption
  iintro ⟨L2, D2, %W5, HO⟩
  rw [wp_ret]; imodintro
  iapply Hk
  unfold Φ₁
  isplitr [HO]
  · isplitl [Hh D0 D1 D2]
    · isplitl [Hh]; · iexact Hh
      isplitl [D0]; · iexact D0
      isplitl [D1]; · iexact D1
      iexact D2
    · isplitl [L0]; · iexact L0
      isplitl [L1]; · iexact L1
      iexact L2
  · iexists W5
    isplitr; · ipureintro; exact fun _ _ => Or.inl trivial
    iexact HO

theorem body_obligation (c : Dev nD) : BodyObligation (dats (F := F) m 0 c) (defs₀ (F := F)) 𝒱₀ () Set.univ := fun t => by
  rw [fin_N0 t]
  simp only [Finset.univ_eq_empty, bigSep_empty]
  show iprop(Φ₀ m c ∗ (dats m 0 c).owesAt () t0_0.castSucc ∗ emp)
    ⊢ wp frame (wpE (defs₀ (F := F)) 𝒱₀ c none) Set.univ (bodyAt0 t0_0) (fun _ => iprop(Φ₁ m c ∗ (dats m 0 c).owesAt () t0_0.succ ∗ emp))
  iintro ⟨H1, H2, -⟩
  iapply (wp_body m c _)
  isplitl
  · isplitl [H1] <;> iassumption
  · iintro ⟨H1, H2⟩
    isplitl [H1]; · iexact H1
    isplitl [H2]; · iexact H2
    iempintro

/-! ## The run -/

def u₀ : UU nD τ sig := (initOf (Pipeline.cells cfgs cellOf_inj) (Pipeline.launchToks cfgs cellOf_inj), initOf plan.cells plan.toks)

def final (c : Dev nD) (s : MemSt nD τ sig (Elt F)) : Prop :=
  s.mem ((c : Thread nD τ).loc main_arg0) = m ((c : Thread nD τ).loc main_arg0)
    ∧ ∀ j : Fin 3, ∀ i ∈ (tRow (peer j c)).view.set, s.mem ((c : Thread nD τ).loc main_v1) i = got m j c i

theorem ends (c : Dev nD) (s' : Phys nD τ sig (Elt F)) :
    iprop((hold m c ∗ dst m 0 c ∗ dst m 1 c ∗ dst m 2 c) ∗ emp ∗ SI s') ⊢ (|={Set.univ}=> iprop(⌜final m c s'.mem⌝ ∗ SI s') : sProp 𝕄) := by
  unfold hold dst final
  iintro ⟨⟨Hh, D0, D1, D2⟩, -, HSI⟩
  ihave %h := SI_pointsTo_agree $$ [HSI Hh]
  · isplitl [HSI] <;> iassumption
  ihave %h0 := SI_pointsTo_agree $$ [HSI D0]
  · isplitl [HSI] <;> iassumption
  ihave %h1 := SI_pointsTo_agree $$ [HSI D1]
  · isplitl [HSI] <;> iassumption
  ihave %h2 := SI_pointsTo_agree $$ [HSI D2]
  · isplitl [HSI] <;> iassumption
  imodintro
  isplitr
  · ipureintro
    refine ⟨funext fun i => h i (Finset.mem_univ i), fun j => ?_⟩
    fin_cases j
    · exact fun i hi => h0 i hi
    · exact fun i hi => h1 i hi
    · exact fun i hi => h2 i hi
  · iexact HSI

theorem ownSemFacts : Pipeline.OwnSemFacts cfg0.spec plan.osem := by decide

/-- From any memory with zero counters every weakly fair execution of `@main` terminates, with the operand unchanged, every result
    array holding its three partners' blocks on their rows, and every counter at zero. -/
theorem run_main : θ_run defs (onTc (τ := τ) (main (F := F))) ⟨m, fun _ => 0, ρ⟩
    (fun r => (∀ c : Dev nD, final m c r.2) ∧ r.2.sem = fun _ => 0) :=
  Proof.Launch.run_owing (fun p => (cfgs p).toPCfg) (fun _ p => (cfgs p).toPCfg_adm) (fun p c => (dats m p c).toR) () cellOf_inj (0 : Fin 1)
    winFacts0.to₀ (osem := plan.osem) ownSemFacts EP defs₀ 𝒱₀ m ρ main
    (hmain := fun _ => rfl)
    (hbody := fun c => (Pipeline.BodyObligation.loose (dats m 0 c) (body_obligation m c)).toR) (hne := fun w => w.elim0) (harr := arr_whole0) (hstage := stage_whole0)
    (hshare := Pipeline.SharedIn.of_injective winFacts0.arr_inj) (hq := fun _ w => w.elim0)
    (O₀ := O₀) (howed₀ := fun _ => rfl) (howedN := fun _ => rfl)
    (L := Proof.Lines.Plan.L) (lv := plan.lv) (hL := Proof.Lines.Plan.L_of_ne)
    (hwaits := fun c => Pipeline.cellsWaits_intro cfgs (dats m) () 0 c fun w => w.elim0)
    (G := plan.G (src m) (dst m)) (G' := plan.G' (src m) (dst m) (keep m) (give m)) (u₀ := u₀)
    (hu₀ := by
      unfold u₀
      iintro Hu
      ihave H := (ownU_pair _ _) $$ Hu
      icases H with ⟨HP, HX⟩
      imod (plan.fund (src m) (dst m)) $$ HX with HG
      imodintro
      isplitl [HP] <;> iassumption)
    (hglob := plan.glob (src m) (dst m) (keep m) (give m) _ _ (rest_split m))
    (hA := fun _ _ => rfl) (hpre := fun c => by
      unfold Pipeline.prefHeld
      rw [show (Finset.univ : Finset (Fin 0)) = ∅ from rfl, bigSep_empty])
    (X := fun c => iprop(keep m c ∗ bigSep Finset.univ fun j => plan.ready (src m) (dst m) (give m) c j))
    (Y := fun c => iprop(hold m c ∗ dst m 0 c ∗ dst m 1 c ∗ dst m 2 c)) (Z := fun _ => iprop(emp))
    (hX := fun c => plan.start (src m) (dst m) c (keep m) (give m) _)
    (hin := fun c => by
      show _ ⊢ Φ₀ m c
      rw [lines]
      unfold Φ₀
      exact BI.Laws.sep_elim_left)
    (hout := fun c => by
      show Φ₁ m c ⊢ iprop((hold m c ∗ dst m 0 c ∗ dst m 1 c ∗ dst m 2 c) ∗ Pipeline.ownSems0 plan.osem c ∗ Pipeline.scopedRest spec0 c)
      rw [show (Pipeline.scopedRest spec0 c : sProp 𝕄) = BI.emp from scopedRest0_eq c, plan.over_sems, lines]
      unfold Φ₁
      iintro ⟨H1, H2⟩
      isplitl [H1]; · iexact H1
      isplitl [H2]; · iexact H2
      iempintro)
    (QY := final m) (hY := ends m)
    (hQ := fun _ h hs => ⟨fun c => (h c).2, sem_eq_zero_of_scoped (by decide) hs⟩)

end Cert.GatherProof

end
-- ==== Proof.GatherClaims.lean ====
/-
# The gather between chips of the first layer's weights: its claims

Where the mask `from_others` is set a device's result lies on the row of one of its three partners, and holds that partner's
half of its rows: what the reference, which gives every device all rows, holds there.
-/
module

public import proofs.«01_k».proof.Defs
public import proofs.«01_k».proof.Proof.GatherRun
public import proofs.«01_k».proof.Proof.Gen.Gather
public import proofs.«01_k».proof.Proof.Gen.GatherReferenceIdeal.Run
public import proofs.«01_k».proof.Proof.Gen.GatherReference.Run
public import proofs.«01_k».proof.Proof.Gen.On_from_others
public import Idealize.ShloMosaic.Lib.Pipeline.Value
public import Idealize.ShloMosaic.Lib.Quiescent

@[expose] public section

noncomputable section

namespace Cert.GatherProof

open Cert.GatherIdeal Cert.GatherIdeal.Gen
open Idealize.ShloMosaic Idealize.ShloMosaic.TcCoe Idealize.SL.Sem

variable {F : FTy → Type} [FloatOps F]
variable (m : (ℓ : Loc nD τ sig) → Buf (Elt F) ℓ)

/-- The mask at a row of the whole result and a core. -/
def coming (a b : ℕ) : BitVec 1 :=
  Scalar.andi (Scalar.cmpi .ne (Scalar.andi (BitVec.ofNat 32 a) 3#32) (Scalar.shrui (BitVec.ofNat 32 a) 3#32))
    (Scalar.cmpi .eq (Scalar.andi (Scalar.shrui (BitVec.ofNat 32 a) 2#32) 1#32) (BitVec.ofNat 32 b))

theorem mask_at (A : FVec F (⟨4, ![4, 2, 1168, 2048]⟩ : Shape) .bf16) (i : (⟨4, ![32, 2, 1168, 2048]⟩ : Shape).Idx) :
    Cert.On_from_others.fn A i = coming (i 0).val (i 1).val := rfl

/-- Where the mask is set some partner's row is. -/
theorem coming_from : ∀ (c : Fin 8) (a : Fin 4) (b : Fin 2), coming (c.val * 4 + a.val) b.val = 1#1 →
    ∃ j : Fin 3, a.val = (peer j c).val / 2 ∧ b.val = (peer j c).val % 2 := by decide +kernel

theorem mesh_0 : ∀ c : Fin 8, ((Layout.meshBlock [2, 2, 2] ![[0, 1], [], [], []] c) 0).val = c.val / 2 := by decide +kernel
theorem mesh_1 : ∀ c : Fin 8, ((Layout.meshBlock [2, 2, 2] ![[0, 1], [], [], []] c) 1).val = 0 := by decide +kernel
theorem mesh_2 : ∀ c : Fin 8, ((Layout.meshBlock [2, 2, 2] ![[0, 1], [], [], []] c) 2).val = 0 := by decide +kernel
theorem mesh_3 : ∀ c : Fin 8, ((Layout.meshBlock [2, 2, 2] ![[0, 1], [], [], []] c) 3).val = 0 := by decide +kernel

/-- What a device sends is what the shards hold at the place it goes to. -/
theorem sent_eq (A : (⟨4, ![4, 2, 1168, 2048]⟩ : Shape).Idx → Elt F .bf16) (c : Dev nD) (x : S1x1x1168x2048.Idx) :
    (sRow c).view.read (Elt F) (Layout.blockN ⟨4, ![1, 2, 1168, 2048]⟩ ⟨4, ![4, 2, 1168, 2048]⟩ (Layout.meshBlock [2, 2, 2] ![[0, 1], [], [], []] c) A) x
      = A ((tRow c).view.emb x) := by
  have hc : c.val < 8 := c.isLt
  have x0 : (x 0).val < 1 := (x 0).isLt
  have hc0 := mesh_0 c; have hc1 := mesh_1 c; have hc2 := mesh_2 c; have hc3 := mesh_3 c
  have e := k0_off1_eq c
  have e' := k0_off2_eq c
  rw [View.read_apply, Layout.blockN_apply]
  refine congrArg A (funext fun a => Fin.ext ?_)
  rw [Layout.TilesN.idx_val]
  match a with
  | ⟨0, _⟩ =>
    show _ * 1 + (k0_off2 c 0 + 1 * (x 0).val) = k0_off1 c 0 + 1 * (x 0).val
    rw [e, e']
    refine (congrArg (· * 1 + _) hc0).trans ?_
    show c.val / 2 * 1 + (0 + 1 * (x 0).val) = 2 * (c.val / 4) + ((c.val / 2) % 2) + 1 * (x 0).val
    omega
  | ⟨1, _⟩ =>
    show _ * 2 + (k0_off2 c 1 + 1 * (x 1).val) = k0_off1 c 1 + 1 * (x 1).val
    rw [e, e']
    refine (congrArg (· * 2 + _) hc1).trans ?_
    show 0 * 2 + (c.val % 2 + 1 * (x 1).val) = c.val % 2 + 1 * (x 1).val
    omega
  | ⟨2, _⟩ =>
    show _ * 1168 + (k0_off2 c 2 + 1 * (x 2).val) = k0_off1 c 2 + 1 * (x 2).val
    rw [e, e']
    refine (congrArg (· * 1168 + _) hc2).trans ?_
    show 0 * 1168 + (0 + 1 * (x 2).val) = 0 + 1 * (x 2).val
    omega
  | ⟨3, _⟩ =>
    show _ * 2048 + (k0_off2 c 3 + 1 * (x 3).val) = k0_off1 c 3 + 1 * (x 3).val
    rw [e, e']
    refine (congrArg (· * 2048 + _) hc3).trans ?_
    show 0 * 2048 + (0 + 1 * (x 3).val) = 0 + 1 * (x 3).val
    omega

/-- All shards on every device: the reference's result. -/
def whole (A : (⟨4, ![4, 2, 1168, 2048]⟩ : Shape).Idx → Elt F .bf16) : (⟨4, ![32, 2, 1168, 2048]⟩ : Shape).Idx → Elt F .bf16 :=
  concatenate ⟨4, ![32, 2, 1168, 2048]⟩ 0 (List.ofFn fun _ : Fin 8 => ⟨⟨4, ![4, 2, 1168, 2048]⟩, A⟩)
    Cert.GatherReferenceIdeal.Gen.concatenates_S4x2x1168x2048_S4x2x1168x2048_S4x2x1168x2048_S4x2x1168x2048_S4x2x1168x2048_S4x2x1168x2048_S4x2x1168x2048_S4x2x1168x2048_S32x2x1168x2048_d0

theorem whole_part (A : (⟨4, ![4, 2, 1168, 2048]⟩ : Shape).Idx → Elt F .bf16) (c : Fin 8) :
    Layout.block ⟨4, ![4, 2, 1168, 2048]⟩ ⟨4, ![32, 2, 1168, 2048]⟩ 0 8 c (whole A) = A :=
  Layout.block_concatenate_ofFn (t := ⟨4, ![32, 2, 1168, 2048]⟩) 0 (fun _ => A) _ (by decide) c

/-- A device's result where the mask is set. -/
theorem gathered (A : (⟨4, ![4, 2, 1168, 2048]⟩ : Shape).Idx → Elt F .bf16)
    (hA : ∀ c : Dev nD, m ((c : Thread nD τ).loc main_arg0)
      = Layout.blockN ⟨4, ![1, 2, 1168, 2048]⟩ ⟨4, ![4, 2, 1168, 2048]⟩ (Layout.meshBlock [2, 2, 2] ![[0, 1], [], [], []] c) A)
    (c : Dev nD) (s : MemSt nD τ sig (Elt F)) (hs : final m c s) (i : S4x2x1168x2048.Idx)
    (hi : (Layout.block ⟨4, ![4, 2, 1168, 2048]⟩ ⟨4, ![32, 2, 1168, 2048]⟩ 0 8 c (Cert.On_from_others.fn A) : (⟨4, ![4, 2, 1168, 2048]⟩ : Shape).Idx → _) i = 1#1) :
    s.mem ((c : Thread nD τ).loc main_v1) i = (Layout.block ⟨4, ![4, 2, 1168, 2048]⟩ ⟨4, ![32, 2, 1168, 2048]⟩ 0 8 c (whole A) : (⟨4, ![4, 2, 1168, 2048]⟩ : Shape).Idx → _) i := by
  obtain ⟨j, h0, h1⟩ := coming_from c ⟨(i 0).val, (i 0).isLt⟩ ⟨(i 1).val, (i 1).isLt⟩ (by
    rw [Layout.block_apply, mask_at] at hi
    exact hi)
  have hr := (mem_tRow (peer j c) i).mpr ⟨h0, h1⟩
  refine (hs.2 j i hr).trans ?_
  rw [whole_part]
  obtain ⟨x, -, rfl⟩ := Finset.mem_map.mp hr
  unfold got
  rw [View.write_emb_of_mem _ _ (Finset.mem_univ x), hA (peer j c), sent_eq A (peer j c) x]
  rfl

theorem quiescent : Cert.quiescent_Gather := fun m ρ _ =>
  (θ_run Cert.GatherIdeal.defs _ _).mono (fun _ h => ⟨fun c => (h.1 c).1, h.2⟩) (run_main (F := Bits) m ρ)
theorem quiescent_ideal : Cert.quiescent_GatherIdeal := fun m ρ _ =>
  (θ_run Cert.GatherIdeal.defs _ _).mono (fun _ h => ⟨fun c => (h.1 c).1, h.2⟩) (run_main (F := Ideal) m ρ)
theorem quiescent_refIdeal : Cert.quiescent_GatherReferenceIdeal := fun m ρ _ =>
  (θ_run Cert.GatherReferenceIdeal.defs _ _).mono (fun r h => ⟨fun c => (h c).2, sem_eq_zero_of_no_sems (by decide) r.2⟩)
    (Cert.GatherReferenceIdeal.Value.run (F := Ideal) m ρ)
theorem quiescent_ref : Cert.quiescent_GatherReference := fun m ρ _ =>
  (θ_run Cert.GatherReference.defs _ _).mono (fun r h => ⟨fun c => (h c).2, sem_eq_zero_of_no_sems (by decide) r.2⟩)
    (Cert.GatherReference.Value.run (F := Bits) m ρ)
theorem preserved : Cert.preserves_Gather_GatherIdeal := trivial

theorem algebraic : Cert.algebraic_GatherIdeal_GatherReferenceIdeal_on_from_others := fun m g m' g' _ hm =>
  ⟨whole (F := Ideal) (m' (((0 : Dev 1) : Thread 1 Cert.GatherReferenceIdeal.τ).loc Cert.GatherReferenceIdeal.main_arg0)),
    (θ_run Cert.GatherIdeal.defs _ _).mono (fun r h c => ⟨fun i hi => gathered m _ hm c r.2 (h.1 c) i hi, (h.1 c).1⟩) (run_main (F := Ideal) m g),
    (θ_run Cert.GatherReferenceIdeal.defs _ _).mono (fun _ h => ⟨fun i _ => congrFun (h 0).1 i, (h 0).2⟩)
      (Cert.GatherReferenceIdeal.Value.run (F := Ideal) m' g')⟩

theorem bitexact : Cert.bitexact_Gather_GatherReference_on_from_others := fun m g m' g' _ hm =>
  ⟨whole (F := Bits) (m' (((0 : Dev 1) : Thread 1 Cert.GatherReference.τ).loc Cert.GatherReference.main_arg0)),
    (θ_run Cert.GatherIdeal.defs _ _).mono (fun r h c => ⟨fun i hi => gathered m _ hm c r.2 (h.1 c) i hi, (h.1 c).1⟩) (run_main (F := Bits) m g),
    (θ_run Cert.GatherReference.defs _ _).mono (fun _ h => ⟨fun i _ => congrFun (h 0).1 i, (h 0).2⟩)
      (Cert.GatherReference.Value.run (F := Bits) m' g')⟩

end Cert.GatherProof

end
-- ==== Proof.SumsClaims.lean ====
/-
# The sum of the eight devices' packed partial sums

The kernel adds the eight blocks of rows one after another; the reference sums the same eight over a new axis.
-/
module

public import proofs.«01_k».proof.Defs
public import proofs.«01_k».proof.Proof.Gen.Sums.Frame
public import proofs.«01_k».proof.Proof.Gen.SumsIdeal.Value
public import proofs.«01_k».proof.Proof.Gen.SumsReferenceIdeal.Run
public import Idealize.ShloMosaic.Lib.Pointwise

@[expose] public section

set_option maxRecDepth 16384

noncomputable section

namespace Cert.SumsProof

open Idealize.ShloMosaic Idealize.ShloMosaic.TcCoe Idealize.ShloMosaic.Tactic Idealize.SL.Sem
open scoped BigOperators

section
open Cert.SumsReferenceIdeal Cert.SumsReferenceIdeal.Gen

/-- The reference's sum. -/
def whole (A : FVec Ideal S22144x128 .f32) : FVec Ideal S2768x128 .f32 :=
  Host.reduceAdd (shapeCast _ A shapeCasts_S22144x128_S8x2768x128) (constant S_ .f32 0x00000000#32) reducesTo_S8x2768x128_S2768x128_d0 h_S_

theorem whole_apply (A : FVec Ideal S22144x128 .f32) (r : Fin 2768) (k : Fin 128) :
    whole A (ix2 r k) = ∑ d : Fin 8, A (ix2 (⟨d.val * 2768 + r.val, by omega⟩ : Fin 22144) k) := by
  pointwise [whole]

end

section
open Cert.SumsIdeal Cert.SumsIdeal.Gen

/-- An entry of a block of rows. -/
theorem ld_apply (A : FVec Ideal S22144x128 .f32) (n : Nat) (h) (r : Fin 2768) (k : Fin 128) (q : Fin 22144) (hq : q.val = n + r.val) :
    View.ld (Val := Elt Ideal) (e' := .f32) A (Rect.unit (s := S22144x128) ![n, 0] S2768x128.size h) (ix2 r k) = A (ix2 q k) := by
  refine congrArg A (funext fun a => Fin.ext ?_)
  match a with
  | ⟨0, _⟩ => show n + 1 * r.val = q.val; omega
  | ⟨1, _⟩ => show 0 + 1 * k.val = k.val; omega

theorem G1_eq (A : FVec Ideal S22144x128 .f32) : Value.G1 (F := Ideal) A = whole A := by
  funext (i : (⟨2, ![2768, 128]⟩ : Shape).Idx)
  obtain ⟨r, k, rfl⟩ : ∃ (r : Fin 2768) (k : Fin 128), i = ix2 r k := ⟨i 0, i 1, eq_ix2 i⟩
  refine Eq.trans ?_ (whole_apply A r k).symm
  rw [Fin.sum_univ_eight]
  unfold Value.G1 k0_pay1
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals exact ld_apply A _ _ r k _ rfl

end

/-! ## The claims -/

theorem quiescent : Cert.quiescent_Sums := fun m ρ _ => Cert.Sums.Gen.frame m ρ
theorem quiescent_ideal : Cert.quiescent_SumsIdeal := fun m ρ _ => Cert.SumsIdeal.Gen.frame m ρ
theorem quiescent_ref : Cert.quiescent_SumsReferenceIdeal := fun m ρ _ =>
  (θ_run Cert.SumsReferenceIdeal.defs _ _).mono (fun r h => ⟨fun c => (h c).2, sem_eq_zero_of_no_sems (by decide) r.2⟩)
    (Cert.SumsReferenceIdeal.Value.run (F := Ideal) m ρ)
theorem preserved : Cert.preserves_Sums_SumsIdeal := trivial

theorem algebraic : Cert.algebraic_SumsIdeal_SumsReferenceIdeal := fun m g m' g' _ hm =>
  ⟨fun _ => whole (m' (((0 : Dev 1) : Thread 1 Cert.SumsReferenceIdeal.τ).loc Cert.SumsReferenceIdeal.main_arg0)),
    (θ_run Cert.SumsIdeal.defs _ _).mono (fun r h c => by
      obtain rfl : c = 0 := Subsingleton.elim _ _
      exact ⟨(h 0).1.trans ((G1_eq _).trans (congrArg whole (hm 0).symm)), (h 0).2⟩)
      (Cert.SumsIdeal.Value.run (F := Ideal) m g),
    (θ_run Cert.SumsReferenceIdeal.defs _ _).mono (fun r h c => by
      obtain rfl : c = 0 := Subsingleton.elim _ _
      exact h 0)
      (Cert.SumsReferenceIdeal.Value.run (F := Ideal) m' g')⟩

end Cert.SumsProof

end
-- ==== Proof.LossClaims.lean ====
/-
# The loss of a device's own rows and its gradient

The kernel runs over sixteen tiles of 256 rows. Each tile's part of the gradient is its own; the loss is added up tile by tile, one half of
the tile's sum of means at a time. One half is a finite nonnegative number, so the sum of the halves is the half of the sum.
-/
module

public import proofs.«01_k».proof.Defs
public import proofs.«01_k».proof.Proof.Gen.Loss.Frame
public import proofs.«01_k».proof.Proof.Gen.LossIdeal.Value
public import proofs.«01_k».proof.Proof.Gen.LossReferenceIdeal.Run
public import proofs.«01_k».proof.Proof.Products

@[expose] public section

set_option maxRecDepth 16384

noncomputable section

namespace Cert.LossProof

open Idealize.ShloMosaic Idealize.ShloMosaic.TcCoe Idealize.ShloMosaic.Tactic Idealize.SL.Sem
open Idealize.ShloMosaic.Pipeline (Dat)
open Cert.Products (zero2 spot in_tile)
open scoped BigOperators

/-! ## A row's mean -/

def half : Ideal .f32 := Ideal.ofBits .f32 0x3F000000#32

theorem half_eq : half = (((1 : ℝ) / 2 : ℝ) : EReal) := by
  unfold half
  simp [Ideal.ofBits, Ideal.ieee, -EReal.coe_mul]; norm_num

theorem half_add (x y : EReal) : (half : EReal) * (x + y) = half * x + half * y := by
  rw [half_eq]
  exact EReal.left_distrib_of_nonneg_of_ne_top (EReal.coe_nonneg.mpr (by norm_num)) (EReal.coe_ne_top _) x y

theorem half_sum (n : ℕ) (f : ℕ → EReal) : (half : EReal) * ∑ t ∈ Finset.range n, f t = ∑ t ∈ Finset.range n, (half : EReal) * f t := by
  induction n with
  | zero => rw [Finset.sum_range_zero, Finset.sum_range_zero, mul_zero]
  | succ n ih => rw [Finset.sum_range_succ, Finset.sum_range_succ, half_add, ih]

/-- The mean of the squares of a row of the difference. -/
def rowMean {n : ℕ} (Y T : (⟨2, ![n, 2048]⟩ : Shape).Idx → Ideal .f32) (a : Fin n) : Ideal .f32 :=
  Ideal.div (∑ k : Fin 2048, (Y (ix2 a k) - T (ix2 a k)) * (Y (ix2 a k) - T (ix2 a k))) (Ideal.ofBits .f32 0x45000000#32)

/-- The same at any number. -/
def rowAt (Y T : (⟨2, ![4096, 2048]⟩ : Shape).Idx → Ideal .f32) (r : ℕ) : Ideal .f32 := if h : r < 4096 then rowMean Y T ⟨r, h⟩ else 0

/-- The tiles' rows, all of them. -/
theorem sum_tiles (Y T : (⟨2, ![4096, 2048]⟩ : Shape).Idx → Ideal .f32) :
    ∑ t ∈ Finset.range 16, ∑ a : Fin 256, rowAt Y T (256 * t + a.val) = ∑ r : Fin 4096, rowMean Y T r := by
  rw [← Fin.sum_univ_eq_sum_range (fun t => ∑ a : Fin 256, rowAt Y T (256 * t + a.val)) 16,
    ← Equiv.sum_comp (finProdFinEquiv (m := 16) (n := 256)) (rowMean Y T), Fintype.sum_prod_type]
  refine Finset.sum_congr rfl fun t _ => Finset.sum_congr rfl fun a _ => ?_
  unfold rowAt
  rw [dif_pos (by omega)]
  refine congrArg (rowMean Y T) (Fin.ext ?_)
  show 256 * t.val + a.val = a.val + 256 * t.val
  omega

/-! ## The reference's results -/

section
open Cert.LossReferenceIdeal Cert.LossReferenceIdeal.Gen

def grads (Y T : FVec Ideal S4096x2048 .f32) : FVec Ideal S4096x2048 .f32 :=
  Host.divf (subf Y T) (broadcastInDim S4096x2048 ![] bcast_S_S4096x2048 (constant S_ .f32 0x45000000#32))

def losses (Y T : FVec Ideal S4096x2048 .f32) : FVec Ideal S8x128 .f32 :=
  broadcastInDim S8x128 ![] bcast_S_S8x128 (mulf (constant S_ .f32 0x3F000000#32) (Host.reduceAdd (Host.divf
    (Host.reduceAdd (mulf (subf Y T) (subf Y T)) (constant S_ .f32 0x00000000#32) reducesTo_S4096x2048_S4096_d1 h_S_)
    (broadcastInDim S4096 ![] bcast_S_S4096 (constant S_ .f32 0x45000000#32))) (constant S_ .f32 0x00000000#32) reducesTo_S4096_S_d0 h_S_))

variable (Y T : FVec Ideal S4096x2048 .f32)

theorem grads_apply (r : Fin 4096) (k : Fin 2048) :
    grads Y T (ix2 r k) = Ideal.div (Y (ix2 r k) - T (ix2 r k)) (Ideal.ofBits .f32 0x45000000#32) := by
  pointwise [grads]

theorem losses_apply (j : Fin 8) (k : Fin 128) : losses Y T (ix2 j k) = half * ∑ r, rowMean Y T r := by
  unfold half rowMean
  pointwise [losses]

end

/-! ## The kernel's payloads -/

section
open Cert.LossIdeal Cert.LossIdeal.Gen
variable (Y T : Vec Ideal S256x2048 .f32) (V : Vec Ideal S8x128 .f32)

theorem pay3_apply (a : Fin 256) (k : Fin 2048) :
    k0_pay3 Y T (ix2 a k) = Ideal.div (Y (ix2 a k) - T (ix2 a k)) (Ideal.ofBits .f32 0x45000000#32) := by
  pointwise [k0_pay3, k0_pay2]

theorem pay1_apply (j : Fin 8) (k : Fin 128) : k0_pay1 (F := Ideal) (ix2 j k) = 0 := by
  pointwise [k0_pay1]

theorem pay4_apply (j : Fin 8) (k : Fin 128) : k0_pay4 Y T V (ix2 j k) = V (ix2 j k) + half * ∑ a, rowMean Y T a := by
  unfold half rowMean
  pointwise [k0_pay4, k0_pay2]
  exact congrArg (_ + ·) (congrArg (_ * ·) (Finset.sum_congr rfl fun a _ => Fin.sum_univ_one _))

end

/-! ## The tiles -/

section
open Cert.LossIdeal Cert.LossIdeal.Gen

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel

variable (m : (ℓ : Loc nD τ sig) → Buf (Elt Ideal) ℓ) (c : Dev nD)

theorem lt_N (t : Fin cfg0.N) : t.val < 16 := lt_of_lt_of_eq t.isLt N_0

theorem grad_step (t : Fin cfg0.N) : (outsAt0 m c t.val t.isLt).1 = k0_pay3 (F := Ideal) (iblk m c 0 t) (iblk m c 1 t) := by
  by_cases h0 : t.val % 16 = 0
  · rw [outsAt0_A m c t h0]
    unfold out0_A_2
    rw [View.read_writes_eq_canon _ _ _ (cover0_A_2 _ _ _ _ _ _ _ _ _ _ _ _ _)]
    unfold kernelRun0_A
    dsimp only
    sl_unfold_words
    rw [View.canon_unit_zero zero2]
    simp only [View.readAt_eq_ld, (hs0_0 t).read_unread, (hs0_1 t).read_unread, View.ld_unit_zero (S := S256x2048) zero2]
  · rw [outsAt0_B m c t h0]
    unfold out0_B_2
    rw [View.read_writes_eq_canon _ _ _ (cover0_B_2 _ _ _ _ _ _ _ _ _ _ _ _ _ _)]
    unfold kernelRun0_B
    dsimp only
    sl_unfold_words
    rw [View.canon_unit_zero zero2]
    simp only [View.readAt_eq_ld, (hs0_0 t).read_unread, (hs0_1 t).read_unread, View.ld_unit_zero (S := S256x2048) zero2]

theorem loss_first (t : Fin cfg0.N) (h0 : t.val % 16 = 0) :
    (outsAt0 m c t.val t.isLt).2 = k0_pay4 (F := Ideal) (iblk m c 0 t) (iblk m c 1 t) (k0_pay1 (F := Ideal)) := by
  rw [outsAt0_A m c t h0]
  unfold out0_A_3
  rw [View.read_writes_eq_canon _ _ _ (cover0_A_3 _ _ _ _ _ _ _ _ _ _ _ _ _)]
  unfold kernelRun0_A
  dsimp only
  sl_unfold_words
  rw [View.canon_cons_unit_zero zero2]
  simp only [View.readAt_eq_ld, (hs0_0 t).read_unread, (hs0_1 t).read_unread, View.ld_unit_zero (S := S256x2048) zero2, View.readCov_unit_zero (S := S8x128) _ zero2]

theorem loss_next (t : Fin cfg0.N) (h0 : ¬t.val % 16 = 0) :
    (outsAt0 m c t.val t.isLt).2 = k0_pay4 (F := Ideal) (iblk m c 0 t) (iblk m c 1 t)
      ((outsAt0 m c (t.val - 1) (Nat.lt_of_le_of_lt (Nat.sub_le _ _) t.isLt)).2) := by
  rw [outsAt0_B m c t h0]
  unfold out0_B_3
  rw [View.read_writes_eq_canon _ _ _ (cover0_B_3 _ _ _ _ _ _ _ _ _ _ _ _ _ _)]
  unfold kernelRun0_B
  dsimp only
  sl_unfold_words
  rw [View.canon_unit_zero zero2]
  simp only [View.readAt_eq_ld, (hs0_0 t).read_unread, (hs0_1 t).read_unread, View.ld_unit_zero (S := S256x2048) zero2, (hs0_3 t).read_unread, View.ld_unit_zero (S := S8x128) zero2]

abbrev argY : (⟨2, ![4096, 2048]⟩ : Shape).Idx → Ideal .f32 := m ((c : Thread nD τ).loc main_arg0)
abbrev argT : (⟨2, ![4096, 2048]⟩ : Shape).Idx → Ideal .f32 := m ((c : Thread nD τ).loc main_arg1)

theorem left_apply (t : Fin cfg0.N) (a : Fin 256) (k : Fin 2048) (r : Fin 4096) (hr : r.val = 256 * t.val + a.val) :
    iblk m c 0 t (ix2 a k) = argY m c (ix2 r k) := by
  unfold iblk
  rw [View.read_apply]
  exact congrArg (m ((c : Thread nD τ).loc main_arg0)) (funext fun x => Fin.ext (spot (K := 4096) (L := 2048) _ _ _ (index_0 t) a k r k hr (by omega) x))

theorem right_apply (t : Fin cfg0.N) (a : Fin 256) (k : Fin 2048) (r : Fin 4096) (hr : r.val = 256 * t.val + a.val) :
    iblk m c 1 t (ix2 a k) = argT m c (ix2 r k) := by
  unfold iblk
  rw [View.read_apply]
  exact congrArg (m ((c : Thread nD τ).loc main_arg1)) (funext fun x => Fin.ext (spot (K := 4096) (L := 2048) _ _ _ (index_1 t) a k r k hr (by omega) x))

theorem tile_rows (t : Fin cfg0.N) : ∑ a : Fin 256, rowMean (n := 256) (iblk m c 0 t) (iblk m c 1 t) a
    = ∑ a : Fin 256, rowAt (argY m c) (argT m c) (256 * t.val + a.val) := by
  refine Finset.sum_congr rfl fun a _ => ?_
  have ht := lt_N t
  unfold rowAt
  rw [dif_pos (by omega)]
  unfold rowMean
  refine congrArg (Ideal.div · _) (Finset.sum_congr rfl fun k _ => ?_)
  rw [left_apply m c t a k ⟨256 * t.val + a.val, by omega⟩ rfl, right_apply m c t a k ⟨256 * t.val + a.val, by omega⟩ rfl]

/-- The loss after a tile: the halves of the tiles so far. -/
theorem loss_upto (j : Fin 8) (k : Fin 128) : ∀ (n : ℕ) (hn : n < cfg0.N), (outsAt0 m c n hn).2 (ix2 j k)
    = ∑ t ∈ Finset.range (n + 1), (half : EReal) * ∑ a : Fin 256, rowAt (argY m c) (argT m c) (256 * t + a.val)
  | 0, hn => by
    rw [loss_first m c ⟨0, hn⟩ rfl, pay4_apply, pay1_apply, zero_add, Finset.sum_range_one, tile_rows]
  | n + 1, hn => by
    have h := lt_N ⟨n + 1, hn⟩
    have h' : n + 1 < 16 := h
    rw [loss_next m c ⟨n + 1, hn⟩ (by show ¬(n + 1) % 16 = 0; omega), pay4_apply, Finset.sum_range_succ, tile_rows]
    exact congrArg (· + _) (loss_upto j k n (Nat.lt_of_succ_lt hn))

/-! ## The arrays after the call -/

theorem flushed_2 (t : Fin cfg0.N) (_ : (cfg0.win 2).flush t = true) :
    (dats m 0 c).flushed 2 t = ((cfg0.win 2).blk t).view.read (Elt Ideal) (grads (argY m c) (argT m c)) := by
  have ht := lt_N t
  rw [Value.flushed2]
  funext i
  obtain ⟨a, k, rfl⟩ : ∃ (a : Fin 256) (k : Fin 2048), i = ix2 a k := ⟨i 0, i 1, eq_ix2 i⟩
  show (outsAt0 m c t.val t.isLt).1 (ix2 a k) = _
  rw [View.read_apply, grad_step, pay3_apply, left_apply m c t a k ⟨256 * t.val + a.val, by omega⟩ rfl,
    right_apply m c t a k ⟨256 * t.val + a.val, by omega⟩ rfl]
  refine (grads_apply _ _ _ k).symm.trans (congrArg (grads (argY m c) (argT m c))
    (funext fun x => Fin.ext (spot (K := 4096) (L := 2048) _ _ _ (index_2 t) a k ⟨256 * t.val + a.val, by omega⟩ k rfl (by omega) x).symm))

theorem final_2 : (dats m 0 c).arrAt 2 cfg0.N = grads (argY m c) (argT m c) :=
  (dats m 0 c).arrAt_eq_of_cover 2 (grads (argY m c) (argT m c)) (flushed_2 m c) fun i => by
    have h0 : (i 0 : ℕ) < 4096 := (i 0).isLt
    have h1 : (i 1 : ℕ) < 2048 := (i 1).isLt
    let t : Fin cfg0.N := ⟨(i 0 : ℕ) / 256, by rw [show cfg0.N = 16 from N_0]; omega⟩
    have ht : t.val = (i 0 : ℕ) / 256 := rfl
    refine ⟨t, flush0_2 t, ?_⟩
    show i ∈ ((View.whole main_v0_0).slice (win0_2.rect t)).set
    rw [View.set_slice_whole, Rect.mem_set_unit]
    exact in_tile (K := 4096) (L := 2048) (by omega) (by omega) _ i ⟨(index_2 t).1, (index_2 t).2.trans (by omega)⟩

theorem flushed_3 (t : Fin cfg0.N) (hf : (cfg0.win 3).flush t = true) :
    (dats m 0 c).flushed 3 t = ((cfg0.win 3).blk t).view.read (Elt Ideal) (losses (argY m c) (argT m c)) := by
  have ht : t.val = 15 := by have := (flush0_3 t).mp hf; have := lt_N t; omega
  rw [Value.flushed3]
  funext i
  obtain ⟨j, k, rfl⟩ : ∃ (j : Fin 8) (k : Fin 128), i = ix2 j k := ⟨i 0, i 1, eq_ix2 i⟩
  show (outsAt0 m c t.val t.isLt).2 (ix2 j k) = _
  rw [View.read_apply, loss_upto m c j k t.val t.isLt, ht, ← half_sum, sum_tiles]
  refine (losses_apply _ _ j k).symm.trans (congrArg (losses (argY m c) (argT m c))
    (funext fun x => Fin.ext (spot (K := 8) (L := 128) _ _ _ (index_3 t) j k j k (by omega) (by omega) x).symm))

theorem final_3 : (dats m 0 c).arrAt 3 cfg0.N = losses (argY m c) (argT m c) :=
  (dats m 0 c).arrAt_eq_of_cover 3 (losses (argY m c) (argT m c)) (flushed_3 m c) fun i => by
    have h0 : (i 0 : ℕ) < 8 := (i 0).isLt
    have h1 : (i 1 : ℕ) < 128 := (i 1).isLt
    let t : Fin cfg0.N := ⟨15, by rw [show cfg0.N = 16 from N_0]; omega⟩
    refine ⟨t, (flush0_3 t).mpr rfl, ?_⟩
    show i ∈ ((View.whole main_v0_1).slice (win0_3.rect t)).set
    rw [View.set_slice_whole, Rect.mem_set_unit]
    exact in_tile (K := 8) (L := 128) (by omega) (by omega) _ i ⟨(index_3 t).1.trans (by omega), (index_3 t).2.trans (by omega)⟩

end

/-! ## The claims -/

theorem quiescent : Cert.quiescent_Loss := fun m ρ _ => Cert.Loss.Gen.frame m ρ
theorem quiescent_ideal : Cert.quiescent_LossIdeal := fun m ρ _ => Cert.LossIdeal.Gen.frame m ρ
theorem quiescent_ref : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)
theorem preserved : Cert.preserves_Loss_LossIdeal := trivial

theorem algebraic : Cert.algebraic_LossIdeal_LossReferenceIdeal := fun m g m' g' _ hm =>
  ⟨fun _ => grads (m' (((0 : Dev 1) : Thread 1 Cert.LossReferenceIdeal.τ).loc Cert.LossReferenceIdeal.main_arg0))
      (m' (((0 : Dev 1) : Thread 1 Cert.LossReferenceIdeal.τ).loc Cert.LossReferenceIdeal.main_arg1)),
    fun _ => losses (m' (((0 : Dev 1) : Thread 1 Cert.LossReferenceIdeal.τ).loc Cert.LossReferenceIdeal.main_arg0))
      (m' (((0 : Dev 1) : Thread 1 Cert.LossReferenceIdeal.τ).loc Cert.LossReferenceIdeal.main_arg1)),
    (θ_run Cert.LossIdeal.defs _ _).mono (fun r h c => by
      obtain rfl : c = 0 := Subsingleton.elim _ _
      obtain ⟨hY, hT⟩ := hm 0
      exact ⟨((h 0).1.trans (final_2 m 0)).trans (congrArg₂ grads hY.symm hT.symm), ((h 0).2.1.trans (final_3 m 0)).trans (congrArg₂ losses hY.symm hT.symm), (h 0).2.2⟩)
      (Cert.LossIdeal.Value.run_blocks (F := Ideal) m g),
    (θ_run Cert.LossReferenceIdeal.defs _ _).mono (fun r h c => by
      obtain rfl : c = 0 := Subsingleton.elim _ _
      exact h 0)
      (Cert.LossReferenceIdeal.Value.run (F := Ideal) m' g')⟩

end Cert.LossProof

end
-- ==== Proof.WOutClaims.lean ====
/-
# A device's part of the gradient of a layer's output projection

The call runs over blocks of the result, each in two steps: the first leaves the product over the first half of the contracted axis in a
scratch buffer, the second adds the product over the other half. So an entry is its sum over the whole axis, that of the reference's
product.
-/
module

public import proofs.«01_k».proof.Defs
public import proofs.«01_k».proof.Proof.Gen.WOut.Frame
public import proofs.«01_k».proof.Proof.Gen.WOutIdeal.Value
public import proofs.«01_k».proof.Proof.Gen.WOutReferenceIdeal.Run
public import proofs.«01_k».proof.Proof.Products

@[expose] public section

set_option maxRecDepth 16384

noncomputable section

namespace Cert.WOutProof

open Cert.WOutIdeal Cert.WOutIdeal.Gen
open Idealize.ShloMosaic Idealize.ShloMosaic.TcCoe Idealize.ShloMosaic.Tactic Idealize.SL.Sem
open Idealize.ShloMosaic.Pipeline (Dat)
open Cert.Products (zero2 spot in_tile sum_halves)
open scoped BigOperators

/-! ## A block's two steps -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 := by decide +kernel
theorem index_2 : ∀ t : Fin grid0.N, win0_2.index t 0 = t.val / 4 ∧ win0_2.index t 1 = t.val / 2 % 2 := by decide +kernel

variable (m : (ℓ : Loc nD τ sig) → Buf (Elt Ideal) ℓ) (c : Dev nD)

/-- The first step leaves its product in the scratch buffer. -/
theorem first_step (t : Fin cfg0.N) (h0 : t.val % 2 = 0) :
    (outsAt0 m c t.val t.isLt).2 = k0_pay2 (F := Ideal) (iblk m c 0 t) (iblk m c 1 t) := by
  rw [outsAt0_A m c t h0 (by omega)]
  unfold sout0_A_0
  rw [View.read_writes_eq_canon _ _ _ (scover0_A_0 _ _ _ _ _ _ _ _ _ _ _ _ _ _ _)]
  unfold kernelRun0_A
  dsimp only
  sl_unfold_words
  rw [View.canon_unit_zero zero2]
  simp only [View.readAt_eq_ld, (hs0_0 t).read_unread, (hs0_1 t).read_unread, View.ld_unit_zero (S := S2048x1024) zero2, View.ld_unit_zero (S := S2048x1024) zero2]

/-- The second step adds its own and stores the sum as a block of the result. -/
theorem second_step (t : Fin cfg0.N) (h2 : t.val % 2 = 1) :
    (outsAt0 m c t.val t.isLt).1 = k0_pay4 (F := Ideal) (iblk m c 0 t) (iblk m c 1 t)
      ((outsAt0 m c (t.val - 1) (Nat.lt_of_le_of_lt (Nat.sub_le _ _) t.isLt)).2) := by
  rw [outsAt0_B m c t (by omega) h2]
  unfold out0_B_2
  rw [View.read_writes_eq_canon _ _ _ (cover0_B_2 _ _ _ _ _ _ _ _ _ _ _ _ _ _ _ _)]
  unfold kernelRun0_B
  dsimp only
  sl_unfold_words
  rw [View.canon_unit_zero zero2]
  simp only [View.readAt_eq_ld, (hs0_0 t).read_unread, (hs0_1 t).read_unread,
    (Memref.isWhole_whole _).read_unread, View.ld_unit_zero (S := S2048x1024) zero2, View.ld_unit_zero (S := S2048x1024) zero2, View.ld_unit_zero (S := S1024x1024) zero2]

/-! ## Their entries -/

theorem left_apply (t : Fin cfg0.N) (q : Fin 2048) (a : Fin 1024) (p : Fin 4096) (r : Fin 2048) (hp : p.val = 2048 * (t.val % 2) + q.val)
    (hr : r.val = 1024 * (t.val / 4) + a.val) : iblk m c 0 t (ix2 q a) = m ((c : Thread nD τ).loc main_arg0) (ix2 p r) := by
  unfold iblk
  rw [View.read_apply]
  exact congrArg (m ((c : Thread nD τ).loc main_arg0)) (funext fun x => Fin.ext (spot (K := 4096) (L := 2048) _ _ _ (index_0 t) q a p r hp hr x))

theorem right_apply (t : Fin cfg0.N) (q : Fin 2048) (b : Fin 1024) (p : Fin 4096) (s : Fin 2048) (hp : p.val = 2048 * (t.val % 2) + q.val)
    (hs : s.val = 1024 * (t.val / 2 % 2) + b.val) : iblk m c 1 t (ix2 q b) = m ((c : Thread nD τ).loc main_arg1) (ix2 p s) := by
  unfold iblk
  rw [View.read_apply]
  exact congrArg (m ((c : Thread nD τ).loc main_arg1)) (funext fun x => Fin.ext (spot (K := 4096) (L := 2048) _ _ _ (index_1 t) q b p s hp hs x))

theorem pay1_apply (A : Vec Ideal S2048x1024 .bf16) (B : Vec Ideal S2048x1024 .bf16) (a : Fin 1024) (b : Fin 1024) :
    k0_pay1 A B (ix2 a b) = ∑ q : Fin 2048, A (ix2 q a) * B (ix2 q b) := by
  unfold k0_pay1
  show Ideal.matmul (dot_S2048x1024_S2048x1024_S1024x1024_0_0_1_1_n_n) A B (constant (F := Ideal) S1024x1024 .f32 0x00000000#32) (ix2 a b) = _
  refine (Ideal.matmul_apply₁_of (dot_S2048x1024_S2048x1024_S1024x1024_0_0_1_1_n_n) (a := 0) rfl (K := 2048) rfl A B
    (constant (F := Ideal) S1024x1024 .f32 0x00000000#32) (ix2 a b) (fun q => ix2 q a) (fun q => ix2 q b) (fun q => ?_) (fun q => ?_)).trans ?_
  · exact funext fun x => Fin.ext (by match x with | ⟨0, _⟩ => rfl | ⟨1, _⟩ => rfl)
  · exact funext fun x => Fin.ext (by match x with | ⟨0, _⟩ => rfl | ⟨1, _⟩ => rfl)
  · show Ideal.ofBits .f32 0x00000000#32 + _ = _
    rw [Ideal.ofBits_zero_f32, zero_add]

/-- The reference's product. -/
abbrev whole (A : (⟨2, ![4096, 2048]⟩ : Shape).Idx → Ideal .bf16) (B : (⟨2, ![4096, 2048]⟩ : Shape).Idx → Ideal .bf16) :
    (⟨2, ![2048, 2048]⟩ : Shape).Idx → Ideal .bf16 :=
  truncf .bf16 (Host.dotGeneral Cert.WOutReferenceIdeal.dot_S2048x4096_S4096x2048_S2048x2048_1_0_0_1_n_n none (transpose ⟨2, ![2048, 4096]⟩ [1, 0] A Cert.WOutReferenceIdeal.Gen.transposes_S4096x2048_S2048x4096_1_0) B) Cert.WOutReferenceIdeal.Gen.bitsLt_bf16_f32

theorem whole_apply (A : (⟨2, ![4096, 2048]⟩ : Shape).Idx → Ideal .bf16) (B : (⟨2, ![4096, 2048]⟩ : Shape).Idx → Ideal .bf16) (r : Fin 2048) (s : Fin 2048) :
    whole A B (ix2 r s) = ∑ p : Fin 4096, A (ix2 p r) * B (ix2 p s) :=
  Cert.Products.turned_apply A B _ r s

/-- The arguments' product. -/
abbrev prod : (⟨2, ![2048, 2048]⟩ : Shape).Idx → Ideal .bf16 := whole (m ((c : Thread nD τ).loc main_arg0)) (m ((c : Thread nD τ).loc main_arg1))

theorem block_apply (t : Fin cfg0.N) (h2 : t.val % 2 = 1) (a : Fin 1024) (b : Fin 1024) (r : Fin 2048) (s : Fin 2048)
    (hr : r.val = 1024 * (t.val / 4) + a.val) (hs : s.val = 1024 * (t.val / 2 % 2) + b.val) :
    (outsAt0 m c t.val t.isLt).1 (ix2 a b) = prod m c (ix2 r s) := by
  have hlt : t.val - 1 < cfg0.N := Nat.lt_of_le_of_lt (Nat.sub_le _ _) t.isLt
  rw [second_step m c t h2, first_step m c ⟨t.val - 1, hlt⟩ (by dsimp only; omega)]
  unfold k0_pay4 k0_pay2
  rw [shapeCast_self]
  show k0_pay1 (F := Ideal) _ _ (ix2 a b) + k0_pay1 (F := Ideal) _ _ (ix2 a b) = _
  rw [pay1_apply, pay1_apply]
  refine Eq.trans ?_ (whole_apply _ _ r s).symm
  rw [sum_halves]
  refine congrArg₂ (· + ·) ?_ ?_ <;> refine Finset.sum_congr rfl fun q _ => ?_
  · exact congrArg₂ (· * ·) (left_apply m c ⟨t.val - 1, hlt⟩ q a ⟨q.val, by omega⟩ _ (by dsimp only; omega) (by dsimp only; omega))
      (right_apply m c ⟨t.val - 1, hlt⟩ q b ⟨q.val, by omega⟩ s (by dsimp only; omega) (by dsimp only; omega))
  · exact congrArg₂ (· * ·) (left_apply m c t q a ⟨2048 + q.val, by omega⟩ _ (by dsimp only; omega) hr) (right_apply m c t q b ⟨2048 + q.val, by omega⟩ s (by dsimp only; omega) hs)

/-! ## The array after the call -/

theorem flushed_eq (t : Fin cfg0.N) (hf : (cfg0.win 2).flush t = true) :
    (dats m 0 c).flushed 2 t = ((cfg0.win 2).blk t).view.read (Elt Ideal) (prod m c) := by
  have h2 := (flush0_2 t).mp hf
  rw [Value.flushed2]
  funext i
  obtain ⟨a, b, rfl⟩ : ∃ (a : Fin 1024) (b : Fin 1024), i = ix2 a b := ⟨i 0, i 1, eq_ix2 i⟩
  show (outsAt0 m c t.val t.isLt).1 (ix2 a b) = _
  rw [View.read_apply]
  have ht := lt_of_lt_of_eq t.isLt N_0
  exact (block_apply m c t h2 a b ⟨1024 * (t.val / 4) + a.val, by omega⟩ ⟨1024 * (t.val / 2 % 2) + b.val, by omega⟩ rfl rfl).trans
    (congrArg (prod m c) (funext fun x => Fin.ext (spot (K := 2048) (L := 2048) _ _ _ (index_2 t) a b _ _ rfl rfl x).symm))

theorem final_eq : (dats m 0 c).arrAt 2 cfg0.N = prod m c :=
  (dats m 0 c).arrAt_eq_of_cover 2 (prod m c) (flushed_eq m c) fun i => by
    have h0 : (i 0 : ℕ) < 2048 := (i 0).isLt
    have h1 : (i 1 : ℕ) < 2048 := (i 1).isLt
    let t : Fin cfg0.N := ⟨4 * ((i 0 : ℕ) / 1024) + 2 * ((i 1 : ℕ) / 1024) + 1, by rw [show cfg0.N = 8 from N_0]; omega⟩
    have ht : t.val = 4 * ((i 0 : ℕ) / 1024) + 2 * ((i 1 : ℕ) / 1024) + 1 := rfl
    refine ⟨t, (flush0_2 t).mpr (by omega), ?_⟩
    show i ∈ ((View.whole main_v0).slice (win0_2.rect t)).set
    rw [View.set_slice_whole, Rect.mem_set_unit]
    exact in_tile (K := 2048) (L := 2048) (by omega) (by omega) _ i ⟨(index_2 t).1.trans (by omega), (index_2 t).2.trans (by omega)⟩

/-! ## The claims -/

theorem quiescent : Cert.quiescent_WOut := fun m ρ _ => Cert.WOut.Gen.frame m ρ
theorem quiescent_ideal : Cert.quiescent_WOutIdeal := fun m ρ _ => Cert.WOutIdeal.Gen.frame m ρ
theorem quiescent_ref : Cert.quiescent_WOutReferenceIdeal := fun m ρ _ =>
  (θ_run Cert.WOutReferenceIdeal.defs _ _).mono (fun r h => ⟨fun c => (h c).2, sem_eq_zero_of_no_sems (by decide) r.2⟩)
    (Cert.WOutReferenceIdeal.Value.run (F := Ideal) m ρ)
theorem preserved : Cert.preserves_WOut_WOutIdeal := trivial

theorem algebraic : Cert.algebraic_WOutIdeal_WOutReferenceIdeal := fun m g m' g' _ hm =>
  ⟨fun _ => whole (m' (((0 : Dev 1) : Thread 1 Cert.WOutReferenceIdeal.τ).loc Cert.WOutReferenceIdeal.main_arg0))
      (m' (((0 : Dev 1) : Thread 1 Cert.WOutReferenceIdeal.τ).loc Cert.WOutReferenceIdeal.main_arg1)),
    (θ_run Cert.WOutIdeal.defs _ _).mono (fun r h c => by
      obtain rfl : c = 0 := Subsingleton.elim _ _
      obtain ⟨hA, hB⟩ := hm 0
      exact ⟨((h 0).1.trans (final_eq m 0)).trans (congrArg₂ whole hA.symm hB.symm), (h 0).2⟩)
      (Cert.WOutIdeal.Value.run_blocks (F := Ideal) m g),
    (θ_run Cert.WOutReferenceIdeal.defs _ _).mono (fun r h c => by
      obtain rfl : c = 0 := Subsingleton.elim _ _
      exact h 0)
      (Cert.WOutReferenceIdeal.Value.run (F := Ideal) m' g')⟩

end Cert.WOutProof

end
-- ==== Proof.WGateClaims.lean ====
/-
# A device's part of the gradient of the forget gate's columns

The call runs over blocks of the result, each in two steps: the first leaves the product over the first half of the contracted axis in a
scratch buffer, the second adds the product over the other half. So an entry is its sum over the whole axis, that of the reference's
product.
-/
module

public import proofs.«01_k».proof.Defs
public import proofs.«01_k».proof.Proof.Gen.WGate.Frame
public import proofs.«01_k».proof.Proof.Gen.WGateIdeal.Value
public import proofs.«01_k».proof.Proof.Gen.WGateReferenceIdeal.Run
public import proofs.«01_k».proof.Proof.Products

@[expose] public section

set_option maxRecDepth 16384

noncomputable section

namespace Cert.WGateProof

open Cert.WGateIdeal Cert.WGateIdeal.Gen
open Idealize.ShloMosaic Idealize.ShloMosaic.TcCoe Idealize.ShloMosaic.Tactic Idealize.SL.Sem
open Idealize.ShloMosaic.Pipeline (Dat)
open Cert.Products (zero2 spot in_tile sum_halves)
open scoped BigOperators

/-! ## A block's two steps -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 := by decide +kernel
theorem index_2 : ∀ t : Fin grid0.N, win0_2.index t 0 = t.val / 4 ∧ win0_2.index t 1 = t.val / 2 % 2 := by decide +kernel

variable (m : (ℓ : Loc nD τ sig) → Buf (Elt Ideal) ℓ) (c : Dev nD)

/-- The first step leaves its product in the scratch buffer. -/
theorem first_step (t : Fin cfg0.N) (h0 : t.val % 2 = 0) :
    (outsAt0 m c t.val t.isLt).2 = k0_pay2 (F := Ideal) (iblk m c 0 t) (iblk m c 1 t) := by
  rw [outsAt0_A m c t h0 (by omega)]
  unfold sout0_A_0
  rw [View.read_writes_eq_canon _ _ _ (scover0_A_0 _ _ _ _ _ _ _ _ _ _ _ _ _ _ _)]
  unfold kernelRun0_A
  dsimp only
  sl_unfold_words
  rw [View.canon_unit_zero zero2]
  simp only [View.readAt_eq_ld, (hs0_0 t).read_unread, (hs0_1 t).read_unread, View.ld_unit_zero (S := S2048x128) zero2, View.ld_unit_zero (S := S2048x1024) zero2]

/-- The second step adds its own and stores the sum as a block of the result. -/
theorem second_step (t : Fin cfg0.N) (h2 : t.val % 2 = 1) :
    (outsAt0 m c t.val t.isLt).1 = k0_pay4 (F := Ideal) (iblk m c 0 t) (iblk m c 1 t)
      ((outsAt0 m c (t.val - 1) (Nat.lt_of_le_of_lt (Nat.sub_le _ _) t.isLt)).2) := by
  rw [outsAt0_B m c t (by omega) h2]
  unfold out0_B_2
  rw [View.read_writes_eq_canon _ _ _ (cover0_B_2 _ _ _ _ _ _ _ _ _ _ _ _ _ _ _ _)]
  unfold kernelRun0_B
  dsimp only
  sl_unfold_words
  rw [View.canon_unit_zero zero2]
  simp only [View.readAt_eq_ld, (hs0_0 t).read_unread, (hs0_1 t).read_unread,
    (Memref.isWhole_whole _).read_unread, View.ld_unit_zero (S := S2048x128) zero2, View.ld_unit_zero (S := S2048x1024) zero2, View.ld_unit_zero (S := S128x1024) zero2]

/-! ## Their entries -/

theorem left_apply (t : Fin cfg0.N) (q : Fin 2048) (a : Fin 128) (p : Fin 4096) (r : Fin 128) (hp : p.val = 2048 * (t.val % 2) + q.val)
    (hr : r.val = 128 * (t.val / 4) + a.val) : iblk m c 0 t (ix2 q a) = m ((c : Thread nD τ).loc main_arg0) (ix2 p r) := by
  unfold iblk
  rw [View.read_apply]
  exact congrArg (m ((c : Thread nD τ).loc main_arg0)) (funext fun x => Fin.ext (spot (K := 4096) (L := 128) _ _ _ (index_0 t) q a p r hp hr x))

theorem right_apply (t : Fin cfg0.N) (q : Fin 2048) (b : Fin 1024) (p : Fin 4096) (s : Fin 2048) (hp : p.val = 2048 * (t.val % 2) + q.val)
    (hs : s.val = 1024 * (t.val / 2 % 2) + b.val) : iblk m c 1 t (ix2 q b) = m ((c : Thread nD τ).loc main_arg1) (ix2 p s) := by
  unfold iblk
  rw [View.read_apply]
  exact congrArg (m ((c : Thread nD τ).loc main_arg1)) (funext fun x => Fin.ext (spot (K := 4096) (L := 2048) _ _ _ (index_1 t) q b p s hp hs x))

theorem pay1_apply (A : Vec Ideal S2048x128 .bf16) (B : Vec Ideal S2048x1024 .bf16) (a : Fin 128) (b : Fin 1024) :
    k0_pay1 A B (ix2 a b) = ∑ q : Fin 2048, A (ix2 q a) * B (ix2 q b) := by
  unfold k0_pay1
  show Ideal.matmul (dot_S2048x128_S2048x1024_S128x1024_0_0_1_1_n_n) A B (constant (F := Ideal) S128x1024 .f32 0x00000000#32) (ix2 a b) = _
  refine (Ideal.matmul_apply₁_of (dot_S2048x128_S2048x1024_S128x1024_0_0_1_1_n_n) (a := 0) rfl (K := 2048) rfl A B
    (constant (F := Ideal) S128x1024 .f32 0x00000000#32) (ix2 a b) (fun q => ix2 q a) (fun q => ix2 q b) (fun q => ?_) (fun q => ?_)).trans ?_
  · exact funext fun x => Fin.ext (by match x with | ⟨0, _⟩ => rfl | ⟨1, _⟩ => rfl)
  · exact funext fun x => Fin.ext (by match x with | ⟨0, _⟩ => rfl | ⟨1, _⟩ => rfl)
  · show Ideal.ofBits .f32 0x00000000#32 + _ = _
    rw [Ideal.ofBits_zero_f32, zero_add]

/-- The reference's product. -/
abbrev whole (A : (⟨2, ![4096, 128]⟩ : Shape).Idx → Ideal .bf16) (B : (⟨2, ![4096, 2048]⟩ : Shape).Idx → Ideal .bf16) :
    (⟨2, ![128, 2048]⟩ : Shape).Idx → Ideal .f32 :=
  Host.dotGeneral Cert.WGateReferenceIdeal.dot_S128x4096_S4096x2048_S128x2048_1_0_0_1_n_n none (transpose ⟨2, ![128, 4096]⟩ [1, 0] A Cert.WGateReferenceIdeal.Gen.transposes_S4096x128_S128x4096_1_0) B

theorem whole_apply (A : (⟨2, ![4096, 128]⟩ : Shape).Idx → Ideal .bf16) (B : (⟨2, ![4096, 2048]⟩ : Shape).Idx → Ideal .bf16) (r : Fin 128) (s : Fin 2048) :
    whole A B (ix2 r s) = ∑ p : Fin 4096, A (ix2 p r) * B (ix2 p s) :=
  Cert.Products.turned_apply A B _ r s

/-- The arguments' product. -/
abbrev prod : (⟨2, ![128, 2048]⟩ : Shape).Idx → Ideal .f32 := whole (m ((c : Thread nD τ).loc main_arg0)) (m ((c : Thread nD τ).loc main_arg1))

theorem block_apply (t : Fin cfg0.N) (h2 : t.val % 2 = 1) (a : Fin 128) (b : Fin 1024) (r : Fin 128) (s : Fin 2048)
    (hr : r.val = 128 * (t.val / 4) + a.val) (hs : s.val = 1024 * (t.val / 2 % 2) + b.val) :
    (outsAt0 m c t.val t.isLt).1 (ix2 a b) = prod m c (ix2 r s) := by
  have hlt : t.val - 1 < cfg0.N := Nat.lt_of_le_of_lt (Nat.sub_le _ _) t.isLt
  rw [second_step m c t h2, first_step m c ⟨t.val - 1, hlt⟩ (by dsimp only; omega)]
  unfold k0_pay4 k0_pay2
  rw [shapeCast_self]
  show k0_pay1 (F := Ideal) _ _ (ix2 a b) + k0_pay1 (F := Ideal) _ _ (ix2 a b) = _
  rw [pay1_apply, pay1_apply]
  refine Eq.trans ?_ (whole_apply _ _ r s).symm
  rw [sum_halves]
  refine congrArg₂ (· + ·) ?_ ?_ <;> refine Finset.sum_congr rfl fun q _ => ?_
  · exact congrArg₂ (· * ·) (left_apply m c ⟨t.val - 1, hlt⟩ q a ⟨q.val, by omega⟩ _ (by dsimp only; omega) (by dsimp only; omega))
      (right_apply m c ⟨t.val - 1, hlt⟩ q b ⟨q.val, by omega⟩ s (by dsimp only; omega) (by dsimp only; omega))
  · exact congrArg₂ (· * ·) (left_apply m c t q a ⟨2048 + q.val, by omega⟩ _ (by dsimp only; omega) hr) (right_apply m c t q b ⟨2048 + q.val, by omega⟩ s (by dsimp only; omega) hs)

/-! ## The array after the call -/

theorem flushed_eq (t : Fin cfg0.N) (hf : (cfg0.win 2).flush t = true) :
    (dats m 0 c).flushed 2 t = ((cfg0.win 2).blk t).view.read (Elt Ideal) (prod m c) := by
  have h2 := (flush0_2 t).mp hf
  rw [Value.flushed2]
  funext i
  obtain ⟨a, b, rfl⟩ : ∃ (a : Fin 128) (b : Fin 1024), i = ix2 a b := ⟨i 0, i 1, eq_ix2 i⟩
  show (outsAt0 m c t.val t.isLt).1 (ix2 a b) = _
  rw [View.read_apply]
  have ht := lt_of_lt_of_eq t.isLt N_0
  exact (block_apply m c t h2 a b ⟨128 * (t.val / 4) + a.val, by omega⟩ ⟨1024 * (t.val / 2 % 2) + b.val, by omega⟩ rfl rfl).trans
    (congrArg (prod m c) (funext fun x => Fin.ext (spot (K := 128) (L := 2048) _ _ _ (index_2 t) a b _ _ rfl rfl x).symm))

theorem final_eq : (dats m 0 c).arrAt 2 cfg0.N = prod m c :=
  (dats m 0 c).arrAt_eq_of_cover 2 (prod m c) (flushed_eq m c) fun i => by
    have h0 : (i 0 : ℕ) < 128 := (i 0).isLt
    have h1 : (i 1 : ℕ) < 2048 := (i 1).isLt
    let t : Fin cfg0.N := ⟨4 * ((i 0 : ℕ) / 128) + 2 * ((i 1 : ℕ) / 1024) + 1, by rw [show cfg0.N = 4 from N_0]; omega⟩
    have ht : t.val = 4 * ((i 0 : ℕ) / 128) + 2 * ((i 1 : ℕ) / 1024) + 1 := rfl
    refine ⟨t, (flush0_2 t).mpr (by omega), ?_⟩
    show i ∈ ((View.whole main_v0).slice (win0_2.rect t)).set
    rw [View.set_slice_whole, Rect.mem_set_unit]
    exact in_tile (K := 128) (L := 2048) (by omega) (by omega) _ i ⟨(index_2 t).1.trans (by omega), (index_2 t).2.trans (by omega)⟩

/-! ## The claims -/

theorem quiescent : Cert.quiescent_WGate := fun m ρ _ => Cert.WGate.Gen.frame m ρ
theorem quiescent_ideal : Cert.quiescent_WGateIdeal := fun m ρ _ => Cert.WGateIdeal.Gen.frame m ρ
theorem quiescent_ref : Cert.quiescent_WGateReferenceIdeal := fun m ρ _ =>
  (θ_run Cert.WGateReferenceIdeal.defs _ _).mono (fun r h => ⟨fun c => (h c).2, sem_eq_zero_of_no_sems (by decide) r.2⟩)
    (Cert.WGateReferenceIdeal.Value.run (F := Ideal) m ρ)
theorem preserved : Cert.preserves_WGate_WGateIdeal := trivial

theorem algebraic : Cert.algebraic_WGateIdeal_WGateReferenceIdeal := fun m g m' g' _ hm =>
  ⟨fun _ => whole (m' (((0 : Dev 1) : Thread 1 Cert.WGateReferenceIdeal.τ).loc Cert.WGateReferenceIdeal.main_arg0))
      (m' (((0 : Dev 1) : Thread 1 Cert.WGateReferenceIdeal.τ).loc Cert.WGateReferenceIdeal.main_arg1)),
    (θ_run Cert.WGateIdeal.defs _ _).mono (fun r h c => by
      obtain rfl : c = 0 := Subsingleton.elim _ _
      obtain ⟨hA, hB⟩ := hm 0
      exact ⟨((h 0).1.trans (final_eq m 0)).trans (congrArg₂ whole hA.symm hB.symm), (h 0).2⟩)
      (Cert.WGateIdeal.Value.run_blocks (F := Ideal) m g),
    (θ_run Cert.WGateReferenceIdeal.defs _ _).mono (fun r h c => by
      obtain rfl : c = 0 := Subsingleton.elim _ _
      exact h 0)
      (Cert.WGateReferenceIdeal.Value.run (F := Ideal) m' g')⟩

end Cert.WGateProof

end
-- ==== Proof.WMainClaims.lean ====
/-
# A device's part of the gradient of the last layer's main columns of the input projection

The call runs over blocks of the result, each in two steps: the first leaves the product over the first half of the contracted axis in a
scratch buffer, the second adds the product over the other half. So an entry is its sum over the whole axis, that of the reference's
product.
-/
module

public import proofs.«01_k».proof.Defs
public import proofs.«01_k».proof.Proof.Gen.WMain.Frame
public import proofs.«01_k».proof.Proof.Gen.WMainIdeal.Value
public import proofs.«01_k».proof.Proof.Gen.WMainReferenceIdeal.Run
public import proofs.«01_k».proof.Proof.Products

@[expose] public section

set_option maxRecDepth 16384

noncomputable section

namespace Cert.WMainProof

open Cert.WMainIdeal Cert.WMainIdeal.Gen
open Idealize.ShloMosaic Idealize.ShloMosaic.TcCoe Idealize.ShloMosaic.Tactic Idealize.SL.Sem
open Idealize.ShloMosaic.Pipeline (Dat)
open Cert.Products (zero2 spot in_tile sum_halves)
open scoped BigOperators

/-! ## A block's two steps -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 := by decide +kernel
theorem index_2 : ∀ t : Fin grid0.N, win0_2.index t 0 = t.val / 4 ∧ win0_2.index t 1 = t.val / 2 % 2 := by decide +kernel

variable (m : (ℓ : Loc nD τ sig) → Buf (Elt Ideal) ℓ) (c : Dev nD)

/-- The first step leaves its product in the scratch buffer. -/
theorem first_step (t : Fin cfg0.N) (h0 : t.val % 2 = 0) :
    (outsAt0 m c t.val t.isLt).2 = k0_pay2 (F := Ideal) (X0_0 m c t) (iblk m c 1 t) := by
  rw [outsAt0_A m c t h0 (by omega)]
  unfold sout0_A_0
  rw [View.read_writes_eq_canon _ _ _ (scover0_A_0 _ _ _ _ _ _ _ _ _ _ _ _ _ _ _)]
  unfold kernelRun0_A
  dsimp only
  sl_unfold_words
  rw [View.canon_unit_zero zero2]
  simp only [View.readAt_eq_ld, (hs0_0 t).read_unread, (hs0_1 t).read_unread, View.ld_unit_zero (S := S2048x1024) zero2, View.ld_unit_zero (S := S2048x1024) zero2]

/-- The second step adds its own and stores the sum as a block of the result. -/
theorem second_step (t : Fin cfg0.N) (h2 : t.val % 2 = 1) :
    (outsAt0 m c t.val t.isLt).1 = k0_pay4 (F := Ideal) (X0_0 m c t) (iblk m c 1 t)
      ((outsAt0 m c (t.val - 1) (Nat.lt_of_le_of_lt (Nat.sub_le _ _) t.isLt)).2) := by
  rw [outsAt0_B m c t (by omega) h2]
  unfold out0_B_2
  rw [View.read_writes_eq_canon _ _ _ (cover0_B_2 _ _ _ _ _ _ _ _ _ _ _ _ _ _ _ _)]
  unfold kernelRun0_B
  dsimp only
  sl_unfold_words
  rw [View.canon_unit_zero zero2]
  simp only [View.readAt_eq_ld, (hs0_0 t).read_unread, (hs0_1 t).read_unread,
    (Memref.isWhole_whole _).read_unread, View.ld_unit_zero (S := S2048x1024) zero2, View.ld_unit_zero (S := S2048x1024) zero2, View.ld_unit_zero (S := S1024x1024) zero2]

/-! ## Their entries -/

theorem left_apply (t : Fin cfg0.N) (q : Fin 2048) (a : Fin 1024) (p : Fin 4096) (r : Fin 7296) (hp : p.val = 2048 * (t.val % 2) + q.val)
    (hr : r.val = 1024 * (t.val / 4) + a.val) : X0_0 m c t (ix2 q a) = m ((c : Thread nD τ).loc main_arg0) (ix2 p r) := by
  unfold X0_0 Pipeline.Window.fill
  rw [dif_pos (moved0_0 t _)]
  unfold iblk
  rw [View.read_apply]
  exact congrArg (m ((c : Thread nD τ).loc main_arg0)) (funext fun x => Fin.ext (spot (K := 4096) (L := 7296) _ _ _ (index_0 t) q a p r hp hr x))

theorem right_apply (t : Fin cfg0.N) (q : Fin 2048) (b : Fin 1024) (p : Fin 4096) (s : Fin 2048) (hp : p.val = 2048 * (t.val % 2) + q.val)
    (hs : s.val = 1024 * (t.val / 2 % 2) + b.val) : iblk m c 1 t (ix2 q b) = m ((c : Thread nD τ).loc main_arg1) (ix2 p s) := by
  unfold iblk
  rw [View.read_apply]
  exact congrArg (m ((c : Thread nD τ).loc main_arg1)) (funext fun x => Fin.ext (spot (K := 4096) (L := 2048) _ _ _ (index_1 t) q b p s hp hs x))

theorem pay1_apply (A : Vec Ideal S2048x1024 .bf16) (B : Vec Ideal S2048x1024 .bf16) (a : Fin 1024) (b : Fin 1024) :
    k0_pay1 A B (ix2 a b) = ∑ q : Fin 2048, A (ix2 q a) * B (ix2 q b) := by
  unfold k0_pay1
  show Ideal.matmul (dot_S2048x1024_S2048x1024_S1024x1024_0_0_1_1_n_n) A B (constant (F := Ideal) S1024x1024 .f32 0x00000000#32) (ix2 a b) = _
  refine (Ideal.matmul_apply₁_of (dot_S2048x1024_S2048x1024_S1024x1024_0_0_1_1_n_n) (a := 0) rfl (K := 2048) rfl A B
    (constant (F := Ideal) S1024x1024 .f32 0x00000000#32) (ix2 a b) (fun q => ix2 q a) (fun q => ix2 q b) (fun q => ?_) (fun q => ?_)).trans ?_
  · exact funext fun x => Fin.ext (by match x with | ⟨0, _⟩ => rfl | ⟨1, _⟩ => rfl)
  · exact funext fun x => Fin.ext (by match x with | ⟨0, _⟩ => rfl | ⟨1, _⟩ => rfl)
  · show Ideal.ofBits .f32 0x00000000#32 + _ = _
    rw [Ideal.ofBits_zero_f32, zero_add]

/-- The reference's left factor: the main columns, turned. -/
def turned (A : (⟨2, ![4096, 7296]⟩ : Shape).Idx → Ideal .bf16) : (⟨2, ![7168, 4096]⟩ : Shape).Idx → Ideal .bf16 :=
  transpose ⟨2, ![7168, 4096]⟩ [1, 0] (extractStridedSlice ⟨2, ![4096, 7168]⟩ ![0, 0] A Cert.WMainReferenceIdeal.Gen.slices_S4096x7296_S4096x7168_0_0) Cert.WMainReferenceIdeal.Gen.transposes_S4096x7168_S7168x4096_1_0

/-- The reference's product. -/
abbrev whole (A : (⟨2, ![4096, 7296]⟩ : Shape).Idx → Ideal .bf16) (B : (⟨2, ![4096, 2048]⟩ : Shape).Idx → Ideal .bf16) :
    (⟨2, ![7168, 2048]⟩ : Shape).Idx → Ideal .bf16 :=
  truncf .bf16 (Host.dotGeneral Cert.WMainReferenceIdeal.dot_S7168x4096_S4096x2048_S7168x2048_1_0_0_1_n_n none (turned A) B) Cert.WMainReferenceIdeal.Gen.bitsLt_bf16_f32

theorem whole_apply (A : (⟨2, ![4096, 7296]⟩ : Shape).Idx → Ideal .bf16) (B : (⟨2, ![4096, 2048]⟩ : Shape).Idx → Ideal .bf16) (r : Fin 7168) (s : Fin 2048) :
    whole A B (ix2 r s) = ∑ p : Fin 4096, A (ix2 p (⟨r.val, by omega⟩ : Fin 7296)) * B (ix2 p s) :=
  (Cert.Products.turned_apply (extractStridedSlice ⟨2, ![4096, 7168]⟩ ![0, 0] A Cert.WMainReferenceIdeal.Gen.slices_S4096x7296_S4096x7168_0_0) B _ r s).trans <|
    Finset.sum_congr rfl fun p _ => congrArg (· * B (ix2 p s)) (extractStridedSlice_apply _ A _ (ix2 p r) _ fun a =>
      match a with | ⟨0, _⟩ => (Nat.zero_add _).symm | ⟨1, _⟩ => (Nat.zero_add _).symm)

/-- The arguments' product. -/
abbrev prod : (⟨2, ![7168, 2048]⟩ : Shape).Idx → Ideal .bf16 := whole (m ((c : Thread nD τ).loc main_arg0)) (m ((c : Thread nD τ).loc main_arg1))

theorem block_apply (t : Fin cfg0.N) (h2 : t.val % 2 = 1) (a : Fin 1024) (b : Fin 1024) (r : Fin 7168) (s : Fin 2048)
    (hr : r.val = 1024 * (t.val / 4) + a.val) (hs : s.val = 1024 * (t.val / 2 % 2) + b.val) :
    (outsAt0 m c t.val t.isLt).1 (ix2 a b) = prod m c (ix2 r s) := by
  have hlt : t.val - 1 < cfg0.N := Nat.lt_of_le_of_lt (Nat.sub_le _ _) t.isLt
  rw [second_step m c t h2, first_step m c ⟨t.val - 1, hlt⟩ (by dsimp only; omega)]
  unfold k0_pay4 k0_pay2
  rw [shapeCast_self]
  show k0_pay1 (F := Ideal) _ _ (ix2 a b) + k0_pay1 (F := Ideal) _ _ (ix2 a b) = _
  rw [pay1_apply, pay1_apply]
  refine Eq.trans ?_ (whole_apply _ _ r s).symm
  rw [sum_halves]
  refine congrArg₂ (· + ·) ?_ ?_ <;> refine Finset.sum_congr rfl fun q _ => ?_
  · exact congrArg₂ (· * ·) (left_apply m c ⟨t.val - 1, hlt⟩ q a ⟨q.val, by omega⟩ _ (by dsimp only; omega) (by dsimp only; omega))
      (right_apply m c ⟨t.val - 1, hlt⟩ q b ⟨q.val, by omega⟩ s (by dsimp only; omega) (by dsimp only; omega))
  · exact congrArg₂ (· * ·) (left_apply m c t q a ⟨2048 + q.val, by omega⟩ _ (by dsimp only; omega) hr) (right_apply m c t q b ⟨2048 + q.val, by omega⟩ s (by dsimp only; omega) hs)

/-! ## The array after the call -/

theorem flushed_eq (t : Fin cfg0.N) (hf : (cfg0.win 2).flush t = true) :
    (dats m 0 c).flushed 2 t = ((cfg0.win 2).blk t).view.read (Elt Ideal) (prod m c) := by
  have h2 := (flush0_2 t).mp hf
  rw [Value.flushed2]
  funext i
  obtain ⟨a, b, rfl⟩ : ∃ (a : Fin 1024) (b : Fin 1024), i = ix2 a b := ⟨i 0, i 1, eq_ix2 i⟩
  show (outsAt0 m c t.val t.isLt).1 (ix2 a b) = _
  rw [View.read_apply]
  have ht := lt_of_lt_of_eq t.isLt N_0
  exact (block_apply m c t h2 a b ⟨1024 * (t.val / 4) + a.val, by omega⟩ ⟨1024 * (t.val / 2 % 2) + b.val, by omega⟩ rfl rfl).trans
    (congrArg (prod m c) (funext fun x => Fin.ext (spot (K := 7168) (L := 2048) _ _ _ (index_2 t) a b _ _ rfl rfl x).symm))

theorem final_eq : (dats m 0 c).arrAt 2 cfg0.N = prod m c :=
  (dats m 0 c).arrAt_eq_of_cover 2 (prod m c) (flushed_eq m c) fun i => by
    have h0 : (i 0 : ℕ) < 7168 := (i 0).isLt
    have h1 : (i 1 : ℕ) < 2048 := (i 1).isLt
    let t : Fin cfg0.N := ⟨4 * ((i 0 : ℕ) / 1024) + 2 * ((i 1 : ℕ) / 1024) + 1, by rw [show cfg0.N = 28 from N_0]; omega⟩
    have ht : t.val = 4 * ((i 0 : ℕ) / 1024) + 2 * ((i 1 : ℕ) / 1024) + 1 := rfl
    refine ⟨t, (flush0_2 t).mpr (by omega), ?_⟩
    show i ∈ ((View.whole main_v0).slice (win0_2.rect t)).set
    rw [View.set_slice_whole, Rect.mem_set_unit]
    exact in_tile (K := 7168) (L := 2048) (by omega) (by omega) _ i ⟨(index_2 t).1.trans (by omega), (index_2 t).2.trans (by omega)⟩

/-! ## The claims -/

theorem quiescent : Cert.quiescent_WMain := fun m ρ _ => Cert.WMain.Gen.frame m ρ
theorem quiescent_ideal : Cert.quiescent_WMainIdeal := fun m ρ _ => Cert.WMainIdeal.Gen.frame m ρ
theorem quiescent_ref : Cert.quiescent_WMainReferenceIdeal := fun m ρ _ =>
  (θ_run Cert.WMainReferenceIdeal.defs _ _).mono (fun r h => ⟨fun c => (h c).2, sem_eq_zero_of_no_sems (by decide) r.2⟩)
    (Cert.WMainReferenceIdeal.Value.run (F := Ideal) m ρ)
theorem preserved : Cert.preserves_WMain_WMainIdeal := trivial

theorem algebraic : Cert.algebraic_WMainIdeal_WMainReferenceIdeal := fun m g m' g' _ hm =>
  ⟨fun _ => whole (m' (((0 : Dev 1) : Thread 1 Cert.WMainReferenceIdeal.τ).loc Cert.WMainReferenceIdeal.main_arg0))
      (m' (((0 : Dev 1) : Thread 1 Cert.WMainReferenceIdeal.τ).loc Cert.WMainReferenceIdeal.main_arg1)),
    (θ_run Cert.WMainIdeal.defs _ _).mono (fun r h c => by
      obtain rfl : c = 0 := Subsingleton.elim _ _
      obtain ⟨hA, hB⟩ := hm 0
      exact ⟨((h 0).1.trans (final_eq m 0)).trans (congrArg₂ whole hA.symm hB.symm), (h 0).2⟩)
      (Cert.WMainIdeal.Value.run_blocks (F := Ideal) m g),
    (θ_run Cert.WMainReferenceIdeal.defs _ _).mono (fun r h c => by
      obtain rfl : c = 0 := Subsingleton.elim _ _
      exact h 0)
      (Cert.WMainReferenceIdeal.Value.run (F := Ideal) m' g')⟩

end Cert.WMainProof

end
-- ==== Proof.OutLnClaims.lean ====
/-
# The output projection with the residual and its layer norm

The kernel runs over sixteen tiles of 256 rows. A tile's rows depend on the same rows of its arguments only: the scaled residual plus the
product, and that row's layer norm, whose mean and inverse deviation are those of the layer norm's gradient.
-/
module

public import proofs.«01_k».proof.Defs
public import proofs.«01_k».proof.Proof.Gen.OutLn.Frame
public import proofs.«01_k».proof.Proof.Gen.OutLnIdeal.Value
public import proofs.«01_k».proof.Proof.Gen.OutLnReferenceIdeal.Run
public import proofs.«01_k».proof.Proof.LnRows
public import proofs.«01_k».proof.Proof.Products

@[expose] public section

set_option maxRecDepth 16384

noncomputable section

namespace Cert.OutLnProof

open Idealize.ShloMosaic Idealize.ShloMosaic.TcCoe Idealize.ShloMosaic.Tactic Idealize.SL.Sem
open Idealize.ShloMosaic.Pipeline (Dat)
open Cert.LnProof (mean cen rstd xhat rowK)
open Cert.Products (zero2 spot in_tile)
open scoped BigOperators

/-! ## A row -/

/-- The sum that the layer norm takes, at an index. -/
def pre {n : ℕ} (Y : (⟨2, ![n, 2048]⟩ : Shape).Idx → Ideal .bf16) (W : (⟨2, ![2048, 2048]⟩ : Shape).Idx → Ideal .bf16)
    (X : (⟨2, ![n, 2048]⟩ : Shape).Idx → Ideal .f32) (r : Fin n) (k : Fin 2048) : Ideal .f32 :=
  Ideal.ofBits .f32 0x3FD744FD#32 * X (ix2 r k) + ∑ p : Fin 2048, Y (ix2 r p) * W (ix2 p k)

/-- The layer norm of a row. -/
def norm (x g b : Fin 2048 → Ideal .f32) (k : Fin 2048) : Ideal .f32 := xhat x k * g k + b k

/-! ## The kernel's payloads -/

section
open Cert.OutLnIdeal Cert.OutLnIdeal.Gen
variable (Y : Vec Ideal S256x2048 .bf16) (W : Vec Ideal S2048x2048 .bf16) (X : Vec Ideal S256x2048 .f32) (G B : Vec Ideal S1x2048 .f32)
  (a : Fin 256) (k : Fin 2048)

theorem product_apply : FloatOps.matmul (F := Ideal) (φ₁ := .bf16) (φ₂ := .bf16) dot_S256x2048_S2048x2048_S256x2048_1_0_0_1_n_n none Y W
    (constant S256x2048 .f32 0x00000000#32) (ix2 a k) = ∑ p : Fin 2048, Y (ix2 a p) * W (ix2 p k) := by
  refine (Ideal.matmul_plain_apply (M := 256) (K := 2048) (N := 2048) none Y W _ a k).trans ?_
  show Ideal.ofBits .f32 0x00000000#32 + _ = _
  rw [Ideal.ofBits_zero_f32, zero_add]
  rfl

theorem pay1_apply : k0_pay1 X Y W (ix2 a k) = pre Y W X a k :=
  congrArg (_ + ·) (product_apply Y W a k)

theorem pay2_apply : k0_pay2 X Y W G B (ix2 a k) = norm (pre Y W X a) (rowK G 0) (rowK B 0) k := by
  have h := fun k => pay1_apply Y W X a k
  unfold norm xhat rstd cen mean
  pointwise [k0_pay2]
  simp only [h]
end

/-! ## The reference's results -/

section
open Cert.OutLnReferenceIdeal Cert.OutLnReferenceIdeal.Gen
variable (Y : FVec Ideal S4096x2048 .bf16) (W : FVec Ideal S2048x2048 .bf16) (X P : FVec Ideal S4096x2048 .f32) (G B : FVec Ideal S1x2048 .f32)
  (r : Fin 4096) (k : Fin 2048)

def pres : FVec Ideal S4096x2048 .f32 :=
  addf (mulf (broadcastInDim S4096x2048 ![] bcast_S_S4096x2048 (constant S_ .f32 0x3FD744FD#32)) X)
    (Host.dotGeneral dot_S4096x2048_S2048x2048_S4096x2048_1_0_0_1_n_n none Y W)
def means : FVec Ideal S4096x1 .f32 :=
  Host.divf (broadcastInDim S4096x1 ![0] bcast_S4096_S4096x1_0 (Host.reduceAdd P (constant S_ .f32 0x00000000#32) reducesTo_S4096x2048_S4096_d1 h_S_))
    (broadcastInDim S4096x1 ![] bcast_S_S4096x1 (constant S_ .f32 0x45000000#32))
def cens : FVec Ideal S4096x2048 .f32 := subf P (broadcastInDim S4096x2048 ![0, 1] bcast_S4096x1_S4096x2048_0_1 (means P))
def rstds : FVec Ideal S4096x1 .f32 :=
  Host.rsqrt (addf (means (mulf (cens P) (cens P))) (broadcastInDim S4096x1 ![] bcast_S_S4096x1 (constant S_ .f32 0x3727C5AC#32)))
def norms : FVec Ideal S4096x2048 .f32 :=
  addf (mulf (mulf (cens P) (broadcastInDim S4096x2048 ![0, 1] bcast_S4096x1_S4096x2048_0_1 (rstds P)))
    (broadcastInDim S4096x2048 ![0, 1] bcast_S1x2048_S4096x2048_0_1 G)) (broadcastInDim S4096x2048 ![0, 1] bcast_S1x2048_S4096x2048_0_1 B)

theorem pres_apply : pres Y W X (ix2 r k) = pre Y W X r k :=
  congrArg (_ + ·) (StackMember.dotGeneral_plain_apply (m := 4096) (k := 2048) (n := 2048) none Y W r k)
theorem means_apply (z : Fin 1) : means P (ix2 r z) = mean (rowK P r) := by
  unfold mean
  pointwise [means]
theorem cens_apply : cens P (ix2 r k) = cen (rowK P r) k := by
  have h := fun z => means_apply P r z
  unfold cen
  pointwise [cens]
  simp only [h]
theorem rstds_apply (z : Fin 1) : rstds P (ix2 r z) = rstd (rowK P r) := by
  have h := means_apply (mulf (cens P) (cens P)) r z
  have h' : rowK (mulf (cens P) (cens P)) r = fun k => cen (rowK P r) k * cen (rowK P r) k :=
    funext fun k => congrArg₂ (· * ·) (cens_apply P r k) (cens_apply P r k)
  unfold rstd
  rw [h'] at h
  exact congrArg (fun y => Ideal.rsqrt (y + _)) h
theorem norms_apply : norms P G B (ix2 r k) = norm (rowK P r) (rowK G 0) (rowK B 0) k := by
  have h := cens_apply P r k
  have h' := fun z => rstds_apply P r z
  unfold norm xhat
  pointwise [norms]
  simp only [h, h']
end

/-! ## The tiles -/

section
open Cert.OutLnIdeal Cert.OutLnIdeal.Gen

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = t.val ∧ win0_5.index t 1 = 0 := by decide +kernel
theorem index_6 : ∀ t : Fin grid0.N, win0_6.index t 0 = t.val ∧ win0_6.index t 1 = 0 := by decide +kernel
theorem index_7 : ∀ t : Fin grid0.N, win0_7.index t 0 = t.val ∧ win0_7.index t 1 = 0 := by decide +kernel

variable (m : (ℓ : Loc nD τ sig) → Buf (Elt Ideal) ℓ) (c : Dev nD)

theorem lt_N (t : Fin cfg0.N) : t.val < 16 := lt_of_lt_of_eq t.isLt N_0

abbrev argY : (⟨2, ![4096, 2048]⟩ : Shape).Idx → Ideal .bf16 := m ((c : Thread nD τ).loc main_arg0)
abbrev argW : (⟨2, ![2048, 2048]⟩ : Shape).Idx → Ideal .bf16 := m ((c : Thread nD τ).loc main_arg1)
abbrev argX : (⟨2, ![4096, 2048]⟩ : Shape).Idx → Ideal .f32 := m ((c : Thread nD τ).loc main_arg2)
abbrev argG : (⟨2, ![1, 2048]⟩ : Shape).Idx → Ideal .f32 := m ((c : Thread nD τ).loc main_arg3)
abbrev argB : (⟨2, ![1, 2048]⟩ : Shape).Idx → Ideal .f32 := m ((c : Thread nD τ).loc main_arg4)

theorem y_apply (t : Fin cfg0.N) (a : Fin 256) (k : Fin 2048) (r : Fin 4096) (hr : r.val = 256 * t.val + a.val) :
    iblk m c 0 t (ix2 a k) = argY m c (ix2 r k) := by
  unfold iblk
  rw [View.read_apply]
  exact congrArg (m ((c : Thread nD τ).loc main_arg0)) (funext fun x => Fin.ext (spot (K := 4096) (L := 2048) _ _ _ (index_0 t) a k r k hr (by omega) x))
theorem w_apply (t : Fin cfg0.N) (p k : Fin 2048) : iblk m c 1 t (ix2 p k) = argW m c (ix2 p k) := by
  unfold iblk
  rw [View.read_apply]
  exact congrArg (m ((c : Thread nD τ).loc main_arg1)) (funext fun x => Fin.ext (spot (K := 2048) (L := 2048) _ _ _ (index_1 t) p k p k (by omega) (by omega) x))
theorem x_apply (t : Fin cfg0.N) (a : Fin 256) (k : Fin 2048) (r : Fin 4096) (hr : r.val = 256 * t.val + a.val) :
    iblk m c 2 t (ix2 a k) = argX m c (ix2 r k) := by
  unfold iblk
  rw [View.read_apply]
  exact congrArg (m ((c : Thread nD τ).loc main_arg2)) (funext fun x => Fin.ext (spot (K := 4096) (L := 2048) _ _ _ (index_2 t) a k r k hr (by omega) x))
theorem g_apply (t : Fin cfg0.N) (z : Fin 1) (k : Fin 2048) : iblk m c 3 t (ix2 z k) = argG m c (ix2 z k) := by
  unfold iblk
  rw [View.read_apply]
  exact congrArg (m ((c : Thread nD τ).loc main_arg3)) (funext fun x => Fin.ext (spot (K := 1) (L := 2048) _ _ _ (index_3 t) z k z k (by omega) (by omega) x))
theorem b_apply (t : Fin cfg0.N) (z : Fin 1) (k : Fin 2048) : iblk m c 4 t (ix2 z k) = argB m c (ix2 z k) := by
  unfold iblk
  rw [View.read_apply]
  exact congrArg (m ((c : Thread nD τ).loc main_arg4)) (funext fun x => Fin.ext (spot (K := 1) (L := 2048) _ _ _ (index_4 t) z k z k (by omega) (by omega) x))

/-- The whole sum of the residual and the product. -/
abbrev sums : (⟨2, ![4096, 2048]⟩ : Shape).Idx → Ideal .f32 := pres (argY m c) (argW m c) (argX m c)
/-- Its layer norm. -/
abbrev lns : (⟨2, ![4096, 2048]⟩ : Shape).Idx → Ideal .f32 := norms (sums m c) (argG m c) (argB m c)

theorem tile_pre (t : Fin cfg0.N) (a : Fin 256) (k : Fin 2048) (r : Fin 4096) (hr : r.val = 256 * t.val + a.val) :
    pre (n := 256) (iblk m c 0 t) (iblk m c 1 t) (iblk m c 2 t) a k = sums m c (ix2 r k) := by
  refine Eq.trans ?_ (pres_apply _ _ _ r k).symm
  unfold pre
  refine congrArg₂ (· + ·) (congrArg (_ * ·) (x_apply m c t a k r hr)) (Finset.sum_congr rfl fun p _ => ?_)
  exact congrArg₂ (· * ·) (y_apply m c t a p r hr) (w_apply m c t p k)

theorem tile_norm (t : Fin cfg0.N) (a : Fin 256) (k : Fin 2048) (r : Fin 4096) (hr : r.val = 256 * t.val + a.val) :
    norm (pre (n := 256) (iblk m c 0 t) (iblk m c 1 t) (iblk m c 2 t) a) (rowK (n := 1) (iblk m c 3 t) 0) (rowK (n := 1) (iblk m c 4 t) 0) k
      = lns m c (ix2 r k) := by
  refine Eq.trans ?_ (norms_apply _ _ _ r k).symm
  rw [show pre (n := 256) (iblk m c 0 t) (iblk m c 1 t) (iblk m c 2 t) a = rowK (sums m c) r from funext fun k => tile_pre m c t a k r hr,
    show rowK (n := 1) (iblk m c 3 t) 0 = rowK (argG m c) 0 from funext fun k => g_apply m c t 0 k,
    show rowK (n := 1) (iblk m c 4 t) 0 = rowK (argB m c) 0 from funext fun k => b_apply m c t 0 k]

/-! ## The arrays after the call -/

theorem flushed_5 (t : Fin cfg0.N) (_ : (cfg0.win 5).flush t = true) :
    (dats m 0 c).flushed 5 t = ((cfg0.win 5).blk t).view.read (Elt Ideal) (lns m c) := by
  have ht := lt_N t
  rw [Value.flushed5]
  unfold out0_5
  rw [View.canon_unit_zero zero2]
  simp only [View.ld_unit_zero (S := S256x2048) zero2, View.ld_unit_zero (S := S2048x2048) zero2, View.ld_unit_zero (S := S1x2048) zero2]
  funext i
  obtain ⟨a, k, rfl⟩ : ∃ (a : Fin 256) (k : Fin 2048), i = ix2 a k := ⟨i 0, i 1, eq_ix2 i⟩
  rw [View.read_apply]
  exact ((pay2_apply _ _ _ _ _ a k).trans (tile_norm m c t a k ⟨256 * t.val + a.val, by omega⟩ rfl)).trans (congrArg (lns m c) (funext fun x => Fin.ext (spot (K := 4096) (L := 2048) _ _ _ (index_5 t) a k _ k rfl (by omega) x).symm))

theorem flushed_6 (t : Fin cfg0.N) (_ : (cfg0.win 6).flush t = true) :
    (dats m 0 c).flushed 6 t = ((cfg0.win 6).blk t).view.read (Elt Ideal) (lns m c) := by
  have ht := lt_N t
  rw [Value.flushed6]
  unfold out0_6
  rw [View.canon_unit_zero zero2]
  simp only [View.ld_unit_zero (S := S256x2048) zero2, View.ld_unit_zero (S := S2048x2048) zero2, View.ld_unit_zero (S := S1x2048) zero2]
  funext i
  obtain ⟨a, k, rfl⟩ : ∃ (a : Fin 256) (k : Fin 2048), i = ix2 a k := ⟨i 0, i 1, eq_ix2 i⟩
  rw [View.read_apply]
  exact ((pay2_apply _ _ _ _ _ a k).trans (tile_norm m c t a k ⟨256 * t.val + a.val, by omega⟩ rfl)).trans (congrArg (lns m c) (funext fun x => Fin.ext (spot (K := 4096) (L := 2048) _ _ _ (index_6 t) a k _ k rfl (by omega) x).symm))

theorem flushed_7 (t : Fin cfg0.N) (_ : (cfg0.win 7).flush t = true) :
    (dats m 0 c).flushed 7 t = ((cfg0.win 7).blk t).view.read (Elt Ideal) (sums m c) := by
  have ht := lt_N t
  rw [Value.flushed7]
  unfold out0_7
  rw [View.canon_unit_zero zero2]
  simp only [View.ld_unit_zero (S := S256x2048) zero2, View.ld_unit_zero (S := S2048x2048) zero2]
  funext i
  obtain ⟨a, k, rfl⟩ : ∃ (a : Fin 256) (k : Fin 2048), i = ix2 a k := ⟨i 0, i 1, eq_ix2 i⟩
  rw [View.read_apply]
  exact ((pay1_apply _ _ _ a k).trans (tile_pre m c t a k ⟨256 * t.val + a.val, by omega⟩ rfl)).trans (congrArg (sums m c) (funext fun x => Fin.ext (spot (K := 4096) (L := 2048) _ _ _ (index_7 t) a k _ k rfl (by omega) x).symm))

/-- The tile that holds a row. -/
def tileOf (r : Fin 4096) : Fin cfg0.N := ⟨r.val / 256, by rw [show cfg0.N = 16 from N_0]; omega⟩

theorem final_5 : (dats m 0 c).arrAt 5 cfg0.N = lns m c :=
  (dats m 0 c).arrAt_eq_of_cover 5 (lns m c) (flushed_5 m c) fun i => by
    have h1 : (i 1 : ℕ) < 2048 := (i 1).isLt
    refine ⟨tileOf (i 0), flush0_5 _, ?_⟩
    show i ∈ ((View.whole main_v0_0).slice (win0_5.rect (tileOf (i 0)))).set
    rw [View.set_slice_whole, Rect.mem_set_unit]
    exact in_tile (K := 4096) (L := 2048) (by omega) (by omega) _ i ⟨(index_5 _).1, (index_5 _).2.trans (by omega)⟩
theorem final_6 : (dats m 0 c).arrAt 6 cfg0.N = lns m c :=
  (dats m 0 c).arrAt_eq_of_cover 6 (lns m c) (flushed_6 m c) fun i => by
    have h1 : (i 1 : ℕ) < 2048 := (i 1).isLt
    refine ⟨tileOf (i 0), flush0_6 _, ?_⟩
    show i ∈ ((View.whole main_v0_1).slice (win0_6.rect (tileOf (i 0)))).set
    rw [View.set_slice_whole, Rect.mem_set_unit]
    exact in_tile (K := 4096) (L := 2048) (by omega) (by omega) _ i ⟨(index_6 _).1, (index_6 _).2.trans (by omega)⟩
theorem final_7 : (dats m 0 c).arrAt 7 cfg0.N = sums m c :=
  (dats m 0 c).arrAt_eq_of_cover 7 (sums m c) (flushed_7 m c) fun i => by
    have h1 : (i 1 : ℕ) < 2048 := (i 1).isLt
    refine ⟨tileOf (i 0), flush0_7 _, ?_⟩
    show i ∈ ((View.whole main_v0_2).slice (win0_7.rect (tileOf (i 0)))).set
    rw [View.set_slice_whole, Rect.mem_set_unit]
    exact in_tile (K := 4096) (L := 2048) (by omega) (by omega) _ i ⟨(index_7 _).1, (index_7 _).2.trans (by omega)⟩

end

/-! ## The claims -/

theorem quiescent : Cert.quiescent_OutLn := fun m ρ _ => Cert.OutLn.Gen.frame m ρ
theorem quiescent_ideal : Cert.quiescent_OutLnIdeal := fun m ρ _ => Cert.OutLnIdeal.Gen.frame m ρ
theorem quiescent_ref : Cert.quiescent_OutLnReferenceIdeal := fun m ρ _ =>
  (θ_run Cert.OutLnReferenceIdeal.defs _ _).mono (fun r h => ⟨fun c => (h c).2.2.2, sem_eq_zero_of_no_sems (by decide) r.2⟩)
    (Cert.OutLnReferenceIdeal.Value.run (F := Ideal) m ρ)
theorem preserved : Cert.preserves_OutLn_OutLnIdeal := trivial

section
open Cert.OutLnReferenceIdeal
variable (m' : (ℓ : Loc nD τ sig) → Buf (Elt Ideal) ℓ)
abbrev refSums : FVec Ideal S4096x2048 .f32 := pres (m' (((0 : Dev 1) : Thread 1 τ).loc main_arg0))
  (m' (((0 : Dev 1) : Thread 1 τ).loc main_arg1)) (m' (((0 : Dev 1) : Thread 1 τ).loc main_arg2))
abbrev refLns : FVec Ideal S4096x2048 .f32 := norms (refSums m') (m' (((0 : Dev 1) : Thread 1 τ).loc main_arg3)) (m' (((0 : Dev 1) : Thread 1 τ).loc main_arg4))
end

theorem algebraic : Cert.algebraic_OutLnIdeal_OutLnReferenceIdeal := fun m g m' g' _ hm =>
  ⟨fun _ => refLns m', fun _ => refLns m', fun _ => refSums m',
    (θ_run Cert.OutLnIdeal.defs _ _).mono (fun r h c => by
      obtain rfl : c = 0 := Subsingleton.elim _ _
      obtain ⟨hY, hW, hX, hG, hB⟩ := hm 0
      have hs : sums m 0 = refSums m' := by
        show pres (argY m 0) (argW m 0) (argX m 0) = _
        rw [show argY m 0 = _ from hY.symm, show argW m 0 = _ from hW.symm, show argX m 0 = _ from hX.symm]
      have hl : lns m 0 = refLns m' := by
        show norms (sums m 0) (argG m 0) (argB m 0) = _
        rw [hs, show argG m 0 = _ from hG.symm, show argB m 0 = _ from hB.symm]
      exact ⟨((h 0).1.trans (final_5 m 0)).trans hl, ((h 0).2.1.trans (final_6 m 0)).trans hl, ((h 0).2.2.1.trans (final_7 m 0)).trans hs, (h 0).2.2.2⟩)
      (Cert.OutLnIdeal.Value.run_blocks (F := Ideal) m g),
    (θ_run Cert.OutLnReferenceIdeal.defs _ _).mono (fun r h c => by
      obtain rfl : c = 0 := Subsingleton.elim _ _
      exact h 0)
      (Cert.OutLnReferenceIdeal.Value.run (F := Ideal) m' g')⟩

end Cert.OutLnProof

end
-- ==== Proof.ProjGateClaims.lean ====
/-
# The input projection's forget gate columns

The kernel runs over four blocks of rows, each a product in one step.
-/
module

public import proofs.«01_k».proof.Defs
public import proofs.«01_k».proof.Proof.Gen.ProjGate.Frame
public import proofs.«01_k».proof.Proof.Gen.ProjGateIdeal.Value
public import proofs.«01_k».proof.Proof.Gen.ProjGateReferenceIdeal.Run
public import proofs.«01_k».proof.Proof.Products

@[expose] public section

set_option maxRecDepth 16384

noncomputable section

namespace Cert.ProjGateProof

open Cert.ProjGateIdeal Cert.ProjGateIdeal.Gen
open Idealize.ShloMosaic Idealize.ShloMosaic.TcCoe Idealize.ShloMosaic.Tactic Idealize.SL.Sem
open Idealize.ShloMosaic.Pipeline (Dat)
open Cert.Products (zero2 spot in_tile entry)

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

variable (m : (ℓ : Loc nD τ sig) → Buf (Elt Ideal) ℓ) (c : Dev nD)

abbrev argA : (⟨2, ![4096, 2048]⟩ : Shape).Idx → Ideal .bf16 := m ((c : Thread nD τ).loc main_arg0)
abbrev argB : (⟨2, ![128, 2048]⟩ : Shape).Idx → Ideal .bf16 := m ((c : Thread nD τ).loc main_arg1)

/-- The reference's product. -/
abbrev whole (A : (⟨2, ![4096, 2048]⟩ : Shape).Idx → Ideal .bf16) (B : (⟨2, ![128, 2048]⟩ : Shape).Idx → Ideal .bf16) :
    (⟨2, ![4096, 128]⟩ : Shape).Idx → Ideal .f32 :=
  Host.dotGeneral Cert.ProjGateReferenceIdeal.dot_S4096x2048_S2048x128_S4096x128_1_0_0_1_n_n none A
    (transpose ⟨2, ![2048, 128]⟩ [1, 0] B Cert.ProjGateReferenceIdeal.Gen.transposes_S128x2048_S2048x128_1_0)
theorem whole_apply (A : (⟨2, ![4096, 2048]⟩ : Shape).Idx → Ideal .bf16) (B : (⟨2, ![128, 2048]⟩ : Shape).Idx → Ideal .bf16)
    (r : Fin 4096) (s : Fin 128) : whole A B (ix2 r s) = entry A B r s := Cert.Products.whole_apply A B _ r s

theorem block_apply (t : Fin cfg0.N) (a : Fin 1024) (b : Fin 128) (r : Fin 4096) (s : Fin 128) (hr : r.val = 1024 * t.val + a.val)
    (hs : s.val = 128 * 0 + b.val) : k0_pay1 (F := Ideal) (iblk m c 0 t) (iblk m c 1 t) (ix2 a b) = whole (argA m c) (argB m c) (ix2 r s) := by
  rw [whole_apply]
  refine (Cert.Products.block_apply (M := 1024) (K := 2048) (N := 128) (iblk m c 0 t) (iblk m c 1 t) a b).trans (Finset.sum_congr rfl fun p _ => ?_)
  unfold iblk
  rw [View.read_apply, View.read_apply]
  exact congrArg₂ (· * ·)
    (congrArg (argA m c) (funext fun x => Fin.ext (spot (K := 4096) (L := 2048) _ _ _ (index_0 t) a p r p hr (by omega) x)))
    (congrArg (argB m c) (funext fun x => Fin.ext (spot (K := 128) (L := 2048) _ _ _ (index_1 t) b p s p (by omega) (by omega) x)))

theorem flushed_eq (t : Fin cfg0.N) (_ : (cfg0.win 2).flush t = true) :
    (dats m 0 c).flushed 2 t = ((cfg0.win 2).blk t).view.read (Elt Ideal) (whole (argA m c) (argB m c)) := by
  have ht : t.val < 4 := lt_of_lt_of_eq t.isLt N_0
  rw [Value.flushed2]
  unfold out0_2
  rw [View.canon_unit_zero zero2]
  simp only [View.ld_unit_zero (S := S1024x2048) zero2, View.ld_unit_zero (S := S128x2048) zero2]
  funext i
  obtain ⟨a, b, rfl⟩ : ∃ (a : Fin 1024) (b : Fin 128), i = ix2 a b := ⟨i 0, i 1, eq_ix2 i⟩
  rw [View.read_apply]
  exact (block_apply m c t a b ⟨1024 * t.val + a.val, by omega⟩ b rfl (by omega)).trans (congrArg (whole (argA m c) (argB m c))
    (funext fun x => Fin.ext (spot (K := 4096) (L := 128) _ _ _ (index_2 t) a b _ b rfl (by omega) x).symm))

theorem final_eq : (dats m 0 c).arrAt 2 cfg0.N = whole (argA m c) (argB m c) :=
  (dats m 0 c).arrAt_eq_of_cover 2 (whole (argA m c) (argB m c)) (flushed_eq m c) fun i => by
    have h0 : (i 0 : ℕ) < 4096 := (i 0).isLt
    have h1 : (i 1 : ℕ) < 128 := (i 1).isLt
    let t : Fin cfg0.N := ⟨(i 0 : ℕ) / 1024, by rw [show cfg0.N = 4 from N_0]; omega⟩
    refine ⟨t, flush0_2 t, ?_⟩
    show i ∈ ((View.whole main_v0).slice (win0_2.rect t)).set
    rw [View.set_slice_whole, Rect.mem_set_unit]
    exact in_tile (K := 4096) (L := 128) (by omega) (by omega) _ i ⟨(index_2 t).1, (index_2 t).2.trans (by omega)⟩

/-! ## The claims -/

theorem quiescent : Cert.quiescent_ProjGate := fun m ρ _ => Cert.ProjGate.Gen.frame m ρ
theorem quiescent_ideal : Cert.quiescent_ProjGateIdeal := fun m ρ _ => Cert.ProjGateIdeal.Gen.frame m ρ
theorem quiescent_ref : Cert.quiescent_ProjGateReferenceIdeal := fun m ρ _ =>
  (θ_run Cert.ProjGateReferenceIdeal.defs _ _).mono (fun r h => ⟨fun c => (h c).2, sem_eq_zero_of_no_sems (by decide) r.2⟩)
    (Cert.ProjGateReferenceIdeal.Value.run (F := Ideal) m ρ)
theorem preserved : Cert.preserves_ProjGate_ProjGateIdeal := trivial

theorem algebraic : Cert.algebraic_ProjGateIdeal_ProjGateReferenceIdeal := fun m g m' g' _ hm =>
  ⟨fun _ => whole (m' (((0 : Dev 1) : Thread 1 Cert.ProjGateReferenceIdeal.τ).loc Cert.ProjGateReferenceIdeal.main_arg0))
      (m' (((0 : Dev 1) : Thread 1 Cert.ProjGateReferenceIdeal.τ).loc Cert.ProjGateReferenceIdeal.main_arg1)),
    (θ_run Cert.ProjGateIdeal.defs _ _).mono (fun r h c => by
      obtain rfl : c = 0 := Subsingleton.elim _ _
      obtain ⟨hA, hB⟩ := hm 0
      exact ⟨((h 0).1.trans (final_eq m 0)).trans (congrArg₂ whole hA.symm hB.symm), (h 0).2⟩)
      (Cert.ProjGateIdeal.Value.run_blocks (F := Ideal) m g),
    (θ_run Cert.ProjGateReferenceIdeal.defs _ _).mono (fun r h c => by
      obtain rfl : c = 0 := Subsingleton.elim _ _
      exact h 0)
      (Cert.ProjGateReferenceIdeal.Value.run (F := Ideal) m' g')⟩

end Cert.ProjGateProof

end
-- ==== Proof.OutGradClaims.lean ====
/-
# The gradient of the mixers' output

The kernel runs over eight blocks, each a product in one step, rounded once.
-/
module

public import proofs.«01_k».proof.Defs
public import proofs.«01_k».proof.Proof.Gen.OutGrad.Frame
public import proofs.«01_k».proof.Proof.Gen.OutGradIdeal.Value
public import proofs.«01_k».proof.Proof.Gen.OutGradReferenceIdeal.Run
public import proofs.«01_k».proof.Proof.Products

@[expose] public section

set_option maxRecDepth 16384

noncomputable section

namespace Cert.OutGradProof

open Cert.OutGradIdeal Cert.OutGradIdeal.Gen
open Idealize.ShloMosaic Idealize.ShloMosaic.TcCoe Idealize.ShloMosaic.Tactic Idealize.SL.Sem
open Idealize.ShloMosaic.Pipeline (Dat)
open Cert.Products (zero2 spot in_tile entry)

theorem index_0 : ∀ t : Fin grid0.N, win0_0.index t 0 = t.val / 2 ∧ win0_0.index t 1 = 0 := by decide +kernel
theorem index_1 : ∀ t : Fin grid0.N, win0_1.index t 0 = t.val % 2 ∧ win0_1.index t 1 = 0 := by decide +kernel
theorem index_2 : ∀ t : Fin grid0.N, win0_2.index t 0 = t.val / 2 ∧ win0_2.index t 1 = t.val % 2 := by decide +kernel

variable (m : (ℓ : Loc nD τ sig) → Buf (Elt Ideal) ℓ) (c : Dev nD)

abbrev argA : (⟨2, ![4096, 2048]⟩ : Shape).Idx → Ideal .bf16 := m ((c : Thread nD τ).loc main_arg0)
abbrev argB : (⟨2, ![2048, 2048]⟩ : Shape).Idx → Ideal .bf16 := m ((c : Thread nD τ).loc main_arg1)

/-- The reference's product. -/
abbrev whole (A : (⟨2, ![4096, 2048]⟩ : Shape).Idx → Ideal .bf16) (B : (⟨2, ![2048, 2048]⟩ : Shape).Idx → Ideal .bf16) :
    (⟨2, ![4096, 2048]⟩ : Shape).Idx → Ideal .bf16 :=
  truncf (F := Ideal) .bf16 (Host.dotGeneral Cert.OutGradReferenceIdeal.dot_S4096x2048_S2048x2048_S4096x2048_1_0_0_1_n_n none A
    (transpose ⟨2, ![2048, 2048]⟩ [1, 0] B Cert.OutGradReferenceIdeal.Gen.transposes_S2048x2048_S2048x2048_1_0) : FVec Ideal ⟨2, ![4096, 2048]⟩ .f32)
    bitsLt_bf16_f32
theorem whole_apply (A : (⟨2, ![4096, 2048]⟩ : Shape).Idx → Ideal .bf16) (B : (⟨2, ![2048, 2048]⟩ : Shape).Idx → Ideal .bf16)
    (r : Fin 4096) (s : Fin 2048) : whole A B (ix2 r s) = entry A B r s := Cert.Products.whole_apply A B _ r s

theorem block_apply (t : Fin cfg0.N) (a b : Fin 1024) (r : Fin 4096) (s : Fin 2048) (hr : r.val = 1024 * (t.val / 2) + a.val)
    (hs : s.val = 1024 * (t.val % 2) + b.val) : k0_pay1 (F := Ideal) (iblk m c 0 t) (iblk m c 1 t) (ix2 a b) = whole (argA m c) (argB m c) (ix2 r s) := by
  rw [whole_apply]
  refine (Cert.Products.block_apply (M := 1024) (K := 2048) (N := 1024) (iblk m c 0 t) (iblk m c 1 t) a b).trans (Finset.sum_congr rfl fun p _ => ?_)
  unfold iblk
  rw [View.read_apply, View.read_apply]
  exact congrArg₂ (· * ·)
    (congrArg (argA m c) (funext fun x => Fin.ext (spot (K := 4096) (L := 2048) _ _ _ (index_0 t) a p r p hr (by omega) x)))
    (congrArg (argB m c) (funext fun x => Fin.ext (spot (K := 2048) (L := 2048) _ _ _ (index_1 t) b p s p hs (by omega) x)))

theorem flushed_eq (t : Fin cfg0.N) (_ : (cfg0.win 2).flush t = true) :
    (dats m 0 c).flushed 2 t = ((cfg0.win 2).blk t).view.read (Elt Ideal) (whole (argA m c) (argB m c)) := by
  have ht : t.val < 8 := lt_of_lt_of_eq t.isLt N_0
  rw [Value.flushed2]
  unfold out0_2
  rw [View.canon_unit_zero zero2]
  simp only [View.ld_unit_zero (S := S1024x2048) zero2]
  funext i
  obtain ⟨a, b, rfl⟩ : ∃ a b : Fin 1024, i = ix2 a b := ⟨i 0, i 1, eq_ix2 i⟩
  rw [View.read_apply]
  exact (block_apply m c t a b ⟨1024 * (t.val / 2) + a.val, by omega⟩ ⟨1024 * (t.val % 2) + b.val, by omega⟩ rfl rfl).trans
    (congrArg (whole (argA m c) (argB m c)) (funext fun x => Fin.ext (spot (K := 4096) (L := 2048) _ _ _ (index_2 t) a b _ _ rfl rfl x).symm))

theorem final_eq : (dats m 0 c).arrAt 2 cfg0.N = whole (argA m c) (argB m c) :=
  (dats m 0 c).arrAt_eq_of_cover 2 (whole (argA m c) (argB m c)) (flushed_eq m c) fun i => by
    have h0 : (i 0 : ℕ) < 4096 := (i 0).isLt
    have h1 : (i 1 : ℕ) < 2048 := (i 1).isLt
    let t : Fin cfg0.N := ⟨2 * ((i 0 : ℕ) / 1024) + (i 1 : ℕ) / 1024, by rw [show cfg0.N = 8 from N_0]; omega⟩
    have ht : t.val = 2 * ((i 0 : ℕ) / 1024) + (i 1 : ℕ) / 1024 := rfl
    refine ⟨t, flush0_2 t, ?_⟩
    show i ∈ ((View.whole main_v0).slice (win0_2.rect t)).set
    rw [View.set_slice_whole, Rect.mem_set_unit]
    exact in_tile (K := 4096) (L := 2048) (by omega) (by omega) _ i ⟨(index_2 t).1.trans (by omega), (index_2 t).2.trans (by omega)⟩

/-! ## The claims -/

theorem quiescent : Cert.quiescent_OutGrad := fun m ρ _ => Cert.OutGrad.Gen.frame m ρ
theorem quiescent_ideal : Cert.quiescent_OutGradIdeal := fun m ρ _ => Cert.OutGradIdeal.Gen.frame m ρ
theorem quiescent_ref : Cert.quiescent_OutGradReferenceIdeal := fun m ρ _ =>
  (θ_run Cert.OutGradReferenceIdeal.defs _ _).mono (fun r h => ⟨fun c => (h c).2, sem_eq_zero_of_no_sems (by decide) r.2⟩)
    (Cert.OutGradReferenceIdeal.Value.run (F := Ideal) m ρ)
theorem preserved : Cert.preserves_OutGrad_OutGradIdeal := trivial

theorem algebraic : Cert.algebraic_OutGradIdeal_OutGradReferenceIdeal := fun m g m' g' _ hm =>
  ⟨fun _ => whole (m' (((0 : Dev 1) : Thread 1 Cert.OutGradReferenceIdeal.τ).loc Cert.OutGradReferenceIdeal.main_arg0))
      (m' (((0 : Dev 1) : Thread 1 Cert.OutGradReferenceIdeal.τ).loc Cert.OutGradReferenceIdeal.main_arg1)),
    (θ_run Cert.OutGradIdeal.defs _ _).mono (fun r h c => by
      obtain rfl : c = 0 := Subsingleton.elim _ _
      obtain ⟨hA, hB⟩ := hm 0
      exact ⟨((h 0).1.trans (final_eq m 0)).trans (congrArg₂ whole hA.symm hB.symm), (h 0).2⟩)
      (Cert.OutGradIdeal.Value.run_blocks (F := Ideal) m g),
    (θ_run Cert.OutGradReferenceIdeal.defs _ _).mono (fun r h c => by
      obtain rfl : c = 0 := Subsingleton.elim _ _
      exact h 0)
      (Cert.OutGradReferenceIdeal.Value.run (F := Ideal) m' g')⟩

end Cert.OutGradProof

end
-- ==== Proof.ProjLastClaims.lean ====
/-
# The last layer's input projection, its main columns

The kernel runs over 28 blocks, each a product in one step, rounded once. It reads of the weights' 7296 rows the first 7168.
-/
module

public import proofs.«01_k».proof.Defs
public import proofs.«01_k».proof.Proof.Gen.ProjLast.Frame
public import proofs.«01_k».proof.Proof.Gen.ProjLastIdeal.Value
public import proofs.«01_k».proof.Proof.Gen.ProjLastReferenceIdeal.Run
public import proofs.«01_k».proof.Proof.Products

@[expose] public section

set_option maxRecDepth 16384

noncomputable section

namespace Cert.ProjLastProof

open Cert.ProjLastIdeal Cert.ProjLastIdeal.Gen
open Idealize.ShloMosaic Idealize.ShloMosaic.TcCoe Idealize.ShloMosaic.Tactic Idealize.SL.Sem
open Idealize.ShloMosaic.Pipeline (Dat)
open Cert.Products (zero2 spot in_tile)
open scoped BigOperators

theorem index_0 : ∀ t : Fin grid0.N, win0_0.index t 0 = t.val / 7 ∧ win0_0.index t 1 = 0 := by decide +kernel
theorem index_1 : ∀ t : Fin grid0.N, win0_1.index t 0 = t.val % 7 ∧ win0_1.index t 1 = 0 := by decide +kernel
theorem index_2 : ∀ t : Fin grid0.N, win0_2.index t 0 = t.val / 7 ∧ win0_2.index t 1 = t.val % 7 := by decide +kernel

variable (m : (ℓ : Loc nD τ sig) → Buf (Elt Ideal) ℓ) (c : Dev nD)

abbrev argA : (⟨2, ![4096, 2048]⟩ : Shape).Idx → Ideal .bf16 := m ((c : Thread nD τ).loc main_arg0)
abbrev argB : (⟨2, ![7296, 2048]⟩ : Shape).Idx → Ideal .bf16 := m ((c : Thread nD τ).loc main_arg1)

/-- The reference's product. -/
abbrev whole (A : (⟨2, ![4096, 2048]⟩ : Shape).Idx → Ideal .bf16) (B : (⟨2, ![7296, 2048]⟩ : Shape).Idx → Ideal .bf16) :
    (⟨2, ![4096, 7168]⟩ : Shape).Idx → Ideal .bf16 :=
  truncf (F := Ideal) .bf16 (Host.dotGeneral Cert.ProjLastReferenceIdeal.dot_S4096x2048_S2048x7168_S4096x7168_1_0_0_1_n_n none A
    (transpose ⟨2, ![2048, 7168]⟩ [1, 0] (extractStridedSlice ⟨2, ![7168, 2048]⟩ ![0, 0] B Cert.ProjLastReferenceIdeal.Gen.slices_S7296x2048_S7168x2048_0_0)
      Cert.ProjLastReferenceIdeal.Gen.transposes_S7168x2048_S2048x7168_1_0) : FVec Ideal ⟨2, ![4096, 7168]⟩ .f32) Cert.ProjLastReferenceIdeal.Gen.bitsLt_bf16_f32
theorem whole_apply (A : (⟨2, ![4096, 2048]⟩ : Shape).Idx → Ideal .bf16) (B : (⟨2, ![7296, 2048]⟩ : Shape).Idx → Ideal .bf16)
    (r : Fin 4096) (s : Fin 7168) : whole A B (ix2 r s) = ∑ p : Fin 2048, A (ix2 r p) * B (ix2 (⟨s.val, by omega⟩ : Fin 7296) p) :=
  (Cert.Products.whole_apply A (extractStridedSlice ⟨2, ![7168, 2048]⟩ ![0, 0] B Cert.ProjLastReferenceIdeal.Gen.slices_S7296x2048_S7168x2048_0_0) _ r s).trans <|
    Finset.sum_congr rfl fun p _ => congrArg (A (ix2 r p) * ·) (extractStridedSlice_apply _ B _ (ix2 s p) _ fun a =>
      match a with | ⟨0, _⟩ => (Nat.zero_add _).symm | ⟨1, _⟩ => (Nat.zero_add _).symm)

theorem block_apply (t : Fin cfg0.N) (a b : Fin 1024) (r : Fin 4096) (s : Fin 7168) (hr : r.val = 1024 * (t.val / 7) + a.val)
    (hs : s.val = 1024 * (t.val % 7) + b.val) : k0_pay1 (F := Ideal) (iblk m c 0 t) (X0_1 m c t) (ix2 a b) = whole (argA m c) (argB m c) (ix2 r s) := by
  rw [whole_apply]
  refine (Cert.Products.block_apply (M := 1024) (K := 2048) (N := 1024) (iblk m c 0 t) (X0_1 m c t) a b).trans (Finset.sum_congr rfl fun p _ => ?_)
  unfold X0_1 Pipeline.Window.fill
  rw [dif_pos (moved0_1 t _)]
  unfold iblk
  rw [View.read_apply, View.read_apply]
  exact congrArg₂ (· * ·)
    (congrArg (argA m c) (funext fun x => Fin.ext (spot (K := 4096) (L := 2048) _ _ _ (index_0 t) a p r p hr (by omega) x)))
    (congrArg (argB m c) (funext fun x => Fin.ext (spot (K := 7296) (L := 2048) _ _ _ (index_1 t) b p ⟨s.val, by omega⟩ p hs (by omega) x)))

theorem stored_eq (i : grid0.Coords) (arg3 : Memref sig .tc .vmem S1024x2048 .bf16) (harg3 : arg3.IsWhole)
    (arg4 : Memref sig .tc .vmem S1024x2048 .bf16) (harg4 : arg4.IsWhole) (arg5 : Memref sig .tc .vmem S1024x1024 .bf16) (harg5 : arg5.IsWhole)
    (x0 x1 : Vec Ideal S1024x2048 .bf16) :
    out0_A_2 (F := Ideal) c i arg3 harg3 arg4 harg4 arg5 harg5 x0 x1 = k0_pay1 (F := Ideal) x0 x1 := by
  unfold out0_A_2
  rw [View.read_writes_eq_canon _ _ _ (cover0_A_2 c i arg3 harg3 arg4 harg4 arg5 harg5 x0 x1)]
  unfold kernelRun0_A
  dsimp only
  sl_unfold_words
  rw [View.canon_unit_zero zero2]
  simp only [View.readAt_eq_ld, harg3.read_unread, harg4.read_unread, View.ld_unit_zero (S := S1024x2048) zero2]

theorem flushed_eq (t : Fin cfg0.N) (_ : (cfg0.win 2).flush t = true) :
    (dats m 0 c).flushed 2 t = ((cfg0.win 2).blk t).view.read (Elt Ideal) (whole (argA m c) (argB m c)) := by
  have ht : t.val < 28 := lt_of_lt_of_eq t.isLt N_0
  rw [Value.flushed2_A, stored_eq]
  funext i
  obtain ⟨a, b, rfl⟩ : ∃ a b : Fin 1024, i = ix2 a b := ⟨i 0, i 1, eq_ix2 i⟩
  rw [View.read_apply]
  exact (block_apply m c t a b ⟨1024 * (t.val / 7) + a.val, by omega⟩ ⟨1024 * (t.val % 7) + b.val, by omega⟩ rfl rfl).trans
    (congrArg (whole (argA m c) (argB m c)) (funext fun x => Fin.ext (spot (K := 4096) (L := 7168) _ _ _ (index_2 t) a b _ _ rfl rfl x).symm))

theorem final_eq : (dats m 0 c).arrAt 2 cfg0.N = whole (argA m c) (argB m c) :=
  (dats m 0 c).arrAt_eq_of_cover 2 (whole (argA m c) (argB m c)) (flushed_eq m c) fun i => by
    have h0 : (i 0 : ℕ) < 4096 := (i 0).isLt
    have h1 : (i 1 : ℕ) < 7168 := (i 1).isLt
    let t : Fin cfg0.N := ⟨7 * ((i 0 : ℕ) / 1024) + (i 1 : ℕ) / 1024, by rw [show cfg0.N = 28 from N_0]; omega⟩
    have ht : t.val = 7 * ((i 0 : ℕ) / 1024) + (i 1 : ℕ) / 1024 := rfl
    refine ⟨t, flush0_2 t, ?_⟩
    show i ∈ ((View.whole main_v0).slice (win0_2.rect t)).set
    rw [View.set_slice_whole, Rect.mem_set_unit]
    exact in_tile (K := 4096) (L := 7168) (by omega) (by omega) _ i ⟨(index_2 t).1.trans (by omega), (index_2 t).2.trans (by omega)⟩

/-! ## The claims -/

theorem quiescent : Cert.quiescent_ProjLast := fun m ρ _ => Cert.ProjLast.Gen.frame m ρ
theorem quiescent_ideal : Cert.quiescent_ProjLastIdeal := fun m ρ _ => Cert.ProjLastIdeal.Gen.frame m ρ
theorem quiescent_ref : Cert.quiescent_ProjLastReferenceIdeal := fun m ρ _ =>
  (θ_run Cert.ProjLastReferenceIdeal.defs _ _).mono (fun r h => ⟨fun c => (h c).2, sem_eq_zero_of_no_sems (by decide) r.2⟩)
    (Cert.ProjLastReferenceIdeal.Value.run (F := Ideal) m ρ)
theorem preserved : Cert.preserves_ProjLast_ProjLastIdeal := trivial

theorem algebraic : Cert.algebraic_ProjLastIdeal_ProjLastReferenceIdeal := fun m g m' g' _ hm =>
  ⟨fun _ => whole (m' (((0 : Dev 1) : Thread 1 Cert.ProjLastReferenceIdeal.τ).loc Cert.ProjLastReferenceIdeal.main_arg0))
      (m' (((0 : Dev 1) : Thread 1 Cert.ProjLastReferenceIdeal.τ).loc Cert.ProjLastReferenceIdeal.main_arg1)),
    (θ_run Cert.ProjLastIdeal.defs _ _).mono (fun r h c => by
      obtain rfl : c = 0 := Subsingleton.elim _ _
      obtain ⟨hA, hB⟩ := hm 0
      exact ⟨((h 0).1.trans (final_eq m 0)).trans (congrArg₂ whole hA.symm hB.symm), (h 0).2⟩)
      (Cert.ProjLastIdeal.Value.run_blocks (F := Ideal) m g),
    (θ_run Cert.ProjLastReferenceIdeal.defs _ _).mono (fun r h c => by
      obtain rfl : c = 0 := Subsingleton.elim _ _
      exact h 0)
      (Cert.ProjLastReferenceIdeal.Value.run (F := Ideal) m' g')⟩

end Cert.ProjLastProof

end
-- ==== Proof.InGradClaims.lean ====
/-
# The gradient of a layer's input as the kernel computes it: its values and its claims

A device's product, accumulated over three blocks of the contracted axis in a scratch buffer, with the scaled gradient of what the layer
adds to its input added at the last, as the call of all layers but the first takes it: every block is a block of the reference's.
`Cert.InGradProof.algebraic`.
-/
module

public import proofs.«01_k».proof.Defs
public import proofs.«01_k».proof.Proof.Gen.InGrad.Frame
public import proofs.«01_k».proof.Proof.Gen.InGradIdeal.Value
public import proofs.«01_k».proof.Proof.Gen.InGradReferenceIdeal.Run
public import proofs.«01_k».proof.Proof.KernelValue

@[expose] public section

set_option maxRecDepth 16384

noncomputable section

namespace Cert.InGradProof

open Cert.InGradIdeal Cert.InGradIdeal.Gen
open Idealize.ShloMosaic Idealize.ShloMosaic.TcCoe Idealize.ShloMosaic.Tactic Idealize.SL.Sem
open Idealize.ShloMosaic.Pipeline (Dat)
open Cert.Products (zero2 spot in_tile)
open Cert.KernelProof (entry alpha sum_blocks)
open scoped BigOperators

/-! ## A block's three steps -/

theorem index_0 : ∀ t : Fin grid0.N, win0_0.index t 0 = t.val / 6 ∧ win0_0.index t 1 = t.val % 3 := by decide +kernel
theorem index_1 : ∀ t : Fin grid0.N, win0_1.index t 0 = t.val % 3 ∧ win0_1.index t 1 = t.val / 3 % 2 := by decide +kernel
theorem index_2 : ∀ t : Fin grid0.N, win0_2.index t 0 = t.val / 6 ∧ win0_2.index t 1 = t.val / 3 % 2 := by decide +kernel
theorem index_3 : ∀ t : Fin grid0.N, win0_3.index t 0 = t.val / 6 ∧ win0_3.index t 1 = t.val / 3 % 2 := by decide +kernel

variable (m : (ℓ : Loc nD τ sig) → Buf (Elt Ideal) ℓ) (c : Dev nD)

/-- What a block's last step stores: its three products and the scaled addend. -/
theorem last_step (t t1 t0 : Fin cfg0.N) (h : t.val % 3 = 2) (h1 : t1.val = t.val - 1) (h0 : t0.val = t1.val - 1) :
    (outsAt0 m c t.val t.isLt).1 = k0_pay4 (F := Ideal) (iblk m c 0 t) (iblk m c 1 t)
      (k0_pay3 (F := Ideal) (iblk m c 0 t1) (iblk m c 1 t1) (k0_pay2 (F := Ideal) (iblk m c 0 t0) (iblk m c 1 t0))) (iblk m c 2 t) := by
  have e0 : (outsAt0 m c t0.val t0.isLt).2 = k0_pay2 (F := Ideal) (iblk m c 0 t0) (iblk m c 1 t0) := by
    rw [outsAt0_A m c t0 (by omega) (by omega) (by omega)]
    unfold sout0_A_0
    rw [View.read_writes_eq_canon _ _ _ (scover0_A_0 _ _ _ _ _ _ _ _ _ _ _ _ _ _ _ _ _ _)]
    unfold kernelRun0_A
    dsimp only
    sl_unfold_words
    rw [View.canon_unit_zero zero2]
    simp only [View.readAt_eq_ld, (hs0_0 t0).read_unread, (hs0_1 t0).read_unread, View.ld_unit_zero (S := S1024x2432) zero2, View.ld_unit_zero (S := S2432x1024) zero2]
  have e1 : (outsAt0 m c t1.val t1.isLt).2 = k0_pay3 (F := Ideal) (iblk m c 0 t1) (iblk m c 1 t1) (outsAt0 m c t0.val t0.isLt).2 := by
    rw [outsAt0_B m c t1 (by omega) (by omega) (by omega)]
    unfold sout0_B_0
    rw [View.read_writes_eq_canon _ _ _ (scover0_B_0 _ _ _ _ _ _ _ _ _ _ _ _ _ _ _ _ _ _ _)]
    unfold kernelRun0_B
    dsimp only
    sl_unfold_words
    rw [View.canon_unit_zero zero2]
    simp only [View.readAt_eq_ld, (hs0_0 t1).read_unread, (hs0_1 t1).read_unread, (Memref.isWhole_whole _).read_unread, View.ld_unit_zero (S := S1024x2432) zero2, View.ld_unit_zero (S := S2432x1024) zero2, View.ld_unit_zero (S := S1024x1024) zero2, h0]
  rw [outsAt0_C m c t (by omega) (by omega) h, ← e0, ← e1]
  unfold out0_C_3
  rw [View.read_writes_eq_canon _ _ _ (cover0_C_3 _ _ _ _ _ _ _ _ _ _ _ _ _ _ _ _ _ _ _)]
  unfold kernelRun0_C
  dsimp only
  sl_unfold_words
  rw [View.canon_unit_zero zero2]
  simp only [View.readAt_eq_ld, (hs0_0 t).read_unread, (hs0_1 t).read_unread, (hs0_2 t).read_unread, (Memref.isWhole_whole _).read_unread, View.ld_unit_zero (S := S1024x2432) zero2, View.ld_unit_zero (S := S2432x1024) zero2, View.ld_unit_zero (S := S1024x1024) zero2, h1]

/-! ## Their entries -/

abbrev argA : FVec Ideal ⟨2, ![4096, 7296]⟩ .bf16 := m ((c : Thread nD τ).loc main_arg0)
abbrev argB : FVec Ideal ⟨2, ![7296, 2048]⟩ .bf16 := m ((c : Thread nD τ).loc main_arg1)
abbrev argD : FVec Ideal ⟨2, ![4096, 2048]⟩ .f32 := m ((c : Thread nD τ).loc main_arg2)

theorem left_apply (t : Fin cfg0.N) (a : Fin 1024) (q : Fin 2432) (r : Fin 4096) (p : Fin 7296) (hr : r.val = 1024 * (t.val / 6) + a.val)
    (hp : p.val = 2432 * (t.val % 3) + q.val) : iblk m c 0 t (ix2 a q) = argA m c (ix2 r p) := by
  unfold iblk
  rw [View.read_apply]
  exact congrArg (argA m c) (funext fun x => Fin.ext (spot (K := 4096) (L := 7296) _ _ _ (index_0 t) a q r p hr hp x))

theorem right_apply (t : Fin cfg0.N) (q : Fin 2432) (b : Fin 1024) (p : Fin 7296) (s : Fin 2048) (hp : p.val = 2432 * (t.val % 3) + q.val)
    (hs : s.val = 1024 * (t.val / 3 % 2) + b.val) : iblk m c 1 t (ix2 q b) = argB m c (ix2 p s) := by
  unfold iblk
  rw [View.read_apply]
  exact congrArg (argB m c) (funext fun x => Fin.ext (spot (K := 7296) (L := 2048) _ _ _ (index_1 t) q b p s hp hs x))

theorem pay1_apply (A : Vec Ideal S1024x2432 .bf16) (B : Vec Ideal S2432x1024 .bf16) (a b : Fin 1024) :
    k0_pay1 A B (ix2 a b) = ∑ q : Fin 2432, A (ix2 a q) * B (ix2 q b) := by
  unfold k0_pay1
  refine (Ideal.matmul_plain_apply (M := 1024) (K := 2432) (N := 1024) none A B _ a b).trans ?_
  show Ideal.ofBits .f32 0x00000000#32 + _ = _
  rw [Ideal.ofBits_zero_f32, zero_add]
  rfl

theorem step_apply (t : Fin cfg0.N) (u v k : ℕ) (hu : t.val / 6 = u) (hv : t.val / 3 % 2 = v) (hk : t.val % 3 = k) (a b : Fin 1024) (r : Fin 4096) (s : Fin 2048)
    (hr : r.val = 1024 * u + a.val) (hs : s.val = 1024 * v + b.val) :
    k0_pay1 (F := Ideal) (iblk m c 0 t) (iblk m c 1 t) (ix2 a b) = ∑ q : Fin 2432,
      argA m c (ix2 r ⟨2432 * k + q.val, by omega⟩) * argB m c (ix2 ⟨2432 * k + q.val, by omega⟩ s) := by
  subst hu hv hk
  exact (pay1_apply _ _ a b).trans (Finset.sum_congr rfl fun q _ => congrArg₂ (· * ·) (left_apply m c t a q r _ hr rfl) (right_apply m c t q b _ s rfl hs))

/-! ## The whole array -/

abbrev whole (A : FVec Ideal ⟨2, ![4096, 7296]⟩ .bf16) (B : FVec Ideal ⟨2, ![7296, 2048]⟩ .bf16) (D : FVec Ideal ⟨2, ![4096, 2048]⟩ .f32) :
    FVec Ideal ⟨2, ![4096, 2048]⟩ .f32 :=
  addf (Host.dotGeneral Cert.InGradReferenceIdeal.dot_S4096x7296_S7296x2048_S4096x2048_1_0_0_1_n_n none A B)
    (mulf (broadcastInDim ⟨2, ![4096, 2048]⟩ ![] Cert.InGradReferenceIdeal.Gen.bcast_S_S4096x2048 (constant Cert.InGradReferenceIdeal.S_ .f32 0x3FD744FD#32)) D)

theorem whole_apply (A : FVec Ideal ⟨2, ![4096, 7296]⟩ .bf16) (B : FVec Ideal ⟨2, ![7296, 2048]⟩ .bf16) (D : FVec Ideal ⟨2, ![4096, 2048]⟩ .f32)
    (r : Fin 4096) (s : Fin 2048) : whole A B D (ix2 r s) = entry A B D r s :=
  congrArg (· + alpha * D (ix2 r s)) (StackMember.dotGeneral_plain_apply (m := 4096) (k := 7296) (n := 2048) none A B r s)

abbrev result : FVec Ideal ⟨2, ![4096, 2048]⟩ .f32 := whole (argA m c) (argB m c) (argD m c)

theorem flushed_eq (t : Fin cfg0.N) (hf : (cfg0.win 3).flush t = true) :
    (dats m 0 c).flushed 3 t = ((cfg0.win 3).blk t).view.read (Elt Ideal) (result m c) := by
  have ht : t.val < 24 := lt_of_lt_of_eq t.isLt N_0
  have h2 := (flush0_3 t).mp hf
  have hlt : ∀ k, t.val - k < cfg0.N := fun k => lt_of_le_of_lt (Nat.sub_le _ _) t.isLt
  rw [Value.flushed3, last_step m c t ⟨t.val - 1, hlt 1⟩ ⟨t.val - 2, hlt 2⟩ h2 rfl (by dsimp only; omega)]
  funext i
  obtain ⟨a, b, rfl⟩ : ∃ a b : Fin 1024, i = ix2 a b := ⟨i 0, i 1, eq_ix2 i⟩
  obtain ⟨r, hr⟩ : ∃ r : Fin 4096, r.val = 1024 * (t.val / 6) + a.val := ⟨⟨_, by omega⟩, rfl⟩
  obtain ⟨s, hs⟩ : ∃ s : Fin 2048, s.val = 1024 * (t.val / 3 % 2) + b.val := ⟨⟨_, by omega⟩, rfl⟩
  rw [View.read_apply]
  refine Eq.trans ?_ (congrArg (result m c) (funext fun x => Fin.ext (spot (K := 4096) (L := 2048) _ _ _ (index_3 t) a b
    r s hr hs x).symm))
  refine Eq.trans ?_ (whole_apply _ _ _ _ _).symm
  show k0_pay4 (F := Ideal) _ _ _ _ (ix2 a b) = _
  unfold k0_pay4 k0_pay3 k0_pay2 entry
  dsimp only
  simp only [shapeCast_self]
  rw [sum_blocks]
  refine congrArg₂ (· + ·) (congrArg₂ (· + ·) (congrArg₂ (· + ·) ?_ ?_) ?_) (congrArg (alpha * ·) ?_)
  · refine (step_apply m c ⟨t.val - 2, hlt 2⟩ (t.val / 6) (t.val / 3 % 2) 0 (by dsimp only; omega) (by dsimp only; omega) (by dsimp only; omega) a b r s hr hs).trans ?_
    simp only [Nat.mul_zero, Nat.zero_add]
  · exact step_apply m c ⟨t.val - 1, hlt 1⟩ (t.val / 6) (t.val / 3 % 2) 1 (by dsimp only; omega) (by dsimp only; omega) (by dsimp only; omega) a b r s hr hs
  · exact step_apply m c t (t.val / 6) (t.val / 3 % 2) 2 rfl rfl h2 a b r s hr hs
  · unfold iblk
    rw [View.read_apply]
    exact congrArg (argD m c) (funext fun x => Fin.ext (spot (K := 4096) (L := 2048) _ _ _ (index_2 t) a b r s hr hs x))

theorem final_eq : (dats m 0 c).arrAt 3 cfg0.N = result m c :=
  (dats m 0 c).arrAt_eq_of_cover 3 (result m c) (flushed_eq m c) fun i => by
    have h0 : (i 0 : ℕ) < 4096 := (i 0).isLt
    have h1 : (i 1 : ℕ) < 2048 := (i 1).isLt
    let t : Fin cfg0.N := ⟨6 * ((i 0 : ℕ) / 1024) + 3 * ((i 1 : ℕ) / 1024) + 2, by rw [show cfg0.N = 24 from N_0]; omega⟩
    have ht : t.val = 6 * ((i 0 : ℕ) / 1024) + 3 * ((i 1 : ℕ) / 1024) + 2 := rfl
    refine ⟨t, (flush0_3 t).mpr (by omega), ?_⟩
    show i ∈ ((View.whole main_v0).slice (win0_3.rect t)).set
    rw [View.set_slice_whole, Rect.mem_set_unit]
    exact in_tile (K := 4096) (L := 2048) (by omega) (by omega) _ i ⟨(index_3 t).1.trans (by omega), (index_3 t).2.trans (by omega)⟩

/-! ## The claims -/

theorem quiescent : Cert.quiescent_InGrad := fun m ρ _ => Cert.InGrad.Gen.frame m ρ
theorem quiescent_ideal : Cert.quiescent_InGradIdeal := fun m ρ _ => Cert.InGradIdeal.Gen.frame m ρ
theorem quiescent_ref : Cert.quiescent_InGradReferenceIdeal := fun m ρ _ =>
  (θ_run Cert.InGradReferenceIdeal.defs _ _).mono (fun r h => ⟨fun c => (h c).2, sem_eq_zero_of_no_sems (by decide) r.2⟩)
    (Cert.InGradReferenceIdeal.Value.run (F := Ideal) m ρ)
theorem preserved : Cert.preserves_InGrad_InGradIdeal := trivial

theorem algebraic : Cert.algebraic_InGradIdeal_InGradReferenceIdeal := fun m g m' g' _ hm =>
  ⟨fun _ => whole (m' (((0 : Dev 1) : Thread 1 Cert.InGradReferenceIdeal.τ).loc Cert.InGradReferenceIdeal.main_arg0))
      (m' (((0 : Dev 1) : Thread 1 Cert.InGradReferenceIdeal.τ).loc Cert.InGradReferenceIdeal.main_arg1))
      (m' (((0 : Dev 1) : Thread 1 Cert.InGradReferenceIdeal.τ).loc Cert.InGradReferenceIdeal.main_arg2)),
    (θ_run Cert.InGradIdeal.defs _ _).mono (fun r h c => by
      obtain rfl : c = 0 := Subsingleton.elim _ _
      obtain ⟨hA, hB, hD⟩ := hm 0
      exact ⟨((h 0).1.trans (final_eq m 0)).trans (by rw [result, hA, hB, hD]), (h 0).2⟩)
      (Cert.InGradIdeal.Value.run_blocks (F := Ideal) m g),
    (θ_run Cert.InGradReferenceIdeal.defs _ _).mono (fun r h c => by
      obtain rfl : c = 0 := Subsingleton.elim _ _
      exact h 0)
      (Cert.InGradReferenceIdeal.Value.run (F := Ideal) m' g')⟩

end Cert.InGradProof

end
-- ==== Proof.ProjRun.lean ====
/-
# A layer's projection with the gather of the next layer's weights: the run

`Cert.ProjProof`: on every device the kernel multiplies its rows `xb` by the transpose of the first 7168 rows of `wt_all`, a
block of the result at each grid point. Under the multiplications it sends the first 464 rows of its core's block of `shard`
to the device of the same core on each of the three other chips: three lines (`Proof.Lines`) from one source, posted at the
first grid point and waited for at the last. Over any float values.
-/
module

public import proofs.«01_k».proof.Proof.Lines
public import proofs.«01_k».proof.Proof.Staged
public import proofs.«01_k».proof.Proof.Gen.ProjIdeal.Skeleton
public import proofs.«01_k».proof.Proof.Gen.ProjIdeal.Frame

@[expose] public section

set_option maxRecDepth 16384

noncomputable section

namespace Cert.ProjProof

open Cert.ProjIdeal Cert.ProjIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Proof.Lines (UU EP ER)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The lines -/

abbrev t0 : Fin grid0.N := ⟨0, by decide⟩
theorem first_cond : k0_cond1 (grid0.coords t0) = 1#1 := by decide

/-- The device of the same core on chip `2`, `1`, `3` away. -/
def peer (j : Fin 3) (c : Dev nD) : Dev nD := match j with
  | 0 => ⟨k0_dev1 c, k0_dev1_lt _ c first_cond⟩
  | 1 => ⟨k0_dev2 c, k0_dev2_lt _ c first_cond⟩
  | 2 => ⟨k0_dev3 c, k0_dev3_lt _ c first_cond⟩
theorem peer_peer (j : Fin 3) (c : Dev nD) : peer j (peer j c) = c := by
  refine Fin.ext ?_
  have : c.val < 8 := c.isLt
  match j with
  | 0 => show k0_dev1 (peer 0 c) = _; rw [k0_dev1_eq]; unfold peer; simp only [k0_dev1_eq]; omega
  | 1 => show k0_dev2 (peer 1 c) = _; rw [k0_dev2_eq]; unfold peer; simp only [k0_dev2_eq]; omega
  | 2 => show k0_dev3 (peer 2 c) = _; rw [k0_dev3_eq]; unfold peer; simp only [k0_dev3_eq]; omega

abbrev gM : Memref sig .tc .hbm S1x2x1168x2048 .bf16 := Memref.whole main_arg2
abbrev oM : Memref sig .tc .hbm S4x2x1168x2048 .bf16 := Memref.whole main_v1_1

/-- The block device `c` sends. -/
abbrev sRow (c : Dev nD) : Memref sig .tc .hbm S1x1x464x2048 .bf16 :=
  gM.slice (Rect.unit (s := S1x2x1168x2048) (k0_off2 c) S1x1x464x2048.size (k0_off2_inb _ c first_cond)) (fun _ => rfl)
/-- The row of a result where device `c`'s block goes. -/
abbrev tRow (c : Dev nD) : Memref sig .tc .hbm S1x1x464x2048 .bf16 :=
  oM.slice (Rect.unit (s := S4x2x1168x2048) (k0_off1 c) S1x1x464x2048.size (k0_off1_inb _ c first_cond)) (fun _ => rfl)

def sndS (j : Fin 3) : DmaSem sig := match j with
  | 0 => ((cc0_scratch0.slice (Rect.unit (s := S3) ![0] S1.size inb_S3_S1_0)).squeeze S_ squeezes_S1_S_ : DmaSems sig S_).sem
  | 1 => ((cc0_scratch0.slice (Rect.unit (s := S3) ![1] S1.size inb_S3_S1_1)).squeeze S_ squeezes_S1_S_ : DmaSems sig S_).sem
  | 2 => ((cc0_scratch0.slice (Rect.unit (s := S3) ![2] S1.size inb_S3_S1_2)).squeeze S_ squeezes_S1_S_ : DmaSems sig S_).sem
def rcvS (j : Fin 3) : DmaSem sig := match j with
  | 0 => ((cc0_scratch1.slice (Rect.unit (s := S3) ![0] S1.size inb_S3_S1_0)).squeeze S_ squeezes_S1_S_ : DmaSems sig S_).sem
  | 1 => ((cc0_scratch1.slice (Rect.unit (s := S3) ![1] S1.size inb_S3_S1_1)).squeeze S_ squeezes_S1_S_ : DmaSems sig S_).sem
  | 2 => ((cc0_scratch1.slice (Rect.unit (s := S3) ![2] S1.size inb_S3_S1_2)).squeeze S_ squeezes_S1_S_ : DmaSems sig S_).sem

theorem sems_inj : Function.Injective fun x : Fin 3 × Bool => cond x.2 (rcvS x.1) (sndS x.1) := by decide

def plan : Proof.Lines.Plan nD sig (Fin 3) where
  snd := sndS
  rcv := rcvS
  peer := peer
  amt _ := (tRow 0).view.dmaCredit
  inj := sems_inj
  invol := peer_peer
  pos _ := View.dmaCredit_pos _ (by decide)

/-! ## What moves -/

/-- What `c`'s result holds on the row of its partner on line `j`: the block that partner sent. -/
def got (j : Fin 3) (c : Dev nD) : Buf (Elt F) ((c : Thread nD τ).loc main_v1_1) :=
  (tRow (peer j c)).view.write (Elt F) (m ((c : Thread nD τ).loc main_v1_1)) ((sRow (peer j c)).view.read (Elt F) (m ((peer j c : Thread nD τ).loc main_arg2))) Finset.univ

def qs (j : Fin 3) : PosShare TreeShare := match j with
  | 0 => fullShare.right.left
  | 1 => fullShare.right.right.left
  | 2 => fullShare.right.right.right

def src (j : Fin 3) (c : Dev nD) : sProp 𝕄 :=
  iprop(((c : Thread nD τ).loc main_arg2) ↦[(sRow c).view.set]{qs j} (m ((c : Thread nD τ).loc main_arg2)))
def dst (j : Fin 3) (c : Dev nD) : sProp 𝕄 := iprop(((c : Thread nD τ).loc main_v1_1) ↦[(tRow (peer j c)).view.set]{fullShare} got m j c)
/-- The place a block lands in, as launched. -/
def give (j : Fin 3) (c : Dev nD) : sProp 𝕄 := iprop(((c : Thread nD τ).loc main_v1_1) ↦[(tRow (peer j c)).view.set]{fullShare} m ((c : Thread nD τ).loc main_v1_1))
/-- A share of the operand, to read it by at the end. -/
def hold (c : Dev nD) : sProp 𝕄 := iprop(((c : Thread nD τ).loc main_arg2) ↦{fullShare.left} m ((c : Thread nD τ).loc main_arg2))
def keep (c : Dev nD) : sProp 𝕄 := iprop(hold m c ∗ src m 0 c ∗ src m 1 c ∗ src m 2 c)

instance src_storable (j : Fin 3) (c : Dev nD) : BI.Storable (upEmb : UEmb _ 𝕄) (src m j c) := by unfold src; infer_instance
instance dst_storable (j : Fin 3) (c : Dev nD) : BI.Storable (upEmb : UEmb _ 𝕄) (dst m j c) := by unfold dst; infer_instance

theorem lines (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- An index is on the row of a device exactly when it names its chip and its core, before row 464. -/
theorem mem_tRow (c : Dev nD) (i : S4x2x1168x2048.Idx) : i ∈ (tRow c).view.set ↔ ((i 0 : ℕ) = c.val / 2 ∧ (i 1 : ℕ) = c.val % 2 ∧ (i 2 : ℕ) < 464) := by
  show i ∈ ((View.whole main_v1_1).slice (Rect.unit (s := S4x2x1168x2048) (k0_off1 c) S1x1x464x2048.size (k0_off1_inb _ c first_cond))).set ↔ _
  rw [View.set_slice_whole, Rect.mem_set_unit]
  have hc : c.val < 8 := c.isLt
  have e0 : k0_off1 c 0 = 2 * (c.val / 4) + ((c.val / 2) % 2) := congrFun (k0_off1_eq c) 0
  have e1 : k0_off1 c 1 = c.val % 2 := congrFun (k0_off1_eq c) 1
  have e2 : k0_off1 c 2 = 0 := congrFun (k0_off1_eq c) 2
  have e3 : k0_off1 c 3 = 0 := congrFun (k0_off1_eq c) 3
  have s0 : S1x1x464x2048.size 0 = 1 := rfl
  have s1 : S1x1x464x2048.size 1 = 1 := rfl
  have s2 : S1x1x464x2048.size 2 = 464 := rfl
  have s3 : S1x1x464x2048.size 3 = 2048 := rfl
  have i2 : (i 2).val < 1168 := (i 2).isLt
  have i3 : (i 3).val < 2048 := (i 3).isLt
  refine ⟨fun h => ?_, fun h a => ?_⟩
  · have h0 := h 0
    have h1 := h 1
    rw [e0, s0] at h0
    rw [e1, s1] at h1
    have h2 := h 2
    rw [e2, s2] at h2
    omega
  · have ha : a = 0 ∨ a = 1 ∨ a = 2 ∨ a = 3 := (by decide : ∀ a : Fin 4, a = 0 ∨ a = 1 ∨ a = 2 ∨ a = 3) a
    obtain rfl | rfl | rfl | rfl := ha
    · rw [e0, s0]; omega
    · rw [e1, s1]; omega
    · rw [e2, s2]; omega
    · rw [e3, s3]; omega

theorem peer_chip_ne (c : Dev nD) {j k : Fin 3} (hjk : j ≠ k) : (peer j c).val / 2 ≠ (peer k c).val / 2 := by
  revert c j k; decide +kernel

theorem tRow_disjoint (c : Dev nD) {j k : Fin 3} (hjk : j ≠ k) : Disjoint (tRow (peer j c)).view.set (tRow (peer k c)).view.set :=
  Finset.disjoint_left.mpr fun i hi hk => peer_chip_ne c hjk (((mem_tRow _ i).mp hi).1.symm.trans ((mem_tRow _ i).mp hk).1)

theorem rest_split (c : Dev nD) :
    (Pipeline.unscopedRest cfg0.spec c (fun b => m ((c : Thread nD τ).loc b)) : sProp 𝕄) ⊢ iprop(keep m c ∗ bigSep Finset.univ fun j : Fin 3 => give m j c) := by
  rw [unscopedRest0_eq, lines]
  unfold keep hold src give
  iintro ⟨Ha, Ho⟩
  ihave H := (pointsTo_share (PosShare.mem_left_op_right fullShare)).1 $$ Ha
  icases H with ⟨Hl, Hr⟩
  ihave H := (pointsTo_share (PosShare.mem_left_op_right fullShare.right)).1 $$ Hr
  icases H with ⟨H0, Hr⟩
  ihave H := (pointsTo_share (PosShare.mem_left_op_right fullShare.right.right)).1 $$ Hr
  icases H with ⟨H1, H2⟩
  ihave H := (pointsTo_split_subset (Finset.subset_univ (sRow c).view.set)).1 $$ H0
  icases H with ⟨H0, -⟩
  ihave H := (pointsTo_split_subset (Finset.subset_univ (sRow c).view.set)).1 $$ H1
  icases H with ⟨H1, -⟩
  ihave H := (pointsTo_split_subset (Finset.subset_univ (sRow c).view.set)).1 $$ H2
  icases H with ⟨H2, -⟩
  ihave H := (pointsTo_split_subset (Finset.subset_univ (tRow (peer 0 c)).view.set)).1 $$ Ho
  icases H with ⟨O0, Ho⟩
  ihave H := (pointsTo_split_subset (Finset.subset_sdiff.mpr ⟨Finset.subset_univ (tRow (peer 1 c)).view.set, tRow_disjoint c (by decide)⟩)).1 $$ Ho
  icases H with ⟨O1, Ho⟩
  ihave H := (pointsTo_split_subset (Finset.subset_sdiff.mpr ⟨Finset.subset_sdiff.mpr ⟨Finset.subset_univ (tRow (peer 2 c)).view.set, tRow_disjoint c (by decide)⟩, tRow_disjoint c (by decide)⟩)).1 $$ Ho
  icases H with ⟨O2, -⟩
  isplitl [Hl H0 H1 H2]
  · isplitl [Hl]; · iexact Hl
    isplitl [H0]; · iexact H0
    isplitl [H1]; · iexact H1
    iexact H2
  · isplitl [O0]; · iexact O0
    isplitl [O1]; · iexact O1
    iexact O2

/-! ## The values of the grid points -/

/-- The grid point of a number. -/
def pt (n : ℕ) : Fin cfg0.N := ⟨n % 28, by rw [show cfg0.N = 28 from N_0]; exact Nat.mod_lt _ (by decide)⟩
theorem lt_N (t : Fin cfg0.N) : t.val < 28 := lt_of_lt_of_eq t.isLt N_0
theorem pt_val (t : Fin cfg0.N) : pt t.val = t := Fin.ext (Nat.mod_eq_of_lt (lt_N t))

/-- The blocks of the operands at a point. -/
def bA (c : Dev nD) (n : ℕ) : Vec F S1024x2048 .bf16 := iblk m c 0 (pt n)
def bB (c : Dev nD) (n : ℕ) : Vec F S1024x2048 .bf16 := X0_1 m c (pt n)

/-- What a point leaves for the result. -/
def out (c : Dev nD) (n : ℕ) : Vec F S1024x1024 .bf16 := k0_pay1 (bA m c n) (bB m c n)

/-- The lines before point `n`. -/
def state (c : Dev nD) (n : ℕ) : sProp 𝕄 :=
  if n = 0 then iprop(keep m c ∗ plan.ready (src m) (dst m) (give m) c 0 ∗ plan.ready (src m) (dst m) (give m) c 1 ∗ plan.ready (src m) (dst m) (give m) c 2)
  else if n < 28 then iprop(hold m c ∗ plan.flying (src m) (dst m) c 0 ∗ plan.flying (src m) (dst m) c 1 ∗ plan.flying (src m) (dst m) c 2)
  else iprop((hold m c ∗ dst m 0 c ∗ dst m 1 c ∗ dst m 2 c) ∗ plan.over c 0 ∗ plan.over c 1 ∗ plan.over c 2)

def O₀ : Dev nD → CellTallies nD τ sig Unit := plan.due Finset.univ

def dats (_ : Fin 1) (c : Dev nD) : Dat τ (Elt F) Unit ℕ (UU nD τ sig) ℕ cfg0 c where
  A w := m ((cfg0.win w).arr.view.loc (c : Thread nD τ))
  after w t := match w with
    | 0 => iblk m c 0 t
    | 1 => X0_1 m c t
    | 2 => out m c t.val
    | ⟨_ + 3, h⟩ => absurd h (Nat.not_lt.2 (Nat.le_add_left _ _))
  Φ t := state m c t.val
  q _ := fullShare
  owed t := if t.val = 0 then O₀ c else 0

abbrev 𝒱₀ : Variants := Variants.none

theorem before_0 (c : Dev nD) (t : Fin cfg0.N) (d) : (dats m 0 c).before 0 t d = bA m c t.val := by
  rw [(dats m 0 c).before_in_eq_fetched 0 rfl (fun _ => rfl) (fun _ _ _ => rfl) (fun t => rfl) t d]
  unfold bA; rw [pt_val]; rfl
/-- No block of `wt_all` the grid reaches runs over its end, so a fetch fills the whole buffer. -/
theorem before_1 (c : Dev nD) (t : Fin cfg0.N) (d) : (dats m 0 c).before 1 t d = bB m c t.val := by
  rw [(dats m 0 c).before_in_eq_fetched 1 rfl (fun _ => rfl)
    (fun t t' h => funext fun a => congrArg (fun n => Pipeline.Clip.of n ((cfg0.win 1).size a) (S7296x2048.size a)) (congrFun h a))
    (fun t => (cfg0.win 1).cut_fill _ _ _) t d]
  unfold bB; rw [pt_val]
  unfold X0_1
  exact fill0_1 t d dflt0_1 _

/-! ## The branches -/

theorem cond1_iff : ∀ t : Fin grid0.N, k0_cond1 (grid0.coords t) = 1#1 ↔ t.val = 0 := by decide +kernel
theorem cond2_iff : ∀ t : Fin grid0.N, k0_cond2 (grid0.coords t) = 1#1 ↔ t.val = 27 := by decide +kernel

/-- The operands' buffers before the body of a point. -/
abbrev ins (c : Dev nD) (t : Fin cfg0.N) : sProp 𝕄 :=
  iprop(owns (c : Thread nD τ) (st0_0 t) fullShare (bA m c t.val) ∗ owns (c : Thread nD τ) (st0_1 t) fullShare (bB m c t.val))

theorem owed_first (c : Dev nD) (t : Fin (cfg0.N + 1)) (h : t.val = 0) : (dats m 0 c).owed t = plan.due Finset.univ c := if_pos h
theorem owed_later (c : Dev nD) (t : Fin (cfg0.N + 1)) (h : t.val ≠ 0) : (dats m 0 c).owed t = 0 := if_neg h
theorem state_first (c : Dev nD) (n : ℕ) (h : n = 0) : state m c n
    = iprop(keep m c ∗ plan.ready (src m) (dst m) (give m) c 0 ∗ plan.ready (src m) (dst m) (give m) c 1 ∗ plan.ready (src m) (dst m) (give m) c 2) := if_pos h
theorem state_mid (c : Dev nD) (n : ℕ) (h : n ≠ 0) (h' : n < 28) : state m c n
    = iprop(hold m c ∗ plan.flying (src m) (dst m) c 0 ∗ plan.flying (src m) (dst m) c 1 ∗ plan.flying (src m) (dst m) c 2) := (if_neg h).trans (if_pos h')
theorem state_last (c : Dev nD) (n : ℕ) (h' : ¬ n < 28) : state m c n
    = iprop((hold m c ∗ dst m 0 c ∗ dst m 1 c ∗ dst m 2 c) ∗ plan.over c 0 ∗ plan.over c 1 ∗ plan.over c 2) :=
  (if_neg (by omega)).trans (if_neg h')

theorem hz : (![0, 0] : Fin 2 → ℕ) = fun _ => 0 := funext fun a => by fin_cases a <;> rfl

/-- A point between the first and the last. -/
theorem wp_mid (c : Dev nD) (t : Fin cfg0.N) (h0 : t.val ≠ 0) (h27 : t.val ≠ 27) (X : S1024x1024.Idx → F .bf16) (Kt : PUnit → sProp 𝕄) :
    iprop((ins m c t ∗ owns (c : Thread nD τ) (st0_2 t) fullShare X ∗ state m c t.val)
        ∗ ((ins m c t ∗ owns (c : Thread nD τ) (st0_2 t) fullShare (out m c t.val) ∗ state m c (t.val + 1)) -∗ Kt ⟨⟩))
      ⊢ wp frame (wpE (defs₀ (F := F)) 𝒱₀ c none) Set.univ (bodyAt0 t) Kt := by
  have hN := lt_N t
  unfold bodyAt0
  simp only [cc0_proj_main_eq_skeleton]; unfold cc0_proj_main_skel
  dsimp only
  simp only [dif_neg (mt (cond1_iff t).mp h0), dif_neg (mt (cond2_iff t).mp h27), Prog.lift, Prog.bind_op, Prog.bind_ret, Prog.pure_eq_ret]
  rw [state_mid m c t.val (by omega) hN, state_mid m c (t.val + 1) (by omega) (by omega)]
  iintro ⟨⟨⟨HA, HB⟩, HX, HL⟩, Hk⟩
  iapply (Proof.Staged.wp_read 𝒱₀ (c : Thread nD τ) hz) $$ HA; iintro HA
  iapply (Proof.Staged.wp_read 𝒱₀ (c : Thread nD τ) hz) $$ HB; iintro HB
  iapply (Proof.Staged.wp_read 𝒱₀ (c : Thread nD τ) hz) $$ HX; iintro HX
  iapply (Proof.Staged.wp_fill 𝒱₀ (c : Thread nD τ) hz) $$ HX; iintro HX
  rw [wp_ret]; imodintro
  iapply Hk
  isplitl [HA HB]
  · isplitl [HA] <;> iassumption
  isplitl [HX]; · iexact HX
  iexact HL

set_option maxHeartbeats 2000000 in
/-- The first point: the block is sent on every line. -/
theorem wp_first (c : Dev nD) (t : Fin cfg0.N) (h0 : t.val = 0) (X : S1024x1024.Idx → F .bf16) (Kt : PUnit → sProp 𝕄) :
    iprop((ins m c t ∗ owns (c : Thread nD τ) (st0_2 t) fullShare X ∗ state m c t.val ∗ (dats m 0 c).owesAt () t.castSucc)
        ∗ ((ins m c t ∗ owns (c : Thread nD τ) (st0_2 t) fullShare (out m c t.val) ∗ state m c (t.val + 1) ∗ (dats m 0 c).owesAt () t.succ) -∗ Kt ⟨⟩))
      ⊢ wp frame (wpE (defs₀ (F := F)) 𝒱₀ c none) Set.univ (bodyAt0 t) Kt := by
  have hN := lt_N t
  unfold bodyAt0
  simp only [cc0_proj_main_eq_skeleton]; unfold cc0_proj_main_skel
  simp only [k0_part1_eq_skeleton]; unfold k0_part1_skel
  dsimp only
  simp only [dif_pos ((cond1_iff t).mpr h0), dif_neg (mt (cond2_iff t).mp (by omega : ¬ t.val = 27)),
    Prog.lift, Prog.bind_op, Prog.bind_ret, Prog.pure_eq_ret, wp_deviceId]
  unfold Dat.owesAt Pipeline.owesWithin
  rw [owed_first m c t.castSucc h0, owed_later m c t.succ (Nat.succ_ne_zero t.val), state_first m c t.val h0,
    state_mid m c (t.val + 1) (by omega) (by omega)]
  unfold keep
  iintro ⟨⟨⟨HA, HB⟩, HX, ⟨⟨Hh, S0, S1, S2⟩, L0, L1, L2⟩, %W, %hW, HO⟩, Hk⟩
  unfold src
  iapply (plan.wp_post (src m) (dst m) c 0 𝒱₀ (give m) (n := peer 0 c) rfl (sm := sRow c) (dm := tRow c) rfl rfl
      (q := qs 0) (fs := m ((c : Thread nD τ).loc main_arg2)) (fd := m ((peer 0 c : Thread nD τ).loc main_v1_1)) rfl
      (by unfold give; rw [peer_peer]) (BI.Entails.refl _)
      (by unfold dst got; rw [peer_peer]) (Finset.mem_univ 0) (W := W)) $$ [L0 S0 HO]
  · isplitl [L0]; · iexact L0
    isplitl [S0] <;> iassumption
  iintro ⟨L0, HO⟩
  iapply (plan.wp_post (src m) (dst m) c 1 𝒱₀ (give m) (n := peer 1 c) rfl (sm := sRow c) (dm := tRow c) rfl rfl
      (q := qs 1) (fs := m ((c : Thread nD τ).loc main_arg2)) (fd := m ((peer 1 c : Thread nD τ).loc main_v1_1)) rfl
      (by unfold give; rw [peer_peer]) (BI.Entails.refl _)
      (by unfold dst got; rw [peer_peer]) (t := Finset.univ.erase 0) (by decide) (W := W)) $$ [L1 S1 HO]
  · isplitl [L1]; · iexact L1
    isplitl [S1] <;> iassumption
  iintro ⟨L1, HO⟩
  iapply (plan.wp_post (src m) (dst m) c 2 𝒱₀ (give m) (n := peer 2 c) rfl (sm := sRow c) (dm := tRow c) rfl rfl
      (q := qs 2) (fs := m ((c : Thread nD τ).loc main_arg2)) (fd := m ((peer 2 c : Thread nD τ).loc main_v1_1)) rfl
      (by unfold give; rw [peer_peer]) (BI.Entails.refl _)
      (by unfold dst got; rw [peer_peer]) (t := (Finset.univ.erase 0).erase 1) (by decide) (W := W)) $$ [L2 S2 HO]
  · isplitl [L2]; · iexact L2
    isplitl [S2] <;> iassumption
  iintro ⟨L2, HO⟩
  rw [show ((Finset.univ.erase (0 : Fin 3)).erase 1).erase 2 = ∅ from by decide, Proof.Lines.Plan.due_empty]
  iapply (Proof.Staged.wp_read 𝒱₀ (c : Thread nD τ) hz) $$ HA; iintro HA
  iapply (Proof.Staged.wp_read 𝒱₀ (c : Thread nD τ) hz) $$ HB; iintro HB
  iapply (Proof.Staged.wp_read 𝒱₀ (c : Thread nD τ) hz) $$ HX; iintro HX
  iapply (Proof.Staged.wp_fill 𝒱₀ (c : Thread nD τ) hz) $$ HX; iintro HX
  rw [wp_ret]; imodintro
  iapply Hk
  isplitl [HA HB]
  · isplitl [HA] <;> iassumption
  isplitl [HX]; · iexact HX
  isplitr [HO]
  · isplitl [Hh]; · iexact Hh
    isplitl [L0]; · iexact L0
    isplitl [L1]; · iexact L1
    iexact L2
  · iexists W
    isplitr; · ipureintro; exact fun _ _ => Or.inl trivial
    iexact HO

set_option maxHeartbeats 2000000 in
/-- The last point: every line is waited for. -/
theorem wp_last (c : Dev nD) (t : Fin cfg0.N) (h27 : t.val = 27) (X : S1024x1024.Idx → F .bf16) (Kt : PUnit → sProp 𝕄) :
    iprop((ins m c t ∗ owns (c : Thread nD τ) (st0_2 t) fullShare X ∗ state m c t.val ∗ (dats m 0 c).owesAt () t.castSucc)
        ∗ ((ins m c t ∗ owns (c : Thread nD τ) (st0_2 t) fullShare (out m c t.val) ∗ state m c (t.val + 1) ∗ (dats m 0 c).owesAt () t.succ) -∗ Kt ⟨⟩))
      ⊢ wp frame (wpE (defs₀ (F := F)) 𝒱₀ c none) Set.univ (bodyAt0 t) Kt := by
  have hN := lt_N t
  unfold bodyAt0
  simp only [cc0_proj_main_eq_skeleton]; unfold cc0_proj_main_skel
  simp only [k0_part2_eq_skeleton, k0_part3_eq_skeleton]; unfold k0_part2_skel k0_part3_skel
  dsimp only
  simp only [dif_neg (mt (cond1_iff t).mp (by omega : ¬ t.val = 0)), dif_pos ((cond2_iff t).mpr h27),
    Prog.lift, Prog.bind_op, Prog.bind_ret, Prog.pure_eq_ret, wp_deviceId]
  unfold Dat.owesAt Pipeline.owesWithin
  rw [owed_later m c t.castSucc (by show ¬ t.val = 0; omega), owed_later m c t.succ (Nat.succ_ne_zero t.val), state_mid m c t.val (by omega) hN,
    state_last m c (t.val + 1) (by omega)]
  iintro ⟨⟨⟨HA, HB⟩, HX, ⟨Hh, L0, L1, L2⟩, %W, %hW, HO⟩, Hk⟩
  iapply (Proof.Staged.wp_read 𝒱₀ (c : Thread nD τ) hz) $$ HA; iintro HA
  iapply (Proof.Staged.wp_read 𝒱₀ (c : Thread nD τ) hz) $$ HB; iintro HB
  iapply (Proof.Staged.wp_read 𝒱₀ (c : Thread nD τ) hz) $$ HX; iintro HX
  iapply (Proof.Staged.wp_fill 𝒱₀ (c : Thread nD τ) hz) $$ HX; iintro HX
  rw [wp_deviceId]
  iapply (plan.wp_left (src m) (dst m) c 0 𝒱₀ (wpE_waitDma2_eq 𝒱₀ (c : Thread nD τ) none Set.univ) rfl rfl) $$ [L0 HO]
  · isplitl [L0] <;> iassumption
  iintro ⟨L0, -, %W0, HO⟩
  iapply (plan.wp_left (src m) (dst m) c 1 𝒱₀ (wpE_waitDma2_eq 𝒱₀ (c : Thread nD τ) none Set.univ) rfl rfl) $$ [L1 HO]
  · isplitl [L1] <;> iassumption
  iintro ⟨L1, -, %W1, HO⟩
  iapply (plan.wp_left (src m) (dst m) c 2 𝒱₀ (wpE_waitDma2_eq 𝒱₀ (c : Thread nD τ) none Set.univ) rfl rfl) $$ [L2 HO]
  · isplitl [L2] <;> iassumption
  iintro ⟨L2, -, %W2, HO⟩
  iapply (plan.wp_came (src m) (dst m) c 0 𝒱₀ (wpE_waitDma2_eq 𝒱₀ (c : Thread nD τ) none Set.univ) rfl rfl) $$ [L0 HO]
  · isplitl [L0] <;> iassumption
  iintro ⟨L0, D0, %W3, HO⟩
  iapply (plan.wp_came (src m) (dst m) c 1 𝒱₀ (wpE_waitDma2_eq 𝒱₀ (c : Thread nD τ) none Set.univ) rfl rfl) $$ [L1 HO]
  · isplitl [L1] <;> iassumption
  iintro ⟨L1, D1, %W4, HO⟩
  iapply (plan.wp_came (src m) (dst m) c 2 𝒱₀ (wpE_waitDma2_eq 𝒱₀ (c : Thread nD τ) none Set.univ) rfl rfl) $$ [L2 HO]
  · isplitl [L2] <;> iassumption
  iintro ⟨L2, D2, %W5, HO⟩
  rw [wp_ret]; imodintro
  iapply Hk
  isplitl [HA HB]
  · isplitl [HA] <;> iassumption
  isplitl [HX]; · iexact HX
  isplitr [HO]
  · isplitl [Hh D0 D1 D2]
    · isplitl [Hh]; · iexact Hh
      isplitl [D0]; · iexact D0
      isplitl [D1]; · iexact D1
      iexact D2
    · isplitl [L0]; · iexact L0
      isplitl [L1]; · iexact L1
      iexact L2
  · iexists W5
    isplitr; · ipureintro; exact fun _ _ => Or.inl trivial
    iexact HO

theorem leaves_0 (c : Dev nD) (t : Fin cfg0.N) : (dats m 0 c).leavesExact 0 t = owns (c : Thread nD τ) (st0_0 t) fullShare (bA m c t.val) := by
  unfold bA; rw [pt_val]; rfl
theorem leaves_1 (c : Dev nD) (t : Fin cfg0.N) : (dats m 0 c).leavesExact 1 t = owns (c : Thread nD τ) (st0_1 t) fullShare (bB m c t.val) := by
  unfold bB; rw [pt_val]; rfl
theorem leaves_2 (c : Dev nD) (t : Fin cfg0.N) : (dats m 0 c).leavesExact 2 t = owns (c : Thread nD τ) (st0_2 t) fullShare (out m c t.val) := rfl

/-- What is owed does not change after the first point. -/
theorem owes_mid (c : Dev nD) (t : Fin cfg0.N) (h : t.val ≠ 0) : (dats m 0 c).owesAt () t.castSucc ⊢ (dats m 0 c).owesAt () t.succ := by
  unfold Dat.owesAt Pipeline.owesWithin
  rw [owed_later m c t.castSucc h, owed_later m c t.succ (Nat.succ_ne_zero t.val)]
  iintro ⟨%W, -, HO⟩
  iexists W
  isplitr; · ipureintro; exact fun _ _ => Or.inl trivial
  iexact HO

theorem body_obligation (c : Dev nD) : BodyObligation (dats (F := F) m 0 c) (defs₀ (F := F)) 𝒱₀ () Set.univ := fun t => by
  rw [bigSep_W0, bigSep_W0]
  show iprop(state m c t.val ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) 𝒱₀ c none) Set.univ (bodyAt0 t) (fun _ => iprop(state m c (t.val + 1) ∗ (dats m 0 c).owesAt () t.succ
      ∗ (dats m 0 c).leavesExact 0 t ∗ (dats m 0 c).leavesExact 1 t ∗ (dats m 0 c).leavesExact 2 t))
  rw [leaves_0, leaves_1, leaves_2]
  simp only [before_0, before_1]
  iintro ⟨HΦ, HO, ⟨%d0, H0⟩, ⟨%d1, H1⟩, %d2, H2⟩
  by_cases h0 : t.val = 0
  · iapply (wp_first m c t h0 _ _)
    isplitl [H0 H1 H2 HΦ HO]
    · isplitl [H0 H1]
      · isplitl [H0] <;> iassumption
      isplitl [H2]; · iexact H2
      isplitl [HΦ] <;> iassumption
    · iintro ⟨⟨H0, H1⟩, H2, HΦ, HO⟩
      isplitl [HΦ]; · iexact HΦ
      isplitl [HO]; · iexact HO
      isplitl [H0]; · iexact H0
      isplitl [H1] <;> iassumption
  by_cases h27 : t.val = 27
  · iapply (wp_last m c t h27 _ _)
    isplitl [H0 H1 H2 HΦ HO]
    · isplitl [H0 H1]
      · isplitl [H0] <;> iassumption
      isplitl [H2]; · iexact H2
      isplitl [HΦ] <;> iassumption
    · iintro ⟨⟨H0, H1⟩, H2, HΦ, HO⟩
      isplitl [HΦ]; · iexact HΦ
      isplitl [HO]; · iexact HO
      isplitl [H0]; · iexact H0
      isplitl [H1] <;> iassumption
  · ihave HO := (owes_mid m c t h0) $$ HO
    iapply (wp_mid m c t h0 h27 _ _)
    isplitl [H0 H1 H2 HΦ]
    · isplitl [H0 H1]
      · isplitl [H0] <;> iassumption
      isplitl [H2]; · iexact H2
      iexact HΦ
    · iintro ⟨⟨H0, H1⟩, H2, HΦ⟩
      isplitl [HΦ]; · iexact HΦ
      isplitl [HO]; · iexact HO
      isplitl [H0]; · iexact H0
      isplitl [H1] <;> iassumption

/-! ## The run -/

def u₀ : UU nD τ sig := (initOf (Pipeline.cells cfgs cellOf_inj) (Pipeline.launchToks cfgs cellOf_inj), initOf plan.cells plan.toks)

/-- What a device's arrays hold at the end that no window stages. -/
def rest (c : Dev nD) (s : MemSt nD τ sig (Elt F)) : Prop :=
  s.mem ((c : Thread nD τ).loc main_arg2) = m ((c : Thread nD τ).loc main_arg2)
    ∧ ∀ j : Fin 3, ∀ i ∈ (tRow (peer j c)).view.set, s.mem ((c : Thread nD τ).loc main_v1_1) i = got m j c i

theorem ends (c : Dev nD) (s' : Phys nD τ sig (Elt F)) :
    iprop((hold m c ∗ dst m 0 c ∗ dst m 1 c ∗ dst m 2 c) ∗ emp ∗ SI s') ⊢ (|={Set.univ}=> iprop(⌜rest m c s'.mem⌝ ∗ SI s') : sProp 𝕄) := by
  unfold hold dst rest
  iintro ⟨⟨Hh, D0, D1, D2⟩, -, HSI⟩
  ihave %h := SI_pointsTo_agree $$ [HSI Hh]
  · isplitl [HSI] <;> iassumption
  ihave %h0 := SI_pointsTo_agree $$ [HSI D0]
  · isplitl [HSI] <;> iassumption
  ihave %h1 := SI_pointsTo_agree $$ [HSI D1]
  · isplitl [HSI] <;> iassumption
  ihave %h2 := SI_pointsTo_agree $$ [HSI D2]
  · isplitl [HSI] <;> iassumption
  imodintro
  isplitr
  · ipureintro
    refine ⟨funext fun i => h i (Finset.mem_univ i), fun j => ?_⟩
    fin_cases j
    · exact fun i hi => h0 i hi
    · exact fun i hi => h1 i hi
    · exact fun i hi => h2 i hi
  · iexact HSI

theorem ownSemFacts : Pipeline.OwnSemFacts cfg0.spec plan.osem := by decide

/-- A staging semaphore is no line's. -/
theorem stage_ne : ∀ (w : Fin cfg0.W) (s : Fin (cfg0.win w).nbuf) (j : Fin 3), (cfg0.win w).sem s ≠ plan.rcv j := by decide

/-- From any memory with zero counters every weakly fair execution of `@main` terminates, each staged array at its
    written blocks, the rows exchanged in place, and every counter at zero. -/
theorem run_main : θ_run defs (onTc (τ := τ) (main (F := F))) ⟨m, fun _ => 0, ρ⟩
    (fun r => (∀ c : Dev nD, (∀ w, r.2.mem ((cfg0.win w).arr.view.loc (c : Thread nD τ)) = (dats m 0 c).arrAt w cfg0.N) ∧ rest m c r.2)
      ∧ r.2.sem = fun _ => 0) :=
  Proof.Launch.run_owing (fun p => (cfgs p).toPCfg) (fun _ p => (cfgs p).toPCfg_adm) (fun p c => (dats m p c).toR) () cellOf_inj (0 : Fin 1)
    winFacts0.to₀ (osem := plan.osem) ownSemFacts EP defs₀ 𝒱₀ m ρ main
    (hmain := fun _ => rfl)
    (hbody := fun c => (Pipeline.BodyObligation.loose (dats m 0 c) (body_obligation m c)).toR) (hne := block_pos0) (harr := arr_whole0) (hstage := stage_whole0)
    (hshare := Pipeline.SharedIn.of_injective winFacts0.arr_inj)
    (hq := fun c w hw => (dats m 0 c).q_eq_shareOf_of_share_full winFacts0.arr_inj (fun w => by fin_cases w <;> rfl) w hw)
    (O₀ := O₀) (howed₀ := fun _ => rfl) (howedN := fun _ => rfl)
    (L := Proof.Lines.Plan.L) (lv := plan.lv) (hL := Proof.Lines.Plan.L_of_ne)
    (hwaits := fun c => Pipeline.cellsWaits_intro cfgs (dats m) () 0 c fun w s t => by
      by_cases h : t.val = 0
      · rw [owed_first m c t h]; exact plan.mayWait c Finset.univ _ (stage_ne w s)
      · rw [owed_later m c t h, MayWait_zero]; iintro -; iempintro)
    (G := plan.G (src m) (dst m)) (G' := plan.G' (src m) (dst m) (keep m) (give m)) (u₀ := u₀)
    (hu₀ := by
      unfold u₀
      iintro Hu
      ihave H := (ownU_pair _ _) $$ Hu
      icases H with ⟨HP, HX⟩
      imod (plan.fund (src m) (dst m)) $$ HX with HG
      imodintro
      isplitl [HP] <;> iassumption)
    (hglob := plan.glob (src m) (dst m) (keep m) (give m) _ _ (rest_split m))
    (hA := fun _ _ => rfl) (hpre := fun c => by
      unfold Pipeline.prefHeld
      rw [show (Finset.univ : Finset (Fin 0)) = ∅ from rfl, bigSep_empty])
    (X := fun c => iprop(keep m c ∗ bigSep Finset.univ fun j => plan.ready (src m) (dst m) (give m) c j))
    (Y := fun c => iprop(hold m c ∗ dst m 0 c ∗ dst m 1 c ∗ dst m 2 c)) (Z := fun _ => iprop(emp))
    (hX := fun c => plan.start (src m) (dst m) c (keep m) (give m) _)
    (hin := fun c => by
      show iprop(_ ∗ Pipeline.scopedRest spec0 c) ⊢ state m c 0
      rw [scopedRest0_eq c, lines, state_first m c 0 rfl]
      exact BI.Laws.sep_elim_left)
    (hout := fun c => by
      show state m c 28 ⊢ iprop((hold m c ∗ dst m 0 c ∗ dst m 1 c ∗ dst m 2 c) ∗ Pipeline.ownSems0 plan.osem c ∗ Pipeline.scopedRest spec0 c)
      rw [scopedRest0_eq c, plan.over_sems, lines, state_last m c 28 (by omega)]
      iintro ⟨H1, H2⟩
      isplitl [H1]; · iexact H1
      isplitl [H2]; · iexact H2
      iempintro)
    (QY := rest m) (hY := ends m)
    (hQ := fun _ h hs => ⟨fun c => ⟨fun w => ((dats m 0 c).toR_arrAt_iff w _ _).mp ((h c).1 w), (h c).2⟩, sem_eq_zero_of_scoped (by decide) hs⟩)

end Cert.ProjProof

end
-- ==== Proof.ProjValue.lean ====
/-
# A layer's projection with the gather of the next layer's weights: its product

`Cert.ProjProof.prod_eq`: the blocks a device's grid points leave are together its rows of the whole product of `xb` with the
transpose of the first 7168 rows of `wt_all`.
-/
module

public import proofs.«01_k».proof.Proof.ProjRun
public import proofs.«01_k».proof.Proof.Gen.ProjReferenceIdeal
public import proofs.«01_k».proof.Proof.Products

@[expose] public section

set_option maxRecDepth 16384

noncomputable section

namespace Cert.ProjProof

open Cert.ProjIdeal Cert.ProjIdeal.Gen
open Idealize.ShloMosaic Idealize.ShloMosaic.TcCoe
open Cert.Products (spot in_tile)
open Idealize.ShloMosaic.Pipeline (Dat)
open scoped BigOperators

theorem index_0 : ∀ t : Fin grid0.N, win0_0.index t 0 = t.val / 7 ∧ win0_0.index t 1 = 0 := by decide +kernel
theorem index_1 : ∀ t : Fin grid0.N, win0_1.index t 0 = t.val % 7 ∧ win0_1.index t 1 = 0 := by decide +kernel
theorem index_2 : ∀ t : Fin grid0.N, win0_2.index t 0 = t.val / 7 ∧ win0_2.index t 1 = t.val % 7 := by decide +kernel

section
variable {F : FTy → Type} [FloatOps F]
variable (m : (ℓ : Loc nD τ sig) → Buf (Elt F) ℓ) (c : Dev nD)

theorem bA_apply (t : Fin cfg0.N) (a : Fin 1024) (p : Fin 2048) (r : Fin 4096) (hr : r.val = 1024 * (t.val / 7) + a.val) :
    bA m c t.val (ix2 a p) = m ((c : Thread nD τ).loc main_arg0) (ix2 r p) := by
  unfold bA iblk
  rw [pt_val, View.read_apply]
  exact congrArg (m ((c : Thread nD τ).loc main_arg0)) (funext fun x => Fin.ext (spot _ _ _ (index_0 t) a p r p (by omega) (by omega) x))

theorem bB_apply (t : Fin cfg0.N) (b : Fin 1024) (p : Fin 2048) (s : Fin 7296) (hs : s.val = 1024 * (t.val % 7) + b.val) :
    bB m c t.val (ix2 b p) = m ((c : Thread nD τ).loc main_arg1) (ix2 s p) := by
  unfold bB X0_1 Pipeline.Window.fill
  rw [pt_val, dif_pos (moved0_1 t _)]
  unfold iblk
  rw [View.read_apply]
  exact congrArg (m ((c : Thread nD τ).loc main_arg1)) (funext fun x => Fin.ext (spot _ _ _ (index_1 t) b p s p (by omega) (by omega) x))

end

variable (m : (ℓ : Loc nD τ sig) → Buf (Elt Ideal) ℓ) (c : Dev nD)

/-- An entry of a device's product. -/
def entry (A : (⟨2, ![4096, 2048]⟩ : Shape).Idx → Ideal .bf16) (B : (⟨2, ![7296, 2048]⟩ : Shape).Idx → Ideal .bf16) (r : Fin 4096) (s : Fin 7168) :
    Ideal .bf16 := ∑ p : Fin 2048, A (ix2 r p) * B (ix2 (⟨s.val, by omega⟩ : Fin 7296) p)

theorem pay1_apply (A B : Vec Ideal S1024x2048 .bf16) (a b : Fin 1024) : k0_pay1 A B (ix2 a b) = ∑ p : Fin 2048, A (ix2 a p) * B (ix2 b p) := by
  unfold k0_pay1
  rw [shapeCast_self, shapeCast_self]
  show FloatOps.matmul (F := Ideal) (φ₁ := .bf16) (φ₂ := .bf16) (DotDims.transposedRhs 1024 2048 1024) none A B (constant S1024x1024 .f32 0x00000000#32) (ix2 a b) = _
  refine (Ideal.matmul_transposedRhs_apply (M := 1024) (K := 2048) (N := 1024) (φ₁ := .bf16) (φ₂ := .bf16) none A B _ a b).trans ?_
  show Ideal.ofBits .f32 0x00000000#32 + _ = _
  rw [Ideal.ofBits_zero_f32, zero_add]
  rfl

theorem out_apply (t : Fin cfg0.N) (a b : Fin 1024) (r : Fin 4096) (s : Fin 7168) (hr : r.val = 1024 * (t.val / 7) + a.val)
    (hs : s.val = 1024 * (t.val % 7) + b.val) :
    out m c t.val (ix2 a b) = entry (m ((c : Thread nD τ).loc main_arg0)) (m ((c : Thread nD τ).loc main_arg1)) r s := by
  unfold out entry
  rw [pay1_apply]
  exact Finset.sum_congr rfl fun p _ => congrArg₂ (· * ·) (bA_apply m c t a p r hr) (bB_apply m c t b p ⟨s.val, _⟩ hs)

/-- A device's product. -/
def prod : Buf (Elt Ideal) ((c : Thread nD τ).loc main_v1_0) := fun i : (⟨2, ![4096, 7168]⟩ : Shape).Idx =>
  entry (m ((c : Thread nD τ).loc main_arg0)) (m ((c : Thread nD τ).loc main_arg1)) (i 0) (i 1)

theorem flushed_eq (t : Fin cfg0.N) (_ : (cfg0.win 2).flush t = true) :
    (dats m 0 c).flushed 2 t = ((cfg0.win 2).blk t).view.read (Elt Ideal) (prod m c) := by
  funext i
  obtain ⟨a, b, rfl⟩ : ∃ (a b : Fin 1024), i = ix2 a b := ⟨i 0, i 1, eq_ix2 i⟩
  show out m c t.val (ix2 a b) = _
  rw [View.read_apply]
  have hN := lt_N t
  refine out_apply m c t a b _ _ ?_ ?_
  · show win0_2.index t 0 * 1024 + 1 * a.val = _; rw [(index_2 t).1]; omega
  · show win0_2.index t 1 * 1024 + 1 * b.val = _; rw [(index_2 t).2]; omega

theorem final_eq : (dats m 0 c).arrAt 2 cfg0.N = prod m c :=
  (dats m 0 c).arrAt_eq_of_cover 2 (prod m c) (flushed_eq m c) fun i => by
    have h0 : (i 0 : ℕ) < 4096 := (i 0).isLt
    have h1 : (i 1 : ℕ) < 7168 := (i 1).isLt
    let t : Fin cfg0.N := ⟨7 * ((i 0 : ℕ) / 1024) + (i 1 : ℕ) / 1024, by rw [show cfg0.N = 28 from N_0]; omega⟩
    have ht : t.val = 7 * ((i 0 : ℕ) / 1024) + (i 1 : ℕ) / 1024 := rfl
    refine ⟨t, flush0_2 t, ?_⟩
    show i ∈ ((View.whole main_v1_0).slice (win0_2.rect t)).set
    rw [View.set_slice_whole, Rect.mem_set_unit]
    exact in_tile (k := 1024) (l := 1024) (by omega) (by omega) _ i ⟨(index_2 t).1.trans (by omega), (index_2 t).2.trans (by omega)⟩

/-- The weights the reference multiplies by: the first 7168 rows of `wt_all`, transposed. -/
abbrev turned (B : (⟨2, ![7296, 2048]⟩ : Shape).Idx → Ideal .bf16) : (⟨2, ![2048, 7168]⟩ : Shape).Idx → Ideal .bf16 :=
  transpose ⟨2, ![2048, 7168]⟩ [1, 0] (extractStridedSlice ⟨2, ![7168, 2048]⟩ ![0, 0] B Cert.ProjReferenceIdeal.Gen.slices_S7296x2048_S7168x2048_0_0)
    Cert.ProjReferenceIdeal.Gen.transposes_S7168x2048_S2048x7168_1_0

/-- The reference's product. -/
abbrev wholeProd (A : (⟨2, ![32768, 2048]⟩ : Shape).Idx → Ideal .bf16) (B : (⟨2, ![7296, 2048]⟩ : Shape).Idx → Ideal .bf16) :
    (⟨2, ![32768, 7168]⟩ : Shape).Idx → Ideal .bf16 :=
  truncf .bf16 (Host.dotGeneral Cert.ProjReferenceIdeal.dot_S32768x2048_S2048x7168_S32768x7168_1_0_0_1_n_n none A (turned B)) Cert.ProjReferenceIdeal.Gen.bitsLt_bf16_f32

theorem turned_apply (B : (⟨2, ![7296, 2048]⟩ : Shape).Idx → Ideal .bf16) (p : Fin 2048) (s : Fin 7168) :
    turned B (ix2 p s) = B (ix2 (⟨s.val, by omega⟩ : Fin 7296) p) := by
  unfold turned
  refine (transpose_apply _ _ _ (ix2 p s) (ix2 s p) fun b => ?_).trans (extractStridedSlice_apply _ B _ (ix2 s p) _ fun a => ?_)
  · match b with
    | ⟨0, _⟩ => rfl
    | ⟨1, _⟩ => rfl
  · match a with
    | ⟨0, _⟩ => exact (Nat.zero_add _).symm
    | ⟨1, _⟩ => exact (Nat.zero_add _).symm

theorem prod_eq (A : (⟨2, ![32768, 2048]⟩ : Shape).Idx → Ideal .bf16) (B : (⟨2, ![7296, 2048]⟩ : Shape).Idx → Ideal .bf16)
    (hA : m ((c : Thread nD τ).loc main_arg0) = Layout.block ⟨2, ![4096, 2048]⟩ ⟨2, ![32768, 2048]⟩ 0 8 c A)
    (hB : m ((c : Thread nD τ).loc main_arg1) = B) :
    prod m c = Layout.block ⟨2, ![4096, 7168]⟩ ⟨2, ![32768, 7168]⟩ 0 8 c (wholeProd A B) := by
  funext (i : (⟨2, ![4096, 7168]⟩ : Shape).Idx)
  have hc : c.val < 8 := c.isLt
  have i0 : (i 0).val < 4096 := (i 0).isLt
  have hi : (show Layout.Tiles ⟨2, ![4096, 7168]⟩ ⟨2, ![32768, 7168]⟩ 0 8 by decide).idx c i = ix2 ⟨c.val * 4096 + (i 0).val, by omega⟩ (i 1) :=
    funext fun x => Fin.ext (by match x with | ⟨0, _⟩ => rfl | ⟨1, _⟩ => rfl)
  rw [Layout.block_apply, hi]
  show _ = Host.dotGeneral (DotDims.plain 32768 2048 7168) none A (turned B) (ix2 _ _)
  refine .trans ?_ (StackMember.dotGeneral_plain_apply (m := 32768) (k := 2048) (n := 7168) none A (turned B) _ (i 1)).symm
  unfold prod entry
  rw [hA, hB]
  refine Finset.sum_congr rfl fun p _ => congrArg₂ (· * ·) (congrArg A ?_) (turned_apply B p (i 1)).symm
  exact funext fun x => Fin.ext (by match x with | ⟨0, _⟩ => rfl | ⟨1, _⟩ => rfl)

end Cert.ProjProof

end
-- ==== Proof.ProjClaims.lean ====
/-
# A layer's projection with the gather of the next layer's weights: its claims

The product is the device's rows of the reference's. Where the second part of the mask `up_to_split` is set a device's second
result lies on the row of one of its three partners, and holds that partner's block of the shards: what the reference, which
gives every device all of them, holds there.
-/
module

public import proofs.«01_k».proof.Defs
public import proofs.«01_k».proof.Proof.ProjValue
public import proofs.«01_k».proof.Proof.Gen.Proj
public import proofs.«01_k».proof.Proof.Gen.ProjReferenceIdeal.Run
public import proofs.«01_k».proof.Proof.Gen.On_up_to_split

@[expose] public section

set_option maxRecDepth 16384

noncomputable section

namespace Cert.ProjProof

open Cert.ProjIdeal Cert.ProjIdeal.Gen
open Idealize.ShloMosaic Idealize.ShloMosaic.TcCoe Idealize.SL.Sem

variable {F : FTy → Type} [FloatOps F]
variable (m : (ℓ : Loc nD τ sig) → Buf (Elt F) ℓ)

/-- The mask at a chip's place of the whole result and a core. -/
def coming (a b : ℕ) : BitVec 1 :=
  Scalar.andi (Scalar.cmpi .ne (Scalar.andi (BitVec.ofNat 32 a) 3#32) (Scalar.shrui (BitVec.ofNat 32 a) 3#32))
    (Scalar.cmpi .eq (Scalar.andi (Scalar.shrui (BitVec.ofNat 32 a) 2#32) 1#32) (BitVec.ofNat 32 b))

/-- The mask at a row. -/
def before (r : ℕ) : BitVec 1 := Scalar.cmpi .slt (BitVec.ofNat 32 r) 464#32

theorem mask_at (A : FVec F (⟨2, ![32768, 2048]⟩ : Shape) .bf16) (B : FVec F (⟨2, ![7296, 2048]⟩ : Shape) .bf16) (H : FVec F (⟨4, ![4, 2, 1168, 2048]⟩ : Shape) .bf16)
    (i : (⟨4, ![32, 2, 1168, 2048]⟩ : Shape).Idx) :
    (Cert.On_up_to_split.fn A B H).2 i = Scalar.andi (coming (i 0).val (i 1).val) (before (i 2).val) := rfl

theorem both : ∀ a b : BitVec 1, Scalar.andi a b = 1#1 → a = 1#1 ∧ b = 1#1 := by decide
theorem before_split : ∀ r : Fin 1168, before r.val = 1#1 → r.val < 464 := by decide +kernel

/-- Where the mask is set some partner's row is. -/
theorem coming_from : ∀ (c : Fin 8) (a : Fin 4) (b : Fin 2), coming (c.val * 4 + a.val) b.val = 1#1 →
    ∃ j : Fin 3, a.val = (peer j c).val / 2 ∧ b.val = (peer j c).val % 2 := by decide +kernel

theorem mesh_0 : ∀ c : Fin 8, ((Layout.meshBlock [2, 2, 2] ![[0, 1], [], [], []] c) 0).val = c.val / 2 := by decide +kernel
theorem mesh_1 : ∀ c : Fin 8, ((Layout.meshBlock [2, 2, 2] ![[0, 1], [], [], []] c) 1).val = 0 := by decide +kernel
theorem mesh_2 : ∀ c : Fin 8, ((Layout.meshBlock [2, 2, 2] ![[0, 1], [], [], []] c) 2).val = 0 := by decide +kernel
theorem mesh_3 : ∀ c : Fin 8, ((Layout.meshBlock [2, 2, 2] ![[0, 1], [], [], []] c) 3).val = 0 := by decide +kernel

/-- What a device sends is the shards at the row it goes to. -/
theorem sent_eq (A : (⟨4, ![4, 2, 1168, 2048]⟩ : Shape).Idx → Elt F .bf16) (c : Dev nD) (x : S1x1x464x2048.Idx) :
    (sRow c).view.read (Elt F) (Layout.blockN ⟨4, ![1, 2, 1168, 2048]⟩ ⟨4, ![4, 2, 1168, 2048]⟩ (Layout.meshBlock [2, 2, 2] ![[0, 1], [], [], []] c) A) x
      = A ((tRow c).view.emb x) := by
  have hc : c.val < 8 := c.isLt
  have x0 : (x 0).val < 1 := (x 0).isLt
  have hc0 := mesh_0 c; have hc1 := mesh_1 c; have hc2 := mesh_2 c; have hc3 := mesh_3 c
  have e := k0_off1_eq c
  have e' := k0_off2_eq c
  rw [View.read_apply, Layout.blockN_apply]
  refine congrArg A (funext fun a => Fin.ext ?_)
  rw [Layout.TilesN.idx_val]
  match a with
  | ⟨0, _⟩ =>
    show _ * 1 + (k0_off2 c 0 + 1 * (x 0).val) = k0_off1 c 0 + 1 * (x 0).val
    rw [e, e']
    refine (congrArg (· * 1 + _) hc0).trans ?_
    show c.val / 2 * 1 + (0 + 1 * (x 0).val) = 2 * (c.val / 4) + ((c.val / 2) % 2) + 1 * (x 0).val
    omega
  | ⟨1, _⟩ =>
    show _ * 2 + (k0_off2 c 1 + 1 * (x 1).val) = k0_off1 c 1 + 1 * (x 1).val
    rw [e, e']
    refine (congrArg (· * 2 + _) hc1).trans ?_
    show 0 * 2 + (c.val % 2 + 1 * (x 1).val) = c.val % 2 + 1 * (x 1).val
    omega
  | ⟨2, _⟩ =>
    show _ * 1168 + (k0_off2 c 2 + 1 * (x 2).val) = k0_off1 c 2 + 1 * (x 2).val
    rw [e, e']
    refine (congrArg (· * 1168 + _) hc2).trans ?_
    show 0 * 1168 + (0 + 1 * (x 2).val) = 0 + 1 * (x 2).val
    omega
  | ⟨3, _⟩ =>
    show _ * 2048 + (k0_off2 c 3 + 1 * (x 3).val) = k0_off1 c 3 + 1 * (x 3).val
    rw [e, e']
    refine (congrArg (· * 2048 + _) hc3).trans ?_
    show 0 * 2048 + (0 + 1 * (x 3).val) = 0 + 1 * (x 3).val
    omega

/-- All shards on every device: the reference's result. -/
def whole (A : (⟨4, ![4, 2, 1168, 2048]⟩ : Shape).Idx → Elt F .bf16) : (⟨4, ![32, 2, 1168, 2048]⟩ : Shape).Idx → Elt F .bf16 :=
  concatenate ⟨4, ![32, 2, 1168, 2048]⟩ 0 (List.ofFn fun _ : Fin 8 => ⟨⟨4, ![4, 2, 1168, 2048]⟩, A⟩)
    Cert.ProjReferenceIdeal.Gen.concatenates_S4x2x1168x2048_S4x2x1168x2048_S4x2x1168x2048_S4x2x1168x2048_S4x2x1168x2048_S4x2x1168x2048_S4x2x1168x2048_S4x2x1168x2048_S32x2x1168x2048_d0

theorem whole_part (A : (⟨4, ![4, 2, 1168, 2048]⟩ : Shape).Idx → Elt F .bf16) (c : Fin 8) :
    Layout.block ⟨4, ![4, 2, 1168, 2048]⟩ ⟨4, ![32, 2, 1168, 2048]⟩ 0 8 c (whole A) = A :=
  Layout.block_concatenate_ofFn (t := ⟨4, ![32, 2, 1168, 2048]⟩) 0 (fun _ => A) _ (by decide) c

/-- A device's second result where the mask is set. -/
theorem gathered (A : (⟨4, ![4, 2, 1168, 2048]⟩ : Shape).Idx → Elt F .bf16)
    (hA : ∀ c : Dev nD, m ((c : Thread nD τ).loc main_arg2)
      = Layout.blockN ⟨4, ![1, 2, 1168, 2048]⟩ ⟨4, ![4, 2, 1168, 2048]⟩ (Layout.meshBlock [2, 2, 2] ![[0, 1], [], [], []] c) A)
    (c : Dev nD) (s : MemSt nD τ sig (Elt F)) (hs : rest m c s) (A₀ : FVec F (⟨2, ![32768, 2048]⟩ : Shape) .bf16) (B₀ : FVec F (⟨2, ![7296, 2048]⟩ : Shape) .bf16) (i : S4x2x1168x2048.Idx)
    (hi : (Layout.block ⟨4, ![4, 2, 1168, 2048]⟩ ⟨4, ![32, 2, 1168, 2048]⟩ 0 8 c (Cert.On_up_to_split.fn A₀ B₀ A).2 : (⟨4, ![4, 2, 1168, 2048]⟩ : Shape).Idx → _) i = 1#1) :
    s.mem ((c : Thread nD τ).loc main_v1_1) i = (Layout.block ⟨4, ![4, 2, 1168, 2048]⟩ ⟨4, ![32, 2, 1168, 2048]⟩ 0 8 c (whole A) : (⟨4, ![4, 2, 1168, 2048]⟩ : Shape).Idx → _) i := by
  rw [Layout.block_apply, mask_at] at hi
  obtain ⟨hfrom, hbefore⟩ := both _ _ hi
  obtain ⟨j, h0, h1⟩ := coming_from c ⟨(i 0).val, (i 0).isLt⟩ ⟨(i 1).val, (i 1).isLt⟩ hfrom
  have h2 : (i 2).val < 464 := before_split ⟨(i 2).val, (i 2).isLt⟩ hbefore
  have hr := (mem_tRow (peer j c) i).mpr ⟨h0, h1, h2⟩
  refine (hs.2 j i hr).trans ?_
  rw [whole_part]
  obtain ⟨x, -, rfl⟩ := Finset.mem_map.mp hr
  unfold got
  rw [View.write_emb_of_mem _ _ (Finset.mem_univ x), hA (peer j c), sent_eq A (peer j c) x]
  rfl

theorem kept (c : Dev nD) (s : MemSt nD τ sig (Elt F))
    (h : (∀ w, s.mem ((cfg0.win w).arr.view.loc (c : Thread nD τ)) = (dats m 0 c).arrAt w cfg0.N) ∧ rest m c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2) :=
  ⟨(h.1 0).trans ((dats m 0 c).arrAt_in 0 rfl _), (h.1 1).trans ((dats m 0 c).arrAt_in 1 rfl _), h.2.1⟩

/-- The two programs' body tables agree. -/
theorem bodies : @Cert.Proj.defs₀ F _ _ = @Cert.ProjIdeal.defs₀ F _ _ := by
  funext p ℓ a
  match p, ℓ, a with
  | .tc, ⟨0, _⟩, ⟨_, _⟩ => rfl
  | .scScalar _, ⟨0, _⟩, _ => rfl
  | .scVector _ _, ⟨0, _⟩, _ => rfl

theorem tables : @Cert.Proj.defs F _ _ = @Cert.ProjIdeal.defs F _ _ :=
  congrArg (Pipeline.defs Cert.ProjIdeal.pcfgs) bodies

theorem quiescent : Cert.quiescent_Proj := fun m ρ _ => by
  rw [tables]
  exact (θ_run Cert.ProjIdeal.defs _ _).mono (fun r h => ⟨fun c => kept m c r.2 (h.1 c), h.2⟩) (run_main (F := Bits) m ρ)
theorem quiescent_ideal : Cert.quiescent_ProjIdeal := fun m ρ _ =>
  (θ_run Cert.ProjIdeal.defs _ _).mono (fun r h => ⟨fun c => kept m c r.2 (h.1 c), h.2⟩) (run_main (F := Ideal) m ρ)
theorem quiescent_ref : Cert.quiescent_ProjReferenceIdeal := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)
theorem preserved : Cert.preserves_Proj_ProjIdeal := trivial

theorem algebraic : Cert.algebraic_ProjIdeal_ProjReferenceIdeal_on_up_to_split := fun m g m' g' _ hm =>
  ⟨wholeProd (m' (((0 : Dev 1) : Thread 1 Cert.ProjReferenceIdeal.τ).loc Cert.ProjReferenceIdeal.main_arg0))
      (m' (((0 : Dev 1) : Thread 1 Cert.ProjReferenceIdeal.τ).loc Cert.ProjReferenceIdeal.main_arg1)),
    whole (F := Ideal) (m' (((0 : Dev 1) : Thread 1 Cert.ProjReferenceIdeal.τ).loc Cert.ProjReferenceIdeal.main_arg2)),
    (θ_run Cert.ProjIdeal.defs _ _).mono (fun r h c =>
      ⟨fun i _ => congrFun (((h.1 c).1 2).trans ((final_eq m c).trans (prod_eq m c _ _ (hm c).1 (hm c).2.1))) i,
        fun i hi => gathered m _ (fun d => (hm d).2.2) c r.2 (h.1 c).2 _ _ i hi, kept m c r.2 (h.1 c)⟩) (run_main (F := Ideal) m g),
    (θ_run Cert.ProjReferenceIdeal.defs _ _).mono (fun _ h => ⟨fun i _ => congrFun (h 0).1 i, fun i _ => congrFun (h 0).2.1 i, (h 0).2.2⟩)
      (Cert.ProjReferenceIdeal.Value.run (F := Ideal) m' g')⟩

end Cert.ProjProof

end
-- ==== Proof.lean ====
/- The certificate's claims, put together from the modules that prove them: the frames, the value claims over the
   reals and the bit-exact ones. -/
module

public import proofs.«01_k».proof.Proof.Gen.Kernel.Skeleton
public import proofs.«01_k».proof.Proof.Gen.Kernel.Frame
public import proofs.«01_k».proof.Proof.Gen.Swap.Skeleton
public import proofs.«01_k».proof.Proof.Gen.Swap.Frame
public import proofs.«01_k».proof.Proof.Gen.SwapIdeal.Frame
public import proofs.«01_k».proof.Proof.KernelClaims
public import proofs.«01_k».proof.Proof.SwapClaims
public import proofs.«01_k».proof.Proof.LnClaims
public import proofs.«01_k».proof.Proof.AttnClaims
public import proofs.«01_k».proof.Proof.Gen.LnSwap.Skeleton
public import proofs.«01_k».proof.Proof.Gen.LnSwap.Frame
public import proofs.«01_k».proof.Proof.Gen.Attn.Skeleton
public import proofs.«01_k».proof.Proof.Gen.Attn.Frame
public import proofs.«01_k».proof.Proof.StepClaims
public import proofs.«01_k».proof.Proof.GatherClaims
public import proofs.«01_k».proof.Proof.SumsClaims
public import proofs.«01_k».proof.Proof.LossClaims
public import proofs.«01_k».proof.Proof.WOutClaims
public import proofs.«01_k».proof.Proof.WGateClaims
public import proofs.«01_k».proof.Proof.WMainClaims
public import proofs.«01_k».proof.Proof.OutLnClaims
public import proofs.«01_k».proof.Proof.ProjGateClaims
public import proofs.«01_k».proof.Proof.OutGradClaims
public import proofs.«01_k».proof.Proof.ProjLastClaims
public import proofs.«01_k».proof.Proof.InGradClaims
public import proofs.«01_k».proof.Proof.ProjClaims
public import proofs.«01_k».proof.Proof.Gen.Gather.Skeleton
public import proofs.«01_k».proof.Proof.Gen.Gather.Launch
public import proofs.«01_k».proof.Proof.Gen.Gather.Points
public import proofs.«01_k».proof.Proof.Gen.Proj.Skeleton
public import proofs.«01_k».proof.Proof.Gen.Proj.Launch
public import proofs.«01_k».proof.Proof.Gen.Proj.Points

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.LnSwap.Gen.facts, Cert.LnSwapIdeal.Gen.facts, Cert.LnReferenceIdeal.Gen.facts,
    Cert.Attn.Gen.facts, Cert.AttnIdeal.Gen.facts, Cert.AttnReferenceIdeal.Gen.facts,
    Cert.Swap.Gen.facts, Cert.SwapIdeal.Gen.facts, Cert.SwapReferenceIdeal.Gen.facts, Cert.SwapReference.Gen.facts,
    Cert.StepIn.Gen.facts, Cert.StepInIdeal.Gen.facts, Cert.StepInReferenceIdeal.Gen.facts,
    Cert.StepOut.Gen.facts, Cert.StepOutIdeal.Gen.facts, Cert.StepOutReferenceIdeal.Gen.facts,
    Cert.StepSmall.Gen.facts, Cert.StepSmallIdeal.Gen.facts, Cert.StepSmallReferenceIdeal.Gen.facts,
    Cert.Gather.Gen.facts, Cert.GatherIdeal.Gen.facts, Cert.GatherReferenceIdeal.Gen.facts, Cert.GatherReference.Gen.facts,
    Cert.Proj.Gen.facts, Cert.ProjIdeal.Gen.facts, Cert.ProjReferenceIdeal.Gen.facts,
    Cert.Loss.Gen.facts, Cert.LossIdeal.Gen.facts, Cert.LossReferenceIdeal.Gen.facts,
    Cert.Sums.Gen.facts, Cert.SumsIdeal.Gen.facts, Cert.SumsReferenceIdeal.Gen.facts,
    Cert.WOut.Gen.facts, Cert.WOutIdeal.Gen.facts, Cert.WOutReferenceIdeal.Gen.facts,
    Cert.WGate.Gen.facts, Cert.WGateIdeal.Gen.facts, Cert.WGateReferenceIdeal.Gen.facts,
    Cert.WMain.Gen.facts, Cert.WMainIdeal.Gen.facts, Cert.WMainReferenceIdeal.Gen.facts,
    Cert.OutLn.Gen.facts, Cert.OutLnIdeal.Gen.facts, Cert.OutLnReferenceIdeal.Gen.facts,
    Cert.ProjGate.Gen.facts, Cert.ProjGateIdeal.Gen.facts, Cert.ProjGateReferenceIdeal.Gen.facts,
    Cert.OutGrad.Gen.facts, Cert.OutGradIdeal.Gen.facts, Cert.OutGradReferenceIdeal.Gen.facts,
    Cert.ProjLast.Gen.facts, Cert.ProjLastIdeal.Gen.facts, Cert.ProjLastReferenceIdeal.Gen.facts,
    Cert.InGrad.Gen.facts, Cert.InGradIdeal.Gen.facts, Cert.InGradReferenceIdeal.Gen.facts,
    Cert.On_from_others.Gen.facts, Cert.On_up_to_split.Gen.facts,
    Cert.KernelProof.quiescent, Cert.KernelProof.quiescent_ideal, Cert.KernelProof.quiescent_ref,
    Cert.LnProof.quiescent, Cert.LnProof.quiescent_ideal, Cert.LnProof.quiescent_ref,
    Cert.AttnProof.quiescent, Cert.AttnProof.quiescent_ideal, Cert.AttnProof.quiescent_ref,
    Cert.SwapProof.quiescent, Cert.SwapProof.quiescent_ideal, Cert.SwapProof.quiescent_refIdeal, Cert.SwapProof.quiescent_ref,
    Cert.StepProof.In.quiescent, Cert.StepProof.In.quiescent_ideal, Cert.StepProof.In.quiescent_ref,
    Cert.StepProof.Out.quiescent, Cert.StepProof.Out.quiescent_ideal, Cert.StepProof.Out.quiescent_ref,
    Cert.StepProof.Small.quiescent, Cert.StepProof.Small.quiescent_ideal, Cert.StepProof.Small.quiescent_ref,
    Cert.GatherProof.quiescent, Cert.GatherProof.quiescent_ideal, Cert.GatherProof.quiescent_refIdeal, Cert.GatherProof.quiescent_ref,
    Cert.ProjProof.quiescent, Cert.ProjProof.quiescent_ideal, Cert.ProjProof.quiescent_ref,
    Cert.LossProof.quiescent, Cert.LossProof.quiescent_ideal, Cert.LossProof.quiescent_ref,
    Cert.SumsProof.quiescent, Cert.SumsProof.quiescent_ideal, Cert.SumsProof.quiescent_ref,
    Cert.WOutProof.quiescent, Cert.WOutProof.quiescent_ideal, Cert.WOutProof.quiescent_ref,
    Cert.WGateProof.quiescent, Cert.WGateProof.quiescent_ideal, Cert.WGateProof.quiescent_ref,
    Cert.WMainProof.quiescent, Cert.WMainProof.quiescent_ideal, Cert.WMainProof.quiescent_ref,
    Cert.OutLnProof.quiescent, Cert.OutLnProof.quiescent_ideal, Cert.OutLnProof.quiescent_ref,
    Cert.ProjGateProof.quiescent, Cert.ProjGateProof.quiescent_ideal, Cert.ProjGateProof.quiescent_ref,
    Cert.OutGradProof.quiescent, Cert.OutGradProof.quiescent_ideal, Cert.OutGradProof.quiescent_ref,
    Cert.ProjLastProof.quiescent, Cert.ProjLastProof.quiescent_ideal, Cert.ProjLastProof.quiescent_ref,
    Cert.InGradProof.quiescent, Cert.InGradProof.quiescent_ideal, Cert.InGradProof.quiescent_ref,
    Cert.KernelProof.preserved, Cert.KernelProof.algebraic, Cert.LnProof.preserved, Cert.LnProof.algebraic,
    Cert.AttnProof.preserved, Cert.AttnProof.algebraic,
    Cert.SwapProof.preserved, Cert.SwapProof.algebraic, Cert.SwapProof.bitexact,
    Cert.StepProof.In.preserved, Cert.StepProof.In.algebraic,
    Cert.StepProof.Out.preserved, Cert.StepProof.Out.algebraic,
    Cert.StepProof.Small.preserved, Cert.StepProof.Small.algebraic,
    Cert.GatherProof.preserved, Cert.GatherProof.algebraic, Cert.GatherProof.bitexact,
    Cert.ProjProof.preserved, Cert.ProjProof.algebraic,
    Cert.LossProof.preserved, Cert.LossProof.algebraic,
    Cert.SumsProof.preserved, Cert.SumsProof.algebraic,
    Cert.WOutProof.preserved, Cert.WOutProof.algebraic,
    Cert.WGateProof.preserved, Cert.WGateProof.algebraic,
    Cert.WMainProof.preserved, Cert.WMainProof.algebraic,
    Cert.OutLnProof.preserved, Cert.OutLnProof.algebraic,
    Cert.ProjGateProof.preserved, Cert.ProjGateProof.algebraic,
    Cert.OutGradProof.preserved, Cert.OutGradProof.algebraic,
    Cert.ProjLastProof.preserved, Cert.ProjLastProof.algebraic,
    Cert.InGradProof.preserved, Cert.InGradProof.algebraic⟩

end Cert.Proof

end
